-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5)
      ∧ r.2.mem ((c.tc : Thread Cert.Kernel38.nD Cert.Kernel38.τ).loc Cert.Kernel38.main_arg6) = m ((c.tc : Thread Cert.Kernel38.nD Cert.Kernel38.τ).loc Cert.Kernel38.main_arg6)
      ∧ r.2.mem ((c.tc : Thread Cert.Kernel38.nD Cert.Kernel38.τ).loc Cert.Kernel38.main_arg7) = m ((c.tc : Thread Cert.Kernel38.nD Cert.Kernel38.τ).loc Cert.Kernel38.main_arg7)
      ∧ r.2.mem ((c.tc : Thread Cert.Kernel38.nD Cert.Kernel38.τ).loc Cert.Kernel38.main_arg8) = m ((c.tc : Thread Cert.Kernel38.nD Cert.Kernel38.τ).loc Cert.Kernel38.main_arg8)
      ∧ r.2.mem ((c.tc : Thread Cert.Kernel38.nD Cert.Kernel38.τ).loc Cert.Kernel38.main_arg9) = m ((c.tc : Thread Cert.Kernel38.nD Cert.Kernel38.τ).loc Cert.Kernel38.main_arg9)
      ∧ r.2.mem ((c.tc : Thread Cert.Kernel38.nD Cert.Kernel38.τ).loc Cert.Kernel38.main_arg10) = m ((c.tc : Thread Cert.Kernel38.nD Cert.Kernel38.τ).loc Cert.Kernel38.main_arg10)
      ∧ r.2.mem ((c.tc : Thread Cert.Kernel38.nD Cert.Kernel38.τ).loc Cert.Kernel38.main_arg11) = m ((c.tc : Thread Cert.Kernel38.nD Cert.Kernel38.τ).loc Cert.Kernel38.main_arg11)
      ∧ r.2.mem ((c.tc : Thread Cert.Kernel38.nD Cert.Kernel38.τ).loc Cert.Kernel38.main_arg12) = m ((c.tc : Thread Cert.Kernel38.nD Cert.Kernel38.τ).loc Cert.Kernel38.main_arg12)
      ∧ r.2.mem ((c.tc : Thread Cert.Kernel38.nD Cert.Kernel38.τ).loc Cert.Kernel38.main_arg13) = m ((c.tc : Thread Cert.Kernel38.nD Cert.Kernel38.τ).loc Cert.Kernel38.main_arg13)
      ∧ r.2.mem ((c.tc : Thread Cert.Kernel38.nD Cert.Kernel38.τ).loc Cert.Kernel38.main_arg14) = m ((c.tc : Thread Cert.Kernel38.nD Cert.Kernel38.τ).loc Cert.Kernel38.main_arg14)
      ∧ r.2.mem ((c.tc : Thread Cert.Kernel38.nD Cert.Kernel38.τ).loc Cert.Kernel38.main_arg15) = m ((c.tc : Thread Cert.Kernel38.nD Cert.Kernel38.τ).loc Cert.Kernel38.main_arg15)
      ∧ r.2.mem ((c.tc : Thread Cert.Kernel38.nD Cert.Kernel38.τ).loc Cert.Kernel38.main_arg16) = m ((c.tc : Thread Cert.Kernel38.nD Cert.Kernel38.τ).loc Cert.Kernel38.main_arg16)
      ∧ r.2.mem ((c.tc : Thread Cert.Kernel38.nD Cert.Kernel38.τ).loc Cert.Kernel38.main_arg17) = m ((c.tc : Thread Cert.Kernel38.nD Cert.Kernel38.τ).loc Cert.Kernel38.main_arg17)
      ∧ r.2.mem ((c.tc : Thread Cert.Kernel38.nD Cert.Kernel38.τ).loc Cert.Kernel38.main_arg18) = m ((c.tc : Thread Cert.Kernel38.nD Cert.Kernel38.τ).loc Cert.Kernel38.main_arg18)
      ∧ r.2.mem ((c.tc : Thread Cert.Kernel38.nD Cert.Kernel38.τ).loc Cert.Kernel38.main_arg19) = m ((c.tc : Thread Cert.Kernel38.nD Cert.Kernel38.τ).loc Cert.Kernel38.main_arg19)
      ∧ r.2.mem ((c.tc : Thread Cert.Kernel38.nD Cert.Kernel38.τ).loc Cert.Kernel38.main_arg20) = m ((c.tc : Thread Cert.Kernel38.nD Cert.Kernel38.τ).loc Cert.Kernel38.main_arg20)
      ∧ r.2.mem ((c.tc : Thread Cert.Kernel38.nD Cert.Kernel38.τ).loc Cert.Kernel38.main_arg21) = m ((c.tc : Thread Cert.Kernel38.nD Cert.Kernel38.τ).loc Cert.Kernel38.main_arg21)
      ∧ r.2.mem ((c.tc : Thread Cert.Kernel38.nD Cert.Kernel38.τ).loc Cert.Kernel38.main_arg22) = m ((c.tc : Thread Cert.Kernel38.nD Cert.Kernel38.τ).loc Cert.Kernel38.main_arg22)
      ∧ r.2.mem ((c.tc : Thread Cert.Kernel38.nD Cert.Kernel38.τ).loc Cert.Kernel38.main_arg23) = m ((c.tc : Thread Cert.Kernel38.nD Cert.Kernel38.τ).loc Cert.Kernel38.main_arg23)
      ∧ r.2.mem ((c.tc : Thread Cert.Kernel38.nD Cert.Kernel38.τ).loc Cert.Kernel38.main_arg24) = m ((c.tc : Thread Cert.Kernel38.nD Cert.Kernel38.τ).loc Cert.Kernel38.main_arg24)
      ∧ r.2.mem ((c.tc : Thread Cert.Kernel38.nD Cert.Kernel38.τ).loc Cert.Kernel38.main_arg25) = m ((c.tc : Thread Cert.Kernel38.nD Cert.Kernel38.τ).loc Cert.Kernel38.main_arg25)
      ∧ r.2.mem ((c.tc : Thread Cert.Kernel38.nD Cert.Kernel38.τ).loc Cert.Kernel38.main_arg26) = m ((c.tc : Thread Cert.Kernel38.nD Cert.Kernel38.τ).loc Cert.Kernel38.main_arg26)
      ∧ r.2.mem ((c.tc : Thread Cert.Kernel38.nD Cert.Kernel38.τ).loc Cert.Kernel38.main_arg27) = m ((c.tc : Thread Cert.Kernel38.nD Cert.Kernel38.τ).loc Cert.Kernel38.main_arg27)
      ∧ r.2.mem ((c.tc : Thread Cert.Kernel38.nD Cert.Kernel38.τ).loc Cert.Kernel38.main_arg28) = m ((c.tc : Thread Cert.Kernel38.nD Cert.Kernel38.τ).loc Cert.Kernel38.main_arg28)
      ∧ r.2.mem ((c.tc : Thread Cert.Kernel38.nD Cert.Kernel38.τ).loc Cert.Kernel38.main_arg29) = m ((c.tc : Thread Cert.Kernel38.nD Cert.Kernel38.τ).loc Cert.Kernel38.main_arg29)
      ∧ r.2.mem ((c.tc : Thread Cert.Kernel38.nD Cert.Kernel38.τ).loc Cert.Kernel38.main_arg30) = m ((c.tc : Thread Cert.Kernel38.nD Cert.Kernel38.τ).loc Cert.Kernel38.main_arg30)
      ∧ r.2.mem ((c.tc : Thread Cert.Kernel38.nD Cert.Kernel38.τ).loc Cert.Kernel38.main_arg31) = m ((c.tc : Thread Cert.Kernel38.nD Cert.Kernel38.τ).loc Cert.Kernel38.main_arg31)
      ∧ r.2.mem ((c.tc : Thread Cert.Kernel38.nD Cert.Kernel38.τ).loc Cert.Kernel38.main_arg32) = m ((c.tc : Thread Cert.Kernel38.nD Cert.Kernel38.τ).loc Cert.Kernel38.main_arg32)
      ∧ r.2.mem ((c.tc : Thread Cert.Kernel38.nD Cert.Kernel38.τ).loc Cert.Kernel38.main_arg33) = m ((c.tc : Thread Cert.Kernel38.nD Cert.Kernel38.τ).loc Cert.Kernel38.main_arg33)
      ∧ r.2.mem ((c.tc : Thread Cert.Kernel38.nD Cert.Kernel38.τ).loc Cert.Kernel38.main_arg34) = m ((c.tc : Thread Cert.Kernel38.nD Cert.Kernel38.τ).loc Cert.Kernel38.main_arg34)
      ∧ r.2.mem ((c.tc : Thread Cert.Kernel38.nD Cert.Kernel38.τ).loc Cert.Kernel38.main_arg35) = m ((c.tc : Thread Cert.Kernel38.nD Cert.Kernel38.τ).loc Cert.Kernel38.main_arg35)
      ∧ r.2.mem ((c.tc : Thread Cert.Kernel38.nD Cert.Kernel38.τ).loc Cert.Kernel38.main_arg36) = m ((c.tc : Thread Cert.Kernel38.nD Cert.Kernel38.τ).loc Cert.Kernel38.main_arg36)
      ∧ r.2.mem ((c.tc : Thread Cert.Kernel38.nD Cert.Kernel38.τ).loc Cert.Kernel38.main_arg37) = m ((c.tc : Thread Cert.Kernel38.nD Cert.Kernel38.τ).loc Cert.Kernel38.main_arg37)
      ∧ r.2.mem ((c.tc : Thread Cert.Kernel38.nD Cert.Kernel38.τ).loc Cert.Kernel38.main_arg38) = m ((c.tc : Thread Cert.Kernel38.nD Cert.Kernel38.τ).loc Cert.Kernel38.main_arg38)
      ∧ r.2.mem ((c.tc : Thread Cert.Kernel38.nD Cert.Kernel38.τ).loc Cert.Kernel38.main_arg39) = m ((c.tc : Thread Cert.Kernel38.nD Cert.Kernel38.τ).loc Cert.Kernel38.main_arg39)
      ∧ r.2.mem ((c.tc : Thread Cert.Kernel38.nD Cert.Kernel38.τ).loc Cert.Kernel38.main_arg40) = m ((c.tc : Thread Cert.Kernel38.nD Cert.Kernel38.τ).loc Cert.Kernel38.main_arg40)
      ∧ r.2.mem ((c.tc : Thread Cert.Kernel38.nD Cert.Kernel38.τ).loc Cert.Kernel38.main_arg41) = m ((c.tc : Thread Cert.Kernel38.nD Cert.Kernel38.τ).loc Cert.Kernel38.main_arg41)
      ∧ r.2.mem ((c.tc : Thread Cert.Kernel38.nD Cert.Kernel38.τ).loc Cert.Kernel38.main_arg42) = m ((c.tc : Thread Cert.Kernel38.nD Cert.Kernel38.τ).loc Cert.Kernel38.main_arg42)
      ∧ r.2.mem ((c.tc : Thread Cert.Kernel38.nD Cert.Kernel38.τ).loc Cert.Kernel38.main_arg43) = m ((c.tc : Thread Cert.Kernel38.nD Cert.Kernel38.τ).loc Cert.Kernel38.main_arg43)
      ∧ r.2.mem ((c.tc : Thread Cert.Kernel38.nD Cert.Kernel38.τ).loc Cert.Kernel38.main_arg44) = m ((c.tc : Thread Cert.Kernel38.nD Cert.Kernel38.τ).loc Cert.Kernel38.main_arg44)
      ∧ r.2.mem ((c.tc : Thread Cert.Kernel38.nD Cert.Kernel38.τ).loc Cert.Kernel38.main_arg45) = m ((c.tc : Thread Cert.Kernel38.nD Cert.Kernel38.τ).loc Cert.Kernel38.main_arg45)
      ∧ r.2.mem ((c.tc : Thread Cert.Kernel38.nD Cert.Kernel38.τ).loc Cert.Kernel38.main_arg46) = m ((c.tc : Thread Cert.Kernel38.nD Cert.Kernel38.τ).loc Cert.Kernel38.main_arg46)
      ∧ r.2.mem ((c.tc : Thread Cert.Kernel38.nD Cert.Kernel38.τ).loc Cert.Kernel38.main_arg47) = m ((c.tc : Thread Cert.Kernel38.nD Cert.Kernel38.τ).loc Cert.Kernel38.main_arg47))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
      ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6)
      ∧ r.2.mem ((c.tc : Thread Cert.Kernel38Ideal.nD Cert.Kernel38Ideal.τ).loc Cert.Kernel38Ideal.main_arg7) = m ((c.tc : Thread Cert.Kernel38Ideal.nD Cert.Kernel38Ideal.τ).loc Cert.Kernel38Ideal.main_arg7)
      ∧ r.2.mem ((c.tc : Thread Cert.Kernel38Ideal.nD Cert.Kernel38Ideal.τ).loc Cert.Kernel38Ideal.main_arg8) = m ((c.tc : Thread Cert.Kernel38Ideal.nD Cert.Kernel38Ideal.τ).loc Cert.Kernel38Ideal.main_arg8)
      ∧ r.2.mem ((c.tc : Thread Cert.Kernel38Ideal.nD Cert.Kernel38Ideal.τ).loc Cert.Kernel38Ideal.main_arg9) = m ((c.tc : Thread Cert.Kernel38Ideal.nD Cert.Kernel38Ideal.τ).loc Cert.Kernel38Ideal.main_arg9)
      ∧ r.2.mem ((c.tc : Thread Cert.Kernel38Ideal.nD Cert.Kernel38Ideal.τ).loc Cert.Kernel38Ideal.main_arg10) = m ((c.tc : Thread Cert.Kernel38Ideal.nD Cert.Kernel38Ideal.τ).loc Cert.Kernel38Ideal.main_arg10)
      ∧ r.2.mem ((c.tc : Thread Cert.Kernel38Ideal.nD Cert.Kernel38Ideal.τ).loc Cert.Kernel38Ideal.main_arg11) = m ((c.tc : Thread Cert.Kernel38Ideal.nD Cert.Kernel38Ideal.τ).loc Cert.Kernel38Ideal.main_arg11)
      ∧ r.2.mem ((c.tc : Thread Cert.Kernel38Ideal.nD Cert.Kernel38Ideal.τ).loc Cert.Kernel38Ideal.main_arg12) = m ((c.tc : Thread Cert.Kernel38Ideal.nD Cert.Kernel38Ideal.τ).loc Cert.Kernel38Ideal.main_arg12)
      ∧ r.2.mem ((c.tc : Thread Cert.Kernel38Ideal.nD Cert.Kernel38Ideal.τ).loc Cert.Kernel38Ideal.main_arg13) = m ((c.tc : Thread Cert.Kernel38Ideal.nD Cert.Kernel38Ideal.τ).loc Cert.Kernel38Ideal.main_arg13)
      ∧ r.2.mem ((c.tc : Thread Cert.Kernel38Ideal.nD Cert.Kernel38Ideal.τ).loc Cert.Kernel38Ideal.main_arg14) = m ((c.tc : Thread Cert.Kernel38Ideal.nD Cert.Kernel38Ideal.τ).loc Cert.Kernel38Ideal.main_arg14)
      ∧ r.2.mem ((c.tc : Thread Cert.Kernel38Ideal.nD Cert.Kernel38Ideal.τ).loc Cert.Kernel38Ideal.main_arg15) = m ((c.tc : Thread Cert.Kernel38Ideal.nD Cert.Kernel38Ideal.τ).loc Cert.Kernel38Ideal.main_arg15)
      ∧ r.2.mem ((c.tc : Thread Cert.Kernel38Ideal.nD Cert.Kernel38Ideal.τ).loc Cert.Kernel38Ideal.main_arg16) = m ((c.tc : Thread Cert.Kernel38Ideal.nD Cert.Kernel38Ideal.τ).loc Cert.Kernel38Ideal.main_arg16)
      ∧ r.2.mem ((c.tc : Thread Cert.Kernel38Ideal.nD Cert.Kernel38Ideal.τ).loc Cert.Kernel38Ideal.main_arg17) = m ((c.tc : Thread Cert.Kernel38Ideal.nD Cert.Kernel38Ideal.τ).loc Cert.Kernel38Ideal.main_arg17)
      ∧ r.2.mem ((c.tc : Thread Cert.Kernel38Ideal.nD Cert.Kernel38Ideal.τ).loc Cert.Kernel38Ideal.main_arg18) = m ((c.tc : Thread Cert.Kernel38Ideal.nD Cert.Kernel38Ideal.τ).loc Cert.Kernel38Ideal.main_arg18)
      ∧ r.2.mem ((c.tc : Thread Cert.Kernel38Ideal.nD Cert.Kernel38Ideal.τ).loc Cert.Kernel38Ideal.main_arg19) = m ((c.tc : Thread Cert.Kernel38Ideal.nD Cert.Kernel38Ideal.τ).loc Cert.Kernel38Ideal.main_arg19)
      ∧ r.2.mem ((c.tc : Thread Cert.Kernel38Ideal.nD Cert.Kernel38Ideal.τ).loc Cert.Kernel38Ideal.main_arg20) = m ((c.tc : Thread Cert.Kernel38Ideal.nD Cert.Kernel38Ideal.τ).loc Cert.Kernel38Ideal.main_arg20)
      ∧ r.2.mem ((c.tc : Thread Cert.Kernel38Ideal.nD Cert.Kernel38Ideal.τ).loc Cert.Kernel38Ideal.main_arg21) = m ((c.tc : Thread Cert.Kernel38Ideal.nD Cert.Kernel38Ideal.τ).loc Cert.Kernel38Ideal.main_arg21)
      ∧ r.2.mem ((c.tc : Thread Cert.Kernel38Ideal.nD Cert.Kernel38Ideal.τ).loc Cert.Kernel38Ideal.main_arg22) = m ((c.tc : Thread Cert.Kernel38Ideal.nD Cert.Kernel38Ideal.τ).loc Cert.Kernel38Ideal.main_arg22)
      ∧ r.2.mem ((c.tc : Thread Cert.Kernel38Ideal.nD Cert.Kernel38Ideal.τ).loc Cert.Kernel38Ideal.main_arg23) = m ((c.tc : Thread Cert.Kernel38Ideal.nD Cert.Kernel38Ideal.τ).loc Cert.Kernel38Ideal.main_arg23)
      ∧ r.2.mem ((c.tc : Thread Cert.Kernel38Ideal.nD Cert.Kernel38Ideal.τ).loc Cert.Kernel38Ideal.main_arg24) = m ((c.tc : Thread Cert.Kernel38Ideal.nD Cert.Kernel38Ideal.τ).loc Cert.Kernel38Ideal.main_arg24)
      ∧ r.2.mem ((c.tc : Thread Cert.Kernel38Ideal.nD Cert.Kernel38Ideal.τ).loc Cert.Kernel38Ideal.main_arg25) = m ((c.tc : Thread Cert.Kernel38Ideal.nD Cert.Kernel38Ideal.τ).loc Cert.Kernel38Ideal.main_arg25)
      ∧ r.2.mem ((c.tc : Thread Cert.Kernel38Ideal.nD Cert.Kernel38Ideal.τ).loc Cert.Kernel38Ideal.main_arg26) = m ((c.tc : Thread Cert.Kernel38Ideal.nD Cert.Kernel38Ideal.τ).loc Cert.Kernel38Ideal.main_arg26)
      ∧ r.2.mem ((c.tc : Thread Cert.Kernel38Ideal.nD Cert.Kernel38Ideal.τ).loc Cert.Kernel38Ideal.main_arg27) = m ((c.tc : Thread Cert.Kernel38Ideal.nD Cert.Kernel38Ideal.τ).loc Cert.Kernel38Ideal.main_arg27)
      ∧ r.2.mem ((c.tc : Thread Cert.Kernel38Ideal.nD Cert.Kernel38Ideal.τ).loc Cert.Kernel38Ideal.main_arg28) = m ((c.tc : Thread Cert.Kernel38Ideal.nD Cert.Kernel38Ideal.τ).loc Cert.Kernel38Ideal.main_arg28)
      ∧ r.2.mem ((c.tc : Thread Cert.Kernel38Ideal.nD Cert.Kernel38Ideal.τ).loc Cert.Kernel38Ideal.main_arg29) = m ((c.tc : Thread Cert.Kernel38Ideal.nD Cert.Kernel38Ideal.τ).loc Cert.Kernel38Ideal.main_arg29)
      ∧ r.2.mem ((c.tc : Thread Cert.Kernel38Ideal.nD Cert.Kernel38Ideal.τ).loc Cert.Kernel38Ideal.main_arg30) = m ((c.tc : Thread Cert.Kernel38Ideal.nD Cert.Kernel38Ideal.τ).loc Cert.Kernel38Ideal.main_arg30)
      ∧ r.2.mem ((c.tc : Thread Cert.Kernel38Ideal.nD Cert.Kernel38Ideal.τ).loc Cert.Kernel38Ideal.main_arg31) = m ((c.tc : Thread Cert.Kernel38Ideal.nD Cert.Kernel38Ideal.τ).loc Cert.Kernel38Ideal.main_arg31)
      ∧ r.2.mem ((c.tc : Thread Cert.Kernel38Ideal.nD Cert.Kernel38Ideal.τ).loc Cert.Kernel38Ideal.main_arg32) = m ((c.tc : Thread Cert.Kernel38Ideal.nD Cert.Kernel38Ideal.τ).loc Cert.Kernel38Ideal.main_arg32)
      ∧ r.2.mem ((c.tc : Thread Cert.Kernel38Ideal.nD Cert.Kernel38Ideal.τ).loc Cert.Kernel38Ideal.main_arg33) = m ((c.tc : Thread Cert.Kernel38Ideal.nD Cert.Kernel38Ideal.τ).loc Cert.Kernel38Ideal.main_arg33)
      ∧ r.2.mem ((c.tc : Thread Cert.Kernel38Ideal.nD Cert.Kernel38Ideal.τ).loc Cert.Kernel38Ideal.main_arg34) = m ((c.tc : Thread Cert.Kernel38Ideal.nD Cert.Kernel38Ideal.τ).loc Cert.Kernel38Ideal.main_arg34)
      ∧ r.2.mem ((c.tc : Thread Cert.Kernel38Ideal.nD Cert.Kernel38Ideal.τ).loc Cert.Kernel38Ideal.main_arg35) = m ((c.tc : Thread Cert.Kernel38Ideal.nD Cert.Kernel38Ideal.τ).loc Cert.Kernel38Ideal.main_arg35)
      ∧ r.2.mem ((c.tc : Thread Cert.Kernel38Ideal.nD Cert.Kernel38Ideal.τ).loc Cert.Kernel38Ideal.main_arg36) = m ((c.tc : Thread Cert.Kernel38Ideal.nD Cert.Kernel38Ideal.τ).loc Cert.Kernel38Ideal.main_arg36)
      ∧ r.2.mem ((c.tc : Thread Cert.Kernel38Ideal.nD Cert.Kernel38Ideal.τ).loc Cert.Kernel38Ideal.main_arg37) = m ((c.tc : Thread Cert.Kernel38Ideal.nD Cert.Kernel38Ideal.τ).loc Cert.Kernel38Ideal.main_arg37)
      ∧ r.2.mem ((c.tc : Thread Cert.Kernel38Ideal.nD Cert.Kernel38Ideal.τ).loc Cert.Kernel38Ideal.main_arg38) = m ((c.tc : Thread Cert.Kernel38Ideal.nD Cert.Kernel38Ideal.τ).loc Cert.Kernel38Ideal.main_arg38)
      ∧ r.2.mem ((c.tc : Thread Cert.Kernel38Ideal.nD Cert.Kernel38Ideal.τ).loc Cert.Kernel38Ideal.main_arg39) = m ((c.tc : Thread Cert.Kernel38Ideal.nD Cert.Kernel38Ideal.τ).loc Cert.Kernel38Ideal.main_arg39)
      ∧ r.2.mem ((c.tc : Thread Cert.Kernel38Ideal.nD Cert.Kernel38Ideal.τ).loc Cert.Kernel38Ideal.main_arg40) = m ((c.tc : Thread Cert.Kernel38Ideal.nD Cert.Kernel38Ideal.τ).loc Cert.Kernel38Ideal.main_arg40)
      ∧ r.2.mem ((c.tc : Thread Cert.Kernel38Ideal.nD Cert.Kernel38Ideal.τ).loc Cert.Kernel38Ideal.main_arg41) = m ((c.tc : Thread Cert.Kernel38Ideal.nD Cert.Kernel38Ideal.τ).loc Cert.Kernel38Ideal.main_arg41)
      ∧ r.2.mem ((c.tc : Thread Cert.Kernel38Ideal.nD Cert.Kernel38Ideal.τ).loc Cert.Kernel38Ideal.main_arg42) = m ((c.tc : Thread Cert.Kernel38Ideal.nD Cert.Kernel38Ideal.τ).loc Cert.Kernel38Ideal.main_arg42)
      ∧ r.2.mem ((c.tc : Thread Cert.Kernel38Ideal.nD Cert.Kernel38Ideal.τ).loc Cert.Kernel38Ideal.main_arg43) = m ((c.tc : Thread Cert.Kernel38Ideal.nD Cert.Kernel38Ideal.τ).loc Cert.Kernel38Ideal.main_arg43)
      ∧ r.2.mem ((c.tc : Thread Cert.Kernel38Ideal.nD Cert.Kernel38Ideal.τ).loc Cert.Kernel38Ideal.main_arg44) = m ((c.tc : Thread Cert.Kernel38Ideal.nD Cert.Kernel38Ideal.τ).loc Cert.Kernel38Ideal.main_arg44)
      ∧ r.2.mem ((c.tc : Thread Cert.Kernel38Ideal.nD Cert.Kernel38Ideal.τ).loc Cert.Kernel38Ideal.main_arg45) = m ((c.tc : Thread Cert.Kernel38Ideal.nD Cert.Kernel38Ideal.τ).loc Cert.Kernel38Ideal.main_arg45)
      ∧ r.2.mem ((c.tc : Thread Cert.Kernel38Ideal.nD Cert.Kernel38Ideal.τ).loc Cert.Kernel38Ideal.main_arg46) = m ((c.tc : Thread Cert.Kernel38Ideal.nD Cert.Kernel38Ideal.τ).loc Cert.Kernel38Ideal.main_arg46)
      ∧ r.2.mem ((c.tc : Thread Cert.Kernel38Ideal.nD Cert.Kernel38Ideal.τ).loc Cert.Kernel38Ideal.main_arg47) = m ((c.tc : Thread Cert.Kernel38Ideal.nD Cert.Kernel38Ideal.τ).loc Cert.Kernel38Ideal.main_arg47))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5)
      ∧ r.2.mem ((c.tc : Thread Cert.Reference38Ideal.nD Cert.Reference38Ideal.τ).loc Cert.Reference38Ideal.main_arg6) = m ((c.tc : Thread Cert.Reference38Ideal.nD Cert.Reference38Ideal.τ).loc Cert.Reference38Ideal.main_arg6)
      ∧ r.2.mem ((c.tc : Thread Cert.Reference38Ideal.nD Cert.Reference38Ideal.τ).loc Cert.Reference38Ideal.main_arg7) = m ((c.tc : Thread Cert.Reference38Ideal.nD Cert.Reference38Ideal.τ).loc Cert.Reference38Ideal.main_arg7)
      ∧ r.2.mem ((c.tc : Thread Cert.Reference38Ideal.nD Cert.Reference38Ideal.τ).loc Cert.Reference38Ideal.main_arg8) = m ((c.tc : Thread Cert.Reference38Ideal.nD Cert.Reference38Ideal.τ).loc Cert.Reference38Ideal.main_arg8)
      ∧ r.2.mem ((c.tc : Thread Cert.Reference38Ideal.nD Cert.Reference38Ideal.τ).loc Cert.Reference38Ideal.main_arg9) = m ((c.tc : Thread Cert.Reference38Ideal.nD Cert.Reference38Ideal.τ).loc Cert.Reference38Ideal.main_arg9)
      ∧ r.2.mem ((c.tc : Thread Cert.Reference38Ideal.nD Cert.Reference38Ideal.τ).loc Cert.Reference38Ideal.main_arg10) = m ((c.tc : Thread Cert.Reference38Ideal.nD Cert.Reference38Ideal.τ).loc Cert.Reference38Ideal.main_arg10)
      ∧ r.2.mem ((c.tc : Thread Cert.Reference38Ideal.nD Cert.Reference38Ideal.τ).loc Cert.Reference38Ideal.main_arg11) = m ((c.tc : Thread Cert.Reference38Ideal.nD Cert.Reference38Ideal.τ).loc Cert.Reference38Ideal.main_arg11)
      ∧ r.2.mem ((c.tc : Thread Cert.Reference38Ideal.nD Cert.Reference38Ideal.τ).loc Cert.Reference38Ideal.main_arg12) = m ((c.tc : Thread Cert.Reference38Ideal.nD Cert.Reference38Ideal.τ).loc Cert.Reference38Ideal.main_arg12)
      ∧ r.2.mem ((c.tc : Thread Cert.Reference38Ideal.nD Cert.Reference38Ideal.τ).loc Cert.Reference38Ideal.main_arg13) = m ((c.tc : Thread Cert.Reference38Ideal.nD Cert.Reference38Ideal.τ).loc Cert.Reference38Ideal.main_arg13)
      ∧ r.2.mem ((c.tc : Thread Cert.Reference38Ideal.nD Cert.Reference38Ideal.τ).loc Cert.Reference38Ideal.main_arg14) = m ((c.tc : Thread Cert.Reference38Ideal.nD Cert.Reference38Ideal.τ).loc Cert.Reference38Ideal.main_arg14)
      ∧ r.2.mem ((c.tc : Thread Cert.Reference38Ideal.nD Cert.Reference38Ideal.τ).loc Cert.Reference38Ideal.main_arg15) = m ((c.tc : Thread Cert.Reference38Ideal.nD Cert.Reference38Ideal.τ).loc Cert.Reference38Ideal.main_arg15)
      ∧ r.2.mem ((c.tc : Thread Cert.Reference38Ideal.nD Cert.Reference38Ideal.τ).loc Cert.Reference38Ideal.main_arg16) = m ((c.tc : Thread Cert.Reference38Ideal.nD Cert.Reference38Ideal.τ).loc Cert.Reference38Ideal.main_arg16)
      ∧ r.2.mem ((c.tc : Thread Cert.Reference38Ideal.nD Cert.Reference38Ideal.τ).loc Cert.Reference38Ideal.main_arg17) = m ((c.tc : Thread Cert.Reference38Ideal.nD Cert.Reference38Ideal.τ).loc Cert.Reference38Ideal.main_arg17)
      ∧ r.2.mem ((c.tc : Thread Cert.Reference38Ideal.nD Cert.Reference38Ideal.τ).loc Cert.Reference38Ideal.main_arg18) = m ((c.tc : Thread Cert.Reference38Ideal.nD Cert.Reference38Ideal.τ).loc Cert.Reference38Ideal.main_arg18)
      ∧ r.2.mem ((c.tc : Thread Cert.Reference38Ideal.nD Cert.Reference38Ideal.τ).loc Cert.Reference38Ideal.main_arg19) = m ((c.tc : Thread Cert.Reference38Ideal.nD Cert.Reference38Ideal.τ).loc Cert.Reference38Ideal.main_arg19)
      ∧ r.2.mem ((c.tc : Thread Cert.Reference38Ideal.nD Cert.Reference38Ideal.τ).loc Cert.Reference38Ideal.main_arg20) = m ((c.tc : Thread Cert.Reference38Ideal.nD Cert.Reference38Ideal.τ).loc Cert.Reference38Ideal.main_arg20)
      ∧ r.2.mem ((c.tc : Thread Cert.Reference38Ideal.nD Cert.Reference38Ideal.τ).loc Cert.Reference38Ideal.main_arg21) = m ((c.tc : Thread Cert.Reference38Ideal.nD Cert.Reference38Ideal.τ).loc Cert.Reference38Ideal.main_arg21)
      ∧ r.2.mem ((c.tc : Thread Cert.Reference38Ideal.nD Cert.Reference38Ideal.τ).loc Cert.Reference38Ideal.main_arg22) = m ((c.tc : Thread Cert.Reference38Ideal.nD Cert.Reference38Ideal.τ).loc Cert.Reference38Ideal.main_arg22)
      ∧ r.2.mem ((c.tc : Thread Cert.Reference38Ideal.nD Cert.Reference38Ideal.τ).loc Cert.Reference38Ideal.main_arg23) = m ((c.tc : Thread Cert.Reference38Ideal.nD Cert.Reference38Ideal.τ).loc Cert.Reference38Ideal.main_arg23)
      ∧ r.2.mem ((c.tc : Thread Cert.Reference38Ideal.nD Cert.Reference38Ideal.τ).loc Cert.Reference38Ideal.main_arg24) = m ((c.tc : Thread Cert.Reference38Ideal.nD Cert.Reference38Ideal.τ).loc Cert.Reference38Ideal.main_arg24)
      ∧ r.2.mem ((c.tc : Thread Cert.Reference38Ideal.nD Cert.Reference38Ideal.τ).loc Cert.Reference38Ideal.main_arg25) = m ((c.tc : Thread Cert.Reference38Ideal.nD Cert.Reference38Ideal.τ).loc Cert.Reference38Ideal.main_arg25)
      ∧ r.2.mem ((c.tc : Thread Cert.Reference38Ideal.nD Cert.Reference38Ideal.τ).loc Cert.Reference38Ideal.main_arg26) = m ((c.tc : Thread Cert.Reference38Ideal.nD Cert.Reference38Ideal.τ).loc Cert.Reference38Ideal.main_arg26)
      ∧ r.2.mem ((c.tc : Thread Cert.Reference38Ideal.nD Cert.Reference38Ideal.τ).loc Cert.Reference38Ideal.main_arg27) = m ((c.tc : Thread Cert.Reference38Ideal.nD Cert.Reference38Ideal.τ).loc Cert.Reference38Ideal.main_arg27)
      ∧ r.2.mem ((c.tc : Thread Cert.Reference38Ideal.nD Cert.Reference38Ideal.τ).loc Cert.Reference38Ideal.main_arg28) = m ((c.tc : Thread Cert.Reference38Ideal.nD Cert.Reference38Ideal.τ).loc Cert.Reference38Ideal.main_arg28)
      ∧ r.2.mem ((c.tc : Thread Cert.Reference38Ideal.nD Cert.Reference38Ideal.τ).loc Cert.Reference38Ideal.main_arg29) = m ((c.tc : Thread Cert.Reference38Ideal.nD Cert.Reference38Ideal.τ).loc Cert.Reference38Ideal.main_arg29)
      ∧ r.2.mem ((c.tc : Thread Cert.Reference38Ideal.nD Cert.Reference38Ideal.τ).loc Cert.Reference38Ideal.main_arg30) = m ((c.tc : Thread Cert.Reference38Ideal.nD Cert.Reference38Ideal.τ).loc Cert.Reference38Ideal.main_arg30)
      ∧ r.2.mem ((c.tc : Thread Cert.Reference38Ideal.nD Cert.Reference38Ideal.τ).loc Cert.Reference38Ideal.main_arg31) = m ((c.tc : Thread Cert.Reference38Ideal.nD Cert.Reference38Ideal.τ).loc Cert.Reference38Ideal.main_arg31)
      ∧ r.2.mem ((c.tc : Thread Cert.Reference38Ideal.nD Cert.Reference38Ideal.τ).loc Cert.Reference38Ideal.main_arg32) = m ((c.tc : Thread Cert.Reference38Ideal.nD Cert.Reference38Ideal.τ).loc Cert.Reference38Ideal.main_arg32)
      ∧ r.2.mem ((c.tc : Thread Cert.Reference38Ideal.nD Cert.Reference38Ideal.τ).loc Cert.Reference38Ideal.main_arg33) = m ((c.tc : Thread Cert.Reference38Ideal.nD Cert.Reference38Ideal.τ).loc Cert.Reference38Ideal.main_arg33)
      ∧ r.2.mem ((c.tc : Thread Cert.Reference38Ideal.nD Cert.Reference38Ideal.τ).loc Cert.Reference38Ideal.main_arg34) = m ((c.tc : Thread Cert.Reference38Ideal.nD Cert.Reference38Ideal.τ).loc Cert.Reference38Ideal.main_arg34)
      ∧ r.2.mem ((c.tc : Thread Cert.Reference38Ideal.nD Cert.Reference38Ideal.τ).loc Cert.Reference38Ideal.main_arg35) = m ((c.tc : Thread Cert.Reference38Ideal.nD Cert.Reference38Ideal.τ).loc Cert.Reference38Ideal.main_arg35)
      ∧ r.2.mem ((c.tc : Thread Cert.Reference38Ideal.nD Cert.Reference38Ideal.τ).loc Cert.Reference38Ideal.main_arg36) = m ((c.tc : Thread Cert.Reference38Ideal.nD Cert.Reference38Ideal.τ).loc Cert.Reference38Ideal.main_arg36)
      ∧ r.2.mem ((c.tc : Thread Cert.Reference38Ideal.nD Cert.Reference38Ideal.τ).loc Cert.Reference38Ideal.main_arg37) = m ((c.tc : Thread Cert.Reference38Ideal.nD Cert.Reference38Ideal.τ).loc Cert.Reference38Ideal.main_arg37)
      ∧ r.2.mem ((c.tc : Thread Cert.Reference38Ideal.nD Cert.Reference38Ideal.τ).loc Cert.Reference38Ideal.main_arg38) = m ((c.tc : Thread Cert.Reference38Ideal.nD Cert.Reference38Ideal.τ).loc Cert.Reference38Ideal.main_arg38)
      ∧ r.2.mem ((c.tc : Thread Cert.Reference38Ideal.nD Cert.Reference38Ideal.τ).loc Cert.Reference38Ideal.main_arg39) = m ((c.tc : Thread Cert.Reference38Ideal.nD Cert.Reference38Ideal.τ).loc Cert.Reference38Ideal.main_arg39)
      ∧ r.2.mem ((c.tc : Thread Cert.Reference38Ideal.nD Cert.Reference38Ideal.τ).loc Cert.Reference38Ideal.main_arg40) = m ((c.tc : Thread Cert.Reference38Ideal.nD Cert.Reference38Ideal.τ).loc Cert.Reference38Ideal.main_arg40)
      ∧ r.2.mem ((c.tc : Thread Cert.Reference38Ideal.nD Cert.Reference38Ideal.τ).loc Cert.Reference38Ideal.main_arg41) = m ((c.tc : Thread Cert.Reference38Ideal.nD Cert.Reference38Ideal.τ).loc Cert.Reference38Ideal.main_arg41)
      ∧ r.2.mem ((c.tc : Thread Cert.Reference38Ideal.nD Cert.Reference38Ideal.τ).loc Cert.Reference38Ideal.main_arg42) = m ((c.tc : Thread Cert.Reference38Ideal.nD Cert.Reference38Ideal.τ).loc Cert.Reference38Ideal.main_arg42)
      ∧ r.2.mem ((c.tc : Thread Cert.Reference38Ideal.nD Cert.Reference38Ideal.τ).loc Cert.Reference38Ideal.main_arg43) = m ((c.tc : Thread Cert.Reference38Ideal.nD Cert.Reference38Ideal.τ).loc Cert.Reference38Ideal.main_arg43)
      ∧ r.2.mem ((c.tc : Thread Cert.Reference38Ideal.nD Cert.Reference38Ideal.τ).loc Cert.Reference38Ideal.main_arg44) = m ((c.tc : Thread Cert.Reference38Ideal.nD Cert.Reference38Ideal.τ).loc Cert.Reference38Ideal.main_arg44)
      ∧ r.2.mem ((c.tc : Thread Cert.Reference38Ideal.nD Cert.Reference38Ideal.τ).loc Cert.Reference38Ideal.main_arg45) = m ((c.tc : Thread Cert.Reference38Ideal.nD Cert.Reference38Ideal.τ).loc Cert.Reference38Ideal.main_arg45)
      ∧ r.2.mem ((c.tc : Thread Cert.Reference38Ideal.nD Cert.Reference38Ideal.τ).loc Cert.Reference38Ideal.main_arg46) = m ((c.tc : Thread Cert.Reference38Ideal.nD Cert.Reference38Ideal.τ).loc Cert.Reference38Ideal.main_arg46)
      ∧ r.2.mem ((c.tc : Thread Cert.Reference38Ideal.nD Cert.Reference38Ideal.τ).loc Cert.Reference38Ideal.main_arg47) = m ((c.tc : Thread Cert.Reference38Ideal.nD Cert.Reference38Ideal.τ).loc Cert.Reference38Ideal.main_arg47))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6)
      ∧ r.2.mem ((c.tc : Thread Cert.Kernel39.nD Cert.Kernel39.τ).loc Cert.Kernel39.main_arg7) = m ((c.tc : Thread Cert.Kernel39.nD Cert.Kernel39.τ).loc Cert.Kernel39.main_arg7)
      ∧ r.2.mem ((c.tc : Thread Cert.Kernel39.nD Cert.Kernel39.τ).loc Cert.Kernel39.main_arg8) = m ((c.tc : Thread Cert.Kernel39.nD Cert.Kernel39.τ).loc Cert.Kernel39.main_arg8)
      ∧ r.2.mem ((c.tc : Thread Cert.Kernel39.nD Cert.Kernel39.τ).loc Cert.Kernel39.main_arg9) = m ((c.tc : Thread Cert.Kernel39.nD Cert.Kernel39.τ).loc Cert.Kernel39.main_arg9)
      ∧ r.2.mem ((c.tc : Thread Cert.Kernel39.nD Cert.Kernel39.τ).loc Cert.Kernel39.main_arg10) = m ((c.tc : Thread Cert.Kernel39.nD Cert.Kernel39.τ).loc Cert.Kernel39.main_arg10)
      ∧ r.2.mem ((c.tc : Thread Cert.Kernel39.nD Cert.Kernel39.τ).loc Cert.Kernel39.main_arg11) = m ((c.tc : Thread Cert.Kernel39.nD Cert.Kernel39.τ).loc Cert.Kernel39.main_arg11)
      ∧ r.2.mem ((c.tc : Thread Cert.Kernel39.nD Cert.Kernel39.τ).loc Cert.Kernel39.main_arg12) = m ((c.tc : Thread Cert.Kernel39.nD Cert.Kernel39.τ).loc Cert.Kernel39.main_arg12)
      ∧ r.2.mem ((c.tc : Thread Cert.Kernel39.nD Cert.Kernel39.τ).loc Cert.Kernel39.main_arg13) = m ((c.tc : Thread Cert.Kernel39.nD Cert.Kernel39.τ).loc Cert.Kernel39.main_arg13))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
      ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
      ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
      ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
      ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10)
      ∧ r.2.mem ((c.tc : Thread Cert.Kernel39Ideal.nD Cert.Kernel39Ideal.τ).loc Cert.Kernel39Ideal.main_arg11) = m ((c.tc : Thread Cert.Kernel39Ideal.nD Cert.Kernel39Ideal.τ).loc Cert.Kernel39Ideal.main_arg11)
      ∧ r.2.mem ((c.tc : Thread Cert.Kernel39Ideal.nD Cert.Kernel39Ideal.τ).loc Cert.Kernel39Ideal.main_arg12) = m ((c.tc : Thread Cert.Kernel39Ideal.nD Cert.Kernel39Ideal.τ).loc Cert.Kernel39Ideal.main_arg12)
      ∧ r.2.mem ((c.tc : Thread Cert.Kernel39Ideal.nD Cert.Kernel39Ideal.τ).loc Cert.Kernel39Ideal.main_arg13) = m ((c.tc : Thread Cert.Kernel39Ideal.nD Cert.Kernel39Ideal.τ).loc Cert.Kernel39Ideal.main_arg13))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6)
      ∧ r.2.mem ((c.tc : Thread Cert.Reference39Ideal.nD Cert.Reference39Ideal.τ).loc Cert.Reference39Ideal.main_arg7) = m ((c.tc : Thread Cert.Reference39Ideal.nD Cert.Reference39Ideal.τ).loc Cert.Reference39Ideal.main_arg7)
      ∧ r.2.mem ((c.tc : Thread Cert.Reference39Ideal.nD Cert.Reference39Ideal.τ).loc Cert.Reference39Ideal.main_arg8) = m ((c.tc : Thread Cert.Reference39Ideal.nD Cert.Reference39Ideal.τ).loc Cert.Reference39Ideal.main_arg8)
      ∧ r.2.mem ((c.tc : Thread Cert.Reference39Ideal.nD Cert.Reference39Ideal.τ).loc Cert.Reference39Ideal.main_arg9) = m ((c.tc : Thread Cert.Reference39Ideal.nD Cert.Reference39Ideal.τ).loc Cert.Reference39Ideal.main_arg9)
      ∧ r.2.mem ((c.tc : Thread Cert.Reference39Ideal.nD Cert.Reference39Ideal.τ).loc Cert.Reference39Ideal.main_arg10) = m ((c.tc : Thread Cert.Reference39Ideal.nD Cert.Reference39Ideal.τ).loc Cert.Reference39Ideal.main_arg10)
      ∧ r.2.mem ((c.tc : Thread Cert.Reference39Ideal.nD Cert.Reference39Ideal.τ).loc Cert.Reference39Ideal.main_arg11) = m ((c.tc : Thread Cert.Reference39Ideal.nD Cert.Reference39Ideal.τ).loc Cert.Reference39Ideal.main_arg11)
      ∧ r.2.mem ((c.tc : Thread Cert.Reference39Ideal.nD Cert.Reference39Ideal.τ).loc Cert.Reference39Ideal.main_arg12) = m ((c.tc : Thread Cert.Reference39Ideal.nD Cert.Reference39Ideal.τ).loc Cert.Reference39Ideal.main_arg12)
      ∧ r.2.mem ((c.tc : Thread Cert.Reference39Ideal.nD Cert.Reference39Ideal.τ).loc Cert.Reference39Ideal.main_arg13) = m ((c.tc : Thread Cert.Reference39Ideal.nD Cert.Reference39Ideal.τ).loc Cert.Reference39Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_v82) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v24) = v2 c
          ∧ r.2.mem ((c.tc : Thread Cert.Reference8Ideal.nD Cert.Reference8Ideal.τ).loc Cert.Reference8Ideal.main_v26) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)) (v2 : (c : Dev Cert.Kernel9Ideal.nD) → Buf (Elt Ideal) ((c.tc : Thread Cert.Kernel9Ideal.nD Cert.Kernel9Ideal.τ).loc Cert.Kernel9Ideal.main_v10_2)) (v3 : (c : Dev Cert.Kernel9Ideal.nD) → Buf (Elt Ideal) ((c.tc : Thread Cert.Kernel9Ideal.nD Cert.Kernel9Ideal.τ).loc Cert.Kernel9Ideal.main_v10_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_v10_2) = v2 c
          ∧ r.2.mem ((c.tc : Thread Cert.Kernel9Ideal.nD Cert.Kernel9Ideal.τ).loc Cert.Kernel9Ideal.main_v10_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v39) = v2 c
          ∧ r.2.mem ((c.tc : Thread Cert.Reference9Ideal.nD Cert.Reference9Ideal.τ).loc Cert.Reference9Ideal.main_v52) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v23) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v49) = v0 c
          ∧ r.2.mem ((c.tc : Thread Cert.Reference12Ideal.nD Cert.Reference12Ideal.τ).loc Cert.Reference12Ideal.main_v51) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v49) = v0 c
          ∧ r.2.mem ((c.tc : Thread Cert.Reference13Ideal.nD Cert.Reference13Ideal.τ).loc Cert.Reference13Ideal.main_v59) = v1 c
          ∧ r.2.mem ((c.tc : Thread Cert.Reference13Ideal.nD Cert.Reference13Ideal.τ).loc Cert.Reference13Ideal.main_v58) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v9_0)) (v1 : (c : Dev Cert.Kernel14Ideal.nD) → Buf (Elt Ideal) ((c.tc : Thread Cert.Kernel14Ideal.nD Cert.Kernel14Ideal.τ).loc Cert.Kernel14Ideal.main_v9_1)) (v2 : (c : Dev Cert.Kernel14Ideal.nD) → Buf (Elt Ideal) ((c.tc : Thread Cert.Kernel14Ideal.nD Cert.Kernel14Ideal.τ).loc Cert.Kernel14Ideal.main_v9_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9_0) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_v9_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v74) = v0 c
          ∧ r.2.mem ((c.tc : Thread Cert.Reference14Ideal.nD Cert.Reference14Ideal.τ).loc Cert.Reference14Ideal.main_v75) = v1 c
          ∧ r.2.mem ((c.tc : Thread Cert.Reference14Ideal.nD Cert.Reference14Ideal.τ).loc Cert.Reference14Ideal.main_v73) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v8)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v8)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v8) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v20) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)
      ∧ m' ((c.tc : Thread Cert.Reference38Ideal.nD Cert.Reference38Ideal.τ).loc Cert.Reference38Ideal.main_arg6) = m ((c.tc : Thread Cert.Kernel38Ideal.nD Cert.Kernel38Ideal.τ).loc Cert.Kernel38Ideal.main_arg6)
      ∧ m' ((c.tc : Thread Cert.Reference38Ideal.nD Cert.Reference38Ideal.τ).loc Cert.Reference38Ideal.main_arg7) = m ((c.tc : Thread Cert.Kernel38Ideal.nD Cert.Kernel38Ideal.τ).loc Cert.Kernel38Ideal.main_arg7)
      ∧ m' ((c.tc : Thread Cert.Reference38Ideal.nD Cert.Reference38Ideal.τ).loc Cert.Reference38Ideal.main_arg8) = m ((c.tc : Thread Cert.Kernel38Ideal.nD Cert.Kernel38Ideal.τ).loc Cert.Kernel38Ideal.main_arg8)
      ∧ m' ((c.tc : Thread Cert.Reference38Ideal.nD Cert.Reference38Ideal.τ).loc Cert.Reference38Ideal.main_arg9) = m ((c.tc : Thread Cert.Kernel38Ideal.nD Cert.Kernel38Ideal.τ).loc Cert.Kernel38Ideal.main_arg9)
      ∧ m' ((c.tc : Thread Cert.Reference38Ideal.nD Cert.Reference38Ideal.τ).loc Cert.Reference38Ideal.main_arg10) = m ((c.tc : Thread Cert.Kernel38Ideal.nD Cert.Kernel38Ideal.τ).loc Cert.Kernel38Ideal.main_arg10)
      ∧ m' ((c.tc : Thread Cert.Reference38Ideal.nD Cert.Reference38Ideal.τ).loc Cert.Reference38Ideal.main_arg11) = m ((c.tc : Thread Cert.Kernel38Ideal.nD Cert.Kernel38Ideal.τ).loc Cert.Kernel38Ideal.main_arg11)
      ∧ m' ((c.tc : Thread Cert.Reference38Ideal.nD Cert.Reference38Ideal.τ).loc Cert.Reference38Ideal.main_arg12) = m ((c.tc : Thread Cert.Kernel38Ideal.nD Cert.Kernel38Ideal.τ).loc Cert.Kernel38Ideal.main_arg12)
      ∧ m' ((c.tc : Thread Cert.Reference38Ideal.nD Cert.Reference38Ideal.τ).loc Cert.Reference38Ideal.main_arg13) = m ((c.tc : Thread Cert.Kernel38Ideal.nD Cert.Kernel38Ideal.τ).loc Cert.Kernel38Ideal.main_arg13)
      ∧ m' ((c.tc : Thread Cert.Reference38Ideal.nD Cert.Reference38Ideal.τ).loc Cert.Reference38Ideal.main_arg14) = m ((c.tc : Thread Cert.Kernel38Ideal.nD Cert.Kernel38Ideal.τ).loc Cert.Kernel38Ideal.main_arg14)
      ∧ m' ((c.tc : Thread Cert.Reference38Ideal.nD Cert.Reference38Ideal.τ).loc Cert.Reference38Ideal.main_arg15) = m ((c.tc : Thread Cert.Kernel38Ideal.nD Cert.Kernel38Ideal.τ).loc Cert.Kernel38Ideal.main_arg15)
      ∧ m' ((c.tc : Thread Cert.Reference38Ideal.nD Cert.Reference38Ideal.τ).loc Cert.Reference38Ideal.main_arg16) = m ((c.tc : Thread Cert.Kernel38Ideal.nD Cert.Kernel38Ideal.τ).loc Cert.Kernel38Ideal.main_arg16)
      ∧ m' ((c.tc : Thread Cert.Reference38Ideal.nD Cert.Reference38Ideal.τ).loc Cert.Reference38Ideal.main_arg17) = m ((c.tc : Thread Cert.Kernel38Ideal.nD Cert.Kernel38Ideal.τ).loc Cert.Kernel38Ideal.main_arg17)
      ∧ m' ((c.tc : Thread Cert.Reference38Ideal.nD Cert.Reference38Ideal.τ).loc Cert.Reference38Ideal.main_arg18) = m ((c.tc : Thread Cert.Kernel38Ideal.nD Cert.Kernel38Ideal.τ).loc Cert.Kernel38Ideal.main_arg18)
      ∧ m' ((c.tc : Thread Cert.Reference38Ideal.nD Cert.Reference38Ideal.τ).loc Cert.Reference38Ideal.main_arg19) = m ((c.tc : Thread Cert.Kernel38Ideal.nD Cert.Kernel38Ideal.τ).loc Cert.Kernel38Ideal.main_arg19)
      ∧ m' ((c.tc : Thread Cert.Reference38Ideal.nD Cert.Reference38Ideal.τ).loc Cert.Reference38Ideal.main_arg20) = m ((c.tc : Thread Cert.Kernel38Ideal.nD Cert.Kernel38Ideal.τ).loc Cert.Kernel38Ideal.main_arg20)
      ∧ m' ((c.tc : Thread Cert.Reference38Ideal.nD Cert.Reference38Ideal.τ).loc Cert.Reference38Ideal.main_arg21) = m ((c.tc : Thread Cert.Kernel38Ideal.nD Cert.Kernel38Ideal.τ).loc Cert.Kernel38Ideal.main_arg21)
      ∧ m' ((c.tc : Thread Cert.Reference38Ideal.nD Cert.Reference38Ideal.τ).loc Cert.Reference38Ideal.main_arg22) = m ((c.tc : Thread Cert.Kernel38Ideal.nD Cert.Kernel38Ideal.τ).loc Cert.Kernel38Ideal.main_arg22)
      ∧ m' ((c.tc : Thread Cert.Reference38Ideal.nD Cert.Reference38Ideal.τ).loc Cert.Reference38Ideal.main_arg23) = m ((c.tc : Thread Cert.Kernel38Ideal.nD Cert.Kernel38Ideal.τ).loc Cert.Kernel38Ideal.main_arg23)
      ∧ m' ((c.tc : Thread Cert.Reference38Ideal.nD Cert.Reference38Ideal.τ).loc Cert.Reference38Ideal.main_arg24) = m ((c.tc : Thread Cert.Kernel38Ideal.nD Cert.Kernel38Ideal.τ).loc Cert.Kernel38Ideal.main_arg24)
      ∧ m' ((c.tc : Thread Cert.Reference38Ideal.nD Cert.Reference38Ideal.τ).loc Cert.Reference38Ideal.main_arg25) = m ((c.tc : Thread Cert.Kernel38Ideal.nD Cert.Kernel38Ideal.τ).loc Cert.Kernel38Ideal.main_arg25)
      ∧ m' ((c.tc : Thread Cert.Reference38Ideal.nD Cert.Reference38Ideal.τ).loc Cert.Reference38Ideal.main_arg26) = m ((c.tc : Thread Cert.Kernel38Ideal.nD Cert.Kernel38Ideal.τ).loc Cert.Kernel38Ideal.main_arg26)
      ∧ m' ((c.tc : Thread Cert.Reference38Ideal.nD Cert.Reference38Ideal.τ).loc Cert.Reference38Ideal.main_arg27) = m ((c.tc : Thread Cert.Kernel38Ideal.nD Cert.Kernel38Ideal.τ).loc Cert.Kernel38Ideal.main_arg27)
      ∧ m' ((c.tc : Thread Cert.Reference38Ideal.nD Cert.Reference38Ideal.τ).loc Cert.Reference38Ideal.main_arg28) = m ((c.tc : Thread Cert.Kernel38Ideal.nD Cert.Kernel38Ideal.τ).loc Cert.Kernel38Ideal.main_arg28)
      ∧ m' ((c.tc : Thread Cert.Reference38Ideal.nD Cert.Reference38Ideal.τ).loc Cert.Reference38Ideal.main_arg29) = m ((c.tc : Thread Cert.Kernel38Ideal.nD Cert.Kernel38Ideal.τ).loc Cert.Kernel38Ideal.main_arg29)
      ∧ m' ((c.tc : Thread Cert.Reference38Ideal.nD Cert.Reference38Ideal.τ).loc Cert.Reference38Ideal.main_arg30) = m ((c.tc : Thread Cert.Kernel38Ideal.nD Cert.Kernel38Ideal.τ).loc Cert.Kernel38Ideal.main_arg30)
      ∧ m' ((c.tc : Thread Cert.Reference38Ideal.nD Cert.Reference38Ideal.τ).loc Cert.Reference38Ideal.main_arg31) = m ((c.tc : Thread Cert.Kernel38Ideal.nD Cert.Kernel38Ideal.τ).loc Cert.Kernel38Ideal.main_arg31)
      ∧ m' ((c.tc : Thread Cert.Reference38Ideal.nD Cert.Reference38Ideal.τ).loc Cert.Reference38Ideal.main_arg32) = m ((c.tc : Thread Cert.Kernel38Ideal.nD Cert.Kernel38Ideal.τ).loc Cert.Kernel38Ideal.main_arg32)
      ∧ m' ((c.tc : Thread Cert.Reference38Ideal.nD Cert.Reference38Ideal.τ).loc Cert.Reference38Ideal.main_arg33) = m ((c.tc : Thread Cert.Kernel38Ideal.nD Cert.Kernel38Ideal.τ).loc Cert.Kernel38Ideal.main_arg33)
      ∧ m' ((c.tc : Thread Cert.Reference38Ideal.nD Cert.Reference38Ideal.τ).loc Cert.Reference38Ideal.main_arg34) = m ((c.tc : Thread Cert.Kernel38Ideal.nD Cert.Kernel38Ideal.τ).loc Cert.Kernel38Ideal.main_arg34)
      ∧ m' ((c.tc : Thread Cert.Reference38Ideal.nD Cert.Reference38Ideal.τ).loc Cert.Reference38Ideal.main_arg35) = m ((c.tc : Thread Cert.Kernel38Ideal.nD Cert.Kernel38Ideal.τ).loc Cert.Kernel38Ideal.main_arg35)
      ∧ m' ((c.tc : Thread Cert.Reference38Ideal.nD Cert.Reference38Ideal.τ).loc Cert.Reference38Ideal.main_arg36) = m ((c.tc : Thread Cert.Kernel38Ideal.nD Cert.Kernel38Ideal.τ).loc Cert.Kernel38Ideal.main_arg36)
      ∧ m' ((c.tc : Thread Cert.Reference38Ideal.nD Cert.Reference38Ideal.τ).loc Cert.Reference38Ideal.main_arg37) = m ((c.tc : Thread Cert.Kernel38Ideal.nD Cert.Kernel38Ideal.τ).loc Cert.Kernel38Ideal.main_arg37)
      ∧ m' ((c.tc : Thread Cert.Reference38Ideal.nD Cert.Reference38Ideal.τ).loc Cert.Reference38Ideal.main_arg38) = m ((c.tc : Thread Cert.Kernel38Ideal.nD Cert.Kernel38Ideal.τ).loc Cert.Kernel38Ideal.main_arg38)
      ∧ m' ((c.tc : Thread Cert.Reference38Ideal.nD Cert.Reference38Ideal.τ).loc Cert.Reference38Ideal.main_arg39) = m ((c.tc : Thread Cert.Kernel38Ideal.nD Cert.Kernel38Ideal.τ).loc Cert.Kernel38Ideal.main_arg39)
      ∧ m' ((c.tc : Thread Cert.Reference38Ideal.nD Cert.Reference38Ideal.τ).loc Cert.Reference38Ideal.main_arg40) = m ((c.tc : Thread Cert.Kernel38Ideal.nD Cert.Kernel38Ideal.τ).loc Cert.Kernel38Ideal.main_arg40)
      ∧ m' ((c.tc : Thread Cert.Reference38Ideal.nD Cert.Reference38Ideal.τ).loc Cert.Reference38Ideal.main_arg41) = m ((c.tc : Thread Cert.Kernel38Ideal.nD Cert.Kernel38Ideal.τ).loc Cert.Kernel38Ideal.main_arg41)
      ∧ m' ((c.tc : Thread Cert.Reference38Ideal.nD Cert.Reference38Ideal.τ).loc Cert.Reference38Ideal.main_arg42) = m ((c.tc : Thread Cert.Kernel38Ideal.nD Cert.Kernel38Ideal.τ).loc Cert.Kernel38Ideal.main_arg42)
      ∧ m' ((c.tc : Thread Cert.Reference38Ideal.nD Cert.Reference38Ideal.τ).loc Cert.Reference38Ideal.main_arg43) = m ((c.tc : Thread Cert.Kernel38Ideal.nD Cert.Kernel38Ideal.τ).loc Cert.Kernel38Ideal.main_arg43)
      ∧ m' ((c.tc : Thread Cert.Reference38Ideal.nD Cert.Reference38Ideal.τ).loc Cert.Reference38Ideal.main_arg44) = m ((c.tc : Thread Cert.Kernel38Ideal.nD Cert.Kernel38Ideal.τ).loc Cert.Kernel38Ideal.main_arg44)
      ∧ m' ((c.tc : Thread Cert.Reference38Ideal.nD Cert.Reference38Ideal.τ).loc Cert.Reference38Ideal.main_arg45) = m ((c.tc : Thread Cert.Kernel38Ideal.nD Cert.Kernel38Ideal.τ).loc Cert.Kernel38Ideal.main_arg45)
      ∧ m' ((c.tc : Thread Cert.Reference38Ideal.nD Cert.Reference38Ideal.τ).loc Cert.Reference38Ideal.main_arg46) = m ((c.tc : Thread Cert.Kernel38Ideal.nD Cert.Kernel38Ideal.τ).loc Cert.Kernel38Ideal.main_arg46)
      ∧ m' ((c.tc : Thread Cert.Reference38Ideal.nD Cert.Reference38Ideal.τ).loc Cert.Reference38Ideal.main_arg47) = m ((c.tc : Thread Cert.Kernel38Ideal.nD Cert.Kernel38Ideal.τ).loc Cert.Kernel38Ideal.main_arg47)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)) (v4 : (c : Dev Cert.Kernel38Ideal.nD) → Buf (Elt Ideal) ((c.tc : Thread Cert.Kernel38Ideal.nD Cert.Kernel38Ideal.τ).loc Cert.Kernel38Ideal.main_v0_4)) (v5 : (c : Dev Cert.Kernel38Ideal.nD) → Buf (Elt Ideal) ((c.tc : Thread Cert.Kernel38Ideal.nD Cert.Kernel38Ideal.τ).loc Cert.Kernel38Ideal.main_v0_5)) (v6 : (c : Dev Cert.Kernel38Ideal.nD) → Buf (Elt Ideal) ((c.tc : Thread Cert.Kernel38Ideal.nD Cert.Kernel38Ideal.τ).loc Cert.Kernel38Ideal.main_v0_6)) (v7 : (c : Dev Cert.Kernel38Ideal.nD) → Buf (Elt Ideal) ((c.tc : Thread Cert.Kernel38Ideal.nD Cert.Kernel38Ideal.τ).loc Cert.Kernel38Ideal.main_v0_7)) (v8 : (c : Dev Cert.Kernel38Ideal.nD) → Buf (Elt Ideal) ((c.tc : Thread Cert.Kernel38Ideal.nD Cert.Kernel38Ideal.τ).loc Cert.Kernel38Ideal.main_v0_8)) (v9 : (c : Dev Cert.Kernel38Ideal.nD) → Buf (Elt Ideal) ((c.tc : Thread Cert.Kernel38Ideal.nD Cert.Kernel38Ideal.τ).loc Cert.Kernel38Ideal.main_v0_9)) (v10 : (c : Dev Cert.Kernel38Ideal.nD) → Buf (Elt Ideal) ((c.tc : Thread Cert.Kernel38Ideal.nD Cert.Kernel38Ideal.τ).loc Cert.Kernel38Ideal.main_v0_10)) (v11 : (c : Dev Cert.Kernel38Ideal.nD) → Buf (Elt Ideal) ((c.tc : Thread Cert.Kernel38Ideal.nD Cert.Kernel38Ideal.τ).loc Cert.Kernel38Ideal.main_v0_11)) (v12 : (c : Dev Cert.Kernel38Ideal.nD) → Buf (Elt Ideal) ((c.tc : Thread Cert.Kernel38Ideal.nD Cert.Kernel38Ideal.τ).loc Cert.Kernel38Ideal.main_v0_12)) (v13 : (c : Dev Cert.Kernel38Ideal.nD) → Buf (Elt Ideal) ((c.tc : Thread Cert.Kernel38Ideal.nD Cert.Kernel38Ideal.τ).loc Cert.Kernel38Ideal.main_v0_13)) (v14 : (c : Dev Cert.Kernel38Ideal.nD) → Buf (Elt Ideal) ((c.tc : Thread Cert.Kernel38Ideal.nD Cert.Kernel38Ideal.τ).loc Cert.Kernel38Ideal.main_v0_14)) (v15 : (c : Dev Cert.Kernel38Ideal.nD) → Buf (Elt Ideal) ((c.tc : Thread Cert.Kernel38Ideal.nD Cert.Kernel38Ideal.τ).loc Cert.Kernel38Ideal.main_v0_15)) (v16 : (c : Dev Cert.Kernel38Ideal.nD) → Buf (Elt Ideal) ((c.tc : Thread Cert.Kernel38Ideal.nD Cert.Kernel38Ideal.τ).loc Cert.Kernel38Ideal.main_v0_16)) (v17 : (c : Dev Cert.Kernel38Ideal.nD) → Buf (Elt Ideal) ((c.tc : Thread Cert.Kernel38Ideal.nD Cert.Kernel38Ideal.τ).loc Cert.Kernel38Ideal.main_v0_17)) (v18 : (c : Dev Cert.Kernel38Ideal.nD) → Buf (Elt Ideal) ((c.tc : Thread Cert.Kernel38Ideal.nD Cert.Kernel38Ideal.τ).loc Cert.Kernel38Ideal.main_v0_18)) (v19 : (c : Dev Cert.Kernel38Ideal.nD) → Buf (Elt Ideal) ((c.tc : Thread Cert.Kernel38Ideal.nD Cert.Kernel38Ideal.τ).loc Cert.Kernel38Ideal.main_v0_19)) (v20 : (c : Dev Cert.Kernel38Ideal.nD) → Buf (Elt Ideal) ((c.tc : Thread Cert.Kernel38Ideal.nD Cert.Kernel38Ideal.τ).loc Cert.Kernel38Ideal.main_v0_20)) (v21 : (c : Dev Cert.Kernel38Ideal.nD) → Buf (Elt Ideal) ((c.tc : Thread Cert.Kernel38Ideal.nD Cert.Kernel38Ideal.τ).loc Cert.Kernel38Ideal.main_v0_21)) (v22 : (c : Dev Cert.Kernel38Ideal.nD) → Buf (Elt Ideal) ((c.tc : Thread Cert.Kernel38Ideal.nD Cert.Kernel38Ideal.τ).loc Cert.Kernel38Ideal.main_v0_22)) (v23 : (c : Dev Cert.Kernel38Ideal.nD) → Buf (Elt Ideal) ((c.tc : Thread Cert.Kernel38Ideal.nD Cert.Kernel38Ideal.τ).loc Cert.Kernel38Ideal.main_v0_23)) (v24 : (c : Dev Cert.Kernel38Ideal.nD) → Buf (Elt Ideal) ((c.tc : Thread Cert.Kernel38Ideal.nD Cert.Kernel38Ideal.τ).loc Cert.Kernel38Ideal.main_v0_24)) (v25 : (c : Dev Cert.Kernel38Ideal.nD) → Buf (Elt Ideal) ((c.tc : Thread Cert.Kernel38Ideal.nD Cert.Kernel38Ideal.τ).loc Cert.Kernel38Ideal.main_v0_25)) (v26 : (c : Dev Cert.Kernel38Ideal.nD) → Buf (Elt Ideal) ((c.tc : Thread Cert.Kernel38Ideal.nD Cert.Kernel38Ideal.τ).loc Cert.Kernel38Ideal.main_v0_26)) (v27 : (c : Dev Cert.Kernel38Ideal.nD) → Buf (Elt Ideal) ((c.tc : Thread Cert.Kernel38Ideal.nD Cert.Kernel38Ideal.τ).loc Cert.Kernel38Ideal.main_v0_27)) (v28 : (c : Dev Cert.Kernel38Ideal.nD) → Buf (Elt Ideal) ((c.tc : Thread Cert.Kernel38Ideal.nD Cert.Kernel38Ideal.τ).loc Cert.Kernel38Ideal.main_v0_28)) (v29 : (c : Dev Cert.Kernel38Ideal.nD) → Buf (Elt Ideal) ((c.tc : Thread Cert.Kernel38Ideal.nD Cert.Kernel38Ideal.τ).loc Cert.Kernel38Ideal.main_v0_29)) (v30 : (c : Dev Cert.Kernel38Ideal.nD) → Buf (Elt Ideal) ((c.tc : Thread Cert.Kernel38Ideal.nD Cert.Kernel38Ideal.τ).loc Cert.Kernel38Ideal.main_v0_30)) (v31 : (c : Dev Cert.Kernel38Ideal.nD) → Buf (Elt Ideal) ((c.tc : Thread Cert.Kernel38Ideal.nD Cert.Kernel38Ideal.τ).loc Cert.Kernel38Ideal.main_v0_31)) (v32 : (c : Dev Cert.Kernel38Ideal.nD) → Buf (Elt Ideal) ((c.tc : Thread Cert.Kernel38Ideal.nD Cert.Kernel38Ideal.τ).loc Cert.Kernel38Ideal.main_v0_32)) (v33 : (c : Dev Cert.Kernel38Ideal.nD) → Buf (Elt Ideal) ((c.tc : Thread Cert.Kernel38Ideal.nD Cert.Kernel38Ideal.τ).loc Cert.Kernel38Ideal.main_v0_33)) (v34 : (c : Dev Cert.Kernel38Ideal.nD) → Buf (Elt Ideal) ((c.tc : Thread Cert.Kernel38Ideal.nD Cert.Kernel38Ideal.τ).loc Cert.Kernel38Ideal.main_v0_34)) (v35 : (c : Dev Cert.Kernel38Ideal.nD) → Buf (Elt Ideal) ((c.tc : Thread Cert.Kernel38Ideal.nD Cert.Kernel38Ideal.τ).loc Cert.Kernel38Ideal.main_v0_35)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_v0_4) = v4 c
          ∧ r.2.mem ((c.tc : Thread Cert.Kernel38Ideal.nD Cert.Kernel38Ideal.τ).loc Cert.Kernel38Ideal.main_v0_5) = v5 c
          ∧ r.2.mem ((c.tc : Thread Cert.Kernel38Ideal.nD Cert.Kernel38Ideal.τ).loc Cert.Kernel38Ideal.main_v0_6) = v6 c
          ∧ r.2.mem ((c.tc : Thread Cert.Kernel38Ideal.nD Cert.Kernel38Ideal.τ).loc Cert.Kernel38Ideal.main_v0_7) = v7 c
          ∧ r.2.mem ((c.tc : Thread Cert.Kernel38Ideal.nD Cert.Kernel38Ideal.τ).loc Cert.Kernel38Ideal.main_v0_8) = v8 c
          ∧ r.2.mem ((c.tc : Thread Cert.Kernel38Ideal.nD Cert.Kernel38Ideal.τ).loc Cert.Kernel38Ideal.main_v0_9) = v9 c
          ∧ r.2.mem ((c.tc : Thread Cert.Kernel38Ideal.nD Cert.Kernel38Ideal.τ).loc Cert.Kernel38Ideal.main_v0_10) = v10 c
          ∧ r.2.mem ((c.tc : Thread Cert.Kernel38Ideal.nD Cert.Kernel38Ideal.τ).loc Cert.Kernel38Ideal.main_v0_11) = v11 c
          ∧ r.2.mem ((c.tc : Thread Cert.Kernel38Ideal.nD Cert.Kernel38Ideal.τ).loc Cert.Kernel38Ideal.main_v0_12) = v12 c
          ∧ r.2.mem ((c.tc : Thread Cert.Kernel38Ideal.nD Cert.Kernel38Ideal.τ).loc Cert.Kernel38Ideal.main_v0_13) = v13 c
          ∧ r.2.mem ((c.tc : Thread Cert.Kernel38Ideal.nD Cert.Kernel38Ideal.τ).loc Cert.Kernel38Ideal.main_v0_14) = v14 c
          ∧ r.2.mem ((c.tc : Thread Cert.Kernel38Ideal.nD Cert.Kernel38Ideal.τ).loc Cert.Kernel38Ideal.main_v0_15) = v15 c
          ∧ r.2.mem ((c.tc : Thread Cert.Kernel38Ideal.nD Cert.Kernel38Ideal.τ).loc Cert.Kernel38Ideal.main_v0_16) = v16 c
          ∧ r.2.mem ((c.tc : Thread Cert.Kernel38Ideal.nD Cert.Kernel38Ideal.τ).loc Cert.Kernel38Ideal.main_v0_17) = v17 c
          ∧ r.2.mem ((c.tc : Thread Cert.Kernel38Ideal.nD Cert.Kernel38Ideal.τ).loc Cert.Kernel38Ideal.main_v0_18) = v18 c
          ∧ r.2.mem ((c.tc : Thread Cert.Kernel38Ideal.nD Cert.Kernel38Ideal.τ).loc Cert.Kernel38Ideal.main_v0_19) = v19 c
          ∧ r.2.mem ((c.tc : Thread Cert.Kernel38Ideal.nD Cert.Kernel38Ideal.τ).loc Cert.Kernel38Ideal.main_v0_20) = v20 c
          ∧ r.2.mem ((c.tc : Thread Cert.Kernel38Ideal.nD Cert.Kernel38Ideal.τ).loc Cert.Kernel38Ideal.main_v0_21) = v21 c
          ∧ r.2.mem ((c.tc : Thread Cert.Kernel38Ideal.nD Cert.Kernel38Ideal.τ).loc Cert.Kernel38Ideal.main_v0_22) = v22 c
          ∧ r.2.mem ((c.tc : Thread Cert.Kernel38Ideal.nD Cert.Kernel38Ideal.τ).loc Cert.Kernel38Ideal.main_v0_23) = v23 c
          ∧ r.2.mem ((c.tc : Thread Cert.Kernel38Ideal.nD Cert.Kernel38Ideal.τ).loc Cert.Kernel38Ideal.main_v0_24) = v24 c
          ∧ r.2.mem ((c.tc : Thread Cert.Kernel38Ideal.nD Cert.Kernel38Ideal.τ).loc Cert.Kernel38Ideal.main_v0_25) = v25 c
          ∧ r.2.mem ((c.tc : Thread Cert.Kernel38Ideal.nD Cert.Kernel38Ideal.τ).loc Cert.Kernel38Ideal.main_v0_26) = v26 c
          ∧ r.2.mem ((c.tc : Thread Cert.Kernel38Ideal.nD Cert.Kernel38Ideal.τ).loc Cert.Kernel38Ideal.main_v0_27) = v27 c
          ∧ r.2.mem ((c.tc : Thread Cert.Kernel38Ideal.nD Cert.Kernel38Ideal.τ).loc Cert.Kernel38Ideal.main_v0_28) = v28 c
          ∧ r.2.mem ((c.tc : Thread Cert.Kernel38Ideal.nD Cert.Kernel38Ideal.τ).loc Cert.Kernel38Ideal.main_v0_29) = v29 c
          ∧ r.2.mem ((c.tc : Thread Cert.Kernel38Ideal.nD Cert.Kernel38Ideal.τ).loc Cert.Kernel38Ideal.main_v0_30) = v30 c
          ∧ r.2.mem ((c.tc : Thread Cert.Kernel38Ideal.nD Cert.Kernel38Ideal.τ).loc Cert.Kernel38Ideal.main_v0_31) = v31 c
          ∧ r.2.mem ((c.tc : Thread Cert.Kernel38Ideal.nD Cert.Kernel38Ideal.τ).loc Cert.Kernel38Ideal.main_v0_32) = v32 c
          ∧ r.2.mem ((c.tc : Thread Cert.Kernel38Ideal.nD Cert.Kernel38Ideal.τ).loc Cert.Kernel38Ideal.main_v0_33) = v33 c
          ∧ r.2.mem ((c.tc : Thread Cert.Kernel38Ideal.nD Cert.Kernel38Ideal.τ).loc Cert.Kernel38Ideal.main_v0_34) = v34 c
          ∧ r.2.mem ((c.tc : Thread Cert.Kernel38Ideal.nD Cert.Kernel38Ideal.τ).loc Cert.Kernel38Ideal.main_v0_35) = v35 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
          ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6)
          ∧ r.2.mem ((c.tc : Thread Cert.Kernel38Ideal.nD Cert.Kernel38Ideal.τ).loc Cert.Kernel38Ideal.main_arg7) = m ((c.tc : Thread Cert.Kernel38Ideal.nD Cert.Kernel38Ideal.τ).loc Cert.Kernel38Ideal.main_arg7)
          ∧ r.2.mem ((c.tc : Thread Cert.Kernel38Ideal.nD Cert.Kernel38Ideal.τ).loc Cert.Kernel38Ideal.main_arg8) = m ((c.tc : Thread Cert.Kernel38Ideal.nD Cert.Kernel38Ideal.τ).loc Cert.Kernel38Ideal.main_arg8)
          ∧ r.2.mem ((c.tc : Thread Cert.Kernel38Ideal.nD Cert.Kernel38Ideal.τ).loc Cert.Kernel38Ideal.main_arg9) = m ((c.tc : Thread Cert.Kernel38Ideal.nD Cert.Kernel38Ideal.τ).loc Cert.Kernel38Ideal.main_arg9)
          ∧ r.2.mem ((c.tc : Thread Cert.Kernel38Ideal.nD Cert.Kernel38Ideal.τ).loc Cert.Kernel38Ideal.main_arg10) = m ((c.tc : Thread Cert.Kernel38Ideal.nD Cert.Kernel38Ideal.τ).loc Cert.Kernel38Ideal.main_arg10)
          ∧ r.2.mem ((c.tc : Thread Cert.Kernel38Ideal.nD Cert.Kernel38Ideal.τ).loc Cert.Kernel38Ideal.main_arg11) = m ((c.tc : Thread Cert.Kernel38Ideal.nD Cert.Kernel38Ideal.τ).loc Cert.Kernel38Ideal.main_arg11)
          ∧ r.2.mem ((c.tc : Thread Cert.Kernel38Ideal.nD Cert.Kernel38Ideal.τ).loc Cert.Kernel38Ideal.main_arg12) = m ((c.tc : Thread Cert.Kernel38Ideal.nD Cert.Kernel38Ideal.τ).loc Cert.Kernel38Ideal.main_arg12)
          ∧ r.2.mem ((c.tc : Thread Cert.Kernel38Ideal.nD Cert.Kernel38Ideal.τ).loc Cert.Kernel38Ideal.main_arg13) = m ((c.tc : Thread Cert.Kernel38Ideal.nD Cert.Kernel38Ideal.τ).loc Cert.Kernel38Ideal.main_arg13)
          ∧ r.2.mem ((c.tc : Thread Cert.Kernel38Ideal.nD Cert.Kernel38Ideal.τ).loc Cert.Kernel38Ideal.main_arg14) = m ((c.tc : Thread Cert.Kernel38Ideal.nD Cert.Kernel38Ideal.τ).loc Cert.Kernel38Ideal.main_arg14)
          ∧ r.2.mem ((c.tc : Thread Cert.Kernel38Ideal.nD Cert.Kernel38Ideal.τ).loc Cert.Kernel38Ideal.main_arg15) = m ((c.tc : Thread Cert.Kernel38Ideal.nD Cert.Kernel38Ideal.τ).loc Cert.Kernel38Ideal.main_arg15)
          ∧ r.2.mem ((c.tc : Thread Cert.Kernel38Ideal.nD Cert.Kernel38Ideal.τ).loc Cert.Kernel38Ideal.main_arg16) = m ((c.tc : Thread Cert.Kernel38Ideal.nD Cert.Kernel38Ideal.τ).loc Cert.Kernel38Ideal.main_arg16)
          ∧ r.2.mem ((c.tc : Thread Cert.Kernel38Ideal.nD Cert.Kernel38Ideal.τ).loc Cert.Kernel38Ideal.main_arg17) = m ((c.tc : Thread Cert.Kernel38Ideal.nD Cert.Kernel38Ideal.τ).loc Cert.Kernel38Ideal.main_arg17)
          ∧ r.2.mem ((c.tc : Thread Cert.Kernel38Ideal.nD Cert.Kernel38Ideal.τ).loc Cert.Kernel38Ideal.main_arg18) = m ((c.tc : Thread Cert.Kernel38Ideal.nD Cert.Kernel38Ideal.τ).loc Cert.Kernel38Ideal.main_arg18)
          ∧ r.2.mem ((c.tc : Thread Cert.Kernel38Ideal.nD Cert.Kernel38Ideal.τ).loc Cert.Kernel38Ideal.main_arg19) = m ((c.tc : Thread Cert.Kernel38Ideal.nD Cert.Kernel38Ideal.τ).loc Cert.Kernel38Ideal.main_arg19)
          ∧ r.2.mem ((c.tc : Thread Cert.Kernel38Ideal.nD Cert.Kernel38Ideal.τ).loc Cert.Kernel38Ideal.main_arg20) = m ((c.tc : Thread Cert.Kernel38Ideal.nD Cert.Kernel38Ideal.τ).loc Cert.Kernel38Ideal.main_arg20)
          ∧ r.2.mem ((c.tc : Thread Cert.Kernel38Ideal.nD Cert.Kernel38Ideal.τ).loc Cert.Kernel38Ideal.main_arg21) = m ((c.tc : Thread Cert.Kernel38Ideal.nD Cert.Kernel38Ideal.τ).loc Cert.Kernel38Ideal.main_arg21)
          ∧ r.2.mem ((c.tc : Thread Cert.Kernel38Ideal.nD Cert.Kernel38Ideal.τ).loc Cert.Kernel38Ideal.main_arg22) = m ((c.tc : Thread Cert.Kernel38Ideal.nD Cert.Kernel38Ideal.τ).loc Cert.Kernel38Ideal.main_arg22)
          ∧ r.2.mem ((c.tc : Thread Cert.Kernel38Ideal.nD Cert.Kernel38Ideal.τ).loc Cert.Kernel38Ideal.main_arg23) = m ((c.tc : Thread Cert.Kernel38Ideal.nD Cert.Kernel38Ideal.τ).loc Cert.Kernel38Ideal.main_arg23)
          ∧ r.2.mem ((c.tc : Thread Cert.Kernel38Ideal.nD Cert.Kernel38Ideal.τ).loc Cert.Kernel38Ideal.main_arg24) = m ((c.tc : Thread Cert.Kernel38Ideal.nD Cert.Kernel38Ideal.τ).loc Cert.Kernel38Ideal.main_arg24)
          ∧ r.2.mem ((c.tc : Thread Cert.Kernel38Ideal.nD Cert.Kernel38Ideal.τ).loc Cert.Kernel38Ideal.main_arg25) = m ((c.tc : Thread Cert.Kernel38Ideal.nD Cert.Kernel38Ideal.τ).loc Cert.Kernel38Ideal.main_arg25)
          ∧ r.2.mem ((c.tc : Thread Cert.Kernel38Ideal.nD Cert.Kernel38Ideal.τ).loc Cert.Kernel38Ideal.main_arg26) = m ((c.tc : Thread Cert.Kernel38Ideal.nD Cert.Kernel38Ideal.τ).loc Cert.Kernel38Ideal.main_arg26)
          ∧ r.2.mem ((c.tc : Thread Cert.Kernel38Ideal.nD Cert.Kernel38Ideal.τ).loc Cert.Kernel38Ideal.main_arg27) = m ((c.tc : Thread Cert.Kernel38Ideal.nD Cert.Kernel38Ideal.τ).loc Cert.Kernel38Ideal.main_arg27)
          ∧ r.2.mem ((c.tc : Thread Cert.Kernel38Ideal.nD Cert.Kernel38Ideal.τ).loc Cert.Kernel38Ideal.main_arg28) = m ((c.tc : Thread Cert.Kernel38Ideal.nD Cert.Kernel38Ideal.τ).loc Cert.Kernel38Ideal.main_arg28)
          ∧ r.2.mem ((c.tc : Thread Cert.Kernel38Ideal.nD Cert.Kernel38Ideal.τ).loc Cert.Kernel38Ideal.main_arg29) = m ((c.tc : Thread Cert.Kernel38Ideal.nD Cert.Kernel38Ideal.τ).loc Cert.Kernel38Ideal.main_arg29)
          ∧ r.2.mem ((c.tc : Thread Cert.Kernel38Ideal.nD Cert.Kernel38Ideal.τ).loc Cert.Kernel38Ideal.main_arg30) = m ((c.tc : Thread Cert.Kernel38Ideal.nD Cert.Kernel38Ideal.τ).loc Cert.Kernel38Ideal.main_arg30)
          ∧ r.2.mem ((c.tc : Thread Cert.Kernel38Ideal.nD Cert.Kernel38Ideal.τ).loc Cert.Kernel38Ideal.main_arg31) = m ((c.tc : Thread Cert.Kernel38Ideal.nD Cert.Kernel38Ideal.τ).loc Cert.Kernel38Ideal.main_arg31)
          ∧ r.2.mem ((c.tc : Thread Cert.Kernel38Ideal.nD Cert.Kernel38Ideal.τ).loc Cert.Kernel38Ideal.main_arg32) = m ((c.tc : Thread Cert.Kernel38Ideal.nD Cert.Kernel38Ideal.τ).loc Cert.Kernel38Ideal.main_arg32)
          ∧ r.2.mem ((c.tc : Thread Cert.Kernel38Ideal.nD Cert.Kernel38Ideal.τ).loc Cert.Kernel38Ideal.main_arg33) = m ((c.tc : Thread Cert.Kernel38Ideal.nD Cert.Kernel38Ideal.τ).loc Cert.Kernel38Ideal.main_arg33)
          ∧ r.2.mem ((c.tc : Thread Cert.Kernel38Ideal.nD Cert.Kernel38Ideal.τ).loc Cert.Kernel38Ideal.main_arg34) = m ((c.tc : Thread Cert.Kernel38Ideal.nD Cert.Kernel38Ideal.τ).loc Cert.Kernel38Ideal.main_arg34)
          ∧ r.2.mem ((c.tc : Thread Cert.Kernel38Ideal.nD Cert.Kernel38Ideal.τ).loc Cert.Kernel38Ideal.main_arg35) = m ((c.tc : Thread Cert.Kernel38Ideal.nD Cert.Kernel38Ideal.τ).loc Cert.Kernel38Ideal.main_arg35)
          ∧ r.2.mem ((c.tc : Thread Cert.Kernel38Ideal.nD Cert.Kernel38Ideal.τ).loc Cert.Kernel38Ideal.main_arg36) = m ((c.tc : Thread Cert.Kernel38Ideal.nD Cert.Kernel38Ideal.τ).loc Cert.Kernel38Ideal.main_arg36)
          ∧ r.2.mem ((c.tc : Thread Cert.Kernel38Ideal.nD Cert.Kernel38Ideal.τ).loc Cert.Kernel38Ideal.main_arg37) = m ((c.tc : Thread Cert.Kernel38Ideal.nD Cert.Kernel38Ideal.τ).loc Cert.Kernel38Ideal.main_arg37)
          ∧ r.2.mem ((c.tc : Thread Cert.Kernel38Ideal.nD Cert.Kernel38Ideal.τ).loc Cert.Kernel38Ideal.main_arg38) = m ((c.tc : Thread Cert.Kernel38Ideal.nD Cert.Kernel38Ideal.τ).loc Cert.Kernel38Ideal.main_arg38)
          ∧ r.2.mem ((c.tc : Thread Cert.Kernel38Ideal.nD Cert.Kernel38Ideal.τ).loc Cert.Kernel38Ideal.main_arg39) = m ((c.tc : Thread Cert.Kernel38Ideal.nD Cert.Kernel38Ideal.τ).loc Cert.Kernel38Ideal.main_arg39)
          ∧ r.2.mem ((c.tc : Thread Cert.Kernel38Ideal.nD Cert.Kernel38Ideal.τ).loc Cert.Kernel38Ideal.main_arg40) = m ((c.tc : Thread Cert.Kernel38Ideal.nD Cert.Kernel38Ideal.τ).loc Cert.Kernel38Ideal.main_arg40)
          ∧ r.2.mem ((c.tc : Thread Cert.Kernel38Ideal.nD Cert.Kernel38Ideal.τ).loc Cert.Kernel38Ideal.main_arg41) = m ((c.tc : Thread Cert.Kernel38Ideal.nD Cert.Kernel38Ideal.τ).loc Cert.Kernel38Ideal.main_arg41)
          ∧ r.2.mem ((c.tc : Thread Cert.Kernel38Ideal.nD Cert.Kernel38Ideal.τ).loc Cert.Kernel38Ideal.main_arg42) = m ((c.tc : Thread Cert.Kernel38Ideal.nD Cert.Kernel38Ideal.τ).loc Cert.Kernel38Ideal.main_arg42)
          ∧ r.2.mem ((c.tc : Thread Cert.Kernel38Ideal.nD Cert.Kernel38Ideal.τ).loc Cert.Kernel38Ideal.main_arg43) = m ((c.tc : Thread Cert.Kernel38Ideal.nD Cert.Kernel38Ideal.τ).loc Cert.Kernel38Ideal.main_arg43)
          ∧ r.2.mem ((c.tc : Thread Cert.Kernel38Ideal.nD Cert.Kernel38Ideal.τ).loc Cert.Kernel38Ideal.main_arg44) = m ((c.tc : Thread Cert.Kernel38Ideal.nD Cert.Kernel38Ideal.τ).loc Cert.Kernel38Ideal.main_arg44)
          ∧ r.2.mem ((c.tc : Thread Cert.Kernel38Ideal.nD Cert.Kernel38Ideal.τ).loc Cert.Kernel38Ideal.main_arg45) = m ((c.tc : Thread Cert.Kernel38Ideal.nD Cert.Kernel38Ideal.τ).loc Cert.Kernel38Ideal.main_arg45)
          ∧ r.2.mem ((c.tc : Thread Cert.Kernel38Ideal.nD Cert.Kernel38Ideal.τ).loc Cert.Kernel38Ideal.main_arg46) = m ((c.tc : Thread Cert.Kernel38Ideal.nD Cert.Kernel38Ideal.τ).loc Cert.Kernel38Ideal.main_arg46)
          ∧ r.2.mem ((c.tc : Thread Cert.Kernel38Ideal.nD Cert.Kernel38Ideal.τ).loc Cert.Kernel38Ideal.main_arg47) = m ((c.tc : Thread Cert.Kernel38Ideal.nD Cert.Kernel38Ideal.τ).loc Cert.Kernel38Ideal.main_arg47))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v47) = v1 c
          ∧ r.2.mem ((c.tc : Thread Cert.Reference38Ideal.nD Cert.Reference38Ideal.τ).loc Cert.Reference38Ideal.main_v71) = v2 c
          ∧ r.2.mem ((c.tc : Thread Cert.Reference38Ideal.nD Cert.Reference38Ideal.τ).loc Cert.Reference38Ideal.main_v95) = v3 c
          ∧ r.2.mem ((c.tc : Thread Cert.Reference38Ideal.nD Cert.Reference38Ideal.τ).loc Cert.Reference38Ideal.main_v119) = v4 c
          ∧ r.2.mem ((c.tc : Thread Cert.Reference38Ideal.nD Cert.Reference38Ideal.τ).loc Cert.Reference38Ideal.main_v143) = v5 c
          ∧ r.2.mem ((c.tc : Thread Cert.Reference38Ideal.nD Cert.Reference38Ideal.τ).loc Cert.Reference38Ideal.main_v167) = v6 c
          ∧ r.2.mem ((c.tc : Thread Cert.Reference38Ideal.nD Cert.Reference38Ideal.τ).loc Cert.Reference38Ideal.main_v191) = v7 c
          ∧ r.2.mem ((c.tc : Thread Cert.Reference38Ideal.nD Cert.Reference38Ideal.τ).loc Cert.Reference38Ideal.main_v215) = v8 c
          ∧ r.2.mem ((c.tc : Thread Cert.Reference38Ideal.nD Cert.Reference38Ideal.τ).loc Cert.Reference38Ideal.main_v239) = v9 c
          ∧ r.2.mem ((c.tc : Thread Cert.Reference38Ideal.nD Cert.Reference38Ideal.τ).loc Cert.Reference38Ideal.main_v263) = v10 c
          ∧ r.2.mem ((c.tc : Thread Cert.Reference38Ideal.nD Cert.Reference38Ideal.τ).loc Cert.Reference38Ideal.main_v287) = v11 c
          ∧ r.2.mem ((c.tc : Thread Cert.Reference38Ideal.nD Cert.Reference38Ideal.τ).loc Cert.Reference38Ideal.main_v4) = v12 c
          ∧ r.2.mem ((c.tc : Thread Cert.Reference38Ideal.nD Cert.Reference38Ideal.τ).loc Cert.Reference38Ideal.main_v28) = v13 c
          ∧ r.2.mem ((c.tc : Thread Cert.Reference38Ideal.nD Cert.Reference38Ideal.τ).loc Cert.Reference38Ideal.main_v52) = v14 c
          ∧ r.2.mem ((c.tc : Thread Cert.Reference38Ideal.nD Cert.Reference38Ideal.τ).loc Cert.Reference38Ideal.main_v76) = v15 c
          ∧ r.2.mem ((c.tc : Thread Cert.Reference38Ideal.nD Cert.Reference38Ideal.τ).loc Cert.Reference38Ideal.main_v100) = v16 c
          ∧ r.2.mem ((c.tc : Thread Cert.Reference38Ideal.nD Cert.Reference38Ideal.τ).loc Cert.Reference38Ideal.main_v124) = v17 c
          ∧ r.2.mem ((c.tc : Thread Cert.Reference38Ideal.nD Cert.Reference38Ideal.τ).loc Cert.Reference38Ideal.main_v148) = v18 c
          ∧ r.2.mem ((c.tc : Thread Cert.Reference38Ideal.nD Cert.Reference38Ideal.τ).loc Cert.Reference38Ideal.main_v172) = v19 c
          ∧ r.2.mem ((c.tc : Thread Cert.Reference38Ideal.nD Cert.Reference38Ideal.τ).loc Cert.Reference38Ideal.main_v196) = v20 c
          ∧ r.2.mem ((c.tc : Thread Cert.Reference38Ideal.nD Cert.Reference38Ideal.τ).loc Cert.Reference38Ideal.main_v220) = v21 c
          ∧ r.2.mem ((c.tc : Thread Cert.Reference38Ideal.nD Cert.Reference38Ideal.τ).loc Cert.Reference38Ideal.main_v244) = v22 c
          ∧ r.2.mem ((c.tc : Thread Cert.Reference38Ideal.nD Cert.Reference38Ideal.τ).loc Cert.Reference38Ideal.main_v268) = v23 c
          ∧ r.2.mem ((c.tc : Thread Cert.Reference38Ideal.nD Cert.Reference38Ideal.τ).loc Cert.Reference38Ideal.main_v10) = v24 c
          ∧ r.2.mem ((c.tc : Thread Cert.Reference38Ideal.nD Cert.Reference38Ideal.τ).loc Cert.Reference38Ideal.main_v34) = v25 c
          ∧ r.2.mem ((c.tc : Thread Cert.Reference38Ideal.nD Cert.Reference38Ideal.τ).loc Cert.Reference38Ideal.main_v58) = v26 c
          ∧ r.2.mem ((c.tc : Thread Cert.Reference38Ideal.nD Cert.Reference38Ideal.τ).loc Cert.Reference38Ideal.main_v82) = v27 c
          ∧ r.2.mem ((c.tc : Thread Cert.Reference38Ideal.nD Cert.Reference38Ideal.τ).loc Cert.Reference38Ideal.main_v106) = v28 c
          ∧ r.2.mem ((c.tc : Thread Cert.Reference38Ideal.nD Cert.Reference38Ideal.τ).loc Cert.Reference38Ideal.main_v130) = v29 c
          ∧ r.2.mem ((c.tc : Thread Cert.Reference38Ideal.nD Cert.Reference38Ideal.τ).loc Cert.Reference38Ideal.main_v154) = v30 c
          ∧ r.2.mem ((c.tc : Thread Cert.Reference38Ideal.nD Cert.Reference38Ideal.τ).loc Cert.Reference38Ideal.main_v178) = v31 c
          ∧ r.2.mem ((c.tc : Thread Cert.Reference38Ideal.nD Cert.Reference38Ideal.τ).loc Cert.Reference38Ideal.main_v202) = v32 c
          ∧ r.2.mem ((c.tc : Thread Cert.Reference38Ideal.nD Cert.Reference38Ideal.τ).loc Cert.Reference38Ideal.main_v226) = v33 c
          ∧ r.2.mem ((c.tc : Thread Cert.Reference38Ideal.nD Cert.Reference38Ideal.τ).loc Cert.Reference38Ideal.main_v250) = v34 c
          ∧ r.2.mem ((c.tc : Thread Cert.Reference38Ideal.nD Cert.Reference38Ideal.τ).loc Cert.Reference38Ideal.main_v274) = v35 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5)
          ∧ r.2.mem ((c.tc : Thread Cert.Reference38Ideal.nD Cert.Reference38Ideal.τ).loc Cert.Reference38Ideal.main_arg6) = m' ((c.tc : Thread Cert.Reference38Ideal.nD Cert.Reference38Ideal.τ).loc Cert.Reference38Ideal.main_arg6)
          ∧ r.2.mem ((c.tc : Thread Cert.Reference38Ideal.nD Cert.Reference38Ideal.τ).loc Cert.Reference38Ideal.main_arg7) = m' ((c.tc : Thread Cert.Reference38Ideal.nD Cert.Reference38Ideal.τ).loc Cert.Reference38Ideal.main_arg7)
          ∧ r.2.mem ((c.tc : Thread Cert.Reference38Ideal.nD Cert.Reference38Ideal.τ).loc Cert.Reference38Ideal.main_arg8) = m' ((c.tc : Thread Cert.Reference38Ideal.nD Cert.Reference38Ideal.τ).loc Cert.Reference38Ideal.main_arg8)
          ∧ r.2.mem ((c.tc : Thread Cert.Reference38Ideal.nD Cert.Reference38Ideal.τ).loc Cert.Reference38Ideal.main_arg9) = m' ((c.tc : Thread Cert.Reference38Ideal.nD Cert.Reference38Ideal.τ).loc Cert.Reference38Ideal.main_arg9)
          ∧ r.2.mem ((c.tc : Thread Cert.Reference38Ideal.nD Cert.Reference38Ideal.τ).loc Cert.Reference38Ideal.main_arg10) = m' ((c.tc : Thread Cert.Reference38Ideal.nD Cert.Reference38Ideal.τ).loc Cert.Reference38Ideal.main_arg10)
          ∧ r.2.mem ((c.tc : Thread Cert.Reference38Ideal.nD Cert.Reference38Ideal.τ).loc Cert.Reference38Ideal.main_arg11) = m' ((c.tc : Thread Cert.Reference38Ideal.nD Cert.Reference38Ideal.τ).loc Cert.Reference38Ideal.main_arg11)
          ∧ r.2.mem ((c.tc : Thread Cert.Reference38Ideal.nD Cert.Reference38Ideal.τ).loc Cert.Reference38Ideal.main_arg12) = m' ((c.tc : Thread Cert.Reference38Ideal.nD Cert.Reference38Ideal.τ).loc Cert.Reference38Ideal.main_arg12)
          ∧ r.2.mem ((c.tc : Thread Cert.Reference38Ideal.nD Cert.Reference38Ideal.τ).loc Cert.Reference38Ideal.main_arg13) = m' ((c.tc : Thread Cert.Reference38Ideal.nD Cert.Reference38Ideal.τ).loc Cert.Reference38Ideal.main_arg13)
          ∧ r.2.mem ((c.tc : Thread Cert.Reference38Ideal.nD Cert.Reference38Ideal.τ).loc Cert.Reference38Ideal.main_arg14) = m' ((c.tc : Thread Cert.Reference38Ideal.nD Cert.Reference38Ideal.τ).loc Cert.Reference38Ideal.main_arg14)
          ∧ r.2.mem ((c.tc : Thread Cert.Reference38Ideal.nD Cert.Reference38Ideal.τ).loc Cert.Reference38Ideal.main_arg15) = m' ((c.tc : Thread Cert.Reference38Ideal.nD Cert.Reference38Ideal.τ).loc Cert.Reference38Ideal.main_arg15)
          ∧ r.2.mem ((c.tc : Thread Cert.Reference38Ideal.nD Cert.Reference38Ideal.τ).loc Cert.Reference38Ideal.main_arg16) = m' ((c.tc : Thread Cert.Reference38Ideal.nD Cert.Reference38Ideal.τ).loc Cert.Reference38Ideal.main_arg16)
          ∧ r.2.mem ((c.tc : Thread Cert.Reference38Ideal.nD Cert.Reference38Ideal.τ).loc Cert.Reference38Ideal.main_arg17) = m' ((c.tc : Thread Cert.Reference38Ideal.nD Cert.Reference38Ideal.τ).loc Cert.Reference38Ideal.main_arg17)
          ∧ r.2.mem ((c.tc : Thread Cert.Reference38Ideal.nD Cert.Reference38Ideal.τ).loc Cert.Reference38Ideal.main_arg18) = m' ((c.tc : Thread Cert.Reference38Ideal.nD Cert.Reference38Ideal.τ).loc Cert.Reference38Ideal.main_arg18)
          ∧ r.2.mem ((c.tc : Thread Cert.Reference38Ideal.nD Cert.Reference38Ideal.τ).loc Cert.Reference38Ideal.main_arg19) = m' ((c.tc : Thread Cert.Reference38Ideal.nD Cert.Reference38Ideal.τ).loc Cert.Reference38Ideal.main_arg19)
          ∧ r.2.mem ((c.tc : Thread Cert.Reference38Ideal.nD Cert.Reference38Ideal.τ).loc Cert.Reference38Ideal.main_arg20) = m' ((c.tc : Thread Cert.Reference38Ideal.nD Cert.Reference38Ideal.τ).loc Cert.Reference38Ideal.main_arg20)
          ∧ r.2.mem ((c.tc : Thread Cert.Reference38Ideal.nD Cert.Reference38Ideal.τ).loc Cert.Reference38Ideal.main_arg21) = m' ((c.tc : Thread Cert.Reference38Ideal.nD Cert.Reference38Ideal.τ).loc Cert.Reference38Ideal.main_arg21)
          ∧ r.2.mem ((c.tc : Thread Cert.Reference38Ideal.nD Cert.Reference38Ideal.τ).loc Cert.Reference38Ideal.main_arg22) = m' ((c.tc : Thread Cert.Reference38Ideal.nD Cert.Reference38Ideal.τ).loc Cert.Reference38Ideal.main_arg22)
          ∧ r.2.mem ((c.tc : Thread Cert.Reference38Ideal.nD Cert.Reference38Ideal.τ).loc Cert.Reference38Ideal.main_arg23) = m' ((c.tc : Thread Cert.Reference38Ideal.nD Cert.Reference38Ideal.τ).loc Cert.Reference38Ideal.main_arg23)
          ∧ r.2.mem ((c.tc : Thread Cert.Reference38Ideal.nD Cert.Reference38Ideal.τ).loc Cert.Reference38Ideal.main_arg24) = m' ((c.tc : Thread Cert.Reference38Ideal.nD Cert.Reference38Ideal.τ).loc Cert.Reference38Ideal.main_arg24)
          ∧ r.2.mem ((c.tc : Thread Cert.Reference38Ideal.nD Cert.Reference38Ideal.τ).loc Cert.Reference38Ideal.main_arg25) = m' ((c.tc : Thread Cert.Reference38Ideal.nD Cert.Reference38Ideal.τ).loc Cert.Reference38Ideal.main_arg25)
          ∧ r.2.mem ((c.tc : Thread Cert.Reference38Ideal.nD Cert.Reference38Ideal.τ).loc Cert.Reference38Ideal.main_arg26) = m' ((c.tc : Thread Cert.Reference38Ideal.nD Cert.Reference38Ideal.τ).loc Cert.Reference38Ideal.main_arg26)
          ∧ r.2.mem ((c.tc : Thread Cert.Reference38Ideal.nD Cert.Reference38Ideal.τ).loc Cert.Reference38Ideal.main_arg27) = m' ((c.tc : Thread Cert.Reference38Ideal.nD Cert.Reference38Ideal.τ).loc Cert.Reference38Ideal.main_arg27)
          ∧ r.2.mem ((c.tc : Thread Cert.Reference38Ideal.nD Cert.Reference38Ideal.τ).loc Cert.Reference38Ideal.main_arg28) = m' ((c.tc : Thread Cert.Reference38Ideal.nD Cert.Reference38Ideal.τ).loc Cert.Reference38Ideal.main_arg28)
          ∧ r.2.mem ((c.tc : Thread Cert.Reference38Ideal.nD Cert.Reference38Ideal.τ).loc Cert.Reference38Ideal.main_arg29) = m' ((c.tc : Thread Cert.Reference38Ideal.nD Cert.Reference38Ideal.τ).loc Cert.Reference38Ideal.main_arg29)
          ∧ r.2.mem ((c.tc : Thread Cert.Reference38Ideal.nD Cert.Reference38Ideal.τ).loc Cert.Reference38Ideal.main_arg30) = m' ((c.tc : Thread Cert.Reference38Ideal.nD Cert.Reference38Ideal.τ).loc Cert.Reference38Ideal.main_arg30)
          ∧ r.2.mem ((c.tc : Thread Cert.Reference38Ideal.nD Cert.Reference38Ideal.τ).loc Cert.Reference38Ideal.main_arg31) = m' ((c.tc : Thread Cert.Reference38Ideal.nD Cert.Reference38Ideal.τ).loc Cert.Reference38Ideal.main_arg31)
          ∧ r.2.mem ((c.tc : Thread Cert.Reference38Ideal.nD Cert.Reference38Ideal.τ).loc Cert.Reference38Ideal.main_arg32) = m' ((c.tc : Thread Cert.Reference38Ideal.nD Cert.Reference38Ideal.τ).loc Cert.Reference38Ideal.main_arg32)
          ∧ r.2.mem ((c.tc : Thread Cert.Reference38Ideal.nD Cert.Reference38Ideal.τ).loc Cert.Reference38Ideal.main_arg33) = m' ((c.tc : Thread Cert.Reference38Ideal.nD Cert.Reference38Ideal.τ).loc Cert.Reference38Ideal.main_arg33)
          ∧ r.2.mem ((c.tc : Thread Cert.Reference38Ideal.nD Cert.Reference38Ideal.τ).loc Cert.Reference38Ideal.main_arg34) = m' ((c.tc : Thread Cert.Reference38Ideal.nD Cert.Reference38Ideal.τ).loc Cert.Reference38Ideal.main_arg34)
          ∧ r.2.mem ((c.tc : Thread Cert.Reference38Ideal.nD Cert.Reference38Ideal.τ).loc Cert.Reference38Ideal.main_arg35) = m' ((c.tc : Thread Cert.Reference38Ideal.nD Cert.Reference38Ideal.τ).loc Cert.Reference38Ideal.main_arg35)
          ∧ r.2.mem ((c.tc : Thread Cert.Reference38Ideal.nD Cert.Reference38Ideal.τ).loc Cert.Reference38Ideal.main_arg36) = m' ((c.tc : Thread Cert.Reference38Ideal.nD Cert.Reference38Ideal.τ).loc Cert.Reference38Ideal.main_arg36)
          ∧ r.2.mem ((c.tc : Thread Cert.Reference38Ideal.nD Cert.Reference38Ideal.τ).loc Cert.Reference38Ideal.main_arg37) = m' ((c.tc : Thread Cert.Reference38Ideal.nD Cert.Reference38Ideal.τ).loc Cert.Reference38Ideal.main_arg37)
          ∧ r.2.mem ((c.tc : Thread Cert.Reference38Ideal.nD Cert.Reference38Ideal.τ).loc Cert.Reference38Ideal.main_arg38) = m' ((c.tc : Thread Cert.Reference38Ideal.nD Cert.Reference38Ideal.τ).loc Cert.Reference38Ideal.main_arg38)
          ∧ r.2.mem ((c.tc : Thread Cert.Reference38Ideal.nD Cert.Reference38Ideal.τ).loc Cert.Reference38Ideal.main_arg39) = m' ((c.tc : Thread Cert.Reference38Ideal.nD Cert.Reference38Ideal.τ).loc Cert.Reference38Ideal.main_arg39)
          ∧ r.2.mem ((c.tc : Thread Cert.Reference38Ideal.nD Cert.Reference38Ideal.τ).loc Cert.Reference38Ideal.main_arg40) = m' ((c.tc : Thread Cert.Reference38Ideal.nD Cert.Reference38Ideal.τ).loc Cert.Reference38Ideal.main_arg40)
          ∧ r.2.mem ((c.tc : Thread Cert.Reference38Ideal.nD Cert.Reference38Ideal.τ).loc Cert.Reference38Ideal.main_arg41) = m' ((c.tc : Thread Cert.Reference38Ideal.nD Cert.Reference38Ideal.τ).loc Cert.Reference38Ideal.main_arg41)
          ∧ r.2.mem ((c.tc : Thread Cert.Reference38Ideal.nD Cert.Reference38Ideal.τ).loc Cert.Reference38Ideal.main_arg42) = m' ((c.tc : Thread Cert.Reference38Ideal.nD Cert.Reference38Ideal.τ).loc Cert.Reference38Ideal.main_arg42)
          ∧ r.2.mem ((c.tc : Thread Cert.Reference38Ideal.nD Cert.Reference38Ideal.τ).loc Cert.Reference38Ideal.main_arg43) = m' ((c.tc : Thread Cert.Reference38Ideal.nD Cert.Reference38Ideal.τ).loc Cert.Reference38Ideal.main_arg43)
          ∧ r.2.mem ((c.tc : Thread Cert.Reference38Ideal.nD Cert.Reference38Ideal.τ).loc Cert.Reference38Ideal.main_arg44) = m' ((c.tc : Thread Cert.Reference38Ideal.nD Cert.Reference38Ideal.τ).loc Cert.Reference38Ideal.main_arg44)
          ∧ r.2.mem ((c.tc : Thread Cert.Reference38Ideal.nD Cert.Reference38Ideal.τ).loc Cert.Reference38Ideal.main_arg45) = m' ((c.tc : Thread Cert.Reference38Ideal.nD Cert.Reference38Ideal.τ).loc Cert.Reference38Ideal.main_arg45)
          ∧ r.2.mem ((c.tc : Thread Cert.Reference38Ideal.nD Cert.Reference38Ideal.τ).loc Cert.Reference38Ideal.main_arg46) = m' ((c.tc : Thread Cert.Reference38Ideal.nD Cert.Reference38Ideal.τ).loc Cert.Reference38Ideal.main_arg46)
          ∧ r.2.mem ((c.tc : Thread Cert.Reference38Ideal.nD Cert.Reference38Ideal.τ).loc Cert.Reference38Ideal.main_arg47) = m' ((c.tc : Thread Cert.Reference38Ideal.nD Cert.Reference38Ideal.τ).loc Cert.Reference38Ideal.main_arg47))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)
      ∧ m' ((c.tc : Thread Cert.Reference39Ideal.nD Cert.Reference39Ideal.τ).loc Cert.Reference39Ideal.main_arg7) = m ((c.tc : Thread Cert.Kernel39Ideal.nD Cert.Kernel39Ideal.τ).loc Cert.Kernel39Ideal.main_arg7)
      ∧ m' ((c.tc : Thread Cert.Reference39Ideal.nD Cert.Reference39Ideal.τ).loc Cert.Reference39Ideal.main_arg8) = m ((c.tc : Thread Cert.Kernel39Ideal.nD Cert.Kernel39Ideal.τ).loc Cert.Kernel39Ideal.main_arg8)
      ∧ m' ((c.tc : Thread Cert.Reference39Ideal.nD Cert.Reference39Ideal.τ).loc Cert.Reference39Ideal.main_arg9) = m ((c.tc : Thread Cert.Kernel39Ideal.nD Cert.Kernel39Ideal.τ).loc Cert.Kernel39Ideal.main_arg9)
      ∧ m' ((c.tc : Thread Cert.Reference39Ideal.nD Cert.Reference39Ideal.τ).loc Cert.Reference39Ideal.main_arg10) = m ((c.tc : Thread Cert.Kernel39Ideal.nD Cert.Kernel39Ideal.τ).loc Cert.Kernel39Ideal.main_arg10)
      ∧ m' ((c.tc : Thread Cert.Reference39Ideal.nD Cert.Reference39Ideal.τ).loc Cert.Reference39Ideal.main_arg11) = m ((c.tc : Thread Cert.Kernel39Ideal.nD Cert.Kernel39Ideal.τ).loc Cert.Kernel39Ideal.main_arg11)
      ∧ m' ((c.tc : Thread Cert.Reference39Ideal.nD Cert.Reference39Ideal.τ).loc Cert.Reference39Ideal.main_arg12) = m ((c.tc : Thread Cert.Kernel39Ideal.nD Cert.Kernel39Ideal.τ).loc Cert.Kernel39Ideal.main_arg12)
      ∧ m' ((c.tc : Thread Cert.Reference39Ideal.nD Cert.Reference39Ideal.τ).loc Cert.Reference39Ideal.main_arg13) = m ((c.tc : Thread Cert.Kernel39Ideal.nD Cert.Kernel39Ideal.τ).loc Cert.Kernel39Ideal.main_arg13)) →
    ∃ (v0 : (c : Dev Cert.Kernel39Ideal.nD) → Buf (Elt Ideal) ((c.tc : Thread Cert.Kernel39Ideal.nD Cert.Kernel39Ideal.τ).loc Cert.Kernel39Ideal.main_v13_0)) (v1 : (c : Dev Cert.Kernel39Ideal.nD) → Buf (Elt Ideal) ((c.tc : Thread Cert.Kernel39Ideal.nD Cert.Kernel39Ideal.τ).loc Cert.Kernel39Ideal.main_v13_1)) (v2 : (c : Dev Cert.Kernel39Ideal.nD) → Buf (Elt Ideal) ((c.tc : Thread Cert.Kernel39Ideal.nD Cert.Kernel39Ideal.τ).loc Cert.Kernel39Ideal.main_v13_2)) (v3 : (c : Dev Cert.Kernel39Ideal.nD) → Buf (Elt Ideal) ((c.tc : Thread Cert.Kernel39Ideal.nD Cert.Kernel39Ideal.τ).loc Cert.Kernel39Ideal.main_v13_3)) (v4 : (c : Dev Cert.Kernel39Ideal.nD) → Buf (Elt Ideal) ((c.tc : Thread Cert.Kernel39Ideal.nD Cert.Kernel39Ideal.τ).loc Cert.Kernel39Ideal.main_v13_4)) (v5 : (c : Dev Cert.Kernel39Ideal.nD) → Buf (Elt Ideal) ((c.tc : Thread Cert.Kernel39Ideal.nD Cert.Kernel39Ideal.τ).loc Cert.Kernel39Ideal.main_v13_5)) (v6 : (c : Dev Cert.Kernel39Ideal.nD) → Buf (Elt Ideal) ((c.tc : Thread Cert.Kernel39Ideal.nD Cert.Kernel39Ideal.τ).loc Cert.Kernel39Ideal.main_v13_6)) (v7 : (c : Dev Cert.Kernel39Ideal.nD) → Buf (Elt Ideal) ((c.tc : Thread Cert.Kernel39Ideal.nD Cert.Kernel39Ideal.τ).loc Cert.Kernel39Ideal.main_v13_7)) (v8 : (c : Dev Cert.Kernel39Ideal.nD) → Buf (Elt Ideal) ((c.tc : Thread Cert.Kernel39Ideal.nD Cert.Kernel39Ideal.τ).loc Cert.Kernel39Ideal.main_v13_8)) (v9 : (c : Dev Cert.Kernel39Ideal.nD) → Buf (Elt Ideal) ((c.tc : Thread Cert.Kernel39Ideal.nD Cert.Kernel39Ideal.τ).loc Cert.Kernel39Ideal.main_v13_9)) (v10 : (c : Dev Cert.Kernel39Ideal.nD) → Buf (Elt Ideal) ((c.tc : Thread Cert.Kernel39Ideal.nD Cert.Kernel39Ideal.τ).loc Cert.Kernel39Ideal.main_v13_10)) (v11 : (c : Dev Cert.Kernel39Ideal.nD) → Buf (Elt Ideal) ((c.tc : Thread Cert.Kernel39Ideal.nD Cert.Kernel39Ideal.τ).loc Cert.Kernel39Ideal.main_v13_11)) (v12 : (c : Dev Cert.Kernel39Ideal.nD) → Buf (Elt Ideal) ((c.tc : Thread Cert.Kernel39Ideal.nD Cert.Kernel39Ideal.τ).loc Cert.Kernel39Ideal.main_v13_12)) (v13 : (c : Dev Cert.Kernel39Ideal.nD) → Buf (Elt Ideal) ((c.tc : Thread Cert.Kernel39Ideal.nD Cert.Kernel39Ideal.τ).loc Cert.Kernel39Ideal.main_v13_13)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v13_0) = v0 c
          ∧ r.2.mem ((c.tc : Thread Cert.Kernel39Ideal.nD Cert.Kernel39Ideal.τ).loc Cert.Kernel39Ideal.main_v13_1) = v1 c
          ∧ r.2.mem ((c.tc : Thread Cert.Kernel39Ideal.nD Cert.Kernel39Ideal.τ).loc Cert.Kernel39Ideal.main_v13_2) = v2 c
          ∧ r.2.mem ((c.tc : Thread Cert.Kernel39Ideal.nD Cert.Kernel39Ideal.τ).loc Cert.Kernel39Ideal.main_v13_3) = v3 c
          ∧ r.2.mem ((c.tc : Thread Cert.Kernel39Ideal.nD Cert.Kernel39Ideal.τ).loc Cert.Kernel39Ideal.main_v13_4) = v4 c
          ∧ r.2.mem ((c.tc : Thread Cert.Kernel39Ideal.nD Cert.Kernel39Ideal.τ).loc Cert.Kernel39Ideal.main_v13_5) = v5 c
          ∧ r.2.mem ((c.tc : Thread Cert.Kernel39Ideal.nD Cert.Kernel39Ideal.τ).loc Cert.Kernel39Ideal.main_v13_6) = v6 c
          ∧ r.2.mem ((c.tc : Thread Cert.Kernel39Ideal.nD Cert.Kernel39Ideal.τ).loc Cert.Kernel39Ideal.main_v13_7) = v7 c
          ∧ r.2.mem ((c.tc : Thread Cert.Kernel39Ideal.nD Cert.Kernel39Ideal.τ).loc Cert.Kernel39Ideal.main_v13_8) = v8 c
          ∧ r.2.mem ((c.tc : Thread Cert.Kernel39Ideal.nD Cert.Kernel39Ideal.τ).loc Cert.Kernel39Ideal.main_v13_9) = v9 c
          ∧ r.2.mem ((c.tc : Thread Cert.Kernel39Ideal.nD Cert.Kernel39Ideal.τ).loc Cert.Kernel39Ideal.main_v13_10) = v10 c
          ∧ r.2.mem ((c.tc : Thread Cert.Kernel39Ideal.nD Cert.Kernel39Ideal.τ).loc Cert.Kernel39Ideal.main_v13_11) = v11 c
          ∧ r.2.mem ((c.tc : Thread Cert.Kernel39Ideal.nD Cert.Kernel39Ideal.τ).loc Cert.Kernel39Ideal.main_v13_12) = v12 c
          ∧ r.2.mem ((c.tc : Thread Cert.Kernel39Ideal.nD Cert.Kernel39Ideal.τ).loc Cert.Kernel39Ideal.main_v13_13) = v13 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
          ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
          ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
          ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
          ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10)
          ∧ r.2.mem ((c.tc : Thread Cert.Kernel39Ideal.nD Cert.Kernel39Ideal.τ).loc Cert.Kernel39Ideal.main_arg11) = m ((c.tc : Thread Cert.Kernel39Ideal.nD Cert.Kernel39Ideal.τ).loc Cert.Kernel39Ideal.main_arg11)
          ∧ r.2.mem ((c.tc : Thread Cert.Kernel39Ideal.nD Cert.Kernel39Ideal.τ).loc Cert.Kernel39Ideal.main_arg12) = m ((c.tc : Thread Cert.Kernel39Ideal.nD Cert.Kernel39Ideal.τ).loc Cert.Kernel39Ideal.main_arg12)
          ∧ r.2.mem ((c.tc : Thread Cert.Kernel39Ideal.nD Cert.Kernel39Ideal.τ).loc Cert.Kernel39Ideal.main_arg13) = m ((c.tc : Thread Cert.Kernel39Ideal.nD Cert.Kernel39Ideal.τ).loc Cert.Kernel39Ideal.main_arg13))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v0) = v0 c
          ∧ r.2.mem ((c.tc : Thread Cert.Reference39Ideal.nD Cert.Reference39Ideal.τ).loc Cert.Reference39Ideal.main_v1) = v1 c
          ∧ r.2.mem ((c.tc : Thread Cert.Reference39Ideal.nD Cert.Reference39Ideal.τ).loc Cert.Reference39Ideal.main_v2) = v2 c
          ∧ r.2.mem ((c.tc : Thread Cert.Reference39Ideal.nD Cert.Reference39Ideal.τ).loc Cert.Reference39Ideal.main_v3) = v3 c
          ∧ r.2.mem ((c.tc : Thread Cert.Reference39Ideal.nD Cert.Reference39Ideal.τ).loc Cert.Reference39Ideal.main_v4) = v4 c
          ∧ r.2.mem ((c.tc : Thread Cert.Reference39Ideal.nD Cert.Reference39Ideal.τ).loc Cert.Reference39Ideal.main_v5) = v5 c
          ∧ r.2.mem ((c.tc : Thread Cert.Reference39Ideal.nD Cert.Reference39Ideal.τ).loc Cert.Reference39Ideal.main_v6) = v6 c
          ∧ r.2.mem ((c.tc : Thread Cert.Reference39Ideal.nD Cert.Reference39Ideal.τ).loc Cert.Reference39Ideal.main_v7) = v7 c
          ∧ r.2.mem ((c.tc : Thread Cert.Reference39Ideal.nD Cert.Reference39Ideal.τ).loc Cert.Reference39Ideal.main_v8) = v8 c
          ∧ r.2.mem ((c.tc : Thread Cert.Reference39Ideal.nD Cert.Reference39Ideal.τ).loc Cert.Reference39Ideal.main_v9) = v9 c
          ∧ r.2.mem ((c.tc : Thread Cert.Reference39Ideal.nD Cert.Reference39Ideal.τ).loc Cert.Reference39Ideal.main_v10) = v10 c
          ∧ r.2.mem ((c.tc : Thread Cert.Reference39Ideal.nD Cert.Reference39Ideal.τ).loc Cert.Reference39Ideal.main_v11) = v11 c
          ∧ r.2.mem ((c.tc : Thread Cert.Reference39Ideal.nD Cert.Reference39Ideal.τ).loc Cert.Reference39Ideal.main_v12) = v12 c
          ∧ r.2.mem ((c.tc : Thread Cert.Reference39Ideal.nD Cert.Reference39Ideal.τ).loc Cert.Reference39Ideal.main_v13) = v13 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6)
          ∧ r.2.mem ((c.tc : Thread Cert.Reference39Ideal.nD Cert.Reference39Ideal.τ).loc Cert.Reference39Ideal.main_arg7) = m' ((c.tc : Thread Cert.Reference39Ideal.nD Cert.Reference39Ideal.τ).loc Cert.Reference39Ideal.main_arg7)
          ∧ r.2.mem ((c.tc : Thread Cert.Reference39Ideal.nD Cert.Reference39Ideal.τ).loc Cert.Reference39Ideal.main_arg8) = m' ((c.tc : Thread Cert.Reference39Ideal.nD Cert.Reference39Ideal.τ).loc Cert.Reference39Ideal.main_arg8)
          ∧ r.2.mem ((c.tc : Thread Cert.Reference39Ideal.nD Cert.Reference39Ideal.τ).loc Cert.Reference39Ideal.main_arg9) = m' ((c.tc : Thread Cert.Reference39Ideal.nD Cert.Reference39Ideal.τ).loc Cert.Reference39Ideal.main_arg9)
          ∧ r.2.mem ((c.tc : Thread Cert.Reference39Ideal.nD Cert.Reference39Ideal.τ).loc Cert.Reference39Ideal.main_arg10) = m' ((c.tc : Thread Cert.Reference39Ideal.nD Cert.Reference39Ideal.τ).loc Cert.Reference39Ideal.main_arg10)
          ∧ r.2.mem ((c.tc : Thread Cert.Reference39Ideal.nD Cert.Reference39Ideal.τ).loc Cert.Reference39Ideal.main_arg11) = m' ((c.tc : Thread Cert.Reference39Ideal.nD Cert.Reference39Ideal.τ).loc Cert.Reference39Ideal.main_arg11)
          ∧ r.2.mem ((c.tc : Thread Cert.Reference39Ideal.nD Cert.Reference39Ideal.τ).loc Cert.Reference39Ideal.main_arg12) = m' ((c.tc : Thread Cert.Reference39Ideal.nD Cert.Reference39Ideal.τ).loc Cert.Reference39Ideal.main_arg12)
          ∧ r.2.mem ((c.tc : Thread Cert.Reference39Ideal.nD Cert.Reference39Ideal.τ).loc Cert.Reference39Ideal.main_arg13) = m' ((c.tc : Thread Cert.Reference39Ideal.nD Cert.Reference39Ideal.τ).loc Cert.Reference39Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
-- ==== Pre_finite.lean ====
abbrev S2048x5632 : Shape := ⟨2, ![2048, 5632]⟩
abbrev S2048x2816 : Shape := ⟨2, ![2048, 2816]⟩
abbrev S3x5632 : Shape := ⟨2, ![3, 5632]⟩
abbrev S1x5632 : Shape := ⟨2, ![1, 5632]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S2048x2816 : S_.BroadcastsInDim S2048x2816 (![] : Fin 0 → Fin S2048x2816.rank)
  reducesTo_S2048x2816_S_d0_1 : S2048x2816.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_v13 : IVec S_ 1) (main_v16 : IVec S1x5632 1) : IVec S_ 1 :=
  let main_c_5 : IVec S_ 1 := constantI S_ 1 1#1
  let main_v17 : IVec S_ 1 := (fun x v => Host.reduce IntOp.andi x v reducesTo_S1x5632_S_d0_1 h_S_) main_v16 main_c_5
  let main_v18 : IVec S_ 1 := andi main_v13 main_v17
  main_v18

def fn {F : FTy → Type} [FloatOps F] (main_arg0 : FVec F S2048x5632 .f32) (main_arg1 : FVec F S2048x2816 .f32) (main_arg2 : FVec F S3x5632 .f32) (main_arg3 : FVec F S1x5632 .f32) : IVec S_ 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_v4 : FVec F S2048x2816 .f32 := Host.absf main_arg1
  let main_cst_0 : FVec F S_ .f32 := constant S_ .f32 0x7F800000#32
  let main_v5 : FVec F S2048x2816 .f32 := broadcastInDim S2048x2816 ![] bcast_S_S2048x2816 main_cst_0
  let main_v6 : IVec S2048x2816 1 := cmpf .olt main_v4 main_v5
  let main_c_1 : IVec S_ 1 := constantI S_ 1 1#1
  let main_v7 : IVec S_ 1 := (fun x v => Host.reduce IntOp.andi x v reducesTo_S2048x2816_S_d0_1 h_S_) main_v6 main_c_1
  let main_v8 : IVec S_ 1 := andi main_v3 main_v7
  let main_v9 : FVec F S3x5632 .f32 := Host.absf main_arg2
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  let main_v14 : FVec F S1x5632 .f32 := Host.absf main_arg3
  let main_cst_4 : FVec F S_ .f32 := constant S_ .f32 0x7F800000#32
  let main_v15 : FVec F S1x5632 .f32 := broadcastInDim S1x5632 ![] bcast_S_S1x5632 main_cst_4
  let main_v16 : IVec S1x5632 1 := cmpf .olt main_v14 main_v15
  fn_part1 (F := F) main_v13 main_v16
-- ==== Kernel.lean ====
abbrev S2048x5632 : Shape := ⟨2, ![2048, 5632]⟩
abbrev S2048x2816 : Shape := ⟨2, ![2048, 2816]⟩
abbrev S3x5632 : Shape := ⟨2, ![3, 5632]⟩
abbrev S1x5632 : Shape := ⟨2, ![1, 5632]⟩
abbrev S1x2816 : Shape := ⟨2, ![1, 2816]⟩
abbrev S3x2816 : Shape := ⟨2, ![3, 2816]⟩
abbrev S256x1408 : Shape := ⟨2, ![256, 1408]⟩
abbrev S8x1408 : Shape := ⟨2, ![8, 1408]⟩
abbrev S3x1408 : Shape := ⟨2, ![3, 1408]⟩
abbrev S1x1408 : Shape := ⟨2, ![1, 1408]⟩
abbrev S256x1 : Shape := ⟨2, ![256, 1]⟩
abbrev S8x1 : Shape := ⟨2, ![8, 1]⟩
abbrev S1408 : Shape := ⟨1, ![1408]⟩

abbrev nBuf : Space → Nat
  | .hbm => 10
  | .vmem => 36
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S3x5632, .f32⟩
  | .hbm, ⟨3, _⟩ => ⟨S1x5632, .f32⟩
  | .hbm, ⟨4, _⟩ => ⟨S2048x2816, .bf16⟩
  | .hbm, ⟨5, _⟩ => ⟨S2048x2816, .bf16⟩
  | .hbm, ⟨6, _⟩ => ⟨S1x2816, .f32⟩
  | .hbm, ⟨7, _⟩ => ⟨S1x2816, .f32⟩
  | .hbm, ⟨8, _⟩ => ⟨S3x2816, .f32⟩
  | .hbm, ⟨9, _⟩ => ⟨S3x2816, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S8x1408, .f32⟩
  | .local _ .vmem, ⟨5, _⟩ => ⟨S8x1408, .f32⟩
  | .local _ .vmem, ⟨6, _⟩ => ⟨S8x1408, .f32⟩
  | .local _ .vmem, ⟨7, _⟩ => ⟨S8x1408, .f32⟩
  | .local _ .vmem, ⟨8, _⟩ => ⟨S8x1408, .f32⟩
  | .local _ .vmem, ⟨9, _⟩ => ⟨S8x1408, .f32⟩
  | .local _ .vmem, ⟨10, _⟩ => ⟨S8x1408, .f32⟩
  | .local _ .vmem, ⟨11, _⟩ => ⟨S8x1408, .f32⟩
  | .local _ .vmem, ⟨12, _⟩ => ⟨S256x1408, .f32⟩
  | .local _ .vmem, ⟨13, _⟩ => ⟨S256x1408, .f32⟩
  | .local _ .vmem, ⟨14, _⟩ => ⟨S8x1408, .f32⟩
  | .local _ .vmem, ⟨15, _⟩ => ⟨S8x1408, .f32⟩
  | .local _ .vmem, ⟨16, _⟩ => ⟨S3x1408, .f32⟩
  | .local _ .vmem, ⟨17, _⟩ => ⟨S3x1408, .f32⟩
  | .local _ .vmem, ⟨18, _⟩ => ⟨S3x1408, .f32⟩
  | .local _ .vmem, ⟨19, _⟩ => ⟨S3x1408, .f32⟩
  | .local _ .vmem, ⟨20, _⟩ => ⟨S1x1408, .f32⟩
  | .local _ .vmem, ⟨21, _⟩ => ⟨S1x1408, .f32⟩
  | .local _ .vmem, ⟨22, _⟩ => ⟨S1x1408, .f32⟩
  | .local _ .vmem, ⟨23, _⟩ => ⟨S1x1408, .f32⟩
  | .local _ .vmem, ⟨24, _⟩ => ⟨S256x1408, .bf16⟩
  | .local _ .vmem, ⟨25, _⟩ => ⟨S256x1408, .bf16⟩
  | .local _ .vmem, ⟨26, _⟩ => ⟨S256x1408, .bf16⟩
  | .local _ .vmem, ⟨27, _⟩ => ⟨S256x1408, .bf16⟩
  | .local _ .vmem, ⟨28, _⟩ => ⟨S1x1408, .f32⟩
  | .local _ .vmem, ⟨29, _⟩ => ⟨S1x1408, .f32⟩
  | .local _ .vmem, ⟨30, _⟩ => ⟨S1x1408, .f32⟩
  | .local _ .vmem, ⟨31, _⟩ => ⟨S1x1408, .f32⟩
  | .local _ .vmem, ⟨32, _⟩ => ⟨S3x1408, .f32⟩
  | .local _ .vmem, ⟨33, _⟩ => ⟨S3x1408, .f32⟩
  | .local _ .vmem, ⟨34, _⟩ => ⟨S3x1408, .f32⟩
  | .local _ .vmem, ⟨35, _⟩ => ⟨S3x1408, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let v3 : BitVec 32 := Scalar.addi arg0 c0_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let v3 : BitVec 32 := Scalar.addi arg0 c2_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let v3 : BitVec 32 := Scalar.addi arg0 c0_i32
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S3x1408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S3x1408 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S2048x5632 : Shape := ⟨2, ![2048, 5632]⟩
abbrev S2048x2816 : Shape := ⟨2, ![2048, 2816]⟩
abbrev S3x5632 : Shape := ⟨2, ![3, 5632]⟩
abbrev S1x5632 : Shape := ⟨2, ![1, 5632]⟩
abbrev S1x2048x5632 : Shape := ⟨3, ![1, 2048, 5632]⟩
abbrev S5632 : Shape := ⟨1, ![5632]⟩
abbrev S_ : Shape := ⟨0, ![]⟩
abbrev S1x2x5632 : Shape := ⟨3, ![1, 2, 5632]⟩
abbrev S1x2050x5632 : Shape := ⟨3, ![1, 2050, 5632]⟩
abbrev S1x1x5632 : Shape := ⟨3, ![1, 1, 5632]⟩
abbrev S1x2048x2816 : Shape := ⟨3, ![1, 2048, 2816]⟩
abbrev S1x2816 : Shape := ⟨2, ![1, 2816]⟩
abbrev S3x2816 : Shape := ⟨2, ![3, 2816]⟩

abbrev nBuf : Space → Nat
  | .hbm => 119
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S3x5632, .f32⟩
  | .hbm, ⟨3, _⟩ => ⟨S1x5632, .f32⟩
  | .hbm, ⟨4, _⟩ => ⟨S1x2048x5632, .f32⟩
  | .hbm, ⟨5, _⟩ => ⟨S5632, .f32⟩
  | .hbm, ⟨6, _⟩ => ⟨S_, .f32⟩
  | .hbm, ⟨7, _⟩ => ⟨S1x2x5632, .f32⟩
  | .hbm, ⟨8, _⟩ => ⟨S1x2050x5632, .f32⟩
  | .hbm, ⟨9, _⟩ => ⟨S_, .f32⟩
  | .hbm, ⟨10, _⟩ => ⟨S1x2x5632, .f32⟩
  | .hbm, ⟨11, _⟩ => ⟨S1x2048x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S1x2048x5632, .f32⟩
  | .hbm, ⟨16, _⟩ => ⟨S1x2048x5632, .f32⟩
  | .hbm, ⟨17, _⟩ => ⟨S1x1x5632, .f32⟩
  | .hbm, ⟨18, _⟩ => ⟨S1x2048x5632, .f32⟩
  | .hbm, ⟨19, _⟩ => ⟨S1x2048x5632, .f32⟩
  | .hbm, ⟨20, _⟩ => ⟨S1x2048x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S1x2048x5632, .f32⟩
  | .hbm, ⟨25, _⟩ => ⟨S1x2048x5632, .f32⟩
  | .hbm, ⟨26, _⟩ => ⟨S1x2048x5632, .f32⟩
  | .hbm, ⟨27, _⟩ => ⟨S1x2048x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S1x2048x5632, .f32⟩
  | .hbm, ⟨32, _⟩ => ⟨S1x2048x5632, .f32⟩
  | .hbm, ⟨33, _⟩ => ⟨S1x2048x5632, .f32⟩
  | .hbm, ⟨34, _⟩ => ⟨S1x2048x2816, .f32⟩
  | .hbm, ⟨35, _⟩ => ⟨S1x2048x2816, .f32⟩
  | .hbm, ⟨36, _⟩ => ⟨S1x2048x2816, .f32⟩
  | .hbm, ⟨37, _⟩ => ⟨S1x2048x2816, .f32⟩
  | .hbm, ⟨38, _⟩ => ⟨S_, .f32⟩
  | .hbm, ⟨39, _⟩ => ⟨S1x2048x2816, .f32⟩
  | .hbm, ⟨40, _⟩ => ⟨S1x2048x2816, .f32⟩
  | .hbm, ⟨41, _⟩ => ⟨S_, .f32⟩
  | .hbm, ⟨42, _⟩ => ⟨S1x2048x2816, .f32⟩
  | .hbm, ⟨43, _⟩ => ⟨S1x2048x2816, .f32⟩
  | .hbm, ⟨44, _⟩ => ⟨S_, .f32⟩
  | .hbm, ⟨45, _⟩ => ⟨S1x2048x2816, .f32⟩
  | .hbm, ⟨46, _⟩ => ⟨S1x2048x2816, .f32⟩
  | .hbm, ⟨47, _⟩ => ⟨S1x2048x2816, .f32⟩
  | .hbm, ⟨48, _⟩ => ⟨S1x2048x2816, .f32⟩
  | .hbm, ⟨49, _⟩ => ⟨S1x2048x2816, .f32⟩
  | .hbm, ⟨50, _⟩ => ⟨S2048x2816, .f32⟩
  | .hbm, ⟨51, _⟩ => ⟨S1x2048x2816, .f32⟩
  | .hbm, ⟨52, _⟩ => ⟨S1x2048x2816, .f32⟩
  | .hbm, ⟨53, _⟩ => ⟨S1x2048x2816, .f32⟩
  | .hbm, ⟨54, _⟩ => ⟨S1x2048x2816, .f32⟩
  | .hbm, ⟨55, _⟩ => ⟨S1x2048x2816, .f32⟩
  | .hbm, ⟨56, _⟩ => ⟨S1x2048x2816, .f32⟩
  | .hbm, ⟨57, _⟩ => ⟨S1x2048x2816, .f32⟩
  | .hbm, ⟨58, _⟩ => ⟨S1x2048x5632, .f32⟩
  | .hbm, ⟨59, _⟩ => ⟨S1x2048x5632, .f32⟩
  | .hbm, ⟨60, _⟩ => ⟨S_, .f32⟩
  | .hbm, ⟨61, _⟩ => ⟨S1x5632, .f32⟩
  | .hbm, ⟨62, _⟩ => ⟨S1x1x5632, .f32⟩
  | .hbm, ⟨63, _⟩ => ⟨S1x2048x5632, .f32⟩
  | .hbm, ⟨64, _⟩ => ⟨S1x2048x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S3x5632, .f32⟩
  | .hbm, ⟨70, _⟩ => ⟨S_, .f32⟩
  | .hbm, ⟨71, _⟩ => ⟨S1x2050x5632, .f32⟩
  | .hbm, ⟨72, _⟩ => ⟨S1x2048x5632, .f32⟩
  | .hbm, ⟨73, _⟩ => ⟨S_, .f32⟩
  | .hbm, ⟨74, _⟩ => ⟨S1x5632, .f32⟩
  | .hbm, ⟨75, _⟩ => ⟨S1x1x5632, .f32⟩
  | .hbm, ⟨76, _⟩ => ⟨S1x2048x5632, .f32⟩
  | .hbm, ⟨77, _⟩ => ⟨S1x2048x5632, .f32⟩
  | .hbm, ⟨78, _⟩ => ⟨S_, .f32⟩
  | .hbm, ⟨79, _⟩ => ⟨S5632, .f32⟩
  | .hbm, ⟨80, _⟩ => ⟨S1x5632, .f32⟩
  | .hbm, ⟨81, _⟩ => ⟨S_, .f32⟩
  | .hbm, ⟨82, _⟩ => ⟨S3x5632, .f32⟩
  | .hbm, ⟨83, _⟩ => ⟨S3x5632, .f32⟩
  | .hbm, ⟨84, _⟩ => ⟨S_, .f32⟩
  | .hbm, ⟨85, _⟩ => ⟨S1x2050x5632, .f32⟩
  | .hbm, ⟨86, _⟩ => ⟨S1x2050x5632, .f32⟩
  | .hbm, ⟨87, _⟩ => ⟨S_, .f32⟩
  | .hbm, ⟨88, _⟩ => ⟨S1x5632, .f32⟩
  | .hbm, ⟨89, _⟩ => ⟨S1x1x5632, .f32⟩
  | .hbm, ⟨90, _⟩ => ⟨S_, .f32⟩
  | .hbm, ⟨91, _⟩ => ⟨S5632, .f32⟩
  | .hbm, ⟨92, _⟩ => ⟨S1x2048x5632, .f32⟩
  | .hbm, ⟨93, _⟩ => ⟨S_, .f32⟩
  | .hbm, ⟨94, _⟩ => ⟨S1x5632, .f32⟩
  | .hbm, ⟨95, _⟩ => ⟨S1x1x5632, .f32⟩
  | .hbm, ⟨96, _⟩ => ⟨S1x2048x5632, .f32⟩
  | .hbm, ⟨97, _⟩ => ⟨S1x2048x5632, .f32⟩
  | .hbm, ⟨98, _⟩ => ⟨S_, .f32⟩
  | .hbm, ⟨99, _⟩ => ⟨S5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S_, .f32⟩
  | .hbm, ⟨105, _⟩ => ⟨S1x2050x5632, .f32⟩
  | .hbm, ⟨106, _⟩ => ⟨S1x2050x5632, .f32⟩
  | .hbm, ⟨107, _⟩ => ⟨S1x2x5632, .f32⟩
  | .hbm, ⟨108, _⟩ => ⟨S1x2048x5632, .f32⟩
  | .hbm, ⟨109, _⟩ => ⟨S1x5632, .f32⟩
  | .hbm, ⟨110, _⟩ => ⟨S_, .f32⟩
  | .hbm, ⟨111, _⟩ => ⟨S2048x5632, .f32⟩
  | .hbm, ⟨112, _⟩ => ⟨S2048x5632, .bf16⟩
  | .hbm, ⟨113, _⟩ => ⟨S2048x2816, .bf16⟩
  | .hbm, ⟨114, _⟩ => ⟨S2048x2816, .bf16⟩
  | .hbm, ⟨115, _⟩ => ⟨S1x2816, .f32⟩
  | .hbm, ⟨116, _⟩ => ⟨S1x2816, .f32⟩
  | .hbm, ⟨117, _⟩ => ⟨S3x2816, .f32⟩
  | .hbm, ⟨118, _⟩ => ⟨S3x2816, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v30_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v30_1 : Ref sig .tc := ⟨.hbm, 47, rfl⟩
abbrev main_v30_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_1 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== Kernel2.lean ====
abbrev S2048x1024 : Shape := ⟨2, ![2048, 1024]⟩
abbrev S2048x5632 : Shape := ⟨2, ![2048, 5632]⟩
abbrev S4x1024x1408 : Shape := ⟨3, ![4, 1024, 1408]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1x1024x1408, .f32⟩
  | .local _ .vmem, ⟨4, _⟩ => ⟨S1x1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S_, .f32⟩
  | .hbm, ⟨3, _⟩ => ⟨S1024x5632, .f32⟩
  | .hbm, ⟨4, _⟩ => ⟨S2048x1024, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S2048x1024 : Shape := ⟨2, ![2048, 1024]⟩
abbrev S1024x5632 : Shape := ⟨2, ![1024, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S1024x5632, .bf16⟩
  | .hbm, ⟨3, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S2048x1024, .f32⟩
  | .hbm, ⟨3, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S2816x1024 : Shape := ⟨2, ![2816, 1024]⟩
abbrev S2048x1024 : Shape := ⟨2, ![2048, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S2048x1024, .bf16⟩
  | .hbm, ⟨2, _⟩ => ⟨S2816x1024, .bf16⟩
  | .hbm, ⟨3, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2816x1024 : Shape := ⟨2, ![2816, 1024]⟩
abbrev S2048x1024 : Shape := ⟨2, ![2048, 1024]⟩
abbrev S_ : Shape := ⟨0, ![]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2048x1024, .bf16⟩
  | .hbm, ⟨2, _⟩ => ⟨S_, .f32⟩
  | .hbm, ⟨3, _⟩ => ⟨S2048x2816, .f32⟩
  | .hbm, ⟨4, _⟩ => ⟨S2048x1024, .f32⟩
  | .hbm, ⟨5, _⟩ => ⟨S2048x1024, .f32⟩
  | .hbm, ⟨6, _⟩ => ⟨S2048x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2048x1024 : Shape := ⟨2, ![2048, 1024]⟩
abbrev S2048x2336 : Shape := ⟨2, ![2048, 2336]⟩
abbrev S1024x2336 : Shape := ⟨2, ![1024, 2336]⟩
abbrev S2048x512 : Shape := ⟨2, ![2048, 512]⟩
abbrev S512x2336 : Shape := ⟨2, ![512, 2336]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2336, .bf16⟩
  | .hbm, ⟨2, _⟩ => ⟨S1024x2336, .f32⟩
  | .local _ .vmem, ⟨0, _⟩ => ⟨S2048x512, .bf16⟩
  | .local _ .vmem, ⟨1, _⟩ => ⟨S2048x512, .bf16⟩
  | .local _ .vmem, ⟨2, _⟩ => ⟨S2048x2336, .bf16⟩
  | .local _ .vmem, ⟨3, _⟩ => ⟨S512x2336, .f32⟩
  | .local _ .vmem, ⟨4, _⟩ => ⟨S512x2336, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2336 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S2048x2336 : Shape := ⟨2, ![2048, 2336]⟩
abbrev S_ : Shape := ⟨0, ![]⟩
abbrev S1024x2336 : Shape := ⟨2, ![1024, 2336]⟩
abbrev S2336x1024 : Shape := ⟨2, ![2336, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2336, .bf16⟩
  | .hbm, ⟨2, _⟩ => ⟨S_, .f32⟩
  | .hbm, ⟨3, _⟩ => ⟨S1024x2336, .f32⟩
  | .hbm, ⟨4, _⟩ => ⟨S2048x1024, .f32⟩
  | .hbm, ⟨5, _⟩ => ⟨S2048x2336, .f32⟩
  | .hbm, ⟨6, _⟩ => ⟨S2048x2336, .f32⟩
  | .hbm, ⟨7, _⟩ => ⟨S2336x1024, .f32⟩
  | .hbm, ⟨8, _⟩ => ⟨S1024x2336, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S1024 : Shape := ⟨1, ![1024]⟩
abbrev S1 : Shape := ⟨1, ![1]⟩

abbrev nBuf : Space → Nat
  | .hbm => 10
  | .vmem => 15
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2816x1024, .bf16⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1, .f32⟩
  | .local _ .vmem, ⟨14, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v37 : BitVec 1 := Scalar.cmpi .eq arg0 c3_i32
  let v38 : BitVec 32 := Scalar.extui v37
  let c0_i32_27 : BitVec 32 := 0#32
  let v39 : BitVec 1 := Scalar.cmpi .ne v38 c0_i32_27
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S1024 : Shape := ⟨1, ![1024]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x2816, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .bf16⟩
  | .hbm, ⟨40, _⟩ => ⟨S1x1, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel9.lean ====
abbrev S2048x1024 : Shape := ⟨2, ![2048, 1024]⟩
abbrev S1x1024 : Shape := ⟨2, ![1, 1024]⟩
abbrev S1024x2336 : Shape := ⟨2, ![1024, 2336]⟩
abbrev S1x512 : Shape := ⟨2, ![1, 512]⟩
abbrev S1x256 : Shape := ⟨2, ![1, 256]⟩
abbrev S1024x512 : Shape := ⟨2, ![1024, 512]⟩
abbrev S1024x256 : Shape := ⟨2, ![1024, 256]⟩
abbrev S1024x32 : Shape := ⟨2, ![1024, 32]⟩
abbrev S_ : Shape := ⟨0, ![]⟩
abbrev S1024x64 : Shape := ⟨2, ![1024, 64]⟩
abbrev S1024x2432 : Shape := ⟨2, ![1024, 2432]⟩
abbrev S2048x2432 : Shape := ⟨2, ![2048, 2432]⟩
abbrev S2048x512 : Shape := ⟨2, ![2048, 512]⟩
abbrev S2048x256 : Shape := ⟨2, ![2048, 256]⟩
abbrev S512x1024 : Shape := ⟨2, ![512, 1024]⟩
abbrev S512x2432 : Shape := ⟨2, ![512, 2432]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 23
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2336, .f32⟩
  | .hbm, ⟨5, _⟩ => ⟨S1x512, .f32⟩
  | .hbm, ⟨6, _⟩ => ⟨S1x256, .f32⟩
  | .hbm, ⟨7, _⟩ => ⟨S1024x2336, .bf16⟩
  | .hbm, ⟨8, _⟩ => ⟨S1024x512, .bf16⟩
  | .hbm, ⟨9, _⟩ => ⟨S1024x256, .bf16⟩
  | .hbm, ⟨10, _⟩ => ⟨S1024x32, .bf16⟩
  | .hbm, ⟨11, _⟩ => ⟨S1024x512, .bf16⟩
  | .hbm, ⟨12, _⟩ => ⟨S1024x512, .bf16⟩
  | .hbm, ⟨13, _⟩ => ⟨S1024x512, .bf16⟩
  | .hbm, ⟨14, _⟩ => ⟨S_, .bf16⟩
  | .hbm, ⟨15, _⟩ => ⟨S1024x64, .bf16⟩
  | .hbm, ⟨16, _⟩ => ⟨S_, .bf16⟩
  | .hbm, ⟨17, _⟩ => ⟨S1024x32, .bf16⟩
  | .hbm, ⟨18, _⟩ => ⟨S1024x2432, .bf16⟩
  | .hbm, ⟨19, _⟩ => ⟨S2048x1024, .bf16⟩
  | .hbm, ⟨20, _⟩ => ⟨S2048x2432, .f32⟩
  | .hbm, ⟨21, _⟩ => ⟨S2048x512, .bf16⟩
  | .hbm, ⟨22, _⟩ => ⟨S2048x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x2432, .bf16⟩
  | .local _ .vmem, ⟨6, _⟩ => ⟨S1x512, .f32⟩
  | .local _ .vmem, ⟨7, _⟩ => ⟨S1x256, .f32⟩
  | .local _ .vmem, ⟨8, _⟩ => ⟨S512x1024, .bf16⟩
  | .local _ .vmem, ⟨9, _⟩ => ⟨S512x1024, .bf16⟩
  | .local _ .vmem, ⟨10, _⟩ => ⟨S512x2432, .f32⟩
  | .local _ .vmem, ⟨11, _⟩ => ⟨S512x2432, .f32⟩
  | .local _ .vmem, ⟨12, _⟩ => ⟨S512x512, .bf16⟩
  | .local _ .vmem, ⟨13, _⟩ => ⟨S512x512, .bf16⟩
  | .local _ .vmem, ⟨14, _⟩ => ⟨S512x256, .bf16⟩
  | .local _ .vmem, ⟨15, _⟩ => ⟨S512x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2432 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S2048x1024 : Shape := ⟨2, ![2048, 1024]⟩
abbrev S1x1024 : Shape := ⟨2, ![1, 1024]⟩
abbrev S1024x2336 : Shape := ⟨2, ![1024, 2336]⟩
abbrev S1x512 : Shape := ⟨2, ![1, 512]⟩
abbrev S1x256 : Shape := ⟨2, ![1, 256]⟩
abbrev S_ : Shape := ⟨0, ![]⟩
abbrev S2048 : Shape := ⟨1, ![2048]⟩
abbrev S2048x1 : Shape := ⟨2, ![2048, 1]⟩
abbrev S2048x2336 : Shape := ⟨2, ![2048, 2336]⟩
abbrev S2048x512 : Shape := ⟨2, ![2048, 512]⟩
abbrev S2048x256 : Shape := ⟨2, ![2048, 256]⟩
abbrev S2048x32 : Shape := ⟨2, ![2048, 32]⟩
abbrev S2048x1536 : Shape := ⟨2, ![2048, 1536]⟩
abbrev S2048x64 : Shape := ⟨2, ![2048, 64]⟩
abbrev S2048x2432 : Shape := ⟨2, ![2048, 2432]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2336, .f32⟩
  | .hbm, ⟨5, _⟩ => ⟨S1x512, .f32⟩
  | .hbm, ⟨6, _⟩ => ⟨S1x256, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x2336, .f32⟩
  | .hbm, ⟨30, _⟩ => ⟨S2048x512, .f32⟩
  | .hbm, ⟨31, _⟩ => ⟨S2048x256, .f32⟩
  | .hbm, ⟨32, _⟩ => ⟨S2048x32, .f32⟩
  | .hbm, ⟨33, _⟩ => ⟨S2048x1536, .f32⟩
  | .hbm, ⟨34, _⟩ => ⟨S_, .f32⟩
  | .hbm, ⟨35, _⟩ => ⟨S2048x64, .f32⟩
  | .hbm, ⟨36, _⟩ => ⟨S_, .f32⟩
  | .hbm, ⟨37, _⟩ => ⟨S2048x32, .f32⟩
  | .hbm, ⟨38, _⟩ => ⟨S2048x2432, .f32⟩
  | .hbm, ⟨39, _⟩ => ⟨S2048x1024, .bf16⟩
  | .hbm, ⟨40, _⟩ => ⟨S2048x512, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .bf16⟩
  | .hbm, ⟨56, _⟩ => ⟨S2048x256, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x256, .f32⟩
  | .hbm, ⟨68, _⟩ => ⟨S2048x256, .f32⟩
  | .hbm, ⟨69, _⟩ => ⟨S2048x256, .f32⟩
  | .hbm, ⟨70, _⟩ => ⟨S2048x256, .f32⟩
  | .hbm, ⟨71, _⟩ => ⟨S2048x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S2048x1024, .f32⟩
  | .hbm, ⟨9, _⟩ => ⟨S2048x1024, .f32⟩
  | .hbm, ⟨10, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel11.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S256x1408 : Shape := ⟨2, ![256, 1408]⟩
abbrev S8x1408 : Shape := ⟨2, ![8, 1408]⟩
abbrev S3x1408 : Shape := ⟨2, ![3, 1408]⟩
abbrev S1x1408 : Shape := ⟨2, ![1, 1408]⟩
abbrev S256x1 : Shape := ⟨2, ![256, 1]⟩

abbrev nBuf : Space → Nat
  | .hbm => 4
  | .vmem => 18
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .bf16⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S8x1408, .f32⟩
  | .local _ .vmem, ⟨5, _⟩ => ⟨S8x1408, .f32⟩
  | .local _ .vmem, ⟨6, _⟩ => ⟨S8x1408, .f32⟩
  | .local _ .vmem, ⟨7, _⟩ => ⟨S8x1408, .f32⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S256x1408, .bf16⟩
  | .local _ .vmem, ⟨17, _⟩ => ⟨S256x1408, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg1 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S2048x5632 : Shape := ⟨2, ![2048, 5632]⟩
abbrev S3x5632 : Shape := ⟨2, ![3, 5632]⟩
abbrev S1x5632 : Shape := ⟨2, ![1, 5632]⟩
abbrev S1x2048x5632 : Shape := ⟨3, ![1, 2048, 5632]⟩
abbrev S5632 : Shape := ⟨1, ![5632]⟩
abbrev S_ : Shape := ⟨0, ![]⟩
abbrev S1x2x5632 : Shape := ⟨3, ![1, 2, 5632]⟩
abbrev S1x2050x5632 : Shape := ⟨3, ![1, 2050, 5632]⟩
abbrev S1x1x5632 : Shape := ⟨3, ![1, 1, 5632]⟩
abbrev S1x2048x2816 : Shape := ⟨3, ![1, 2048, 2816]⟩
abbrev S2048x2816 : Shape := ⟨2, ![2048, 2816]⟩

abbrev nBuf : Space → Nat
  | .hbm => 45
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S1x2048x5632, .f32⟩
  | .hbm, ⟨4, _⟩ => ⟨S5632, .f32⟩
  | .hbm, ⟨5, _⟩ => ⟨S_, .f32⟩
  | .hbm, ⟨6, _⟩ => ⟨S1x2x5632, .f32⟩
  | .hbm, ⟨7, _⟩ => ⟨S1x2050x5632, .f32⟩
  | .hbm, ⟨8, _⟩ => ⟨S1x2048x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S1x2048x5632, .f32⟩
  | .hbm, ⟨13, _⟩ => ⟨S1x2048x5632, .f32⟩
  | .hbm, ⟨14, _⟩ => ⟨S1x1x5632, .f32⟩
  | .hbm, ⟨15, _⟩ => ⟨S1x2048x5632, .f32⟩
  | .hbm, ⟨16, _⟩ => ⟨S1x2048x5632, .f32⟩
  | .hbm, ⟨17, _⟩ => ⟨S1x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S1x2048x5632, .f32⟩
  | .hbm, ⟨22, _⟩ => ⟨S1x2048x5632, .f32⟩
  | .hbm, ⟨23, _⟩ => ⟨S1x2048x5632, .f32⟩
  | .hbm, ⟨24, _⟩ => ⟨S1x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S1x2048x5632, .f32⟩
  | .hbm, ⟨29, _⟩ => ⟨S1x2048x5632, .f32⟩
  | .hbm, ⟨30, _⟩ => ⟨S1x2048x5632, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S1x2048x2816, .f32⟩
  | .hbm, ⟨35, _⟩ => ⟨S_, .f32⟩
  | .hbm, ⟨36, _⟩ => ⟨S1x2048x2816, .f32⟩
  | .hbm, ⟨37, _⟩ => ⟨S1x2048x2816, .f32⟩
  | .hbm, ⟨38, _⟩ => ⟨S_, .f32⟩
  | .hbm, ⟨39, _⟩ => ⟨S1x2048x2816, .f32⟩
  | .hbm, ⟨40, _⟩ => ⟨S1x2048x2816, .f32⟩
  | .hbm, ⟨41, _⟩ => ⟨S1x2048x2816, .f32⟩
  | .hbm, ⟨42, _⟩ => ⟨S1x2048x2816, .f32⟩
  | .hbm, ⟨43, _⟩ => ⟨S2048x2816, .f32⟩
  | .hbm, ⟨44, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel12.lean ====
abbrev S2048x1024 : Shape := ⟨2, ![2048, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S5x1024, .f32⟩
  | .hbm, ⟨69, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel13.lean ====
abbrev S2048x1024 : Shape := ⟨2, ![2048, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S4x1024, .f32⟩
  | .hbm, ⟨79, _⟩ => ⟨S8x1024, .f32⟩
  | .hbm, ⟨80, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel14.lean ====
abbrev S2048x512 : Shape := ⟨2, ![2048, 512]⟩
abbrev S2048x256 : Shape := ⟨2, ![2048, 256]⟩
abbrev S2048x2336 : Shape := ⟨2, ![2048, 2336]⟩
abbrev S1x512 : Shape := ⟨2, ![1, 512]⟩
abbrev S1x256 : Shape := ⟨2, ![1, 256]⟩
abbrev S2048x32 : Shape := ⟨2, ![2048, 32]⟩
abbrev S_ : Shape := ⟨0, ![]⟩
abbrev S2048x64 : Shape := ⟨2, ![2048, 64]⟩
abbrev S2048x2432 : Shape := ⟨2, ![2048, 2432]⟩
abbrev S8x512 : Shape := ⟨2, ![8, 512]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 19
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x256, .f32⟩
  | .hbm, ⟨2, _⟩ => ⟨S2048x2336, .f32⟩
  | .hbm, ⟨3, _⟩ => ⟨S1x512, .f32⟩
  | .hbm, ⟨4, _⟩ => ⟨S1x256, .f32⟩
  | .hbm, ⟨5, _⟩ => ⟨S2048x512, .f32⟩
  | .hbm, ⟨6, _⟩ => ⟨S2048x256, .f32⟩
  | .hbm, ⟨7, _⟩ => ⟨S2048x32, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x64, .f32⟩
  | .hbm, ⟨13, _⟩ => ⟨S_, .f32⟩
  | .hbm, ⟨14, _⟩ => ⟨S2048x32, .f32⟩
  | .hbm, ⟨15, _⟩ => ⟨S2048x2432, .f32⟩
  | .hbm, ⟨16, _⟩ => ⟨S2048x512, .bf16⟩
  | .hbm, ⟨17, _⟩ => ⟨S2048x256, .bf16⟩
  | .hbm, ⟨18, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x512, .f32⟩
  | .local _ .vmem, ⟨9, _⟩ => ⟨S1x256, .f32⟩
  | .local _ .vmem, ⟨10, _⟩ => ⟨S512x512, .bf16⟩
  | .local _ .vmem, ⟨11, _⟩ => ⟨S512x512, .bf16⟩
  | .local _ .vmem, ⟨12, _⟩ => ⟨S512x256, .bf16⟩
  | .local _ .vmem, ⟨13, _⟩ => ⟨S512x256, .bf16⟩
  | .local _ .vmem, ⟨14, _⟩ => ⟨S8x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S2048x512 : Shape := ⟨2, ![2048, 512]⟩
abbrev S2048x256 : Shape := ⟨2, ![2048, 256]⟩
abbrev S2048x2336 : Shape := ⟨2, ![2048, 2336]⟩
abbrev S1x512 : Shape := ⟨2, ![1, 512]⟩
abbrev S1x256 : Shape := ⟨2, ![1, 256]⟩
abbrev S_ : Shape := ⟨0, ![]⟩
abbrev S2048 : Shape := ⟨1, ![2048]⟩
abbrev S2048x1 : Shape := ⟨2, ![2048, 1]⟩
abbrev S512 : Shape := ⟨1, ![512]⟩
abbrev S256 : Shape := ⟨1, ![256]⟩
abbrev S6x512 : Shape := ⟨2, ![6, 512]⟩
abbrev S8x512 : Shape := ⟨2, ![8, 512]⟩

abbrev nBuf : Space → Nat
  | .hbm => 99
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x256, .f32⟩
  | .hbm, ⟨2, _⟩ => ⟨S2048x2336, .f32⟩
  | .hbm, ⟨3, _⟩ => ⟨S1x512, .f32⟩
  | .hbm, ⟨4, _⟩ => ⟨S1x256, .f32⟩
  | .hbm, ⟨5, _⟩ => ⟨S2048x512, .f32⟩
  | .hbm, ⟨6, _⟩ => ⟨S2048x256, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S512, .f32⟩
  | .hbm, ⟨29, _⟩ => ⟨S1x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x512, .f32⟩
  | .hbm, ⟨37, _⟩ => ⟨S2048x512, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x256, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x256, .f32⟩
  | .hbm, ⟨65, _⟩ => ⟨S2048x256, .f32⟩
  | .hbm, ⟨66, _⟩ => ⟨S2048x256, .f32⟩
  | .hbm, ⟨67, _⟩ => ⟨S2048x256, .f32⟩
  | .hbm, ⟨68, _⟩ => ⟨S2048x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S2048x256, .f32⟩
  | .hbm, ⟨73, _⟩ => ⟨S2048x256, .f32⟩
  | .hbm, ⟨74, _⟩ => ⟨S2048x256, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x256, .f32⟩
  | .hbm, ⟨79, _⟩ => ⟨S2048x256, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x256, .f32⟩
  | .hbm, ⟨87, _⟩ => ⟨S2048x256, .f32⟩
  | .hbm, ⟨88, _⟩ => ⟨S2048x256, .f32⟩
  | .hbm, ⟨89, _⟩ => ⟨S2048x256, .f32⟩
  | .hbm, ⟨90, _⟩ => ⟨S2048x256, .f32⟩
  | .hbm, ⟨91, _⟩ => ⟨S_, .f32⟩
  | .hbm, ⟨92, _⟩ => ⟨S1x256, .f32⟩
  | .hbm, ⟨93, _⟩ => ⟨S1x512, .f32⟩
  | .hbm, ⟨94, _⟩ => ⟨S_, .f32⟩
  | .hbm, ⟨95, _⟩ => ⟨S6x512, .f32⟩
  | .hbm, ⟨96, _⟩ => ⟨S8x512, .f32⟩
  | .hbm, ⟨97, _⟩ => ⟨S2048x512, .bf16⟩
  | .hbm, ⟨98, _⟩ => ⟨S2048x256, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Kernel15.lean ====
abbrev S8x1024 : Shape := ⟨2, ![8, 1024]⟩
abbrev S8x1536 : Shape := ⟨2, ![8, 1536]⟩
abbrev S1024x1536 : Shape := ⟨2, ![1024, 1536]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .local _ .vmem, ⟨0, _⟩ => ⟨S8x1024, .f32⟩
  | .local _ .vmem, ⟨1, _⟩ => ⟨S8x1536, .f32⟩
  | .local _ .vmem, ⟨2, _⟩ => ⟨S1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference15Ideal.lean ====
abbrev S8x1024 : Shape := ⟨2, ![8, 1024]⟩
abbrev S8x1536 : Shape := ⟨2, ![8, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S_, .f32⟩
  | .hbm, ⟨3, _⟩ => ⟨S1024x1536, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1536, .f32⟩
  | .hbm, ⟨14, _⟩ => ⟨S1536x1024, .f32⟩
  | .hbm, ⟨15, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel16.lean ====
abbrev S2048x512 : Shape := ⟨2, ![2048, 512]⟩
abbrev S512x768 : Shape := ⟨2, ![512, 768]⟩
abbrev S512x8x96 : Shape := ⟨3, ![512, 8, 96]⟩
abbrev S_ : Shape := ⟨0, ![]⟩
abbrev S512x8x128 : Shape := ⟨3, ![512, 8, 128]⟩
abbrev S512x1024 : Shape := ⟨2, ![512, 1024]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S512x768, .f32⟩
  | .hbm, ⟨2, _⟩ => ⟨S512x768, .bf16⟩
  | .hbm, ⟨3, _⟩ => ⟨S512x8x96, .bf16⟩
  | .hbm, ⟨4, _⟩ => ⟨S_, .i32⟩
  | .hbm, ⟨5, _⟩ => ⟨S_, .bf16⟩
  | .hbm, ⟨6, _⟩ => ⟨S512x8x128, .bf16⟩
  | .hbm, ⟨7, _⟩ => ⟨S512x1024, .bf16⟩
  | .hbm, ⟨8, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S2048x512 : Shape := ⟨2, ![2048, 512]⟩
abbrev S512x768 : Shape := ⟨2, ![512, 768]⟩
abbrev S2048x768 : Shape := ⟨2, ![2048, 768]⟩
abbrev S2048x8x96 : Shape := ⟨3, ![2048, 8, 96]⟩
abbrev S_ : Shape := ⟨0, ![]⟩
abbrev S2048x8x32 : Shape := ⟨3, ![2048, 8, 32]⟩
abbrev S2048x8x128 : Shape := ⟨3, ![2048, 8, 128]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x768, .f32⟩
  | .hbm, ⟨2, _⟩ => ⟨S2048x512, .f32⟩
  | .hbm, ⟨3, _⟩ => ⟨S2048x768, .f32⟩
  | .hbm, ⟨4, _⟩ => ⟨S2048x8x96, .f32⟩
  | .hbm, ⟨5, _⟩ => ⟨S_, .f32⟩
  | .hbm, ⟨6, _⟩ => ⟨S2048x8x32, .f32⟩
  | .hbm, ⟨7, _⟩ => ⟨S2048x8x128, .f32⟩
  | .hbm, ⟨8, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S2048x256 : Shape := ⟨2, ![2048, 256]⟩
abbrev S256x1024 : Shape := ⟨2, ![256, 1024]⟩
abbrev S256x8x128 : Shape := ⟨3, ![256, 8, 128]⟩
abbrev S256x8x64 : Shape := ⟨3, ![256, 8, 64]⟩
abbrev S_ : Shape := ⟨0, ![]⟩
abbrev S256x512 : Shape := ⟨2, ![256, 512]⟩
abbrev S256x1536 : Shape := ⟨2, ![256, 1536]⟩
abbrev S2048x1536 : Shape := ⟨2, ![2048, 1536]⟩
abbrev S1024x256 : Shape := ⟨2, ![1024, 256]⟩
abbrev S1024x1536 : Shape := ⟨2, ![1024, 1536]⟩

abbrev nBuf : Space → Nat
  | .hbm => 13
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S256x1024, .f32⟩
  | .hbm, ⟨2, _⟩ => ⟨S256x1024, .bf16⟩
  | .hbm, ⟨3, _⟩ => ⟨S256x8x128, .bf16⟩
  | .hbm, ⟨4, _⟩ => ⟨S256x8x64, .bf16⟩
  | .hbm, ⟨5, _⟩ => ⟨S_, .i32⟩
  | .hbm, ⟨6, _⟩ => ⟨S_, .bf16⟩
  | .hbm, ⟨7, _⟩ => ⟨S256x8x128, .bf16⟩
  | .hbm, ⟨8, _⟩ => ⟨S256x1024, .bf16⟩
  | .hbm, ⟨9, _⟩ => ⟨S256x8x64, .bf16⟩
  | .hbm, ⟨10, _⟩ => ⟨S256x512, .bf16⟩
  | .hbm, ⟨11, _⟩ => ⟨S256x1536, .bf16⟩
  | .hbm, ⟨12, _⟩ => ⟨S2048x1536, .f32⟩
  | .local _ .vmem, ⟨0, _⟩ => ⟨S1024x256, .bf16⟩
  | .local _ .vmem, ⟨1, _⟩ => ⟨S1024x256, .bf16⟩
  | .local _ .vmem, ⟨2, _⟩ => ⟨S256x1536, .bf16⟩
  | .local _ .vmem, ⟨3, _⟩ => ⟨S1024x1536, .f32⟩
  | .local _ .vmem, ⟨4, _⟩ => ⟨S1024x1536, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S2048x256 : Shape := ⟨2, ![2048, 256]⟩
abbrev S256x1024 : Shape := ⟨2, ![256, 1024]⟩
abbrev S2048x1024 : Shape := ⟨2, ![2048, 1024]⟩
abbrev S2048x8x128 : Shape := ⟨3, ![2048, 8, 128]⟩
abbrev S2048x8x64 : Shape := ⟨3, ![2048, 8, 64]⟩
abbrev S_ : Shape := ⟨0, ![]⟩
abbrev S2048x512 : Shape := ⟨2, ![2048, 512]⟩
abbrev S2048x1536 : Shape := ⟨2, ![2048, 1536]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x1024, .f32⟩
  | .hbm, ⟨2, _⟩ => ⟨S2048x256, .f32⟩
  | .hbm, ⟨3, _⟩ => ⟨S2048x1024, .f32⟩
  | .hbm, ⟨4, _⟩ => ⟨S2048x8x128, .f32⟩
  | .hbm, ⟨5, _⟩ => ⟨S2048x8x64, .f32⟩
  | .hbm, ⟨6, _⟩ => ⟨S2048x8x64, .f32⟩
  | .hbm, ⟨7, _⟩ => ⟨S_, .f32⟩
  | .hbm, ⟨8, _⟩ => ⟨S2048x8x64, .f32⟩
  | .hbm, ⟨9, _⟩ => ⟨S2048x8x128, .f32⟩
  | .hbm, ⟨10, _⟩ => ⟨S2048x1024, .f32⟩
  | .hbm, ⟨11, _⟩ => ⟨S2048x512, .f32⟩
  | .hbm, ⟨12, _⟩ => ⟨S2048x1536, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel18.lean ====
abbrev S512x768 : Shape := ⟨2, ![512, 768]⟩
abbrev S2048x1024 : Shape := ⟨2, ![2048, 1024]⟩
abbrev S512x8x96 : Shape := ⟨3, ![512, 8, 96]⟩
abbrev S_ : Shape := ⟨0, ![]⟩
abbrev S512x8x128 : Shape := ⟨3, ![512, 8, 128]⟩
abbrev S512x1024 : Shape := ⟨2, ![512, 1024]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 9
  | .vmem => 5
  | .smem => 0
  | _ => 0

abbrev bufTy : (tb : Table) → Fin (tcTables nBuf tb) → BufTy
  | .hbm, ⟨0, _⟩ => ⟨S512x768, .f32⟩
  | .hbm, ⟨1, _⟩ => ⟨S2048x1024, .bf16⟩
  | .hbm, ⟨2, _⟩ => ⟨S512x768, .bf16⟩
  | .hbm, ⟨3, _⟩ => ⟨S512x8x96, .bf16⟩
  | .hbm, ⟨4, _⟩ => ⟨S_, .i32⟩
  | .hbm, ⟨5, _⟩ => ⟨S_, .bf16⟩
  | .hbm, ⟨6, _⟩ => ⟨S512x8x128, .bf16⟩
  | .hbm, ⟨7, _⟩ => ⟨S512x1024, .bf16⟩
  | .hbm, ⟨8, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S512x768 : Shape := ⟨2, ![512, 768]⟩
abbrev S2048x1024 : Shape := ⟨2, ![2048, 1024]⟩
abbrev S_ : Shape := ⟨0, ![]⟩
abbrev S2048x512 : Shape := ⟨2, ![2048, 512]⟩
abbrev S2048x768 : Shape := ⟨2, ![2048, 768]⟩
abbrev S2048x8x96 : Shape := ⟨3, ![2048, 8, 96]⟩
abbrev S2048x8x32 : Shape := ⟨3, ![2048, 8, 32]⟩
abbrev S2048x8x128 : Shape := ⟨3, ![2048, 8, 128]⟩

abbrev nBuf : Space → Nat
  | .hbm => 18
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S2048x1024, .bf16⟩
  | .hbm, ⟨2, _⟩ => ⟨S_, .f32⟩
  | .hbm, ⟨3, _⟩ => ⟨S2048x512, .f32⟩
  | .hbm, ⟨4, _⟩ => ⟨S2048x768, .f32⟩
  | .hbm, ⟨5, _⟩ => ⟨S2048x8x96, .f32⟩
  | .hbm, ⟨6, _⟩ => ⟨S_, .f32⟩
  | .hbm, ⟨7, _⟩ => ⟨S2048x8x32, .f32⟩
  | .hbm, ⟨8, _⟩ => ⟨S2048x8x128, .f32⟩
  | .hbm, ⟨9, _⟩ => ⟨S_, .f32⟩
  | .hbm, ⟨10, _⟩ => ⟨S2048x8x32, .f32⟩
  | .hbm, ⟨11, _⟩ => ⟨S2048x1024, .f32⟩
  | .hbm, ⟨12, _⟩ => ⟨S2048x1024, .f32⟩
  | .hbm, ⟨13, _⟩ => ⟨S2048x8x128, .f32⟩
  | .hbm, ⟨14, _⟩ => ⟨S2048x8x96, .f32⟩
  | .hbm, ⟨15, _⟩ => ⟨S2048x8x32, .f32⟩
  | .hbm, ⟨16, _⟩ => ⟨S2048x768, .f32⟩
  | .hbm, ⟨17, _⟩ => ⟨S2048x512, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel19.lean ====
abbrev S256x1024 : Shape := ⟨2, ![256, 1024]⟩
abbrev S2048x1536 : Shape := ⟨2, ![2048, 1536]⟩
abbrev S256x8x128 : Shape := ⟨3, ![256, 8, 128]⟩
abbrev S256x8x64 : Shape := ⟨3, ![256, 8, 64]⟩
abbrev S_ : Shape := ⟨0, ![]⟩
abbrev S256x512 : Shape := ⟨2, ![256, 512]⟩
abbrev S256x1536 : Shape := ⟨2, ![256, 1536]⟩
abbrev S2048x256 : Shape := ⟨2, ![2048, 256]⟩
abbrev S1024x1536 : Shape := ⟨2, ![1024, 1536]⟩
abbrev S1024x256 : Shape := ⟨2, ![1024, 256]⟩

abbrev nBuf : Space → Nat
  | .hbm => 13
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S2048x1536, .bf16⟩
  | .hbm, ⟨2, _⟩ => ⟨S256x1024, .bf16⟩
  | .hbm, ⟨3, _⟩ => ⟨S256x8x128, .bf16⟩
  | .hbm, ⟨4, _⟩ => ⟨S256x8x64, .bf16⟩
  | .hbm, ⟨5, _⟩ => ⟨S_, .i32⟩
  | .hbm, ⟨6, _⟩ => ⟨S_, .bf16⟩
  | .hbm, ⟨7, _⟩ => ⟨S256x8x128, .bf16⟩
  | .hbm, ⟨8, _⟩ => ⟨S256x1024, .bf16⟩
  | .hbm, ⟨9, _⟩ => ⟨S256x8x64, .bf16⟩
  | .hbm, ⟨10, _⟩ => ⟨S256x512, .bf16⟩
  | .hbm, ⟨11, _⟩ => ⟨S256x1536, .bf16⟩
  | .hbm, ⟨12, _⟩ => ⟨S2048x256, .f32⟩
  | .local _ .vmem, ⟨0, _⟩ => ⟨S1024x1536, .bf16⟩
  | .local _ .vmem, ⟨1, _⟩ => ⟨S1024x1536, .bf16⟩
  | .local _ .vmem, ⟨2, _⟩ => ⟨S256x1536, .bf16⟩
  | .local _ .vmem, ⟨3, _⟩ => ⟨S1024x256, .f32⟩
  | .local _ .vmem, ⟨4, _⟩ => ⟨S1024x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S256x1024 : Shape := ⟨2, ![256, 1024]⟩
abbrev S2048x1536 : Shape := ⟨2, ![2048, 1536]⟩
abbrev S_ : Shape := ⟨0, ![]⟩
abbrev S2048x256 : Shape := ⟨2, ![2048, 256]⟩
abbrev S2048x1024 : Shape := ⟨2, ![2048, 1024]⟩
abbrev S2048x8x128 : Shape := ⟨3, ![2048, 8, 128]⟩
abbrev S2048x8x64 : Shape := ⟨3, ![2048, 8, 64]⟩
abbrev S2048x512 : Shape := ⟨2, ![2048, 512]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1536, .bf16⟩
  | .hbm, ⟨2, _⟩ => ⟨S_, .f32⟩
  | .hbm, ⟨3, _⟩ => ⟨S2048x256, .f32⟩
  | .hbm, ⟨4, _⟩ => ⟨S2048x1024, .f32⟩
  | .hbm, ⟨5, _⟩ => ⟨S2048x8x128, .f32⟩
  | .hbm, ⟨6, _⟩ => ⟨S2048x8x64, .f32⟩
  | .hbm, ⟨7, _⟩ => ⟨S2048x8x64, .f32⟩
  | .hbm, ⟨8, _⟩ => ⟨S_, .f32⟩
  | .hbm, ⟨9, _⟩ => ⟨S2048x8x64, .f32⟩
  | .hbm, ⟨10, _⟩ => ⟨S2048x8x128, .f32⟩
  | .hbm, ⟨11, _⟩ => ⟨S_, .f32⟩
  | .hbm, ⟨12, _⟩ => ⟨S2048x8x64, .f32⟩
  | .hbm, ⟨13, _⟩ => ⟨S2048x1024, .f32⟩
  | .hbm, ⟨14, _⟩ => ⟨S2048x512, .f32⟩
  | .hbm, ⟨15, _⟩ => ⟨S2048x1536, .f32⟩
  | .hbm, ⟨16, _⟩ => ⟨S2048x1536, .f32⟩
  | .hbm, ⟨17, _⟩ => ⟨S2048x1024, .f32⟩
  | .hbm, ⟨18, _⟩ => ⟨S2048x512, .f32⟩
  | .hbm, ⟨19, _⟩ => ⟨S2048x8x64, .f32⟩
  | .hbm, ⟨20, _⟩ => ⟨S2048x8x128, .f32⟩
  | .hbm, ⟨21, _⟩ => ⟨S2048x8x64, .f32⟩
  | .hbm, ⟨22, _⟩ => ⟨S2048x8x64, .f32⟩
  | .hbm, ⟨23, _⟩ => ⟨S2048x8x128, .f32⟩
  | .hbm, ⟨24, _⟩ => ⟨S2048x1024, .f32⟩
  | .hbm, ⟨25, _⟩ => ⟨S2048x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel20.lean ====
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S512x1024, .f32⟩
  | .local _ .vmem, ⟨0, _⟩ => ⟨S2048x512, .bf16⟩
  | .local _ .vmem, ⟨1, _⟩ => ⟨S2048x1024, .bf16⟩
  | .local _ .vmem, ⟨2, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference20Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S2048x256 : Shape := ⟨2, ![2048, 256]⟩
abbrev S2048x1536 : Shape := ⟨2, ![2048, 1536]⟩
abbrev S256x1536 : Shape := ⟨2, ![256, 1536]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x1536, .bf16⟩
  | .hbm, ⟨2, _⟩ => ⟨S256x1536, .f32⟩
  | .local _ .vmem, ⟨0, _⟩ => ⟨S2048x256, .bf16⟩
  | .local _ .vmem, ⟨1, _⟩ => ⟨S2048x1536, .bf16⟩
  | .local _ .vmem, ⟨2, _⟩ => ⟨S256x1536, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference21Ideal.lean ====
abbrev S2048x256 : Shape := ⟨2, ![2048, 256]⟩
abbrev S2048x1536 : Shape := ⟨2, ![2048, 1536]⟩
abbrev S_ : Shape := ⟨0, ![]⟩
abbrev S256x1536 : Shape := ⟨2, ![256, 1536]⟩
abbrev S1536x256 : Shape := ⟨2, ![1536, 256]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x1536, .bf16⟩
  | .hbm, ⟨2, _⟩ => ⟨S_, .f32⟩
  | .hbm, ⟨3, _⟩ => ⟨S256x1536, .f32⟩
  | .hbm, ⟨4, _⟩ => ⟨S2048x256, .f32⟩
  | .hbm, ⟨5, _⟩ => ⟨S2048x1536, .f32⟩
  | .hbm, ⟨6, _⟩ => ⟨S2048x1536, .f32⟩
  | .hbm, ⟨7, _⟩ => ⟨S1536x256, .f32⟩
  | .hbm, ⟨8, _⟩ => ⟨S256x1536, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel30.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S584x1024 : Shape := ⟨2, ![584, 1024]⟩

abbrev nBuf : Space → Nat
  | .hbm => 7
  | .vmem => 7
  | .smem => 0
  | _ => 0

abbrev bufTy : (tb : Table) → Fin (tcTables nBuf tb) → BufTy
  | .hbm, ⟨0, _⟩ => ⟨S584x1024, .f32⟩
  | .hbm, ⟨1, _⟩ => ⟨S584x1024, .f32⟩
  | .hbm, ⟨2, _⟩ => ⟨S584x1024, .f32⟩
  | .hbm, ⟨3, _⟩ => ⟨S584x1024, .f32⟩
  | .hbm, ⟨4, _⟩ => ⟨S584x1024, .f32⟩
  | .hbm, ⟨5, _⟩ => ⟨S584x1024, .f32⟩
  | .hbm, ⟨6, _⟩ => ⟨S584x1024, .f32⟩
  | .local _ .vmem, ⟨0, _⟩ => ⟨S584x1024, .f32⟩
  | .local _ .vmem, ⟨1, _⟩ => ⟨S584x1024, .f32⟩
  | .local _ .vmem, ⟨2, _⟩ => ⟨S584x1024, .f32⟩
  | .local _ .vmem, ⟨3, _⟩ => ⟨S584x1024, .f32⟩
  | .local _ .vmem, ⟨4, _⟩ => ⟨S584x1024, .f32⟩
  | .local _ .vmem, ⟨5, _⟩ => ⟨S584x1024, .f32⟩
  | .local _ .vmem, ⟨6, _⟩ => ⟨S584x1024, .f32⟩
  | _, _ => ⟨S584x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S584x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S584x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S584x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S584x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S584x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S584x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S584x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S584x1024 : Shape := ⟨2, ![584, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S584x1024, .f32⟩
  | .hbm, ⟨1, _⟩ => ⟨S584x1024, .f32⟩
  | .hbm, ⟨2, _⟩ => ⟨S584x1024, .f32⟩
  | .hbm, ⟨3, _⟩ => ⟨S584x1024, .f32⟩
  | .hbm, ⟨4, _⟩ => ⟨S_, .f32⟩
  | .hbm, ⟨5, _⟩ => ⟨S584x1024, .f32⟩
  | .hbm, ⟨6, _⟩ => ⟨S584x1024, .f32⟩
  | .hbm, ⟨7, _⟩ => ⟨S_, .f32⟩
  | .hbm, ⟨8, _⟩ => ⟨S584x1024, .f32⟩
  | .hbm, ⟨9, _⟩ => ⟨S584x1024, .f32⟩
  | .hbm, ⟨10, _⟩ => ⟨S584x1024, .f32⟩
  | .hbm, ⟨11, _⟩ => ⟨S_, .f32⟩
  | .hbm, ⟨12, _⟩ => ⟨S584x1024, .f32⟩
  | .hbm, ⟨13, _⟩ => ⟨S584x1024, .f32⟩
  | .hbm, ⟨14, _⟩ => ⟨S584x1024, .f32⟩
  | .hbm, ⟨15, _⟩ => ⟨S_, .f32⟩
  | .hbm, ⟨16, _⟩ => ⟨S584x1024, .f32⟩
  | .hbm, ⟨17, _⟩ => ⟨S584x1024, .f32⟩
  | .hbm, ⟨18, _⟩ => ⟨S584x1024, .f32⟩
  | .hbm, ⟨19, _⟩ => ⟨S_, .f32⟩
  | .hbm, ⟨20, _⟩ => ⟨S584x1024, .f32⟩
  | .hbm, ⟨21, _⟩ => ⟨S584x1024, .f32⟩
  | .hbm, ⟨22, _⟩ => ⟨S_, .f32⟩
  | .hbm, ⟨23, _⟩ => ⟨S584x1024, .f32⟩
  | .hbm, ⟨24, _⟩ => ⟨S584x1024, .f32⟩
  | .hbm, ⟨25, _⟩ => ⟨S584x1024, .f32⟩
  | .hbm, ⟨26, _⟩ => ⟨S_, .f32⟩
  | .hbm, ⟨27, _⟩ => ⟨S584x1024, .f32⟩
  | .hbm, ⟨28, _⟩ => ⟨S584x1024, .f32⟩
  | .hbm, ⟨29, _⟩ => ⟨S584x1024, .f32⟩
  | .hbm, ⟨30, _⟩ => ⟨S_, .f32⟩
  | .hbm, ⟨31, _⟩ => ⟨S584x1024, .f32⟩
  | .hbm, ⟨32, _⟩ => ⟨S584x1024, .f32⟩
  | .hbm, ⟨33, _⟩ => ⟨S584x1024, .f32⟩
  | .hbm, ⟨34, _⟩ => ⟨S_, .f32⟩
  | .hbm, ⟨35, _⟩ => ⟨S584x1024, .f32⟩
  | .hbm, ⟨36, _⟩ => ⟨S584x1024, .f32⟩
  | _, _ => ⟨S584x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S192x512 : Shape := ⟨2, ![192, 512]⟩
abbrev S64x512 : Shape := ⟨2, ![64, 512]⟩

abbrev nBuf : Space → Nat
  | .hbm => 7
  | .vmem => 14
  | .smem => 0
  | _ => 0

abbrev bufTy : (tb : Table) → Fin (tcTables nBuf tb) → BufTy
  | .hbm, ⟨0, _⟩ => ⟨S192x512, .f32⟩
  | .hbm, ⟨1, _⟩ => ⟨S192x512, .f32⟩
  | .hbm, ⟨2, _⟩ => ⟨S192x512, .f32⟩
  | .hbm, ⟨3, _⟩ => ⟨S192x512, .f32⟩
  | .hbm, ⟨4, _⟩ => ⟨S192x512, .f32⟩
  | .hbm, ⟨5, _⟩ => ⟨S192x512, .f32⟩
  | .hbm, ⟨6, _⟩ => ⟨S192x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | _, _ => ⟨S192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S192x512 : Shape := ⟨2, ![192, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x512, .f32⟩
  | .hbm, ⟨1, _⟩ => ⟨S192x512, .f32⟩
  | .hbm, ⟨2, _⟩ => ⟨S192x512, .f32⟩
  | .hbm, ⟨3, _⟩ => ⟨S192x512, .f32⟩
  | .hbm, ⟨4, _⟩ => ⟨S_, .f32⟩
  | .hbm, ⟨5, _⟩ => ⟨S192x512, .f32⟩
  | .hbm, ⟨6, _⟩ => ⟨S192x512, .f32⟩
  | .hbm, ⟨7, _⟩ => ⟨S_, .f32⟩
  | .hbm, ⟨8, _⟩ => ⟨S192x512, .f32⟩
  | .hbm, ⟨9, _⟩ => ⟨S192x512, .f32⟩
  | .hbm, ⟨10, _⟩ => ⟨S192x512, .f32⟩
  | .hbm, ⟨11, _⟩ => ⟨S_, .f32⟩
  | .hbm, ⟨12, _⟩ => ⟨S192x512, .f32⟩
  | .hbm, ⟨13, _⟩ => ⟨S192x512, .f32⟩
  | .hbm, ⟨14, _⟩ => ⟨S192x512, .f32⟩
  | .hbm, ⟨15, _⟩ => ⟨S_, .f32⟩
  | .hbm, ⟨16, _⟩ => ⟨S192x512, .f32⟩
  | .hbm, ⟨17, _⟩ => ⟨S192x512, .f32⟩
  | .hbm, ⟨18, _⟩ => ⟨S192x512, .f32⟩
  | .hbm, ⟨19, _⟩ => ⟨S_, .f32⟩
  | .hbm, ⟨20, _⟩ => ⟨S192x512, .f32⟩
  | .hbm, ⟨21, _⟩ => ⟨S192x512, .f32⟩
  | .hbm, ⟨22, _⟩ => ⟨S_, .f32⟩
  | .hbm, ⟨23, _⟩ => ⟨S192x512, .f32⟩
  | .hbm, ⟨24, _⟩ => ⟨S192x512, .f32⟩
  | .hbm, ⟨25, _⟩ => ⟨S192x512, .f32⟩
  | .hbm, ⟨26, _⟩ => ⟨S_, .f32⟩
  | .hbm, ⟨27, _⟩ => ⟨S192x512, .f32⟩
  | .hbm, ⟨28, _⟩ => ⟨S192x512, .f32⟩
  | .hbm, ⟨29, _⟩ => ⟨S192x512, .f32⟩
  | .hbm, ⟨30, _⟩ => ⟨S_, .f32⟩
  | .hbm, ⟨31, _⟩ => ⟨S192x512, .f32⟩
  | .hbm, ⟨32, _⟩ => ⟨S192x512, .f32⟩
  | .hbm, ⟨33, _⟩ => ⟨S192x512, .f32⟩
  | .hbm, ⟨34, _⟩ => ⟨S_, .f32⟩
  | .hbm, ⟨35, _⟩ => ⟨S192x512, .f32⟩
  | .hbm, ⟨36, _⟩ => ⟨S192x512, .f32⟩
  | _, _ => ⟨S192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S256x256 : Shape := ⟨2, ![256, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference35Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S3x1408 : Shape := ⟨2, ![3, 1408]⟩

abbrev nBuf : Space → Nat
  | .hbm => 7
  | .vmem => 7
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S1x6144 : Shape := ⟨2, ![1, 6144]⟩
abbrev S1x1024 : Shape := ⟨2, ![1, 1024]⟩
abbrev S1x512 : Shape := ⟨2, ![1, 512]⟩
abbrev S1x256 : Shape := ⟨2, ![1, 256]⟩
abbrev S1x64 : Shape := ⟨2, ![1, 64]⟩
abbrev S1x32 : Shape := ⟨2, ![1, 32]⟩
abbrev S1x5632 : Shape := ⟨2, ![1, 5632]⟩

abbrev nBuf : Space → Nat
  | .hbm => 84
  | .vmem => 84
  | .smem => 0
  | _ => 0

abbrev bufTy : (tb : Table) → Fin (tcTables nBuf tb) → BufTy
  | .hbm, ⟨0, _⟩ => ⟨S1x6144, .f32⟩
  | .hbm, ⟨1, _⟩ => ⟨S1x1024, .f32⟩
  | .hbm, ⟨2, _⟩ => ⟨S1x512, .f32⟩
  | .hbm, ⟨3, _⟩ => ⟨S1x256, .f32⟩
  | .hbm, ⟨4, _⟩ => ⟨S1x64, .f32⟩
  | .hbm, ⟨5, _⟩ => ⟨S1x32, .f32⟩
  | .hbm, ⟨6, _⟩ => ⟨S1x64, .f32⟩
  | .hbm, ⟨7, _⟩ => ⟨S1x32, .f32⟩
  | .hbm, ⟨8, _⟩ => ⟨S1x64, .f32⟩
  | .hbm, ⟨9, _⟩ => ⟨S1x64, .f32⟩
  | .hbm, ⟨10, _⟩ => ⟨S1x1024, .f32⟩
  | .hbm, ⟨11, _⟩ => ⟨S1x5632, .f32⟩
  | .hbm, ⟨12, _⟩ => ⟨S1x6144, .f32⟩
  | .hbm, ⟨13, _⟩ => ⟨S1x1024, .f32⟩
  | .hbm, ⟨14, _⟩ => ⟨S1x512, .f32⟩
  | .hbm, ⟨15, _⟩ => ⟨S1x256, .f32⟩
  | .hbm, ⟨16, _⟩ => ⟨S1x64, .f32⟩
  | .hbm, ⟨17, _⟩ => ⟨S1x32, .f32⟩
  | .hbm, ⟨18, _⟩ => ⟨S1x64, .f32⟩
  | .hbm, ⟨19, _⟩ => ⟨S1x32, .f32⟩
  | .hbm, ⟨20, _⟩ => ⟨S1x64, .f32⟩
  | .hbm, ⟨21, _⟩ => ⟨S1x64, .f32⟩
  | .hbm, ⟨22, _⟩ => ⟨S1x1024, .f32⟩
  | .hbm, ⟨23, _⟩ => ⟨S1x5632, .f32⟩
  | .hbm, ⟨24, _⟩ => ⟨S1x6144, .f32⟩
  | .hbm, ⟨25, _⟩ => ⟨S1x1024, .f32⟩
  | .hbm, ⟨26, _⟩ => ⟨S1x512, .f32⟩
  | .hbm, ⟨27, _⟩ => ⟨S1x256, .f32⟩
  | .hbm, ⟨28, _⟩ => ⟨S1x64, .f32⟩
  | .hbm, ⟨29, _⟩ => ⟨S1x32, .f32⟩
  | .hbm, ⟨30, _⟩ => ⟨S1x64, .f32⟩
  | .hbm, ⟨31, _⟩ => ⟨S1x32, .f32⟩
  | .hbm, ⟨32, _⟩ => ⟨S1x64, .f32⟩
  | .hbm, ⟨33, _⟩ => ⟨S1x64, .f32⟩
  | .hbm, ⟨34, _⟩ => ⟨S1x1024, .f32⟩
  | .hbm, ⟨35, _⟩ => ⟨S1x5632, .f32⟩
  | .hbm, ⟨36, _⟩ => ⟨S1x6144, .f32⟩
  | .hbm, ⟨37, _⟩ => ⟨S1x1024, .f32⟩
  | .hbm, ⟨38, _⟩ => ⟨S1x512, .f32⟩
  | .hbm, ⟨39, _⟩ => ⟨S1x256, .f32⟩
  | .hbm, ⟨40, _⟩ => ⟨S1x64, .f32⟩
  | .hbm, ⟨41, _⟩ => ⟨S1x32, .f32⟩
  | .hbm, ⟨42, _⟩ => ⟨S1x64, .f32⟩
  | .hbm, ⟨43, _⟩ => ⟨S1x32, .f32⟩
  | .hbm, ⟨44, _⟩ => ⟨S1x64, .f32⟩
  | .hbm, ⟨45, _⟩ => ⟨S1x64, .f32⟩
  | .hbm, ⟨46, _⟩ => ⟨S1x1024, .f32⟩
  | .hbm, ⟨47, _⟩ => ⟨S1x5632, .f32⟩
  | .hbm, ⟨48, _⟩ => ⟨S1x6144, .f32⟩
  | .hbm, ⟨49, _⟩ => ⟨S1x1024, .f32⟩
  | .hbm, ⟨50, _⟩ => ⟨S1x512, .f32⟩
  | .hbm, ⟨51, _⟩ => ⟨S1x256, .f32⟩
  | .hbm, ⟨52, _⟩ => ⟨S1x64, .f32⟩
  | .hbm, ⟨53, _⟩ => ⟨S1x32, .f32⟩
  | .hbm, ⟨54, _⟩ => ⟨S1x64, .f32⟩
  | .hbm, ⟨55, _⟩ => ⟨S1x32, .f32⟩
  | .hbm, ⟨56, _⟩ => ⟨S1x64, .f32⟩
  | .hbm, ⟨57, _⟩ => ⟨S1x64, .f32⟩
  | .hbm, ⟨58, _⟩ => ⟨S1x1024, .f32⟩
  | .hbm, ⟨59, _⟩ => ⟨S1x5632, .f32⟩
  | .hbm, ⟨60, _⟩ => ⟨S1x6144, .f32⟩
  | .hbm, ⟨61, _⟩ => ⟨S1x1024, .f32⟩
  | .hbm, ⟨62, _⟩ => ⟨S1x512, .f32⟩
  | .hbm, ⟨63, _⟩ => ⟨S1x256, .f32⟩
  | .hbm, ⟨64, _⟩ => ⟨S1x64, .f32⟩
  | .hbm, ⟨65, _⟩ => ⟨S1x32, .f32⟩
  | .hbm, ⟨66, _⟩ => ⟨S1x64, .f32⟩
  | .hbm, ⟨67, _⟩ => ⟨S1x32, .f32⟩
  | .hbm, ⟨68, _⟩ => ⟨S1x64, .f32⟩
  | .hbm, ⟨69, _⟩ => ⟨S1x64, .f32⟩
  | .hbm, ⟨70, _⟩ => ⟨S1x1024, .f32⟩
  | .hbm, ⟨71, _⟩ => ⟨S1x5632, .f32⟩
  | .hbm, ⟨72, _⟩ => ⟨S1x6144, .f32⟩
  | .hbm, ⟨73, _⟩ => ⟨S1x1024, .f32⟩
  | .hbm, ⟨74, _⟩ => ⟨S1x512, .f32⟩
  | .hbm, ⟨75, _⟩ => ⟨S1x256, .f32⟩
  | .hbm, ⟨76, _⟩ => ⟨S1x64, .f32⟩
  | .hbm, ⟨77, _⟩ => ⟨S1x32, .f32⟩
  | .hbm, ⟨78, _⟩ => ⟨S1x64, .f32⟩
  | .hbm, ⟨79, _⟩ => ⟨S1x32, .f32⟩
  | .hbm, ⟨80, _⟩ => ⟨S1x64, .f32⟩
  | .hbm, ⟨81, _⟩ => ⟨S1x64, .f32⟩
  | .hbm, ⟨82, _⟩ => ⟨S1x1024, .f32⟩
  | .hbm, ⟨83, _⟩ => ⟨S1x5632, .f32⟩
  | .local _ .vmem, ⟨0, _⟩ => ⟨S1x6144, .f32⟩
  | .local _ .vmem, ⟨1, _⟩ => ⟨S1x1024, .f32⟩
  | .local _ .vmem, ⟨2, _⟩ => ⟨S1x512, .f32⟩
  | .local _ .vmem, ⟨3, _⟩ => ⟨S1x256, .f32⟩
  | .local _ .vmem, ⟨4, _⟩ => ⟨S1x64, .f32⟩
  | .local _ .vmem, ⟨5, _⟩ => ⟨S1x32, .f32⟩
  | .local _ .vmem, ⟨6, _⟩ => ⟨S1x64, .f32⟩
  | .local _ .vmem, ⟨7, _⟩ => ⟨S1x32, .f32⟩
  | .local _ .vmem, ⟨8, _⟩ => ⟨S1x64, .f32⟩
  | .local _ .vmem, ⟨9, _⟩ => ⟨S1x64, .f32⟩
  | .local _ .vmem, ⟨10, _⟩ => ⟨S1x1024, .f32⟩
  | .local _ .vmem, ⟨11, _⟩ => ⟨S1x5632, .f32⟩
  | .local _ .vmem, ⟨12, _⟩ => ⟨S1x6144, .f32⟩
  | .local _ .vmem, ⟨13, _⟩ => ⟨S1x1024, .f32⟩
  | .local _ .vmem, ⟨14, _⟩ => ⟨S1x512, .f32⟩
  | .local _ .vmem, ⟨15, _⟩ => ⟨S1x256, .f32⟩
  | .local _ .vmem, ⟨16, _⟩ => ⟨S1x64, .f32⟩
  | .local _ .vmem, ⟨17, _⟩ => ⟨S1x32, .f32⟩
  | .local _ .vmem, ⟨18, _⟩ => ⟨S1x64, .f32⟩
  | .local _ .vmem, ⟨19, _⟩ => ⟨S1x32, .f32⟩
  | .local _ .vmem, ⟨20, _⟩ => ⟨S1x64, .f32⟩
  | .local _ .vmem, ⟨21, _⟩ => ⟨S1x64, .f32⟩
  | .local _ .vmem, ⟨22, _⟩ => ⟨S1x1024, .f32⟩
  | .local _ .vmem, ⟨23, _⟩ => ⟨S1x5632, .f32⟩
  | .local _ .vmem, ⟨24, _⟩ => ⟨S1x6144, .f32⟩
  | .local _ .vmem, ⟨25, _⟩ => ⟨S1x1024, .f32⟩
  | .local _ .vmem, ⟨26, _⟩ => ⟨S1x512, .f32⟩
  | .local _ .vmem, ⟨27, _⟩ => ⟨S1x256, .f32⟩
  | .local _ .vmem, ⟨28, _⟩ => ⟨S1x64, .f32⟩
  | .local _ .vmem, ⟨29, _⟩ => ⟨S1x32, .f32⟩
  | .local _ .vmem, ⟨30, _⟩ => ⟨S1x64, .f32⟩
  | .local _ .vmem, ⟨31, _⟩ => ⟨S1x32, .f32⟩
  | .local _ .vmem, ⟨32, _⟩ => ⟨S1x64, .f32⟩
  | .local _ .vmem, ⟨33, _⟩ => ⟨S1x64, .f32⟩
  | .local _ .vmem, ⟨34, _⟩ => ⟨S1x1024, .f32⟩
  | .local _ .vmem, ⟨35, _⟩ => ⟨S1x5632, .f32⟩
  | .local _ .vmem, ⟨36, _⟩ => ⟨S1x6144, .f32⟩
  | .local _ .vmem, ⟨37, _⟩ => ⟨S1x1024, .f32⟩
  | .local _ .vmem, ⟨38, _⟩ => ⟨S1x512, .f32⟩
  | .local _ .vmem, ⟨39, _⟩ => ⟨S1x256, .f32⟩
  | .local _ .vmem, ⟨40, _⟩ => ⟨S1x64, .f32⟩
  | .local _ .vmem, ⟨41, _⟩ => ⟨S1x32, .f32⟩
  | .local _ .vmem, ⟨42, _⟩ => ⟨S1x64, .f32⟩
  | .local _ .vmem, ⟨43, _⟩ => ⟨S1x32, .f32⟩
  | .local _ .vmem, ⟨44, _⟩ => ⟨S1x64, .f32⟩
  | .local _ .vmem, ⟨45, _⟩ => ⟨S1x64, .f32⟩
  | .local _ .vmem, ⟨46, _⟩ => ⟨S1x1024, .f32⟩
  | .local _ .vmem, ⟨47, _⟩ => ⟨S1x5632, .f32⟩
  | .local _ .vmem, ⟨48, _⟩ => ⟨S1x6144, .f32⟩
  | .local _ .vmem, ⟨49, _⟩ => ⟨S1x1024, .f32⟩
  | .local _ .vmem, ⟨50, _⟩ => ⟨S1x512, .f32⟩
  | .local _ .vmem, ⟨51, _⟩ => ⟨S1x256, .f32⟩
  | .local _ .vmem, ⟨52, _⟩ => ⟨S1x64, .f32⟩
  | .local _ .vmem, ⟨53, _⟩ => ⟨S1x32, .f32⟩
  | .local _ .vmem, ⟨54, _⟩ => ⟨S1x64, .f32⟩
  | .local _ .vmem, ⟨55, _⟩ => ⟨S1x32, .f32⟩
  | .local _ .vmem, ⟨56, _⟩ => ⟨S1x64, .f32⟩
  | .local _ .vmem, ⟨57, _⟩ => ⟨S1x64, .f32⟩
  | .local _ .vmem, ⟨58, _⟩ => ⟨S1x1024, .f32⟩
  | .local _ .vmem, ⟨59, _⟩ => ⟨S1x5632, .f32⟩
  | .local _ .vmem, ⟨60, _⟩ => ⟨S1x6144, .f32⟩
  | .local _ .vmem, ⟨61, _⟩ => ⟨S1x1024, .f32⟩
  | .local _ .vmem, ⟨62, _⟩ => ⟨S1x512, .f32⟩
  | .local _ .vmem, ⟨63, _⟩ => ⟨S1x256, .f32⟩
  | .local _ .vmem, ⟨64, _⟩ => ⟨S1x64, .f32⟩
  | .local _ .vmem, ⟨65, _⟩ => ⟨S1x32, .f32⟩
  | .local _ .vmem, ⟨66, _⟩ => ⟨S1x64, .f32⟩
  | .local _ .vmem, ⟨67, _⟩ => ⟨S1x32, .f32⟩
  | .local _ .vmem, ⟨68, _⟩ => ⟨S1x64, .f32⟩
  | .local _ .vmem, ⟨69, _⟩ => ⟨S1x64, .f32⟩
  | .local _ .vmem, ⟨70, _⟩ => ⟨S1x1024, .f32⟩
  | .local _ .vmem, ⟨71, _⟩ => ⟨S1x5632, .f32⟩
  | .local _ .vmem, ⟨72, _⟩ => ⟨S1x6144, .f32⟩
  | .local _ .vmem, ⟨73, _⟩ => ⟨S1x1024, .f32⟩
  | .local _ .vmem, ⟨74, _⟩ => ⟨S1x512, .f32⟩
  | .local _ .vmem, ⟨75, _⟩ => ⟨S1x256, .f32⟩
  | .local _ .vmem, ⟨76, _⟩ => ⟨S1x64, .f32⟩
  | .local _ .vmem, ⟨77, _⟩ => ⟨S1x32, .f32⟩
  | .local _ .vmem, ⟨78, _⟩ => ⟨S1x64, .f32⟩
  | .local _ .vmem, ⟨79, _⟩ => ⟨S1x32, .f32⟩
  | .local _ .vmem, ⟨80, _⟩ => ⟨S1x64, .f32⟩
  | .local _ .vmem, ⟨81, _⟩ => ⟨S1x64, .f32⟩
  | .local _ .vmem, ⟨82, _⟩ => ⟨S1x1024, .f32⟩
  | .local _ .vmem, ⟨83, _⟩ => ⟨S1x5632, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0_0 : Ref sig .tc := ⟨.hbm, 48, rfl⟩
abbrev main_v0_1 : Ref sig .tc := ⟨.hbm, 49, rfl⟩
abbrev main_v0_2 : Ref sig .tc := ⟨.hbm, 50, rfl⟩
abbrev main_v0_3 : Ref sig .tc := ⟨.hbm, 51, rfl⟩
abbrev main_v0_4 : Ref sig .tc := ⟨.hbm, 52, rfl⟩
abbrev main_v0_5 : Ref sig .tc := ⟨.hbm, 53, rfl⟩
abbrev main_v0_6 : Ref sig .tc := ⟨.hbm, 54, rfl⟩
abbrev main_v0_7 : Ref sig .tc := ⟨.hbm, 55, rfl⟩
abbrev main_v0_8 : Ref sig .tc := ⟨.hbm, 56, rfl⟩
abbrev main_v0_9 : Ref sig .tc := ⟨.hbm, 57, rfl⟩
abbrev main_v0_10 : Ref sig .tc := ⟨.hbm, 58, rfl⟩
abbrev main_v0_11 : Ref sig .tc := ⟨.hbm, 59, rfl⟩
abbrev main_v0_12 : Ref sig .tc := ⟨.hbm, 60, rfl⟩
abbrev main_v0_13 : Ref sig .tc := ⟨.hbm, 61, rfl⟩
abbrev main_v0_14 : Ref sig .tc := ⟨.hbm, 62, rfl⟩
abbrev main_v0_15 : Ref sig .tc := ⟨.hbm, 63, rfl⟩
abbrev main_v0_16 : Ref sig .tc := ⟨.hbm, 64, rfl⟩
abbrev main_v0_17 : Ref sig .tc := ⟨.hbm, 65, rfl⟩
abbrev main_v0_18 : Ref sig .tc := ⟨.hbm, 66, rfl⟩
abbrev main_v0_19 : Ref sig .tc := ⟨.hbm, 67, rfl⟩
abbrev main_v0_20 : Ref sig .tc := ⟨.hbm, 68, rfl⟩
abbrev main_v0_21 : Ref sig .tc := ⟨.hbm, 69, rfl⟩
abbrev main_v0_22 : Ref sig .tc := ⟨.hbm, 70, rfl⟩
abbrev main_v0_23 : Ref sig .tc := ⟨.hbm, 71, rfl⟩
abbrev main_v0_24 : Ref sig .tc := ⟨.hbm, 72, rfl⟩
abbrev main_v0_25 : Ref sig .tc := ⟨.hbm, 73, rfl⟩
abbrev main_v0_26 : Ref sig .tc := ⟨.hbm, 74, rfl⟩
abbrev main_v0_27 : Ref sig .tc := ⟨.hbm, 75, rfl⟩
abbrev main_v0_28 : Ref sig .tc := ⟨.hbm, 76, rfl⟩
abbrev main_v0_29 : Ref sig .tc := ⟨.hbm, 77, rfl⟩
abbrev main_v0_30 : Ref sig .tc := ⟨.hbm, 78, rfl⟩
abbrev main_v0_31 : Ref sig .tc := ⟨.hbm, 79, rfl⟩
abbrev main_v0_32 : Ref sig .tc := ⟨.hbm, 80, rfl⟩
abbrev main_v0_33 : Ref sig .tc := ⟨.hbm, 81, rfl⟩
abbrev main_v0_34 : Ref sig .tc := ⟨.hbm, 82, rfl⟩
abbrev main_v0_35 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_48 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_49 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_50 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_51 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_52 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_53 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_54 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_55 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_56 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_57 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_58 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_59 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_60 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_61 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_62 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_63 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_64 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_65 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_66 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_67 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_68 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_69 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_70 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_71 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_72 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_73 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_74 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_75 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_76 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_77 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_78 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_79 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_80 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_81 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_82 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_83 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x5632 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x6144 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x32 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x32 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x64 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x64 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x5632 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x6144 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S1x256 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S1x64 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S1x32 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S1x64 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S1x32 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S1x64 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S1x64 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 1 → Memref sig .tc .vmem S1x5632 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
abbrev reads0_47 : Fin grid0.rank → Bool := ![false]

abbrev stage0_48 : Fin 1 → Memref sig .tc .vmem S1x6144 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))
abbrev reads0_48 : Fin grid0.rank → Bool := ![false]

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))
abbrev reads0_49 : Fin grid0.rank → Bool := ![false]

abbrev stage0_50 : Fin 1 → Memref sig .tc .vmem S1x512 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))
abbrev reads0_50 : Fin grid0.rank → Bool := ![false]

abbrev stage0_51 : Fin 1 → Memref sig .tc .vmem S1x256 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))
abbrev reads0_51 : Fin grid0.rank → Bool := ![false]

abbrev stage0_52 : Fin 1 → Memref sig .tc .vmem S1x64 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))
abbrev reads0_52 : Fin grid0.rank → Bool := ![false]

abbrev stage0_53 : Fin 1 → Memref sig .tc .vmem S1x32 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))
abbrev reads0_53 : Fin grid0.rank → Bool := ![false]

abbrev stage0_54 : Fin 1 → Memref sig .tc .vmem S1x64 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))
abbrev reads0_54 : Fin grid0.rank → Bool := ![false]

abbrev stage0_55 : Fin 1 → Memref sig .tc .vmem S1x32 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))
abbrev reads0_55 : Fin grid0.rank → Bool := ![false]

abbrev stage0_56 : Fin 1 → Memref sig .tc .vmem S1x64 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))
abbrev reads0_56 : Fin grid0.rank → Bool := ![false]

abbrev stage0_57 : Fin 1 → Memref sig .tc .vmem S1x64 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
abbrev reads0_57 : Fin grid0.rank → Bool := ![false]

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))
abbrev reads0_58 : Fin grid0.rank → Bool := ![false]

abbrev stage0_59 : Fin 1 → Memref sig .tc .vmem S1x5632 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))
abbrev reads0_59 : Fin grid0.rank → Bool := ![false]

abbrev stage0_60 : Fin 1 → Memref sig .tc .vmem S1x6144 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))
abbrev reads0_60 : Fin grid0.rank → Bool := ![false]

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))
abbrev reads0_61 : Fin grid0.rank → Bool := ![false]

abbrev stage0_62 : Fin 1 → Memref sig .tc .vmem S1x512 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
abbrev reads0_62 : Fin grid0.rank → Bool := ![false]

abbrev stage0_63 : Fin 1 → Memref sig .tc .vmem S1x256 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))
abbrev reads0_63 : Fin grid0.rank → Bool := ![false]

abbrev stage0_64 : Fin 1 → Memref sig .tc .vmem S1x64 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))
abbrev reads0_64 : Fin grid0.rank → Bool := ![false]

abbrev stage0_65 : Fin 1 → Memref sig .tc .vmem S1x32 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))
abbrev reads0_65 : Fin grid0.rank → Bool := ![false]

abbrev stage0_66 : Fin 1 → Memref sig .tc .vmem S1x64 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))
abbrev reads0_66 : Fin grid0.rank → Bool := ![false]

abbrev stage0_67 : Fin 1 → Memref sig .tc .vmem S1x32 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))
abbrev reads0_67 : Fin grid0.rank → Bool := ![false]

abbrev stage0_68 : Fin 1 → Memref sig .tc .vmem S1x64 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))
abbrev reads0_68 : Fin grid0.rank → Bool := ![false]

abbrev stage0_69 : Fin 1 → Memref sig .tc .vmem S1x64 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))
abbrev reads0_69 : Fin grid0.rank → Bool := ![false]

abbrev stage0_70 : Fin 1 → Memref sig .tc .vmem S1x1024 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))
abbrev reads0_70 : Fin grid0.rank → Bool := ![false]

abbrev stage0_71 : Fin 1 → Memref sig .tc .vmem S1x5632 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))
abbrev reads0_71 : Fin grid0.rank → Bool := ![false]

abbrev stage0_72 : Fin 1 → Memref sig .tc .vmem S1x6144 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))
abbrev reads0_72 : Fin grid0.rank → Bool := ![false]

abbrev stage0_73 : Fin 1 → Memref sig .tc .vmem S1x1024 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))
abbrev reads0_73 : Fin grid0.rank → Bool := ![false]

abbrev stage0_74 : Fin 1 → Memref sig .tc .vmem S1x512 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))
abbrev reads0_74 : Fin grid0.rank → Bool := ![false]

abbrev stage0_75 : Fin 1 → Memref sig .tc .vmem S1x256 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))
abbrev reads0_75 : Fin grid0.rank → Bool := ![false]

abbrev stage0_76 : Fin 1 → Memref sig .tc .vmem S1x64 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))
abbrev reads0_76 : Fin grid0.rank → Bool := ![false]

abbrev stage0_77 : Fin 1 → Memref sig .tc .vmem S1x32 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))
abbrev reads0_77 : Fin grid0.rank → Bool := ![false]

abbrev stage0_78 : Fin 1 → Memref sig .tc .vmem S1x64 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))
abbrev reads0_78 : Fin grid0.rank → Bool := ![false]

abbrev stage0_79 : Fin 1 → Memref sig .tc .vmem S1x32 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))
abbrev reads0_79 : Fin grid0.rank → Bool := ![false]

abbrev stage0_80 : Fin 1 → Memref sig .tc .vmem S1x64 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))
abbrev reads0_80 : Fin grid0.rank → Bool := ![false]

abbrev stage0_81 : Fin 1 → Memref sig .tc .vmem S1x64 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))
abbrev reads0_81 : Fin grid0.rank → Bool := ![false]

abbrev stage0_82 : Fin 1 → Memref sig .tc .vmem S1x1024 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))
abbrev reads0_82 : Fin grid0.rank → Bool := ![false]

abbrev stage0_83 : Fin 1 → Memref sig .tc .vmem S1x5632 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))
abbrev reads0_83 : Fin grid0.rank → Bool := ![false]
-- ==== Reference38Ideal.lean ====
abbrev S1x6144 : Shape := ⟨2, ![1, 6144]⟩
abbrev S1x1024 : Shape := ⟨2, ![1, 1024]⟩
abbrev S1x512 : Shape := ⟨2, ![1, 512]⟩
abbrev S1x256 : Shape := ⟨2, ![1, 256]⟩
abbrev S1x64 : Shape := ⟨2, ![1, 64]⟩
abbrev S1x32 : Shape := ⟨2, ![1, 32]⟩
abbrev S1x5632 : Shape := ⟨2, ![1, 5632]⟩
abbrev S_ : Shape := ⟨0, ![]⟩

abbrev nBuf : Space → Nat
  | .hbm => 444
  | .vmem => 0
  | .smem => 0
  | _ => 0

abbrev hbmTy0_0 (i : Nat) : BufTy := match i % 128 with
  | 0 => ⟨S1x6144, .f32⟩
  | 1 => ⟨S1x1024, .f32⟩
  | 2 => ⟨S1x512, .f32⟩
  | 3 => ⟨S1x256, .f32⟩
  | 4 => ⟨S1x64, .f32⟩
  | 5 => ⟨S1x32, .f32⟩
  | 6 => ⟨S1x64, .f32⟩
  | 7 => ⟨S1x32, .f32⟩
  | 8 => ⟨S1x64, .f32⟩
  | 9 => ⟨S1x64, .f32⟩
  | 10 => ⟨S1x1024, .f32⟩
  | 11 => ⟨S1x5632, .f32⟩
  | 12 => ⟨S1x6144, .f32⟩
  | 13 => ⟨S1x1024, .f32⟩
  | 14 => ⟨S1x512, .f32⟩
  | 15 => ⟨S1x256, .f32⟩
  | 16 => ⟨S1x64, .f32⟩
  | 17 => ⟨S1x32, .f32⟩
  | 18 => ⟨S1x64, .f32⟩
  | 19 => ⟨S1x32, .f32⟩
  | 20 => ⟨S1x64, .f32⟩
  | 21 => ⟨S1x64, .f32⟩
  | 22 => ⟨S1x1024, .f32⟩
  | 23 => ⟨S1x5632, .f32⟩
  | 24 => ⟨S1x6144, .f32⟩
  | 25 => ⟨S1x1024, .f32⟩
  | 26 => ⟨S1x512, .f32⟩
  | 27 => ⟨S1x256, .f32⟩
  | 28 => ⟨S1x64, .f32⟩
  | 29 => ⟨S1x32, .f32⟩
  | 30 => ⟨S1x64, .f32⟩
  | 31 => ⟨S1x32, .f32⟩
  | 32 => ⟨S1x64, .f32⟩
  | 33 => ⟨S1x64, .f32⟩
  | 34 => ⟨S1x1024, .f32⟩
  | 35 => ⟨S1x5632, .f32⟩
  | 36 => ⟨S1x6144, .f32⟩
  | 37 => ⟨S1x1024, .f32⟩
  | 38 => ⟨S1x512, .f32⟩
  | 39 => ⟨S1x256, .f32⟩
  | 40 => ⟨S1x64, .f32⟩
  | 41 => ⟨S1x32, .f32⟩
  | 42 => ⟨S1x64, .f32⟩
  | 43 => ⟨S1x32, .f32⟩
  | 44 => ⟨S1x64, .f32⟩
  | 45 => ⟨S1x64, .f32⟩
  | 46 => ⟨S1x1024, .f32⟩
  | 47 => ⟨S1x5632, .f32⟩
  | 48 => ⟨S_, .f32⟩
  | 49 => ⟨S1x6144, .f32⟩
  | 50 => ⟨S1x6144, .f32⟩
  | 51 => ⟨S_, .f32⟩
  | 52 => ⟨S1x6144, .f32⟩
  | 53 => ⟨S1x6144, .f32⟩
  | 54 => ⟨S1x6144, .f32⟩
  | 55 => ⟨S_, .f32⟩
  | 56 => ⟨S1x6144, .f32⟩
  | 57 => ⟨S1x6144, .f32⟩
  | 58 => ⟨S1x6144, .f32⟩
  | 59 => ⟨S_, .f32⟩
  | 60 => ⟨S1x6144, .f32⟩
  | 61 => ⟨S1x6144, .f32⟩
  | 62 => ⟨S1x6144, .f32⟩
  | 63 => ⟨S_, .f32⟩
  | 64 => ⟨S1x6144, .f32⟩
  | 65 => ⟨S1x6144, .f32⟩
  | 66 => ⟨S_, .f32⟩
  | 67 => ⟨S1x6144, .f32⟩
  | 68 => ⟨S1x6144, .f32⟩
  | 69 => ⟨S1x6144, .f32⟩
  | 70 => ⟨S_, .f32⟩
  | 71 => ⟨S1x6144, .f32⟩
  | 72 => ⟨S1x6144, .f32⟩
  | 73 => ⟨S1x6144, .f32⟩
  | 74 => ⟨S_, .f32⟩
  | 75 => ⟨S1x6144, .f32⟩
  | 76 => ⟨S1x6144, .f32⟩
  | 77 => ⟨S1x6144, .f32⟩
  | 78 => ⟨S_, .f32⟩
  | 79 => ⟨S1x6144, .f32⟩
  | 80 => ⟨S1x6144, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S_, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S1x512, .f32⟩
  | 121 => ⟨S_, .f32⟩
  | 122 => ⟨S1x512, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S1x6144, .f32⟩

abbrev hbmTy0_1 (i : Nat) : BufTy := match i % 128 with
  | 0 => ⟨S1x512, .f32⟩
  | 1 => ⟨S_, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S1x512, .f32⟩
  | 16 => ⟨S_, .f32⟩
  | 17 => ⟨S1x512, .f32⟩
  | 18 => ⟨S1x512, .f32⟩
  | 19 => ⟨S_, .f32⟩
  | 20 => ⟨S1x256, .f32⟩
  | 21 => ⟨S1x256, .f32⟩
  | 22 => ⟨S_, .f32⟩
  | 23 => ⟨S1x256, .f32⟩
  | 24 => ⟨S1x256, .f32⟩
  | 25 => ⟨S1x256, .f32⟩
  | 26 => ⟨S_, .f32⟩
  | 27 => ⟨S1x256, .f32⟩
  | 28 => ⟨S1x256, .f32⟩
  | 29 => ⟨S1x256, .f32⟩
  | 30 => ⟨S_, .f32⟩
  | 31 => ⟨S1x256, .f32⟩
  | 32 => ⟨S1x256, .f32⟩
  | 33 => ⟨S1x256, .f32⟩
  | 34 => ⟨S_, .f32⟩
  | 35 => ⟨S1x256, .f32⟩
  | 36 => ⟨S1x256, .f32⟩
  | 37 => ⟨S_, .f32⟩
  | 38 => ⟨S1x256, .f32⟩
  | 39 => ⟨S1x256, .f32⟩
  | 40 => ⟨S1x256, .f32⟩
  | 41 => ⟨S_, .f32⟩
  | 42 => ⟨S1x256, .f32⟩
  | 43 => ⟨S1x256, .f32⟩
  | 44 => ⟨S1x256, .f32⟩
  | 45 => ⟨S_, .f32⟩
  | 46 => ⟨S1x256, .f32⟩
  | 47 => ⟨S1x256, .f32⟩
  | 48 => ⟨S1x256, .f32⟩
  | 49 => ⟨S_, .f32⟩
  | 50 => ⟨S1x256, .f32⟩
  | 51 => ⟨S1x256, .f32⟩
  | 52 => ⟨S_, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S1x64, .f32⟩
  | 63 => ⟨S_, .f32⟩
  | 64 => ⟨S1x64, .f32⟩
  | 65 => ⟨S1x64, .f32⟩
  | 66 => ⟨S1x64, .f32⟩
  | 67 => ⟨S_, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S1x64, .f32⟩
  | 74 => ⟨S_, .f32⟩
  | 75 => ⟨S1x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S1x64, .f32⟩
  | 82 => ⟨S_, .f32⟩
  | 83 => ⟨S1x64, .f32⟩
  | 84 => ⟨S1x64, .f32⟩
  | 85 => ⟨S_, .f32⟩
  | 86 => ⟨S1x32, .f32⟩
  | 87 => ⟨S1x32, .f32⟩
  | 88 => ⟨S_, .f32⟩
  | 89 => ⟨S1x32, .f32⟩
  | 90 => ⟨S1x32, .f32⟩
  | 91 => ⟨S1x32, .f32⟩
  | 92 => ⟨S_, .f32⟩
  | 93 => ⟨S1x32, .f32⟩
  | 94 => ⟨S1x32, .f32⟩
  | 95 => ⟨S1x32, .f32⟩
  | 96 => ⟨S_, .f32⟩
  | 97 => ⟨S1x32, .f32⟩
  | 98 => ⟨S1x32, .f32⟩
  | 99 => ⟨S1x32, .f32⟩
  | 100 => ⟨S_, .f32⟩
  | 101 => ⟨S1x32, .f32⟩
  | 102 => ⟨S1x32, .f32⟩
  | 103 => ⟨S_, .f32⟩
  | 104 => ⟨S1x32, .f32⟩
  | 105 => ⟨S1x32, .f32⟩
  | 106 => ⟨S1x32, .f32⟩
  | 107 => ⟨S_, .f32⟩
  | 108 => ⟨S1x32, .f32⟩
  | 109 => ⟨S1x32, .f32⟩
  | 110 => ⟨S1x32, .f32⟩
  | 111 => ⟨S_, .f32⟩
  | 112 => ⟨S1x32, .f32⟩
  | 113 => ⟨S1x32, .f32⟩
  | 114 => ⟨S1x32, .f32⟩
  | 115 => ⟨S_, .f32⟩
  | 116 => ⟨S1x32, .f32⟩
  | 117 => ⟨S1x32, .f32⟩
  | 118 => ⟨S_, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S1x6144, .f32⟩

abbrev hbmTy0_2 (i : Nat) : BufTy := match i % 128 with
  | 0 => ⟨S1x64, .f32⟩
  | 1 => ⟨S_, .f32⟩
  | 2 => ⟨S1x64, .f32⟩
  | 3 => ⟨S1x64, .f32⟩
  | 4 => ⟨S1x64, .f32⟩
  | 5 => ⟨S_, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S1x64, .f32⟩
  | 16 => ⟨S_, .f32⟩
  | 17 => ⟨S1x64, .f32⟩
  | 18 => ⟨S1x64, .f32⟩
  | 19 => ⟨S1x64, .f32⟩
  | 20 => ⟨S_, .f32⟩
  | 21 => ⟨S1x64, .f32⟩
  | 22 => ⟨S1x64, .f32⟩
  | 23 => ⟨S_, .f32⟩
  | 24 => ⟨S1x32, .f32⟩
  | 25 => ⟨S1x32, .f32⟩
  | 26 => ⟨S_, .f32⟩
  | 27 => ⟨S1x32, .f32⟩
  | 28 => ⟨S1x32, .f32⟩
  | 29 => ⟨S1x32, .f32⟩
  | 30 => ⟨S_, .f32⟩
  | 31 => ⟨S1x32, .f32⟩
  | 32 => ⟨S1x32, .f32⟩
  | 33 => ⟨S1x32, .f32⟩
  | 34 => ⟨S_, .f32⟩
  | 35 => ⟨S1x32, .f32⟩
  | 36 => ⟨S1x32, .f32⟩
  | 37 => ⟨S1x32, .f32⟩
  | 38 => ⟨S_, .f32⟩
  | 39 => ⟨S1x32, .f32⟩
  | 40 => ⟨S1x32, .f32⟩
  | 41 => ⟨S_, .f32⟩
  | 42 => ⟨S1x32, .f32⟩
  | 43 => ⟨S1x32, .f32⟩
  | 44 => ⟨S1x32, .f32⟩
  | 45 => ⟨S_, .f32⟩
  | 46 => ⟨S1x32, .f32⟩
  | 47 => ⟨S1x32, .f32⟩
  | 48 => ⟨S1x32, .f32⟩
  | 49 => ⟨S_, .f32⟩
  | 50 => ⟨S1x32, .f32⟩
  | 51 => ⟨S1x32, .f32⟩
  | 52 => ⟨S1x32, .f32⟩
  | 53 => ⟨S_, .f32⟩
  | 54 => ⟨S1x32, .f32⟩
  | 55 => ⟨S1x32, .f32⟩
  | 56 => ⟨S_, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S1x64, .f32⟩
  | 63 => ⟨S_, .f32⟩
  | 64 => ⟨S1x64, .f32⟩
  | 65 => ⟨S1x64, .f32⟩
  | 66 => ⟨S1x64, .f32⟩
  | 67 => ⟨S_, .f32⟩
  | 68 => ⟨S1x64, .f32⟩
  | 69 => ⟨S1x64, .f32⟩
  | 70 => ⟨S1x64, .f32⟩
  | 71 => ⟨S_, .f32⟩
  | 72 => ⟨S1x64, .f32⟩
  | 73 => ⟨S1x64, .f32⟩
  | 74 => ⟨S_, .f32⟩
  | 75 => ⟨S1x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S1x64, .f32⟩
  | 82 => ⟨S_, .f32⟩
  | 83 => ⟨S1x64, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S_, .f32⟩
  | 93 => ⟨S1x64, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S_, .f32⟩
  | 101 => ⟨S1x64, .f32⟩
  | 102 => ⟨S1x64, .f32⟩
  | 103 => ⟨S1x64, .f32⟩
  | 104 => ⟨S_, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S_, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x6144, .f32⟩

abbrev hbmTy0_3 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S_, .f32⟩
  | 28 => ⟨S1x5632, .f32⟩
  | 29 => ⟨S1x5632, .f32⟩
  | 30 => ⟨S_, .f32⟩
  | 31 => ⟨S1x5632, .f32⟩
  | 32 => ⟨S1x5632, .f32⟩
  | 33 => ⟨S1x5632, .f32⟩
  | 34 => ⟨S_, .f32⟩
  | 35 => ⟨S1x5632, .f32⟩
  | 36 => ⟨S1x5632, .f32⟩
  | 37 => ⟨S1x5632, .f32⟩
  | 38 => ⟨S_, .f32⟩
  | 39 => ⟨S1x5632, .f32⟩
  | 40 => ⟨S1x5632, .f32⟩
  | 41 => ⟨S1x5632, .f32⟩
  | 42 => ⟨S_, .f32⟩
  | 43 => ⟨S1x5632, .f32⟩
  | 44 => ⟨S1x5632, .f32⟩
  | 45 => ⟨S_, .f32⟩
  | 46 => ⟨S1x5632, .f32⟩
  | 47 => ⟨S1x5632, .f32⟩
  | 48 => ⟨S1x5632, .f32⟩
  | 49 => ⟨S_, .f32⟩
  | 50 => ⟨S1x5632, .f32⟩
  | 51 => ⟨S1x5632, .f32⟩
  | 52 => ⟨S1x5632, .f32⟩
  | 53 => ⟨S_, .f32⟩
  | 54 => ⟨S1x5632, .f32⟩
  | 55 => ⟨S1x5632, .f32⟩
  | 56 => ⟨S1x5632, .f32⟩
  | 57 => ⟨S_, .f32⟩
  | 58 => ⟨S1x5632, .f32⟩
  | 59 => ⟨S1x5632, .f32⟩
  | _ => ⟨S1x6144, .f32⟩

abbrev hbmTy (i : Nat) : BufTy := match i / 128 with
  | 0 => hbmTy0_0 i
  | 1 => hbmTy0_1 i
  | 2 => hbmTy0_2 i
  | 3 => hbmTy0_3 i
  | _ => ⟨S1x6144, .f32⟩

abbrev bufTy : (tb : Table) → Fin (tcTables nBuf tb) → BufTy
  | .hbm, ⟨i, _⟩ => hbmTy i
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩

abbrev nD : Nat := 1
abbrev τ : Topo := Topo.v7x

variable {F : FTy → Type} [FloatOps F]
-- ==== Kernel39.lean ====
abbrev S8x1x6144 : Shape := ⟨3, ![8, 1, 6144]⟩
abbrev S8x1x1024 : Shape := ⟨3, ![8, 1, 1024]⟩
abbrev S8x1x512 : Shape := ⟨3, ![8, 1, 512]⟩
abbrev S8x1x256 : Shape := ⟨3, ![8, 1, 256]⟩
abbrev S8x1x64 : Shape := ⟨3, ![8, 1, 64]⟩
abbrev S8x1x32 : Shape := ⟨3, ![8, 1, 32]⟩
abbrev S8x1x5632 : Shape := ⟨3, ![8, 1, 5632]⟩
abbrev S8x3x5632 : Shape := ⟨3, ![8, 3, 5632]⟩
abbrev S8x1x1 : Shape := ⟨3, ![8, 1, 1]⟩
abbrev S_ : Shape := ⟨0, ![]⟩
abbrev S8x1x96 : Shape := ⟨3, ![8, 1, 96]⟩
abbrev S8x1x127 : Shape := ⟨3, ![8, 1, 127]⟩
abbrev S8x1x8704 : Shape := ⟨3, ![8, 1, 8704]⟩
abbrev S8x1x23680 : Shape := ⟨3, ![8, 1, 23680]⟩
abbrev S8x1x32384 : Shape := ⟨3, ![8, 1, 32384]⟩
abbrev S1x6144 : Shape := ⟨2, ![1, 6144]⟩
abbrev S1x1024 : Shape := ⟨2, ![1, 1024]⟩
abbrev S1x512 : Shape := ⟨2, ![1, 512]⟩
abbrev S1x256 : Shape := ⟨2, ![1, 256]⟩
abbrev S1x64 : Shape := ⟨2, ![1, 64]⟩
abbrev S1x32 : Shape := ⟨2, ![1, 32]⟩
abbrev S1x5632 : Shape := ⟨2, ![1, 5632]⟩
abbrev S3x5632 : Shape := ⟨2, ![3, 5632]⟩
abbrev S1x1 : Shape := ⟨2, ![1, 1]⟩
abbrev S1x32384 : Shape := ⟨2, ![1, 32384]⟩
abbrev S1x1x32384 : Shape := ⟨3, ![1, 1, 32384]⟩

abbrev nBuf : Space → Nat
  | .hbm => 48
  | .vmem => 16
  | .smem => 0
  | _ => 0

abbrev bufTy : (tb : Table) → Fin (tcTables nBuf tb) → BufTy
  | .hbm, ⟨0, _⟩ => ⟨S8x1x6144, .f32⟩
  | .hbm, ⟨1, _⟩ => ⟨S8x1x1024, .f32⟩
  | .hbm, ⟨2, _⟩ => ⟨S8x1x512, .f32⟩
  | .hbm, ⟨3, _⟩ => ⟨S8x1x256, .f32⟩
  | .hbm, ⟨4, _⟩ => ⟨S8x1x64, .f32⟩
  | .hbm, ⟨5, _⟩ => ⟨S8x1x32, .f32⟩
  | .hbm, ⟨6, _⟩ => ⟨S8x1x64, .f32⟩
  | .hbm, ⟨7, _⟩ => ⟨S8x1x32, .f32⟩
  | .hbm, ⟨8, _⟩ => ⟨S8x1x64, .f32⟩
  | .hbm, ⟨9, _⟩ => ⟨S8x1x64, .f32⟩
  | .hbm, ⟨10, _⟩ => ⟨S8x1x1024, .f32⟩
  | .hbm, ⟨11, _⟩ => ⟨S8x1x5632, .f32⟩
  | .hbm, ⟨12, _⟩ => ⟨S8x3x5632, .f32⟩
  | .hbm, ⟨13, _⟩ => ⟨S8x1x1, .f32⟩
  | .hbm, ⟨14, _⟩ => ⟨S8x1x5632, .f32⟩
  | .hbm, ⟨15, _⟩ => ⟨S8x1x5632, .f32⟩
  | .hbm, ⟨16, _⟩ => ⟨S8x1x5632, .f32⟩
  | .hbm, ⟨17, _⟩ => ⟨S_, .f32⟩
  | .hbm, ⟨18, _⟩ => ⟨S8x1x64, .f32⟩
  | .hbm, ⟨19, _⟩ => ⟨S_, .f32⟩
  | .hbm, ⟨20, _⟩ => ⟨S8x1x96, .f32⟩
  | .hbm, ⟨21, _⟩ => ⟨S_, .f32⟩
  | .hbm, ⟨22, _⟩ => ⟨S8x1x64, .f32⟩
  | .hbm, ⟨23, _⟩ => ⟨S_, .f32⟩
  | .hbm, ⟨24, _⟩ => ⟨S8x1x96, .f32⟩
  | .hbm, ⟨25, _⟩ => ⟨S_, .f32⟩
  | .hbm, ⟨26, _⟩ => ⟨S8x1x64, .f32⟩
  | .hbm, ⟨27, _⟩ => ⟨S_, .f32⟩
  | .hbm, ⟨28, _⟩ => ⟨S8x1x64, .f32⟩
  | .hbm, ⟨29, _⟩ => ⟨S_, .f32⟩
  | .hbm, ⟨30, _⟩ => ⟨S8x1x127, .f32⟩
  | .hbm, ⟨31, _⟩ => ⟨S8x1x8704, .f32⟩
  | .hbm, ⟨32, _⟩ => ⟨S8x1x23680, .f32⟩
  | .hbm, ⟨33, _⟩ => ⟨S8x1x32384, .f32⟩
  | .hbm, ⟨34, _⟩ => ⟨S1x6144, .f32⟩
  | .hbm, ⟨35, _⟩ => ⟨S1x1024, .f32⟩
  | .hbm, ⟨36, _⟩ => ⟨S1x512, .f32⟩
  | .hbm, ⟨37, _⟩ => ⟨S1x256, .f32⟩
  | .hbm, ⟨38, _⟩ => ⟨S1x64, .f32⟩
  | .hbm, ⟨39, _⟩ => ⟨S1x32, .f32⟩
  | .hbm, ⟨40, _⟩ => ⟨S1x64, .f32⟩
  | .hbm, ⟨41, _⟩ => ⟨S1x32, .f32⟩
  | .hbm, ⟨42, _⟩ => ⟨S1x64, .f32⟩
  | .hbm, ⟨43, _⟩ => ⟨S1x64, .f32⟩
  | .hbm, ⟨44, _⟩ => ⟨S1x1024, .f32⟩
  | .hbm, ⟨45, _⟩ => ⟨S1x5632, .f32⟩
  | .hbm, ⟨46, _⟩ => ⟨S3x5632, .f32⟩
  | .hbm, ⟨47, _⟩ => ⟨S1x1, .f32⟩
  | .local _ .vmem, ⟨0, _⟩ => ⟨S8x1x32384, .f32⟩
  | .local _ .vmem, ⟨1, _⟩ => ⟨S1x6144, .f32⟩
  | .local _ .vmem, ⟨2, _⟩ => ⟨S1x1024, .f32⟩
  | .local _ .vmem, ⟨3, _⟩ => ⟨S1x512, .f32⟩
  | .local _ .vmem, ⟨4, _⟩ => ⟨S1x256, .f32⟩
  | .local _ .vmem, ⟨5, _⟩ => ⟨S1x64, .f32⟩
  | .local _ .vmem, ⟨6, _⟩ => ⟨S1x32, .f32⟩
  | .local _ .vmem, ⟨7, _⟩ => ⟨S1x64, .f32⟩
  | .local _ .vmem, ⟨8, _⟩ => ⟨S1x32, .f32⟩
  | .local _ .vmem, ⟨9, _⟩ => ⟨S1x64, .f32⟩
  | .local _ .vmem, ⟨10, _⟩ => ⟨S1x64, .f32⟩
  | .local _ .vmem, ⟨11, _⟩ => ⟨S1x1024, .f32⟩
  | .local _ .vmem, ⟨12, _⟩ => ⟨S1x5632, .f32⟩
  | .local _ .vmem, ⟨13, _⟩ => ⟨S3x5632, .f32⟩
  | .local _ .vmem, ⟨14, _⟩ => ⟨S1x1, .f32⟩
  | .local _ .vmem, ⟨15, _⟩ => ⟨S1x32384, .f32⟩
  | _, _ => ⟨S8x1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_cst_3 : Ref sig .tc := ⟨.hbm, 25, rfl⟩
abbrev main_v7 : Ref sig .tc := ⟨.hbm, 26, rfl⟩
abbrev main_cst_4 : Ref sig .tc := ⟨.hbm, 27, rfl⟩
abbrev main_v8 : Ref sig .tc := ⟨.hbm, 28, rfl⟩
abbrev main_cst_5 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_v13_2 : Ref sig .tc := ⟨.hbm, 36, rfl⟩
abbrev main_v13_3 : Ref sig .tc := ⟨.hbm, 37, rfl⟩
abbrev main_v13_4 : Ref sig .tc := ⟨.hbm, 38, rfl⟩
abbrev main_v13_5 : Ref sig .tc := ⟨.hbm, 39, rfl⟩
abbrev main_v13_6 : Ref sig .tc := ⟨.hbm, 40, rfl⟩
abbrev main_v13_7 : Ref sig .tc := ⟨.hbm, 41, rfl⟩
abbrev main_v13_8 : Ref sig .tc := ⟨.hbm, 42, rfl⟩
abbrev main_v13_9 : Ref sig .tc := ⟨.hbm, 43, rfl⟩
abbrev main_v13_10 : Ref sig .tc := ⟨.hbm, 44, rfl⟩
abbrev main_v13_11 : Ref sig .tc := ⟨.hbm, 45, rfl⟩
abbrev main_v13_12 : Ref sig .tc := ⟨.hbm, 46, rfl⟩
abbrev main_v13_13 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8x1x32384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Reference39Ideal.lean ====
abbrev S8x1x6144 : Shape := ⟨3, ![8, 1, 6144]⟩
abbrev S8x1x1024 : Shape := ⟨3, ![8, 1, 1024]⟩
abbrev S8x1x512 : Shape := ⟨3, ![8, 1, 512]⟩
abbrev S8x1x256 : Shape := ⟨3, ![8, 1, 256]⟩
abbrev S8x1x64 : Shape := ⟨3, ![8, 1, 64]⟩
abbrev S8x1x32 : Shape := ⟨3, ![8, 1, 32]⟩
abbrev S8x1x5632 : Shape := ⟨3, ![8, 1, 5632]⟩
abbrev S8x3x5632 : Shape := ⟨3, ![8, 3, 5632]⟩
abbrev S8x1x1 : Shape := ⟨3, ![8, 1, 1]⟩
abbrev S_ : Shape := ⟨0, ![]⟩
abbrev S1x6144 : Shape := ⟨2, ![1, 6144]⟩
abbrev S1x1024 : Shape := ⟨2, ![1, 1024]⟩
abbrev S1x512 : Shape := ⟨2, ![1, 512]⟩
abbrev S1x256 : Shape := ⟨2, ![1, 256]⟩
abbrev S1x64 : Shape := ⟨2, ![1, 64]⟩
abbrev S1x32 : Shape := ⟨2, ![1, 32]⟩
abbrev S1x5632 : Shape := ⟨2, ![1, 5632]⟩
abbrev S3x5632 : Shape := ⟨2, ![3, 5632]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x1x6144, .f32⟩
  | .hbm, ⟨1, _⟩ => ⟨S8x1x1024, .f32⟩
  | .hbm, ⟨2, _⟩ => ⟨S8x1x512, .f32⟩
  | .hbm, ⟨3, _⟩ => ⟨S8x1x256, .f32⟩
  | .hbm, ⟨4, _⟩ => ⟨S8x1x64, .f32⟩
  | .hbm, ⟨5, _⟩ => ⟨S8x1x32, .f32⟩
  | .hbm, ⟨6, _⟩ => ⟨S8x1x64, .f32⟩
  | .hbm, ⟨7, _⟩ => ⟨S8x1x32, .f32⟩
  | .hbm, ⟨8, _⟩ => ⟨S8x1x64, .f32⟩
  | .hbm, ⟨9, _⟩ => ⟨S8x1x64, .f32⟩
  | .hbm, ⟨10, _⟩ => ⟨S8x1x1024, .f32⟩
  | .hbm, ⟨11, _⟩ => ⟨S8x1x5632, .f32⟩
  | .hbm, ⟨12, _⟩ => ⟨S8x3x5632, .f32⟩
  | .hbm, ⟨13, _⟩ => ⟨S8x1x1, .f32⟩
  | .hbm, ⟨14, _⟩ => ⟨S_, .f32⟩
  | .hbm, ⟨15, _⟩ => ⟨S1x6144, .f32⟩
  | .hbm, ⟨16, _⟩ => ⟨S_, .f32⟩
  | .hbm, ⟨17, _⟩ => ⟨S1x1024, .f32⟩
  | .hbm, ⟨18, _⟩ => ⟨S_, .f32⟩
  | .hbm, ⟨19, _⟩ => ⟨S1x512, .f32⟩
  | .hbm, ⟨20, _⟩ => ⟨S_, .f32⟩
  | .hbm, ⟨21, _⟩ => ⟨S1x256, .f32⟩
  | .hbm, ⟨22, _⟩ => ⟨S_, .f32⟩
  | .hbm, ⟨23, _⟩ => ⟨S1x64, .f32⟩
  | .hbm, ⟨24, _⟩ => ⟨S_, .f32⟩
  | .hbm, ⟨25, _⟩ => ⟨S1x32, .f32⟩
  | .hbm, ⟨26, _⟩ => ⟨S_, .f32⟩
  | .hbm, ⟨27, _⟩ => ⟨S1x64, .f32⟩
  | .hbm, ⟨28, _⟩ => ⟨S_, .f32⟩
  | .hbm, ⟨29, _⟩ => ⟨S1x32, .f32⟩
  | .hbm, ⟨30, _⟩ => ⟨S_, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S_, .f32⟩
  | .hbm, ⟨35, _⟩ => ⟨S1x1024, .f32⟩
  | .hbm, ⟨36, _⟩ => ⟨S_, .f32⟩
  | .hbm, ⟨37, _⟩ => ⟨S1x5632, .f32⟩
  | .hbm, ⟨38, _⟩ => ⟨S_, .f32⟩
  | .hbm, ⟨39, _⟩ => ⟨S3x5632, .f32⟩
  | .hbm, ⟨40, _⟩ => ⟨S_, .f32⟩
  | .hbm, ⟨41, _⟩ => ⟨S1x1, .f32⟩
  | _, _ => ⟨S8x1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_cst_2 : Ref sig .tc := ⟨.hbm, 20, rfl⟩
abbrev main_v3 : Ref sig .tc := ⟨.hbm, 21, rfl⟩
abbrev main_cst_3 : Ref sig .tc := ⟨.hbm, 22, rfl⟩
abbrev main_v4 : Ref sig .tc := ⟨.hbm, 23, rfl⟩
abbrev main_cst_4 : Ref sig .tc := ⟨.hbm, 24, rfl⟩
abbrev main_v5 : Ref sig .tc := ⟨.hbm, 25, rfl⟩
abbrev main_cst_5 : Ref sig .tc := ⟨.hbm, 26, rfl⟩
abbrev main_v6 : Ref sig .tc := ⟨.hbm, 27, rfl⟩
abbrev main_cst_6 : Ref sig .tc := ⟨.hbm, 28, rfl⟩
abbrev main_v7 : Ref sig .tc := ⟨.hbm, 29, rfl⟩
abbrev main_cst_7 : Ref sig .tc := ⟨.hbm, 30, rfl⟩
abbrev main_v8 : Ref sig .tc := ⟨.hbm, 31, rfl⟩
abbrev main_cst_8 : Ref sig .tc := ⟨.hbm, 32, rfl⟩
abbrev main_v9 : Ref sig .tc := ⟨.hbm, 33, rfl⟩
abbrev main_cst_9 : Ref sig .tc := ⟨.hbm, 34, rfl⟩
abbrev main_v10 : Ref sig .tc := ⟨.hbm, 35, rfl⟩
abbrev main_cst_10 : Ref sig .tc := ⟨.hbm, 36, rfl⟩
abbrev main_v11 : Ref sig .tc := ⟨.hbm, 37, rfl⟩
abbrev main_cst_11 : Ref sig .tc := ⟨.hbm, 38, rfl⟩
abbrev main_v12 : Ref sig .tc := ⟨.hbm, 39, rfl⟩
abbrev main_cst_12 : Ref sig .tc := ⟨.hbm, 40, rfl⟩
abbrev main_v13 : Ref sig .tc := ⟨.hbm, 41, rfl⟩

abbrev nD : Nat := 1
abbrev τ : Topo := Topo.v7x

variable {F : FTy → Type} [FloatOps F]
-- ==== Proof.GateSpec.lean ====
/- The gradient of the gate, as functions of a row and a column counted in natural numbers.

   `conv` is the depthwise convolution over three rows, `dgate` and `dval` the gradients of `silu (gate) * value` by the
   gate and by the value, `convT` the transposed convolution. A row argument `r` of `conv` counts rows of the input with
   its two rows of zeros in front, so that output row `r` reads rows `r`, `r + 1`, `r + 2`. -/
module

public import Idealize.ShloMosaic.Lib.Pipeline.ValueKit
public import Idealize.ShloMosaic.Lib.Pointwise

@[expose] public section

noncomputable section

namespace Cert.GateValue

open Idealize.ShloMosaic

/-- An array of extended reals by row and column. -/
abbrev Arr := ℕ → ℕ → EReal

/-- The convolution's value at a row and a column. -/
def conv (G w : Arr) (b : ℕ → EReal) (r q : ℕ) : EReal :=
  b q + G r q * w 0 q + G (r + 1) q * w 1 q + G (r + 2) q * w 2 q

/-- The logistic function as the kernel writes it, by a hyperbolic tangent. -/
def sgm (x : EReal) : EReal :=
  Ideal.ofBits .f32 0x3F000000#32 * Ideal.tanh (Ideal.ofBits .f32 0x3F000000#32 * x) + Ideal.ofBits .f32 0x3F000000#32

/-- The gradient by the gate's input `g`, for the output's gradient `a` and the value `v`. -/
def dgate (a g v : EReal) : EReal := a * v * (sgm g * (1 + g * (1 - sgm g)))

/-- The gradient by the value, for the output's gradient `a` and the gate's input `g`. -/
def dval (a g : EReal) : EReal := a * (g * sgm g)

/-- The transposed convolution's value at a row and a column. -/
def convT (D w : Arr) (r q : ℕ) : EReal :=
  D r q * w 2 q + D (r + 1) q * w 1 q + D (r + 2) q * w 0 q

/-- The gradient by the gate's convolution, from the padded inputs of the gate and of the value. -/
def dG (A G V wg wv : Arr) (bg bv : ℕ → EReal) (r q : ℕ) : EReal :=
  dgate (A r q) (conv G wg bg r q) (conv V wv bv r q)

/-- The gradient by the value's convolution. -/
def dV (A G wg : Arr) (bg : ℕ → EReal) (r q : ℕ) : EReal :=
  dval (A r q) (conv G wg bg r q)

/-- A choice by the equality of two small words is the choice by the equality of the numbers. -/
theorem select_eq {α : Type} (p k : ℕ) (hp : p < 2 ^ 32) (hk : k < 2 ^ 32) (a b : α) :
    Scalar.select (IntOp.cmpi .eq (BitVec.ofNat 32 p) (BitVec.ofNat 32 k)) a b = if p = k then a else b := by
  by_cases h : p = k
  · subst h; simp [Scalar.select, IntOp.cmpi]
  · have : BitVec.ofNat 32 p ≠ BitVec.ofNat 32 k := by
      intro e; have := congrArg BitVec.toNat e
      rw [BitVec.toNat_ofNat, BitVec.toNat_ofNat, Nat.mod_eq_of_lt hp, Nat.mod_eq_of_lt hk] at this; exact h this
    have h2 : (BitVec.ofNat 32 p == BitVec.ofNat 32 k) = false := by simpa using this
    simp [Scalar.select, IntOp.cmpi, h, h2]

end Cert.GateValue

end
-- ==== Proof.GateBlock.lean ====
/- What one block of the gate's gradient computes, read at an index: the rows and columns here are those of the block.

   `G` and `V` are the padded inputs of the gate and of the value as the block sees them: the two rows of the previous
   halo, the block's 256 rows, the next halo's eight. `A` is the output's gradient: the block's rows and the next halo's. -/
module

public import proofs.«01_k».proof.Proof.Gen.KernelIdeal.Value
public import proofs.«01_k».proof.Proof.GateSpec

@[expose] public section

set_option maxRecDepth 16384

noncomputable section

namespace Cert.GateValue

open Cert.KernelIdeal Cert.KernelIdeal.Gen Idealize.ShloMosaic Idealize.ShloMosaic.TcCoe Idealize.SL.Sem

/-- A block of 256 rows, of eight, of three (the weights), of one. -/
abbrev B256 := Vec Ideal S256x1408 .f32
abbrev B8 := Vec Ideal S8x1408 .f32
abbrev B3 := Vec Ideal S3x1408 .f32
abbrev B1 := Vec Ideal S1x1408 .f32

/-- The block holds the array's rows from `r` on. -/
def Rows {n : ℕ} (x : (⟨2, ![n, 1408]⟩ : Shape).Idx → EReal) (G : Arr) (r : ℕ) : Prop :=
  ∀ (p : Fin n) (q : Fin 1408), x (ix2 p q) = G (p.val + r) q.val

/-- The previous halo's last two rows, times the factor, are the array's rows 0 and 1. -/
def Halo (h : B8) (live : EReal) (G : Arr) : Prop :=
  ∀ q : Fin 1408, h (ix2 6 q) * live = G 0 q.val ∧ h (ix2 7 q) * live = G 1 q.val

/-- The next halo, times the factor, is the array's rows from 256 on. -/
def Next (h : B8) (more : EReal) (A : Arr) : Prop :=
  ∀ (p : Fin 8) (q : Fin 1408), h (ix2 p q) * more = A (p.val + 256) q.val

/-- The row holds the function of the column. -/
def Row (b : B1) (f : ℕ → EReal) : Prop := ∀ q : Fin 1408, b (ix2 0 q) = f q.val

variable {G V A wg wv D : Arr} {bg bv : ℕ → EReal} {x v a : B256} {h n hv nv an : B8} {w u : B3} {b c : B1}

/-- The first factor is one but at the first block of rows. -/
theorem pay6 (i : grid0.Coords) : k0_pay6 (F := Ideal) i = if (i 1).val = 0 then 0 else 1 := by
  pointwise [k0_pay6]
  have hi : (i 1).val < 8 := (i 1).isLt
  generalize (i 1).val = k at hi
  interval_cases k <;> simp <;> decide

/-- The second factor is one but at the last block of rows. -/
theorem pay21 (k : ℕ) (hi : k < 8) : k0_pay21 (F := Ideal) (BitVec.ofNat 32 k) = if k = 7 then 0 else 1 := by
  pointwise [k0_pay21]
  interval_cases k <;> simp <;> decide

/-- The input one row earlier. -/
theorem pay8 (i : grid0.Coords) (hx : Rows x G 2) (hh : Halo h (k0_pay6 (F := Ideal) i) G) :
    Rows (k0_pay8 (F := Ideal) i x h) G 1 := by
  intro p q
  pointwise [k0_pay8, k0_pay7]
  rw [select_eq _ _ (by omega) (by omega), (hh q).2, hx]
  split
  · rename_i e; rw [e]
  · congr 1; dsimp only; omega

/-- The input two rows earlier. -/
theorem pay12 (i : grid0.Coords) (hx : Rows x G 2) (hh : Halo h (k0_pay6 (F := Ideal) i) G) :
    Rows (k0_pay12 (F := Ideal) (k0_pay9 (F := Ideal) i x h) k0_pay10 (k0_pay11 i h)) G 0 := by
  intro p q
  pointwise [k0_pay9, k0_pay12, k0_pay7, k0_pay10, k0_pay11]
  rw [select_eq _ _ (by omega) (by omega), select_eq _ _ (by omega) (by omega), (hh q).2, (hh q).1, hx]
  split
  · rename_i e; rw [e]
  split
  · rename_i e; rw [e]
  · congr 1; dsimp only; omega

theorem pay15 (i : grid0.Coords) (hx : Rows x G 2) (hh : Halo h (k0_pay6 (F := Ideal) i) G) :
    Rows (k0_pay15 (F := Ideal) (k0_pay6 (F := Ideal) i) x h) G 1 := by
  intro p q
  pointwise [k0_pay15, k0_pay14]
  rw [select_eq _ _ (by omega) (by omega), (hh q).2, hx]
  split
  · rename_i e; rw [e]
  · congr 1; dsimp only; omega

theorem pay16 (i : grid0.Coords) (hx : Rows x G 2) (hh : Halo h (k0_pay6 (F := Ideal) i) G) :
    Rows (k0_pay16 (F := Ideal) (k0_pay6 (F := Ideal) i) x h) G 0 := by
  intro p q
  pointwise [k0_pay16, k0_pay14]
  rw [select_eq _ _ (by omega) (by omega), select_eq _ _ (by omega) (by omega), (hh q).2, (hh q).1, hx]
  split
  · rename_i e; rw [e]
  split
  · rename_i e; rw [e]
  · congr 1; dsimp only; omega

/-- The gate's convolution. -/
theorem pay13 (i : grid0.Coords) (hx : Rows x G 2) (hh : Halo h (k0_pay6 (F := Ideal) i) G) (hw : Rows w wg 0) (hb : Row b bg) :
    Rows (k0_pay13 (F := Ideal) x w b (k0_pay8 i x h) (k0_pay9 i x h) k0_pay10 (k0_pay11 i h)) (conv G wg bg) 0 := by
  intro p q
  pointwise [k0_pay13]
  rw [pay12 i hx hh p q, pay8 i hx hh p q, hx, hw, hw, hw, hb]
  rfl

/-- The gradient by the gate, from the gate's convolution and the value's shifted inputs. -/
theorem pay19 (i : grid0.Coords) (hv' : Rows v V 2) (hh : Halo hv (k0_pay6 (F := Ideal) i) V) (hw : Rows u wv 0)
    (hb : Row c bv) {g : B256} (hg : Rows g (conv G wg bg) 0) (ha : Rows a A 0) :
    Rows (k0_pay19 (F := Ideal) v u g c (k0_pay15 (k0_pay6 i) v hv) (k0_pay16 (k0_pay6 i) v hv) (k0_pay17 u) a)
      (dG A G V wg wv bg bv) 0 := by
  intro p q
  pointwise [k0_pay19, k0_pay17, k0_pay18]
  rw [pay16 i hv' hh p q, pay15 i hv' hh p q, hv', hw, hw, hw, hb, hg, ha]
  rfl

/-- The gradient by the value. -/
theorem pay20 {g : B256} (hg : Rows g (conv G wg bg) 0) (ha : Rows a A 0) :
    Rows (k0_pay20 (F := Ideal) g a) (dV A G wg bg) 0 := by
  intro p q
  pointwise [k0_pay20, k0_pay18]
  rw [hg, ha]
  rfl

/-- The gate's convolution over the next halo's eight rows, whose own halo is the block's last rows. -/
theorem pay24 (hx : Rows x G 2) (hn : Rows n G 258) (hw : Rows w wg 0) (hb : Row b bg) :
    Rows (k0_pay24 (F := Ideal) w n (k0_pay22 x) b (k0_pay23 x n)) (conv G wg bg) 256 := by
  intro p q
  pointwise [k0_pay24, k0_pay23, k0_pay22]
  simp only [select_eq _ _ (show p.val < 2 ^ 32 by omega) (show 0 < 2 ^ 32 by omega),
    select_eq _ _ (show p.val < 2 ^ 32 by omega) (show 1 < 2 ^ 32 by omega)]
  rw [show (if p.val = 1 then x (ix2 255 q) else if p.val = 0 then x (ix2 254 q) else n (ix2 ⟨(p.val + 8 - 2) % 8, by omega⟩ q))
      = G (p.val + 256) q.val from ?_,
    show (if p.val = 0 then x (ix2 255 q) else n (ix2 ⟨(p.val + 8 - 1) % 8, by omega⟩ q)) = G (p.val + 257) q.val from ?_,
    hn, hw, hw, hw, hb]
  · rfl
  all_goals
    rw [hx, hn]
    try rw [hx]
    split_ifs

    all_goals (congr 1; first | omega | (dsimp only; omega) | (simp; omega))

/-- The gradient by the gate over the next halo's eight rows. -/
theorem pay32 (k : ℕ) (hv' : Rows v V 2) (hn : Rows nv V 258) (hu : Rows u wv 0) (hc : Row c bv) {g : B8}
    (hg : Rows g (conv G wg bg) 256) (ha : Next an (k0_pay21 (F := Ideal) (BitVec.ofNat 32 k)) A) :
    Rows (k0_pay32 (F := Ideal) u (k0_pay21 (F := Ideal) (BitVec.ofNat 32 k)) g nv (k0_pay25 v) c (k0_pay26 v nv) (iota .tc S8x1 32 [0] iota_S8x1_d0_w32)
      (k0_pay27 nv) k0_pay28 (k0_pay29 v) an) (dG A G V wg wv bg bv) 256 := by
  intro p q
  pointwise [k0_pay32, k0_pay31, k0_pay30, k0_pay29, k0_pay28, k0_pay27, k0_pay26, k0_pay25]
  simp only [select_eq _ _ (show p.val < 2 ^ 32 by omega) (show 0 < 2 ^ 32 by omega),
    select_eq _ _ (show p.val < 2 ^ 32 by omega) (show 1 < 2 ^ 32 by omega)]
  rw [show (if p.val = 1 then v (ix2 255 q) else if p.val = 0 then v (ix2 254 q) else nv (ix2 ⟨(p.val + 8 - 2) % 8, by omega⟩ q))
      = V (p.val + 256) q.val from ?_,
    show (if p.val = 0 then v (ix2 255 q) else nv (ix2 ⟨(p.val + 8 - 1) % 8, by omega⟩ q)) = V (p.val + 257) q.val from ?_,
    hn, hu, hu, hu, hc, hg, ha]
  · rfl
  all_goals
    rw [hv', hn]
    try rw [hv']
    split_ifs

    all_goals (congr 1; first | omega | (dsimp only; omega) | (simp; omega))

/-- The gradient by the value over the next halo's eight rows. -/
theorem pay33 (k : ℕ) {g : B8} (hg : Rows g (conv G wg bg) 256) (ha : Next an (k0_pay21 (F := Ideal) (BitVec.ofNat 32 k)) A) :
    Rows (k0_pay33 (F := Ideal) (k0_pay21 (F := Ideal) (BitVec.ofNat 32 k)) g an) (dV A G wg bg) 256 := by
  intro p q
  pointwise [k0_pay33, k0_pay31, k0_pay30]
  rw [hg, ha]
  rfl

/-- The transposed convolution over the block, from its own rows and the next eight. -/
theorem pay36 {d : B256} {e : B8} (hd : Rows d D 0) (he : Rows e D 256) (hw : Rows w wg 0) :
    Rows (k0_pay36 (F := Ideal) w d e (k0_pay34 w d) (iota .tc S256x1 32 [0] iota_S256x1_d0_w32) (k0_pay35 d)) (convT D wg) 0 := by
  intro p q
  pointwise [k0_pay36, k0_pay35, k0_pay34]
  rw [select_eq _ _ (show p.val < 2 ^ 32 by omega) (show 255 < 2 ^ 32 by omega),
    select_eq _ _ (show p.val < 2 ^ 32 by omega) (show 255 < 2 ^ 32 by omega),
    select_eq _ _ (show p.val < 2 ^ 32 by omega) (show 254 < 2 ^ 32 by omega)]
  rw [show (if p.val = 255 then e (ix2 0 q) else d (ix2 ⟨(p.val + 256 - 255) % 256, by omega⟩ q)) = D (p.val + 1) q.val from ?_,
    show (if p.val = 255 then e (ix2 1 q) else if p.val = 254 then e (ix2 0 q) else d (ix2 ⟨(p.val + 256 - 254) % 256, by omega⟩ q))
      = D (p.val + 2) q.val from ?_, hd, hw, hw, hw]
  · rfl
  all_goals
    rw [hd, he]
    try rw [he]
    split_ifs

    all_goals (congr 1; first | omega | (dsimp only; omega) | (simp; omega))

/-- The same for the value's half. -/
theorem pay40 {d : B256} {e : B8} (hd : Rows d D 0) (he : Rows e D 256) (hw : Rows w wg 0) :
    Rows (k0_pay40 (F := Ideal) w d e (k0_pay37 w d) (k0_pay38 d e) (k0_pay39 w)) (convT D wg) 0 := by
  intro p q
  pointwise [k0_pay40, k0_pay37, k0_pay38, k0_pay39]
  rw [select_eq _ _ (show p.val < 2 ^ 32 by omega) (show 255 < 2 ^ 32 by omega),
    select_eq _ _ (show p.val < 2 ^ 32 by omega) (show 255 < 2 ^ 32 by omega),
    select_eq _ _ (show p.val < 2 ^ 32 by omega) (show 254 < 2 ^ 32 by omega)]
  rw [show (if p.val = 255 then e (ix2 0 q) else d (ix2 ⟨(p.val + 256 - 255) % 256, by omega⟩ q)) = D (p.val + 1) q.val from ?_,
    show (if p.val = 255 then e (ix2 1 q) else if p.val = 254 then e (ix2 0 q) else d (ix2 ⟨(p.val + 256 - 254) % 256, by omega⟩ q))
      = D (p.val + 2) q.val from ?_, hd, hw, hw, hw]
  · rfl
  all_goals
    rw [hd, he]
    try rw [he]
    split_ifs

    all_goals (congr 1; first | omega | (dsimp only; omega) | (simp; omega))

/-- A sum over the block's rows of a product of two arrays, added to what was there. -/
theorem sum_rows {d y : B256} {Y : Arr} {r : ℕ} (hd : Rows d D 0) (hy : Rows y Y r) (q : Fin 1408) :
    (∑ k : Fin 256, d (ix2 k q) * y (ix2 k q)) = ∑ k ∈ Finset.range 256, D k q.val * Y (k + r) q.val := by
  rw [Finset.sum_range]
  exact Finset.sum_congr rfl fun k _ => by rw [hd, hy]; rfl

end Cert.GateValue

end
-- ==== Proof.GatePoint.lean ====
/- The blocks one grid point reads and writes, as pieces of the whole arrays. -/
module

public import proofs.«01_k».proof.Proof.GateBlock
public import Idealize.ShloMosaic.Lib.Pipeline.ReadBack

@[expose] public section

set_option maxRecDepth 16384

noncomputable section

namespace Cert.GateValue

open Cert.KernelIdeal Cert.KernelIdeal.Gen Idealize.ShloMosaic Idealize.ShloMosaic.TcCoe Idealize.SL.Sem
open Idealize.ShloMosaic.Pipeline (Dat)

/-- An array read by natural numbers, zero outside. -/
def arr {n k : ℕ} (x : (⟨2, ![n, k]⟩ : Shape).Idx → EReal) : Arr := fun r q =>
  if h : r < n ∧ q < k then x (ix2 ⟨r, h.1⟩ ⟨q, h.2⟩) else 0

theorem arr_ix2 {n k : ℕ} (x : (⟨2, ![n, k]⟩ : Shape).Idx → EReal) (r : Fin n) (q : Fin k) (r' q' : ℕ) (hr : r' = r.val)
    (hq : q' = q.val) : arr x r' q' = x (ix2 r q) := by
  subst hr hq
  rw [arr, dif_pos ⟨r.isLt, q.isLt⟩]

theorem arr_at {n k : ℕ} (x : (⟨2, ![n, k]⟩ : Shape).Idx → EReal) (y : (⟨2, ![n, k]⟩ : Shape).Idx) :
    x y = arr x (y 0).val (y 1).val := by
  rw [arr_ix2 x (y 0) (y 1) _ _ rfl rfl, ← eq_ix2 y]

/-- The input with its two rows of zeros in front. -/
def padded (X : Arr) : Arr := fun r q => if r < 2 then 0 else X (r - 2) q

variable (m : (ℓ : Loc nD τ sig) → Buf (Elt Ideal) ℓ) (c : Dev nD)

/-- The kernel's arguments by row and column. -/
def aUp : Arr := arr (m ((c.tc : Thread nD τ).loc main_arg0))
def aDa : Arr := arr (m ((c.tc : Thread nD τ).loc main_arg1))
def aW : Arr := arr (m ((c.tc : Thread nD τ).loc main_arg2))
def aB : Arr := arr (m ((c.tc : Thread nD τ).loc main_arg3))

theorem coord1 : ∀ t : Fin cfg0.N, ((grid0.coords t) 1).val = t.val % 8 := by decide +kernel

theorem e0 : ∀ t : Fin cfg0.N, win0_0.index t = ![t.val % 8, t.val / 8] := by decide +kernel
theorem e1 : ∀ t : Fin cfg0.N, win0_1.index t = ![t.val % 8, t.val / 8 + 2] := by decide +kernel
theorem e2 : ∀ t : Fin cfg0.N, win0_2.index t = ![32 * (t.val % 8) - 1, t.val / 8] := by decide +kernel
theorem e3 : ∀ t : Fin cfg0.N, win0_3.index t = ![32 * (t.val % 8) - 1, t.val / 8 + 2] := by decide +kernel
theorem e4 : ∀ t : Fin cfg0.N, win0_4.index t = ![min (32 * (t.val % 8 + 1)) 255, t.val / 8] := by decide +kernel
theorem e5 : ∀ t : Fin cfg0.N, win0_5.index t = ![min (32 * (t.val % 8 + 1)) 255, t.val / 8 + 2] := by decide +kernel
theorem e6 : ∀ t : Fin cfg0.N, win0_6.index t = ![t.val % 8, t.val / 8] := by decide +kernel
theorem e7 : ∀ t : Fin cfg0.N, win0_7.index t = ![min (32 * (t.val % 8 + 1)) 255, t.val / 8] := by decide +kernel
theorem e8 : ∀ t : Fin cfg0.N, win0_8.index t = ![0, t.val / 8] := by decide +kernel
theorem e9 : ∀ t : Fin cfg0.N, win0_9.index t = ![0, t.val / 8 + 2] := by decide +kernel
theorem e10 : ∀ t : Fin cfg0.N, win0_10.index t = ![0, t.val / 8] := by decide +kernel
theorem e11 : ∀ t : Fin cfg0.N, win0_11.index t = ![0, t.val / 8 + 2] := by decide +kernel

variable (t : Fin cfg0.N)

theorem b0 (p : Fin 256) (q : Fin 1408) : iblk m c 0 t (ix2 p q) = aUp m c (256 * (t.val % 8) + p.val) (1408 * (t.val / 8) + q.val) := by
  blk_simp [iblk]
  rw [arr_at (V m c main_arg0)]
  unfold aUp
  congr 1 <;> blk_simp [e0] <;> omega

theorem b1 (p : Fin 256) (q : Fin 1408) : iblk m c 1 t (ix2 p q) = aUp m c (256 * (t.val % 8) + p.val) (1408 * (t.val / 8) + q.val + 2816) := by
  blk_simp [iblk]
  rw [arr_at (V m c main_arg0)]
  unfold aUp
  congr 1 <;> blk_simp [e1] <;> omega

theorem b2 (p : Fin 8) (q : Fin 1408) : iblk m c 2 t (ix2 p q) = aUp m c (8 * (32 * (t.val % 8) - 1) + p.val) (1408 * (t.val / 8) + q.val) := by
  blk_simp [iblk]
  rw [arr_at (V m c main_arg0)]
  unfold aUp
  congr 1 <;> blk_simp [e2] <;> omega

theorem b3 (p : Fin 8) (q : Fin 1408) : iblk m c 3 t (ix2 p q) = aUp m c (8 * (32 * (t.val % 8) - 1) + p.val) (1408 * (t.val / 8) + q.val + 2816) := by
  blk_simp [iblk]
  rw [arr_at (V m c main_arg0)]
  unfold aUp
  congr 1 <;> blk_simp [e3] <;> omega

theorem b4 (p : Fin 8) (q : Fin 1408) : iblk m c 4 t (ix2 p q) = aUp m c (8 * min (32 * ((t.val % 8) + 1)) 255 + p.val) (1408 * (t.val / 8) + q.val) := by
  blk_simp [iblk]
  rw [arr_at (V m c main_arg0)]
  unfold aUp
  congr 1 <;> blk_simp [e4] <;> omega

theorem b5 (p : Fin 8) (q : Fin 1408) : iblk m c 5 t (ix2 p q) = aUp m c (8 * min (32 * ((t.val % 8) + 1)) 255 + p.val) (1408 * (t.val / 8) + q.val + 2816) := by
  blk_simp [iblk]
  rw [arr_at (V m c main_arg0)]
  unfold aUp
  congr 1 <;> blk_simp [e5] <;> omega

theorem b6 (p : Fin 256) (q : Fin 1408) : iblk m c 6 t (ix2 p q) = aDa m c (256 * (t.val % 8) + p.val) (1408 * (t.val / 8) + q.val) := by
  blk_simp [iblk]
  rw [arr_at (V m c main_arg1)]
  unfold aDa
  congr 1 <;> blk_simp [e6] <;> omega

theorem b7 (p : Fin 8) (q : Fin 1408) : iblk m c 7 t (ix2 p q) = aDa m c (8 * min (32 * ((t.val % 8) + 1)) 255 + p.val) (1408 * (t.val / 8) + q.val) := by
  blk_simp [iblk]
  rw [arr_at (V m c main_arg1)]
  unfold aDa
  congr 1 <;> blk_simp [e7] <;> omega

theorem b8 (p : Fin 3) (q : Fin 1408) : iblk m c 8 t (ix2 p q) = aW m c (p.val) (1408 * (t.val / 8) + q.val) := by
  blk_simp [iblk]
  rw [arr_at (V m c main_arg2)]
  unfold aW
  congr 1 <;> blk_simp [e8] <;> omega

theorem b9 (p : Fin 3) (q : Fin 1408) : iblk m c 9 t (ix2 p q) = aW m c (p.val) (1408 * (t.val / 8) + q.val + 2816) := by
  blk_simp [iblk]
  rw [arr_at (V m c main_arg2)]
  unfold aW
  congr 1 <;> blk_simp [e9] <;> omega

theorem b10 (p : Fin 1) (q : Fin 1408) : iblk m c 10 t (ix2 p q) = aB m c (p.val) (1408 * (t.val / 8) + q.val) := by
  blk_simp [iblk]
  rw [arr_at (V m c main_arg3)]
  unfold aB
  congr 1 <;> blk_simp [e10] <;> omega

theorem b11 (p : Fin 1) (q : Fin 1408) : iblk m c 11 t (ix2 p q) = aB m c (p.val) (1408 * (t.val / 8) + q.val + 2816) := by
  blk_simp [iblk]
  rw [arr_at (V m c main_arg3)]
  unfold aB
  congr 1 <;> blk_simp [e11] <;> omega

/-- The gate's columns of the weights and of the biases, and the value's: the value's lie 2816 columns further. -/
def wG : Arr := aW m c
def wV : Arr := fun k q => aW m c k (q + 2816)
def bG : ℕ → EReal := aB m c 0
def bV : ℕ → EReal := fun q => aB m c 0 (q + 2816)

/-- The padded input's gate columns and value columns. -/
def xG : Arr := padded (aUp m c)
def xV : Arr := fun r q => padded (aUp m c) r (q + 2816)

/-- The gradients by the convolution's gate half and value half, over the whole array. -/
def gateGrad : Arr := dG (aDa m c) (xG m c) (xV m c) (wG m c) (wV m c) (bG m c) (bV m c)
def valueGrad : Arr := dV (aDa m c) (xG m c) (wG m c) (bG m c)

/-- An array seen from the block's first row and column. -/
def off (G : Arr) : Arr := fun r q => G (256 * (t.val % 8) + r) (1408 * (t.val / 8) + q)

/-- What the block sees of a padded input: the array's rows, and past them the next halo as it was read. -/
def seen (G : Arr) (o : ℕ) : Arr := fun r q =>
  if r < 258 then off t G r q
  else aUp m c (8 * min (32 * (t.val % 8 + 1)) 255 + (r - 258)) (1408 * (t.val / 8) + q + o)

theorem seen_lt (G : Arr) (o r q : ℕ) (h : r < 258) : seen m c t G o r q = off t G r q := if_pos h

/-- Rows from 258 on of the array itself, but at the last block of rows. -/
theorem seen_ge (o r q : ℕ) (h : r < 266) (ht : t.val % 8 ≠ 7) :
    seen m c t (fun r q => padded (aUp m c) r (q + o)) o r q = off t (fun r q => padded (aUp m c) r (q + o)) r q := by
  simp only [seen, off, padded]
  split
  · rfl
  · rw [if_neg (by omega)]
    have : t.val % 8 < 8 := Nat.mod_lt _ (by decide)
    congr 1; omega

theorem rows_main (o : ℕ) (x : B256) (hx : ∀ (p : Fin 256) (q : Fin 1408), x (ix2 p q) =
      aUp m c (256 * (t.val % 8) + p.val) (1408 * (t.val / 8) + q.val + o)) :
    Rows x (seen m c t (fun r q => padded (aUp m c) r (q + o)) o) 2 := by
  intro p q
  rw [hx, seen_lt _ _ _ _ _ _ _ (by omega)]
  simp only [off, padded]
  rw [if_neg (by omega)]
  congr 1

theorem rows_next (o : ℕ) (x : B8) (hx : ∀ (p : Fin 8) (q : Fin 1408), x (ix2 p q) =
      aUp m c (8 * min (32 * (t.val % 8 + 1)) 255 + p.val) (1408 * (t.val / 8) + q.val + o)) (G : Arr) :
    Rows x (seen m c t G o) 258 := by
  intro p q
  rw [hx, seen, if_neg (by omega)]
  congr 1

theorem halo_prev (o : ℕ) (x : B8) (hx : ∀ (p : Fin 8) (q : Fin 1408), x (ix2 p q) =
      aUp m c (8 * (32 * (t.val % 8) - 1) + p.val) (1408 * (t.val / 8) + q.val + o)) :
    Halo x (k0_pay6 (F := Ideal) (grid0.coords t)) (seen m c t (fun r q => padded (aUp m c) r (q + o)) o) := by
  intro q
  rw [hx, hx, pay6, coord1, seen_lt _ _ _ _ _ _ _ (by omega), seen_lt _ _ _ _ _ _ _ (by omega)]
  simp only [off, padded]
  by_cases h : t.val % 8 = 0
  · rw [if_pos h, if_pos (by omega), if_pos (by omega), mul_zero, mul_zero]; exact ⟨rfl, rfl⟩
  · rw [if_neg h, if_neg (by omega), if_neg (by omega), mul_one, mul_one]
    constructor <;> (congr 1; first | omega | (simp; omega))

end Cert.GateValue
end
-- ==== Proof.GateOut.lean ====
/- The six results a grid point of the gate's gradient writes. -/
module

public import proofs.«01_k».proof.Proof.GatePoint

@[expose] public section

set_option maxRecDepth 16384

noncomputable section

namespace Cert.GateValue

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The block's own inputs, seen as pieces of the whole arrays. -/
theorem sG : Rows (iblk m c 0 t) (seen m c t (xG m c) 0) 2 := rows_main m c t 0 _ (b0 m c t)
theorem sV : Rows (iblk m c 1 t) (seen m c t (xV m c) 2816) 2 := rows_main m c t 2816 _ (b1 m c t)
theorem hG : Halo (iblk m c 2 t) (k0_pay6 (F := Ideal) (grid0.coords t)) (seen m c t (xG m c) 0) := halo_prev m c t 0 _ (b2 m c t)
theorem hV : Halo (iblk m c 3 t) (k0_pay6 (F := Ideal) (grid0.coords t)) (seen m c t (xV m c) 2816) := halo_prev m c t 2816 _ (b3 m c t)
theorem nG : Rows (iblk m c 4 t) (seen m c t (xG m c) 0) 258 := rows_next m c t 0 _ (b4 m c t) _
theorem nV : Rows (iblk m c 5 t) (seen m c t (xV m c) 2816) 258 := rows_next m c t 2816 _ (b5 m c t) _
theorem wGs : Rows (iblk m c 8 t) (fun k q => wG m c k (1408 * (t.val / 8) + q)) 0 := b8 m c t
theorem wVs : Rows (iblk m c 9 t) (fun k q => wV m c k (1408 * (t.val / 8) + q)) 0 := b9 m c t
theorem bGs : Row (iblk m c 10 t) (fun q => bG m c (1408 * (t.val / 8) + q)) := b10 m c t 0
theorem bVs : Row (iblk m c 11 t) (fun q => bV m c (1408 * (t.val / 8) + q)) := b11 m c t 0
theorem sA : Rows (iblk m c 6 t) (off t (aDa m c)) 0 := b6 m c t
theorem nA : Next (iblk m c 7 t) (k0_pay21 (F := Ideal) (BitVec.ofNat 32 ((grid0.coords t) 1).val)) (off t (aDa m c)) := by
  intro p q
  have h8 : t.val % 8 < 8 := Nat.mod_lt _ (by decide)
  rw [b7, pay21 _ (by rw [coord1]; exact h8), coord1]
  simp only [off]
  split
  · rw [mul_zero]
    unfold aDa arr
    rw [dif_neg (by omega)]
  · rw [mul_one]; congr 1; omega

/-- The gradients as the block computes them, and as pieces of the whole arrays: the rows that count agree. -/
abbrev dGs : Arr := dG (off t (aDa m c)) (seen m c t (xG m c) 0) (seen m c t (xV m c) 2816)
  (fun k q => wG m c k (1408 * (t.val / 8) + q)) (fun k q => wV m c k (1408 * (t.val / 8) + q))
  (fun q => bG m c (1408 * (t.val / 8) + q)) (fun q => bV m c (1408 * (t.val / 8) + q))
abbrev dVs : Arr := dV (off t (aDa m c)) (seen m c t (xG m c) 0)
  (fun k q => wG m c k (1408 * (t.val / 8) + q)) (fun q => bG m c (1408 * (t.val / 8) + q))

theorem conv_seen (w : Arr) (b : ℕ → EReal) (o r q : ℕ) (h : r < 256 ∨ (t.val % 8 ≠ 7 ∧ r < 264)) :
    conv (seen m c t (fun r q => padded (aUp m c) r (q + o)) o) w b r q = conv (off t (fun r q => padded (aUp m c) r (q + o))) w b r q := by
  unfold conv
  rcases h with h | ⟨h, h'⟩
  · rw [seen_lt _ _ _ _ _ _ _ (by omega), seen_lt _ _ _ _ _ _ _ (by omega), seen_lt _ _ _ _ _ _ _ (by omega)]
  · rw [seen_ge _ _ _ _ _ _ (by omega) h, seen_ge _ _ _ _ _ _ (by omega) h, seen_ge _ _ _ _ _ _ (by omega) h]

theorem da_past (r q : ℕ) (h : ¬ (r < 256 ∨ (t.val % 8 ≠ 7 ∧ r < 264))) (h' : r < 264) : off t (aDa m c) r q = 0 := by
  unfold off aDa arr
  rw [dif_neg (by omega)]

theorem dGs_eq (r q : ℕ) (h : r < 264) : dGs m c t r q = off t (gateGrad m c) r q := by
  by_cases hr : r < 256 ∨ (t.val % 8 ≠ 7 ∧ r < 264)
  · unfold dGs dG
    rw [show conv (seen m c t (xG m c) 0) _ _ r q = _ from conv_seen m c t _ _ 0 r q hr,
      show conv (seen m c t (xV m c) 2816) _ _ r q = _ from conv_seen m c t _ _ 2816 r q hr]
    rfl
  · unfold dGs dG dgate
    rw [da_past m c t r q hr h, zero_mul, zero_mul]
    simp only [off, gateGrad, dG, dgate]
    rw [show aDa m c (256 * (t.val % 8) + r) (1408 * (t.val / 8) + q) = 0 from da_past m c t r q hr h, zero_mul, zero_mul]

theorem dVs_eq (r q : ℕ) (h : r < 264) : dVs m c t r q = off t (valueGrad m c) r q := by
  by_cases hr : r < 256 ∨ (t.val % 8 ≠ 7 ∧ r < 264)
  · unfold dVs dV
    rw [show conv (seen m c t (xG m c) 0) _ _ r q = _ from conv_seen m c t _ _ 0 r q hr]
    rfl
  · unfold dVs dV dval
    rw [da_past m c t r q hr h, zero_mul]
    simp only [off, valueGrad, dV, dval]
    rw [show aDa m c (256 * (t.val % 8) + r) (1408 * (t.val / 8) + q) = 0 from da_past m c t r q hr h, zero_mul]

/-- The gradients by the two halves over the block and over the next halo. -/
abbrev kUg : B256 := k0_pay13 (F := Ideal) (iblk m c 0 t) (iblk m c 8 t) (iblk m c 10 t) (k0_pay8 (grid0.coords t) (iblk m c 0 t) (iblk m c 2 t))
  (k0_pay9 (grid0.coords t) (iblk m c 0 t) (iblk m c 2 t)) k0_pay10 (k0_pay11 (grid0.coords t) (iblk m c 2 t))
abbrev kDug : B256 := k0_pay19 (F := Ideal) (iblk m c 1 t) (iblk m c 9 t) (kUg m c t) (iblk m c 11 t)
  (k0_pay15 (k0_pay6 (grid0.coords t)) (iblk m c 1 t) (iblk m c 3 t)) (k0_pay16 (k0_pay6 (grid0.coords t)) (iblk m c 1 t) (iblk m c 3 t))
  (k0_pay17 (iblk m c 9 t)) (iblk m c 6 t)
abbrev kDuv : B256 := k0_pay20 (F := Ideal) (kUg m c t) (iblk m c 6 t)
abbrev kUgn : B8 := k0_pay24 (F := Ideal) (iblk m c 8 t) (iblk m c 4 t) (k0_pay22 (iblk m c 0 t)) (iblk m c 10 t) (k0_pay23 (iblk m c 0 t) (iblk m c 4 t))

theorem rU : Rows (kUg m c t) (conv (seen m c t (xG m c) 0) (fun k q => wG m c k (1408 * (t.val / 8) + q))
    (fun q => bG m c (1408 * (t.val / 8) + q))) 0 :=
  pay13 (grid0.coords t) (sG m c t) (hG m c t) (wGs m c t) (bGs m c t)
theorem rUn : Rows (kUgn m c t) (conv (seen m c t (xG m c) 0) (fun k q => wG m c k (1408 * (t.val / 8) + q))
    (fun q => bG m c (1408 * (t.val / 8) + q))) 256 :=
  pay24 (sG m c t) (nG m c t) (wGs m c t) (bGs m c t)
theorem rG : Rows (kDug m c t) (dGs m c t) 0 := pay19 (grid0.coords t) (sV m c t) (hV m c t) (wVs m c t) (bVs m c t) (rU m c t) (sA m c t)
theorem rV : Rows (kDuv m c t) (dVs m c t) 0 := pay20 (rU m c t) (sA m c t)

theorem out12 (p : Fin 256) (q : Fin 1408) : (outsAt0 m c t.val t.isLt).1 (ix2 p q) =
    convT (gateGrad m c) (wG m c) (256 * (t.val % 8) + p.val) (1408 * (t.val / 8) + q.val) := by
  refine Eq.trans (b := convT (dGs m c t) (fun k q => wG m c k (1408 * (t.val / 8) + q)) p.val q.val) ?_ ?_
  · by_cases h0 : t.val % 8 = 0
    · rw [outsAt0_A m c t h0]
      dsimp only
      frame_out
      exact pay36 (rG m c t) (pay32 _ (sV m c t) (nV m c t) (wVs m c t) (bVs m c t) (rUn m c t) (nA m c t)) (wGs m c t) p q
    · rw [outsAt0_B m c t h0]
      dsimp only
      frame_out
      exact pay36 (rG m c t) (pay32 _ (sV m c t) (nV m c t) (wVs m c t) (bVs m c t) (rUn m c t) (nA m c t)) (wGs m c t) p q
  · unfold convT
    rw [dGs_eq _ _ _ _ _ (by omega), dGs_eq _ _ _ _ _ (by omega), dGs_eq _ _ _ _ _ (by omega)]
    rfl

theorem out13 (p : Fin 256) (q : Fin 1408) : (outsAt0 m c t.val t.isLt).2.1 (ix2 p q) =
    convT (valueGrad m c) (wV m c) (256 * (t.val % 8) + p.val) (1408 * (t.val / 8) + q.val) := by
  refine Eq.trans (b := convT (dVs m c t) (fun k q => wV m c k (1408 * (t.val / 8) + q)) p.val q.val) ?_ ?_
  · by_cases h0 : t.val % 8 = 0
    · rw [outsAt0_A m c t h0]
      dsimp only
      frame_out
      exact pay40 (rV m c t) (pay33 _ (rUn m c t) (nA m c t)) (wVs m c t) p q
    · rw [outsAt0_B m c t h0]
      dsimp only
      frame_out
      exact pay40 (rV m c t) (pay33 _ (rUn m c t) (nA m c t)) (wVs m c t) p q
  · unfold convT
    rw [dVs_eq _ _ _ _ _ (by omega), dVs_eq _ _ _ _ _ (by omega), dVs_eq _ _ _ _ _ (by omega)]
    rfl

end Cert.GateValue

end
-- ==== Proof.GateSum.lean ====
/- The sums over the rows, gathered block of rows by block of rows. -/
module

public import proofs.«01_k».proof.Proof.GateOut

@[expose] public section

set_option maxRecDepth 16384

noncomputable section

namespace Cert.GateValue

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- A stored row: what the three rows hold afterwards. -/
theorem canon_row (a : ℕ) (inb : ∀ x, (![a, 0] : Fin 2 → ℕ) x + S1x1408.size x ≤ S3x1408.size x)
    (w : Vec Ideal S1x1408 .f32) (L : List (View.Piece (Elt Ideal) S3x1408 .f32)) (p : Fin 3) (q : Fin 1408) :
    View.canon ((⟨Rect.unit (s := S3x1408) ![a, 0] S1x1408.size inb, w⟩ : View.Piece (Elt Ideal) S3x1408 .f32) :: L) (ix2 p q)
      = if p.val = a then w (ix2 0 q) else View.canon L (ix2 p q) := by
  split
  · rename_i h
    have he : (Rect.unit (s := S3x1408) ![a, 0] S1x1408.size inb).emb (ix2 0 q) = ix2 p q := by
      funext x; apply Fin.ext
      fin_cases x
      · show a + 1 * 0 = p.val; omega
      · show 0 + 1 * q.val = q.val; omega
    rw [← he]
    exact View.canon_cons_emb (Rect.unit (s := S3x1408) ![a, 0] S1x1408.size inb) w L (ix2 0 q)
  · rename_i h
    refine View.canon_cons_of_not_mem _ L ?_
    intro hm
    obtain ⟨i, hi, he⟩ := (LoadRect.mem_set _).mp hm (0 : Fin 2)
    have hi1 : i < 1 := hi
    have he' : p.val = a + 1 * i := he
    omega

/-- What the block's sum over its rows adds, in terms of the whole array. -/
def blockSum (H : Arr) (q : ℕ) : EReal := ∑ k ∈ Finset.range 256, H (256 * (t.val % 8) + k) (1408 * (t.val / 8) + q)

/-- The inputs shifted by two, by one and by no row, of the gate and of the value. -/
abbrev kXg : Fin 3 → B256 := ![k0_pay12 (F := Ideal) (k0_pay9 (grid0.coords t) (iblk m c 0 t) (iblk m c 2 t)) k0_pay10 (k0_pay11 (grid0.coords t) (iblk m c 2 t)),
  k0_pay8 (F := Ideal) (grid0.coords t) (iblk m c 0 t) (iblk m c 2 t), iblk m c 0 t]
abbrev kXv : Fin 3 → B256 := ![k0_pay16 (F := Ideal) (k0_pay6 (grid0.coords t)) (iblk m c 1 t) (iblk m c 3 t),
  k0_pay15 (F := Ideal) (k0_pay6 (grid0.coords t)) (iblk m c 1 t) (iblk m c 3 t), iblk m c 1 t]

theorem rXg (a : Fin 3) : Rows (kXg m c t a) (seen m c t (xG m c) 0) a.val := by
  fin_cases a
  · exact pay12 _ (sG m c t) (hG m c t)
  · exact pay8 _ (sG m c t) (hG m c t)
  · exact sG m c t
theorem rXv (a : Fin 3) : Rows (kXv m c t a) (seen m c t (xV m c) 2816) a.val := by
  fin_cases a
  · exact pay16 _ (sV m c t) (hV m c t)
  · exact pay15 _ (sV m c t) (hV m c t)
  · exact sV m c t

/-- The four results that are summed, at the first block of rows and at a later one. -/
theorem first14 (h0 : t.val % 8 = 0) (q : Fin 1408) :
    (outsAt0 m c t.val t.isLt).2.2.1 (ix2 0 q) = 0 + ∑ k : Fin 256, kDug m c t (ix2 k q) := by
  rw [outsAt0_A m c t h0]
  dsimp only
  frame_open
  simp (disch := decide) only [↓ View.readCov_skip, ↓ View.readCov_cons_toLoadRect, ↓ View.readCov_fill]
  frame_out
  pointwise [k0_pay41, k0_pay2]
theorem next14 (h0 : ¬ t.val % 8 = 0) (q : Fin 1408) : (outsAt0 m c t.val t.isLt).2.2.1 (ix2 0 q) =
    (outsAt0 m c (t.val - 1) (by omega)).2.2.1 (ix2 0 q) + ∑ k : Fin 256, kDug m c t (ix2 k q) := by
  rw [outsAt0_B m c t h0]
  dsimp only
  frame_out
  pointwise [k0_pay41]
theorem first15 (h0 : t.val % 8 = 0) (q : Fin 1408) :
    (outsAt0 m c t.val t.isLt).2.2.2.1 (ix2 0 q) = 0 + ∑ k : Fin 256, kDuv m c t (ix2 k q) := by
  rw [outsAt0_A m c t h0]
  dsimp only
  frame_open
  simp (disch := decide) only [↓ View.readCov_skip, ↓ View.readCov_cons_toLoadRect, ↓ View.readCov_fill]
  frame_out
  pointwise [k0_pay42, k0_pay3]
theorem next15 (h0 : ¬ t.val % 8 = 0) (q : Fin 1408) : (outsAt0 m c t.val t.isLt).2.2.2.1 (ix2 0 q) =
    (outsAt0 m c (t.val - 1) (by omega)).2.2.2.1 (ix2 0 q) + ∑ k : Fin 256, kDuv m c t (ix2 k q) := by
  rw [outsAt0_B m c t h0]
  dsimp only
  frame_out
  pointwise [k0_pay42]
theorem first16 (h0 : t.val % 8 = 0) (p : Fin 3) (q : Fin 1408) :
    (outsAt0 m c t.val t.isLt).2.2.2.2.1 (ix2 p q) = 0 + ∑ k : Fin 256, kDug m c t (ix2 k q) * kXg m c t p (ix2 k q) := by
  rw [outsAt0_A m c t h0]
  dsimp only
  frame_open
  simp (disch := decide) only [↓ View.readCov_skip, ↓ View.readCov_cons_toLoadRect, ↓ View.readCov_fill]
  frame_out
  rw [canon_row, canon_row, canon_row]
  fin_cases p
  · rw [if_neg (by decide), if_neg (by decide), if_pos rfl]
    pointwise [k0_pay44, k0_pay43, k0_pay4]
  · rw [if_neg (by decide), if_pos rfl]
    pointwise [k0_pay45, k0_pay4]
  · rw [if_pos rfl]
    pointwise [k0_pay46, k0_pay4]
theorem next16 (h0 : ¬ t.val % 8 = 0) (p : Fin 3) (q : Fin 1408) : (outsAt0 m c t.val t.isLt).2.2.2.2.1 (ix2 p q) =
    (outsAt0 m c (t.val - 1) (by omega)).2.2.2.2.1 (ix2 p q) + ∑ k : Fin 256, kDug m c t (ix2 k q) * kXg m c t p (ix2 k q) := by
  rw [outsAt0_B m c t h0]
  dsimp only
  frame_out
  rw [canon_row, canon_row, canon_row]
  fin_cases p
  · rw [if_neg (by decide), if_neg (by decide), if_pos rfl]
    pointwise [k0_pay44, k0_pay43]
  · rw [if_neg (by decide), if_pos rfl]
    pointwise [k0_pay45]
  · rw [if_pos rfl]
    pointwise [k0_pay46]
theorem first17 (h0 : t.val % 8 = 0) (p : Fin 3) (q : Fin 1408) :
    (outsAt0 m c t.val t.isLt).2.2.2.2.2 (ix2 p q) = 0 + ∑ k : Fin 256, kDuv m c t (ix2 k q) * kXv m c t p (ix2 k q) := by
  rw [outsAt0_A m c t h0]
  dsimp only
  frame_open
  simp (disch := decide) only [↓ View.readCov_skip, ↓ View.readCov_cons_toLoadRect, ↓ View.readCov_fill]
  frame_out
  rw [canon_row, canon_row, canon_row]
  fin_cases p
  · rw [if_neg (by decide), if_neg (by decide), if_pos rfl]
    pointwise [k0_pay47, k0_pay5]
  · rw [if_neg (by decide), if_pos rfl]
    pointwise [k0_pay48, k0_pay5]
  · rw [if_pos rfl]
    pointwise [k0_pay1, k0_pay5]
theorem next17 (h0 : ¬ t.val % 8 = 0) (p : Fin 3) (q : Fin 1408) : (outsAt0 m c t.val t.isLt).2.2.2.2.2 (ix2 p q) =
    (outsAt0 m c (t.val - 1) (by omega)).2.2.2.2.2 (ix2 p q) + ∑ k : Fin 256, kDuv m c t (ix2 k q) * kXv m c t p (ix2 k q) := by
  rw [outsAt0_B m c t h0]
  dsimp only
  frame_out
  rw [canon_row, canon_row, canon_row]
  fin_cases p
  · rw [if_neg (by decide), if_neg (by decide), if_pos rfl]
    pointwise [k0_pay47]
  · rw [if_neg (by decide), if_pos rfl]
    pointwise [k0_pay48]
  · rw [if_pos rfl]
    pointwise [k0_pay1]

/-- The block's sums are the whole arrays' over the block's rows. -/
theorem sum14 (q : Fin 1408) : (∑ k : Fin 256, kDug m c t (ix2 k q)) = blockSum t (gateGrad m c) q.val := by
  unfold blockSum
  rw [Finset.sum_range]
  exact Finset.sum_congr rfl fun k _ => (rG m c t k q).trans (dGs_eq m c t _ _ (by omega))
theorem sum15 (q : Fin 1408) : (∑ k : Fin 256, kDuv m c t (ix2 k q)) = blockSum t (valueGrad m c) q.val := by
  unfold blockSum
  rw [Finset.sum_range]
  exact Finset.sum_congr rfl fun k _ => (rV m c t k q).trans (dVs_eq m c t _ _ (by omega))
theorem sum16 (p : Fin 3) (q : Fin 1408) : (∑ k : Fin 256, kDug m c t (ix2 k q) * kXg m c t p (ix2 k q)) =
    blockSum t (fun r s => gateGrad m c r s * xG m c (r + p.val) s) q.val := by
  unfold blockSum
  rw [Finset.sum_range]
  refine Finset.sum_congr rfl fun k _ => ?_
  rw [(rG m c t k q).trans (dGs_eq m c t _ _ (by omega)), (rXg m c t p k q).trans (seen_lt _ _ _ _ _ _ _ (by omega))]
  simp only [off, Nat.add_zero, Nat.add_assoc]
theorem sum17 (p : Fin 3) (q : Fin 1408) : (∑ k : Fin 256, kDuv m c t (ix2 k q) * kXv m c t p (ix2 k q)) =
    blockSum t (fun r s => valueGrad m c r s * xV m c (r + p.val) s) q.val := by
  unfold blockSum
  rw [Finset.sum_range]
  refine Finset.sum_congr rfl fun k _ => ?_
  rw [(rV m c t k q).trans (dVs_eq m c t _ _ (by omega)), (rXv m c t p k q).trans (seen_lt _ _ _ _ _ _ _ (by omega))]
  simp only [off, Nat.add_zero, Nat.add_assoc]

/-- A value that is set at the first block of rows and added to at each later one is the sum over the rows so far. -/
theorem gather (H : Arr) (q : ℕ) (f : (n : ℕ) → n < cfg0.N → EReal)
    (hA : ∀ t : Fin cfg0.N, t.val % 8 = 0 → f t.val t.isLt = 0 + blockSum t H q)
    (hB : ∀ t : Fin cfg0.N, ¬ t.val % 8 = 0 → f t.val t.isLt = f (t.val - 1) (by omega) + blockSum t H q) :
    ∀ (n : ℕ) (hn : n < cfg0.N), f n hn = ∑ r ∈ Finset.range (256 * (n % 8 + 1)), H r (1408 * (n / 8) + q) := by
  intro n
  induction n with
  | zero =>
    intro hn
    rw [hA ⟨0, hn⟩ rfl, zero_add]
    simp [blockSum]
  | succ n ih =>
    intro hn
    by_cases h : (n + 1) % 8 = 0
    · rw [hA ⟨n + 1, hn⟩ h, zero_add]
      simp [blockSum, h]
    · rw [hB ⟨n + 1, hn⟩ h]
      simp only [Nat.add_sub_cancel]
      rw [ih (by omega), show 256 * ((n + 1) % 8 + 1) = 256 * (n % 8 + 1) + 256 by omega, Finset.sum_range_add,
        show (n + 1) / 8 = n / 8 by omega]
      congr 1
      simp only [blockSum]
      refine Finset.sum_congr rfl fun k _ => ?_
      congr 1 <;> omega

theorem out14 (q : Fin 1408) : (outsAt0 m c t.val t.isLt).2.2.1 (ix2 0 q) =
    ∑ r ∈ Finset.range (256 * (t.val % 8 + 1)), gateGrad m c r (1408 * (t.val / 8) + q.val) :=
  gather _ _ (fun n hn => (outsAt0 m c n hn).2.2.1 (ix2 0 q)) (fun t h => by rw [first14 m c t h, sum14])
    (fun t h => by rw [next14 m c t h, sum14]) _ _
theorem out15 (q : Fin 1408) : (outsAt0 m c t.val t.isLt).2.2.2.1 (ix2 0 q) =
    ∑ r ∈ Finset.range (256 * (t.val % 8 + 1)), valueGrad m c r (1408 * (t.val / 8) + q.val) :=
  gather _ _ (fun n hn => (outsAt0 m c n hn).2.2.2.1 (ix2 0 q)) (fun t h => by rw [first15 m c t h, sum15])
    (fun t h => by rw [next15 m c t h, sum15]) _ _
theorem out16 (p : Fin 3) (q : Fin 1408) : (outsAt0 m c t.val t.isLt).2.2.2.2.1 (ix2 p q) =
    ∑ r ∈ Finset.range (256 * (t.val % 8 + 1)), gateGrad m c r (1408 * (t.val / 8) + q.val) *
      xG m c (r + p.val) (1408 * (t.val / 8) + q.val) :=
  gather (fun r s => gateGrad m c r s * xG m c (r + p.val) s) _ (fun n hn => (outsAt0 m c n hn).2.2.2.2.1 (ix2 p q))
    (fun t h => by rw [first16 m c t h, sum16]) (fun t h => by rw [next16 m c t h, sum16]) _ _
theorem out17 (p : Fin 3) (q : Fin 1408) : (outsAt0 m c t.val t.isLt).2.2.2.2.2 (ix2 p q) =
    ∑ r ∈ Finset.range (256 * (t.val % 8 + 1)), valueGrad m c r (1408 * (t.val / 8) + q.val) *
      xV m c (r + p.val) (1408 * (t.val / 8) + q.val) :=
  gather (fun r s => valueGrad m c r s * xV m c (r + p.val) s) _ (fun n hn => (outsAt0 m c n hn).2.2.2.2.2 (ix2 p q))
    (fun t h => by rw [first17 m c t h, sum17]) (fun t h => by rw [next17 m c t h, sum17]) _ _

end Cert.GateValue

end
-- ==== Proof.GateArray.lean ====
/- The six results of the gate's gradient as whole arrays. -/
module

public import proofs.«01_k».proof.Proof.GateSum

@[expose] public section

set_option maxRecDepth 16384

noncomputable section

namespace Cert.GateValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem e12 : ∀ t : Fin cfg0.N, win0_12.index t = ![t.val % 8, t.val / 8] := by decide +kernel
theorem e13 : ∀ t : Fin cfg0.N, win0_13.index t = ![t.val % 8, t.val / 8] := by decide +kernel
theorem e14 : ∀ t : Fin cfg0.N, win0_14.index t = ![0, t.val / 8] := by decide +kernel
theorem e15 : ∀ t : Fin cfg0.N, win0_15.index t = ![0, t.val / 8] := by decide +kernel
theorem e16 : ∀ t : Fin cfg0.N, win0_16.index t = ![0, t.val / 8] := by decide +kernel
theorem e17 : ∀ t : Fin cfg0.N, win0_17.index t = ![0, t.val / 8] := by decide +kernel

theorem arr12 : (dats m 0 c).arrAt 12 cfg0.N = fun y => convT (gateGrad m c) (wG m c) (y 0).val (y 1).val := by
  refine (dats m 0 c).arrAt_eq_of_covers 12 _ (by decide +kernel) fun t hf y => ?_
  blk_simp [e12]
  rw [after0_12]
  refine (congrArg _ (eq_ix2 y)).trans ((out12 m c t (y 0) (y 1)).trans ?_)
  congr 1 <;> omega

theorem arr13 : (dats m 0 c).arrAt 13 cfg0.N = fun y => convT (valueGrad m c) (wV m c) (y 0).val (y 1).val := by
  refine (dats m 0 c).arrAt_eq_of_covers 13 _ (by decide +kernel) fun t hf y => ?_
  blk_simp [e13]
  rw [after0_13]
  refine (congrArg _ (eq_ix2 y)).trans ((out13 m c t (y 0) (y 1)).trans ?_)
  congr 1 <;> omega

theorem arr14 : (dats m 0 c).arrAt 14 cfg0.N = fun y => ∑ r ∈ Finset.range 2048, gateGrad m c r (y 1).val := by
  refine (dats m 0 c).arrAt_eq_of_covers 14 _ (by decide +kernel) fun t hf y => ?_
  have hf' := (flush0_14 t).mp hf
  blk_simp [e14]
  rw [after0_14]
  have hy : ix2 (y 0) (y 1) = (ix2 (0 : Fin 1) (y 1) : S1x1408.Idx) := congrArg (fun a : Fin 1 => ix2 a (y 1)) (Subsingleton.elim _ _)
  refine (congrArg _ ((eq_ix2 y).trans hy)).trans ((out14 m c t (y 1)).trans ?_)
  rw [hf']
  refine Finset.sum_congr rfl fun r _ => ?_
  congr 1; omega

theorem arr15 : (dats m 0 c).arrAt 15 cfg0.N = fun y => ∑ r ∈ Finset.range 2048, valueGrad m c r (y 1).val := by
  refine (dats m 0 c).arrAt_eq_of_covers 15 _ (by decide +kernel) fun t hf y => ?_
  have hf' := (flush0_15 t).mp hf
  blk_simp [e15]
  rw [after0_15]
  have hy : ix2 (y 0) (y 1) = (ix2 (0 : Fin 1) (y 1) : S1x1408.Idx) := congrArg (fun a : Fin 1 => ix2 a (y 1)) (Subsingleton.elim _ _)
  refine (congrArg _ ((eq_ix2 y).trans hy)).trans ((out15 m c t (y 1)).trans ?_)
  rw [hf']
  refine Finset.sum_congr rfl fun r _ => ?_
  congr 1; omega

theorem arr16 : (dats m 0 c).arrAt 16 cfg0.N =
    fun y => ∑ r ∈ Finset.range 2048, gateGrad m c r (y 1).val * xG m c (r + (y 0).val) (y 1).val := by
  refine (dats m 0 c).arrAt_eq_of_covers 16 _ (by decide +kernel) fun t hf y => ?_
  have hf' := (flush0_16 t).mp hf
  blk_simp [e16]
  rw [after0_16]
  refine (congrArg _ (eq_ix2 y)).trans ((out16 m c t (y 0) (y 1)).trans ?_)
  rw [hf']
  refine Finset.sum_congr rfl fun r _ => ?_
  rw [Nat.mul_comm 1408]

theorem arr17 : (dats m 0 c).arrAt 17 cfg0.N =
    fun y => ∑ r ∈ Finset.range 2048, valueGrad m c r (y 1).val * xV m c (r + (y 0).val) (y 1).val := by
  refine (dats m 0 c).arrAt_eq_of_covers 17 _ (by decide +kernel) fun t hf y => ?_
  have hf' := (flush0_17 t).mp hf
  blk_simp [e17]
  rw [after0_17]
  refine (congrArg _ (eq_ix2 y)).trans ((out17 m c t (y 0) (y 1)).trans ?_)
  rw [hf']
  refine Finset.sum_congr rfl fun r _ => ?_
  rw [Nat.mul_comm 1408]

end Cert.GateValue

end
-- ==== Proof.GateMath.lean ====
/- The gate's gradient on real numbers: the kernel's way of writing it and the chain rule's are equal. -/
module

public import proofs.«01_k».proof.Proof.GateSpec

@[expose] public section

noncomputable section

namespace Cert.GateValue

open Idealize.ShloMosaic

/-- The logistic function of the reals. -/
def logistic (g : ℝ) : ℝ := 1 / (1 + Real.exp (-g))

/-- Half a hyperbolic tangent of the half, and a half, is the logistic function. -/
theorem half_tanh (g : ℝ) : 1 / 2 * Real.tanh (1 / 2 * g) + 1 / 2 = logistic g := by
  have e : Real.exp (-g) = Real.exp (-(1 / 2 * g)) * Real.exp (-(1 / 2 * g)) := by rw [← Real.exp_add]; congr 1; ring
  have hp := Real.exp_pos (1 / 2 * g)
  have hi : Real.exp (-(1 / 2 * g)) = (Real.exp (1 / 2 * g))⁻¹ := Real.exp_neg _
  rw [logistic, e, hi, Real.tanh_eq_sinh_div_cosh, Real.sinh_eq, Real.cosh_eq, hi]
  field_simp
  ring

/-- The kernel's logistic function at a real number. -/
theorem sgm_coe (g : ℝ) : sgm (g : EReal) = (logistic g : EReal) := by
  have e : Ideal.ofBits .f32 0x3F000000#32 = ((1 / 2 : ℝ) : EReal) := by
    simp [Ideal.ofBits, Ideal.ieee, -EReal.coe_mul]; norm_num
  rw [sgm, e, ← EReal.coe_mul, Ideal.tanh_coe, ← EReal.coe_mul, ← EReal.coe_add, half_tanh]

/-- The reference's logistic function at a real number. -/
theorem div_exp_coe (g : ℝ) : Ideal.div 1 (1 + Ideal.exp (-(g : EReal))) = (logistic g : EReal) := by
  have hp := Real.exp_pos (-g)
  rw [← EReal.coe_neg, Ideal.exp_coe, ← EReal.coe_one, ← EReal.coe_add, Ideal.div_coe (by positivity), ← EReal.coe_mul, one_mul,
    logistic]

/-- The chain rule through `g * logistic g`, at real numbers. -/
theorem dgate_coe (a g v : ℝ) :
    (a : EReal) * v * Ideal.div 1 (1 + Ideal.exp (-(g : EReal)))
      + g * (a * v) * (Ideal.div 1 (1 + Ideal.exp (-(g : EReal))) * (1 - Ideal.div 1 (1 + Ideal.exp (-(g : EReal)))))
      = dgate a g v := by
  rw [div_exp_coe, dgate, sgm_coe]
  norm_cast
  ring

/-- The gradient by the value, at real numbers. -/
theorem dval_coe (a g : ℝ) : (g : EReal) * Ideal.div 1 (1 + Ideal.exp (-(g : EReal))) * a = dval a g := by
  rw [div_exp_coe, dval, sgm_coe]
  exact mul_comm _ _

/-- The convolution of real numbers is a real number. -/
theorem conv_real (G w : Arr) (b : ℕ → EReal) (hG : ∀ r q, ∃ x : ℝ, G r q = x) (hw : ∀ r q, ∃ x : ℝ, w r q = x)
    (hb : ∀ q, ∃ x : ℝ, b q = x) (r q : ℕ) : ∃ x : ℝ, conv G w b r q = x := by
  obtain ⟨b0, e⟩ := hb q
  obtain ⟨g0, e0⟩ := hG r q
  obtain ⟨g1, e1⟩ := hG (r + 1) q
  obtain ⟨g2, e2⟩ := hG (r + 2) q
  obtain ⟨w0, f0⟩ := hw 0 q
  obtain ⟨w1, f1⟩ := hw 1 q
  obtain ⟨w2, f2⟩ := hw 2 q
  exact ⟨b0 + g0 * w0 + g1 * w1 + g2 * w2, by rw [conv, e, e0, e1, e2, f0, f1, f2]; norm_cast⟩

end Cert.GateValue

end
-- ==== Proof.GateFinite.lean ====
/- The precondition read at one element: every entry of the four arrays is a real number. -/
module

public import proofs.«01_k».proof.Proof.GateSpec
public import Idealize.ShloMosaic.Lib.StableHlo.Predicate
public import proofs.«01_k».proof.Proof.Gen.Pre_finite

@[expose] public section

set_option maxRecDepth 16384

noncomputable section

namespace Cert.GateValue

open Idealize.ShloMosaic

/-- A left fold of `and` that ends at one met only ones. -/
theorem all_of_foldl {ι : Type} (f : ι → BitVec 1) (l : List ι) (b : BitVec 1)
    (h : l.foldl (fun r n => IntOp.andi r (f n)) b = 1#1) : b = 1#1 ∧ ∀ n ∈ l, f n = 1#1 := by
  induction l generalizing b with
  | nil => exact ⟨h, by simp⟩
  | cons a l ih =>
    obtain ⟨h1, h2⟩ := ih _ h
    have h3 : b = 1#1 ∧ f a = 1#1 := by
      have key : ∀ b c : BitVec 1, IntOp.andi b c = 1#1 → b = 1#1 ∧ c = 1#1 := by decide
      exact key _ _ h1
    exact ⟨h3.1, by simpa using ⟨h3.2, h2⟩⟩

/-- A reduction by `and` to a single value that is one has one at every element. -/
theorem all_of_reduce {s : Shape} {axes : List (Fin s.rank)} (x : IVec s 1) (v : IVec ⟨0, ![]⟩ 1)
    (h : s.ReducesTo axes ⟨0, ![]⟩) (hu : 0 < (⟨0, ![]⟩ : Shape).numel) (j : (⟨0, ![]⟩ : Shape).Idx)
    (e : Host.reduce IntOp.andi x v h hu j = 1#1) (i : s.Idx) : x i = 1#1 := by
  have h2 := (all_of_foldl (fun n => x (s.rowMajor.symm n)) _ _ e).2 (s.rowMajor i)
  have h3 := h2 (List.mem_filter.mpr ⟨List.mem_finRange _, by simpa using funext fun a => a.elim0⟩)
  simpa using h3

/-- A value whose magnitude is below infinity is a real number. -/
theorem real_of_abs (x : EReal) (h : FloatOps.cmpf (F := Ideal) (φ := .f32) .olt (FloatOps.hostAbsf (F := Ideal) (φ := .f32) x) (FloatOps.ofBits .f32 0x7F800000#32) = 1#1) :
    ∃ r : ℝ, x = (r : EReal) := by
  have h2 : max x (-x) < ⊤ := by
    have e : (FloatOps.ofBits .f32 0x7F800000#32 : Ideal .f32) = (⊤ : EReal) := by simp [Ideal.ofBits, Ideal.ieee]
    rw [e] at h
    have h' : BitVec.ofBool (decide (max x (-x) < ⊤)) = 1#1 := h
    exact of_decide_eq_true (StableHlo.Predicate.ofBool_eq_one_iff _ |>.mp h')
  induction x with
  | bot => simp at h2
  | top => simp at h2
  | coe r => exact ⟨r, rfl⟩

variable (x0 : (⟨2, ![2048, 5632]⟩ : Shape).Idx → EReal) (x1 : (⟨2, ![2048, 2816]⟩ : Shape).Idx → EReal)
  (x2 : (⟨2, ![3, 5632]⟩ : Shape).Idx → EReal) (x3 : (⟨2, ![1, 5632]⟩ : Shape).Idx → EReal)

/-- Every entry is a real number. -/
def AllReal {s : Shape} (x : s.Idx → EReal) : Prop := ∀ i, ∃ r : ℝ, x i = (r : EReal)

/-- The precondition says of each of the four arrays that its entries are real. -/
theorem real_of_pre
    (h : @Cert.Pre_finite.fn Cert.Pre_finite.Gen.facts Ideal _ x0 x1 x2 x3 = fun _ => 1#1) :
    AllReal x0 ∧ AllReal x1 ∧ AllReal x2 ∧ AllReal x3 := by
  have h0 := congrFun h (fun a => a.elim0)
  simp only [Cert.Pre_finite.fn, Cert.Pre_finite.fn_part1, andi, IntOp.andi] at h0
  have key : ∀ b c : BitVec 1, b &&& c = 1#1 → b = 1#1 ∧ c = 1#1 := by decide
  obtain ⟨h0, h3⟩ := key _ _ h0
  obtain ⟨h0, h2⟩ := key _ _ h0
  obtain ⟨h0, h1⟩ := key _ _ h0
  exact ⟨fun i => real_of_abs _ (all_of_reduce _ _ _ _ _ h0 i), fun i => real_of_abs _ (all_of_reduce _ _ _ _ _ h1 i),
    fun i => real_of_abs _ (all_of_reduce _ _ _ _ _ h2 i), fun i => real_of_abs _ (all_of_reduce _ _ _ _ _ h3 i)⟩

end Cert.GateValue
end
-- ==== Proof.GateRef.lean ====
/- What the reference computes, at an index: its results in terms of the gradient `du` by the convolution's output. -/
module

public import proofs.«01_k».proof.Proof.GatePoint
public import proofs.«01_k».proof.Proof.GateMath
public import proofs.«01_k».proof.Proof.GateFinite
public import proofs.«01_k».proof.Proof.Gen.ReferenceIdeal.Read

@[expose] public section

set_option maxRecDepth 16384

noncomputable section

namespace Cert.GateValue

open Cert.ReferenceIdeal Cert.ReferenceIdeal.Gen Cert.ReferenceIdeal.Read
open Idealize.ShloMosaic Idealize.ShloMosaic.TcCoe Idealize.SL.Sem

variable (x0 : (⟨S2048x5632, .f32⟩ : BufTy).Contents (Elt Ideal)) (x1 : (⟨S2048x2816, .f32⟩ : BufTy).Contents (Elt Ideal))
  (x2 : (⟨S3x5632, .f32⟩ : BufTy).Contents (Elt Ideal)) (x3 : (⟨S1x5632, .f32⟩ : BufTy).Contents (Elt Ideal))

/-- A sum over two axes of one element each. -/
theorem sum_two (h : S1x1x5632.ReducesTo [0, 1] S5632) (x : S1x1x5632.Idx → EReal) (i : EReal) (q : Fin 5632) :
    Ideal.hostReduceAdd h x i (ix1 q) = i + x (ix3 0 0 q) := by
  have e : ∀ k : S1x1x5632.Idx, h.drop k = ix1 (k 2) := fun k => funext fun a => by fin_cases a; rfl
  have f : (Finset.univ.filter fun k : S1x1x5632.Idx => h.drop k = ix1 q) = {ix3 0 0 q} := by
    ext k
    simp only [Finset.mem_filter, Finset.mem_univ, true_and, Finset.mem_singleton, e]
    constructor
    · intro g
      have g2 : k 2 = q := congrFun g 0
      exact (eq_ix3 k).trans (by rw [g2]; exact congrArg₂ (fun a b : Fin 1 => ix3 a b q) (Subsingleton.elim _ _) (Subsingleton.elim _ _))
    · rintro rfl; rfl
  rw [Ideal.hostReduceAdd, f, Finset.sum_singleton]

/-- The padded input. -/
abbrev inp : Arr := padded (arr x0)
/-- The bias by column. -/
abbrev bias : ℕ → EReal := fun q => arr x3 0 q
/-- The convolution's output. -/
abbrev pre : Arr := conv (inp x0) (arr x2) (bias x3)

theorem v3_at (r : Fin 2050) (q : Fin 5632) : val_main_v3 (F := Ideal) x0 (ix3 0 r q) = inp x0 r q := by
  pointwise [val_main_v3, val_main_v2, val_main_cst, val_main_v0]
  simp only [inp, padded]
  split
  · rfl
  · exact (arr_ix2 _ _ _ _ _ rfl rfl).symm

theorem v27_at (r : Fin 2048) (q : Fin 5632) : val_main_v27 (F := Ideal) x0 x2 x3 (ix3 0 r q) = pre x0 x2 x3 r q := by
  pointwise [val_main_v27, val_main_v20, val_main_v26, val_main_v25, val_main_v24, val_main_v23, val_main_v22, val_main_v21, val_main_v19, val_main_v18, val_main_v17,
   val_main_v16, val_main_v15, val_main_v14, val_main_v13, val_main_v12, val_main_v11, val_main_v1, val_main_v10, val_main_v9, val_main_v8, val_main_v7, val_main_v6, val_main_v5]
  simp only [v3_at, pre, conv, bias, arr_ix2 x3 0 q 0 q rfl rfl, arr_ix2 x2 0 q 0 q rfl rfl, arr_ix2 x2 1 q 1 q rfl rfl,
    arr_ix2 x2 2 q 2 q rfl rfl, Nat.add_comm 1, Nat.add_comm 2]

/-- The gradient by the convolution's output: the gate's columns, then the value's. -/
def du : Arr := fun r q => if h : r < 2048 ∧ q < 5632 then val_main_v37 (F := Ideal) x0 x1 x2 x3 (ix3 0 ⟨r, h.1⟩ ⟨q, h.2⟩) else 0

theorem du_at (r : Fin 2048) (q : Fin 5632) (r' q' : ℕ) (hr : r' = r.val) (hq : q' = q.val) :
    du x0 x1 x2 x3 r' q' = val_main_v37 (F := Ideal) x0 x1 x2 x3 (ix3 0 r q) := by
  subst hr hq
  rw [du, dif_pos ⟨r.isLt, q.isLt⟩]

theorem v34_at (r : Fin 2048) (q : Fin 2816) : val_main_v34 (F := Ideal) x0 x1 x2 x3 (ix3 0 r q)
    = pre x0 x2 x3 r q * Ideal.div 1 (1 + Ideal.exp (-pre x0 x2 x3 r q)) * arr x1 r q := by
  pointwise [val_main_v34, val_main_v33, val_main_v30_0, val_main_v30_2, val_main_call0_v4, val_main_call0_cst_0, val_main_call0_v3, val_main_call0_v2, val_main_call0_cst, val_main_call0_v1, val_main_call0_v0,
    val_main_v28]
  simp only [v27_at, arr_ix2 x1 r q r q rfl rfl]

theorem v36_at (r : Fin 2048) (q : Fin 2816) : val_main_v36 (F := Ideal) x0 x1 x2 x3 (ix3 0 r q)
    = arr x1 r q * pre x0 x2 x3 r (q + 2816) * Ideal.div 1 (1 + Ideal.exp (-pre x0 x2 x3 r q))
      + pre x0 x2 x3 r q * (arr x1 r q * pre x0 x2 x3 r (q + 2816))
        * (Ideal.div 1 (1 + Ideal.exp (-pre x0 x2 x3 r q)) * (1 - Ideal.div 1 (1 + Ideal.exp (-pre x0 x2 x3 r q)))) := by
  pointwise [val_main_v36, val_main_call1_v2, val_main_call1_v1, val_main_call1_v0, val_main_v35, val_main_v30_1, val_main_call0_v7, val_main_call0_v6, val_main_call0_cst_1, val_main_v33, val_main_v29, val_main_v28,
    val_main_v30_2, val_main_call0_v4, val_main_call0_cst_0, val_main_call0_v3, val_main_call0_v2, val_main_call0_cst, val_main_call0_v1, val_main_call0_v0]
  simp only [v27_at, arr_ix2 x1 r q r q rfl rfl, Nat.add_comm 2816]

/-- The gradient of the input, at a row and a column. -/
theorem v75_at (r : Fin 2048) (q : Fin 5632) : val_main_v75 (F := Ideal) x0 x1 x2 x3 (ix2 r q)
    = convT (du x0 x1 x2 x3) (arr x2) r q := by
  pointwise [val_main_v75, val_main_v73, val_main_v71, val_main_v57, val_main_v46, val_main_v56, val_main_v70, val_main_v42, val_main_v51, val_main_v65,
    val_main_cst_15, val_main_cst_4, val_main_cst_8, val_main_cst_14, val_main_v41, val_main_v24, val_main_v23, val_main_v22, val_main_v50, val_main_v17,  val_main_v16, val_main_v15,
    val_main_v64, val_main_v8, val_main_v7, val_main_v6]
  simp only [convT, arr_ix2 x2 0 q 0 q rfl rfl, arr_ix2 x2 1 q 1 q rfl rfl, arr_ix2 x2 2 q 2 q rfl rfl,
    du_at x0 x1 x2 x3 r q r q rfl rfl, Fin.sum_univ_one]
  congr 1
  · congr 1
    by_cases h : r.val + 1 < 2048
    · rw [dif_pos (by omega), du_at x0 x1 x2 x3 ⟨r + 1, h⟩ q _ _ rfl rfl]
      have e : (⟨2 + r.val - 1, by omega⟩ : Fin 2048) = ⟨r + 1, h⟩ := Fin.ext (by show 2 + r.val - 1 = r.val + 1; omega)
      exact congrArg (fun k : Fin 2048 => val_main_v37 (F := Ideal) x0 x1 x2 x3 (ix3 0 k q) * x2 (ix2 1 q)) e
    · rw [dif_neg (by omega), du, dif_neg (by omega), zero_mul]
  · by_cases h : r.val + 2 < 2048
    · rw [dif_pos (by omega), du_at x0 x1 x2 x3 ⟨r + 2, h⟩ q _ _ rfl rfl]
      have e : (⟨2 + r.val, by omega⟩ : Fin 2048) = ⟨r + 2, h⟩ := Fin.ext (by show 2 + r.val = r.val + 2; omega)
      exact congrArg (fun k : Fin 2048 => val_main_v37 (F := Ideal) x0 x1 x2 x3 (ix3 0 k q) * x2 (ix2 0 q)) e
    · rw [dif_neg (by omega), du, dif_neg (by omega), zero_mul]

theorem v69_at (k : Fin 3) (q : Fin 5632) : val_main_v69 (F := Ideal) x0 x1 x2 x3 (ix2 k q)
    = ∑ r : Fin 2048, du x0 x1 x2 x3 r q * inp x0 (r + k) q := by
  pointwise [val_main_v69, val_main_v55, val_main_v45, val_main_v54, val_main_v68, val_main_v44, val_main_v53, val_main_v67,
    val_main_v43, val_main_v52, val_main_v66]
  simp only [sum_two]
  pointwise [val_main_v40, val_main_v39, val_main_v49, val_main_v48, val_main_v63, val_main_v62, val_main_v38, val_main_v47, val_main_v61,
    val_main_v21, val_main_v14, val_main_v5, val_main_cst_1, val_main_cst_2, val_main_cst_3, val_main_cst_5, val_main_cst_6,
    val_main_cst_7, val_main_cst_11, val_main_cst_12, val_main_cst_13]
  have e : ∀ r : Fin 2048, du x0 x1 x2 x3 r q = val_main_v37 (F := Ideal) x0 x1 x2 x3 (ix3 0 r q) := fun r =>
    du_at x0 x1 x2 x3 r q r q rfl rfl
  fin_cases k <;> simp [v3_at, e, mul_comm, add_comm]

theorem v74_at (q : Fin 5632) : val_main_v74 (F := Ideal) x0 x1 x2 x3 (ix2 0 q)
    = ∑ r : Fin 2048, du x0 x1 x2 x3 r q := by
  pointwise [val_main_v74, val_main_v60]
  rw [sum_two]
  pointwise [val_main_v59, val_main_v58, val_main_cst_9, val_main_cst_10]
  have e : ∀ r : Fin 2048, du x0 x1 x2 x3 r q = val_main_v37 (F := Ideal) x0 x1 x2 x3 (ix3 0 r q) := fun r =>
    du_at x0 x1 x2 x3 r q r q rfl rfl
  simp [e]

/-- The kernel's gradient by the gate's convolution, of the four arrays. -/
def gGrad : Arr := dG (arr x1) (inp x0) (fun r q => inp x0 r (q + 2816)) (arr x2) (fun k q => arr x2 k (q + 2816)) (bias x3)
  (fun q => bias x3 (q + 2816))
/-- The kernel's gradient by the value's convolution. -/
def vGrad : Arr := dV (arr x1) (inp x0) (arr x2) (bias x3)

/-- A zero-extended array of real numbers is real everywhere. -/
theorem arr_real {n k : ℕ} (x : (⟨2, ![n, k]⟩ : Shape).Idx → EReal) (h : AllReal x) (r q : ℕ) : ∃ y : ℝ, arr x r q = y := by
  rw [arr]
  split
  · exact h _
  · exact ⟨0, rfl⟩

theorem pre_real (h0 : AllReal x0) (h2 : AllReal x2) (h3 : AllReal x3) (r q : ℕ) : ∃ y : ℝ, pre x0 x2 x3 r q = y := by
  refine conv_real _ _ _ (fun r q => ?_) (arr_real _ h2) (fun q => arr_real _ h3 0 q) r q
  rw [inp, padded]
  split
  · exact ⟨0, rfl⟩
  · exact arr_real _ h0 _ _

/-- On real numbers the reference's gradient is the kernel's, in the gate's columns … -/
theorem du_gate (h0 : AllReal x0) (h1 : AllReal x1) (h2 : AllReal x2) (h3 : AllReal x3) (r q : ℕ) (hq : q < 2816) :
    du x0 x1 x2 x3 r q = gGrad x0 x1 x2 x3 r q := by
  by_cases hr : r < 2048
  · rw [du, dif_pos ⟨hr, by omega⟩]
    pointwise [val_main_v37]
    rw [dif_pos hq]
    refine (v36_at x0 x1 x2 x3 ⟨r, hr⟩ ⟨q, hq⟩).trans ?_
    obtain ⟨a, ea⟩ := arr_real _ h1 r q
    obtain ⟨g, eg⟩ := pre_real x0 x2 x3 h0 h2 h3 r q
    obtain ⟨v, ev⟩ := pre_real x0 x2 x3 h0 h2 h3 r (q + 2816)
    have e : gGrad x0 x1 x2 x3 r q = dgate (arr x1 r q) (pre x0 x2 x3 r q) (pre x0 x2 x3 r (q + 2816)) := rfl
    rw [e]
    simp only [ea, eg, ev]
    exact dgate_coe a g v
  · have e : arr x1 r q = 0 := by rw [arr, dif_neg (by omega)]
    rw [du, dif_neg (by omega), gGrad, dG, dgate, e, zero_mul, zero_mul]

/-- … and in the value's columns. -/
theorem du_value (h0 : AllReal x0) (h1 : AllReal x1) (h2 : AllReal x2) (h3 : AllReal x3) (r q : ℕ) (hq : q < 2816) :
    du x0 x1 x2 x3 r (q + 2816) = vGrad x0 x1 x2 x3 r q := by
  by_cases hr : r < 2048
  · rw [du, dif_pos ⟨hr, by omega⟩]
    pointwise [val_main_v37]
    rw [dif_neg (by omega)]
    have e' : (⟨q + 2816 - 2816, by omega⟩ : Fin 2816) = ⟨q, hq⟩ := Fin.ext (by simp)
    refine (congrArg (fun k : Fin 2816 => val_main_v34 (F := Ideal) x0 x1 x2 x3 (ix3 0 ⟨r, hr⟩ k)) e').trans ?_
    refine (v34_at x0 x1 x2 x3 ⟨r, hr⟩ ⟨q, hq⟩).trans ?_
    obtain ⟨a, ea⟩ := arr_real _ h1 r q
    obtain ⟨g, eg⟩ := pre_real x0 x2 x3 h0 h2 h3 r q
    have e : vGrad x0 x1 x2 x3 r q = dval (arr x1 r q) (pre x0 x2 x3 r q) := rfl
    rw [e]
    simp only [ea, eg]
    exact dval_coe a g
  · have e : arr x1 r q = 0 := by rw [arr, dif_neg (by omega)]
    rw [du, dif_neg (by omega), vGrad, dV, dval, e, zero_mul]

end Cert.GateValue
end
-- ==== Proof.GateEq.lean ====
/- The two programs' results are equal arrays where the arguments are real: the six equations. -/
module

public import proofs.«01_k».proof.Proof.GateArray
public import proofs.«01_k».proof.Proof.GateRef

@[expose] public section

set_option maxRecDepth 16384

noncomputable section

namespace Cert.GateValue

open Cert.ReferenceIdeal Cert.ReferenceIdeal.Gen Cert.ReferenceIdeal.Read
open Idealize.ShloMosaic Idealize.ShloMosaic.TcCoe Idealize.SL.Sem

variable (x0 : (⟨S2048x5632, .f32⟩ : BufTy).Contents (Elt Ideal)) (x1 : (⟨S2048x2816, .f32⟩ : BufTy).Contents (Elt Ideal))
  (x2 : (⟨S3x5632, .f32⟩ : BufTy).Contents (Elt Ideal)) (x3 : (⟨S1x5632, .f32⟩ : BufTy).Contents (Elt Ideal))
  (h0 : AllReal x0) (h1 : AllReal x1) (h2 : AllReal x2) (h3 : AllReal x3)

include h0 h1 h2 h3

/-- The gradient of the gate's half of the input. -/
theorem ref77 (y : S2048x2816.Idx) : val_main_v77 (F := Ideal) x0 x1 x2 x3 y
    = convT (gGrad x0 x1 x2 x3) (arr x2) (y 0).val (y 1).val := by
  refine (congrArg _ (eq_ix2 y)).trans ?_
  generalize hp : y 0 = p
  generalize hq : y 1 = q
  change Fin 2048 at p; change Fin 2816 at q
  pointwise [val_main_v77, val_main_v76]
  refine (v75_at x0 x1 x2 x3 p ⟨q, by omega⟩).trans ?_
  simp only [convT, du_gate x0 x1 x2 x3 h0 h1 h2 h3 _ _ q.isLt]

/-- The gradient of the value's half of the input. -/
theorem ref78 (y : S2048x2816.Idx) : val_main_v78 (F := Ideal) x0 x1 x2 x3 y
    = convT (vGrad x0 x1 x2 x3) (fun k q => arr x2 k (q + 2816)) (y 0).val (y 1).val := by
  refine (congrArg _ (eq_ix2 y)).trans ?_
  generalize hp : y 0 = p
  generalize hq : y 1 = q
  change Fin 2048 at p; change Fin 2816 at q
  pointwise [val_main_v78, val_main_v76]
  refine (v75_at x0 x1 x2 x3 p ⟨2816 + q, by omega⟩).trans ?_
  simp only [convT, Nat.add_comm 2816, du_value x0 x1 x2 x3 h0 h1 h2 h3 _ _ q.isLt]

/-- The gradient of the gate's biases. -/
theorem ref79 (y : S1x2816.Idx) : val_main_v79 (F := Ideal) x0 x1 x2 x3 y
    = ∑ r ∈ Finset.range 2048, gGrad x0 x1 x2 x3 r (y 1).val := by
  refine (congrArg _ (eq_ix2 y)).trans ?_
  generalize hp : y 0 = p
  generalize hq : y 1 = q
  change Fin 1 at p; change Fin 2816 at q
  obtain rfl : p = 0 := Subsingleton.elim _ _
  pointwise [val_main_v79]
  refine (v74_at x0 x1 x2 x3 ⟨q, by omega⟩).trans ?_
  simp only [Finset.sum_range, du_gate x0 x1 x2 x3 h0 h1 h2 h3 _ _ q.isLt]

/-- The gradient of the value's biases. -/
theorem ref80 (y : S1x2816.Idx) : val_main_v80 (F := Ideal) x0 x1 x2 x3 y
    = ∑ r ∈ Finset.range 2048, vGrad x0 x1 x2 x3 r (y 1).val := by
  refine (congrArg _ (eq_ix2 y)).trans ?_
  generalize hp : y 0 = p
  generalize hq : y 1 = q
  change Fin 1 at p; change Fin 2816 at q
  obtain rfl : p = 0 := Subsingleton.elim _ _
  pointwise [val_main_v80]
  refine (v74_at x0 x1 x2 x3 ⟨2816 + q, by omega⟩).trans ?_
  simp only [Finset.sum_range, Nat.add_comm 2816, du_value x0 x1 x2 x3 h0 h1 h2 h3 _ _ q.isLt]

/-- The gradient of the gate's weights. -/
theorem ref81 (y : S3x2816.Idx) : val_main_v81 (F := Ideal) x0 x1 x2 x3 y
    = ∑ r ∈ Finset.range 2048, gGrad x0 x1 x2 x3 r (y 1).val * inp x0 (r + (y 0).val) (y 1).val := by
  refine (congrArg _ (eq_ix2 y)).trans ?_
  generalize hp : y 0 = p
  generalize hq : y 1 = q
  change Fin 3 at p; change Fin 2816 at q
  pointwise [val_main_v81]
  refine (v69_at x0 x1 x2 x3 p ⟨q, by omega⟩).trans ?_
  simp only [Finset.sum_range, du_gate x0 x1 x2 x3 h0 h1 h2 h3 _ _ q.isLt]

/-- The gradient of the value's weights. -/
theorem ref82 (y : S3x2816.Idx) : val_main_v82 (F := Ideal) x0 x1 x2 x3 y
    = ∑ r ∈ Finset.range 2048, vGrad x0 x1 x2 x3 r (y 1).val * inp x0 (r + (y 0).val) ((y 1).val + 2816) := by
  refine (congrArg _ (eq_ix2 y)).trans ?_
  generalize hp : y 0 = p
  generalize hq : y 1 = q
  change Fin 3 at p; change Fin 2816 at q
  pointwise [val_main_v82]
  refine (v69_at x0 x1 x2 x3 p ⟨2816 + q, by omega⟩).trans ?_
  simp only [Finset.sum_range, Nat.add_comm 2816, du_value x0 x1 x2 x3 h0 h1 h2 h3 _ _ q.isLt]

end Cert.GateValue

end
-- ==== Proof.GatePair.lean ====
/- The kernel's six arrays and the reference's six arrays, from the same arguments, are equal. -/
module

public import proofs.«01_k».proof.Proof.GateEq

@[expose] public section

set_option maxRecDepth 16384

noncomputable section

namespace Cert.GateValue

open Cert.KernelIdeal Cert.KernelIdeal.Gen Cert.ReferenceIdeal.Read
open Idealize.ShloMosaic Idealize.ShloMosaic.TcCoe Idealize.SL.Sem

variable (m : (ℓ : Loc nD τ sig) → Buf (Elt Ideal) ℓ) (c : Dev nD)
  (h0 : AllReal (s := S2048x5632) (m ((c.tc : Thread nD τ).loc main_arg0)))
  (h1 : AllReal (s := S2048x2816) (m ((c.tc : Thread nD τ).loc main_arg1)))
  (h2 : AllReal (s := S3x5632) (m ((c.tc : Thread nD τ).loc main_arg2)))
  (h3 : AllReal (s := S1x5632) (m ((c.tc : Thread nD τ).loc main_arg3)))

include h0 h1 h2 h3

theorem pair77 : val_main_v77 (F := Ideal) (m ((c.tc : Thread nD τ).loc main_arg0)) (m ((c.tc : Thread nD τ).loc main_arg1))
    (m ((c.tc : Thread nD τ).loc main_arg2)) (m ((c.tc : Thread nD τ).loc main_arg3)) = (dats m 0 c).arrAt 12 cfg0.N := by
  rw [arr12]
  funext y
  exact ref77 _ _ _ _ h0 h1 h2 h3 y

theorem pair78 : val_main_v78 (F := Ideal) (m ((c.tc : Thread nD τ).loc main_arg0)) (m ((c.tc : Thread nD τ).loc main_arg1))
    (m ((c.tc : Thread nD τ).loc main_arg2)) (m ((c.tc : Thread nD τ).loc main_arg3)) = (dats m 0 c).arrAt 13 cfg0.N := by
  rw [arr13]
  funext y
  exact ref78 _ _ _ _ h0 h1 h2 h3 y

theorem pair79 : val_main_v79 (F := Ideal) (m ((c.tc : Thread nD τ).loc main_arg0)) (m ((c.tc : Thread nD τ).loc main_arg1))
    (m ((c.tc : Thread nD τ).loc main_arg2)) (m ((c.tc : Thread nD τ).loc main_arg3)) = (dats m 0 c).arrAt 14 cfg0.N := by
  rw [arr14]
  funext y
  exact ref79 _ _ _ _ h0 h1 h2 h3 y

theorem pair80 : val_main_v80 (F := Ideal) (m ((c.tc : Thread nD τ).loc main_arg0)) (m ((c.tc : Thread nD τ).loc main_arg1))
    (m ((c.tc : Thread nD τ).loc main_arg2)) (m ((c.tc : Thread nD τ).loc main_arg3)) = (dats m 0 c).arrAt 15 cfg0.N := by
  rw [arr15]
  funext y
  exact ref80 _ _ _ _ h0 h1 h2 h3 y

theorem pair81 : val_main_v81 (F := Ideal) (m ((c.tc : Thread nD τ).loc main_arg0)) (m ((c.tc : Thread nD τ).loc main_arg1))
    (m ((c.tc : Thread nD τ).loc main_arg2)) (m ((c.tc : Thread nD τ).loc main_arg3)) = (dats m 0 c).arrAt 16 cfg0.N := by
  rw [arr16]
  funext y
  exact ref81 _ _ _ _ h0 h1 h2 h3 y

theorem pair82 : val_main_v82 (F := Ideal) (m ((c.tc : Thread nD τ).loc main_arg0)) (m ((c.tc : Thread nD τ).loc main_arg1))
    (m ((c.tc : Thread nD τ).loc main_arg2)) (m ((c.tc : Thread nD τ).loc main_arg3)) = (dats m 0 c).arrAt 17 cfg0.N := by
  rw [arr17]
  funext y
  exact ref82 _ _ _ _ h0 h1 h2 h3 y

end Cert.GateValue

end
-- ==== Proof.MulUpDw.lean ====
/- The gradient of the up product's weight, in four blocks of columns. -/
module

public import proofs.«01_k».proof.Proof.Gen.Kernel2Ideal.Value
public import proofs.«01_k».proof.Proof.Gen.Reference2Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MulUpDw

open Cert.Kernel2Ideal Cert.Kernel2Ideal.Gen Cert.Reference2Ideal.Read Idealize.ShloMosaic Idealize.ShloMosaic.TcCoe Idealize.SL.Sem
open Idealize.ShloMosaic.Pipeline (Dat)

variable (m : (ℓ : Loc nD τ sig) → Buf (Elt Ideal) ℓ) (c : Dev nD)

/-- What one grid point writes: the product of its two blocks. -/
theorem block (x0 : Vec Ideal S2048x1024 .bf16) (x1 : Vec Ideal S2048x1408 .bf16) (p : Fin 1024) (q : Fin 1408) :
    out0_2 x0 x1 (ix3 0 p q) = ∑ k : Fin 2048, x0 (ix2 k p) * x1 (ix2 k q) := by
  unfold out0_2
  frame_out
  pointwise [k0_pay1]

theorem e0 : ∀ t : Fin cfg0.N, win0_0.index t = ![0, 0] := by decide +kernel
theorem e1 : ∀ t : Fin cfg0.N, win0_1.index t = ![0, t.val] := by decide +kernel
theorem e2 : ∀ t : Fin cfg0.N, win0_2.index t = ![t.val, 0, 0] := by decide +kernel

theorem blocked (x0 : (⟨S2048x1024, .bf16⟩ : BufTy).Contents (Elt Ideal)) (x1 : (⟨S2048x5632, .bf16⟩ : BufTy).Contents (Elt Ideal))
    (z : S4x1024x1408.Idx) : val_main_v7 (F := Ideal) x0 x1 z
      = ∑ k : Fin 2048, x0 (ix2 k (z 1)) * x1 (ix2 k ⟨1408 * (z 0).val + (z 2).val, by
          have h0 : (z 0).val < 4 := (z 0).isLt; have h2 : (z 2).val < 1408 := (z 2).isLt; omega⟩) := by
  have h0 : (z 0).val < 4 := (z 0).isLt
  have h1 : (z 1).val < 1024 := (z 1).isLt
  have h2 : (z 2).val < 1408 := (z 2).isLt
  rw [val_main_v7_apply, val_main_v6_apply, val_main_v5_apply, val_main_v4_apply]
  refine Finset.sum_congr rfl fun k _ => Eq.trans ?_ (mul_comm _ _)
  refine congrArg₂ (· * ·) (congrArg x1 (?_ : (_ : S2048x5632.Idx) = _)) (congrArg x0 (?_ : (_ : S2048x1024.Idx) = _))
  · refine (eq_ix2 _).trans (congrArg (ix2 k) (Fin.ext ?_))
    show (((z 1).val * 4 + (z 0).val) * 1408 + (z 2).val) % 5632 = 1408 * (z 0).val + (z 2).val
    omega
  · refine (eq_ix2 _).trans (congrArg (ix2 k) (Fin.ext ?_))
    show (((z 1).val * 4 + (z 0).val) * 1408 + (z 2).val) / 5632 = (z 1).val
    omega

/-- The result is the reference's product of the whole arrays. -/
theorem array : (dats m 0 c).arrAt 2 cfg0.N = val_main_v7 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ ((eq_ix3 y).trans (congrArg (fun a : Fin 1 => (ix3 a (y 1) (y 2) : S1x1024x1408.Idx)) (Subsingleton.elim _ _)))).trans ((block _ _ (y 1) (y 2)).trans ?_)
  rw [blocked]
  refine Finset.sum_congr rfl fun k _ => ?_
  blk_simp [iblk]
  refine congrArg₂ (· * ·) (congrArg (m ((c.tc : Thread nD τ).loc main_arg0)) (?_ : (_ : S2048x1024.Idx) = _))
    (congrArg (m ((c.tc : Thread nD τ).loc main_arg1)) (?_ : (_ : S2048x5632.Idx) = _)) <;>
  · refine (eq_ix2 _).trans ?_
    have hy : (y 0).val < 1 := (y 0).isLt
    congr 1 <;> apply Fin.ext <;> blk_simp [e0, e1, e2]
    all_goals first | done | exact congrArg (· + (y 2).val) (Nat.mul_comm _ _)

end Cert.MulUpDw

end
-- ==== Proof.MulUp.lean ====
/- The up product. -/
module

public import proofs.«01_k».proof.Proof.Gen.Kernel3Ideal.Value
public import proofs.«01_k».proof.Proof.Gen.Reference3Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MulUp

open Cert.Kernel3Ideal Cert.Kernel3Ideal.Gen Cert.Reference3Ideal.Read Idealize.ShloMosaic Idealize.ShloMosaic.TcCoe Idealize.SL.Sem
open Idealize.ShloMosaic.Pipeline (Dat)

variable (m : (ℓ : Loc nD τ sig) → Buf (Elt Ideal) ℓ) (c : Dev nD)

/-- What one grid point writes: the product of its two blocks. -/
theorem block (x0 : Vec Ideal S1024x1024 .bf16) (x1 : Vec Ideal S1024x1408 .bf16) (p : Fin 1024) (q : Fin 1408) :
    out0_2 x0 x1 (ix2 p q) = ∑ k : Fin 1024, x0 (ix2 p k) * x1 (ix2 k q) := by
  unfold out0_2
  frame_out
  pointwise [k0_pay1]

theorem e0 : ∀ t : Fin cfg0.N, win0_0.index t = ![t.val / 4, 0] := by decide +kernel
theorem e1 : ∀ t : Fin cfg0.N, win0_1.index t = ![0, t.val % 4] := by decide +kernel
theorem e2 : ∀ t : Fin cfg0.N, win0_2.index t = ![t.val / 4, t.val % 4] := by decide +kernel

/-- The result is the reference's product of the whole arrays. -/
theorem array : (dats m 0 c).arrAt 2 cfg0.N = val_main_v1 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  rw [val_main_v1_apply]
  refine Finset.sum_congr rfl fun k _ => ?_
  blk_simp [iblk]
  refine congrArg₂ (· * ·) (congrArg (m ((c.tc : Thread nD τ).loc main_arg0)) (?_ : (_ : S2048x1024.Idx) = _))
    (congrArg (m ((c.tc : Thread nD τ).loc main_arg1)) (?_ : (_ : S1024x5632.Idx) = _)) <;>
  · refine (eq_ix2 _).trans (Eq.trans ?_ (eq_ix2 _).symm)
    congr 1 <;> apply Fin.ext <;> blk_simp [e0, e1, e2]

end Cert.MulUp

end
-- ==== Proof.MulDownDx.lean ====
/- The gradient of the down product's left operand: each block is a block of `dffn * w_down^T`. -/
module

public import proofs.«01_k».proof.Proof.Gen.Kernel4Ideal.Value
public import proofs.«01_k».proof.Proof.Gen.Reference4Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MulDownDx

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem block (x0 : Vec Ideal S1024x1024 .bf16) (x1 : Vec Ideal S1408x1024 .bf16) (p : Fin 1024) (q : Fin 1408) :
    out0_2 x0 x1 (ix2 p q) = ∑ k : Fin 1024, x0 (ix2 p k) * x1 (ix2 q k) := by
  unfold out0_2
  frame_out
  pointwise [k0_pay1]

theorem e0 : ∀ t : Fin cfg0.N, win0_0.index t = ![t.val / 2, 0] := by decide +kernel
theorem e1 : ∀ t : Fin cfg0.N, win0_1.index t = ![t.val % 2, 0] := by decide +kernel
theorem e2 : ∀ t : Fin cfg0.N, win0_2.index t = ![t.val / 2, t.val % 2] := by decide +kernel

theorem weight (y : S2816x1024.Idx) : V m c main_v0 y = m ((c.tc : Thread nD τ).loc main_arg0) y := by
  rfl

theorem array : (dats m 0 c).arrAt 2 cfg0.N = Cert.Reference4Ideal.Read.val_main_v3 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  rw [Cert.Reference4Ideal.Read.val_main_v3_apply]
  refine Finset.sum_congr rfl fun k _ => ?_
  refine congrArg₂ (· * ·) (congrArg (m ((c.tc : Thread nD τ).loc main_arg1)) (?_ : (_ : S2048x1024.Idx) = _))
    (congrArg (m ((c.tc : Thread nD τ).loc main_arg0)) (?_ : (_ : S2816x1024.Idx) = _)) <;>
  · refine (eq_ix2 _).trans (Eq.trans ?_ (eq_ix2 _).symm)
    congr 1 <;> apply Fin.ext <;> blk_simp [e0, e1, e2]

end Cert.MulDownDx

end
-- ==== Proof.MulInDw.lean ====
/- The gradient of the input projection's weight. -/
module

public import proofs.«01_k».proof.Proof.Gen.Kernel5Ideal.Value
public import proofs.«01_k».proof.Proof.Gen.Reference5Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MulInDw

open Cert.Kernel5Ideal Cert.Kernel5Ideal.Gen Cert.Reference5Ideal.Read Idealize.ShloMosaic Idealize.ShloMosaic.TcCoe Idealize.SL.Sem
open Idealize.ShloMosaic.Pipeline (Dat)

variable (m : (ℓ : Loc nD τ sig) → Buf (Elt Ideal) ℓ) (c : Dev nD)

/-- What one grid point writes: the product of its two blocks. -/
theorem block (x0 : Vec Ideal S2048x512 .bf16) (x1 : Vec Ideal S2048x2336 .bf16) (p : Fin 512) (q : Fin 2336) :
    out0_2 x0 x1 (ix2 p q) = ∑ k : Fin 2048, x0 (ix2 k p) * x1 (ix2 k q) := by
  unfold out0_2
  frame_out
  pointwise [k0_pay1]

theorem e0 : ∀ t : Fin cfg0.N, win0_0.index t = ![0, t.val] := by decide +kernel
theorem e1 : ∀ t : Fin cfg0.N, win0_1.index t = ![0, 0] := by decide +kernel
theorem e2 : ∀ t : Fin cfg0.N, win0_2.index t = ![t.val, 0] := by decide +kernel

/-- The result is the reference's product of the whole arrays. -/
theorem array : (dats m 0 c).arrAt 2 cfg0.N = val_main_v5 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  rw [val_main_v5_apply, val_main_v4_apply]
  refine Finset.sum_congr rfl fun k _ => Eq.trans ?_ (mul_comm _ _)
  blk_simp [iblk]
  refine congrArg₂ (· * ·) (congrArg (m ((c.tc : Thread nD τ).loc main_arg0)) (?_ : (_ : S2048x1024.Idx) = _))
    (congrArg (m ((c.tc : Thread nD τ).loc main_arg1)) (?_ : (_ : S2048x2336.Idx) = _)) <;>
  · refine (eq_ix2 _).trans (Eq.trans ?_ (eq_ix2 _).symm)
    congr 1 <;> apply Fin.ext <;> blk_simp [e0, e1, e2]

end Cert.MulInDw

end
-- ==== Proof.MulODw.lean ====
/- The gradient of the output projection's weight. -/
module

public import proofs.«01_k».proof.Proof.Gen.Kernel6Ideal.Value
public import proofs.«01_k».proof.Proof.Gen.Reference6Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MulODw

open Cert.Kernel6Ideal Cert.Kernel6Ideal.Gen Cert.Reference6Ideal.Read Idealize.ShloMosaic Idealize.ShloMosaic.TcCoe Idealize.SL.Sem
open Idealize.ShloMosaic.Pipeline (Dat)

variable (m : (ℓ : Loc nD τ sig) → Buf (Elt Ideal) ℓ) (c : Dev nD)

/-- What one grid point writes: the product of its two blocks. -/
theorem block (x0 : Vec Ideal S2048x1024 .bf16) (x1 : Vec Ideal S2048x1024 .bf16) (p : Fin 1024) (q : Fin 1024) :
    out0_2 x0 x1 (ix2 p q) = ∑ k : Fin 2048, x0 (ix2 k p) * x1 (ix2 k q) := by
  unfold out0_2
  frame_out
  pointwise [k0_pay1]

theorem e0 : ∀ t : Fin cfg0.N, win0_0.index t = ![0, 0] := by decide +kernel
theorem e1 : ∀ t : Fin cfg0.N, win0_1.index t = ![0, 0] := by decide +kernel
theorem e2 : ∀ t : Fin cfg0.N, win0_2.index t = ![0, 0] := by decide +kernel

/-- The result is the reference's product of the whole arrays. -/
theorem array : (dats m 0 c).arrAt 2 cfg0.N = val_main_v5 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  rw [val_main_v5_apply, val_main_v4_apply]
  refine Finset.sum_congr rfl fun k _ => Eq.trans ?_ (mul_comm _ _)
  blk_simp [iblk]
  refine congrArg₂ (· * ·) (congrArg (m ((c.tc : Thread nD τ).loc main_arg0)) (?_ : (_ : S2048x1024.Idx) = _))
    (congrArg (m ((c.tc : Thread nD τ).loc main_arg1)) (?_ : (_ : S2048x1024.Idx) = _)) <;>
  · refine (eq_ix2 _).trans (Eq.trans ?_ (eq_ix2 _).symm)
    congr 1 <;> apply Fin.ext <;> blk_simp [e0, e1, e2]

end Cert.MulODw

end
-- ==== Proof.MulDownDw.lean ====
/- The gradient of the down product's weight. -/
module

public import proofs.«01_k».proof.Proof.Gen.Kernel7Ideal.Value
public import proofs.«01_k».proof.Proof.Gen.Reference7Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MulDownDw

open Cert.Kernel7Ideal Cert.Kernel7Ideal.Gen Cert.Reference7Ideal.Read Idealize.ShloMosaic Idealize.ShloMosaic.TcCoe Idealize.SL.Sem
open Idealize.ShloMosaic.Pipeline (Dat)

variable (m : (ℓ : Loc nD τ sig) → Buf (Elt Ideal) ℓ) (c : Dev nD)

/-- What one grid point writes: the product of its two blocks. -/
theorem block (x0 : Vec Ideal S2048x256 .bf16) (x1 : Vec Ideal S2048x1024 .bf16) (p : Fin 256) (q : Fin 1024) :
    out0_2 x0 x1 (ix2 p q) = ∑ k : Fin 2048, x0 (ix2 k p) * x1 (ix2 k q) := by
  unfold out0_2
  frame_out
  pointwise [k0_pay1]

theorem e0 : ∀ t : Fin cfg0.N, win0_0.index t = ![0, t.val] := by decide +kernel
theorem e1 : ∀ t : Fin cfg0.N, win0_1.index t = ![0, 0] := by decide +kernel
theorem e2 : ∀ t : Fin cfg0.N, win0_2.index t = ![t.val, 0] := by decide +kernel

/-- The result is the reference's product of the whole arrays. -/
theorem array : (dats m 0 c).arrAt 2 cfg0.N = val_main_v5 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  rw [val_main_v5_apply, val_main_v4_apply]
  refine Finset.sum_congr rfl fun k _ => Eq.trans ?_ (mul_comm _ _)
  blk_simp [iblk]
  refine congrArg₂ (· * ·) (congrArg (m ((c.tc : Thread nD τ).loc main_arg0)) (?_ : (_ : S2048x2816.Idx) = _))
    (congrArg (m ((c.tc : Thread nD τ).loc main_arg1)) (?_ : (_ : S2048x1024.Idx) = _)) <;>
  · refine (eq_ix2 _).trans (Eq.trans ?_ (eq_ix2 _).symm)
    congr 1 <;> apply Fin.ext <;> blk_simp [e0, e1, e2]

end Cert.MulDownDw

end
-- ==== Proof.Gather.lean ====
/- A value that is started at the first block of rows and added to at each later one. -/
module

public import Mathlib.Data.EReal.Operations
public import Mathlib.Algebra.BigOperators.Fin

@[expose] public section

namespace Cert.Gather

/-- Row `p` of block `n` of 512 rows. -/
def row (n : ℕ) (h : n < 4) (p : Fin 512) : Fin 2048 := ⟨n * 512 + p.val, by omega⟩

/-- The sum over all rows is the sum over the four blocks. -/
theorem split (G : Fin 2048 → EReal) : (∑ r, G r) =
    (∑ p, G (row 0 (by omega) p)) + (∑ p, G (row 1 (by omega) p)) + (∑ p, G (row 2 (by omega) p)) + (∑ p, G (row 3 (by omega) p)) := by
  have h3 := Fin.sum_univ_add (M := EReal) (a := 512 + 512 + 512) (b := 512) G
  have h2 := Fin.sum_univ_add (M := EReal) (a := 512 + 512) (b := 512) (fun i => G (Fin.castAdd 512 i))
  have h1 := Fin.sum_univ_add (M := EReal) (a := 512) (b := 512) (fun i => G (Fin.castAdd 512 (Fin.castAdd 512 i)))
  refine h3.trans ?_
  rw [h2, h1]
  refine congrArg₂ (· + ·) (congrArg₂ (· + ·) (congrArg₂ (· + ·) ?_ ?_) ?_) ?_ <;>
    refine Finset.sum_congr rfl fun p _ => congrArg G (Fin.ext ?_) <;> simp [row] <;> omega

theorem gathered (G : Fin 2048 → EReal) (f : (n : ℕ) → n < 4 → EReal)
    (h0 : f 0 (by omega) = 0 + ∑ p, G (row 0 (by omega) p))
    (hs : ∀ (n : ℕ) (h : n + 1 < 4), f (n + 1) h = f n (by omega) + ∑ p, G (row (n + 1) h p)) :
    f 3 (by omega) = ∑ r, G r := by
  rw [hs 2, hs 1, hs 0, h0, zero_add, split]

end Cert.Gather
-- ==== Proof.DownFinal.lean ====
/- The down product, the loss and the gradients that begin the backward pass. -/
module

public import proofs.«01_k».proof.Proof.Gen.Kernel8Ideal.Value
public import proofs.«01_k».proof.Proof.Gen.Reference8Ideal.Read
public import proofs.«01_k».proof.Proof.Gather
public import Idealize.ShloMosaic.Lib.Pipeline.ReadBack
public import Idealize.ShloMosaic.Lib.Pipeline.ValueKit
public import Idealize.ShloMosaic.Lib.Pointwise

@[expose] public section

set_option maxRecDepth 16384

noncomputable section

namespace Cert.DownFinal

open Cert.Kernel8Ideal Cert.Kernel8Ideal.Gen Cert.Reference8Ideal.Read Idealize.ShloMosaic Idealize.ShloMosaic.TcCoe Idealize.SL.Sem
open Idealize.ShloMosaic.Pipeline (Dat)
open Cert.Gather (row)

variable (m : (ℓ : Loc nD τ sig) → Buf (Elt Ideal) ℓ) (c : Dev nD)

/-- A row of the down product. -/
def prod (a : Fin 2816 → EReal) (w : Fin 2816 → Fin 1024 → EReal) (q : Fin 1024) : EReal := ∑ k, a k * w k q

/-- The row's distance from the target, after the gated residual. -/
def err (a : Fin 2816 → EReal) (w : Fin 2816 → Fin 1024 → EReal) (x t g : Fin 1024 → EReal) (q : Fin 1024) : EReal :=
  x q + g q * prod a w q - t q

abbrev c1 : EReal := Ideal.ofBits .f32 0x3A800000#32
abbrev c2 : EReal := Ideal.ofBits .f32 0x3A000000#32

variable (t : Fin cfg0.N)

/-- The block's product and distance. -/
def kProd (p : Fin 512) (q : Fin 1024) : EReal :=
  prod (fun k => (iblk m c 0 t : Vec Ideal S512x2816 .bf16) (ix2 p k)) (fun k q => (iblk m c 1 t : Vec Ideal S2816x1024 .bf16) (ix2 k q)) q
def kErr (p : Fin 512) (q : Fin 1024) : EReal :=
  err (fun k => (iblk m c 0 t : Vec Ideal S512x2816 .bf16) (ix2 p k)) (fun k q => (iblk m c 1 t : Vec Ideal S2816x1024 .bf16) (ix2 k q))
    (fun q => (iblk m c 2 t : Vec Ideal S512x1024 .f32) (ix2 p q)) (fun q => (iblk m c 3 t : Vec Ideal S512x1024 .f32) (ix2 p q))
    (fun q => (iblk m c 4 t : Vec Ideal S1x1024 .f32) (ix2 0 q)) q

theorem out5 (p : Fin 512) (q : Fin 1024) : (outsAt0 m c t.val t.isLt).1 (ix2 p q) = kErr m c t p q * c1 := by
  unfold kErr err prod
  by_cases h0 : t.val % 4 = 0
  · rw [outsAt0_A m c t h0 (by omega)]
    dsimp only
    frame_out
    pointwise [k0_pay7, k0_pay6, k0_pay5]
  · by_cases h1 : t.val % 4 = 3
    · rw [outsAt0_C m c t h0 h1]
      dsimp only
      frame_out
      pointwise [k0_pay7, k0_pay6, k0_pay5]
    · rw [outsAt0_B m c t h0 h1]
      dsimp only
      frame_out
      pointwise [k0_pay7, k0_pay6, k0_pay5]

theorem out6 (p : Fin 512) (q : Fin 1024) : (outsAt0 m c t.val t.isLt).2.1 (ix2 p q) =
    kErr m c t p q * c1 * (iblk m c 4 t : Vec Ideal S1x1024 .f32) (ix2 0 q) := by
  unfold kErr err prod
  by_cases h0 : t.val % 4 = 0
  · rw [outsAt0_A m c t h0 (by omega)]
    dsimp only
    frame_out
    pointwise [k0_pay8, k0_pay7, k0_pay6, k0_pay5]
  · by_cases h1 : t.val % 4 = 3
    · rw [outsAt0_C m c t h0 h1]
      dsimp only
      frame_out
      pointwise [k0_pay8, k0_pay7, k0_pay6, k0_pay5]
    · rw [outsAt0_B m c t h0 h1]
      dsimp only
      frame_out
      pointwise [k0_pay8, k0_pay7, k0_pay6, k0_pay5]

theorem first7 (h0 : t.val % 4 = 0) (q : Fin 1024) : (outsAt0 m c t.val t.isLt).2.2.1 (ix2 0 q) =
    0 + ∑ p : Fin 512, kErr m c t p q * c1 * kProd m c t p q := by
  unfold kErr kProd err prod
  rw [outsAt0_A m c t h0 (by omega)]
  dsimp only
  frame_open
  simp (disch := decide) only [↓ View.readCov_skip, ↓ View.readCov_cons_toLoadRect, ↓ View.readCov_fill]
  frame_out
  pointwise [k0_pay9, k0_pay7, k0_pay6, k0_pay5, k0_pay3]
theorem next7 (h0 : ¬ t.val % 4 = 0) (q : Fin 1024) : (outsAt0 m c t.val t.isLt).2.2.1 (ix2 0 q) =
    (outsAt0 m c (t.val - 1) (by omega)).2.2.1 (ix2 0 q) + ∑ p : Fin 512, kErr m c t p q * c1 * kProd m c t p q := by
  unfold kErr kProd err prod
  by_cases h1 : t.val % 4 = 3
  · rw [outsAt0_C m c t h0 h1]
    dsimp only
    frame_out
    pointwise [k0_pay9, k0_pay7, k0_pay6, k0_pay5]
  · rw [outsAt0_B m c t h0 h1]
    dsimp only
    frame_out
    pointwise [k0_pay9, k0_pay7, k0_pay6, k0_pay5]

theorem firstS (h0 : t.val % 4 = 0) (q : Fin 1024) : (outsAt0 m c t.val t.isLt).2.2.2.2 (ix2 0 q) =
    0 + ∑ p : Fin 512, kErr m c t p q * kErr m c t p q := by
  unfold kErr err prod
  rw [outsAt0_A m c t h0 (by omega)]
  dsimp only
  frame_open
  simp (disch := decide) only [↓ View.readCov_skip, ↓ View.readCov_cons_toLoadRect, ↓ View.readCov_fill]
  frame_out
  pointwise [k0_pay1, k0_pay6, k0_pay5, k0_pay4]
theorem nextS (h0 : ¬ t.val % 4 = 0) (q : Fin 1024) : (outsAt0 m c t.val t.isLt).2.2.2.2 (ix2 0 q) =
    (outsAt0 m c (t.val - 1) (by omega)).2.2.2.2 (ix2 0 q) + ∑ p : Fin 512, kErr m c t p q * kErr m c t p q := by
  unfold kErr err prod
  by_cases h1 : t.val % 4 = 3
  · rw [outsAt0_C m c t h0 h1]
    dsimp only
    frame_out
    pointwise [k0_pay1, k0_pay6, k0_pay5, Memref.IsWhole.read_unread, read_unread_whole]
  · rw [outsAt0_B m c t h0 h1]
    dsimp only
    frame_out
    pointwise [k0_pay1, k0_pay6, k0_pay5, Memref.IsWhole.read_unread, read_unread_whole]
theorem last8 (h0 : ¬ t.val % 4 = 0) (h1 : t.val % 4 = 3) : (outsAt0 m c t.val t.isLt).2.2.2.1 (ix2 0 0) =
    (∑ q : Fin 1024, (outsAt0 m c t.val t.isLt).2.2.2.2 (ix2 0 q)) * c2 := by
  rw [outsAt0_C m c t h0 h1]
  dsimp only
  frame_out
  pointwise [k0_pay2]

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![0, 0] := by decide +kernel
theorem e5 : ∀ t : Fin cfg0.N, win0_5.index t = ![t.val, 0] := by decide +kernel
theorem e6 : ∀ t : Fin cfg0.N, win0_6.index t = ![t.val, 0] := by decide +kernel
theorem e7 : ∀ t : Fin cfg0.N, win0_7.index t = ![0, 0] := by decide +kernel
theorem e8 : ∀ t : Fin cfg0.N, win0_8.index t = ![0, 0] := by decide +kernel

/-- The five arguments. -/
abbrev A0 : Vec Ideal S2048x2816 .bf16 := m ((c.tc : Thread nD τ).loc main_arg0)
abbrev A1 : Vec Ideal S2816x1024 .f32 := m ((c.tc : Thread nD τ).loc main_arg1)
abbrev A2 : Vec Ideal S2048x1024 .f32 := m ((c.tc : Thread nD τ).loc main_arg2)
abbrev A3 : Vec Ideal S2048x1024 .f32 := m ((c.tc : Thread nD τ).loc main_arg3)
abbrev A4 : Vec Ideal S1x1024 .f32 := m ((c.tc : Thread nD τ).loc main_arg4)

theorem b0 (p : Fin 512) (q : Fin 2816) : iblk m c 0 t (ix2 p q) = A0 m c (ix2 (row t.val t.2 p) q) := by
  blk_simp [iblk]
  refine congrArg (A0 m c) (?_ : (_ : S2048x2816.Idx) = _)
  refine (eq_ix2 _).trans (congrArg₂ ix2 (Fin.ext ?_) (Fin.ext ?_)) <;> blk_simp [e0, row]
theorem b1 (p : Fin 2816) (q : Fin 1024) : iblk m c 1 t (ix2 p q) = A1 m c (ix2 p q) := by
  blk_simp [iblk]
  refine congrArg (A1 m c) (?_ : (_ : S2816x1024.Idx) = _)
  refine (eq_ix2 _).trans (congrArg₂ ix2 (Fin.ext ?_) (Fin.ext ?_)) <;> blk_simp [e1]
theorem b2 (p : Fin 512) (q : Fin 1024) : iblk m c 2 t (ix2 p q) = A2 m c (ix2 (row t.val t.2 p) q) := by
  blk_simp [iblk]
  refine congrArg (A2 m c) (?_ : (_ : S2048x1024.Idx) = _)
  refine (eq_ix2 _).trans (congrArg₂ ix2 (Fin.ext ?_) (Fin.ext ?_)) <;> blk_simp [e2, row]
theorem b3 (p : Fin 512) (q : Fin 1024) : iblk m c 3 t (ix2 p q) = A3 m c (ix2 (row t.val t.2 p) q) := by
  blk_simp [iblk]
  refine congrArg (A3 m c) (?_ : (_ : S2048x1024.Idx) = _)
  refine (eq_ix2 _).trans (congrArg₂ ix2 (Fin.ext ?_) (Fin.ext ?_)) <;> blk_simp [e3, row]
theorem b4 (q : Fin 1024) : iblk m c 4 t (ix2 0 q) = A4 m c (ix2 0 q) := by
  blk_simp [iblk]
  refine congrArg (A4 m c) (?_ : (_ : S1x1024.Idx) = _)
  refine (eq_ix2 _).trans (congrArg₂ ix2 (Fin.ext ?_) (Fin.ext ?_)) <;> blk_simp [e4]

section
variable (x0 : Vec Ideal S2048x2816 .bf16) (x1 : Vec Ideal S2816x1024 .f32) (x2 x3 : Vec Ideal S2048x1024 .f32) (x4 : Vec Ideal S1x1024 .f32)

/-- The whole arrays' product and distance. -/
def rProd (p : Fin 2048) (q : Fin 1024) : EReal := prod (fun k => x0 (ix2 p k)) (fun k q => x1 (ix2 k q)) q
def rErr (p : Fin 2048) (q : Fin 1024) : EReal :=
  err (fun k => x0 (ix2 p k)) (fun k q => x1 (ix2 k q)) (fun q => x2 (ix2 p q)) (fun q => x3 (ix2 p q)) (fun q => x4 (ix2 0 q)) q

/-- What the derivative of the loss multiplies the distance by. -/
def rGrad (e : EReal) : EReal :=
  Ideal.div (Ideal.ofBits .f32 0x3F000000#32 * 1) (Ideal.ofBits .f32 0x44800000#32) * (Ideal.ofBits .f32 0x40000000#32 * e)

theorem ref5 (p : Fin 2048) (q : Fin 1024) : val_main_v19 x0 x1 x2 x3 x4 (ix2 p q) = rGrad (rErr x0 x1 x2 x3 x4 p q) := by
  unfold rGrad rErr err prod
  pointwise [val_main_v19, val_main_v18, val_main_v17, val_main_v16, val_main_v15, val_main_v14, val_main_v8, val_main_v7, val_main_v5,
    val_main_v4, val_main_v3, val_main_v2, val_main_v1, val_main_v0, val_main_cst, val_main_cst_4, val_main_cst_5, val_main_cst_6]

theorem ref6 (p : Fin 2048) (q : Fin 1024) : val_main_v25 x0 x1 x2 x3 x4 (ix2 p q) = x4 (ix2 0 q) * rGrad (rErr x0 x1 x2 x3 x4 p q) := by
  rw [← ref5]
  pointwise [val_main_v25, val_main_v21, val_main_v20]

theorem ref7 (q : Fin 1024) : val_main_v24 x0 x1 x2 x3 x4 (ix2 0 q) =
    ∑ p, rGrad (rErr x0 x1 x2 x3 x4 p q) * rProd x0 x1 p q := by
  simp only [← ref5]
  unfold rProd prod
  pointwise [val_main_v24, val_main_v23, val_main_v22, val_main_v1, val_main_v0, val_main_cst_7]

theorem ref8 : val_main_v26 x0 x1 x2 x3 x4 (ix2 0 0) = Ideal.ofBits .f32 0x3F000000#32 *
    ∑ p, Ideal.div (∑ q, rErr x0 x1 x2 x3 x4 p q * rErr x0 x1 x2 x3 x4 p q) (Ideal.ofBits .f32 0x44800000#32) := by
  unfold rErr err prod
  pointwise [val_main_v26, val_main_v13, val_main_v12, val_main_v11, val_main_v10, val_main_v9, val_main_v6, val_main_v5, val_main_v4,
    val_main_v3, val_main_v2, val_main_v1, val_main_v0, val_main_cst_0, val_main_cst_1, val_main_cst_2, val_main_cst_3]
end

theorem c1_eq : c1 = ((1 / 1024 : ℝ) : EReal) := by
  simp [c1, Ideal.ofBits, Ideal.ieee, -EReal.coe_mul]; norm_num
theorem c2_eq : c2 = ((1 / 2048 : ℝ) : EReal) := by
  simp [c2, Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem width_eq : Ideal.ofBits .f32 0x44800000#32 = ((1024 : ℝ) : EReal) := by
  simp [Ideal.ofBits, Ideal.ieee, -EReal.coe_mul]; norm_num

/-- Twice the distance, halved and divided by the width, is the distance divided by the width. -/
theorem rGrad_eq (e : EReal) : rGrad e = e * c1 := by
  rw [rGrad, c1_eq, half_eq, two_eq, width_eq, mul_one, Ideal.div_coe (by norm_num), ← EReal.coe_mul, mul_comm e, ← mul_assoc, ← EReal.coe_mul]
  norm_num

/-- A positive real factor may be taken out of a sum. -/
theorem sum_mul_real {ι : Type*} (s : Finset ι) (f : ι → EReal) (r : ℝ) (hr : 0 ≤ r) : (∑ i ∈ s, f i * (r : EReal)) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- The two ways of forming the loss. -/
theorem loss_eq (f : Fin 2048 → Fin 1024 → EReal) : (∑ q, ∑ p, f p q) * c2 =
    Ideal.ofBits .f32 0x3F000000#32 * ∑ p, Ideal.div (∑ q, f p q) (Ideal.ofBits .f32 0x44800000#32) := by
  simp only [width_eq, Ideal.div_coe (show (1024 : ℝ) ≠ 0 by norm_num)]
  rw [sum_mul_real _ _ _ (by norm_num), half_eq, c2_eq, mul_comm (((1 / 2 : ℝ)) : EReal), mul_assoc, ← EReal.coe_mul, Finset.sum_comm]
  norm_num

theorem kProd_eq (p : Fin 512) (q : Fin 1024) : kProd m c t p q = rProd (A0 m c) (A1 m c) (row t.val t.2 p) q := by
  unfold kProd rProd
  simp only [b0, b1]
theorem kErr_eq (p : Fin 512) (q : Fin 1024) :
    kErr m c t p q = rErr (A0 m c) (A1 m c) (A2 m c) (A3 m c) (A4 m c) (row t.val t.2 p) q := by
  unfold kErr rErr
  simp only [b0, b1, b2, b3, b4]

theorem at5 (p : Fin 512) (q : Fin 1024) : (outsAt0 m c t.val t.isLt).1 (ix2 p q) =
    val_main_v19 (F := Ideal) (A0 m c) (A1 m c) (A2 m c) (A3 m c) (A4 m c) (ix2 (row t.val t.2 p) q) := by
  rw [out5, ref5, rGrad_eq, kErr_eq]
theorem at6 (p : Fin 512) (q : Fin 1024) : (outsAt0 m c t.val t.isLt).2.1 (ix2 p q) =
    val_main_v25 (F := Ideal) (A0 m c) (A1 m c) (A2 m c) (A3 m c) (A4 m c) (ix2 (row t.val t.2 p) q) := by
  rw [out6, ref6, rGrad_eq, kErr_eq, b4, mul_comm]

/-- The gradient of the residual. -/
theorem array5 : (dats m 0 c).arrAt 5 cfg0.N = val_main_v19 (F := Ideal) (A0 m c) (A1 m c) (A2 m c) (A3 m c) (A4 m c) := by
  refine (dats m 0 c).arrAt_eq_of_covers 5 _ (by decide +kernel) fun t hf y => ?_
  blk_simp [e5]
  rw [after0_5]
  refine (congrArg _ (eq_ix2 y)).trans ((at5 m c t (y 0) (y 1)).trans
    (congrArg _ (?_ : (_ : S2048x1024.Idx) = ix2 (row t.val t.2 (y 0)) (y 1))).symm)
  · refine (eq_ix2 _).trans (congrArg₂ ix2 (Fin.ext ?_) (Fin.ext ?_)) <;> blk_simp [e5, row]

/-- The gradient of the down product. -/
theorem array6 : (dats m 0 c).arrAt 6 cfg0.N = val_main_v25 (F := Ideal) (A0 m c) (A1 m c) (A2 m c) (A3 m c) (A4 m c) := by
  refine (dats m 0 c).arrAt_eq_of_covers 6 _ (by decide +kernel) fun t hf y => ?_
  blk_simp [e6]
  rw [after0_6]
  refine (congrArg _ (eq_ix2 y)).trans ((at6 m c t (y 0) (y 1)).trans
    (congrArg _ (?_ : (_ : S2048x1024.Idx) = ix2 (row t.val t.2 (y 0)) (y 1))).symm)
  · refine (eq_ix2 _).trans (congrArg₂ ix2 (Fin.ext ?_) (Fin.ext ?_)) <;> blk_simp [e6, row]

theorem sum7 (q : Fin 1024) : (outsAt0 m c 3 (by decide)).2.2.1 (ix2 0 q) =
    ∑ r, rErr (A0 m c) (A1 m c) (A2 m c) (A3 m c) (A4 m c) r q * c1 * rProd (A0 m c) (A1 m c) r q :=
  Cert.Gather.gathered (fun r => rErr (A0 m c) (A1 m c) (A2 m c) (A3 m c) (A4 m c) r q * c1 * rProd (A0 m c) (A1 m c) r q)
    (fun n h => (outsAt0 m c n h).2.2.1 (ix2 0 q))
    (by
      refine (first7 m c ⟨0, by decide⟩ rfl q).trans ?_
      simp only [kErr_eq, kProd_eq])
    (fun n h => by
      refine (next7 m c ⟨n + 1, h⟩ (by dsimp only; omega) q).trans ?_
      simp only [kErr_eq, kProd_eq, Nat.add_sub_cancel])

theorem sumS (q : Fin 1024) : (outsAt0 m c 3 (by decide)).2.2.2.2 (ix2 0 q) =
    ∑ r, rErr (A0 m c) (A1 m c) (A2 m c) (A3 m c) (A4 m c) r q * rErr (A0 m c) (A1 m c) (A2 m c) (A3 m c) (A4 m c) r q :=
  Cert.Gather.gathered (fun r => rErr (A0 m c) (A1 m c) (A2 m c) (A3 m c) (A4 m c) r q * rErr (A0 m c) (A1 m c) (A2 m c) (A3 m c) (A4 m c) r q)
    (fun n h => (outsAt0 m c n h).2.2.2.2 (ix2 0 q))
    (by
      refine (firstS m c ⟨0, by decide⟩ rfl q).trans ?_
      simp only [kErr_eq])
    (fun n h => by
      refine (nextS m c ⟨n + 1, h⟩ (by dsimp only; omega) q).trans ?_
      simp only [kErr_eq, Nat.add_sub_cancel])

/-- The last point of the grid. -/
theorem last_point (t : Fin cfg0.N) (h : t.val % 4 = 3) : t = ⟨3, by decide⟩ := by
  have : t.val < 4 := t.2
  exact Fin.ext (by dsimp only; omega)

/-- The gradient of the second gate. -/
theorem array7 : (dats m 0 c).arrAt 7 cfg0.N = val_main_v24 (F := Ideal) (A0 m c) (A1 m c) (A2 m c) (A3 m c) (A4 m c) := by
  refine (dats m 0 c).arrAt_eq_of_covers 7 _ (by decide +kernel) fun t hf y => ?_
  blk_simp [e7]
  rw [after0_7]
  have hz : ((win0_7.blk t).view.emb y : S1x1024.Idx) = ix2 0 (y 1) := by
    refine (eq_ix2 _).trans (congrArg₂ ix2 (Subsingleton.elim (α := Fin 1) _ _) (Fin.ext ?_))
    blk_simp [e7]
  obtain rfl := last_point t ((flush0_7 t).mp hf)
  have hy : ix2 (y 0) (y 1) = (ix2 (0 : Fin 1) (y 1) : S1x1024.Idx) := congrArg (fun a : Fin 1 => ix2 a (y 1)) (Subsingleton.elim _ _)
  refine (congrArg _ ((eq_ix2 y).trans hy)).trans ((sum7 m c (y 1)).trans (Eq.trans ?_
    ((congrArg _ hz).trans (ref7 _ _ _ _ _ (y 1))).symm))
  simp only [rGrad_eq]

/-- The loss. -/
theorem array8 : (dats m 0 c).arrAt 8 cfg0.N = val_main_v26 (F := Ideal) (A0 m c) (A1 m c) (A2 m c) (A3 m c) (A4 m c) := by
  refine (dats m 0 c).arrAt_eq_of_covers 8 _ (by decide +kernel) fun t hf y => ?_
  blk_simp [e8]
  rw [after0_8]
  obtain rfl := last_point t ((flush0_8 t).mp hf)
  have one : ∀ z : S1x1.Idx, z = ix2 0 0 := fun z => (eq_ix2 z).trans
    (congrArg₂ ix2 (Subsingleton.elim (α := Fin 1) _ _) (Subsingleton.elim (α := Fin 1) _ _))
  refine (congrArg _ (one y)).trans ((last8 m c ⟨3, by decide⟩ (by decide) rfl).trans (Eq.trans ?_
    ((congrArg _ (one _)).trans (ref8 _ _ _ _ _)).symm))
  simp only [sumS]
  exact loss_eq _

end Cert.DownFinal

end
-- ==== Proof.InProj.lean ====
/- The first modulated norm, the input projection and the two latent norms. -/
module

public import proofs.«01_k».proof.Proof.Gen.Kernel9Ideal.Value
public import proofs.«01_k».proof.Proof.Gen.Reference9Ideal.Read
public import proofs.«01_k».proof.Proof.GatePoint
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InProj

open Cert.Kernel9Ideal Cert.Kernel9Ideal.Gen Cert.Reference9Ideal.Read Idealize.ShloMosaic Idealize.ShloMosaic.TcCoe Idealize.SL.Sem
open Idealize.ShloMosaic.Pipeline (Dat)
open Cert.GateValue (arr arr_ix2)

variable (m : (ℓ : Loc nD τ sig) → Buf (Elt Ideal) ℓ) (c : Dev nD)

/-- The columns as the kernel lays them out: the query latent, the three dilated parts, the key and value latent, and the
    shared key between zeros. -/
def laid (f : ℕ → EReal) (q : ℕ) : EReal :=
  if q < 512 then f q else if q < 2048 then f (q + 288) else if q < 2304 then f (q - 1536) else if q < 2368 then 0
  else if q < 2400 then f (q - 1600) else 0

/-- The weight with its columns laid out. -/
def laidW (w : Vec Ideal S1024x2336 .bf16) : Vec Ideal S1024x2432 .bf16 :=
  concatenate S1024x2432 1 [⟨S1024x512, extractStridedSlice S1024x512 ![0, 0] w slices_S1024x2336_S1024x512_0_0⟩,
    ⟨S1024x512, extractStridedSlice S1024x512 ![0, 800] w slices_S1024x2336_S1024x512_0_800⟩,
    ⟨S1024x512, extractStridedSlice S1024x512 ![0, 1312] w slices_S1024x2336_S1024x512_0_1312⟩,
    ⟨S1024x512, extractStridedSlice S1024x512 ![0, 1824] w slices_S1024x2336_S1024x512_0_1824⟩,
    ⟨S1024x256, extractStridedSlice S1024x256 ![0, 512] w slices_S1024x2336_S1024x256_0_512⟩,
    ⟨S1024x64, broadcastInDim S1024x64 ![] bcast_S_S1024x64 (constant (F := Ideal) S_ .bf16 0x0000#16 : Vec Ideal S_ .bf16)⟩,
    ⟨S1024x32, extractStridedSlice S1024x32 ![0, 768] w slices_S1024x2336_S1024x32_0_768⟩,
    ⟨S1024x32, broadcastInDim S1024x32 ![] bcast_S_S1024x32 (constant (F := Ideal) S_ .bf16 0x0000#16 : Vec Ideal S_ .bf16)⟩]
    concatenates_S1024x512_S1024x512_S1024x512_S1024x512_S1024x256_S1024x64_S1024x32_S1024x32_S1024x2432_d1

theorem laidW_at (w : Vec Ideal S1024x2336 .bf16) (k : Fin 1024) (q : Fin 2432) : laidW w (ix2 k q) = laid (arr w k) q := by
  pointwise [laidW]
  have h : q.val < 2432 := q.2
  unfold laid
  repeat' split
  all_goals first
    | omega
    | rfl
    | exact (arr_ix2 w k _ _ _ rfl (by dsimp only <;> omega)).symm

theorem V9 : (V m c main_v9 : S1024x2432.Idx → EReal) = laidW (m ((c.tc : Thread nD τ).loc main_arg4)) := by
  unfold V
  after_reads_simp
  rfl

theorem sub_read {sp : Space} (v : View sig .tc sp S512x2432 .f32) (w : Vec Ideal S512x2432 .f32) (o n : ℕ) {off : Fin 2 → ℕ} (h0 : ∀ a, off a = 0)
    (inb : ∀ a, off a + S512x2432.size a ≤ S512x2432.size a) (inb' : ∀ a, (![0, o] : Fin 2 → ℕ) a + (![512, n] : Fin 2 → ℕ) a ≤ S512x2432.size a)
    (p : Fin 512) (q : Fin n) (h : o + q.val < 2432) :
    v.readCov [(⟨Rect.unit off S512x2432.size inb, w⟩ : View.Piece (Elt Ideal) S512x2432 .f32)] (Rect.unit (s := S512x2432) ![0, o] ![512, n] inb').toLoadRect (ix2 p q)
      = w (ix2 p ⟨o + q.val, h⟩) := by
  obtain rfl := View.eq_zero_of_forall h0
  rw [View.readCov_eq_canon_ld _ _ _ (fun y => ⟨_, List.mem_cons_self, by
    show y ∈ (Rect.whole S512x2432).set; rw [Rect.set_whole]; exact Finset.mem_univ y⟩), View.canon_cons_unit_zero rfl]
  refine View.ld_unit_apply_of _ _ _ _ _ (ix2 p ⟨o + q.val, h⟩) ?_
  intro a
  fin_cases a <;> simp [ix2]

/-- A row divided by its root mean square, with gain, scale and shift. -/
def normed (x g s b : Fin 1024 → EReal) (q : Fin 1024) : EReal :=
  x q * Ideal.rsqrt (Ideal.div (∑ k, x k * x k) (Ideal.ofBits .f32 0x44800000#32) + Ideal.ofBits .f32 0x358637BD#32) * g q * (1 + s q) + b q

/-- The row's projection, by column. -/
def proj (x g s b : Fin 1024 → EReal) (w : ℕ → ℕ → EReal) (j : ℕ) : EReal := ∑ k : Fin 1024, normed x g s b k * w k j

/-- A latent row divided by its root mean square, with its gain; `d` is its width. -/
def latent {n : ℕ} (f : Fin n → EReal) (d : EReal) (g : Fin n → EReal) (q : Fin n) : EReal :=
  f q * Ideal.rsqrt (Ideal.div (∑ k, f k * f k) d + Ideal.ofBits .f32 0x358637BD#32) * g q

/-- Laying the columns out commutes with the projection. -/
theorem laid_proj (x g s b : Fin 1024 → EReal) (w : ℕ → ℕ → EReal) (j : ℕ) :
    ∑ k : Fin 1024, normed x g s b k * laid (w k) j = laid (proj x g s b w) j := by
  unfold laid proj
  split_ifs <;> simp only [mul_zero, Finset.sum_const_zero]

section
variable (x0 : Vec Ideal S512x1024 .f32) (x1 x2 x3 : Vec Ideal S1x1024 .f32) (x4 : Vec Ideal S1024x2432 .bf16)

/-- The block's row, normalised. -/
abbrev hRow (p : Fin 512) : Fin 1024 → EReal :=
  normed (fun q => x0 (ix2 p q)) (fun q => x1 (ix2 0 q)) (fun q => x2 (ix2 0 q)) (fun q => x3 (ix2 0 q))

theorem pay3 (p : Fin 512) (q : Fin 1024) : k0_pay3 x0 x1 x2 x3 (ix2 p q) = hRow x0 x1 x2 x3 p q := by
  unfold hRow normed
  pointwise [k0_pay3]

theorem pay4 (p : Fin 512) (q : Fin 2432) : k0_pay4 x0 x1 x2 x3 x4 (ix2 p q) = ∑ k, hRow x0 x1 x2 x3 p k * x4 (ix2 k q) := by
  unfold hRow normed
  pointwise [k0_pay4, k0_pay3]

end

section
variable (x0 : Vec Ideal S2048x1024 .f32) (x1 x2 x3 : Vec Ideal S1x1024 .f32) (x4 : Vec Ideal S1024x2336 .f32) (x5 : Vec Ideal S1x512 .f32) (x6 : Vec Ideal S1x256 .f32)

/-- A row of the input and the row's projection. -/
abbrev rRow (p : Fin 2048) : Fin 1024 → EReal :=
  normed (fun q => x0 (ix2 p q)) (fun q => x1 (ix2 0 q)) (fun q => x2 (ix2 0 q)) (fun q => x3 (ix2 0 q))
abbrev rProj (p : Fin 2048) : ℕ → EReal :=
  proj (fun q => x0 (ix2 p q)) (fun q => x1 (ix2 0 q)) (fun q => x2 (ix2 0 q)) (fun q => x3 (ix2 0 q)) (arr x4)

theorem ref17 (p : Fin 2048) (q : Fin 1024) : val_main_v17 (F := Ideal) x0 x1 x2 x3 (ix2 p q) = rRow x0 x1 x2 x3 p q := by
  unfold rRow normed
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2]

theorem ref7 (p : Fin 2048) (q : Fin 1024) : val_main_v26 (F := Ideal) x0 x1 x2 x3 (ix2 p q) = rRow x0 x1 x2 x3 p q := by
  pointwise [val_main_v26]
  exact ref17 x0 x1 x2 x3 p q

theorem ref18 (p : Fin 2048) (q : Fin 2336) (j : ℕ) (h : j = q.val) : val_main_v18 (F := Ideal) x0 x1 x2 x3 x4 (ix2 p q) = rProj x0 x1 x2 x3 x4 p j := by
  subst h
  pointwise [val_main_v18]
  unfold rProj proj
  exact Finset.sum_congr rfl fun k _ => by rw [ref17, arr_ix2 x4 k q _ _ rfl rfl]

theorem ref8 (p : Fin 2048) (q : Fin 2432) : val_main_v25 (F := Ideal) x0 x1 x2 x3 x4 (ix2 p q) = laid (rProj x0 x1 x2 x3 x4 p) q := by
  have z3 : val_main_cst_3 (F := Ideal) ix0 = 0 := by pointwise [val_main_cst_3]
  have z4 : val_main_cst_4 (F := Ideal) ix0 = 0 := by pointwise [val_main_cst_4]
  pointwise [val_main_v25, val_main_v24, val_main_v23, val_main_v22, val_main_v21, val_main_v20, val_main_v19]
  have h : q.val < 2432 := q.2
  unfold laid
  repeat' split
  all_goals first
    | omega
    | assumption
    | exact ref18 x0 x1 x2 x3 x4 p _ _ (by dsimp only <;> omega)

theorem ref9 (p : Fin 2048) (q : Fin 512) : val_main_v39 (F := Ideal) x0 x1 x2 x3 x4 x5 (ix2 p q) =
    latent (fun q : Fin 512 => rProj x0 x1 x2 x3 x4 p q) (Ideal.ofBits .f32 0x44000000#32) (fun q => x5 (ix2 0 q)) q := by
  pointwise [val_main_v39, val_main_v38, val_main_v37, val_main_v36, val_main_v35, val_main_v34, val_main_v33, val_main_v32, val_main_v31,
    val_main_v30, val_main_v29, val_main_v28, val_main_v27, val_main_v19, val_main_cst_7, val_main_cst_6, val_main_cst_5]
  unfold latent
  simp only [fun k : Fin 512 => ref18 x0 x1 x2 x3 x4 p ⟨k.val, by omega⟩ k.val rfl]

theorem ref10 (p : Fin 2048) (q : Fin 256) : val_main_v52 (F := Ideal) x0 x1 x2 x3 x4 x6 (ix2 p q) =
    latent (fun q : Fin 256 => rProj x0 x1 x2 x3 x4 p (512 + q)) (Ideal.ofBits .f32 0x43800000#32) (fun q => x6 (ix2 0 q)) q := by
  pointwise [val_main_v52, val_main_v51, val_main_v50, val_main_v49, val_main_v48, val_main_v47, val_main_v46, val_main_v45, val_main_v44,
    val_main_v43, val_main_v42, val_main_v41, val_main_v40, val_main_v20, val_main_cst_10, val_main_cst_9, val_main_cst_8]
  unfold latent
  simp only [fun k : Fin 256 => ref18 x0 x1 x2 x3 x4 p ⟨512 + k.val, by omega⟩ (512 + k.val) rfl]

end

variable (t : Fin cfg0.N)

theorem out7 (p : Fin 512) (q : Fin 1024) : (outsAt0 m c t).1 (ix2 p q) = hRow (iblk m c 0 t) (iblk m c 1 t) (iblk m c 2 t) (iblk m c 3 t) p q := by
  unfold outsAt0
  dsimp only
  frame_out
  exact pay3 _ _ _ _ p q

theorem out8 (p : Fin 512) (q : Fin 2432) : (outsAt0 m c t).2.1 (ix2 p q) =
    ∑ k, hRow (iblk m c 0 t) (iblk m c 1 t) (iblk m c 2 t) (iblk m c 3 t) p k * iblk m c 4 t (ix2 k q) := by
  unfold outsAt0
  dsimp only
  frame_out
  exact pay4 _ _ _ _ _ p q

theorem out9 (p : Fin 512) (q : Fin 512) : (outsAt0 m c t).2.2.1 (ix2 p q) =
    latent (fun j : Fin 512 => (outsAt0 m c t).2.1 (ix2 p ⟨0 + j.val, by omega⟩)) (Ideal.ofBits .f32 0x44000000#32) (fun q => iblk m c 5 t (ix2 0 q)) q := by
  simp only [out8]
  unfold outsAt0 latent
  dsimp only
  frame_out
  pointwise [k0_pay1, k0_pay7, k0_pay5]
  simp only [fun j : Fin 512 => sub_read (ms0_8 t).view (k0_pay4 (iblk m c 0 t) (iblk m c 1 t) (iblk m c 2 t) (iblk m c 3 t) (iblk m c 4 t)) 0 512
    (off := ![0, 0]) (by decide) inb_S512x2432_S512x2432_0_0 inb_S512x2432_S512x512_0_0 p j (by omega), pay4, zero_add]

theorem out10 (p : Fin 512) (q : Fin 256) : (outsAt0 m c t).2.2.2 (ix2 p q) =
    latent (fun j : Fin 256 => (outsAt0 m c t).2.1 (ix2 p ⟨2048 + j.val, by omega⟩)) (Ideal.ofBits .f32 0x43800000#32) (fun q => iblk m c 6 t (ix2 0 q)) q := by
  simp only [out8]
  unfold outsAt0 latent
  dsimp only
  frame_out
  pointwise [k0_pay2, k0_pay6]
  simp only [fun j : Fin 256 => sub_read (ms0_8 t).view (k0_pay4 (iblk m c 0 t) (iblk m c 1 t) (iblk m c 2 t) (iblk m c 3 t) (iblk m c 4 t)) 2048 256
    (off := ![0, 0]) (by decide) inb_S512x2432_S512x2432_0_0 inb_S512x2432_S512x256_0_2048 p j (by omega), pay4]

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![0, 0] := by decide +kernel
theorem e3 : ∀ t : Fin cfg0.N, win0_3.index t = ![0, 0] := by decide +kernel
theorem e4 : ∀ t : Fin cfg0.N, win0_4.index t = ![0, 0] := by decide +kernel
theorem e5 : ∀ t : Fin cfg0.N, win0_5.index t = ![0, 0] := by decide +kernel
theorem e6 : ∀ t : Fin cfg0.N, win0_6.index t = ![0, 0] := by decide +kernel
theorem e7 : ∀ t : Fin cfg0.N, win0_7.index t = ![t.val, 0] := by decide +kernel
theorem e8 : ∀ t : Fin cfg0.N, win0_8.index t = ![t.val, 0] := by decide +kernel
theorem e9 : ∀ t : Fin cfg0.N, win0_9.index t = ![t.val, 0] := by decide +kernel
theorem e10 : ∀ t : Fin cfg0.N, win0_10.index t = ![t.val, 0] := by decide +kernel

/-- The row of the array that is the block's row. -/
def row (p : Fin 512) : Fin 2048 := ⟨t.val * 512 + p.val, by have h : t.val < 4 := t.2; omega⟩

theorem b0 (p : Fin 512) (q : Fin 1024) : iblk m c 0 t (ix2 p q) = m ((c.tc : Thread nD τ).loc main_arg0) (ix2 (row t p) q) := by
  blk_simp [iblk]
  refine congrArg (m ((c.tc : Thread nD τ).loc main_arg0)) (?_ : (_ : S2048x1024.Idx) = _)
  refine (eq_ix2 _).trans (congrArg₂ ix2 (Fin.ext ?_) (Fin.ext ?_)) <;> blk_simp [e0, row]

theorem b4 (p : Fin 1024) (q : Fin 2432) : iblk m c 4 t (ix2 p q) =
    laid (arr (m ((c.tc : Thread nD τ).loc main_arg4) : S1024x2336.Idx → EReal) p) q := by
  blk_simp [iblk]
  refine Eq.trans ?_ ((congrFun (V9 m c) (ix2 p q)).trans (laidW_at _ p q))
  refine congrArg (V m c main_v9) (?_ : (_ : S1024x2432.Idx) = _)
  refine (eq_ix2 _).trans (congrArg₂ ix2 (Fin.ext ?_) (Fin.ext ?_)) <;> blk_simp [e4]

theorem b1 (p : Fin 1) (q : Fin 1024) : iblk m c 1 t (ix2 p q) = m ((c.tc : Thread nD τ).loc main_arg1) (ix2 p q) := by
  blk_simp [iblk]
  refine congrArg (m ((c.tc : Thread nD τ).loc main_arg1)) (?_ : (_ : S1x1024.Idx) = _)
  refine (eq_ix2 _).trans (congrArg₂ ix2 (Fin.ext ?_) (Fin.ext ?_)) <;> blk_simp [e1]

theorem b2 (p : Fin 1) (q : Fin 1024) : iblk m c 2 t (ix2 p q) = m ((c.tc : Thread nD τ).loc main_arg2) (ix2 p q) := by
  blk_simp [iblk]
  refine congrArg (m ((c.tc : Thread nD τ).loc main_arg2)) (?_ : (_ : S1x1024.Idx) = _)
  refine (eq_ix2 _).trans (congrArg₂ ix2 (Fin.ext ?_) (Fin.ext ?_)) <;> blk_simp [e2]

theorem b3 (p : Fin 1) (q : Fin 1024) : iblk m c 3 t (ix2 p q) = m ((c.tc : Thread nD τ).loc main_arg3) (ix2 p q) := by
  blk_simp [iblk]
  refine congrArg (m ((c.tc : Thread nD τ).loc main_arg3)) (?_ : (_ : S1x1024.Idx) = _)
  refine (eq_ix2 _).trans (congrArg₂ ix2 (Fin.ext ?_) (Fin.ext ?_)) <;> blk_simp [e3]

theorem b5 (p : Fin 1) (q : Fin 512) : iblk m c 5 t (ix2 p q) = m ((c.tc : Thread nD τ).loc main_arg5) (ix2 p q) := by
  blk_simp [iblk]
  refine congrArg (m ((c.tc : Thread nD τ).loc main_arg5)) (?_ : (_ : S1x512.Idx) = _)
  refine (eq_ix2 _).trans (congrArg₂ ix2 (Fin.ext ?_) (Fin.ext ?_)) <;> blk_simp [e5]

theorem b6 (p : Fin 1) (q : Fin 256) : iblk m c 6 t (ix2 p q) = m ((c.tc : Thread nD τ).loc main_arg6) (ix2 p q) := by
  blk_simp [iblk]
  refine congrArg (m ((c.tc : Thread nD τ).loc main_arg6)) (?_ : (_ : S1x256.Idx) = _)
  refine (eq_ix2 _).trans (congrArg₂ ix2 (Fin.ext ?_) (Fin.ext ?_)) <;> blk_simp [e6]

/-- The arguments. -/
abbrev A0 : Vec Ideal S2048x1024 .f32 := m ((c.tc : Thread nD τ).loc main_arg0)
abbrev A1 : Vec Ideal S1x1024 .f32 := m ((c.tc : Thread nD τ).loc main_arg1)
abbrev A2 : Vec Ideal S1x1024 .f32 := m ((c.tc : Thread nD τ).loc main_arg2)
abbrev A3 : Vec Ideal S1x1024 .f32 := m ((c.tc : Thread nD τ).loc main_arg3)
abbrev A4 : Vec Ideal S1024x2336 .f32 := m ((c.tc : Thread nD τ).loc main_arg4)
abbrev A5 : Vec Ideal S1x512 .f32 := m ((c.tc : Thread nD τ).loc main_arg5)
abbrev A6 : Vec Ideal S1x256 .f32 := m ((c.tc : Thread nD τ).loc main_arg6)

theorem hRow_eq (p : Fin 512) : hRow (iblk m c 0 t) (iblk m c 1 t) (iblk m c 2 t) (iblk m c 3 t) p =
    rRow (A0 m c) (A1 m c) (A2 m c) (A3 m c) (row t p) := by
  unfold hRow rRow
  simp only [b0 m c t p, b1, b2, b3]

theorem proj_eq (p : Fin 512) (q : Fin 2432) : (outsAt0 m c t).2.1 (ix2 p q) =
    laid (rProj (A0 m c) (A1 m c) (A2 m c) (A3 m c) (A4 m c) (row t p)) q := by
  rw [out8, hRow_eq]
  simp only [b4]
  exact laid_proj _ _ _ _ _ _

theorem array7 : (dats m 0 c).arrAt 7 cfg0.N = val_main_v26 (F := Ideal) (A0 m c) (A1 m c) (A2 m c) (A3 m c) := by
  refine (dats m 0 c).arrAt_eq_of_covers 7 _ (by decide +kernel) fun t hf y => ?_
  blk_simp [e7]
  rw [after0_7]
  refine (congrArg _ (eq_ix2 y)).trans ((out7 m c t (y 0) (y 1)).trans (Eq.trans (congrFun (hRow_eq m c t (y 0)) (y 1))
    ((congrArg _ (?_ : (_ : S2048x1024.Idx) = ix2 (row t (y 0)) (y 1))).trans (ref7 _ _ _ _ (row t (y 0)) (y 1))).symm))
  refine (eq_ix2 _).trans (congrArg₂ ix2 (Fin.ext ?_) (Fin.ext ?_)) <;> blk_simp [e7, row]

theorem array8 : (dats m 0 c).arrAt 8 cfg0.N = val_main_v25 (F := Ideal) (A0 m c) (A1 m c) (A2 m c) (A3 m c) (A4 m c) := by
  refine (dats m 0 c).arrAt_eq_of_covers 8 _ (by decide +kernel) fun t hf y => ?_
  blk_simp [e8]
  rw [after0_8]
  refine (congrArg _ (eq_ix2 y)).trans ((proj_eq m c t (y 0) (y 1)).trans
    ((congrArg _ (?_ : (_ : S2048x2432.Idx) = ix2 (row t (y 0)) (y 1))).trans (ref8 _ _ _ _ _ (row t (y 0)) (y 1))).symm)
  refine (eq_ix2 _).trans (congrArg₂ ix2 (Fin.ext ?_) (Fin.ext ?_)) <;> blk_simp [e8, row]

theorem latQ (p q : Fin 512) : (outsAt0 m c t).2.2.1 (ix2 p q) =
    latent (fun j : Fin 512 => rProj (A0 m c) (A1 m c) (A2 m c) (A3 m c) (A4 m c) (row t p) j) (Ideal.ofBits .f32 0x44000000#32)
      (fun q => A5 m c (ix2 0 q)) q := by
  rw [out9]
  simp only [proj_eq, b5, zero_add]
  have e : ∀ f : ℕ → EReal, (fun j : Fin 512 => laid f j) = fun j : Fin 512 => f j := fun f => funext fun j => if_pos j.isLt
  rw [e]

theorem latKV (p : Fin 512) (q : Fin 256) : (outsAt0 m c t).2.2.2 (ix2 p q) =
    latent (fun j : Fin 256 => rProj (A0 m c) (A1 m c) (A2 m c) (A3 m c) (A4 m c) (row t p) (512 + j)) (Ideal.ofBits .f32 0x43800000#32)
      (fun q => A6 m c (ix2 0 q)) q := by
  rw [out10]
  simp only [proj_eq, b6]
  have e : ∀ f : ℕ → EReal, (fun j : Fin 256 => laid f (2048 + j)) = fun j : Fin 256 => f (512 + j) := fun f => funext fun j => by
    have h : j.val < 256 := j.isLt
    rw [laid, if_neg (by omega), if_neg (by omega), if_pos (by omega)]
    congr 1
    omega
  rw [e]

theorem array9 : (dats m 0 c).arrAt 9 cfg0.N = val_main_v39 (F := Ideal) (A0 m c) (A1 m c) (A2 m c) (A3 m c) (A4 m c) (A5 m c) := by
  refine (dats m 0 c).arrAt_eq_of_covers 9 _ (by decide +kernel) fun t hf y => ?_
  blk_simp [e9]
  rw [after0_9]
  refine (congrArg _ (eq_ix2 y)).trans ((latQ m c t (y 0) (y 1)).trans
    ((congrArg _ (?_ : (_ : S2048x512.Idx) = ix2 (row t (y 0)) (y 1))).trans (ref9 _ _ _ _ _ _ (row t (y 0)) (y 1))).symm)
  refine (eq_ix2 _).trans (congrArg₂ ix2 (Fin.ext ?_) (Fin.ext ?_)) <;> blk_simp [e9, row]

theorem array10 : (dats m 0 c).arrAt 10 cfg0.N = val_main_v52 (F := Ideal) (A0 m c) (A1 m c) (A2 m c) (A3 m c) (A4 m c) (A6 m c) := by
  refine (dats m 0 c).arrAt_eq_of_covers 10 _ (by decide +kernel) fun t hf y => ?_
  blk_simp [e10]
  rw [after0_10]
  refine (congrArg _ (eq_ix2 y)).trans ((latKV m c t (y 0) (y 1)).trans
    ((congrArg _ (?_ : (_ : S2048x256.Idx) = ix2 (row t (y 0)) (y 1))).trans (ref10 _ _ _ _ _ _ (row t (y 0)) (y 1))).symm)
  refine (eq_ix2 _).trans (congrArg₂ ix2 (Fin.ext ?_) (Fin.ext ?_)) <;> blk_simp [e10, row]

end Cert.InProj

end
-- ==== Proof.OResid.lean ====
/- The output projection, the residual and the second modulated norm. -/
module

public import proofs.«01_k».proof.Proof.Gen.Kernel10Ideal.Value
public import proofs.«01_k».proof.Proof.Gen.Reference10Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.OResid

open Cert.Kernel10Ideal Cert.Kernel10Ideal.Gen Cert.Reference10Ideal.Read Idealize.ShloMosaic Idealize.ShloMosaic.TcCoe Idealize.SL.Sem
open Idealize.ShloMosaic.Pipeline (Dat)

variable (m : (ℓ : Loc nD τ sig) → Buf (Elt Ideal) ℓ) (c : Dev nD)

/-- The mixed row: a row of the heads' outputs times the projection. -/
def mixed (a : Fin 1024 → EReal) (w : Fin 1024 → Fin 1024 → EReal) (q : Fin 1024) : EReal := ∑ k, a k * w k q

/-- The row after the gated residual. -/
def added (a : Fin 1024 → EReal) (w : Fin 1024 → Fin 1024 → EReal) (x g : Fin 1024 → EReal) (q : Fin 1024) : EReal :=
  x q + g q * mixed a w q

/-- A row divided by its root mean square, with gain, scale and shift. -/
def normed (x g s b : Fin 1024 → EReal) (q : Fin 1024) : EReal :=
  x q * Ideal.rsqrt (Ideal.div (∑ k, x k * x k) (Ideal.ofBits .f32 0x44800000#32) + Ideal.ofBits .f32 0x358637BD#32) * g q * (1 + s q) + b q

section
variable (x0 : Vec Ideal S512x1024 .bf16) (x1 : Vec Ideal S1024x1024 .bf16) (x2 : Vec Ideal S512x1024 .f32) (x3 x4 x5 x6 : Vec Ideal S1x1024 .f32)
    (p : Fin 512) (q : Fin 1024)

theorem block7 : out0_7 x0 x1 x2 x3 x4 x5 x6 (ix2 p q) = mixed (fun k => x0 (ix2 p k)) (fun k q => x1 (ix2 k q)) q := by
  unfold out0_7 mixed
  frame_out
  pointwise [k0_pay1]

theorem block8 : out0_8 x0 x1 x2 x3 x4 x5 x6 (ix2 p q) =
    added (fun k => x0 (ix2 p k)) (fun k q => x1 (ix2 k q)) (fun q => x2 (ix2 p q)) (fun q => x3 (ix2 0 q)) q := by
  unfold out0_8 added mixed
  frame_out
  pointwise [k0_pay1, k0_pay2]

theorem block9 : out0_9 x0 x1 x2 x3 x4 x5 x6 (ix2 p q) =
    normed (added (fun k => x0 (ix2 p k)) (fun k q => x1 (ix2 k q)) (fun q => x2 (ix2 p q)) (fun q => x3 (ix2 0 q)))
      (fun q => x4 (ix2 0 q)) (fun q => x5 (ix2 0 q)) (fun q => x6 (ix2 0 q)) q := by
  unfold out0_9 normed added mixed
  frame_out
  pointwise [k0_pay1, k0_pay2, k0_pay3]

end

section
variable (x0 : Vec Ideal S2048x1024 .bf16) (x1 : Vec Ideal S1024x1024 .f32) (x2 : Vec Ideal S2048x1024 .f32) (x3 x4 x5 x6 : Vec Ideal S1x1024 .f32)
    (p : Fin 2048) (q : Fin 1024)

theorem ref7 : val_main_v1 x0 x1 (ix2 p q) = mixed (fun k => x0 (ix2 p k)) (fun k q => x1 (ix2 k q)) q := by
  unfold mixed
  pointwise [val_main_v1, val_main_v0]

theorem ref8 : val_main_v4 x0 x1 x2 x3 (ix2 p q) =
    added (fun k => x0 (ix2 p k)) (fun k q => x1 (ix2 k q)) (fun q => x2 (ix2 p q)) (fun q => x3 (ix2 0 q)) q := by
  unfold added mixed
  pointwise [val_main_v4, val_main_v3, val_main_v2, val_main_v1, val_main_v0]

theorem ref9 : val_main_v23 x0 x1 x2 x3 x4 x5 x6 (ix2 p q) =
    normed (added (fun k => x0 (ix2 p k)) (fun k q => x1 (ix2 k q)) (fun q => x2 (ix2 p q)) (fun q => x3 (ix2 0 q)))
      (fun q => x4 (ix2 0 q)) (fun q => x5 (ix2 0 q)) (fun q => x6 (ix2 0 q)) q := by
  unfold normed added mixed
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]

end

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![0, 0] := by decide +kernel
theorem e4 : ∀ t : Fin cfg0.N, win0_4.index t = ![0, 0] := by decide +kernel
theorem e5 : ∀ t : Fin cfg0.N, win0_5.index t = ![0, 0] := by decide +kernel
theorem e6 : ∀ t : Fin cfg0.N, win0_6.index t = ![0, 0] := by decide +kernel
theorem e7 : ∀ t : Fin cfg0.N, win0_7.index t = ![t.val, 0] := by decide +kernel
theorem e8 : ∀ t : Fin cfg0.N, win0_8.index t = ![t.val, 0] := by decide +kernel
theorem e9 : ∀ t : Fin cfg0.N, win0_9.index t = ![t.val, 0] := by decide +kernel

variable (t : Fin cfg0.N)

/-- The row of the whole array that is row `p` of block `t`. -/
def row (p : Fin 512) : Fin 2048 := ⟨t.val * 512 + p.val, by have h : t.val < 4 := t.2; omega⟩

theorem b0 (p : Fin 512) (q : Fin 1024) : iblk m c 0 t (ix2 p q) = m ((c.tc : Thread nD τ).loc main_arg0) (ix2 (row t p) q) := by
  blk_simp [iblk]
  refine congrArg (m ((c.tc : Thread nD τ).loc main_arg0)) (?_ : (_ : S2048x1024.Idx) = _)
  refine (eq_ix2 _).trans (congrArg₂ ix2 (Fin.ext ?_) (Fin.ext ?_)) <;> blk_simp [e0, row]
theorem b2 (p : Fin 512) (q : Fin 1024) : iblk m c 2 t (ix2 p q) = m ((c.tc : Thread nD τ).loc main_arg2) (ix2 (row t p) q) := by
  blk_simp [iblk]
  refine congrArg (m ((c.tc : Thread nD τ).loc main_arg2)) (?_ : (_ : S2048x1024.Idx) = _)
  refine (eq_ix2 _).trans (congrArg₂ ix2 (Fin.ext ?_) (Fin.ext ?_)) <;> blk_simp [e2, row]
theorem b1 (p : Fin 1024) (q : Fin 1024) : iblk m c 1 t (ix2 p q) = m ((c.tc : Thread nD τ).loc main_arg1) (ix2 p q) := by
  blk_simp [iblk]
  refine congrArg (m ((c.tc : Thread nD τ).loc main_arg1)) (?_ : (_ : S1024x1024.Idx) = _)
  refine (eq_ix2 _).trans (congrArg₂ ix2 (Fin.ext ?_) (Fin.ext ?_)) <;> blk_simp [e1]
theorem b3 (q : Fin 1024) : iblk m c 3 t (ix2 0 q) = m ((c.tc : Thread nD τ).loc main_arg3) (ix2 0 q) := by
  blk_simp [iblk]
  refine congrArg (m ((c.tc : Thread nD τ).loc main_arg3)) (?_ : (_ : S1x1024.Idx) = _)
  refine (eq_ix2 _).trans (congrArg₂ ix2 (Fin.ext ?_) (Fin.ext ?_)) <;> blk_simp [e3]
theorem b4 (q : Fin 1024) : iblk m c 4 t (ix2 0 q) = m ((c.tc : Thread nD τ).loc main_arg4) (ix2 0 q) := by
  blk_simp [iblk]
  refine congrArg (m ((c.tc : Thread nD τ).loc main_arg4)) (?_ : (_ : S1x1024.Idx) = _)
  refine (eq_ix2 _).trans (congrArg₂ ix2 (Fin.ext ?_) (Fin.ext ?_)) <;> blk_simp [e4]
theorem b5 (q : Fin 1024) : iblk m c 5 t (ix2 0 q) = m ((c.tc : Thread nD τ).loc main_arg5) (ix2 0 q) := by
  blk_simp [iblk]
  refine congrArg (m ((c.tc : Thread nD τ).loc main_arg5)) (?_ : (_ : S1x1024.Idx) = _)
  refine (eq_ix2 _).trans (congrArg₂ ix2 (Fin.ext ?_) (Fin.ext ?_)) <;> blk_simp [e5]
theorem b6 (q : Fin 1024) : iblk m c 6 t (ix2 0 q) = m ((c.tc : Thread nD τ).loc main_arg6) (ix2 0 q) := by
  blk_simp [iblk]
  refine congrArg (m ((c.tc : Thread nD τ).loc main_arg6)) (?_ : (_ : S1x1024.Idx) = _)
  refine (eq_ix2 _).trans (congrArg₂ ix2 (Fin.ext ?_) (Fin.ext ?_)) <;> blk_simp [e6]

/-- The projected heads. -/
theorem array7 : (dats m 0 c).arrAt 7 cfg0.N = val_main_v1 (F := Ideal)
    (m ((c.tc : Thread nD τ).loc main_arg0)) (m ((c.tc : Thread nD τ).loc main_arg1)) := by
  refine (dats m 0 c).arrAt_eq_of_covers 7 _ (by decide +kernel) fun t hf y => ?_
  blk_simp [e7]
  rw [after0_7]
  refine (congrArg _ (eq_ix2 y)).trans ((block7 _ _ _ _ _ _ _ (y 0) (y 1)).trans (Eq.trans ?_
    ((congrArg _ (?_ : (_ : S2048x1024.Idx) = ix2 (row t (y 0)) (y 1))).trans (ref7 _ _ (row t (y 0)) (y 1))).symm))
  · simp only [b0 m c t (y 0), b1]
  · refine (eq_ix2 _).trans (congrArg₂ ix2 (Fin.ext ?_) (Fin.ext ?_)) <;> blk_simp [e7, row]

theorem array8 : (dats m 0 c).arrAt 8 cfg0.N = val_main_v4 (F := Ideal)
    (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 8 _ (by decide +kernel) fun t hf y => ?_
  blk_simp [e8]
  rw [after0_8]
  refine (congrArg _ (eq_ix2 y)).trans ((block8 _ _ _ _ _ _ _ (y 0) (y 1)).trans (Eq.trans ?_
    ((congrArg _ (?_ : (_ : S2048x1024.Idx) = ix2 (row t (y 0)) (y 1))).trans (ref8 _ _ _ _ (row t (y 0)) (y 1))).symm))
  · simp only [b0 m c t (y 0), b1, b2 m c t (y 0), b3]
  · refine (eq_ix2 _).trans (congrArg₂ ix2 (Fin.ext ?_) (Fin.ext ?_)) <;> blk_simp [e8, row]

theorem array9 : (dats m 0 c).arrAt 9 cfg0.N = val_main_v23 (F := Ideal)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) := by
  refine (dats m 0 c).arrAt_eq_of_covers 9 _ (by decide +kernel) fun t hf y => ?_
  blk_simp [e9]
  rw [after0_9]
  refine (congrArg _ (eq_ix2 y)).trans ((block9 _ _ _ _ _ _ _ (y 0) (y 1)).trans (Eq.trans ?_
    ((congrArg _ (?_ : (_ : S2048x1024.Idx) = ix2 (row t (y 0)) (y 1))).trans (ref9 _ _ _ _ _ _ _ (row t (y 0)) (y 1))).symm))
  · simp only [b0 m c t (y 0), b1, b2 m c t (y 0), b3, b4, b5, b6]
  · refine (eq_ix2 _).trans (congrArg₂ ix2 (Fin.ext ?_) (Fin.ext ?_)) <;> blk_simp [e9, row]

end Cert.OResid

end
-- ==== Proof.Sigmoid.lean ====
/- The two spellings of the logistic function agree at every extended real. -/
module

public import proofs.«01_k».proof.Proof.GateMath

@[expose] public section

noncomputable section

namespace Cert.Sigmoid

open Idealize.ShloMosaic Cert.GateValue

/-- Half a hyperbolic tangent and a half is one over one plus an exponential, at the infinities too. -/
theorem sgm_eq (x : EReal) : sgm x = Ideal.div 1 (1 + Ideal.exp (-x)) := by
  have e : Ideal.ofBits .f32 0x3F000000#32 = ((1 / 2 : ℝ) : EReal) := by
    simp [Ideal.ofBits, Ideal.ieee, -EReal.coe_mul]; norm_num
  induction x with
  | bot =>
    rw [sgm, e, EReal.coe_mul_bot_of_pos (by norm_num), Ideal.tanh_bot, EReal.neg_bot, Ideal.exp_top,
      EReal.add_top_of_ne_bot (show (1 : EReal) ≠ ⊥ from EReal.coe_ne_bot 1), Ideal.div, if_neg (by simp), EReal.inv_top, mul_zero,
      ← EReal.coe_one, ← EReal.coe_neg, ← EReal.coe_mul, ← EReal.coe_add, ← EReal.coe_zero]
    norm_num
  | top =>
    rw [sgm, e, EReal.coe_mul_top_of_pos (by norm_num), Ideal.tanh_top, EReal.neg_top, Ideal.exp_bot, add_zero,
      ← EReal.coe_one, Ideal.div_coe one_ne_zero, ← EReal.coe_mul, ← EReal.coe_mul, ← EReal.coe_add]
    norm_num
  | coe x => rw [sgm_coe, div_exp_coe]

end Cert.Sigmoid

end
-- ==== Proof.ConvGate.lean ====
/- The causal convolution over three rows and the gate, forward. -/
module

public import proofs.«01_k».proof.Proof.Gen.Kernel11Ideal.Value
public import proofs.«01_k».proof.Proof.Gen.Reference11Ideal.Read
public import proofs.«01_k».proof.Proof.GateBlock
public import proofs.«01_k».proof.Proof.GatePoint
public import proofs.«01_k».proof.Proof.Sigmoid
public import Idealize.ShloMosaic.Lib.Pipeline.ReadBack
public import Idealize.ShloMosaic.Lib.Pipeline.ValueKit
public import Idealize.ShloMosaic.Lib.Pointwise

@[expose] public section

set_option maxRecDepth 16384

noncomputable section

namespace Cert.ConvGate

open Cert.Kernel11Ideal Cert.Kernel11Ideal.Gen Cert.Reference11Ideal.Read Idealize.ShloMosaic Idealize.ShloMosaic.TcCoe Idealize.SL.Sem
open Idealize.ShloMosaic.Pipeline (Dat)
open Cert.GateValue (sgm conv Arr arr arr_ix2 arr_at padded select_eq Rows Halo Row B256 B8 B3 B1)

/-- The gated value at a row and a column. -/
def gated (G V wg wv : Arr) (bg bv : ℕ → EReal) (r q : ℕ) : EReal :=
  conv G wg bg r q * sgm (conv G wg bg r q) * conv V wv bv r q

variable {G V wg wv : Arr} {bg bv : ℕ → EReal} {x v : B256} {h k : B8} {w u : B3} {b c : B1} (i : grid0.Coords)

/-- The factor is one but at the first block of rows. -/
theorem pay2 : k0_pay2 (F := Ideal) i = if (i 0).val = 0 then 0 else 1 := by
  pointwise [k0_pay2]
  have hi : (i 0).val < 8 := (i 0).isLt
  generalize (i 0).val = k at hi
  interval_cases k <;> simp <;> decide

/-- The gate's input one row earlier. -/
theorem pay4 (hx : Rows x G 2) (hh : Halo h (k0_pay2 (F := Ideal) i) G) : Rows (k0_pay4 (F := Ideal) i x h) G 1 := by
  intro p q
  pointwise [k0_pay4, k0_pay3]
  rw [select_eq _ _ (by omega) (by omega), (hh q).2, hx]
  split
  · rename_i e; rw [e]
  · congr 1; dsimp only; omega

/-- The bias and the first tap, which reads two rows earlier. -/
theorem pay5 (hx : Rows x G 2) (hh : Halo h (k0_pay2 (F := Ideal) i) G) (hw : Rows w wg 0) (hb : Row b bg) :
    Rows (k0_pay5 (F := Ideal) i x h w b) (fun r q => bg q + G r q * wg 0 q) 0 := by
  intro p q
  pointwise [k0_pay5, k0_pay3]
  rw [select_eq _ _ (by omega) (by omega), select_eq _ _ (by omega) (by omega), (hh q).2, (hh q).1, hx, hw, hb]
  congr 2
  split
  · rename_i e; rw [e]
  split
  · rename_i e; rw [e]
  · congr 1; dsimp only; omega

/-- The value's input one row earlier. -/
theorem pay9 (hx : Rows x G 2) (hh : Halo h (k0_pay2 (F := Ideal) i) G) :
    Rows (k0_pay9 (F := Ideal) (k0_pay2 (F := Ideal) i) x h) G 1 := by
  intro p q
  pointwise [k0_pay9, k0_pay8]
  rw [select_eq _ _ (by omega) (by omega), (hh q).2, hx]
  split
  · rename_i e; rw [e]
  · congr 1; dsimp only; omega

/-- The value's bias and first tap. -/
theorem pay10 (hx : Rows x G 2) (hh : Halo h (k0_pay2 (F := Ideal) i) G) (hw : Rows w wg 0) (hb : Row b bg) :
    Rows (k0_pay10 (F := Ideal) (k0_pay2 (F := Ideal) i) x h w b) (fun r q => bg q + G r q * wg 0 q) 0 := by
  intro p q
  pointwise [k0_pay10, k0_pay8]
  rw [select_eq _ _ (by omega) (by omega), select_eq _ _ (by omega) (by omega), (hh q).2, (hh q).1, hx, hw, hb]
  congr 2
  split
  · rename_i e; rw [e]
  split
  · rename_i e; rw [e]
  · congr 1; dsimp only; omega

/-- The gate's convolution. -/
theorem pay7 (hx : Rows x G 2) (hh : Halo h (k0_pay2 (F := Ideal) i) G) (hw : Rows w wg 0) (hb : Row b bg) :
    Rows (k0_pay7 (F := Ideal) x w (k0_pay4 i x h) (k0_pay5 i x h w b) (k0_pay6 w)) (conv G wg bg) 0 := by
  intro p q
  pointwise [k0_pay7, k0_pay6]
  rw [pay4 i hx hh p q, pay5 i hx hh hw hb p q, hx, hw, hw]
  rfl

/-- The block's output. -/
theorem block8 (hx : Rows x G 2) (hh : Halo h (k0_pay2 (F := Ideal) i) G) (hw : Rows w wg 0) (hb : Row b bg)
    (hv : Rows v V 2) (hk : Halo k (k0_pay2 (F := Ideal) i) V) (hu : Rows u wv 0) (hc : Row c bv) (p : Fin 256) (q : Fin 1408) :
    out0_8 i x v h k w u b c (ix2 p q) = gated G V wg wv bg bv p.val q.val := by
  unfold out0_8
  frame_out
  pointwise [k0_pay1, k0_pay11]
  rw [pay7 i hx hh hw hb p q, pay9 i hv hk p q, pay10 i hv hk hu hc p q, hv, hu, hu]
  rfl

section
variable (x0 : Vec Ideal S2048x5632 .f32) (x1 : Vec Ideal S3x5632 .f32) (x2 : Vec Ideal S1x5632 .f32)

/-- The convolution of the whole input. -/
abbrev whole : Arr := conv (padded (arr x0)) (arr x1) (fun q => arr x2 0 q)

theorem v3_at (r : Fin 2050) (q : Fin 5632) : val_main_v3 (F := Ideal) x0 (ix3 0 r q) = padded (arr x0) r q := by
  pointwise [val_main_v3, val_main_v2, val_main_cst, val_main_v0]
  simp only [padded]
  split
  · rfl
  · exact (arr_ix2 _ _ _ _ _ rfl rfl).symm

theorem v26_at (r : Fin 2048) (q : Fin 5632) : val_main_v26 (F := Ideal) x0 x1 x2 (ix3 0 r q) = whole x0 x1 x2 r q := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_v5, val_main_v4, val_main_v1]
  simp only [v3_at, whole, conv, arr_ix2 x2 0 q 0 q rfl rfl, arr_ix2 x1 0 q 0 q rfl rfl, arr_ix2 x1 1 q 1 q rfl rfl,
    arr_ix2 x1 2 q 2 q rfl rfl, Nat.add_comm 1, Nat.add_comm 2]

theorem ref (r : Fin 2048) (q : Fin 2816) : val_main_v32 (F := Ideal) x0 x1 x2 (ix2 r q) =
    whole x0 x1 x2 r q * sgm (whole x0 x1 x2 r q) * whole x0 x1 x2 r (q + 2816) := by
  pointwise [val_main_v32, val_main_v31, val_main_v30, val_main_v29, val_main_v28, val_main_v27, val_main_call0_v5, val_main_call0_v4,
    val_main_call0_v3, val_main_call0_v2, val_main_call0_v1, val_main_call0_v0, val_main_call0_cst, val_main_call0_cst_0]
  simp only [v26_at, Sigmoid.sgm_eq, Nat.add_comm 2816]

end

section
variable (m : (ℓ : Loc nD τ sig) → Buf (Elt Ideal) ℓ) (c : Dev nD) (t : Fin cfg0.N)

theorem coord0 : ∀ t : Fin cfg0.N, ((grid0.coords t) 0).val = t.val / 2 := by decide +kernel

theorem e0 : ∀ t : Fin cfg0.N, win0_0.index t = ![t.val / 2, t.val % 2] := by decide +kernel
theorem e1 : ∀ t : Fin cfg0.N, win0_1.index t = ![t.val / 2, t.val % 2 + 2] := by decide +kernel
theorem e2 : ∀ t : Fin cfg0.N, win0_2.index t = ![32 * (t.val / 2) - 1, t.val % 2] := by decide +kernel
theorem e3 : ∀ t : Fin cfg0.N, win0_3.index t = ![32 * (t.val / 2) - 1, t.val % 2 + 2] := by decide +kernel
theorem e4 : ∀ t : Fin cfg0.N, win0_4.index t = ![0, t.val % 2] := by decide +kernel
theorem e5 : ∀ t : Fin cfg0.N, win0_5.index t = ![0, t.val % 2 + 2] := by decide +kernel
theorem e6 : ∀ t : Fin cfg0.N, win0_6.index t = ![0, t.val % 2] := by decide +kernel
theorem e7 : ∀ t : Fin cfg0.N, win0_7.index t = ![0, t.val % 2 + 2] := by decide +kernel
theorem e8 : ∀ t : Fin cfg0.N, win0_8.index t = ![t.val / 2, t.val % 2] := by decide +kernel

/-- The arguments by row and column. -/
def aUp : Arr := arr (m ((c.tc : Thread nD τ).loc main_arg0))
def aW : Arr := arr (m ((c.tc : Thread nD τ).loc main_arg1))
def aB : Arr := arr (m ((c.tc : Thread nD τ).loc main_arg2))

theorem b0 (p : Fin 256) (q : Fin 1408) : iblk m c 0 t (ix2 p q) = aUp m c (256 * (t.val / 2) + p.val) (1408 * (t.val % 2) + q.val) := by
  blk_simp [iblk]
  rw [arr_at (V m c main_arg0)]
  unfold aUp
  congr 1 <;> blk_simp [e0] <;> omega

theorem b1 (p : Fin 256) (q : Fin 1408) : iblk m c 1 t (ix2 p q) = aUp m c (256 * (t.val / 2) + p.val) (1408 * (t.val % 2) + q.val + 2816) := by
  blk_simp [iblk]
  rw [arr_at (V m c main_arg0)]
  unfold aUp
  congr 1 <;> blk_simp [e1] <;> omega

theorem b2 (p : Fin 8) (q : Fin 1408) : iblk m c 2 t (ix2 p q) = aUp m c (8 * (32 * (t.val / 2) - 1) + p.val) (1408 * (t.val % 2) + q.val) := by
  blk_simp [iblk]
  rw [arr_at (V m c main_arg0)]
  unfold aUp
  congr 1 <;> blk_simp [e2] <;> omega

theorem b3 (p : Fin 8) (q : Fin 1408) : iblk m c 3 t (ix2 p q) = aUp m c (8 * (32 * (t.val / 2) - 1) + p.val) (1408 * (t.val % 2) + q.val + 2816) := by
  blk_simp [iblk]
  rw [arr_at (V m c main_arg0)]
  unfold aUp
  congr 1 <;> blk_simp [e3] <;> omega

theorem b4 (p : Fin 3) (q : Fin 1408) : iblk m c 4 t (ix2 p q) = aW m c p.val (1408 * (t.val % 2) + q.val) := by
  blk_simp [iblk]
  rw [arr_at (V m c main_arg1)]
  unfold aW
  congr 1 <;> blk_simp [e4] <;> omega

theorem b5 (p : Fin 3) (q : Fin 1408) : iblk m c 5 t (ix2 p q) = aW m c p.val (1408 * (t.val % 2) + q.val + 2816) := by
  blk_simp [iblk]
  rw [arr_at (V m c main_arg1)]
  unfold aW
  congr 1 <;> blk_simp [e5] <;> omega

theorem b6 (q : Fin 1408) : iblk m c 6 t (ix2 0 q) = aB m c 0 (1408 * (t.val % 2) + q.val) := by
  blk_simp [iblk]
  rw [arr_at (V m c main_arg2)]
  unfold aB
  congr 1 <;> blk_simp [e6] <;> omega

theorem b7 (q : Fin 1408) : iblk m c 7 t (ix2 0 q) = aB m c 0 (1408 * (t.val % 2) + q.val + 2816) := by
  blk_simp [iblk]
  rw [arr_at (V m c main_arg2)]
  unfold aB
  congr 1 <;> blk_simp [e7] <;> omega

/-- The padded input as the block sees it, with its columns from `s` on. -/
def seen (s : ℕ) : Arr := fun r q => padded (aUp m c) (256 * (t.val / 2) + r) (1408 * (t.val % 2) + q + s)

theorem rows (s : ℕ) (x : B256) (hx : ∀ (p : Fin 256) (q : Fin 1408), x (ix2 p q) = aUp m c (256 * (t.val / 2) + p.val) (1408 * (t.val % 2) + q.val + s)) :
    Rows x (seen m c t s) 2 := by
  intro p q
  rw [hx, seen, padded, if_neg (by omega)]
  congr 1

theorem halo (s : ℕ) (x : B8)
    (hx : ∀ (p : Fin 8) (q : Fin 1408), x (ix2 p q) = aUp m c (8 * (32 * (t.val / 2) - 1) + p.val) (1408 * (t.val % 2) + q.val + s)) :
    Halo x (k0_pay2 (F := Ideal) (grid0.coords t)) (seen m c t s) := by
  intro q
  rw [pay2, coord0]
  by_cases h : t.val / 2 = 0
  · rw [if_pos h, mul_zero, mul_zero, seen, seen, padded, padded, if_pos (by omega), if_pos (by omega)]
    exact ⟨rfl, rfl⟩
  · rw [if_neg h, mul_one, mul_one, hx, hx, seen, seen, padded, padded, if_neg (by omega), if_neg (by omega)]
    constructor <;> congr 1 <;> simp <;> omega

theorem out (p : Fin 256) (q : Fin 1408) : (dats m 0 c).after 8 t (ix2 p q) =
    whole (m ((c.tc : Thread nD τ).loc main_arg0)) (m ((c.tc : Thread nD τ).loc main_arg1)) (m ((c.tc : Thread nD τ).loc main_arg2))
        (256 * (t.val / 2) + p.val) (1408 * (t.val % 2) + q.val)
      * sgm (whole (m ((c.tc : Thread nD τ).loc main_arg0)) (m ((c.tc : Thread nD τ).loc main_arg1)) (m ((c.tc : Thread nD τ).loc main_arg2))
        (256 * (t.val / 2) + p.val) (1408 * (t.val % 2) + q.val))
      * whole (m ((c.tc : Thread nD τ).loc main_arg0)) (m ((c.tc : Thread nD τ).loc main_arg1)) (m ((c.tc : Thread nD τ).loc main_arg2))
        (256 * (t.val / 2) + p.val) (1408 * (t.val % 2) + q.val + 2816) := by
  rw [after0_8]
  exact block8 (grid0.coords t) (G := seen m c t 0) (V := seen m c t 2816) (wg := fun k q => aW m c k (1408 * (t.val % 2) + q))
    (wv := fun k q => aW m c k (1408 * (t.val % 2) + q + 2816)) (bg := fun q => aB m c 0 (1408 * (t.val % 2) + q))
    (bv := fun q => aB m c 0 (1408 * (t.val % 2) + q + 2816))
    (rows m c t 0 _ (b0 m c t)) (halo m c t 0 _ (b2 m c t)) (b4 m c t) (b6 m c t)
    (rows m c t 2816 _ (b1 m c t)) (halo m c t 2816 _ (b3 m c t)) (b5 m c t) (b7 m c t) p q

theorem array : (dats m 0 c).arrAt 8 cfg0.N =
    val_main_v32 (F := Ideal) (m ((c.tc : Thread nD τ).loc main_arg0)) (m ((c.tc : Thread nD τ).loc main_arg1)) (m ((c.tc : Thread nD τ).loc main_arg2)) := by
  refine (dats m 0 c).arrAt_eq_of_covers 8 _ (by decide +kernel) fun t hf y => ?_
  blk_simp [e8]
  have ht : t.val < 16 := t.2
  have h0 : (y 0).val < 256 := (y 0).2
  have h1 : (y 1).val < 1408 := (y 1).2
  refine (congrArg _ (eq_ix2 y)).trans ((out m c t (y 0) (y 1)).trans
    (((congrArg _ (?_ : (_ : S2048x2816.Idx) = ix2 ⟨256 * (t.val / 2) + (y 0).val, by omega⟩ ⟨1408 * (t.val % 2) + (y 1).val, by omega⟩)).trans
      (ref _ _ _ _ _)).symm))
  refine (eq_ix2 _).trans (congrArg₂ ix2 (Fin.ext ?_) (Fin.ext ?_)) <;> blk_simp [e8] <;> dsimp only <;> omega

end

end Cert.ConvGate

end
-- ==== Proof.NormWidth.lean ====
/- The derivative of a norm over a row of any width, in the two forms. -/
module

public import Idealize.ShloMosaic.Lib.Pointwise

@[expose] public section

noncomputable section

namespace Cert.NormWidth

open Idealize.ShloMosaic

section
variable {n : ℕ} (W : EReal) (x d : Fin n → EReal)

/-- The row's mean square, with the small number; `W` is the row's width. -/
def meanSq : EReal := Ideal.div (∑ k, x k * x k) W + Ideal.ofBits .f32 0x358637BD#32

/-- One over the root of the row's mean square. -/
def rinv : EReal := Ideal.rsqrt (meanSq W x)

/-- The derivative with the factor taken out. -/
def back (q : Fin n) : EReal := rinv W x * (d q - x q * rinv W x * Ideal.div (∑ k, d k * (x k * rinv W x)) W)

/-- What the derivative of the mean square multiplies an entry by. -/
def through : EReal := Ideal.div ((∑ k, x k * d k) * (Ideal.ofBits .f32 0xBF000000#32 * Ideal.div (rinv W x) (meanSq W x))) W

/-- The derivative by the chain rule. -/
def chain (q : Fin n) : EReal := d q * rinv W x + x q * through W x d + through W x d * x q
end

theorem mhalf_eq : Ideal.ofBits .f32 0xBF000000#32 = ((-(1 / 2) : ℝ) : EReal) := by
  simp [Ideal.ofBits, Ideal.ieee, -EReal.coe_mul, -EReal.coe_neg]; norm_num
theorem small_pos : ∃ e : ℝ, 0 < e ∧ Ideal.ofBits .f32 0x358637BD#32 = (e : EReal) := by
  refine ⟨_, ?_, by simp [Ideal.ofBits, Ideal.ieee, -EReal.coe_mul]; rfl⟩
  norm_num

/-- A positive real factor may be taken out of a sum. -/
theorem sum_mul_real {ι : Type*} (s : Finset ι) (f : ι → EReal) (r : ℝ) (hr : 0 ≤ r) : (∑ i ∈ s, f i * (r : EReal)) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- A real multiple added to itself. -/
theorem twice (y : EReal) (c : ℝ) (h : c < 0) : y * (c : EReal) + y * (c : EReal) = -(y * ((-(2 * c) : ℝ) : EReal)) := by
  induction y with
  | bot => rw [EReal.bot_mul_coe_of_neg h, EReal.bot_mul_coe_of_pos (by linarith)]; rfl
  | top => rw [EReal.top_mul_coe_of_neg h, EReal.top_mul_coe_of_pos (by linarith)]; rfl
  | coe y => norm_cast; ring

variable {n : ℕ} (x d : Fin n → EReal) {W : ℝ} (hW : 0 < W)

include hW in
/-- The mean square is a positive real or infinite. -/
theorem meanSq_cases : meanSq W x = ⊤ ∨ ∃ w : ℝ, 0 < w ∧ meanSq W x = (w : EReal) := by
  obtain ⟨e, he, hs⟩ := small_pos
  have h0 : (0 : EReal) ≤ ∑ k, x k * x k := Finset.sum_nonneg fun k _ => by
    rcases le_total 0 (x k) with h | h
    · exact EReal.mul_nonneg h h
    · exact EReal.mul_nonneg_iff.mpr (Or.inr ⟨h, h⟩)
  unfold meanSq
  rw [hs, Ideal.div_coe hW.ne']
  generalize (∑ k, x k * x k) = y at h0
  have hi : 0 < 1 / W := by positivity
  induction y with
  | bot => simp at h0
  | top => left; rw [EReal.top_mul_coe_of_pos hi, EReal.top_add_coe]
  | coe y =>
    right
    have hy : 0 ≤ y := by exact_mod_cast h0
    exact ⟨y * (1 / W) + e, by positivity, by norm_cast⟩

include hW in
/-- The two forms are equal, whatever the row. -/
theorem back_eq (q : Fin n) : back W x d q = chain W x d q := by
  unfold back chain through
  rcases meanSq_cases x hW with h | ⟨w, hw, h⟩
  · have hr : rinv W x = 0 := by rw [rinv, h]; simp
    simp [hr, h, Ideal.div, hW.ne']
  · have hr : rinv W x = (((Real.sqrt w)⁻¹ : ℝ) : EReal) := by
      rw [rinv, h, Ideal.rsqrt_coe, if_neg (not_lt.mpr hw.le), if_neg hw.ne']
    have hp : 0 < (Real.sqrt w)⁻¹ := inv_pos.mpr (Real.sqrt_pos.mpr hw)
    have h2 : (Real.sqrt w)⁻¹ * (Real.sqrt w)⁻¹ = 1 / w := by
      rw [← mul_inv, Real.mul_self_sqrt hw.le, one_div]
    rw [hr, h, mhalf_eq]
    generalize (Real.sqrt w)⁻¹ = ρ at hp h2
    rw [Ideal.div_coe hw.ne', Ideal.div_coe hW.ne', Ideal.div_coe hW.ne']
    have hS : (∑ k, d k * (x k * (ρ : EReal))) = (∑ k, x k * d k) * (ρ : EReal) := by
      rw [← sum_mul_real _ _ _ hp.le]
      exact Finset.sum_congr rfl fun k _ => by rw [← mul_assoc, mul_comm (d k)]
    rw [hS]
    generalize (∑ k, x k * d k) = S
    have hc : -(1 / 2) * (ρ * (1 / w)) * (1 / W) < 0 := by
      have : 0 < ρ * (1 / w) * (1 / W) := by positivity
      nlinarith
    have e1 : x q * (S * ((((-(1 / 2) : ℝ)) : EReal) * ((ρ : EReal) * ((1 / w : ℝ) : EReal))) * ((1 / W : ℝ) : EReal)) =
        x q * S * ((-(1 / 2) * (ρ * (1 / w)) * (1 / W) : ℝ) : EReal) := by
      push_cast; simp only [mul_assoc]
    rw [add_assoc, mul_comm (S * _ * _) (x q), e1, twice _ _ hc, sub_eq_add_neg,
      EReal.left_distrib_of_nonneg_of_ne_top (by exact_mod_cast hp.le) (EReal.coe_ne_top ρ), mul_comm (ρ : EReal) (d q), mul_neg]
    congr 2
    have e2 : (ρ : EReal) * (x q * (ρ : EReal) * (S * (ρ : EReal) * ((1 / W : ℝ) : EReal))) =
        x q * S * ((ρ * ρ * ρ * (1 / W) : ℝ) : EReal) := by
      push_cast; ac_rfl
    rw [e2, h2]
    congr 2
    ring

theorem w512 : Ideal.ofBits .f32 0x44000000#32 = ((512 : ℝ) : EReal) := by
  simp [Ideal.ofBits, Ideal.ieee, -EReal.coe_mul]; norm_num
theorem w256 : Ideal.ofBits .f32 0x43800000#32 = ((256 : ℝ) : EReal) := by
  simp [Ideal.ofBits, Ideal.ieee, -EReal.coe_mul]; norm_num
theorem w1024 : Ideal.ofBits .f32 0x44800000#32 = ((1024 : ℝ) : EReal) := by
  simp [Ideal.ofBits, Ideal.ieee, -EReal.coe_mul]; norm_num

end Cert.NormWidth

end
-- ==== Proof.NormBack.lean ====
/- The derivative of a modulated norm over a row of 1024 entries. -/
module

public import proofs.«01_k».proof.Proof.NormWidth

@[expose] public section

noncomputable section

namespace Cert.NormBack

open Idealize.ShloMosaic

variable (x d : Fin 1024 → EReal)

/-- The row's mean square, with the small number. -/
def meanSq : EReal := Ideal.div (∑ k, x k * x k) (Ideal.ofBits .f32 0x44800000#32) + Ideal.ofBits .f32 0x358637BD#32

/-- One over the root of the row's mean square. -/
def rinv : EReal := Ideal.rsqrt (meanSq x)

/-- The derivative with the factor taken out. -/
def back (q : Fin 1024) : EReal :=
  rinv x * (d q - x q * rinv x * Ideal.div (∑ k, d k * (x k * rinv x)) (Ideal.ofBits .f32 0x44800000#32))

/-- What the derivative of the mean square multiplies an entry by. -/
def through : EReal := Ideal.div ((∑ k, x k * d k) * (Ideal.ofBits .f32 0xBF000000#32 * Ideal.div (rinv x) (meanSq x))) (Ideal.ofBits .f32 0x44800000#32)

/-- The derivative by the chain rule. -/
def chain (q : Fin 1024) : EReal := d q * rinv x + x q * through x d + through x d * x q

/-- The two forms are equal, whatever the row. -/
theorem back_eq (q : Fin 1024) : back x d q = chain x d q := by
  have h := NormWidth.back_eq x d (W := 1024) (by norm_num) q
  rw [← NormWidth.w1024] at h
  exact h

/-- The gradient before the norm's own: the row's gradient times one plus the scale, and that times the gain. -/
def dn (h s : Fin 1024 → EReal) (q : Fin 1024) : EReal := h q * (1 + s q)
def dxn (h g s : Fin 1024 → EReal) (q : Fin 1024) : EReal := dn h s q * g q

end Cert.NormBack

end
-- ==== Proof.Rows.lean ====
/- Eight rows of sums, stored a row at a time. -/
module

public import Idealize.ShloMosaic.Lib.Pipeline.ValueKit
public import Idealize.ShloMosaic.Lib.WritesUnit

@[expose] public section

noncomputable section

namespace Cert.Rows

open Idealize.ShloMosaic Idealize.ShloMosaic.TcCoe Idealize.SL.Sem

/-- One row, and eight. -/
abbrev R1 (n : ℕ) : Shape := ⟨2, ![1, n]⟩
abbrev R8 (n : ℕ) : Shape := ⟨2, ![8, n]⟩

/-- A stored row: what the eight rows hold afterwards. -/
theorem canon_row {n : ℕ} (a : ℕ) (inb : ∀ x, (![a, 0] : Fin 2 → ℕ) x + (R1 n).size x ≤ (R8 n).size x)
    (w : Vec Ideal (R1 n) .f32) (L : List (View.Piece (Elt Ideal) (R8 n) .f32)) (p : Fin 8) (q : Fin n) :
    View.canon ((⟨Rect.unit (s := R8 n) ![a, 0] (R1 n).size inb, w⟩ : View.Piece (Elt Ideal) (R8 n) .f32) :: L) (ix2 p q)
      = if p.val = a then w (ix2 0 q) else View.canon L (ix2 p q) := by
  split
  · rename_i h
    have he : (Rect.unit (s := R8 n) ![a, 0] (R1 n).size inb).emb (ix2 0 q) = ix2 p q := by
      funext x; apply Fin.ext
      fin_cases x
      · show a + 1 * 0 = p.val; omega
      · show 0 + 1 * q.val = q.val; omega
    rw [← he]
    exact View.canon_cons_emb (Rect.unit (s := R8 n) ![a, 0] (R1 n).size inb) w L (ix2 0 q)
  · rename_i h
    refine View.canon_cons_of_not_mem _ L ?_
    intro hm
    obtain ⟨i, hi, he⟩ := (LoadRect.mem_set _).mp hm (0 : Fin 2)
    have hi1 : i < 1 := hi
    have he' : p.val = a + 1 * i := he
    omega

/-- A stored row over what was there before. -/
theorem over_row {n : ℕ} {sig : RefSig} {v : View sig Kind.tc Space.vmem (R8 n) .f32} (f : v.ty.Contents (Elt Ideal)) (a : ℕ)
    (inb : ∀ x, (![a, 0] : Fin 2 → ℕ) x + (R1 n).size x ≤ (R8 n).size x)
    (w : Vec Ideal (R1 n) .f32) (L : List (View.Piece (Elt Ideal) (R8 n) .f32)) (p : Fin 8) (q : Fin n) :
    v.read (Elt Ideal) (v.writes (Elt Ideal) f ((⟨Rect.unit (s := R8 n) ![a, 0] (R1 n).size inb, w⟩ : View.Piece (Elt Ideal) (R8 n) .f32) :: L)) (ix2 p q)
      = if p.val = a then w (ix2 0 q) else v.read (Elt Ideal) (v.writes (Elt Ideal) f L) (ix2 p q) := by
  split
  · rename_i h
    exact View.read_writes_cons_rows_of_mem v f inb w L (ix2 p q) (ix2 0 q) rfl h rfl
  · rename_i h
    exact View.read_writes_cons_rows_of_not_mem (W := 1) v f inb w L (ix2 p q) rfl rfl (by
      show p.val < a ∨ a + 1 ≤ p.val
      omega)

end Cert.Rows

end
-- ==== Proof.MixNorm.lean ====
/- The gradient of the first modulated norm, which ends in the gradient of the layer's input. -/
module

public import proofs.«01_k».proof.Proof.Gen.Kernel12Ideal.Value
public import proofs.«01_k».proof.Proof.Gen.Reference12Ideal.Read
public import proofs.«01_k».proof.Proof.Gather
public import proofs.«01_k».proof.Proof.NormBack
public import proofs.«01_k».proof.Proof.Rows
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MixNorm

open Cert.Kernel12Ideal Cert.Kernel12Ideal.Gen Cert.Reference12Ideal.Read Idealize.ShloMosaic Idealize.ShloMosaic.TcCoe Idealize.SL.Sem
open Idealize.ShloMosaic.Pipeline (Dat)
open Cert.Gather (row)
open Cert.NormBack Cert.Rows

variable (m : (ℓ : Loc nD τ sig) → Buf (Elt Ideal) ℓ) (c : Dev nD)

variable (t : Fin cfg0.N)

/-- The block's rows. -/
abbrev kH (p : Fin 512) (q : Fin 1024) : EReal := (iblk m c 0 t : Vec Ideal S512x1024 .f32) (ix2 p q)
abbrev kX (p : Fin 512) (q : Fin 1024) : EReal := (iblk m c 1 t : Vec Ideal S512x1024 .f32) (ix2 p q)
abbrev kD (p : Fin 512) (q : Fin 1024) : EReal := (iblk m c 2 t : Vec Ideal S512x1024 .f32) (ix2 p q)
abbrev kG (q : Fin 1024) : EReal := (iblk m c 3 t : Vec Ideal S1x1024 .f32) (ix2 0 q)
abbrev kS (q : Fin 1024) : EReal := (iblk m c 4 t : Vec Ideal S1x1024 .f32) (ix2 0 q)

theorem out5 (p : Fin 512) (q : Fin 1024) : (outsAt0 m c t.val t.isLt).1 (ix2 p q) =
    kD m c t p q + back (kX m c t p) (dxn (kH m c t p) (kG m c t) (kS m c t)) q := by
  unfold back rinv meanSq dxn dn
  by_cases h0 : t.val % 4 = 0
  · rw [outsAt0_A m c t h0]
    dsimp only
    frame_out
    pointwise [k0_pay8, k0_pay7, k0_pay6, k0_pay5]
  · rw [outsAt0_B m c t h0]
    dsimp only
    frame_out
    pointwise [k0_pay8, k0_pay7, k0_pay6, k0_pay5]

/-- What the block adds to each of the eight rows of sums. -/
def adds (H X : Fin 1024 → EReal) (G S : Fin 1024 → EReal) (p : Fin 8) (q : Fin 1024) : EReal :=
  if p.val = 0 then H q else if p.val = 1 then H q * (X q * rinv X * G q) else if p.val = 2 then dn H S q * (X q * rinv X) else 0

theorem first6 (h0 : t.val % 4 = 0) (p : Fin 8) (q : Fin 1024) : (outsAt0 m c t.val t.isLt).2 (ix2 p q) =
    0 + ∑ k : Fin 512, adds (kH m c t k) (kX m c t k) (kG m c t) (kS m c t) p q := by
  rw [outsAt0_A m c t h0]
  dsimp only
  frame_open
  simp (disch := decide) only [↓ View.readCov_skip, ↓ View.readCov_cons_toLoadRect, ↓ View.readCov_fill]
  frame_out
  rw [canon_row, canon_row, canon_row]
  unfold adds dn rinv meanSq
  by_cases p2 : p.val = 2
  · simp only [p2, if_true, if_false, OfNat.ofNat_ne_zero, OfNat.ofNat_ne_one]
    obtain rfl : p = 2 := Fin.ext p2
    pointwise [k0_pay3, k0_pay6, k0_pay5, k0_pay7, k0_pay4]
  by_cases p1 : p.val = 1
  · simp only [p1, if_true, if_false, one_ne_zero, OfNat.one_ne_ofNat]
    obtain rfl : p = 1 := Fin.ext p1
    pointwise [k0_pay2, k0_pay6, k0_pay5, k0_pay4]
  by_cases p0 : p.val = 0
  · simp only [p0, if_true, if_false, OfNat.zero_ne_ofNat, zero_ne_one]
    obtain rfl : p = 0 := Fin.ext p0
    pointwise [k0_pay1, k0_pay4]
  · simp only [p0, p1, p2, if_false, Finset.sum_const_zero, add_zero]
    rw [View.canon_unit_zero (by funext x; fin_cases x <;> rfl)]
    pointwise [k0_pay4]

theorem next6 (h0 : ¬ t.val % 4 = 0) (p : Fin 8) (q : Fin 1024) : (outsAt0 m c t.val t.isLt).2 (ix2 p q) =
    (outsAt0 m c (t.val - 1) (by omega)).2 (ix2 p q) + ∑ k : Fin 512, adds (kH m c t k) (kX m c t k) (kG m c t) (kS m c t) p q := by
  rw [outsAt0_B m c t h0]
  dsimp only
  frame_out
  rw [over_row, over_row, over_row]
  unfold adds dn rinv meanSq
  by_cases p2 : p.val = 2
  · simp only [p2, if_true, if_false, OfNat.ofNat_ne_zero, OfNat.ofNat_ne_one]
    obtain rfl : p = 2 := Fin.ext p2
    pointwise [k0_pay3, k0_pay6, k0_pay5, k0_pay7, Memref.IsWhole.read_unread]
  by_cases p1 : p.val = 1
  · simp only [p1, if_true, if_false, one_ne_zero, OfNat.one_ne_ofNat]
    obtain rfl : p = 1 := Fin.ext p1
    pointwise [k0_pay2, k0_pay6, k0_pay5, Memref.IsWhole.read_unread]
  by_cases p0 : p.val = 0
  · simp only [p0, if_true, if_false, OfNat.zero_ne_ofNat, zero_ne_one]
    obtain rfl : p = 0 := Fin.ext p0
    pointwise [k0_pay1, Memref.IsWhole.read_unread]
  · simp only [p0, p1, p2, if_false, Finset.sum_const_zero, add_zero]
    rw [View.writes_nil, Memref.IsWhole.read_unread]

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![0, 0] := by decide +kernel
theorem e4 : ∀ t : Fin cfg0.N, win0_4.index t = ![0, 0] := by decide +kernel
theorem e5 : ∀ t : Fin cfg0.N, win0_5.index t = ![t.val, 0] := by decide +kernel
theorem e6 : ∀ t : Fin cfg0.N, win0_6.index t = ![0, 0] := by decide +kernel

/-- The arguments. -/
abbrev A0 : Vec Ideal S2048x1024 .f32 := m ((c.tc : Thread nD τ).loc main_arg0)
abbrev A1 : Vec Ideal S2048x1024 .f32 := m ((c.tc : Thread nD τ).loc main_arg1)
abbrev A2 : Vec Ideal S2048x1024 .f32 := m ((c.tc : Thread nD τ).loc main_arg2)
abbrev A3 : Vec Ideal S1x1024 .f32 := m ((c.tc : Thread nD τ).loc main_arg3)
abbrev A4 : Vec Ideal S1x1024 .f32 := m ((c.tc : Thread nD τ).loc main_arg4)
theorem b0 (p : Fin 512) (q : Fin 1024) : iblk m c 0 t (ix2 p q) = A0 m c (ix2 (row t.val t.2 p) q) := by
  blk_simp [iblk]
  refine congrArg (A0 m c) (?_ : (_ : S2048x1024.Idx) = _)
  refine (eq_ix2 _).trans (congrArg₂ ix2 (Fin.ext ?_) (Fin.ext ?_)) <;> blk_simp [e0, row]
theorem b1 (p : Fin 512) (q : Fin 1024) : iblk m c 1 t (ix2 p q) = A1 m c (ix2 (row t.val t.2 p) q) := by
  blk_simp [iblk]
  refine congrArg (A1 m c) (?_ : (_ : S2048x1024.Idx) = _)
  refine (eq_ix2 _).trans (congrArg₂ ix2 (Fin.ext ?_) (Fin.ext ?_)) <;> blk_simp [e1, row]
theorem b2 (p : Fin 512) (q : Fin 1024) : iblk m c 2 t (ix2 p q) = A2 m c (ix2 (row t.val t.2 p) q) := by
  blk_simp [iblk]
  refine congrArg (A2 m c) (?_ : (_ : S2048x1024.Idx) = _)
  refine (eq_ix2 _).trans (congrArg₂ ix2 (Fin.ext ?_) (Fin.ext ?_)) <;> blk_simp [e2, row]
theorem b3 (q : Fin 1024) : iblk m c 3 t (ix2 0 q) = A3 m c (ix2 0 q) := by
  blk_simp [iblk]
  refine congrArg (A3 m c) (?_ : (_ : S1x1024.Idx) = _)
  refine (eq_ix2 _).trans (congrArg₂ ix2 (Fin.ext ?_) (Fin.ext ?_)) <;> blk_simp [e3]
theorem b4 (q : Fin 1024) : iblk m c 4 t (ix2 0 q) = A4 m c (ix2 0 q) := by
  blk_simp [iblk]
  refine congrArg (A4 m c) (?_ : (_ : S1x1024.Idx) = _)
  refine (eq_ix2 _).trans (congrArg₂ ix2 (Fin.ext ?_) (Fin.ext ?_)) <;> blk_simp [e4]

section
variable (x0 x1 x2 : Vec Ideal S2048x1024 .f32) (x3 x4 : Vec Ideal S1x1024 .f32)

/-- The arrays' rows. -/
abbrev rH (p : Fin 2048) (q : Fin 1024) : EReal := x0 (ix2 p q)
abbrev rX (p : Fin 2048) (q : Fin 1024) : EReal := x1 (ix2 p q)
abbrev rG (q : Fin 1024) : EReal := x3 (ix2 0 q)

theorem refR (p : Fin 2048) : val_main_v8 x1 (ix2 p 0) = rinv (rX x1 p) := by
  unfold rinv meanSq
  pointwise [val_main_v8, val_main_v7, val_main_v6, val_main_v5, val_main_v4, val_main_v3, val_main_v2, val_main_v1, val_main_cst_0,
    val_main_cst_1, val_main_cst_2]
theorem refM (p : Fin 2048) : val_main_v7 x1 (ix2 p 0) = meanSq (rX x1 p) := by
  unfold meanSq
  pointwise [val_main_v7, val_main_v6, val_main_v5, val_main_v4, val_main_v3, val_main_v2, val_main_v1, val_main_cst_0,
    val_main_cst_1, val_main_cst_2]
theorem refN (p : Fin 2048) (q : Fin 1024) : val_main_v29 x0 x4 (ix2 p q) = dn (rH x0 p) (rG x4) q := by
  unfold dn
  pointwise [val_main_v29, val_main_v28, val_main_v22, val_main_v17, val_main_v16, val_main_cst_4]
theorem refD (p : Fin 2048) (q : Fin 1024) : val_main_v34 x0 x3 x4 (ix2 p q) = dxn (rH x0 p) (rG x3) (rG x4) q := by
  unfold dxn
  rw [← refN]
  pointwise [val_main_v34, val_main_v33]
theorem refT (p : Fin 2048) : val_main_v43 x0 x1 x3 x4 (ix1 p) = through (rX x1 p) (dxn (rH x0 p) (rG x3) (rG x4)) := by
  unfold through
  simp only [← refD, ← refR, ← refM]
  pointwise [val_main_v43, val_main_v42, val_main_v41, val_main_v40, val_main_v37, val_main_v36, val_main_v35, val_main_v11, val_main_v10,
    val_main_v9, val_main_cst_3, val_main_cst_8, val_main_cst_9, val_main_cst_10]
  exact Fin.sum_univ_one _

theorem ref5 (p : Fin 2048) (q : Fin 1024) : val_main_v49 x0 x1 x2 x3 x4 (ix2 p q) =
    x2 (ix2 p q) + chain (rX x1 p) (dxn (rH x0 p) (rG x3) (rG x4)) q := by
  unfold chain
  rw [← refT, ← refD, ← refR]
  pointwise [val_main_v49, val_main_v48, val_main_v47, val_main_v46, val_main_v45, val_main_v44, val_main_v39, val_main_v38]

theorem refSum0 (q : Fin 1024) : val_main_v24 x0 (ix2 0 q) = ∑ p, rH x0 p q := by
  pointwise [val_main_v24, val_main_v23, val_main_cst_5]
theorem refSum1 (q : Fin 1024) : val_main_v27 x0 x1 x3 (ix2 0 q) = ∑ p, rH x0 p q * (rX x1 p q * rinv (rX x1 p) * rG x3 q) := by
  simp only [← refR]
  pointwise [val_main_v27, val_main_v26, val_main_v25, val_main_v22, val_main_v15, val_main_v14, val_main_v13, val_main_v12, val_main_cst_6]
  exact Finset.sum_congr rfl fun _ _ => mul_comm _ _
theorem refSum2 (q : Fin 1024) : val_main_v32 x0 x1 x4 (ix2 0 q) = ∑ p, dn (rH x0 p) (rG x4) q * (rX x1 p q * rinv (rX x1 p)) := by
  simp only [← refR, ← refN]
  pointwise [val_main_v32, val_main_v31, val_main_v30, val_main_v13, val_main_v12, val_main_cst_7]
  exact Finset.sum_congr rfl fun _ _ => mul_comm _ _

theorem ref6 (p : Fin 8) (q : Fin 1024) : val_main_v51 x0 x1 x3 x4 (ix2 p q) =
    ∑ r, adds (rH x0 r) (rX x1 r) (rG x3) (rG x4) p q := by
  unfold adds
  by_cases p0 : p.val = 0
  · simp only [p0, if_true]
    rw [← refSum0]
    obtain rfl : p = 0 := Fin.ext p0
    pointwise [val_main_v51]
  by_cases p1 : p.val = 1
  · simp only [p1, if_true, if_false, one_ne_zero]
    rw [← refSum1]
    obtain rfl : p = 1 := Fin.ext p1
    pointwise [val_main_v51]
  by_cases p2 : p.val = 2
  · simp only [p2, if_true, if_false, OfNat.ofNat_ne_zero, OfNat.ofNat_ne_one]
    rw [← refSum2]
    obtain rfl : p = 2 := Fin.ext p2
    pointwise [val_main_v51]
  · simp only [p0, p1, p2, if_false, Finset.sum_const_zero]
    pointwise [val_main_v51, val_main_v50, val_main_cst_11]
    rw [dif_neg (by omega), dif_neg (by omega), dif_neg (by omega)]
end

theorem kH_eq (p : Fin 512) : kH m c t p = rH (A0 m c) (row t.val t.2 p) := funext fun q => b0 m c t p q
theorem kX_eq (p : Fin 512) : kX m c t p = rX (A1 m c) (row t.val t.2 p) := funext fun q => b1 m c t p q
theorem kG_eq : kG m c t = rG (A3 m c) := funext fun q => b3 m c t q
theorem kS_eq : kS m c t = rG (A4 m c) := funext fun q => b4 m c t q

theorem at5 (p : Fin 512) (q : Fin 1024) : (outsAt0 m c t.val t.isLt).1 (ix2 p q) =
    val_main_v49 (F := Ideal) (A0 m c) (A1 m c) (A2 m c) (A3 m c) (A4 m c) (ix2 (row t.val t.2 p) q) := by
  rw [out5, ref5, back_eq, kH_eq, kX_eq, kG_eq, kS_eq, kD, b2]

/-- The gradient of the layer's input. -/
theorem array5 : (dats m 0 c).arrAt 5 cfg0.N = val_main_v49 (F := Ideal) (A0 m c) (A1 m c) (A2 m c) (A3 m c) (A4 m c) := by
  refine (dats m 0 c).arrAt_eq_of_covers 5 _ (by decide +kernel) fun t hf y => ?_
  blk_simp [e5]
  rw [after0_5]
  refine (congrArg _ (eq_ix2 y)).trans ((at5 m c t (y 0) (y 1)).trans
    (congrArg _ (?_ : (_ : S2048x1024.Idx) = ix2 (row t.val t.2 (y 0)) (y 1))).symm)
  · refine (eq_ix2 _).trans (congrArg₂ ix2 (Fin.ext ?_) (Fin.ext ?_)) <;> blk_simp [e5, row]

theorem sum6 (p : Fin 8) (q : Fin 1024) : (outsAt0 m c 3 (by decide)).2 (ix2 p q) =
    ∑ r, adds (rH (A0 m c) r) (rX (A1 m c) r) (rG (A3 m c)) (rG (A4 m c)) p q :=
  Cert.Gather.gathered (fun r => adds (rH (A0 m c) r) (rX (A1 m c) r) (rG (A3 m c)) (rG (A4 m c)) p q)
    (fun n h => (outsAt0 m c n h).2 (ix2 p q))
    (by
      refine (first6 m c ⟨0, by decide⟩ rfl p q).trans ?_
      simp only [kH_eq, kX_eq, kG_eq, kS_eq])
    (fun n h => by
      refine (next6 m c ⟨n + 1, h⟩ (by dsimp only; omega) p q).trans ?_
      simp only [kH_eq, kX_eq, kG_eq, kS_eq, Nat.add_sub_cancel])

/-- The last point of the grid. -/
theorem last_point (t : Fin cfg0.N) (h : t.val % 4 = 3) : t = ⟨3, by decide⟩ := by
  have : t.val < 4 := t.2
  exact Fin.ext (by dsimp only; omega)

/-- The sums over the rows: the gradients of the shift, the scale and the gain. -/
theorem array6 : (dats m 0 c).arrAt 6 cfg0.N = val_main_v51 (F := Ideal) (A0 m c) (A1 m c) (A3 m c) (A4 m c) := by
  refine (dats m 0 c).arrAt_eq_of_covers 6 _ (by decide +kernel) fun t hf y => ?_
  blk_simp [e6]
  rw [after0_6]
  have hz : ((win0_6.blk t).view.emb y : S8x1024.Idx) = ix2 (y 0) (y 1) := by
    refine (eq_ix2 _).trans (congrArg₂ ix2 (Fin.ext ?_) (Fin.ext ?_)) <;> blk_simp [e6]
  obtain rfl := last_point t ((flush0_6 t).mp hf)
  exact (congrArg _ (eq_ix2 y)).trans ((sum6 m c (y 0) (y 1)).trans ((congrArg _ hz).trans (ref6 _ _ _ _ (y 0) (y 1))).symm)

end Cert.MixNorm

end
-- ==== Proof.FfnNorm.lean ====
/- The gradient of the second modulated norm, and of the gated residual before it. -/
module

public import proofs.«01_k».proof.Proof.Gen.Kernel13Ideal.Value
public import proofs.«01_k».proof.Proof.Gen.Reference13Ideal.Read
public import proofs.«01_k».proof.Proof.Gather
public import proofs.«01_k».proof.Proof.NormBack
public import proofs.«01_k».proof.Proof.Rows
public import Idealize.ShloMosaic.Lib.Pipeline.ReadBack
public import Idealize.ShloMosaic.Lib.Pipeline.ValueKit
public import Idealize.ShloMosaic.Lib.Pointwise

@[expose] public section

set_option maxRecDepth 16384

noncomputable section

namespace Cert.FfnNorm

open Cert.Kernel13Ideal Cert.Kernel13Ideal.Gen Cert.Reference13Ideal.Read Idealize.ShloMosaic Idealize.ShloMosaic.TcCoe Idealize.SL.Sem
open Idealize.ShloMosaic.Pipeline (Dat)
open Cert.Gather (row)
open Cert.NormBack Cert.Rows

variable (m : (ℓ : Loc nD τ sig) → Buf (Elt Ideal) ℓ) (c : Dev nD)

variable (t : Fin cfg0.N)

/-- The block's rows. -/
abbrev kH (p : Fin 512) (q : Fin 1024) : EReal := (iblk m c 0 t : Vec Ideal S512x1024 .f32) (ix2 p q)
abbrev kX (p : Fin 512) (q : Fin 1024) : EReal := (iblk m c 1 t : Vec Ideal S512x1024 .f32) (ix2 p q)
abbrev kY (p : Fin 512) (q : Fin 1024) : EReal := (iblk m c 2 t : Vec Ideal S512x1024 .f32) (ix2 p q)
abbrev kM (p : Fin 512) (q : Fin 1024) : EReal := (iblk m c 3 t : Vec Ideal S512x1024 .f32) (ix2 p q)
abbrev kG (q : Fin 1024) : EReal := (iblk m c 4 t : Vec Ideal S1x1024 .f32) (ix2 0 q)
abbrev kS (q : Fin 1024) : EReal := (iblk m c 5 t : Vec Ideal S1x1024 .f32) (ix2 0 q)
abbrev kF (q : Fin 1024) : EReal := (iblk m c 6 t : Vec Ideal S1x1024 .f32) (ix2 0 q)

/-- The row's gradient: what comes from the residual, and what comes through the norm. -/
def dx (H X Y G S : Fin 1024 → EReal) (q : Fin 1024) : EReal := Y q + back X (dxn H G S) q

theorem out7 (p : Fin 512) (q : Fin 1024) : (outsAt0 m c t.val t.isLt).1 (ix2 p q) =
    dx (kH m c t p) (kX m c t p) (kY m c t p) (kG m c t) (kS m c t) q := by
  unfold dx back rinv meanSq dxn dn
  by_cases h0 : t.val % 4 = 0
  · rw [outsAt0_A m c t h0]
    dsimp only
    frame_out
    pointwise [k0_pay6, k0_pay5, k0_pay4, k0_pay3]
  · rw [outsAt0_B m c t h0]
    dsimp only
    frame_out
    pointwise [k0_pay6, k0_pay5, k0_pay4, k0_pay3]

theorem out8 (p : Fin 512) (q : Fin 1024) : (outsAt0 m c t.val t.isLt).2.1 (ix2 p q) =
    dx (kH m c t p) (kX m c t p) (kY m c t p) (kG m c t) (kS m c t) q * kF m c t q := by
  unfold dx back rinv meanSq dxn dn
  by_cases h0 : t.val % 4 = 0
  · rw [outsAt0_A m c t h0]
    dsimp only
    frame_out
    pointwise [k0_pay7, k0_pay6, k0_pay5, k0_pay4, k0_pay3]
  · rw [outsAt0_B m c t h0]
    dsimp only
    frame_out
    pointwise [k0_pay7, k0_pay6, k0_pay5, k0_pay4, k0_pay3]

/-- What a row adds to each of the eight rows of sums. -/
def adds (H X Y M : Fin 1024 → EReal) (G S : Fin 1024 → EReal) (p : Fin 8) (q : Fin 1024) : EReal :=
  if p.val = 0 then H q else if p.val = 1 then H q * (X q * rinv X * G q) else if p.val = 2 then dn H S q * (X q * rinv X)
    else if p.val = 3 then dx H X Y G S q * M q else 0

theorem first9 (h0 : t.val % 4 = 0) (p : Fin 8) (q : Fin 1024) : (outsAt0 m c t.val t.isLt).2.2 (ix2 p q) =
    0 + ∑ k : Fin 512, adds (kH m c t k) (kX m c t k) (kY m c t k) (kM m c t k) (kG m c t) (kS m c t) p q := by
  rw [outsAt0_A m c t h0]
  dsimp only
  frame_open
  simp (disch := decide) only [↓ View.readCov_skip, ↓ View.readCov_cons_toLoadRect, ↓ View.readCov_fill]
  frame_out
  rw [canon_row, canon_row, canon_row, canon_row]
  unfold adds dx back dxn dn rinv meanSq
  by_cases p3 : p.val = 3
  · simp only [p3, if_true, if_false, OfNat.ofNat_ne_zero, OfNat.ofNat_ne_one, Nat.reduceEqDiff]
    obtain rfl : p = 3 := Fin.ext p3
    pointwise [k0_pay1, k0_pay11, k0_pay12, k0_pay6, k0_pay5, k0_pay4, k0_pay3, k0_pay2]
  by_cases p2 : p.val = 2
  · simp only [p2, if_true, if_false, OfNat.ofNat_ne_zero, OfNat.ofNat_ne_one, Nat.reduceEqDiff]
    obtain rfl : p = 2 := Fin.ext p2
    pointwise [k0_pay10, k0_pay5, k0_pay4, k0_pay3, k0_pay2]
  by_cases p1 : p.val = 1
  · simp only [p1, if_true, if_false, one_ne_zero, OfNat.one_ne_ofNat]
    obtain rfl : p = 1 := Fin.ext p1
    pointwise [k0_pay9, k0_pay4, k0_pay3, k0_pay2]
  by_cases p0 : p.val = 0
  · simp only [p0, if_true, if_false, OfNat.zero_ne_ofNat, zero_ne_one]
    obtain rfl : p = 0 := Fin.ext p0
    pointwise [k0_pay8, k0_pay2]
  · simp only [p0, p1, p2, p3, if_false, Finset.sum_const_zero, add_zero]
    rw [View.canon_unit_zero (by funext x; fin_cases x <;> rfl)]
    pointwise [k0_pay2]

theorem next9 (h0 : ¬ t.val % 4 = 0) (p : Fin 8) (q : Fin 1024) : (outsAt0 m c t.val t.isLt).2.2 (ix2 p q) =
    (outsAt0 m c (t.val - 1) (by omega)).2.2 (ix2 p q) + ∑ k : Fin 512, adds (kH m c t k) (kX m c t k) (kY m c t k) (kM m c t k) (kG m c t) (kS m c t) p q := by
  rw [outsAt0_B m c t h0]
  dsimp only
  frame_out
  rw [over_row, over_row, over_row, over_row]
  unfold adds dx back dxn dn rinv meanSq
  by_cases p3 : p.val = 3
  · simp only [p3, if_true, if_false, OfNat.ofNat_ne_zero, OfNat.ofNat_ne_one, Nat.reduceEqDiff]
    obtain rfl : p = 3 := Fin.ext p3
    pointwise [k0_pay1, k0_pay11, k0_pay12, k0_pay6, k0_pay5, k0_pay4, k0_pay3, Memref.IsWhole.read_unread]
  by_cases p2 : p.val = 2
  · simp only [p2, if_true, if_false, OfNat.ofNat_ne_zero, OfNat.ofNat_ne_one, Nat.reduceEqDiff]
    obtain rfl : p = 2 := Fin.ext p2
    pointwise [k0_pay10, k0_pay5, k0_pay4, k0_pay3, Memref.IsWhole.read_unread]
  by_cases p1 : p.val = 1
  · simp only [p1, if_true, if_false, one_ne_zero, OfNat.one_ne_ofNat]
    obtain rfl : p = 1 := Fin.ext p1
    pointwise [k0_pay9, k0_pay4, k0_pay3, Memref.IsWhole.read_unread]
  by_cases p0 : p.val = 0
  · simp only [p0, if_true, if_false, OfNat.zero_ne_ofNat, zero_ne_one]
    obtain rfl : p = 0 := Fin.ext p0
    pointwise [k0_pay8, Memref.IsWhole.read_unread]
  · simp only [p0, p1, p2, p3, if_false, Finset.sum_const_zero, add_zero]
    rw [View.writes_nil, Memref.IsWhole.read_unread]

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![0, 0] := by decide +kernel
theorem e5 : ∀ t : Fin cfg0.N, win0_5.index t = ![0, 0] := by decide +kernel
theorem e6 : ∀ t : Fin cfg0.N, win0_6.index t = ![0, 0] := by decide +kernel
theorem e7 : ∀ t : Fin cfg0.N, win0_7.index t = ![t.val, 0] := by decide +kernel
theorem e8 : ∀ t : Fin cfg0.N, win0_8.index t = ![t.val, 0] := by decide +kernel
theorem e9 : ∀ t : Fin cfg0.N, win0_9.index t = ![0, 0] := by decide +kernel

/-- The arguments. -/
abbrev A0 : Vec Ideal S2048x1024 .f32 := m ((c.tc : Thread nD τ).loc main_arg0)
abbrev A1 : Vec Ideal S2048x1024 .f32 := m ((c.tc : Thread nD τ).loc main_arg1)
abbrev A2 : Vec Ideal S2048x1024 .f32 := m ((c.tc : Thread nD τ).loc main_arg2)
abbrev A3 : Vec Ideal S2048x1024 .f32 := m ((c.tc : Thread nD τ).loc main_arg3)
abbrev A4 : Vec Ideal S1x1024 .f32 := m ((c.tc : Thread nD τ).loc main_arg4)
abbrev A5 : Vec Ideal S1x1024 .f32 := m ((c.tc : Thread nD τ).loc main_arg5)
abbrev A6 : Vec Ideal S1x1024 .f32 := m ((c.tc : Thread nD τ).loc main_arg6)
theorem b0 (p : Fin 512) (q : Fin 1024) : iblk m c 0 t (ix2 p q) = A0 m c (ix2 (row t.val t.2 p) q) := by
  blk_simp [iblk]
  refine congrArg (A0 m c) (?_ : (_ : S2048x1024.Idx) = _)
  refine (eq_ix2 _).trans (congrArg₂ ix2 (Fin.ext ?_) (Fin.ext ?_)) <;> blk_simp [e0, row]
theorem b1 (p : Fin 512) (q : Fin 1024) : iblk m c 1 t (ix2 p q) = A1 m c (ix2 (row t.val t.2 p) q) := by
  blk_simp [iblk]
  refine congrArg (A1 m c) (?_ : (_ : S2048x1024.Idx) = _)
  refine (eq_ix2 _).trans (congrArg₂ ix2 (Fin.ext ?_) (Fin.ext ?_)) <;> blk_simp [e1, row]
theorem b2 (p : Fin 512) (q : Fin 1024) : iblk m c 2 t (ix2 p q) = A2 m c (ix2 (row t.val t.2 p) q) := by
  blk_simp [iblk]
  refine congrArg (A2 m c) (?_ : (_ : S2048x1024.Idx) = _)
  refine (eq_ix2 _).trans (congrArg₂ ix2 (Fin.ext ?_) (Fin.ext ?_)) <;> blk_simp [e2, row]
theorem b3 (p : Fin 512) (q : Fin 1024) : iblk m c 3 t (ix2 p q) = A3 m c (ix2 (row t.val t.2 p) q) := by
  blk_simp [iblk]
  refine congrArg (A3 m c) (?_ : (_ : S2048x1024.Idx) = _)
  refine (eq_ix2 _).trans (congrArg₂ ix2 (Fin.ext ?_) (Fin.ext ?_)) <;> blk_simp [e3, row]
theorem b4 (q : Fin 1024) : iblk m c 4 t (ix2 0 q) = A4 m c (ix2 0 q) := by
  blk_simp [iblk]
  refine congrArg (A4 m c) (?_ : (_ : S1x1024.Idx) = _)
  refine (eq_ix2 _).trans (congrArg₂ ix2 (Fin.ext ?_) (Fin.ext ?_)) <;> blk_simp [e4]
theorem b5 (q : Fin 1024) : iblk m c 5 t (ix2 0 q) = A5 m c (ix2 0 q) := by
  blk_simp [iblk]
  refine congrArg (A5 m c) (?_ : (_ : S1x1024.Idx) = _)
  refine (eq_ix2 _).trans (congrArg₂ ix2 (Fin.ext ?_) (Fin.ext ?_)) <;> blk_simp [e5]
theorem b6 (q : Fin 1024) : iblk m c 6 t (ix2 0 q) = A6 m c (ix2 0 q) := by
  blk_simp [iblk]
  refine congrArg (A6 m c) (?_ : (_ : S1x1024.Idx) = _)
  refine (eq_ix2 _).trans (congrArg₂ ix2 (Fin.ext ?_) (Fin.ext ?_)) <;> blk_simp [e6]

section
variable (x0 x1 x2 x3 : Vec Ideal S2048x1024 .f32) (x4 x5 x6 : Vec Ideal S1x1024 .f32)

/-- The arrays' rows. -/
abbrev rH (p : Fin 2048) (q : Fin 1024) : EReal := x0 (ix2 p q)
abbrev rX (p : Fin 2048) (q : Fin 1024) : EReal := x1 (ix2 p q)
abbrev rG (q : Fin 1024) : EReal := x4 (ix2 0 q)

theorem refR (p : Fin 2048) : val_main_v8 x1 (ix2 p 0) = rinv (rX x1 p) := by
  unfold rinv meanSq
  pointwise [val_main_v8, val_main_v7, val_main_v6, val_main_v5, val_main_v4, val_main_v3, val_main_v2, val_main_v1, val_main_cst_0,
    val_main_cst_1, val_main_cst_2]
theorem refM (p : Fin 2048) : val_main_v7 x1 (ix2 p 0) = meanSq (rX x1 p) := by
  unfold meanSq
  pointwise [val_main_v7, val_main_v6, val_main_v5, val_main_v4, val_main_v3, val_main_v2, val_main_v1, val_main_cst_0,
    val_main_cst_1, val_main_cst_2]
theorem refN (p : Fin 2048) (q : Fin 1024) : val_main_v29 x0 x5 (ix2 p q) = dn (rH x0 p) (rG x5) q := by
  unfold dn
  pointwise [val_main_v29, val_main_v28, val_main_v22, val_main_v17, val_main_v16, val_main_cst_4]
theorem refD (p : Fin 2048) (q : Fin 1024) : val_main_v34 x0 x4 x5 (ix2 p q) = dxn (rH x0 p) (rG x4) (rG x5) q := by
  unfold dxn
  rw [← refN]
  pointwise [val_main_v34, val_main_v33]
theorem refT (p : Fin 2048) : val_main_v43 x0 x1 x4 x5 (ix1 p) = through (rX x1 p) (dxn (rH x0 p) (rG x4) (rG x5)) := by
  unfold through
  simp only [← refD, ← refR, ← refM]
  pointwise [val_main_v43, val_main_v42, val_main_v41, val_main_v40, val_main_v37, val_main_v36, val_main_v35, val_main_v11, val_main_v10,
    val_main_v9, val_main_cst_3, val_main_cst_8, val_main_cst_9, val_main_cst_10]
  exact Fin.sum_univ_one _

theorem ref7 (p : Fin 2048) (q : Fin 1024) : val_main_v49 x0 x1 x2 x4 x5 (ix2 p q) =
    dx (rH x0 p) (rX x1 p) (rX x2 p) (rG x4) (rG x5) q := by
  unfold dx
  rw [back_eq]
  unfold chain
  rw [← refT, ← refD, ← refR]
  pointwise [val_main_v49, val_main_v48, val_main_v47, val_main_v46, val_main_v45, val_main_v44, val_main_v39, val_main_v38]

theorem ref8 (p : Fin 2048) (q : Fin 1024) : val_main_v59 x0 x1 x2 x4 x5 x6 (ix2 p q) =
    dx (rH x0 p) (rX x1 p) (rX x2 p) (rG x4) (rG x5) q * rG x6 q := by
  rw [← ref7, mul_comm]
  pointwise [val_main_v59, val_main_v53, val_main_v52]

theorem refSum0 (q : Fin 1024) : val_main_v24 x0 (ix2 0 q) = ∑ p, rH x0 p q := by
  pointwise [val_main_v24, val_main_v23, val_main_cst_5]
theorem refSum1 (q : Fin 1024) : val_main_v27 x0 x1 x4 (ix2 0 q) = ∑ p, rH x0 p q * (rX x1 p q * rinv (rX x1 p) * rG x4 q) := by
  simp only [← refR]
  pointwise [val_main_v27, val_main_v26, val_main_v25, val_main_v22, val_main_v15, val_main_v14, val_main_v13, val_main_v12, val_main_cst_6]
  exact Finset.sum_congr rfl fun _ _ => mul_comm _ _
theorem refSum2 (q : Fin 1024) : val_main_v32 x0 x1 x5 (ix2 0 q) = ∑ p, dn (rH x0 p) (rG x5) q * (rX x1 p q * rinv (rX x1 p)) := by
  simp only [← refR, ← refN]
  pointwise [val_main_v32, val_main_v31, val_main_v30, val_main_v13, val_main_v12, val_main_cst_7]
  exact Finset.sum_congr rfl fun _ _ => mul_comm _ _

theorem refSum3 (q : Fin 1024) : val_main_v56 x0 x1 x2 x3 x4 x5 (ix2 0 q) =
    ∑ p, dx (rH x0 p) (rX x1 p) (rX x2 p) (rG x4) (rG x5) q * rX x3 p q := by
  simp only [← ref7]
  pointwise [val_main_v56, val_main_v55, val_main_v54, val_main_cst_11]

theorem ref9 (p : Fin 8) (q : Fin 1024) : val_main_v58 x0 x1 x2 x3 x4 x5 (ix2 p q) =
    ∑ r, adds (rH x0 r) (rX x1 r) (rX x2 r) (rX x3 r) (rG x4) (rG x5) p q := by
  unfold adds
  by_cases p0 : p.val = 0
  · simp only [p0, if_true]
    rw [← refSum0]
    obtain rfl : p = 0 := Fin.ext p0
    pointwise [val_main_v58]
  by_cases p1 : p.val = 1
  · simp only [p1, if_true, if_false, one_ne_zero]
    rw [← refSum1]
    obtain rfl : p = 1 := Fin.ext p1
    pointwise [val_main_v58]
  by_cases p2 : p.val = 2
  · simp only [p2, if_true, if_false, OfNat.ofNat_ne_zero, OfNat.ofNat_ne_one]
    rw [← refSum2]
    obtain rfl : p = 2 := Fin.ext p2
    pointwise [val_main_v58]
  by_cases p3 : p.val = 3
  · simp only [p3, if_true, if_false, OfNat.ofNat_ne_zero, OfNat.ofNat_ne_one, Nat.reduceEqDiff]
    rw [← refSum3]
    obtain rfl : p = 3 := Fin.ext p3
    pointwise [val_main_v58]
  · simp only [p0, p1, p2, p3, if_false, Finset.sum_const_zero]
    pointwise [val_main_v58, val_main_v57, val_main_cst_12]
    rw [dif_neg (by omega), dif_neg (by omega), dif_neg (by omega), dif_neg (by omega)]
end

theorem kH_eq (p : Fin 512) : kH m c t p = rH (A0 m c) (row t.val t.2 p) := funext fun q => b0 m c t p q
theorem kX_eq (p : Fin 512) : kX m c t p = rX (A1 m c) (row t.val t.2 p) := funext fun q => b1 m c t p q
theorem kY_eq (p : Fin 512) : kY m c t p = rX (A2 m c) (row t.val t.2 p) := funext fun q => b2 m c t p q
theorem kM_eq (p : Fin 512) : kM m c t p = rX (A3 m c) (row t.val t.2 p) := funext fun q => b3 m c t p q
theorem kG_eq : kG m c t = rG (A4 m c) := funext fun q => b4 m c t q
theorem kS_eq : kS m c t = rG (A5 m c) := funext fun q => b5 m c t q
theorem kF_eq : kF m c t = rG (A6 m c) := funext fun q => b6 m c t q

theorem at7 (p : Fin 512) (q : Fin 1024) : (outsAt0 m c t.val t.isLt).1 (ix2 p q) =
    val_main_v49 (F := Ideal) (A0 m c) (A1 m c) (A2 m c) (A4 m c) (A5 m c) (ix2 (row t.val t.2 p) q) := by
  rw [out7, ref7, kH_eq, kX_eq, kY_eq, kG_eq, kS_eq]
theorem at8 (p : Fin 512) (q : Fin 1024) : (outsAt0 m c t.val t.isLt).2.1 (ix2 p q) =
    val_main_v59 (F := Ideal) (A0 m c) (A1 m c) (A2 m c) (A4 m c) (A5 m c) (A6 m c) (ix2 (row t.val t.2 p) q) := by
  rw [out8, ref8, kH_eq, kX_eq, kY_eq, kG_eq, kS_eq, kF_eq]

/-- The gradient of the first residual. -/
theorem array7 : (dats m 0 c).arrAt 7 cfg0.N = val_main_v49 (F := Ideal) (A0 m c) (A1 m c) (A2 m c) (A4 m c) (A5 m c) := by
  refine (dats m 0 c).arrAt_eq_of_covers 7 _ (by decide +kernel) fun t hf y => ?_
  blk_simp [e7]
  rw [after0_7]
  refine (congrArg _ (eq_ix2 y)).trans ((at7 m c t (y 0) (y 1)).trans
    (congrArg _ (?_ : (_ : S2048x1024.Idx) = ix2 (row t.val t.2 (y 0)) (y 1))).symm)
  · refine (eq_ix2 _).trans (congrArg₂ ix2 (Fin.ext ?_) (Fin.ext ?_)) <;> blk_simp [e7, row]

/-- The gradient of the mixed heads. -/
theorem array8 : (dats m 0 c).arrAt 8 cfg0.N = val_main_v59 (F := Ideal) (A0 m c) (A1 m c) (A2 m c) (A4 m c) (A5 m c) (A6 m c) := by
  refine (dats m 0 c).arrAt_eq_of_covers 8 _ (by decide +kernel) fun t hf y => ?_
  blk_simp [e8]
  rw [after0_8]
  refine (congrArg _ (eq_ix2 y)).trans ((at8 m c t (y 0) (y 1)).trans
    (congrArg _ (?_ : (_ : S2048x1024.Idx) = ix2 (row t.val t.2 (y 0)) (y 1))).symm)
  · refine (eq_ix2 _).trans (congrArg₂ ix2 (Fin.ext ?_) (Fin.ext ?_)) <;> blk_simp [e8, row]

theorem sum9 (p : Fin 8) (q : Fin 1024) : (outsAt0 m c 3 (by decide)).2.2 (ix2 p q) =
    ∑ r, adds (rH (A0 m c) r) (rX (A1 m c) r) (rX (A2 m c) r) (rX (A3 m c) r) (rG (A4 m c)) (rG (A5 m c)) p q :=
  Cert.Gather.gathered (fun r => adds (rH (A0 m c) r) (rX (A1 m c) r) (rX (A2 m c) r) (rX (A3 m c) r) (rG (A4 m c)) (rG (A5 m c)) p q)
    (fun n h => (outsAt0 m c n h).2.2 (ix2 p q))
    (by
      refine (first9 m c ⟨0, by decide⟩ rfl p q).trans ?_
      simp only [kH_eq, kX_eq, kY_eq, kM_eq, kG_eq, kS_eq])
    (fun n h => by
      refine (next9 m c ⟨n + 1, h⟩ (by dsimp only; omega) p q).trans ?_
      simp only [kH_eq, kX_eq, kY_eq, kM_eq, kG_eq, kS_eq, Nat.add_sub_cancel])

/-- The last point of the grid. -/
theorem last_point (t : Fin cfg0.N) (h : t.val % 4 = 3) : t = ⟨3, by decide⟩ := by
  have : t.val < 4 := t.2
  exact Fin.ext (by dsimp only; omega)

/-- The sums over the rows: the gradients of the shift, the scale, the gain and the gate. -/
theorem array9 : (dats m 0 c).arrAt 9 cfg0.N = val_main_v58 (F := Ideal) (A0 m c) (A1 m c) (A2 m c) (A3 m c) (A4 m c) (A5 m c) := by
  refine (dats m 0 c).arrAt_eq_of_covers 9 _ (by decide +kernel) fun t hf y => ?_
  blk_simp [e9]
  rw [after0_9]
  have hz : ((win0_9.blk t).view.emb y : S8x1024.Idx) = ix2 (y 0) (y 1) := by
    refine (eq_ix2 _).trans (congrArg₂ ix2 (Fin.ext ?_) (Fin.ext ?_)) <;> blk_simp [e9]
  obtain rfl := last_point t ((flush0_9 t).mp hf)
  exact (congrArg _ (eq_ix2 y)).trans ((sum9 m c (y 0) (y 1)).trans ((congrArg _ hz).trans (ref9 _ _ _ _ _ _ (y 0) (y 1))).symm)

end Cert.FfnNorm

end
-- ==== Proof.LatNorm.lean ====
/- The gradient of the norms of the two latents. -/
module

public import proofs.«01_k».proof.Proof.Gen.Kernel14Ideal.Value
public import proofs.«01_k».proof.Proof.Gen.Reference14Ideal.Read
public import proofs.«01_k».proof.Proof.Gather
public import proofs.«01_k».proof.Proof.NormWidth
public import proofs.«01_k».proof.Proof.Rows
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

namespace Cert.LatNorm

open Cert.Kernel14Ideal Cert.Kernel14Ideal.Gen Cert.Reference14Ideal.Read Idealize.ShloMosaic Idealize.ShloMosaic.TcCoe Idealize.SL.Sem
open Idealize.ShloMosaic.Pipeline (Dat)
open Cert.Gather (row)
open Cert.NormWidth Cert.Rows

variable (m : (ℓ : Loc nD τ sig) → Buf (Elt Ideal) ℓ) (c : Dev nD)

variable (t : Fin cfg0.N)

/-- The two widths. -/
abbrev WQ : EReal := Ideal.ofBits .f32 0x44000000#32
abbrev WK : EReal := Ideal.ofBits .f32 0x43800000#32

/-- The block's rows: the two gradients, the two latents and the two gains. -/
abbrev kDQ (p : Fin 512) (q : Fin 512) : EReal := (iblk m c 0 t : Vec Ideal S512x512 .f32) (ix2 p q)
abbrev kDK (p : Fin 512) (q : Fin 256) : EReal := (iblk m c 1 t : Vec Ideal S512x256 .f32) (ix2 p q)
abbrev kXQ (p : Fin 512) (q : Fin 512) : EReal := (X0_2 m c t : Vec Ideal S512x512 .f32) (ix2 p q)
abbrev kXK (p : Fin 512) (q : Fin 256) : EReal := (X0_3 m c t : Vec Ideal S512x256 .f32) (ix2 p q)
abbrev kGQ (q : Fin 512) : EReal := (iblk m c 4 t : Vec Ideal S1x512 .f32) (ix2 0 q)
abbrev kGK (q : Fin 256) : EReal := (iblk m c 5 t : Vec Ideal S1x256 .f32) (ix2 0 q)

theorem out6 (p : Fin 512) (q : Fin 512) : (outsAt0 m c t.val t.isLt).1 (ix2 p q) =
    back WQ (kXQ m c t p) (fun k => kDQ m c t p k * kGQ m c t k) q := by
  unfold back rinv meanSq
  by_cases h0 : t.val % 4 = 0
  · rw [outsAt0_A m c t h0]
    dsimp only
    frame_out
    pointwise [k0_pay11, k0_pay5, k0_pay4, k0_pay3, k0_pay2]
  · rw [outsAt0_B m c t h0]
    dsimp only
    frame_out
    pointwise [k0_pay11, k0_pay5, k0_pay4, k0_pay3, k0_pay2]

theorem out7 (p : Fin 512) (q : Fin 256) : (outsAt0 m c t.val t.isLt).2.1 (ix2 p q) =
    back WK (kXK m c t p) (fun k => kDK m c t p k * kGK m c t k) q := by
  unfold back rinv meanSq
  by_cases h0 : t.val % 4 = 0
  · rw [outsAt0_A m c t h0]
    dsimp only
    frame_out
    pointwise [k0_pay12, k0_pay10, k0_pay9, k0_pay8, k0_pay7]
  · rw [outsAt0_B m c t h0]
    dsimp only
    frame_out
    pointwise [k0_pay12, k0_pay10, k0_pay9, k0_pay8, k0_pay7]

/-- What the block adds to each of the eight rows of sums. -/
def adds (DQ XQ : Fin 512 → EReal) (DK XK : Fin 256 → EReal) (p : Fin 8) (q : Fin 512) : EReal :=
  if p.val = 0 then DQ q * (XQ q * rinv WQ XQ)
  else if p.val = 1 then if h : q.val < 256 then DK ⟨q.val, h⟩ * (XK ⟨q.val, h⟩ * rinv WK XK) else 0
  else 0

theorem first8 (h0 : t.val % 4 = 0) (p : Fin 8) (q : Fin 512) : (outsAt0 m c t.val t.isLt).2.2 (ix2 p q) =
    0 + ∑ k : Fin 512, adds (kDQ m c t k) (kXQ m c t k) (kDK m c t k) (kXK m c t k) p q := by
  rw [outsAt0_A m c t h0]
  dsimp only
  frame_open
  simp (disch := decide) only [↓ View.readCov_skip, ↓ View.readCov_cons_toLoadRect, ↓ View.readCov_fill]
  frame_out
  rw [canon_row, canon_row]
  unfold adds rinv meanSq
  by_cases p1 : p.val = 1
  · simp only [p1, if_true, if_false, one_ne_zero]
    obtain rfl : p = 1 := Fin.ext p1
    pointwise [k0_pay14, k0_pay10, k0_pay9, k0_pay8, k0_pay7, k0_pay1]
    split_ifs
    · rfl
    · simp only [Finset.sum_const_zero]
  by_cases p0 : p.val = 0
  · simp only [p0, if_true, if_false, zero_ne_one]
    obtain rfl : p = 0 := Fin.ext p0
    pointwise [k0_pay13, k0_pay6, k0_pay4, k0_pay3, k0_pay2, k0_pay1]
  · simp only [p0, p1, if_false, Finset.sum_const_zero, add_zero]
    rw [View.canon_unit_zero (by funext x; fin_cases x <;> rfl)]
    pointwise [k0_pay1]

theorem next8 (h0 : ¬ t.val % 4 = 0) (p : Fin 8) (q : Fin 512) : (outsAt0 m c t.val t.isLt).2.2 (ix2 p q) =
    (outsAt0 m c (t.val - 1) (by omega)).2.2 (ix2 p q) + ∑ k : Fin 512, adds (kDQ m c t k) (kXQ m c t k) (kDK m c t k) (kXK m c t k) p q := by
  rw [outsAt0_B m c t h0]
  dsimp only
  frame_out
  rw [over_row, over_row]
  unfold adds rinv meanSq
  by_cases p1 : p.val = 1
  · simp only [p1, if_true, if_false, one_ne_zero]
    obtain rfl : p = 1 := Fin.ext p1
    pointwise [k0_pay14, k0_pay10, k0_pay9, k0_pay8, k0_pay7, Memref.IsWhole.read_unread]
    split_ifs
    · rfl
    · simp only [Finset.sum_const_zero]
  by_cases p0 : p.val = 0
  · simp only [p0, if_true, if_false, zero_ne_one]
    obtain rfl : p = 0 := Fin.ext p0
    pointwise [k0_pay13, k0_pay6, k0_pay4, k0_pay3, k0_pay2, Memref.IsWhole.read_unread]
  · simp only [p0, p1, if_false, Finset.sum_const_zero, add_zero]
    rw [View.writes_nil, Memref.IsWhole.read_unread]

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 8] := by decide +kernel
theorem e4 : ∀ t : Fin cfg0.N, win0_4.index t = ![0, 0] := by decide +kernel
theorem e5 : ∀ t : Fin cfg0.N, win0_5.index t = ![0, 0] := by decide +kernel
theorem e6 : ∀ t : Fin cfg0.N, win0_6.index t = ![t.val, 0] := by decide +kernel
theorem e7 : ∀ t : Fin cfg0.N, win0_7.index t = ![t.val, 0] := by decide +kernel
theorem e8 : ∀ t : Fin cfg0.N, win0_8.index t = ![0, 0] := by decide +kernel

/-- The arguments. -/
abbrev A0 : Vec Ideal S2048x512 .f32 := m ((c.tc : Thread nD τ).loc main_arg0)
abbrev A1 : Vec Ideal S2048x256 .f32 := m ((c.tc : Thread nD τ).loc main_arg1)
abbrev A2 : Vec Ideal S2048x2336 .f32 := m ((c.tc : Thread nD τ).loc main_arg2)
abbrev A3 : Vec Ideal S1x512 .f32 := m ((c.tc : Thread nD τ).loc main_arg3)
abbrev A4 : Vec Ideal S1x256 .f32 := m ((c.tc : Thread nD τ).loc main_arg4)

/-- The projection with its columns as the kernel lays them out. -/
def laid (w : Vec Ideal S2048x2336 .f32) : Vec Ideal S2048x2432 .f32 :=
  concatenate S2048x2432 1 [⟨S2048x512, extractStridedSlice S2048x512 ![0, 0] w slices_S2048x2336_S2048x512_0_0⟩,
    ⟨S2048x512, extractStridedSlice S2048x512 ![0, 800] w slices_S2048x2336_S2048x512_0_800⟩,
    ⟨S2048x512, extractStridedSlice S2048x512 ![0, 1312] w slices_S2048x2336_S2048x512_0_1312⟩,
    ⟨S2048x512, extractStridedSlice S2048x512 ![0, 1824] w slices_S2048x2336_S2048x512_0_1824⟩,
    ⟨S2048x256, extractStridedSlice S2048x256 ![0, 512] w slices_S2048x2336_S2048x256_0_512⟩,
    ⟨S2048x64, broadcastInDim S2048x64 ![] bcast_S_S2048x64 (constant (F := Ideal) S_ .f32 0x00000000#32 : Vec Ideal S_ .f32)⟩,
    ⟨S2048x32, extractStridedSlice S2048x32 ![0, 768] w slices_S2048x2336_S2048x32_0_768⟩,
    ⟨S2048x32, broadcastInDim S2048x32 ![] bcast_S_S2048x32 (constant (F := Ideal) S_ .f32 0x00000000#32 : Vec Ideal S_ .f32)⟩]
    concatenates_S2048x512_S2048x512_S2048x512_S2048x512_S2048x256_S2048x64_S2048x32_S2048x32_S2048x2432_d1

theorem V8 : (V m c main_v8 : S2048x2432.Idx → EReal) = laid (A2 m c) := by
  unfold V
  after_reads_simp
  rfl

theorem laid_q (w : Vec Ideal S2048x2336 .f32) (p : Fin 2048) (q : Fin 512) : laid w (ix2 p ⟨q.val, by omega⟩) = w (ix2 p ⟨q.val, by omega⟩) := by
  pointwise [laid]

theorem laid_k (w : Vec Ideal S2048x2336 .f32) (p : Fin 2048) (q : Fin 256) :
    laid w (ix2 p ⟨2048 + q.val, by omega⟩) = w (ix2 p ⟨512 + q.val, by omega⟩) := by
  pointwise [laid]
  repeat rw [dif_neg (by omega)]
  rw [dif_pos (by omega)]
  refine congrArg w (congrArg (ix2 p) (Fin.ext ?_))
  show 512 + (2048 + q.val - 512 - 512 - 512 - 512) = 512 + q.val
  omega

theorem b0 (p : Fin 512) (q : Fin 512) : iblk m c 0 t (ix2 p q) = A0 m c (ix2 (row t.val t.2 p) q) := by
  blk_simp [iblk]
  refine congrArg (A0 m c) (?_ : (_ : S2048x512.Idx) = _)
  refine (eq_ix2 _).trans (congrArg₂ ix2 (Fin.ext ?_) (Fin.ext ?_)) <;> blk_simp [e0, row]
theorem b1 (p : Fin 512) (q : Fin 256) : iblk m c 1 t (ix2 p q) = A1 m c (ix2 (row t.val t.2 p) q) := by
  blk_simp [iblk]
  refine congrArg (A1 m c) (?_ : (_ : S2048x256.Idx) = _)
  refine (eq_ix2 _).trans (congrArg₂ ix2 (Fin.ext ?_) (Fin.ext ?_)) <;> blk_simp [e1, row]
theorem b2 (p : Fin 512) (q : Fin 512) : (X0_2 m c t : Vec Ideal S512x512 .f32) (ix2 p q) = A2 m c (ix2 (row t.val t.2 p) ⟨q.val, by omega⟩) := by
  unfold X0_2 Pipeline.Window.fill
  rw [dif_pos (moved0_2 t _)]
  blk_simp [iblk]
  rw [V8]
  refine (congrArg (laid (A2 m c)) (?_ : (_ : S2048x2432.Idx) = _)).trans (laid_q (A2 m c) (row t.val t.2 p) q)
  refine (eq_ix2 _).trans (congrArg₂ ix2 (Fin.ext ?_) (Fin.ext ?_)) <;> blk_simp [e2, row]
theorem b3 (p : Fin 512) (q : Fin 256) : (X0_3 m c t : Vec Ideal S512x256 .f32) (ix2 p q) = A2 m c (ix2 (row t.val t.2 p) ⟨512 + q.val, by omega⟩) := by
  unfold X0_3 Pipeline.Window.fill
  rw [dif_pos (moved0_3 t _)]
  blk_simp [iblk]
  rw [V8]
  refine (congrArg (laid (A2 m c)) (?_ : (_ : S2048x2432.Idx) = _)).trans (laid_k (A2 m c) (row t.val t.2 p) q)
  refine (eq_ix2 _).trans (congrArg₂ ix2 (Fin.ext ?_) (Fin.ext ?_)) <;> blk_simp [e3, row]
theorem b4 (q : Fin 512) : iblk m c 4 t (ix2 0 q) = A3 m c (ix2 0 q) := by
  blk_simp [iblk]
  refine congrArg (A3 m c) (?_ : (_ : S1x512.Idx) = _)
  refine (eq_ix2 _).trans (congrArg₂ ix2 (Fin.ext ?_) (Fin.ext ?_)) <;> blk_simp [e4]
theorem b5 (q : Fin 256) : iblk m c 5 t (ix2 0 q) = A4 m c (ix2 0 q) := by
  blk_simp [iblk]
  refine congrArg (A4 m c) (?_ : (_ : S1x256.Idx) = _)
  refine (eq_ix2 _).trans (congrArg₂ ix2 (Fin.ext ?_) (Fin.ext ?_)) <;> blk_simp [e5]

section
variable (x0 : Vec Ideal S2048x512 .f32) (x1 : Vec Ideal S2048x256 .f32) (x2 : Vec Ideal S2048x2336 .f32) (x3 : Vec Ideal S1x512 .f32) (x4 : Vec Ideal S1x256 .f32)

/-- The arrays' rows. -/
abbrev rDQ (p : Fin 2048) (q : Fin 512) : EReal := x0 (ix2 p q)
abbrev rDK (p : Fin 2048) (q : Fin 256) : EReal := x1 (ix2 p q)
abbrev rXQ (p : Fin 2048) (q : Fin 512) : EReal := x2 (ix2 p ⟨q.val, by omega⟩)
abbrev rXK (p : Fin 2048) (q : Fin 256) : EReal := x2 (ix2 p ⟨512 + q.val, by omega⟩)
abbrev rGQ (q : Fin 512) : EReal := x3 (ix2 0 q)
abbrev rGK (q : Fin 256) : EReal := x4 (ix2 0 q)

theorem refRQ (p : Fin 2048) : val_main_v9 x2 (ix2 p 0) = rinv WQ (rXQ x2 p) := by
  unfold rinv meanSq
  pointwise [val_main_v9, val_main_v8, val_main_v7, val_main_v6, val_main_v5, val_main_v4, val_main_v3, val_main_v2, val_main_v0, val_main_cst, val_main_cst_0,
    val_main_cst_1]
theorem refMQ (p : Fin 2048) : val_main_v8 x2 (ix2 p 0) = meanSq WQ (rXQ x2 p) := by
  unfold meanSq
  pointwise [val_main_v8, val_main_v7, val_main_v6, val_main_v5, val_main_v4, val_main_v3, val_main_v2, val_main_v0, val_main_cst, val_main_cst_0,
    val_main_cst_1]
theorem refTQ (p : Fin 2048) : val_main_v30 x0 x2 x3 (ix1 p) = through WQ (rXQ x2 p) (fun k => rDQ x0 p k * rGQ x3 k) := by
  unfold through
  simp only [← refRQ, ← refMQ]
  pointwise [val_main_v30, val_main_v29, val_main_v28, val_main_v27, val_main_v24, val_main_v23, val_main_v22, val_main_v21, val_main_v20,
    val_main_v12, val_main_v11, val_main_v10, val_main_v0, val_main_cst_2, val_main_cst_4, val_main_cst_5, val_main_cst_6]
  exact Fin.sum_univ_one _
theorem ref6 (p : Fin 2048) (q : Fin 512) : val_main_v35 x0 x2 x3 (ix2 p q) =
    chain WQ (rXQ x2 p) (fun k => rDQ x0 p k * rGQ x3 k) q := by
  unfold chain
  rw [← refTQ, ← refRQ]
  pointwise [val_main_v35, val_main_v34, val_main_v33, val_main_v32, val_main_v31, val_main_v26, val_main_v25, val_main_v21, val_main_v20, val_main_v0]

theorem refRK (p : Fin 2048) : val_main_v43 x2 (ix2 p 0) = rinv WK (rXK x2 p) := by
  unfold rinv meanSq
  pointwise [val_main_v43, val_main_v42, val_main_v41, val_main_v40, val_main_v39, val_main_v38, val_main_v37, val_main_v36, val_main_v1, val_main_cst_7, val_main_cst_8,
    val_main_cst_9]
theorem refMK (p : Fin 2048) : val_main_v42 x2 (ix2 p 0) = meanSq WK (rXK x2 p) := by
  unfold meanSq
  pointwise [val_main_v42, val_main_v41, val_main_v40, val_main_v39, val_main_v38, val_main_v37, val_main_v36, val_main_v1, val_main_cst_7, val_main_cst_8,
    val_main_cst_9]
theorem refTK (p : Fin 2048) : val_main_v64 x1 x2 x4 (ix1 p) = through WK (rXK x2 p) (fun k => rDK x1 p k * rGK x4 k) := by
  unfold through
  simp only [← refRK, ← refMK]
  pointwise [val_main_v64, val_main_v63, val_main_v62, val_main_v61, val_main_v58, val_main_v57, val_main_v56, val_main_v55, val_main_v54,
    val_main_v46, val_main_v45, val_main_v44, val_main_v1, val_main_cst_10, val_main_cst_12, val_main_cst_13, val_main_cst_14]
  exact Fin.sum_univ_one _
theorem ref7 (p : Fin 2048) (q : Fin 256) : val_main_v69 x1 x2 x4 (ix2 p q) =
    chain WK (rXK x2 p) (fun k => rDK x1 p k * rGK x4 k) q := by
  unfold chain
  rw [← refTK, ← refRK]
  pointwise [val_main_v69, val_main_v68, val_main_v67, val_main_v66, val_main_v65, val_main_v60, val_main_v59, val_main_v55, val_main_v54, val_main_v1]

theorem refSumQ (q : Fin 512) : val_main_v19 x0 x2 (ix2 0 q) = ∑ p, rDQ x0 p q * (rXQ x2 p q * rinv WQ (rXQ x2 p)) := by
  simp only [← refRQ]
  pointwise [val_main_v19, val_main_v18, val_main_v17, val_main_v14, val_main_v13, val_main_v0, val_main_cst_3]
  exact Finset.sum_congr rfl fun _ _ => mul_comm _ _
theorem refSumK (q : Fin 256) : val_main_v53 x1 x2 (ix2 0 q) = ∑ p, rDK x1 p q * (rXK x2 p q * rinv WK (rXK x2 p)) := by
  simp only [← refRK]
  pointwise [val_main_v53, val_main_v52, val_main_v51, val_main_v48, val_main_v47, val_main_v1, val_main_cst_11]
  exact Finset.sum_congr rfl fun _ _ => mul_comm _ _
theorem ref8 (p : Fin 8) (q : Fin 512) : val_main_v73 x0 x1 x2 (ix2 p q) =
    ∑ r, adds (rDQ x0 r) (rXQ x2 r) (rDK x1 r) (rXK x2 r) p q := by
  unfold adds
  by_cases p0 : p.val = 0
  · simp only [p0, if_true]
    rw [← refSumQ]
    obtain rfl : p = 0 := Fin.ext p0
    pointwise [val_main_v73]
  by_cases p1 : p.val = 1
  · simp only [p1, if_true, if_false, one_ne_zero]
    obtain rfl : p = 1 := Fin.ext p1
    by_cases hq : q.val < 256
    · simp only [hq, dif_pos]
      rw [← refSumK x1 x2 ⟨q.val, hq⟩]
      pointwise [val_main_v73, val_main_v71]
      rw [dif_pos hq]
    · simp only [hq, dif_neg, not_false_iff, Finset.sum_const_zero]
      pointwise [val_main_v73, val_main_v71, val_main_v70, val_main_cst_15]
      rw [dif_neg hq]
  · simp only [p0, p1, if_false, Finset.sum_const_zero]
    pointwise [val_main_v73, val_main_v72, val_main_cst_16]
    rw [dif_neg (by omega), dif_neg (by omega)]
end

theorem kDQ_eq (p : Fin 512) : kDQ m c t p = rDQ (A0 m c) (row t.val t.2 p) := funext fun q => b0 m c t p q
theorem kDK_eq (p : Fin 512) : kDK m c t p = rDK (A1 m c) (row t.val t.2 p) := funext fun q => b1 m c t p q
theorem kXQ_eq (p : Fin 512) : kXQ m c t p = rXQ (A2 m c) (row t.val t.2 p) := funext fun q => b2 m c t p q
theorem kXK_eq (p : Fin 512) : kXK m c t p = rXK (A2 m c) (row t.val t.2 p) := funext fun q => b3 m c t p q
theorem kGQ_eq : kGQ m c t = rGQ (A3 m c) := funext fun q => b4 m c t q
theorem kGK_eq : kGK m c t = rGK (A4 m c) := funext fun q => b5 m c t q

theorem at6 (p : Fin 512) (q : Fin 512) : (outsAt0 m c t.val t.isLt).1 (ix2 p q) =
    val_main_v74 (A0 m c) (A2 m c) (A3 m c) (ix2 (row t.val t.2 p) q) := by
  pointwise [val_main_v74]
  rw [out6, ref6, kDQ_eq, kXQ_eq, kGQ_eq, show WQ = _ from w512]
  exact back_eq _ _ (by norm_num) q
theorem at7 (p : Fin 512) (q : Fin 256) : (outsAt0 m c t.val t.isLt).2.1 (ix2 p q) =
    val_main_v75 (A1 m c) (A2 m c) (A4 m c) (ix2 (row t.val t.2 p) q) := by
  pointwise [val_main_v75]
  rw [out7, ref7, kDK_eq, kXK_eq, kGK_eq, show WK = _ from w256]
  exact back_eq _ _ (by norm_num) q

/-- The gradient of the query's latents. -/
theorem array6 : (dats m 0 c).arrAt 6 cfg0.N = val_main_v74 (F := Ideal) (A0 m c) (A2 m c) (A3 m c) := by
  refine (dats m 0 c).arrAt_eq_of_covers 6 _ (by decide +kernel) fun t hf y => ?_
  blk_simp [e6]
  rw [after0_6]
  refine (congrArg _ (eq_ix2 y)).trans ((at6 m c t (y 0) (y 1)).trans
    (congrArg _ (?_ : (_ : S2048x512.Idx) = ix2 (row t.val t.2 (y 0)) (y 1))).symm)
  · refine (eq_ix2 _).trans (congrArg₂ ix2 (Fin.ext ?_) (Fin.ext ?_)) <;> blk_simp [e6, row]

/-- The gradient of the latents of key and value. -/
theorem array7 : (dats m 0 c).arrAt 7 cfg0.N = val_main_v75 (F := Ideal) (A1 m c) (A2 m c) (A4 m c) := by
  refine (dats m 0 c).arrAt_eq_of_covers 7 _ (by decide +kernel) fun t hf y => ?_
  blk_simp [e7]
  rw [after0_7]
  refine (congrArg _ (eq_ix2 y)).trans ((at7 m c t (y 0) (y 1)).trans
    (congrArg _ (?_ : (_ : S2048x256.Idx) = ix2 (row t.val t.2 (y 0)) (y 1))).symm)
  · refine (eq_ix2 _).trans (congrArg₂ ix2 (Fin.ext ?_) (Fin.ext ?_)) <;> blk_simp [e7, row]

theorem sum8 (p : Fin 8) (q : Fin 512) : (outsAt0 m c 3 (by decide)).2.2 (ix2 p q) =
    ∑ r, adds (rDQ (A0 m c) r) (rXQ (A2 m c) r) (rDK (A1 m c) r) (rXK (A2 m c) r) p q :=
  Cert.Gather.gathered (fun r => adds (rDQ (A0 m c) r) (rXQ (A2 m c) r) (rDK (A1 m c) r) (rXK (A2 m c) r) p q)
    (fun n h => (outsAt0 m c n h).2.2 (ix2 p q))
    (by
      refine (first8 m c ⟨0, by decide⟩ rfl p q).trans ?_
      simp only [kDQ_eq, kDK_eq, kXQ_eq, kXK_eq])
    (fun n h => by
      refine (next8 m c ⟨n + 1, h⟩ (by dsimp only; omega) p q).trans ?_
      simp only [kDQ_eq, kDK_eq, kXQ_eq, kXK_eq, Nat.add_sub_cancel])

/-- The last point of the grid. -/
theorem last_point (t : Fin cfg0.N) (h : t.val % 4 = 3) : t = ⟨3, by decide⟩ := by
  have : t.val < 4 := t.2
  exact Fin.ext (by dsimp only; omega)

/-- The sums over the rows: the gradients of the two gains. -/
theorem array8 : (dats m 0 c).arrAt 8 cfg0.N = val_main_v73 (F := Ideal) (A0 m c) (A1 m c) (A2 m c) := by
  refine (dats m 0 c).arrAt_eq_of_covers 8 _ (by decide +kernel) fun t hf y => ?_
  blk_simp [e8]
  rw [after0_8]
  have hz : ((win0_8.blk t).view.emb y : S8x512.Idx) = ix2 (y 0) (y 1) := by
    refine (eq_ix2 _).trans (congrArg₂ ix2 (Fin.ext ?_) (Fin.ext ?_)) <;> blk_simp [e8]
  obtain rfl := last_point t ((flush0_8 t).mp hf)
  exact (congrArg _ (eq_ix2 y)).trans ((sum8 m c (y 0) (y 1)).trans ((congrArg _ hz).trans (ref8 _ _ _ (y 0) (y 1))).symm)

end Cert.LatNorm

end
-- ==== Proof.AdaBwd.lean ====
/- The gradient of the modulation's weight. -/
module

public import proofs.«01_k».proof.Proof.Gen.Kernel15Ideal.Value
public import proofs.«01_k».proof.Proof.Gen.Reference15Ideal.Read
public import proofs.«01_k».proof.Proof.Sigmoid
public import Idealize.ShloMosaic.Lib.Pipeline.ReadBack
public import Idealize.ShloMosaic.Lib.Pipeline.ValueKit
public import Idealize.ShloMosaic.Lib.Pointwise

@[expose] public section

set_option maxRecDepth 16384

noncomputable section

namespace Cert.AdaBwd

open Cert.Kernel15Ideal Cert.Kernel15Ideal.Gen Cert.Reference15Ideal.Read Idealize.ShloMosaic Idealize.ShloMosaic.TcCoe Idealize.SL.Sem
open Idealize.ShloMosaic.Pipeline (Dat)
open Cert.GateValue (sgm)

variable (m : (ℓ : Loc nD τ sig) → Buf (Elt Ideal) ℓ) (c : Dev nD)

/-- The product of the conditioning's silu, transposed, with the modulation's gradient. -/
def weightGrad (x : Fin 8 → Fin 1024 → EReal) (d : Fin 8 → Fin 1536 → EReal) (p : Fin 1024) (q : Fin 1536) : EReal :=
  ∑ k, x k p * sgm (x k p) * d k q

section
variable (x0 : Vec Ideal S8x1024 .f32) (x1 : Vec Ideal S8x1536 .f32) (p : Fin 1024) (q : Fin 1536)

theorem block2 : out0_2 x0 x1 (ix2 p q) = weightGrad (fun k p => x0 (ix2 k p)) (fun k q => x1 (ix2 k q)) p q := by
  unfold out0_2 weightGrad sgm
  frame_out
  pointwise [k0_pay1]

theorem ref2 : val_main_v4 (F := Ideal) x0 x1 (ix2 p q) = weightGrad (fun k p => x0 (ix2 k p)) (fun k q => x1 (ix2 k q)) p q := by
  unfold weightGrad
  simp only [Sigmoid.sgm_eq]
  pointwise [val_main_v4, val_main_v3, val_main_v1, val_main_call0_v5, val_main_call0_v4, val_main_call0_v3, val_main_call0_v2, val_main_call0_v1,
    val_main_call0_v0, val_main_call0_cst, val_main_call0_cst_0]
  exact Finset.sum_congr rfl fun k _ => mul_comm _ _

end

section
variable (t : Fin cfg0.N)

theorem e0 : ∀ t : Fin cfg0.N, win0_0.index t = ![0, 0] := by decide +kernel
theorem e1 : ∀ t : Fin cfg0.N, win0_1.index t = ![0, 0] := by decide +kernel
theorem e2 : ∀ t : Fin cfg0.N, win0_2.index t = ![0, 0] := by decide +kernel

theorem b0 (p : Fin 8) (q : Fin 1024) : iblk m c 0 t (ix2 p q) = m ((c.tc : Thread nD τ).loc main_arg0) (ix2 p q) := by
  blk_simp [iblk]
  refine congrArg (m ((c.tc : Thread nD τ).loc main_arg0)) (?_ : (_ : S8x1024.Idx) = _)
  refine (eq_ix2 _).trans (congrArg₂ ix2 (Fin.ext ?_) (Fin.ext ?_)) <;> blk_simp [e0]

theorem b1 (p : Fin 8) (q : Fin 1536) : iblk m c 1 t (ix2 p q) = m ((c.tc : Thread nD τ).loc main_arg1) (ix2 p q) := by
  blk_simp [iblk]
  refine congrArg (m ((c.tc : Thread nD τ).loc main_arg1)) (?_ : (_ : S8x1536.Idx) = _)
  refine (eq_ix2 _).trans (congrArg₂ ix2 (Fin.ext ?_) (Fin.ext ?_)) <;> blk_simp [e1]

end

theorem array : (dats m 0 c).arrAt 2 cfg0.N =
    val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block2 _ _ (y 0) (y 1)).trans (Eq.trans ?_
    ((congrArg _ (?_ : (_ : S1024x1536.Idx) = ix2 (y 0) (y 1))).trans (ref2 _ _ (y 0) (y 1))).symm))
  · simp only [b0, b1]
  · refine (eq_ix2 _).trans (congrArg₂ ix2 (Fin.ext ?_) (Fin.ext ?_)) <;> blk_simp [e2]

end Cert.AdaBwd

end
-- ==== Proof.Lanes.lean ====
/- The columns of the two latent projections on the lanes: each head of the query and of the key has 128 of them. -/
module

public import proofs.«01_k».proof.Proof.GatePoint

@[expose] public section

noncomputable section

namespace Cert.Lanes

open Idealize.ShloMosaic

/-- A head's 96 columns, then zeros. -/
def query (f : ℕ → EReal) (q : ℕ) : EReal := if q % 128 < 96 then f (q / 128 * 96 + q % 128) else 0

/-- A head's 64 key columns, then zeros; after the keys of all heads come their values. -/
def keyValue (f : ℕ → EReal) (q : ℕ) : EReal :=
  if q < 1024 then if q % 128 < 64 then f q else 0 else f ((q - 1024) / 64 * 128 + 64 + (q - 1024) % 64)

/-- The integer zero read as a float. -/
theorem zero_int : FloatOps.sitofp (F := Ideal) FTy.bf16 0#32 = (0 : EReal) := by
  show (((0#32 : BitVec 32).toInt : ℝ) : EReal) = 0
  simp

/-- Laying the columns out commutes with a product. -/
theorem query_sum {n : ℕ} (x : Fin n → EReal) (w : Fin n → ℕ → EReal) (q : ℕ) :
    ∑ k, x k * query (w k) q = query (fun j => ∑ k, x k * w k j) q := by
  unfold query
  split_ifs <;> simp only [mul_zero, Finset.sum_const_zero]

theorem keyValue_sum {n : ℕ} (x : Fin n → EReal) (w : Fin n → ℕ → EReal) (q : ℕ) :
    ∑ k, x k * keyValue (w k) q = keyValue (fun j => ∑ k, x k * w k j) q := by
  unfold keyValue
  split_ifs <;> simp only [mul_zero, Finset.sum_const_zero]

/-- A sum over rows of `b` each. -/
theorem sum_rows (a b : ℕ) (F : ℕ → EReal) : ∑ k : Fin (a * b), F k = ∑ i : Fin a, ∑ j : Fin b, F (j + b * i) := by
  rw [← finProdFinEquiv.sum_comp, Fintype.sum_prod_type]
  rfl

theorem drop_zero {a b : EReal} (h : b = 0) : a + b = a := by rw [h, add_zero]

/-- Against the laid out columns only the lanes that hold columns count. -/
theorem query_back (g f : ℕ → EReal) :
    ∑ k : Fin 1024, g k * query f k = ∑ j : Fin 768, g (j / 96 * 128 + j % 96) * f j := by
  refine (sum_rows 8 128 fun k => g k * query f k).trans (Eq.trans ?_ (sum_rows 8 96 fun j => g (j / 96 * 128 + j % 96) * f j).symm)
  refine Finset.sum_congr rfl fun i _ => ?_
  refine (Fin.sum_univ_add (a := 96) (b := 32) fun j : Fin (96 + 32) => g (j + 128 * i) * query f (j + 128 * i)).trans ?_
  refine (drop_zero ?_).trans ?_
  · refine Finset.sum_eq_zero fun j _ => ?_
    have hj := j.2
    unfold query
    rw [if_neg, mul_zero]
    simp only [Fin.val_natAdd]
    omega
  · refine Finset.sum_congr rfl fun j _ => ?_
    have hj := j.2
    have h : (j.val + 128 * i.val) % 128 = j.val := by omega
    have h' : (j.val + 128 * i.val) / 128 = i.val := by omega
    have h2 : (j.val + 96 * i.val) % 96 = j.val := by omega
    have h3 : (j.val + 96 * i.val) / 96 = i.val := by omega
    simp only [query, Fin.val_castAdd, h, h', h2, h3, hj, if_true]
    rw [show j.val + 128 * i.val = i.val * 128 + j.val by omega, show j.val + 96 * i.val = i.val * 96 + j.val by omega]

/-- The columns taken back off the lanes. -/
def taken (g : ℕ → EReal) (j : ℕ) : EReal := if j % 128 < 64 then g j else g (1024 + (j / 128 * 64 + (j % 128 - 64)))

theorem keyValue_back (g f : ℕ → EReal) : ∑ k : Fin 1536, g k * keyValue f k = ∑ j : Fin 1024, taken g j * f j := by
  refine (Fin.sum_univ_add (a := 1024) (b := 512) fun k : Fin (1024 + 512) => g k * keyValue f k).trans ?_
  simp only [Fin.val_castAdd, Fin.val_natAdd]
  refine (congrArg₂ (· + ·) (sum_rows 8 128 fun k => g k * keyValue f k) (sum_rows 8 64 fun k => g (1024 + k) * keyValue f (1024 + k))).trans ?_
  refine Eq.trans ?_ (sum_rows 8 128 fun j => taken g j * f j).symm
  refine Finset.sum_add_distrib.symm.trans (Finset.sum_congr rfl fun i _ => ?_)
  have hi := i.2
  refine (congrArg (· + _) (Fin.sum_univ_add (a := 64) (b := 64) fun j : Fin (64 + 64) => g (j + 128 * i) * keyValue f (j + 128 * i))).trans ?_
  refine Eq.trans ?_ (Fin.sum_univ_add (a := 64) (b := 64) fun j : Fin (64 + 64) => taken g (j + 128 * i) * f (j + 128 * i)).symm
  refine congrArg₂ (· + ·) ((drop_zero (Finset.sum_eq_zero fun j _ => ?_)).trans (Finset.sum_congr rfl fun j _ => ?_)) (Finset.sum_congr rfl fun j _ => ?_)
  all_goals have hj := j.2
  all_goals simp only [keyValue, taken, Fin.val_castAdd, Fin.val_natAdd]
  · rw [if_pos (by omega), if_neg (by omega), mul_zero]
  · rw [if_pos (by omega), if_pos (by omega), if_pos (by omega)]
  · rw [if_neg (by omega), if_neg (by omega)]
    refine congrArg₂ (· * ·) (congrArg g ?_) (congrArg f ?_) <;> omega

end Cert.Lanes

end
-- ==== Proof.MulQb.lean ====
/- The up projection of the query latent. -/
module

public import proofs.«01_k».proof.Proof.Gen.Kernel16Ideal.Value
public import proofs.«01_k».proof.Proof.Gen.Reference16Ideal.Read
public import Idealize.ShloMosaic.Lib.Pipeline.ReadBack
public import Idealize.ShloMosaic.Lib.Pipeline.ValueKit
public import Idealize.ShloMosaic.Lib.Pointwise
public import Idealize.ShloMosaic.Lib.StableHlo.ReadAt
public import proofs.«01_k».proof.Proof.Lanes

@[expose] public section

set_option maxRecDepth 16384

noncomputable section

namespace Cert.MulQb

open Cert.Kernel16Ideal Cert.Kernel16Ideal.Gen Cert.Reference16Ideal.Read Idealize.ShloMosaic Idealize.ShloMosaic.TcCoe Idealize.SL.Sem
open Idealize.ShloMosaic.Pipeline (Dat)
open Cert.GateValue (arr arr_ix2)
open Cert.Lanes

variable (m : (ℓ : Loc nD τ sig) → Buf (Elt Ideal) ℓ) (c : Dev nD)

/-- The weight with each head's columns on lanes of its own. -/
def laidW (w : Vec Ideal S512x768 .bf16) : Vec Ideal S512x1024 .bf16 :=
  shapeCast _ (pad S512x8x128 ![0, 0, 0] ![0, 0, 32] ![0, 0, 0] (shapeCast _ w shapeCasts_S512x768_S512x8x96)
    (sitofp (F := Ideal) .bf16 (constantI S_ 32 0#32) : Vec Ideal S_ .bf16) pads_S512x8x96_S512x8x128_000_000_0320 h_S_) shapeCasts_S512x8x128_S512x1024

theorem laidW_at (w : Vec Ideal S512x768 .bf16) (k : Fin 512) (q : Fin 1024) : laidW w (ix2 k q) = query (arr w k) q := by
  have h : q.val < 1024 := q.2
  pointwise [laidW]
  unfold query
  repeat' split
  all_goals first
    | omega
    | exact (arr_ix2 w k _ _ _ rfl (by dsimp only <;> omega)).symm
    | exact zero_int

theorem weight : (V m c main_v3 : S512x1024.Idx → EReal) = laidW (m ((c.tc : Thread nD τ).loc main_arg1)) := by
  unfold V
  after_reads_simp
  rfl

/-- The reference, by entry. -/
theorem ref_at (x0 : Vec Ideal S2048x512 .bf16) (x1 : Vec Ideal S512x768 .f32) (p : Fin 2048) (q : Fin 1024) :
    val_main_v5 (F := Ideal) x0 x1 (ix2 p q) = query (fun j => ∑ k : Fin 512, x0 (ix2 p k) * arr x1 k j) q := by
  have h : q.val < 1024 := q.2
  have hp : p.val < 2048 := p.2
  have h1 : (p.val * 1024 + q.val) / 1024 = p.val := by omega
  have h2 : (p.val * 1024 + q.val) / 128 % 8 = q.val / 128 := by omega
  have h3 : (p.val * 1024 + q.val) % 128 = q.val % 128 := by omega
  rw [val_main_v5_apply]
  unfold val_main_v4
  pointwise
  simp only [query, h1, h2, h3]
  split_ifs with h4
  · rw [val_main_v2_apply, val_main_v1_apply]
    refine Finset.sum_congr rfl fun k _ => congrArg₂ (· * ·) (congrArg x0 ((eq_ix2 _).trans (congrArg₂ ix2 (Fin.ext ?_) rfl)))
      ((congrArg x1 (eq_ix2 _)).trans (arr_ix2 x1 _ _ _ _ rfl ?_).symm)
    · show ((p.val * 8 + q.val / 128) * 96 + q.val % 128) / 768 = p.val
      omega
    · show q.val / 128 * 96 + q.val % 128 = ((p.val * 8 + q.val / 128) * 96 + q.val % 128) % 768
      omega
  all_goals exact (val_main_v3_apply _).trans (Idealize.ShloMosaic.Ideal.ofBits_zero .f32)

/-- What one grid point writes: the product of its two blocks. -/
theorem block (x0 : Vec Ideal S1024x512 .bf16) (x1 : Vec Ideal S512x1024 .bf16) (p : Fin 1024) (q : Fin 1024) :
    out0_2 x0 x1 (ix2 p q) = ∑ k : Fin 512, x0 (ix2 p k) * x1 (ix2 k q) := by
  unfold out0_2
  frame_out
  pointwise [k0_pay1]

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

/-- The result is the reference's. -/
theorem array : (dats m 0 c).arrAt 2 cfg0.N = val_main_v5 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  refine Eq.trans ?_ (congrArg (val_main_v5 (F := Ideal) _ _) (eq_ix2 _)).symm
  refine Eq.trans ?_ (ref_at _ _ _ _).symm
  refine Eq.trans ?_ (query_sum _ _ _)
  refine Finset.sum_congr rfl fun k _ => ?_
  blk_simp [iblk]
  refine congrArg₂ (· * ·) (congrArg (m ((c.tc : Thread nD τ).loc main_arg0)) ((eq_ix2 _).trans (congrArg₂ ix2 (Fin.ext ?_) (Fin.ext ?_)))) ?_
  · blk_simp [e0, e2]
  · blk_simp [e0]
  · rw [weight]
    refine ((congrArg (laidW _) ((eq_ix2 _).trans (congrArg₂ ix2 (Fin.ext ?_) (Fin.ext ?_)))).trans (laidW_at _ k (y 1))).trans
      (congrArg (query _) ?_) <;> blk_simp [e1, e2]

end Cert.MulQb

end
-- ==== Proof.MulKvb.lean ====
/- The up projection of the key and value latent. -/
module

public import proofs.«01_k».proof.Proof.Gen.Kernel17Ideal.Value
public import proofs.«01_k».proof.Proof.Gen.Reference17Ideal.Read
public import Idealize.ShloMosaic.Lib.Pipeline.ReadBack
public import Idealize.ShloMosaic.Lib.Pipeline.ValueKit
public import Idealize.ShloMosaic.Lib.Pointwise
public import Idealize.ShloMosaic.Lib.StableHlo.ReadAt
public import proofs.«01_k».proof.Proof.Lanes

@[expose] public section

set_option maxRecDepth 16384

noncomputable section

namespace Cert.MulKvb

open Cert.Kernel17Ideal Cert.Kernel17Ideal.Gen Cert.Reference17Ideal.Read Idealize.ShloMosaic Idealize.ShloMosaic.TcCoe Idealize.SL.Sem
open Idealize.ShloMosaic.Pipeline (Dat)
open Cert.GateValue (arr arr_ix2)
open Cert.Lanes

variable (m : (ℓ : Loc nD τ sig) → Buf (Elt Ideal) ℓ) (c : Dev nD)

/-- The weight with the keys' columns on lanes of their own, then the values' columns. -/
def laidW (w : Vec Ideal S256x1024 .bf16) : Vec Ideal S256x1536 .bf16 :=
  concatenate S256x1536 1 [⟨S256x1024, shapeCast _ (pad S256x8x128 ![0, 0, 0] ![0, 0, 64] ![0, 0, 0]
      (extractStridedSlice S256x8x64 ![0, 0, 0] (shapeCast S256x8x128 w shapeCasts_S256x1024_S256x8x128) slices_S256x8x128_S256x8x64_0_0_0)
      (sitofp (F := Ideal) .bf16 (constantI S_ 32 0#32) : Vec Ideal S_ .bf16) pads_S256x8x64_S256x8x128_000_000_0640 h_S_) shapeCasts_S256x8x128_S256x1024⟩,
    ⟨S256x512, shapeCast S256x512 (extractStridedSlice S256x8x64 ![0, 0, 64] (shapeCast S256x8x128 w shapeCasts_S256x1024_S256x8x128)
      slices_S256x8x128_S256x8x64_0_0_64) shapeCasts_S256x8x64_S256x512⟩] concatenates_S256x1024_S256x512_S256x1536_d1

theorem laidW_at (w : Vec Ideal S256x1024 .bf16) (k : Fin 256) (q : Fin 1536) : laidW w (ix2 k q) = keyValue (arr w k) q := by
  have h : q.val < 1536 := q.2
  pointwise [laidW]
  unfold keyValue
  repeat' split
  all_goals first
    | omega
    | exact (arr_ix2 w k _ _ _ rfl (by dsimp only <;> omega)).symm
    | exact zero_int

theorem weight : (V m c main_v7 : S256x1536.Idx → EReal) = laidW (m ((c.tc : Thread nD τ).loc main_arg1)) := by
  unfold V
  after_reads_simp
  rfl

/-- The reference, by entry. -/
theorem ref_at (x0 : Vec Ideal S2048x256 .bf16) (x1 : Vec Ideal S256x1024 .f32) (p : Fin 2048) (q : Fin 1536) :
    val_main_v9 (F := Ideal) x0 x1 (ix2 p q) = keyValue (fun j => ∑ k : Fin 256, x0 (ix2 p k) * arr x1 k j) q := by
  have h : q.val < 1536 := q.2
  have hp : p.val < 2048 := p.2
  pointwise [val_main_v9]
  unfold keyValue
  split_ifs with h1 h2 h2
  · rw [val_main_v7_apply]
    unfold val_main_v6
    pointwise
    have h3 : (p.val * 1024 + q.val) / 1024 = p.val := by omega
    have h4 : (p.val * 1024 + q.val) / 128 % 8 = q.val / 128 := by omega
    have h5 : (p.val * 1024 + q.val) % 128 = q.val % 128 := by omega
    simp only [h3, h4, h5]
    rw [dif_pos h2]
    refine (val_main_v3_apply ..).trans ((val_main_v2_apply ..).trans ((val_main_v1_apply ..).trans ?_))
    refine Finset.sum_congr rfl fun k _ => congrArg₂ (· * ·) (congrArg x0 ((eq_ix2 _).trans (congrArg₂ ix2 (Fin.ext ?_) rfl)))
      ((congrArg x1 (eq_ix2 _)).trans (arr_ix2 x1 _ _ _ _ rfl ?_).symm)
    · show ((p.val * 8 + q.val / 128) * 128 + q.val % 128) / 1024 = p.val
      omega
    · show q.val = ((p.val * 8 + q.val / 128) * 128 + q.val % 128) % 1024
      omega
  · rw [val_main_v7_apply]
    unfold val_main_v6
    pointwise
    rw [dif_neg (by omega), val_main_v5_apply]
    exact Idealize.ShloMosaic.Ideal.ofBits_zero .f32
  · rw [val_main_v8_apply]
    refine (val_main_v4_apply ..).trans ((val_main_v2_apply ..).trans ((val_main_v1_apply ..).trans ?_))
    refine Finset.sum_congr rfl fun k _ => congrArg₂ (· * ·) (congrArg x0 ((eq_ix2 _).trans (congrArg₂ ix2 (Fin.ext ?_) rfl)))
      ((congrArg x1 (eq_ix2 _)).trans (arr_ix2 x1 _ _ _ _ rfl ?_).symm)
    · show ((((p.val * 512 + (q.val - 1024)) / 512) * 8 + (p.val * 512 + (q.val - 1024)) / 64 % 8) * 128
        + (64 + (p.val * 512 + (q.val - 1024)) % 64)) / 1024 = p.val
      omega
    · show (q.val - 1024) / 64 * 128 + 64 + (q.val - 1024) % 64 = ((((p.val * 512 + (q.val - 1024)) / 512) * 8
        + (p.val * 512 + (q.val - 1024)) / 64 % 8) * 128 + (64 + (p.val * 512 + (q.val - 1024)) % 64)) % 1024
      omega
  · exact absurd rfl ‹_›

/-- What one grid point writes: the product of its two blocks. -/
theorem block (x0 : Vec Ideal S1024x256 .bf16) (x1 : Vec Ideal S256x1536 .bf16) (p : Fin 1024) (q : Fin 1536) :
    out0_2 x0 x1 (ix2 p q) = ∑ k : Fin 256, x0 (ix2 p k) * x1 (ix2 k q) := by
  unfold out0_2
  frame_out
  pointwise [k0_pay1]

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

/-- The result is the reference's. -/
theorem array : (dats m 0 c).arrAt 2 cfg0.N = val_main_v9 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  refine Eq.trans ?_ (congrArg (val_main_v9 (F := Ideal) _ _) (eq_ix2 _)).symm
  refine Eq.trans ?_ (ref_at _ _ _ _).symm
  refine Eq.trans ?_ (keyValue_sum _ _ _)
  refine Finset.sum_congr rfl fun k _ => ?_
  blk_simp [iblk]
  refine congrArg₂ (· * ·) (congrArg (m ((c.tc : Thread nD τ).loc main_arg0)) ((eq_ix2 _).trans (congrArg₂ ix2 (Fin.ext ?_) (Fin.ext ?_)))) ?_
  · blk_simp [e0, e2]
  · blk_simp [e0]
  · rw [weight]
    refine ((congrArg (laidW _) ((eq_ix2 _).trans (congrArg₂ ix2 (Fin.ext ?_) (Fin.ext ?_)))).trans (laidW_at _ k (y 1))).trans
      (congrArg (keyValue _) ?_) <;> blk_simp [e1, e2]

end Cert.MulKvb

end
-- ==== Proof.MulQbDx.lean ====
/- The gradient of the query latent. -/
module

public import proofs.«01_k».proof.Proof.Gen.Kernel18Ideal.Value
public import proofs.«01_k».proof.Proof.Gen.Reference18Ideal.Read
public import Idealize.ShloMosaic.Lib.Pipeline.ReadBack
public import Idealize.ShloMosaic.Lib.Pipeline.ValueKit
public import Idealize.ShloMosaic.Lib.Pointwise
public import Idealize.ShloMosaic.Lib.StableHlo.ReadAt
public import proofs.«01_k».proof.Proof.Lanes

@[expose] public section

set_option maxRecDepth 16384

noncomputable section

namespace Cert.MulQbDx

open Cert.Kernel18Ideal Cert.Kernel18Ideal.Gen Cert.Reference18Ideal.Read Idealize.ShloMosaic Idealize.ShloMosaic.TcCoe Idealize.SL.Sem
open Idealize.ShloMosaic.Pipeline (Dat)
open Cert.GateValue (arr arr_ix2)
open Cert.Lanes

variable (m : (ℓ : Loc nD τ sig) → Buf (Elt Ideal) ℓ) (c : Dev nD)

/-- The weight with each head's columns on lanes of its own. -/
def laidW (w : Vec Ideal S512x768 .bf16) : Vec Ideal S512x1024 .bf16 :=
  shapeCast _ (pad S512x8x128 ![0, 0, 0] ![0, 0, 32] ![0, 0, 0] (shapeCast _ w shapeCasts_S512x768_S512x8x96)
    (sitofp (F := Ideal) .bf16 (constantI S_ 32 0#32) : Vec Ideal S_ .bf16) pads_S512x8x96_S512x8x128_000_000_0320 h_S_) shapeCasts_S512x8x128_S512x1024

theorem laidW_at (w : Vec Ideal S512x768 .bf16) (k : Fin 512) (q : Fin 1024) : laidW w (ix2 k q) = query (arr w k) q := by
  have h : q.val < 1024 := q.2
  pointwise [laidW]
  unfold query
  repeat' split
  all_goals first
    | omega
    | exact (arr_ix2 w k _ _ _ rfl (by dsimp only <;> omega)).symm
    | exact zero_int

theorem weight : (V m c main_v3 : S512x1024.Idx → EReal) = laidW (m ((c.tc : Thread nD τ).loc main_arg0)) := by
  unfold V
  after_reads_simp
  rfl

/-- The reference, by entry. -/
theorem ref_at (x0 : Vec Ideal S512x768 .f32) (x1 : Vec Ideal S2048x1024 .bf16) (p : Fin 2048) (q : Fin 512) :
    val_main_v12 (F := Ideal) x0 x1 (ix2 p q) = ∑ k : Fin 1024, x1 (ix2 p k) * query (arr x0 q) k := by
  refine Eq.trans ?_ ((Finset.sum_congr rfl fun k _ => congrArg (· * _) (arr_ix2 x1 p k _ _ rfl rfl).symm).trans (query_back (arr x1 p) _)).symm
  rw [val_main_v12_apply]
  refine Finset.sum_congr rfl fun j _ => congrArg₂ (· * ·) ?_ ((congrArg x0 (eq_ix2 _)).trans (arr_ix2 x0 _ _ _ _ rfl rfl).symm)
  have hj := j.2
  have hp := p.2
  refine (val_main_v11_apply ..).trans ((val_main_v9_apply ..).trans ((val_main_v8_apply ..).trans ((congrArg x1 (eq_ix2 _)).trans (arr_ix2 x1 _ _ _ _ ?_ ?_).symm)))
  · show p.val = (((p.val * 768 + j.val) / 768 * 8 + (p.val * 768 + j.val) / 96 % 8) * 128 + (p.val * 768 + j.val) % 96) / 1024
    omega
  · show j.val / 96 * 128 + j.val % 96
      = (((p.val * 768 + j.val) / 768 * 8 + (p.val * 768 + j.val) / 96 % 8) * 128 + (p.val * 768 + j.val) % 96) % 1024
    omega

/-- What one grid point writes: the product of its two blocks. -/
theorem block (x0 : Vec Ideal S1024x1024 .bf16) (x1 : Vec Ideal S512x1024 .bf16) (p : Fin 1024) (q : Fin 512) :
    out0_2 x0 x1 (ix2 p q) = ∑ k : Fin 1024, x0 (ix2 p k) * x1 (ix2 q k) := by
  unfold out0_2
  frame_out
  pointwise [k0_pay1]

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

/-- The result is the reference's. -/
theorem array : (dats m 0 c).arrAt 2 cfg0.N = val_main_v12 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  refine Eq.trans ?_ (congrArg (val_main_v12 (F := Ideal) _ _) (eq_ix2 _)).symm
  refine Eq.trans ?_ (ref_at _ _ _ _).symm
  refine Finset.sum_congr rfl fun k _ => ?_
  blk_simp [iblk]
  refine congrArg₂ (· * ·) (congrArg (m ((c.tc : Thread nD τ).loc main_arg1)) ((eq_ix2 _).trans (congrArg₂ ix2 (Fin.ext ?_) (Fin.ext ?_)))) ?_
  · blk_simp [e0, e2]
  · blk_simp [e0]
  · rw [weight]
    refine ((congrArg (laidW _) ((eq_ix2 _).trans (congrArg₂ ix2 (Fin.ext ?_) (Fin.ext ?_)))).trans (laidW_at _ (y 1) k)).trans
      (congrArg (fun r => query (arr (m ((c.tc : Thread nD τ).loc main_arg0)) r) k) ?_) <;> blk_simp [e1, e2]

end Cert.MulQbDx

end
-- ==== Proof.MulKvbDx.lean ====
/- The gradient of the key and value latent. -/
module

public import proofs.«01_k».proof.Proof.Gen.Kernel19Ideal.Value
public import proofs.«01_k».proof.Proof.Gen.Reference19Ideal.Read
public import Idealize.ShloMosaic.Lib.Pipeline.ReadBack
public import Idealize.ShloMosaic.Lib.Pipeline.ValueKit
public import Idealize.ShloMosaic.Lib.Pointwise
public import Idealize.ShloMosaic.Lib.StableHlo.ReadAt
public import proofs.«01_k».proof.Proof.Lanes

@[expose] public section

set_option maxRecDepth 16384

noncomputable section

namespace Cert.MulKvbDx

open Cert.Kernel19Ideal Cert.Kernel19Ideal.Gen Cert.Reference19Ideal.Read Idealize.ShloMosaic Idealize.ShloMosaic.TcCoe Idealize.SL.Sem
open Idealize.ShloMosaic.Pipeline (Dat)
open Cert.GateValue (arr arr_ix2)
open Cert.Lanes

variable (m : (ℓ : Loc nD τ sig) → Buf (Elt Ideal) ℓ) (c : Dev nD)

/-- The weight with the keys' columns on lanes of their own, then the values' columns. -/
def laidW (w : Vec Ideal S256x1024 .bf16) : Vec Ideal S256x1536 .bf16 :=
  concatenate S256x1536 1 [⟨S256x1024, shapeCast _ (pad S256x8x128 ![0, 0, 0] ![0, 0, 64] ![0, 0, 0]
      (extractStridedSlice S256x8x64 ![0, 0, 0] (shapeCast S256x8x128 w shapeCasts_S256x1024_S256x8x128) slices_S256x8x128_S256x8x64_0_0_0)
      (sitofp (F := Ideal) .bf16 (constantI S_ 32 0#32) : Vec Ideal S_ .bf16) pads_S256x8x64_S256x8x128_000_000_0640 h_S_) shapeCasts_S256x8x128_S256x1024⟩,
    ⟨S256x512, shapeCast S256x512 (extractStridedSlice S256x8x64 ![0, 0, 64] (shapeCast S256x8x128 w shapeCasts_S256x1024_S256x8x128)
      slices_S256x8x128_S256x8x64_0_0_64) shapeCasts_S256x8x64_S256x512⟩] concatenates_S256x1024_S256x512_S256x1536_d1

theorem laidW_at (w : Vec Ideal S256x1024 .bf16) (k : Fin 256) (q : Fin 1536) : laidW w (ix2 k q) = keyValue (arr w k) q := by
  have h : q.val < 1536 := q.2
  pointwise [laidW]
  unfold keyValue
  repeat' split
  all_goals first
    | omega
    | exact (arr_ix2 w k _ _ _ rfl (by dsimp only <;> omega)).symm
    | exact zero_int

theorem weight : (V m c main_v7 : S256x1536.Idx → EReal) = laidW (m ((c.tc : Thread nD τ).loc main_arg0)) := by
  unfold V
  after_reads_simp
  rfl

/-- The reference, by entry. -/
theorem ref_at (x0 : Vec Ideal S256x1024 .f32) (x1 : Vec Ideal S2048x1536 .bf16) (p : Fin 2048) (q : Fin 256) :
    val_main_v20 (F := Ideal) x0 x1 (ix2 p q) = ∑ k : Fin 1536, x1 (ix2 p k) * keyValue (arr x0 q) k := by
  refine Eq.trans ?_ ((Finset.sum_congr rfl fun k _ => congrArg (· * _) (arr_ix2 x1 p k _ _ rfl rfl).symm).trans (keyValue_back (arr x1 p) _)).symm
  rw [val_main_v20_apply]
  refine Finset.sum_congr rfl fun j _ => congrArg₂ (· * ·) ?_ ((congrArg x0 (eq_ix2 _)).trans (arr_ix2 x0 _ _ _ _ rfl rfl).symm)
  have hj := j.2
  have hp := p.2
  rw [val_main_v19_apply]
  unfold val_main_v18
  pointwise
  have h1 : (p.val * 1024 + j.val) / 1024 = p.val := by omega
  have h2 : (p.val * 1024 + j.val) / 128 % 8 = j.val / 128 := by omega
  have h3 : (p.val * 1024 + j.val) % 128 = j.val % 128 := by omega
  simp only [taken, h1, h2, h3]
  split_ifs
  · refine (val_main_v16_apply ..).trans ((val_main_v15_apply ..).trans ((val_main_v12_apply ..).trans ((congrArg x1 (eq_ix2 _)).trans (arr_ix2 x1 _ _ _ _ ?_ ?_).symm)))
    · show p.val = ((p.val * 8 + j.val / 128) * 128 + j.val % 128) / 1024
      omega
    · show j.val = ((p.val * 8 + j.val / 128) * 128 + j.val % 128) % 1024
      omega
  all_goals
    refine (val_main_v14_apply ..).trans ((val_main_v13_apply ..).trans ((congrArg x1 (eq_ix2 _)).trans (arr_ix2 x1 _ _ _ _ ?_ ?_).symm))
    · show p.val = ((p.val * 8 + j.val / 128) * 64 + (j.val % 128 - 64)) / 512
      omega
    · show 1024 + (j.val / 128 * 64 + (j.val % 128 - 64)) = 1024 + ((p.val * 8 + j.val / 128) * 64 + (j.val % 128 - 64)) % 512
      omega

/-- What one grid point writes: the product of its two blocks. -/
theorem block (x0 : Vec Ideal S1024x1536 .bf16) (x1 : Vec Ideal S256x1536 .bf16) (p : Fin 1024) (q : Fin 256) :
    out0_2 x0 x1 (ix2 p q) = ∑ k : Fin 1536, x0 (ix2 p k) * x1 (ix2 q k) := by
  unfold out0_2
  frame_out
  pointwise [k0_pay1]

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

/-- The result is the reference's. -/
theorem array : (dats m 0 c).arrAt 2 cfg0.N = val_main_v20 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  refine Eq.trans ?_ (congrArg (val_main_v20 (F := Ideal) _ _) (eq_ix2 _)).symm
  refine Eq.trans ?_ (ref_at _ _ _ _).symm
  refine Finset.sum_congr rfl fun k _ => ?_
  blk_simp [iblk]
  refine congrArg₂ (· * ·) (congrArg (m ((c.tc : Thread nD τ).loc main_arg1)) ((eq_ix2 _).trans (congrArg₂ ix2 (Fin.ext ?_) (Fin.ext ?_)))) ?_
  · blk_simp [e0, e2]
  · blk_simp [e0]
  · rw [weight]
    refine ((congrArg (laidW _) ((eq_ix2 _).trans (congrArg₂ ix2 (Fin.ext ?_) (Fin.ext ?_)))).trans (laidW_at _ (y 1) k)).trans
      (congrArg (fun r => keyValue (arr (m ((c.tc : Thread nD τ).loc main_arg0)) r) k) ?_) <;> blk_simp [e1, e2]

end Cert.MulKvbDx

end
-- ==== Proof.MulQbDw.lean ====
/- The gradient of the query projection's weight. -/
module

public import proofs.«01_k».proof.Proof.Gen.Kernel20Ideal.Value
public import proofs.«01_k».proof.Proof.Gen.Reference20Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MulQbDw

open Cert.Kernel20Ideal Cert.Kernel20Ideal.Gen Cert.Reference20Ideal.Read Idealize.ShloMosaic Idealize.ShloMosaic.TcCoe Idealize.SL.Sem
open Idealize.ShloMosaic.Pipeline (Dat)

variable (m : (ℓ : Loc nD τ sig) → Buf (Elt Ideal) ℓ) (c : Dev nD)

/-- What one grid point writes: the product of its two blocks. -/
theorem block (x0 : Vec Ideal S2048x512 .bf16) (x1 : Vec Ideal S2048x1024 .bf16) (p : Fin 512) (q : Fin 1024) :
    out0_2 x0 x1 (ix2 p q) = ∑ k : Fin 2048, x0 (ix2 k p) * x1 (ix2 k q) := by
  unfold out0_2
  frame_out
  pointwise [k0_pay1]

theorem e0 : ∀ t : Fin cfg0.N, win0_0.index t = ![0, 0] := by decide +kernel
theorem e1 : ∀ t : Fin cfg0.N, win0_1.index t = ![0, 0] := by decide +kernel
theorem e2 : ∀ t : Fin cfg0.N, win0_2.index t = ![0, 0] := by decide +kernel

/-- The result is the reference's product of the whole arrays. -/
theorem array : (dats m 0 c).arrAt 2 cfg0.N = val_main_v5 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  rw [val_main_v5_apply, val_main_v4_apply]
  refine Finset.sum_congr rfl fun k _ => Eq.trans ?_ (mul_comm _ _)
  blk_simp [iblk]
  refine congrArg₂ (· * ·) (congrArg (m ((c.tc : Thread nD τ).loc main_arg0)) (?_ : (_ : S2048x512.Idx) = _))
    (congrArg (m ((c.tc : Thread nD τ).loc main_arg1)) (?_ : (_ : S2048x1024.Idx) = _)) <;>
  · refine (eq_ix2 _).trans (Eq.trans ?_ (eq_ix2 _).symm)
    congr 1 <;> apply Fin.ext <;> blk_simp [e0, e1, e2]

end Cert.MulQbDw

end
-- ==== Proof.MulKvbDw.lean ====
/- The gradient of the key and value projection's weight. -/
module

public import proofs.«01_k».proof.Proof.Gen.Kernel21Ideal.Value
public import proofs.«01_k».proof.Proof.Gen.Reference21Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MulKvbDw

open Cert.Kernel21Ideal Cert.Kernel21Ideal.Gen Cert.Reference21Ideal.Read Idealize.ShloMosaic Idealize.ShloMosaic.TcCoe Idealize.SL.Sem
open Idealize.ShloMosaic.Pipeline (Dat)

variable (m : (ℓ : Loc nD τ sig) → Buf (Elt Ideal) ℓ) (c : Dev nD)

/-- What one grid point writes: the product of its two blocks. -/
theorem block (x0 : Vec Ideal S2048x256 .bf16) (x1 : Vec Ideal S2048x1536 .bf16) (p : Fin 256) (q : Fin 1536) :
    out0_2 x0 x1 (ix2 p q) = ∑ k : Fin 2048, x0 (ix2 k p) * x1 (ix2 k q) := by
  unfold out0_2
  frame_out
  pointwise [k0_pay1]

theorem e0 : ∀ t : Fin cfg0.N, win0_0.index t = ![0, 0] := by decide +kernel
theorem e1 : ∀ t : Fin cfg0.N, win0_1.index t = ![0, 0] := by decide +kernel
theorem e2 : ∀ t : Fin cfg0.N, win0_2.index t = ![0, 0] := by decide +kernel

/-- The result is the reference's product of the whole arrays. -/
theorem array : (dats m 0 c).arrAt 2 cfg0.N = val_main_v5 (F := Ideal)
    (m ((c.tc : Thread nD τ).loc main_arg0)) (m ((c.tc : Thread nD τ).loc main_arg1)) := by
  refine (dats m 0 c).arrAt_eq_of_covers 2 _ (by decide +kernel) fun t hf y => ?_
  blk_simp [e2]
  rw [after0_2]
  refine (congrArg _ (eq_ix2 y)).trans ((block _ _ (y 0) (y 1)).trans ?_)
  rw [val_main_v5_apply, val_main_v4_apply]
  refine Finset.sum_congr rfl fun k _ => Eq.trans ?_ (mul_comm _ _)
  blk_simp [iblk]
  refine congrArg₂ (· * ·) (congrArg (m ((c.tc : Thread nD τ).loc main_arg0)) (?_ : (_ : S2048x256.Idx) = _))
    (congrArg (m ((c.tc : Thread nD τ).loc main_arg1)) (?_ : (_ : S2048x1536.Idx) = _)) <;>
  · refine (eq_ix2 _).trans (Eq.trans ?_ (eq_ix2 _).symm)
    congr 1 <;> apply Fin.ext <;> blk_simp [e0, e1, e2]

end Cert.MulKvbDw

end
-- ==== Proof.Adam.lean ====
/- One entry of the optimiser's step. -/
module

public import proofs.«01_k».proof.Proof.GatePoint

@[expose] public section

noncomputable section

namespace Cert.Adam

open Idealize.ShloMosaic

/-- The word of a constant. -/
abbrev lit (w : BitVec 32) : EReal := Ideal.ofBits .f32 w

/-- The new first moment. -/
def first (g m : EReal) : EReal := lit 0x3F666666#32 * m + lit 0x3DCCCCCD#32 * g

/-- The new second moment. -/
def second (g v : EReal) : EReal := lit 0x3F7FBE77#32 * v + lit 0x3A83126F#32 * (g * g)

/-- The weight's change. -/
def change (w g m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

end Cert.Adam

end
-- ==== Proof.AdamWAda.lean ====
/- The optimiser step of `w_ada`. -/
module

public import proofs.«01_k».proof.Proof.Gen.Kernel30Ideal.Value
public import proofs.«01_k».proof.Proof.Gen.Reference30Ideal.Read
public import Idealize.ShloMosaic.Lib.Pipeline.ReadBack
public import Idealize.ShloMosaic.Lib.Pipeline.ValueKit
public import Idealize.ShloMosaic.Lib.Pointwise
public import proofs.«01_k».proof.Proof.Adam

@[expose] public section

set_option maxRecDepth 16384

noncomputable section

namespace Cert.AdamWAda

open Cert.Kernel30Ideal Cert.Kernel30Ideal.Gen Cert.Reference30Ideal.Read Idealize.ShloMosaic Idealize.ShloMosaic.TcCoe Idealize.SL.Sem
open Idealize.ShloMosaic.Pipeline (Dat)
open Cert.Adam

variable (m : (ℓ : Loc nD τ sig) → Buf (Elt Ideal) ℓ) (c : Dev nD)

section
variable (x0 x1 x2 x3 : Vec Ideal S256x1536 .f32) (p : Fin 256) (q : Fin 1536)

theorem block4 : out0_4 x0 x1 x2 x3 (ix2 p q) = change (x0 (ix2 p q)) (x1 (ix2 p q)) (x2 (ix2 p q)) (x3 (ix2 p q)) := by
  unfold out0_4
  frame_out
  rfl

theorem block5 : out0_5 x0 x1 x2 x3 (ix2 p q) = first (x1 (ix2 p q)) (x2 (ix2 p q)) := by
  unfold out0_5
  frame_out
  rfl

theorem block6 : out0_6 x0 x1 x2 x3 (ix2 p q) = second (x1 (ix2 p q)) (x3 (ix2 p q)) := by
  unfold out0_6
  frame_out
  rfl

end

section
variable (x0 x1 x2 x3 : Vec Ideal S1024x1536 .f32) (i : S1024x1536.Idx)

theorem ref4 : val_main_v23 (F := Ideal) x0 x1 x2 x3 i = change (x0 i) (x1 i) (x2 i) (x3 i) := rfl

theorem ref5 : val_main_v4 (F := Ideal) x1 x2 i = first (x1 i) (x2 i) := rfl

theorem ref6 : val_main_v10 (F := Ideal) x1 x3 i = second (x1 i) (x3 i) := rfl

end

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel

/-- The weight's change. -/
theorem array4 : (dats m 0 c).arrAt 4 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp [e4]
  rw [after0_4]
  refine (congrArg _ (eq_ix2 y)).trans ((block4 _ _ _ _ (y 0) (y 1)).trans ?_)
  refine Eq.trans ?_ (ref4 _ _ _ _ _).symm
  refine congr (congr (congrArg₂ change ?_ ?_) ?_) ?_
  · blk_simp [iblk]
    exact congrArg (m ((c.tc : Thread nD τ).loc main_arg0)) ((eq_ix2 _).trans ((congrArg₂ ix2 (Fin.ext (by blk_simp [e0, e4])) (Fin.ext (by blk_simp [e0, e4]))).trans (eq_ix2 _).symm))
  · blk_simp [iblk]
    exact congrArg (m ((c.tc : Thread nD τ).loc main_arg1)) ((eq_ix2 _).trans ((congrArg₂ ix2 (Fin.ext (by blk_simp [e1, e4])) (Fin.ext (by blk_simp [e1, e4]))).trans (eq_ix2 _).symm))
  · blk_simp [iblk]
    exact congrArg (m ((c.tc : Thread nD τ).loc main_arg2)) ((eq_ix2 _).trans ((congrArg₂ ix2 (Fin.ext (by blk_simp [e2, e4])) (Fin.ext (by blk_simp [e2, e4]))).trans (eq_ix2 _).symm))
  · blk_simp [iblk]
    exact congrArg (m ((c.tc : Thread nD τ).loc main_arg3)) ((eq_ix2 _).trans ((congrArg₂ ix2 (Fin.ext (by blk_simp [e3, e4])) (Fin.ext (by blk_simp [e3, e4]))).trans (eq_ix2 _).symm))

/-- The first moment. -/
theorem array5 : (dats m 0 c).arrAt 5 cfg0.N = val_main_v4 (F := Ideal) (m ((c.tc : Thread nD τ).loc main_arg1)) (m ((c.tc : Thread nD τ).loc main_arg2)) := by
  refine (dats m 0 c).arrAt_eq_of_covers 5 _ (by decide +kernel) fun t hf y => ?_
  blk_simp [e5]
  rw [after0_5]
  refine (congrArg _ (eq_ix2 y)).trans ((block5 _ _ _ _ (y 0) (y 1)).trans ?_)
  refine Eq.trans ?_ (ref5 _ _ _).symm
  refine congrArg₂ first ?_ ?_
  · blk_simp [iblk]
    exact congrArg (m ((c.tc : Thread nD τ).loc main_arg1)) ((eq_ix2 _).trans ((congrArg₂ ix2 (Fin.ext (by blk_simp [e1, e5])) (Fin.ext (by blk_simp [e1, e5]))).trans (eq_ix2 _).symm))
  · blk_simp [iblk]
    exact congrArg (m ((c.tc : Thread nD τ).loc main_arg2)) ((eq_ix2 _).trans ((congrArg₂ ix2 (Fin.ext (by blk_simp [e2, e5])) (Fin.ext (by blk_simp [e2, e5]))).trans (eq_ix2 _).symm))

/-- The second moment. -/
theorem array6 : (dats m 0 c).arrAt 6 cfg0.N = val_main_v10 (F := Ideal) (m ((c.tc : Thread nD τ).loc main_arg1)) (m ((c.tc : Thread nD τ).loc main_arg3)) := by
  refine (dats m 0 c).arrAt_eq_of_covers 6 _ (by decide +kernel) fun t hf y => ?_
  blk_simp [e6]
  rw [after0_6]
  refine (congrArg _ (eq_ix2 y)).trans ((block6 _ _ _ _ (y 0) (y 1)).trans ?_)
  refine Eq.trans ?_ (ref6 _ _ _).symm
  refine congrArg₂ second ?_ ?_
  · blk_simp [iblk]
    exact congrArg (m ((c.tc : Thread nD τ).loc main_arg1)) ((eq_ix2 _).trans ((congrArg₂ ix2 (Fin.ext (by blk_simp [e1, e6])) (Fin.ext (by blk_simp [e1, e6]))).trans (eq_ix2 _).symm))
  · blk_simp [iblk]
    exact congrArg (m ((c.tc : Thread nD τ).loc main_arg3)) ((eq_ix2 _).trans ((congrArg₂ ix2 (Fin.ext (by blk_simp [e3, e6])) (Fin.ext (by blk_simp [e3, e6]))).trans (eq_ix2 _).symm))

end Cert.AdamWAda

end
-- ==== Proof.AdamWIn.lean ====
/- The optimiser step of `w_in`. -/
module

public import proofs.«01_k».proof.Proof.Gen.Kernel31Ideal.Value
public import proofs.«01_k».proof.Proof.Gen.Reference31Ideal.Read
public import Idealize.ShloMosaic.Lib.Pipeline.ReadBack
public import Idealize.ShloMosaic.Lib.Pipeline.ValueKit
public import Idealize.ShloMosaic.Lib.Pointwise
public import proofs.«01_k».proof.Proof.Adam

@[expose] public section

set_option maxRecDepth 16384

noncomputable section

namespace Cert.AdamWIn

open Cert.Kernel31Ideal Cert.Kernel31Ideal.Gen Cert.Reference31Ideal.Read Idealize.ShloMosaic Idealize.ShloMosaic.TcCoe Idealize.SL.Sem
open Idealize.ShloMosaic.Pipeline (Dat)
open Cert.Adam

variable (m : (ℓ : Loc nD τ sig) → Buf (Elt Ideal) ℓ) (c : Dev nD)

section
variable (x0 x1 x2 x3 : Vec Ideal S584x1024 .f32) (p : Fin 584) (q : Fin 1024)

theorem block4 : out0_4 x0 x1 x2 x3 (ix2 p q) = change (x0 (ix2 p q)) (x1 (ix2 p q)) (x2 (ix2 p q)) (x3 (ix2 p q)) := by
  unfold out0_4
  frame_out
  rfl

theorem block5 : out0_5 x0 x1 x2 x3 (ix2 p q) = first (x1 (ix2 p q)) (x2 (ix2 p q)) := by
  unfold out0_5
  frame_out
  rfl

theorem block6 : out0_6 x0 x1 x2 x3 (ix2 p q) = second (x1 (ix2 p q)) (x3 (ix2 p q)) := by
  unfold out0_6
  frame_out
  rfl

end

section
variable (x0 x1 x2 x3 : Vec Ideal S584x1024 .f32) (i : S584x1024.Idx)

theorem ref4 : val_main_v23 (F := Ideal) x0 x1 x2 x3 i = change (x0 i) (x1 i) (x2 i) (x3 i) := rfl

theorem ref5 : val_main_v4 (F := Ideal) x1 x2 i = first (x1 i) (x2 i) := rfl

theorem ref6 : val_main_v10 (F := Ideal) x1 x3 i = second (x1 i) (x3 i) := rfl

end

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel

/-- The weight's change. -/
theorem array4 : (dats m 0 c).arrAt 4 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp [e4]
  rw [after0_4]
  refine (congrArg _ (eq_ix2 y)).trans ((block4 _ _ _ _ (y 0) (y 1)).trans ?_)
  refine Eq.trans ?_ (ref4 _ _ _ _ _).symm
  refine congr (congr (congrArg₂ change ?_ ?_) ?_) ?_
  · blk_simp [iblk]
    exact congrArg (m ((c.tc : Thread nD τ).loc main_arg0)) ((eq_ix2 _).trans ((congrArg₂ ix2 (Fin.ext (by blk_simp [e0, e4])) (Fin.ext (by blk_simp [e0, e4]))).trans (eq_ix2 _).symm))
  · blk_simp [iblk]
    exact congrArg (m ((c.tc : Thread nD τ).loc main_arg1)) ((eq_ix2 _).trans ((congrArg₂ ix2 (Fin.ext (by blk_simp [e1, e4])) (Fin.ext (by blk_simp [e1, e4]))).trans (eq_ix2 _).symm))
  · blk_simp [iblk]
    exact congrArg (m ((c.tc : Thread nD τ).loc main_arg2)) ((eq_ix2 _).trans ((congrArg₂ ix2 (Fin.ext (by blk_simp [e2, e4])) (Fin.ext (by blk_simp [e2, e4]))).trans (eq_ix2 _).symm))
  · blk_simp [iblk]
    exact congrArg (m ((c.tc : Thread nD τ).loc main_arg3)) ((eq_ix2 _).trans ((congrArg₂ ix2 (Fin.ext (by blk_simp [e3, e4])) (Fin.ext (by blk_simp [e3, e4]))).trans (eq_ix2 _).symm))

/-- The first moment. -/
theorem array5 : (dats m 0 c).arrAt 5 cfg0.N = val_main_v4 (F := Ideal) (m ((c.tc : Thread nD τ).loc main_arg1)) (m ((c.tc : Thread nD τ).loc main_arg2)) := by
  refine (dats m 0 c).arrAt_eq_of_covers 5 _ (by decide +kernel) fun t hf y => ?_
  blk_simp [e5]
  rw [after0_5]
  refine (congrArg _ (eq_ix2 y)).trans ((block5 _ _ _ _ (y 0) (y 1)).trans ?_)
  refine Eq.trans ?_ (ref5 _ _ _).symm
  refine congrArg₂ first ?_ ?_
  · blk_simp [iblk]
    exact congrArg (m ((c.tc : Thread nD τ).loc main_arg1)) ((eq_ix2 _).trans ((congrArg₂ ix2 (Fin.ext (by blk_simp [e1, e5])) (Fin.ext (by blk_simp [e1, e5]))).trans (eq_ix2 _).symm))
  · blk_simp [iblk]
    exact congrArg (m ((c.tc : Thread nD τ).loc main_arg2)) ((eq_ix2 _).trans ((congrArg₂ ix2 (Fin.ext (by blk_simp [e2, e5])) (Fin.ext (by blk_simp [e2, e5]))).trans (eq_ix2 _).symm))

/-- The second moment. -/
theorem array6 : (dats m 0 c).arrAt 6 cfg0.N = val_main_v10 (F := Ideal) (m ((c.tc : Thread nD τ).loc main_arg1)) (m ((c.tc : Thread nD τ).loc main_arg3)) := by
  refine (dats m 0 c).arrAt_eq_of_covers 6 _ (by decide +kernel) fun t hf y => ?_
  blk_simp [e6]
  rw [after0_6]
  refine (congrArg _ (eq_ix2 y)).trans ((block6 _ _ _ _ (y 0) (y 1)).trans ?_)
  refine Eq.trans ?_ (ref6 _ _ _).symm
  refine congrArg₂ second ?_ ?_
  · blk_simp [iblk]
    exact congrArg (m ((c.tc : Thread nD τ).loc main_arg1)) ((eq_ix2 _).trans ((congrArg₂ ix2 (Fin.ext (by blk_simp [e1, e6])) (Fin.ext (by blk_simp [e1, e6]))).trans (eq_ix2 _).symm))
  · blk_simp [iblk]
    exact congrArg (m ((c.tc : Thread nD τ).loc main_arg3)) ((eq_ix2 _).trans ((congrArg₂ ix2 (Fin.ext (by blk_simp [e3, e6])) (Fin.ext (by blk_simp [e3, e6]))).trans (eq_ix2 _).symm))

end Cert.AdamWIn

end
-- ==== Proof.AdamWQB.lean ====
/- The optimiser step of `w_q_b`. -/
module

public import proofs.«01_k».proof.Proof.Gen.Kernel32Ideal.Value
public import proofs.«01_k».proof.Proof.Gen.Reference32Ideal.Read
public import Idealize.ShloMosaic.Lib.Pipeline.ReadBack
public import Idealize.ShloMosaic.Lib.Pipeline.ValueKit
public import Idealize.ShloMosaic.Lib.Pointwise
public import proofs.«01_k».proof.Proof.Adam

@[expose] public section

set_option maxRecDepth 16384

noncomputable section

namespace Cert.AdamWQB

open Cert.Kernel32Ideal Cert.Kernel32Ideal.Gen Cert.Reference32Ideal.Read Idealize.ShloMosaic Idealize.ShloMosaic.TcCoe Idealize.SL.Sem
open Idealize.ShloMosaic.Pipeline (Dat)
open Cert.Adam

variable (m : (ℓ : Loc nD τ sig) → Buf (Elt Ideal) ℓ) (c : Dev nD)

section
variable (x0 x1 x2 x3 : Vec Ideal S64x512 .f32) (p : Fin 64) (q : Fin 512)

theorem block4 : out0_4 x0 x1 x2 x3 (ix2 p q) = change (x0 (ix2 p q)) (x1 (ix2 p q)) (x2 (ix2 p q)) (x3 (ix2 p q)) := by
  unfold out0_4
  frame_out
  rfl

theorem block5 : out0_5 x0 x1 x2 x3 (ix2 p q) = first (x1 (ix2 p q)) (x2 (ix2 p q)) := by
  unfold out0_5
  frame_out
  rfl

theorem block6 : out0_6 x0 x1 x2 x3 (ix2 p q) = second (x1 (ix2 p q)) (x3 (ix2 p q)) := by
  unfold out0_6
  frame_out
  rfl

end

section
variable (x0 x1 x2 x3 : Vec Ideal S192x512 .f32) (i : S192x512.Idx)

theorem ref4 : val_main_v23 (F := Ideal) x0 x1 x2 x3 i = change (x0 i) (x1 i) (x2 i) (x3 i) := rfl

theorem ref5 : val_main_v4 (F := Ideal) x1 x2 i = first (x1 i) (x2 i) := rfl

theorem ref6 : val_main_v10 (F := Ideal) x1 x3 i = second (x1 i) (x3 i) := rfl

end

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel

/-- The weight's change. -/
theorem array4 : (dats m 0 c).arrAt 4 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp [e4]
  rw [after0_4]
  refine (congrArg _ (eq_ix2 y)).trans ((block4 _ _ _ _ (y 0) (y 1)).trans ?_)
  refine Eq.trans ?_ (ref4 _ _ _ _ _).symm
  refine congr (congr (congrArg₂ change ?_ ?_) ?_) ?_
  · blk_simp [iblk]
    exact congrArg (m ((c.tc : Thread nD τ).loc main_arg0)) ((eq_ix2 _).trans ((congrArg₂ ix2 (Fin.ext (by blk_simp [e0, e4])) (Fin.ext (by blk_simp [e0, e4]))).trans (eq_ix2 _).symm))
  · blk_simp [iblk]
    exact congrArg (m ((c.tc : Thread nD τ).loc main_arg1)) ((eq_ix2 _).trans ((congrArg₂ ix2 (Fin.ext (by blk_simp [e1, e4])) (Fin.ext (by blk_simp [e1, e4]))).trans (eq_ix2 _).symm))
  · blk_simp [iblk]
    exact congrArg (m ((c.tc : Thread nD τ).loc main_arg2)) ((eq_ix2 _).trans ((congrArg₂ ix2 (Fin.ext (by blk_simp [e2, e4])) (Fin.ext (by blk_simp [e2, e4]))).trans (eq_ix2 _).symm))
  · blk_simp [iblk]
    exact congrArg (m ((c.tc : Thread nD τ).loc main_arg3)) ((eq_ix2 _).trans ((congrArg₂ ix2 (Fin.ext (by blk_simp [e3, e4])) (Fin.ext (by blk_simp [e3, e4]))).trans (eq_ix2 _).symm))

/-- The first moment. -/
theorem array5 : (dats m 0 c).arrAt 5 cfg0.N = val_main_v4 (F := Ideal) (m ((c.tc : Thread nD τ).loc main_arg1)) (m ((c.tc : Thread nD τ).loc main_arg2)) := by
  refine (dats m 0 c).arrAt_eq_of_covers 5 _ (by decide +kernel) fun t hf y => ?_
  blk_simp [e5]
  rw [after0_5]
  refine (congrArg _ (eq_ix2 y)).trans ((block5 _ _ _ _ (y 0) (y 1)).trans ?_)
  refine Eq.trans ?_ (ref5 _ _ _).symm
  refine congrArg₂ first ?_ ?_
  · blk_simp [iblk]
    exact congrArg (m ((c.tc : Thread nD τ).loc main_arg1)) ((eq_ix2 _).trans ((congrArg₂ ix2 (Fin.ext (by blk_simp [e1, e5])) (Fin.ext (by blk_simp [e1, e5]))).trans (eq_ix2 _).symm))
  · blk_simp [iblk]
    exact congrArg (m ((c.tc : Thread nD τ).loc main_arg2)) ((eq_ix2 _).trans ((congrArg₂ ix2 (Fin.ext (by blk_simp [e2, e5])) (Fin.ext (by blk_simp [e2, e5]))).trans (eq_ix2 _).symm))

/-- The second moment. -/
theorem array6 : (dats m 0 c).arrAt 6 cfg0.N = val_main_v10 (F := Ideal) (m ((c.tc : Thread nD τ).loc main_arg1)) (m ((c.tc : Thread nD τ).loc main_arg3)) := by
  refine (dats m 0 c).arrAt_eq_of_covers 6 _ (by decide +kernel) fun t hf y => ?_
  blk_simp [e6]
  rw [after0_6]
  refine (congrArg _ (eq_ix2 y)).trans ((block6 _ _ _ _ (y 0) (y 1)).trans ?_)
  refine Eq.trans ?_ (ref6 _ _ _).symm
  refine congrArg₂ second ?_ ?_
  · blk_simp [iblk]
    exact congrArg (m ((c.tc : Thread nD τ).loc main_arg1)) ((eq_ix2 _).trans ((congrArg₂ ix2 (Fin.ext (by blk_simp [e1, e6])) (Fin.ext (by blk_simp [e1, e6]))).trans (eq_ix2 _).symm))
  · blk_simp [iblk]
    exact congrArg (m ((c.tc : Thread nD τ).loc main_arg3)) ((eq_ix2 _).trans ((congrArg₂ ix2 (Fin.ext (by blk_simp [e3, e6])) (Fin.ext (by blk_simp [e3, e6]))).trans (eq_ix2 _).symm))

end Cert.AdamWQB

end
-- ==== Proof.AdamWKvB.lean ====
/- The optimiser step of `w_kv_b`. -/
module

public import proofs.«01_k».proof.Proof.Gen.Kernel33Ideal.Value
public import proofs.«01_k».proof.Proof.Gen.Reference33Ideal.Read
public import Idealize.ShloMosaic.Lib.Pipeline.ReadBack
public import Idealize.ShloMosaic.Lib.Pipeline.ValueKit
public import Idealize.ShloMosaic.Lib.Pointwise
public import proofs.«01_k».proof.Proof.Adam

@[expose] public section

set_option maxRecDepth 16384

noncomputable section

namespace Cert.AdamWKvB

open Cert.Kernel33Ideal Cert.Kernel33Ideal.Gen Cert.Reference33Ideal.Read Idealize.ShloMosaic Idealize.ShloMosaic.TcCoe Idealize.SL.Sem
open Idealize.ShloMosaic.Pipeline (Dat)
open Cert.Adam

variable (m : (ℓ : Loc nD τ sig) → Buf (Elt Ideal) ℓ) (c : Dev nD)

section
variable (x0 x1 x2 x3 : Vec Ideal S128x256 .f32) (p : Fin 128) (q : Fin 256)

theorem block4 : out0_4 x0 x1 x2 x3 (ix2 p q) = change (x0 (ix2 p q)) (x1 (ix2 p q)) (x2 (ix2 p q)) (x3 (ix2 p q)) := by
  unfold out0_4
  frame_out
  rfl

theorem block5 : out0_5 x0 x1 x2 x3 (ix2 p q) = first (x1 (ix2 p q)) (x2 (ix2 p q)) := by
  unfold out0_5
  frame_out
  rfl

theorem block6 : out0_6 x0 x1 x2 x3 (ix2 p q) = second (x1 (ix2 p q)) (x3 (ix2 p q)) := by
  unfold out0_6
  frame_out
  rfl

end

section
variable (x0 x1 x2 x3 : Vec Ideal S256x256 .f32) (i : S256x256.Idx)

theorem ref4 : val_main_v23 (F := Ideal) x0 x1 x2 x3 i = change (x0 i) (x1 i) (x2 i) (x3 i) := rfl

theorem ref5 : val_main_v4 (F := Ideal) x1 x2 i = first (x1 i) (x2 i) := rfl

theorem ref6 : val_main_v10 (F := Ideal) x1 x3 i = second (x1 i) (x3 i) := rfl

end

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel

/-- The weight's change. -/
theorem array4 : (dats m 0 c).arrAt 4 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp [e4]
  rw [after0_4]
  refine (congrArg _ (eq_ix2 y)).trans ((block4 _ _ _ _ (y 0) (y 1)).trans ?_)
  refine Eq.trans ?_ (ref4 _ _ _ _ _).symm
  refine congr (congr (congrArg₂ change ?_ ?_) ?_) ?_
  · blk_simp [iblk]
    exact congrArg (m ((c.tc : Thread nD τ).loc main_arg0)) ((eq_ix2 _).trans ((congrArg₂ ix2 (Fin.ext (by blk_simp [e0, e4])) (Fin.ext (by blk_simp [e0, e4]))).trans (eq_ix2 _).symm))
  · blk_simp [iblk]
    exact congrArg (m ((c.tc : Thread nD τ).loc main_arg1)) ((eq_ix2 _).trans ((congrArg₂ ix2 (Fin.ext (by blk_simp [e1, e4])) (Fin.ext (by blk_simp [e1, e4]))).trans (eq_ix2 _).symm))
  · blk_simp [iblk]
    exact congrArg (m ((c.tc : Thread nD τ).loc main_arg2)) ((eq_ix2 _).trans ((congrArg₂ ix2 (Fin.ext (by blk_simp [e2, e4])) (Fin.ext (by blk_simp [e2, e4]))).trans (eq_ix2 _).symm))
  · blk_simp [iblk]
    exact congrArg (m ((c.tc : Thread nD τ).loc main_arg3)) ((eq_ix2 _).trans ((congrArg₂ ix2 (Fin.ext (by blk_simp [e3, e4])) (Fin.ext (by blk_simp [e3, e4]))).trans (eq_ix2 _).symm))

/-- The first moment. -/
theorem array5 : (dats m 0 c).arrAt 5 cfg0.N = val_main_v4 (F := Ideal) (m ((c.tc : Thread nD τ).loc main_arg1)) (m ((c.tc : Thread nD τ).loc main_arg2)) := by
  refine (dats m 0 c).arrAt_eq_of_covers 5 _ (by decide +kernel) fun t hf y => ?_
  blk_simp [e5]
  rw [after0_5]
  refine (congrArg _ (eq_ix2 y)).trans ((block5 _ _ _ _ (y 0) (y 1)).trans ?_)
  refine Eq.trans ?_ (ref5 _ _ _).symm
  refine congrArg₂ first ?_ ?_
  · blk_simp [iblk]
    exact congrArg (m ((c.tc : Thread nD τ).loc main_arg1)) ((eq_ix2 _).trans ((congrArg₂ ix2 (Fin.ext (by blk_simp [e1, e5])) (Fin.ext (by blk_simp [e1, e5]))).trans (eq_ix2 _).symm))
  · blk_simp [iblk]
    exact congrArg (m ((c.tc : Thread nD τ).loc main_arg2)) ((eq_ix2 _).trans ((congrArg₂ ix2 (Fin.ext (by blk_simp [e2, e5])) (Fin.ext (by blk_simp [e2, e5]))).trans (eq_ix2 _).symm))

/-- The second moment. -/
theorem array6 : (dats m 0 c).arrAt 6 cfg0.N = val_main_v10 (F := Ideal) (m ((c.tc : Thread nD τ).loc main_arg1)) (m ((c.tc : Thread nD τ).loc main_arg3)) := by
  refine (dats m 0 c).arrAt_eq_of_covers 6 _ (by decide +kernel) fun t hf y => ?_
  blk_simp [e6]
  rw [after0_6]
  refine (congrArg _ (eq_ix2 y)).trans ((block6 _ _ _ _ (y 0) (y 1)).trans ?_)
  refine Eq.trans ?_ (ref6 _ _ _).symm
  refine congrArg₂ second ?_ ?_
  · blk_simp [iblk]
    exact congrArg (m ((c.tc : Thread nD τ).loc main_arg1)) ((eq_ix2 _).trans ((congrArg₂ ix2 (Fin.ext (by blk_simp [e1, e6])) (Fin.ext (by blk_simp [e1, e6]))).trans (eq_ix2 _).symm))
  · blk_simp [iblk]
    exact congrArg (m ((c.tc : Thread nD τ).loc main_arg3)) ((eq_ix2 _).trans ((congrArg₂ ix2 (Fin.ext (by blk_simp [e3, e6])) (Fin.ext (by blk_simp [e3, e6]))).trans (eq_ix2 _).symm))

end Cert.AdamWKvB

end
-- ==== Proof.AdamWO.lean ====
/- The optimiser step of `w_o`. -/
module

public import proofs.«01_k».proof.Proof.Gen.Kernel34Ideal.Value
public import proofs.«01_k».proof.Proof.Gen.Reference34Ideal.Read
public import Idealize.ShloMosaic.Lib.Pipeline.ReadBack
public import Idealize.ShloMosaic.Lib.Pipeline.ValueKit
public import Idealize.ShloMosaic.Lib.Pointwise
public import proofs.«01_k».proof.Proof.Adam

@[expose] public section

set_option maxRecDepth 16384

noncomputable section

namespace Cert.AdamWO

open Cert.Kernel34Ideal Cert.Kernel34Ideal.Gen Cert.Reference34Ideal.Read Idealize.ShloMosaic Idealize.ShloMosaic.TcCoe Idealize.SL.Sem
open Idealize.ShloMosaic.Pipeline (Dat)
open Cert.Adam

variable (m : (ℓ : Loc nD τ sig) → Buf (Elt Ideal) ℓ) (c : Dev nD)

section
variable (x0 x1 x2 x3 : Vec Ideal S128x1024 .f32) (p : Fin 128) (q : Fin 1024)

theorem block4 : out0_4 x0 x1 x2 x3 (ix2 p q) = change (x0 (ix2 p q)) (x1 (ix2 p q)) (x2 (ix2 p q)) (x3 (ix2 p q)) := by
  unfold out0_4
  frame_out
  rfl

theorem block5 : out0_5 x0 x1 x2 x3 (ix2 p q) = first (x1 (ix2 p q)) (x2 (ix2 p q)) := by
  unfold out0_5
  frame_out
  rfl

theorem block6 : out0_6 x0 x1 x2 x3 (ix2 p q) = second (x1 (ix2 p q)) (x3 (ix2 p q)) := by
  unfold out0_6
  frame_out
  rfl

end

section
variable (x0 x1 x2 x3 : Vec Ideal S256x1024 .f32) (i : S256x1024.Idx)

theorem ref4 : val_main_v23 (F := Ideal) x0 x1 x2 x3 i = change (x0 i) (x1 i) (x2 i) (x3 i) := rfl

theorem ref5 : val_main_v4 (F := Ideal) x1 x2 i = first (x1 i) (x2 i) := rfl

theorem ref6 : val_main_v10 (F := Ideal) x1 x3 i = second (x1 i) (x3 i) := rfl

end

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel

/-- The weight's change. -/
theorem array4 : (dats m 0 c).arrAt 4 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp [e4]
  rw [after0_4]
  refine (congrArg _ (eq_ix2 y)).trans ((block4 _ _ _ _ (y 0) (y 1)).trans ?_)
  refine Eq.trans ?_ (ref4 _ _ _ _ _).symm
  refine congr (congr (congrArg₂ change ?_ ?_) ?_) ?_
  · blk_simp [iblk]
    exact congrArg (m ((c.tc : Thread nD τ).loc main_arg0)) ((eq_ix2 _).trans ((congrArg₂ ix2 (Fin.ext (by blk_simp [e0, e4])) (Fin.ext (by blk_simp [e0, e4]))).trans (eq_ix2 _).symm))
  · blk_simp [iblk]
    exact congrArg (m ((c.tc : Thread nD τ).loc main_arg1)) ((eq_ix2 _).trans ((congrArg₂ ix2 (Fin.ext (by blk_simp [e1, e4])) (Fin.ext (by blk_simp [e1, e4]))).trans (eq_ix2 _).symm))
  · blk_simp [iblk]
    exact congrArg (m ((c.tc : Thread nD τ).loc main_arg2)) ((eq_ix2 _).trans ((congrArg₂ ix2 (Fin.ext (by blk_simp [e2, e4])) (Fin.ext (by blk_simp [e2, e4]))).trans (eq_ix2 _).symm))
  · blk_simp [iblk]
    exact congrArg (m ((c.tc : Thread nD τ).loc main_arg3)) ((eq_ix2 _).trans ((congrArg₂ ix2 (Fin.ext (by blk_simp [e3, e4])) (Fin.ext (by blk_simp [e3, e4]))).trans (eq_ix2 _).symm))

/-- The first moment. -/
theorem array5 : (dats m 0 c).arrAt 5 cfg0.N = val_main_v4 (F := Ideal) (m ((c.tc : Thread nD τ).loc main_arg1)) (m ((c.tc : Thread nD τ).loc main_arg2)) := by
  refine (dats m 0 c).arrAt_eq_of_covers 5 _ (by decide +kernel) fun t hf y => ?_
  blk_simp [e5]
  rw [after0_5]
  refine (congrArg _ (eq_ix2 y)).trans ((block5 _ _ _ _ (y 0) (y 1)).trans ?_)
  refine Eq.trans ?_ (ref5 _ _ _).symm
  refine congrArg₂ first ?_ ?_
  · blk_simp [iblk]
    exact congrArg (m ((c.tc : Thread nD τ).loc main_arg1)) ((eq_ix2 _).trans ((congrArg₂ ix2 (Fin.ext (by blk_simp [e1, e5])) (Fin.ext (by blk_simp [e1, e5]))).trans (eq_ix2 _).symm))
  · blk_simp [iblk]
    exact congrArg (m ((c.tc : Thread nD τ).loc main_arg2)) ((eq_ix2 _).trans ((congrArg₂ ix2 (Fin.ext (by blk_simp [e2, e5])) (Fin.ext (by blk_simp [e2, e5]))).trans (eq_ix2 _).symm))

/-- The second moment. -/
theorem array6 : (dats m 0 c).arrAt 6 cfg0.N = val_main_v10 (F := Ideal) (m ((c.tc : Thread nD τ).loc main_arg1)) (m ((c.tc : Thread nD τ).loc main_arg3)) := by
  refine (dats m 0 c).arrAt_eq_of_covers 6 _ (by decide +kernel) fun t hf y => ?_
  blk_simp [e6]
  rw [after0_6]
  refine (congrArg _ (eq_ix2 y)).trans ((block6 _ _ _ _ (y 0) (y 1)).trans ?_)
  refine Eq.trans ?_ (ref6 _ _ _).symm
  refine congrArg₂ second ?_ ?_
  · blk_simp [iblk]
    exact congrArg (m ((c.tc : Thread nD τ).loc main_arg1)) ((eq_ix2 _).trans ((congrArg₂ ix2 (Fin.ext (by blk_simp [e1, e6])) (Fin.ext (by blk_simp [e1, e6]))).trans (eq_ix2 _).symm))
  · blk_simp [iblk]
    exact congrArg (m ((c.tc : Thread nD τ).loc main_arg3)) ((eq_ix2 _).trans ((congrArg₂ ix2 (Fin.ext (by blk_simp [e3, e6])) (Fin.ext (by blk_simp [e3, e6]))).trans (eq_ix2 _).symm))

end Cert.AdamWO

end
-- ==== Proof.AdamWUp.lean ====
/- The optimiser step of `w_up`. -/
module

public import proofs.«01_k».proof.Proof.Gen.Kernel35Ideal.Value
public import proofs.«01_k».proof.Proof.Gen.Reference35Ideal.Read
public import Idealize.ShloMosaic.Lib.Pipeline.ReadBack
public import Idealize.ShloMosaic.Lib.Pipeline.ValueKit
public import Idealize.ShloMosaic.Lib.Pointwise
public import proofs.«01_k».proof.Proof.Adam

@[expose] public section

set_option maxRecDepth 16384

noncomputable section

namespace Cert.AdamWUp

open Cert.Kernel35Ideal Cert.Kernel35Ideal.Gen Cert.Reference35Ideal.Read Idealize.ShloMosaic Idealize.ShloMosaic.TcCoe Idealize.SL.Sem
open Idealize.ShloMosaic.Pipeline (Dat)
open Cert.Adam

variable (m : (ℓ : Loc nD τ sig) → Buf (Elt Ideal) ℓ) (c : Dev nD)

section
variable (x0 x1 x2 x3 : Vec Ideal S256x1408 .f32) (p : Fin 256) (q : Fin 1408)

theorem block4 : out0_4 x0 x1 x2 x3 (ix2 p q) = change (x0 (ix2 p q)) (x1 (ix2 p q)) (x2 (ix2 p q)) (x3 (ix2 p q)) := by
  unfold out0_4
  frame_out
  rfl

theorem block5 : out0_5 x0 x1 x2 x3 (ix2 p q) = first (x1 (ix2 p q)) (x2 (ix2 p q)) := by
  unfold out0_5
  frame_out
  rfl

theorem block6 : out0_6 x0 x1 x2 x3 (ix2 p q) = second (x1 (ix2 p q)) (x3 (ix2 p q)) := by
  unfold out0_6
  frame_out
  rfl

end

section
variable (x0 x1 x2 x3 : Vec Ideal S1024x1408 .f32) (i : S1024x1408.Idx)

theorem ref4 : val_main_v23 (F := Ideal) x0 x1 x2 x3 i = change (x0 i) (x1 i) (x2 i) (x3 i) := rfl

theorem ref5 : val_main_v4 (F := Ideal) x1 x2 i = first (x1 i) (x2 i) := rfl

theorem ref6 : val_main_v10 (F := Ideal) x1 x3 i = second (x1 i) (x3 i) := rfl

end

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel

/-- The weight's change. -/
theorem array4 : (dats m 0 c).arrAt 4 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp [e4]
  rw [after0_4]
  refine (congrArg _ (eq_ix2 y)).trans ((block4 _ _ _ _ (y 0) (y 1)).trans ?_)
  refine Eq.trans ?_ (ref4 _ _ _ _ _).symm
  refine congr (congr (congrArg₂ change ?_ ?_) ?_) ?_
  · blk_simp [iblk]
    exact congrArg (m ((c.tc : Thread nD τ).loc main_arg0)) ((eq_ix2 _).trans ((congrArg₂ ix2 (Fin.ext (by blk_simp [e0, e4])) (Fin.ext (by blk_simp [e0, e4]))).trans (eq_ix2 _).symm))
  · blk_simp [iblk]
    exact congrArg (m ((c.tc : Thread nD τ).loc main_arg1)) ((eq_ix2 _).trans ((congrArg₂ ix2 (Fin.ext (by blk_simp [e1, e4])) (Fin.ext (by blk_simp [e1, e4]))).trans (eq_ix2 _).symm))
  · blk_simp [iblk]
    exact congrArg (m ((c.tc : Thread nD τ).loc main_arg2)) ((eq_ix2 _).trans ((congrArg₂ ix2 (Fin.ext (by blk_simp [e2, e4])) (Fin.ext (by blk_simp [e2, e4]))).trans (eq_ix2 _).symm))
  · blk_simp [iblk]
    exact congrArg (m ((c.tc : Thread nD τ).loc main_arg3)) ((eq_ix2 _).trans ((congrArg₂ ix2 (Fin.ext (by blk_simp [e3, e4])) (Fin.ext (by blk_simp [e3, e4]))).trans (eq_ix2 _).symm))

/-- The first moment. -/
theorem array5 : (dats m 0 c).arrAt 5 cfg0.N = val_main_v4 (F := Ideal) (m ((c.tc : Thread nD τ).loc main_arg1)) (m ((c.tc : Thread nD τ).loc main_arg2)) := by
  refine (dats m 0 c).arrAt_eq_of_covers 5 _ (by decide +kernel) fun t hf y => ?_
  blk_simp [e5]
  rw [after0_5]
  refine (congrArg _ (eq_ix2 y)).trans ((block5 _ _ _ _ (y 0) (y 1)).trans ?_)
  refine Eq.trans ?_ (ref5 _ _ _).symm
  refine congrArg₂ first ?_ ?_
  · blk_simp [iblk]
    exact congrArg (m ((c.tc : Thread nD τ).loc main_arg1)) ((eq_ix2 _).trans ((congrArg₂ ix2 (Fin.ext (by blk_simp [e1, e5])) (Fin.ext (by blk_simp [e1, e5]))).trans (eq_ix2 _).symm))
  · blk_simp [iblk]
    exact congrArg (m ((c.tc : Thread nD τ).loc main_arg2)) ((eq_ix2 _).trans ((congrArg₂ ix2 (Fin.ext (by blk_simp [e2, e5])) (Fin.ext (by blk_simp [e2, e5]))).trans (eq_ix2 _).symm))

/-- The second moment. -/
theorem array6 : (dats m 0 c).arrAt 6 cfg0.N = val_main_v10 (F := Ideal) (m ((c.tc : Thread nD τ).loc main_arg1)) (m ((c.tc : Thread nD τ).loc main_arg3)) := by
  refine (dats m 0 c).arrAt_eq_of_covers 6 _ (by decide +kernel) fun t hf y => ?_
  blk_simp [e6]
  rw [after0_6]
  refine (congrArg _ (eq_ix2 y)).trans ((block6 _ _ _ _ (y 0) (y 1)).trans ?_)
  refine Eq.trans ?_ (ref6 _ _ _).symm
  refine congrArg₂ second ?_ ?_
  · blk_simp [iblk]
    exact congrArg (m ((c.tc : Thread nD τ).loc main_arg1)) ((eq_ix2 _).trans ((congrArg₂ ix2 (Fin.ext (by blk_simp [e1, e6])) (Fin.ext (by blk_simp [e1, e6]))).trans (eq_ix2 _).symm))
  · blk_simp [iblk]
    exact congrArg (m ((c.tc : Thread nD τ).loc main_arg3)) ((eq_ix2 _).trans ((congrArg₂ ix2 (Fin.ext (by blk_simp [e3, e6])) (Fin.ext (by blk_simp [e3, e6]))).trans (eq_ix2 _).symm))

end Cert.AdamWUp

end
-- ==== Proof.AdamWConv.lean ====
/- The optimiser step of `w_conv`. -/
module

public import proofs.«01_k».proof.Proof.Gen.Kernel36Ideal.Value
public import proofs.«01_k».proof.Proof.Gen.Reference36Ideal.Read
public import Idealize.ShloMosaic.Lib.Pipeline.ReadBack
public import Idealize.ShloMosaic.Lib.Pipeline.ValueKit
public import Idealize.ShloMosaic.Lib.Pointwise
public import proofs.«01_k».proof.Proof.Adam

@[expose] public section

set_option maxRecDepth 16384

noncomputable section

namespace Cert.AdamWConv

open Cert.Kernel36Ideal Cert.Kernel36Ideal.Gen Cert.Reference36Ideal.Read Idealize.ShloMosaic Idealize.ShloMosaic.TcCoe Idealize.SL.Sem
open Idealize.ShloMosaic.Pipeline (Dat)
open Cert.Adam

variable (m : (ℓ : Loc nD τ sig) → Buf (Elt Ideal) ℓ) (c : Dev nD)

section
variable (x0 x1 x2 x3 : Vec Ideal S3x1408 .f32) (p : Fin 3) (q : Fin 1408)

theorem block4 : out0_4 x0 x1 x2 x3 (ix2 p q) = change (x0 (ix2 p q)) (x1 (ix2 p q)) (x2 (ix2 p q)) (x3 (ix2 p q)) := by
  unfold out0_4
  frame_out
  rfl

theorem block5 : out0_5 x0 x1 x2 x3 (ix2 p q) = first (x1 (ix2 p q)) (x2 (ix2 p q)) := by
  unfold out0_5
  frame_out
  rfl

theorem block6 : out0_6 x0 x1 x2 x3 (ix2 p q) = second (x1 (ix2 p q)) (x3 (ix2 p q)) := by
  unfold out0_6
  frame_out
  rfl

end

section
variable (x0 x1 x2 x3 : Vec Ideal S3x1408 .f32) (i : S3x1408.Idx)

theorem ref4 : val_main_v23 (F := Ideal) x0 x1 x2 x3 i = change (x0 i) (x1 i) (x2 i) (x3 i) := rfl

theorem ref5 : val_main_v4 (F := Ideal) x1 x2 i = first (x1 i) (x2 i) := rfl

theorem ref6 : val_main_v10 (F := Ideal) x1 x3 i = second (x1 i) (x3 i) := rfl

end

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel

/-- The weight's change. -/
theorem array4 : (dats m 0 c).arrAt 4 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp [e4]
  rw [after0_4]
  refine (congrArg _ (eq_ix2 y)).trans ((block4 _ _ _ _ (y 0) (y 1)).trans ?_)
  refine Eq.trans ?_ (ref4 _ _ _ _ _).symm
  refine congr (congr (congrArg₂ change ?_ ?_) ?_) ?_
  · blk_simp [iblk]
    exact congrArg (m ((c.tc : Thread nD τ).loc main_arg0)) ((eq_ix2 _).trans ((congrArg₂ ix2 (Fin.ext (by blk_simp [e0, e4])) (Fin.ext (by blk_simp [e0, e4]))).trans (eq_ix2 _).symm))
  · blk_simp [iblk]
    exact congrArg (m ((c.tc : Thread nD τ).loc main_arg1)) ((eq_ix2 _).trans ((congrArg₂ ix2 (Fin.ext (by blk_simp [e1, e4])) (Fin.ext (by blk_simp [e1, e4]))).trans (eq_ix2 _).symm))
  · blk_simp [iblk]
    exact congrArg (m ((c.tc : Thread nD τ).loc main_arg2)) ((eq_ix2 _).trans ((congrArg₂ ix2 (Fin.ext (by blk_simp [e2, e4])) (Fin.ext (by blk_simp [e2, e4]))).trans (eq_ix2 _).symm))
  · blk_simp [iblk]
    exact congrArg (m ((c.tc : Thread nD τ).loc main_arg3)) ((eq_ix2 _).trans ((congrArg₂ ix2 (Fin.ext (by blk_simp [e3, e4])) (Fin.ext (by blk_simp [e3, e4]))).trans (eq_ix2 _).symm))

/-- The first moment. -/
theorem array5 : (dats m 0 c).arrAt 5 cfg0.N = val_main_v4 (F := Ideal) (m ((c.tc : Thread nD τ).loc main_arg1)) (m ((c.tc : Thread nD τ).loc main_arg2)) := by
  refine (dats m 0 c).arrAt_eq_of_covers 5 _ (by decide +kernel) fun t hf y => ?_
  blk_simp [e5]
  rw [after0_5]
  refine (congrArg _ (eq_ix2 y)).trans ((block5 _ _ _ _ (y 0) (y 1)).trans ?_)
  refine Eq.trans ?_ (ref5 _ _ _).symm
  refine congrArg₂ first ?_ ?_
  · blk_simp [iblk]
    exact congrArg (m ((c.tc : Thread nD τ).loc main_arg1)) ((eq_ix2 _).trans ((congrArg₂ ix2 (Fin.ext (by blk_simp [e1, e5])) (Fin.ext (by blk_simp [e1, e5]))).trans (eq_ix2 _).symm))
  · blk_simp [iblk]
    exact congrArg (m ((c.tc : Thread nD τ).loc main_arg2)) ((eq_ix2 _).trans ((congrArg₂ ix2 (Fin.ext (by blk_simp [e2, e5])) (Fin.ext (by blk_simp [e2, e5]))).trans (eq_ix2 _).symm))

/-- The second moment. -/
theorem array6 : (dats m 0 c).arrAt 6 cfg0.N = val_main_v10 (F := Ideal) (m ((c.tc : Thread nD τ).loc main_arg1)) (m ((c.tc : Thread nD τ).loc main_arg3)) := by
  refine (dats m 0 c).arrAt_eq_of_covers 6 _ (by decide +kernel) fun t hf y => ?_
  blk_simp [e6]
  rw [after0_6]
  refine (congrArg _ (eq_ix2 y)).trans ((block6 _ _ _ _ (y 0) (y 1)).trans ?_)
  refine Eq.trans ?_ (ref6 _ _ _).symm
  refine congrArg₂ second ?_ ?_
  · blk_simp [iblk]
    exact congrArg (m ((c.tc : Thread nD τ).loc main_arg1)) ((eq_ix2 _).trans ((congrArg₂ ix2 (Fin.ext (by blk_simp [e1, e6])) (Fin.ext (by blk_simp [e1, e6]))).trans (eq_ix2 _).symm))
  · blk_simp [iblk]
    exact congrArg (m ((c.tc : Thread nD τ).loc main_arg3)) ((eq_ix2 _).trans ((congrArg₂ ix2 (Fin.ext (by blk_simp [e3, e6])) (Fin.ext (by blk_simp [e3, e6]))).trans (eq_ix2 _).symm))

end Cert.AdamWConv

end
-- ==== Proof.AdamWDown.lean ====
/- The optimiser step of `w_down`. -/
module

public import proofs.«01_k».proof.Proof.Gen.Kernel37Ideal.Value
public import proofs.«01_k».proof.Proof.Gen.Reference37Ideal.Read
public import Idealize.ShloMosaic.Lib.Pipeline.ReadBack
public import Idealize.ShloMosaic.Lib.Pipeline.ValueKit
public import Idealize.ShloMosaic.Lib.Pointwise
public import proofs.«01_k».proof.Proof.Adam

@[expose] public section

set_option maxRecDepth 16384

noncomputable section

namespace Cert.AdamWDown

open Cert.Kernel37Ideal Cert.Kernel37Ideal.Gen Cert.Reference37Ideal.Read Idealize.ShloMosaic Idealize.ShloMosaic.TcCoe Idealize.SL.Sem
open Idealize.ShloMosaic.Pipeline (Dat)
open Cert.Adam

variable (m : (ℓ : Loc nD τ sig) → Buf (Elt Ideal) ℓ) (c : Dev nD)

section
variable (x0 x1 x2 x3 : Vec Ideal S64x1024 .f32) (p : Fin 64) (q : Fin 1024)

theorem block4 : out0_4 x0 x1 x2 x3 (ix2 p q) = change (x0 (ix2 p q)) (x1 (ix2 p q)) (x2 (ix2 p q)) (x3 (ix2 p q)) := by
  unfold out0_4
  frame_out
  rfl

theorem block5 : out0_5 x0 x1 x2 x3 (ix2 p q) = first (x1 (ix2 p q)) (x2 (ix2 p q)) := by
  unfold out0_5
  frame_out
  rfl

theorem block6 : out0_6 x0 x1 x2 x3 (ix2 p q) = second (x1 (ix2 p q)) (x3 (ix2 p q)) := by
  unfold out0_6
  frame_out
  rfl

end

section
variable (x0 x1 x2 x3 : Vec Ideal S704x1024 .f32) (i : S704x1024.Idx)

theorem ref4 : val_main_v23 (F := Ideal) x0 x1 x2 x3 i = change (x0 i) (x1 i) (x2 i) (x3 i) := rfl

theorem ref5 : val_main_v4 (F := Ideal) x1 x2 i = first (x1 i) (x2 i) := rfl

theorem ref6 : val_main_v10 (F := Ideal) x1 x3 i = second (x1 i) (x3 i) := rfl

end

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel

/-- The weight's change. -/
theorem array4 : (dats m 0 c).arrAt 4 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp [e4]
  rw [after0_4]
  refine (congrArg _ (eq_ix2 y)).trans ((block4 _ _ _ _ (y 0) (y 1)).trans ?_)
  refine Eq.trans ?_ (ref4 _ _ _ _ _).symm
  refine congr (congr (congrArg₂ change ?_ ?_) ?_) ?_
  · blk_simp [iblk]
    exact congrArg (m ((c.tc : Thread nD τ).loc main_arg0)) ((eq_ix2 _).trans ((congrArg₂ ix2 (Fin.ext (by blk_simp [e0, e4])) (Fin.ext (by blk_simp [e0, e4]))).trans (eq_ix2 _).symm))
  · blk_simp [iblk]
    exact congrArg (m ((c.tc : Thread nD τ).loc main_arg1)) ((eq_ix2 _).trans ((congrArg₂ ix2 (Fin.ext (by blk_simp [e1, e4])) (Fin.ext (by blk_simp [e1, e4]))).trans (eq_ix2 _).symm))
  · blk_simp [iblk]
    exact congrArg (m ((c.tc : Thread nD τ).loc main_arg2)) ((eq_ix2 _).trans ((congrArg₂ ix2 (Fin.ext (by blk_simp [e2, e4])) (Fin.ext (by blk_simp [e2, e4]))).trans (eq_ix2 _).symm))
  · blk_simp [iblk]
    exact congrArg (m ((c.tc : Thread nD τ).loc main_arg3)) ((eq_ix2 _).trans ((congrArg₂ ix2 (Fin.ext (by blk_simp [e3, e4])) (Fin.ext (by blk_simp [e3, e4]))).trans (eq_ix2 _).symm))

/-- The first moment. -/
theorem array5 : (dats m 0 c).arrAt 5 cfg0.N = val_main_v4 (F := Ideal) (m ((c.tc : Thread nD τ).loc main_arg1)) (m ((c.tc : Thread nD τ).loc main_arg2)) := by
  refine (dats m 0 c).arrAt_eq_of_covers 5 _ (by decide +kernel) fun t hf y => ?_
  blk_simp [e5]
  rw [after0_5]
  refine (congrArg _ (eq_ix2 y)).trans ((block5 _ _ _ _ (y 0) (y 1)).trans ?_)
  refine Eq.trans ?_ (ref5 _ _ _).symm
  refine congrArg₂ first ?_ ?_
  · blk_simp [iblk]
    exact congrArg (m ((c.tc : Thread nD τ).loc main_arg1)) ((eq_ix2 _).trans ((congrArg₂ ix2 (Fin.ext (by blk_simp [e1, e5])) (Fin.ext (by blk_simp [e1, e5]))).trans (eq_ix2 _).symm))
  · blk_simp [iblk]
    exact congrArg (m ((c.tc : Thread nD τ).loc main_arg2)) ((eq_ix2 _).trans ((congrArg₂ ix2 (Fin.ext (by blk_simp [e2, e5])) (Fin.ext (by blk_simp [e2, e5]))).trans (eq_ix2 _).symm))

/-- The second moment. -/
theorem array6 : (dats m 0 c).arrAt 6 cfg0.N = val_main_v10 (F := Ideal) (m ((c.tc : Thread nD τ).loc main_arg1)) (m ((c.tc : Thread nD τ).loc main_arg3)) := by
  refine (dats m 0 c).arrAt_eq_of_covers 6 _ (by decide +kernel) fun t hf y => ?_
  blk_simp [e6]
  rw [after0_6]
  refine (congrArg _ (eq_ix2 y)).trans ((block6 _ _ _ _ (y 0) (y 1)).trans ?_)
  refine Eq.trans ?_ (ref6 _ _ _).symm
  refine congrArg₂ second ?_ ?_
  · blk_simp [iblk]
    exact congrArg (m ((c.tc : Thread nD τ).loc main_arg1)) ((eq_ix2 _).trans ((congrArg₂ ix2 (Fin.ext (by blk_simp [e1, e6])) (Fin.ext (by blk_simp [e1, e6]))).trans (eq_ix2 _).symm))
  · blk_simp [iblk]
    exact congrArg (m ((c.tc : Thread nD τ).loc main_arg3)) ((eq_ix2 _).trans ((congrArg₂ ix2 (Fin.ext (by blk_simp [e3, e6])) (Fin.ext (by blk_simp [e3, e6]))).trans (eq_ix2 _).symm))

end Cert.AdamWDown

end
-- ==== Proof.VectorsRunIdeal.lean ====
/- The run of the optimiser step of the twelve vectors, over the ideal values. -/
module

public import proofs.«01_k».proof.Proof.Gen.Kernel38Ideal.Launch
public import proofs.«01_k».proof.Proof.Gen.Kernel38Ideal.Skeleton
public import proofs.«01_k».proof.Proof.Gen.Kernel38Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut

@[expose] public section

set_option maxRecDepth 16384

noncomputable section

namespace Cert.VectorsRunIdeal

open Cert.Kernel38Ideal Cert.Kernel38Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The assertions' model. -/
abbrev World (F : FTy → Type) [FloatOps F] := MT nD τ sig Unit (Elt F) ℕ (UR sig nD τ) ℕ

/-- A buffer as the call finds it. -/
abbrev start (c : Dev nD) (b : Ref sig .tc) : Buf (Elt F) ((c : Thread nD τ).loc b) := m ((c : Thread nD τ).loc b)

set_option maxHeartbeats 800000 in
/-- The call is the whole program. -/
theorem alone (𝒱₀ : Variants) : Pipeline.HMain (Ix := Unit) (Name := ℕ) (U := UR sig nD τ) (Lvl := ℕ) cfgs 0 defs₀ 𝒱₀ m (main (F := F)) (start m) :=
  Pipeline.hmain_region cfgs 0 defs₀ 𝒱₀ m main fun c => (main_chain c).trans rfl

/-- The part of an array that a window shows. -/
def shown (c : Dev nD) (w : Fin cfg0.W) (t : Fin cfg0.N) : ((cfg0.win w).xblock (cfg0.grid.coords t)).Idx → Elt F (cfg0.win w).elt :=
  ((cfg0.win w).blk t).view.read (Elt F) (start m c (Pipeline.arrRef spec0 w))

/-! The rectangles of the loads and stores: whole vectors. -/

abbrev whole0 : Rect S1x6144 := Rect.unit (s := S1x6144) ![0, 0] S1x6144.size inb_S1x6144_S1x6144_0_0
abbrev whole1 : Rect S1x1024 := Rect.unit (s := S1x1024) ![0, 0] S1x1024.size inb_S1x1024_S1x1024_0_0
abbrev whole2 : Rect S1x512 := Rect.unit (s := S1x512) ![0, 0] S1x512.size inb_S1x512_S1x512_0_0
abbrev whole3 : Rect S1x256 := Rect.unit (s := S1x256) ![0, 0] S1x256.size inb_S1x256_S1x256_0_0
abbrev whole4 : Rect S1x64 := Rect.unit (s := S1x64) ![0, 0] S1x64.size inb_S1x64_S1x64_0_0
abbrev whole5 : Rect S1x32 := Rect.unit (s := S1x32) ![0, 0] S1x32.size inb_S1x32_S1x32_0_0
abbrev whole6 : Rect S1x5632 := Rect.unit (s := S1x5632) ![0, 0] S1x5632.size inb_S1x5632_S1x5632_0_0

/-! What the body leaves in each output, and that the one store covers it. -/

def left48 (x0 : Vec F S1x6144 .f32) (x12 : Vec F S1x6144 .f32) (x24 : Vec F S1x6144 .f32) (x36 : Vec F S1x6144 .f32) : Vec F S1x6144 .f32 :=
  View.canon [⟨whole0, k0_pay4 (View.ld x0 whole0) (View.ld x12 whole0) (View.ld x24 whole0) (View.ld x36 whole0)⟩]
def left49 (x1 : Vec F S1x1024 .f32) (x13 : Vec F S1x1024 .f32) (x25 : Vec F S1x1024 .f32) (x37 : Vec F S1x1024 .f32) : Vec F S1x1024 .f32 :=
  View.canon [⟨whole1, k0_pay7 (View.ld x1 whole1) (View.ld x13 whole1) (View.ld x25 whole1) (View.ld x37 whole1)⟩]
def left50 (x2 : Vec F S1x512 .f32) (x14 : Vec F S1x512 .f32) (x26 : Vec F S1x512 .f32) (x38 : Vec F S1x512 .f32) : Vec F S1x512 .f32 :=
  View.canon [⟨whole2, k0_pay10 (View.ld x2 whole2) (View.ld x14 whole2) (View.ld x26 whole2) (View.ld x38 whole2)⟩]
def left51 (x3 : Vec F S1x256 .f32) (x15 : Vec F S1x256 .f32) (x27 : Vec F S1x256 .f32) (x39 : Vec F S1x256 .f32) : Vec F S1x256 .f32 :=
  View.canon [⟨whole3, k0_pay13 (View.ld x3 whole3) (View.ld x15 whole3) (View.ld x27 whole3) (View.ld x39 whole3)⟩]
def left52 (x4 : Vec F S1x64 .f32) (x16 : Vec F S1x64 .f32) (x28 : Vec F S1x64 .f32) (x40 : Vec F S1x64 .f32) : Vec F S1x64 .f32 :=
  View.canon [⟨whole4, k0_pay16 (View.ld x4 whole4) (View.ld x16 whole4) (View.ld x28 whole4) (View.ld x40 whole4)⟩]
def left53 (x5 : Vec F S1x32 .f32) (x17 : Vec F S1x32 .f32) (x29 : Vec F S1x32 .f32) (x41 : Vec F S1x32 .f32) : Vec F S1x32 .f32 :=
  View.canon [⟨whole5, k0_pay20 (View.ld x5 whole5) (View.ld x17 whole5) (View.ld x29 whole5) (View.ld x41 whole5) (k0_pay17 (F := F))⟩]
def left54 (x6 : Vec F S1x64 .f32) (x18 : Vec F S1x64 .f32) (x30 : Vec F S1x64 .f32) (x42 : Vec F S1x64 .f32) : Vec F S1x64 .f32 :=
  View.canon [⟨whole4, k0_pay25 (View.ld x6 whole4) (View.ld x18 whole4) (View.ld x42 whole4) (k0_pay21 (View.ld x30 whole4)) (k0_pay22 (F := F))⟩]
def left55 (x7 : Vec F S1x32 .f32) (x19 : Vec F S1x32 .f32) (x31 : Vec F S1x32 .f32) (x43 : Vec F S1x32 .f32) : Vec F S1x32 .f32 :=
  View.canon [⟨whole5, k0_pay28 (View.ld x7 whole5) (View.ld x19 whole5) (View.ld x43 whole5) (k0_pay26 (View.ld x19 whole5) (View.ld x31 whole5)) (Scalar.ofBits .f32 0x3F7FBE77#32)⟩]
def left56 (x8 : Vec F S1x64 .f32) (x20 : Vec F S1x64 .f32) (x32 : Vec F S1x64 .f32) (x44 : Vec F S1x64 .f32) : Vec F S1x64 .f32 :=
  View.canon [⟨whole4, k0_pay33 (View.ld x8 whole4) (k0_pay29 (View.ld x20 whole4) (View.ld x32 whole4)) (k0_pay30 (View.ld x44 whole4)) (k0_pay31 (View.ld x20 whole4))⟩]
def left57 (x9 : Vec F S1x64 .f32) (x21 : Vec F S1x64 .f32) (x33 : Vec F S1x64 .f32) (x45 : Vec F S1x64 .f32) : Vec F S1x64 .f32 :=
  View.canon [⟨whole4, k0_pay38 (View.ld x9 whole4) (k0_pay34 (View.ld x21 whole4) (View.ld x33 whole4)) (k0_pay35 (View.ld x45 whole4)) (k0_pay36 (View.ld x21 whole4))⟩]
def left58 (x10 : Vec F S1x1024 .f32) (x22 : Vec F S1x1024 .f32) (x34 : Vec F S1x1024 .f32) (x46 : Vec F S1x1024 .f32) : Vec F S1x1024 .f32 :=
  View.canon [⟨whole1, k0_pay42 (View.ld x10 whole1) (k0_pay39 (View.ld x22 whole1) (View.ld x34 whole1)) (k0_pay40 (View.ld x22 whole1) (View.ld x46 whole1)) (k0_pay41 (F := F))⟩]
def left59 (x11 : Vec F S1x5632 .f32) (x23 : Vec F S1x5632 .f32) (x35 : Vec F S1x5632 .f32) (x47 : Vec F S1x5632 .f32) : Vec F S1x5632 .f32 :=
  View.canon [⟨whole6, k0_pay1 (View.ld x11 whole6) (k0_pay44 (View.ld x23 whole6) (View.ld x47 whole6)) (k0_pay45 (View.ld x23 whole6) (View.ld x35 whole6)) (k0_pay46 (F := F))⟩]
def left60 (x12 : Vec F S1x6144 .f32) (x24 : Vec F S1x6144 .f32) : Vec F S1x6144 .f32 :=
  View.canon [⟨whole0, k0_pay2 (View.ld x12 whole0) (View.ld x24 whole0)⟩]
def left61 (x13 : Vec F S1x1024 .f32) (x25 : Vec F S1x1024 .f32) : Vec F S1x1024 .f32 :=
  View.canon [⟨whole1, k0_pay5 (View.ld x13 whole1) (View.ld x25 whole1)⟩]
def left62 (x14 : Vec F S1x512 .f32) (x26 : Vec F S1x512 .f32) : Vec F S1x512 .f32 :=
  View.canon [⟨whole2, k0_pay8 (View.ld x14 whole2) (View.ld x26 whole2)⟩]
def left63 (x15 : Vec F S1x256 .f32) (x27 : Vec F S1x256 .f32) : Vec F S1x256 .f32 :=
  View.canon [⟨whole3, k0_pay11 (View.ld x15 whole3) (View.ld x27 whole3)⟩]
def left64 (x16 : Vec F S1x64 .f32) (x28 : Vec F S1x64 .f32) : Vec F S1x64 .f32 :=
  View.canon [⟨whole4, k0_pay14 (View.ld x16 whole4) (View.ld x28 whole4)⟩]
def left65 (x17 : Vec F S1x32 .f32) (x29 : Vec F S1x32 .f32) : Vec F S1x32 .f32 :=
  View.canon [⟨whole5, k0_pay18 (View.ld x17 whole5) (View.ld x29 whole5) (k0_pay17 (F := F))⟩]
def left66 (x18 : Vec F S1x64 .f32) (x30 : Vec F S1x64 .f32) : Vec F S1x64 .f32 :=
  View.canon [⟨whole4, k0_pay23 (View.ld x18 whole4) (k0_pay21 (View.ld x30 whole4)) (k0_pay22 (F := F))⟩]
def left67 (x19 : Vec F S1x32 .f32) (x31 : Vec F S1x32 .f32) : Vec F S1x32 .f32 :=
  View.canon [⟨whole5, (k0_pay26 (View.ld x19 whole5) (View.ld x31 whole5))⟩]
def left68 (x20 : Vec F S1x64 .f32) (x32 : Vec F S1x64 .f32) : Vec F S1x64 .f32 :=
  View.canon [⟨whole4, (k0_pay29 (View.ld x20 whole4) (View.ld x32 whole4))⟩]
def left69 (x21 : Vec F S1x64 .f32) (x33 : Vec F S1x64 .f32) : Vec F S1x64 .f32 :=
  View.canon [⟨whole4, (k0_pay34 (View.ld x21 whole4) (View.ld x33 whole4))⟩]
def left70 (x22 : Vec F S1x1024 .f32) (x34 : Vec F S1x1024 .f32) : Vec F S1x1024 .f32 :=
  View.canon [⟨whole1, (k0_pay39 (View.ld x22 whole1) (View.ld x34 whole1))⟩]
def left71 (x23 : Vec F S1x5632 .f32) (x35 : Vec F S1x5632 .f32) : Vec F S1x5632 .f32 :=
  View.canon [⟨whole6, k0_pay43 (View.ld x23 whole6) (View.ld x35 whole6)⟩]
def left72 (x12 : Vec F S1x6144 .f32) (x36 : Vec F S1x6144 .f32) : Vec F S1x6144 .f32 :=
  View.canon [⟨whole0, k0_pay3 (View.ld x12 whole0) (View.ld x36 whole0)⟩]
def left73 (x13 : Vec F S1x1024 .f32) (x37 : Vec F S1x1024 .f32) : Vec F S1x1024 .f32 :=
  View.canon [⟨whole1, k0_pay6 (View.ld x13 whole1) (View.ld x37 whole1)⟩]
def left74 (x14 : Vec F S1x512 .f32) (x38 : Vec F S1x512 .f32) : Vec F S1x512 .f32 :=
  View.canon [⟨whole2, k0_pay9 (View.ld x14 whole2) (View.ld x38 whole2)⟩]
def left75 (x15 : Vec F S1x256 .f32) (x39 : Vec F S1x256 .f32) : Vec F S1x256 .f32 :=
  View.canon [⟨whole3, k0_pay12 (View.ld x15 whole3) (View.ld x39 whole3)⟩]
def left76 (x16 : Vec F S1x64 .f32) (x40 : Vec F S1x64 .f32) : Vec F S1x64 .f32 :=
  View.canon [⟨whole4, k0_pay15 (View.ld x16 whole4) (View.ld x40 whole4)⟩]
def left77 (x17 : Vec F S1x32 .f32) (x41 : Vec F S1x32 .f32) : Vec F S1x32 .f32 :=
  View.canon [⟨whole5, k0_pay19 (View.ld x17 whole5) (View.ld x41 whole5)⟩]
def left78 (x18 : Vec F S1x64 .f32) (x42 : Vec F S1x64 .f32) : Vec F S1x64 .f32 :=
  View.canon [⟨whole4, k0_pay24 (View.ld x18 whole4) (View.ld x42 whole4)⟩]
def left79 (x19 : Vec F S1x32 .f32) (x43 : Vec F S1x32 .f32) : Vec F S1x32 .f32 :=
  View.canon [⟨whole5, k0_pay27 (View.ld x19 whole5) (View.ld x43 whole5) (Scalar.ofBits .f32 0x3F7FBE77#32)⟩]
def left80 (x20 : Vec F S1x64 .f32) (x44 : Vec F S1x64 .f32) : Vec F S1x64 .f32 :=
  View.canon [⟨whole4, k0_pay32 (k0_pay30 (View.ld x44 whole4)) (k0_pay31 (View.ld x20 whole4))⟩]
def left81 (x21 : Vec F S1x64 .f32) (x45 : Vec F S1x64 .f32) : Vec F S1x64 .f32 :=
  View.canon [⟨whole4, k0_pay37 (k0_pay35 (View.ld x45 whole4)) (k0_pay36 (View.ld x21 whole4))⟩]
def left82 (x22 : Vec F S1x1024 .f32) (x46 : Vec F S1x1024 .f32) : Vec F S1x1024 .f32 :=
  View.canon [⟨whole1, (k0_pay40 (View.ld x22 whole1) (View.ld x46 whole1))⟩]
def left83 (x23 : Vec F S1x5632 .f32) (x47 : Vec F S1x5632 .f32) : Vec F S1x5632 .f32 :=
  View.canon [⟨whole6, (k0_pay44 (View.ld x23 whole6) (View.ld x47 whole6))⟩]

theorem covers_S1x32 (p : Vec F S1x32 .f32) (y : S1x32.Idx) : ∃ pc ∈ ([⟨whole5, p⟩] : List (View.Piece (Elt F) S1x32 .f32)), y ∈ pc.1.set :=
  View.cover_of_tiled [⟨whole5, p⟩] S1x32.size (by rfl) y

theorem covers_S1x64 (p : Vec F S1x64 .f32) (y : S1x64.Idx) : ∃ pc ∈ ([⟨whole4, p⟩] : List (View.Piece (Elt F) S1x64 .f32)), y ∈ pc.1.set :=
  View.cover_of_tiled [⟨whole4, p⟩] S1x64.size (by rfl) y

theorem covers_S1x256 (p : Vec F S1x256 .f32) (y : S1x256.Idx) : ∃ pc ∈ ([⟨whole3, p⟩] : List (View.Piece (Elt F) S1x256 .f32)), y ∈ pc.1.set :=
  View.cover_of_tiled [⟨whole3, p⟩] S1x256.size (by rfl) y

theorem covers_S1x512 (p : Vec F S1x512 .f32) (y : S1x512.Idx) : ∃ pc ∈ ([⟨whole2, p⟩] : List (View.Piece (Elt F) S1x512 .f32)), y ∈ pc.1.set :=
  View.cover_of_tiled [⟨whole2, p⟩] S1x512.size (by rfl) y

theorem covers_S1x1024 (p : Vec F S1x1024 .f32) (y : S1x1024.Idx) : ∃ pc ∈ ([⟨whole1, p⟩] : List (View.Piece (Elt F) S1x1024 .f32)), y ∈ pc.1.set :=
  View.cover_of_tiled [⟨whole1, p⟩] S1x1024.size (by rfl) y

theorem covers_S1x5632 (p : Vec F S1x5632 .f32) (y : S1x5632.Idx) : ∃ pc ∈ ([⟨whole6, p⟩] : List (View.Piece (Elt F) S1x5632 .f32)), y ∈ pc.1.set :=
  View.cover_of_tiled [⟨whole6, p⟩] S1x5632.size (by rfl) y

theorem covers_S1x6144 (p : Vec F S1x6144 .f32) (y : S1x6144.Idx) : ∃ pc ∈ ([⟨whole0, p⟩] : List (View.Piece (Elt F) S1x6144 .f32)), y ∈ pc.1.set :=
  View.cover_of_tiled [⟨whole0, p⟩] S1x6144.size (by rfl) y

set_option maxHeartbeats 1000000 in
/-- The body, on whole buffers: the inputs stay, each output holds what the body leaves there. -/
theorem body_sound (c : Dev nD) (E : Set ℕ) (i : grid0.Coords) (arg1 : Memref sig .tc .vmem S1x6144 .f32) (harg1 : arg1.IsWhole) (arg2 : Memref sig .tc .vmem S1x1024 .f32) (harg2 : arg2.IsWhole) (arg3 : Memref sig .tc .vmem S1x512 .f32) (harg3 : arg3.IsWhole) (arg4 : Memref sig .tc .vmem S1x256 .f32) (harg4 : arg4.IsWhole) (arg5 : Memref sig .tc .vmem S1x64 .f32) (harg5 : arg5.IsWhole) (arg6 : Memref sig .tc .vmem S1x32 .f32) (harg6 : arg6.IsWhole) (arg7 : Memref sig .tc .vmem S1x64 .f32) (harg7 : arg7.IsWhole) (arg8 : Memref sig .tc .vmem S1x32 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x1024 .f32) (harg11 : arg11.IsWhole) (arg12 : Memref sig .tc .vmem S1x5632 .f32) (harg12 : arg12.IsWhole) (arg13 : Memref sig .tc .vmem S1x6144 .f32) (harg13 : arg13.IsWhole) (arg14 : Memref sig .tc .vmem S1x1024 .f32) (harg14 : arg14.IsWhole) (arg15 : Memref sig .tc .vmem S1x512 .f32) (harg15 : arg15.IsWhole) (arg16 : Memref sig .tc .vmem S1x256 .f32) (harg16 : arg16.IsWhole) (arg17 : Memref sig .tc .vmem S1x64 .f32) (harg17 : arg17.IsWhole) (arg18 : Memref sig .tc .vmem S1x32 .f32) (harg18 : arg18.IsWhole) (arg19 : Memref sig .tc .vmem S1x64 .f32) (harg19 : arg19.IsWhole) (arg20 : Memref sig .tc .vmem S1x32 .f32) (harg20 : arg20.IsWhole) (arg21 : Memref sig .tc .vmem S1x64 .f32) (harg21 : arg21.IsWhole) (arg22 : Memref sig .tc .vmem S1x64 .f32) (harg22 : arg22.IsWhole) (arg23 : Memref sig .tc .vmem S1x1024 .f32) (harg23 : arg23.IsWhole) (arg24 : Memref sig .tc .vmem S1x5632 .f32) (harg24 : arg24.IsWhole) (arg25 : Memref sig .tc .vmem S1x6144 .f32) (harg25 : arg25.IsWhole) (arg26 : Memref sig .tc .vmem S1x1024 .f32) (harg26 : arg26.IsWhole) (arg27 : Memref sig .tc .vmem S1x512 .f32) (harg27 : arg27.IsWhole) (arg28 : Memref sig .tc .vmem S1x256 .f32) (harg28 : arg28.IsWhole) (arg29 : Memref sig .tc .vmem S1x64 .f32) (harg29 : arg29.IsWhole) (arg30 : Memref sig .tc .vmem S1x32 .f32) (harg30 : arg30.IsWhole) (arg31 : Memref sig .tc .vmem S1x64 .f32) (harg31 : arg31.IsWhole) (arg32 : Memref sig .tc .vmem S1x32 .f32) (harg32 : arg32.IsWhole) (arg33 : Memref sig .tc .vmem S1x64 .f32) (harg33 : arg33.IsWhole) (arg34 : Memref sig .tc .vmem S1x64 .f32) (harg34 : arg34.IsWhole) (arg35 : Memref sig .tc .vmem S1x1024 .f32) (harg35 : arg35.IsWhole) (arg36 : Memref sig .tc .vmem S1x5632 .f32) (harg36 : arg36.IsWhole) (arg37 : Memref sig .tc .vmem S1x6144 .f32) (harg37 : arg37.IsWhole) (arg38 : Memref sig .tc .vmem S1x1024 .f32) (harg38 : arg38.IsWhole) (arg39 : Memref sig .tc .vmem S1x512 .f32) (harg39 : arg39.IsWhole) (arg40 : Memref sig .tc .vmem S1x256 .f32) (harg40 : arg40.IsWhole) (arg41 : Memref sig .tc .vmem S1x64 .f32) (harg41 : arg41.IsWhole) (arg42 : Memref sig .tc .vmem S1x32 .f32) (harg42 : arg42.IsWhole) (arg43 : Memref sig .tc .vmem S1x64 .f32) (harg43 : arg43.IsWhole) (arg44 : Memref sig .tc .vmem S1x32 .f32) (harg44 : arg44.IsWhole) (arg45 : Memref sig .tc .vmem S1x64 .f32) (harg45 : arg45.IsWhole) (arg46 : Memref sig .tc .vmem S1x64 .f32) (harg46 : arg46.IsWhole) (arg47 : Memref sig .tc .vmem S1x1024 .f32) (harg47 : arg47.IsWhole) (arg48 : Memref sig .tc .vmem S1x5632 .f32) (harg48 : arg48.IsWhole) (arg49 : Memref sig .tc .vmem S1x6144 .f32) (harg49 : arg49.IsWhole) (arg50 : Memref sig .tc .vmem S1x1024 .f32) (harg50 : arg50.IsWhole) (arg51 : Memref sig .tc .vmem S1x512 .f32) (harg51 : arg51.IsWhole) (arg52 : Memref sig .tc .vmem S1x256 .f32) (harg52 : arg52.IsWhole) (arg53 : Memref sig .tc .vmem S1x64 .f32) (harg53 : arg53.IsWhole) (arg54 : Memref sig .tc .vmem S1x32 .f32) (harg54 : arg54.IsWhole) (arg55 : Memref sig .tc .vmem S1x64 .f32) (harg55 : arg55.IsWhole) (arg56 : Memref sig .tc .vmem S1x32 .f32) (harg56 : arg56.IsWhole) (arg57 : Memref sig .tc .vmem S1x64 .f32) (harg57 : arg57.IsWhole) (arg58 : Memref sig .tc .vmem S1x64 .f32) (harg58 : arg58.IsWhole) (arg59 : Memref sig .tc .vmem S1x1024 .f32) (harg59 : arg59.IsWhole) (arg60 : Memref sig .tc .vmem S1x5632 .f32) (harg60 : arg60.IsWhole) (arg61 : Memref sig .tc .vmem S1x6144 .f32) (harg61 : arg61.IsWhole) (arg62 : Memref sig .tc .vmem S1x1024 .f32) (harg62 : arg62.IsWhole) (arg63 : Memref sig .tc .vmem S1x512 .f32) (harg63 : arg63.IsWhole) (arg64 : Memref sig .tc .vmem S1x256 .f32) (harg64 : arg64.IsWhole) (arg65 : Memref sig .tc .vmem S1x64 .f32) (harg65 : arg65.IsWhole) (arg66 : Memref sig .tc .vmem S1x32 .f32) (harg66 : arg66.IsWhole) (arg67 : Memref sig .tc .vmem S1x64 .f32) (harg67 : arg67.IsWhole) (arg68 : Memref sig .tc .vmem S1x32 .f32) (harg68 : arg68.IsWhole) (arg69 : Memref sig .tc .vmem S1x64 .f32) (harg69 : arg69.IsWhole) (arg70 : Memref sig .tc .vmem S1x64 .f32) (harg70 : arg70.IsWhole) (arg71 : Memref sig .tc .vmem S1x1024 .f32) (harg71 : arg71.IsWhole) (arg72 : Memref sig .tc .vmem S1x5632 .f32) (harg72 : arg72.IsWhole) (arg73 : Memref sig .tc .vmem S1x6144 .f32) (harg73 : arg73.IsWhole) (arg74 : Memref sig .tc .vmem S1x1024 .f32) (harg74 : arg74.IsWhole) (arg75 : Memref sig .tc .vmem S1x512 .f32) (harg75 : arg75.IsWhole) (arg76 : Memref sig .tc .vmem S1x256 .f32) (harg76 : arg76.IsWhole) (arg77 : Memref sig .tc .vmem S1x64 .f32) (harg77 : arg77.IsWhole) (arg78 : Memref sig .tc .vmem S1x32 .f32) (harg78 : arg78.IsWhole) (arg79 : Memref sig .tc .vmem S1x64 .f32) (harg79 : arg79.IsWhole) (arg80 : Memref sig .tc .vmem S1x32 .f32) (harg80 : arg80.IsWhole) (arg81 : Memref sig .tc .vmem S1x64 .f32) (harg81 : arg81.IsWhole) (arg82 : Memref sig .tc .vmem S1x64 .f32) (harg82 : arg82.IsWhole) (arg83 : Memref sig .tc .vmem S1x1024 .f32) (harg83 : arg83.IsWhole) (arg84 : Memref sig .tc .vmem S1x5632 .f32) (harg84 : arg84.IsWhole)
    (x0 : Vec F S1x6144 .f32) (x1 : Vec F S1x1024 .f32) (x2 : Vec F S1x512 .f32) (x3 : Vec F S1x256 .f32) (x4 : Vec F S1x64 .f32) (x5 : Vec F S1x32 .f32) (x6 : Vec F S1x64 .f32) (x7 : Vec F S1x32 .f32) (x8 : Vec F S1x64 .f32) (x9 : Vec F S1x64 .f32) (x10 : Vec F S1x1024 .f32) (x11 : Vec F S1x5632 .f32) (x12 : Vec F S1x6144 .f32) (x13 : Vec F S1x1024 .f32) (x14 : Vec F S1x512 .f32) (x15 : Vec F S1x256 .f32) (x16 : Vec F S1x64 .f32) (x17 : Vec F S1x32 .f32) (x18 : Vec F S1x64 .f32) (x19 : Vec F S1x32 .f32) (x20 : Vec F S1x64 .f32) (x21 : Vec F S1x64 .f32) (x22 : Vec F S1x1024 .f32) (x23 : Vec F S1x5632 .f32) (x24 : Vec F S1x6144 .f32) (x25 : Vec F S1x1024 .f32) (x26 : Vec F S1x512 .f32) (x27 : Vec F S1x256 .f32) (x28 : Vec F S1x64 .f32) (x29 : Vec F S1x32 .f32) (x30 : Vec F S1x64 .f32) (x31 : Vec F S1x32 .f32) (x32 : Vec F S1x64 .f32) (x33 : Vec F S1x64 .f32) (x34 : Vec F S1x1024 .f32) (x35 : Vec F S1x5632 .f32) (x36 : Vec F S1x6144 .f32) (x37 : Vec F S1x1024 .f32) (x38 : Vec F S1x512 .f32) (x39 : Vec F S1x256 .f32) (x40 : Vec F S1x64 .f32) (x41 : Vec F S1x32 .f32) (x42 : Vec F S1x64 .f32) (x43 : Vec F S1x32 .f32) (x44 : Vec F S1x64 .f32) (x45 : Vec F S1x64 .f32) (x46 : Vec F S1x1024 .f32) (x47 : Vec F S1x5632 .f32) (K : PUnit → sProp (World F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare x37 ∗ owns (c : Thread nD τ) arg39 fullShare x38 ∗ owns (c : Thread nD τ) arg40 fullShare x39 ∗ owns (c : Thread nD τ) arg41 fullShare x40 ∗ owns (c : Thread nD τ) arg42 fullShare x41 ∗ owns (c : Thread nD τ) arg43 fullShare x42 ∗ owns (c : Thread nD τ) arg44 fullShare x43 ∗ owns (c : Thread nD τ) arg45 fullShare x44 ∗ owns (c : Thread nD τ) arg46 fullShare x45 ∗ owns (c : Thread nD τ) arg47 fullShare x46 ∗ owns (c : Thread nD τ) arg48 fullShare x47 ∗ (∃ v : Vec F S1x6144 .f32, owns (c : Thread nD τ) arg49 fullShare v) ∗ (∃ v : Vec F S1x1024 .f32, owns (c : Thread nD τ) arg50 fullShare v) ∗ (∃ v : Vec F S1x512 .f32, owns (c : Thread nD τ) arg51 fullShare v) ∗ (∃ v : Vec F S1x256 .f32, owns (c : Thread nD τ) arg52 fullShare v) ∗ (∃ v : Vec F S1x64 .f32, owns (c : Thread nD τ) arg53 fullShare v) ∗ (∃ v : Vec F S1x32 .f32, owns (c : Thread nD τ) arg54 fullShare v) ∗ (∃ v : Vec F S1x64 .f32, owns (c : Thread nD τ) arg55 fullShare v) ∗ (∃ v : Vec F S1x32 .f32, owns (c : Thread nD τ) arg56 fullShare v) ∗ (∃ v : Vec F S1x64 .f32, owns (c : Thread nD τ) arg57 fullShare v) ∗ (∃ v : Vec F S1x64 .f32, owns (c : Thread nD τ) arg58 fullShare v) ∗ (∃ v : Vec F S1x1024 .f32, owns (c : Thread nD τ) arg59 fullShare v) ∗ (∃ v : Vec F S1x5632 .f32, owns (c : Thread nD τ) arg60 fullShare v) ∗ (∃ v : Vec F S1x6144 .f32, owns (c : Thread nD τ) arg61 fullShare v) ∗ (∃ v : Vec F S1x1024 .f32, owns (c : Thread nD τ) arg62 fullShare v) ∗ (∃ v : Vec F S1x512 .f32, owns (c : Thread nD τ) arg63 fullShare v) ∗ (∃ v : Vec F S1x256 .f32, owns (c : Thread nD τ) arg64 fullShare v) ∗ (∃ v : Vec F S1x64 .f32, owns (c : Thread nD τ) arg65 fullShare v) ∗ (∃ v : Vec F S1x32 .f32, owns (c : Thread nD τ) arg66 fullShare v) ∗ (∃ v : Vec F S1x64 .f32, owns (c : Thread nD τ) arg67 fullShare v) ∗ (∃ v : Vec F S1x32 .f32, owns (c : Thread nD τ) arg68 fullShare v) ∗ (∃ v : Vec F S1x64 .f32, owns (c : Thread nD τ) arg69 fullShare v) ∗ (∃ v : Vec F S1x64 .f32, owns (c : Thread nD τ) arg70 fullShare v) ∗ (∃ v : Vec F S1x1024 .f32, owns (c : Thread nD τ) arg71 fullShare v) ∗ (∃ v : Vec F S1x5632 .f32, owns (c : Thread nD τ) arg72 fullShare v) ∗ (∃ v : Vec F S1x6144 .f32, owns (c : Thread nD τ) arg73 fullShare v) ∗ (∃ v : Vec F S1x1024 .f32, owns (c : Thread nD τ) arg74 fullShare v) ∗ (∃ v : Vec F S1x512 .f32, owns (c : Thread nD τ) arg75 fullShare v) ∗ (∃ v : Vec F S1x256 .f32, owns (c : Thread nD τ) arg76 fullShare v) ∗ (∃ v : Vec F S1x64 .f32, owns (c : Thread nD τ) arg77 fullShare v) ∗ (∃ v : Vec F S1x32 .f32, owns (c : Thread nD τ) arg78 fullShare v) ∗ (∃ v : Vec F S1x64 .f32, owns (c : Thread nD τ) arg79 fullShare v) ∗ (∃ v : Vec F S1x32 .f32, owns (c : Thread nD τ) arg80 fullShare v) ∗ (∃ v : Vec F S1x64 .f32, owns (c : Thread nD τ) arg81 fullShare v) ∗ (∃ v : Vec F S1x64 .f32, owns (c : Thread nD τ) arg82 fullShare v) ∗ (∃ v : Vec F S1x1024 .f32, owns (c : Thread nD τ) arg83 fullShare v) ∗ (∃ v : Vec F S1x5632 .f32, owns (c : Thread nD τ) arg84 fullShare v)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare x37 ∗ owns (c : Thread nD τ) arg39 fullShare x38 ∗ owns (c : Thread nD τ) arg40 fullShare x39 ∗ owns (c : Thread nD τ) arg41 fullShare x40 ∗ owns (c : Thread nD τ) arg42 fullShare x41 ∗ owns (c : Thread nD τ) arg43 fullShare x42 ∗ owns (c : Thread nD τ) arg44 fullShare x43 ∗ owns (c : Thread nD τ) arg45 fullShare x44 ∗ owns (c : Thread nD τ) arg46 fullShare x45 ∗ owns (c : Thread nD τ) arg47 fullShare x46 ∗ owns (c : Thread nD τ) arg48 fullShare x47 ∗ owns (c : Thread nD τ) arg49 fullShare (left48 x0 x12 x24 x36) ∗ owns (c : Thread nD τ) arg50 fullShare (left49 x1 x13 x25 x37) ∗ owns (c : Thread nD τ) arg51 fullShare (left50 x2 x14 x26 x38) ∗ owns (c : Thread nD τ) arg52 fullShare (left51 x3 x15 x27 x39) ∗ owns (c : Thread nD τ) arg53 fullShare (left52 x4 x16 x28 x40) ∗ owns (c : Thread nD τ) arg54 fullShare (left53 x5 x17 x29 x41) ∗ owns (c : Thread nD τ) arg55 fullShare (left54 x6 x18 x30 x42) ∗ owns (c : Thread nD τ) arg56 fullShare (left55 x7 x19 x31 x43) ∗ owns (c : Thread nD τ) arg57 fullShare (left56 x8 x20 x32 x44) ∗ owns (c : Thread nD τ) arg58 fullShare (left57 x9 x21 x33 x45) ∗ owns (c : Thread nD τ) arg59 fullShare (left58 x10 x22 x34 x46) ∗ owns (c : Thread nD τ) arg60 fullShare (left59 x11 x23 x35 x47) ∗ owns (c : Thread nD τ) arg61 fullShare (left60 x12 x24) ∗ owns (c : Thread nD τ) arg62 fullShare (left61 x13 x25) ∗ owns (c : Thread nD τ) arg63 fullShare (left62 x14 x26) ∗ owns (c : Thread nD τ) arg64 fullShare (left63 x15 x27) ∗ owns (c : Thread nD τ) arg65 fullShare (left64 x16 x28) ∗ owns (c : Thread nD τ) arg66 fullShare (left65 x17 x29) ∗ owns (c : Thread nD τ) arg67 fullShare (left66 x18 x30) ∗ owns (c : Thread nD τ) arg68 fullShare (left67 x19 x31) ∗ owns (c : Thread nD τ) arg69 fullShare (left68 x20 x32) ∗ owns (c : Thread nD τ) arg70 fullShare (left69 x21 x33) ∗ owns (c : Thread nD τ) arg71 fullShare (left70 x22 x34) ∗ owns (c : Thread nD τ) arg72 fullShare (left71 x23 x35) ∗ owns (c : Thread nD τ) arg73 fullShare (left72 x12 x36) ∗ owns (c : Thread nD τ) arg74 fullShare (left73 x13 x37) ∗ owns (c : Thread nD τ) arg75 fullShare (left74 x14 x38) ∗ owns (c : Thread nD τ) arg76 fullShare (left75 x15 x39) ∗ owns (c : Thread nD τ) arg77 fullShare (left76 x16 x40) ∗ owns (c : Thread nD τ) arg78 fullShare (left77 x17 x41) ∗ owns (c : Thread nD τ) arg79 fullShare (left78 x18 x42) ∗ owns (c : Thread nD τ) arg80 fullShare (left79 x19 x43) ∗ owns (c : Thread nD τ) arg81 fullShare (left80 x20 x44) ∗ owns (c : Thread nD τ) arg82 fullShare (left81 x21 x45) ∗ owns (c : Thread nD τ) arg83 fullShare (left82 x22 x46) ∗ owns (c : Thread nD τ) arg84 fullShare (left83 x23 x47)) -∗ K ⟨⟩))
      ⊢ wp frame (wpE (defs₀ (F := F)) Variants.none c none) E (cc0_adamw_vectors i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84) K := by
  simp only [cc0_adamw_vectors_eq_skeleton]; unfold cc0_adamw_vectors_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, ⟨%d77, %f77, -, H77⟩, ⟨%d78, %f78, -, H78⟩, ⟨%d79, %f79, -, H79⟩, ⟨%d80, %f80, -, H80⟩, ⟨%d81, %f81, -, H81⟩, ⟨%d82, %f82, -, H82⟩, ⟨%d83, %f83, -, H83⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39 hf40 hf41 hf42 hf43 hf44 hf45 hf46 hf47
  sl_exec
  sl_step
  iapply Hk
  isplitl [H0]; · iexists f0; isplitr; (ipureintro; rfl); iexact H0
  isplitl [H1]; · iexists f1; isplitr; (ipureintro; rfl); iexact H1
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]; · iexists f11; isplitr; (ipureintro; rfl); iexact H11
  isplitl [H12]; · iexists f12; isplitr; (ipureintro; rfl); iexact H12
  isplitl [H13]; · iexists f13; isplitr; (ipureintro; rfl); iexact H13
  isplitl [H14]; · iexists f14; isplitr; (ipureintro; rfl); iexact H14
  isplitl [H15]; · iexists f15; isplitr; (ipureintro; rfl); iexact H15
  isplitl [H16]; · iexists f16; isplitr; (ipureintro; rfl); iexact H16
  isplitl [H17]; · iexists f17; isplitr; (ipureintro; rfl); iexact H17
  isplitl [H18]; · iexists f18; isplitr; (ipureintro; rfl); iexact H18
  isplitl [H19]; · iexists f19; isplitr; (ipureintro; rfl); iexact H19
  isplitl [H20]; · iexists f20; isplitr; (ipureintro; rfl); iexact H20
  isplitl [H21]; · iexists f21; isplitr; (ipureintro; rfl); iexact H21
  isplitl [H22]; · iexists f22; isplitr; (ipureintro; rfl); iexact H22
  isplitl [H23]; · iexists f23; isplitr; (ipureintro; rfl); iexact H23
  isplitl [H24]; · iexists f24; isplitr; (ipureintro; rfl); iexact H24
  isplitl [H25]; · iexists f25; isplitr; (ipureintro; rfl); iexact H25
  isplitl [H26]; · iexists f26; isplitr; (ipureintro; rfl); iexact H26
  isplitl [H27]; · iexists f27; isplitr; (ipureintro; rfl); iexact H27
  isplitl [H28]; · iexists f28; isplitr; (ipureintro; rfl); iexact H28
  isplitl [H29]; · iexists f29; isplitr; (ipureintro; rfl); iexact H29
  isplitl [H30]; · iexists f30; isplitr; (ipureintro; rfl); iexact H30
  isplitl [H31]; · iexists f31; isplitr; (ipureintro; rfl); iexact H31
  isplitl [H32]; · iexists f32; isplitr; (ipureintro; rfl); iexact H32
  isplitl [H33]; · iexists f33; isplitr; (ipureintro; rfl); iexact H33
  isplitl [H34]; · iexists f34; isplitr; (ipureintro; rfl); iexact H34
  isplitl [H35]; · iexists f35; isplitr; (ipureintro; rfl); iexact H35
  isplitl [H36]; · iexists f36; isplitr; (ipureintro; rfl); iexact H36
  isplitl [H37]; · iexists f37; isplitr; (ipureintro; rfl); iexact H37
  isplitl [H38]; · iexists f38; isplitr; (ipureintro; rfl); iexact H38
  isplitl [H39]; · iexists f39; isplitr; (ipureintro; rfl); iexact H39
  isplitl [H40]; · iexists f40; isplitr; (ipureintro; rfl); iexact H40
  isplitl [H41]; · iexists f41; isplitr; (ipureintro; rfl); iexact H41
  isplitl [H42]; · iexists f42; isplitr; (ipureintro; rfl); iexact H42
  isplitl [H43]; · iexists f43; isplitr; (ipureintro; rfl); iexact H43
  isplitl [H44]; · iexists f44; isplitr; (ipureintro; rfl); iexact H44
  isplitl [H45]; · iexists f45; isplitr; (ipureintro; rfl); iexact H45
  isplitl [H46]; · iexists f46; isplitr; (ipureintro; rfl); iexact H46
  isplitl [H47]; · iexists f47; isplitr; (ipureintro; rfl); iexact H47
  isplitl [H48]; · iexists _; isplitr; swap; (iexact H48); ipureintro; exact (View.read_writes_eq_canon _ _ _ (covers_S1x6144 _)).trans rfl
  isplitl [H49]; · iexists _; isplitr; swap; (iexact H49); ipureintro; exact (View.read_writes_eq_canon _ _ _ (covers_S1x1024 _)).trans rfl
  isplitl [H50]; · iexists _; isplitr; swap; (iexact H50); ipureintro; exact (View.read_writes_eq_canon _ _ _ (covers_S1x512 _)).trans rfl
  isplitl [H51]; · iexists _; isplitr; swap; (iexact H51); ipureintro; exact (View.read_writes_eq_canon _ _ _ (covers_S1x256 _)).trans rfl
  isplitl [H52]; · iexists _; isplitr; swap; (iexact H52); ipureintro; exact (View.read_writes_eq_canon _ _ _ (covers_S1x64 _)).trans rfl
  isplitl [H53]; · iexists _; isplitr; swap; (iexact H53); ipureintro; exact (View.read_writes_eq_canon _ _ _ (covers_S1x32 _)).trans rfl
  isplitl [H54]; · iexists _; isplitr; swap; (iexact H54); ipureintro; exact (View.read_writes_eq_canon _ _ _ (covers_S1x64 _)).trans rfl
  isplitl [H55]; · iexists _; isplitr; swap; (iexact H55); ipureintro; exact (View.read_writes_eq_canon _ _ _ (covers_S1x32 _)).trans rfl
  isplitl [H56]; · iexists _; isplitr; swap; (iexact H56); ipureintro; exact (View.read_writes_eq_canon _ _ _ (covers_S1x64 _)).trans rfl
  isplitl [H57]; · iexists _; isplitr; swap; (iexact H57); ipureintro; exact (View.read_writes_eq_canon _ _ _ (covers_S1x64 _)).trans rfl
  isplitl [H58]; · iexists _; isplitr; swap; (iexact H58); ipureintro; exact (View.read_writes_eq_canon _ _ _ (covers_S1x1024 _)).trans rfl
  isplitl [H59]; · iexists _; isplitr; swap; (iexact H59); ipureintro; exact (View.read_writes_eq_canon _ _ _ (covers_S1x5632 _)).trans rfl
  isplitl [H60]; · iexists _; isplitr; swap; (iexact H60); ipureintro; exact (View.read_writes_eq_canon _ _ _ (covers_S1x6144 _)).trans rfl
  isplitl [H61]; · iexists _; isplitr; swap; (iexact H61); ipureintro; exact (View.read_writes_eq_canon _ _ _ (covers_S1x1024 _)).trans rfl
  isplitl [H62]; · iexists _; isplitr; swap; (iexact H62); ipureintro; exact (View.read_writes_eq_canon _ _ _ (covers_S1x512 _)).trans rfl
  isplitl [H63]; · iexists _; isplitr; swap; (iexact H63); ipureintro; exact (View.read_writes_eq_canon _ _ _ (covers_S1x256 _)).trans rfl
  isplitl [H64]; · iexists _; isplitr; swap; (iexact H64); ipureintro; exact (View.read_writes_eq_canon _ _ _ (covers_S1x64 _)).trans rfl
  isplitl [H65]; · iexists _; isplitr; swap; (iexact H65); ipureintro; exact (View.read_writes_eq_canon _ _ _ (covers_S1x32 _)).trans rfl
  isplitl [H66]; · iexists _; isplitr; swap; (iexact H66); ipureintro; exact (View.read_writes_eq_canon _ _ _ (covers_S1x64 _)).trans rfl
  isplitl [H67]; · iexists _; isplitr; swap; (iexact H67); ipureintro; exact (View.read_writes_eq_canon _ _ _ (covers_S1x32 _)).trans rfl
  isplitl [H68]; · iexists _; isplitr; swap; (iexact H68); ipureintro; exact (View.read_writes_eq_canon _ _ _ (covers_S1x64 _)).trans rfl
  isplitl [H69]; · iexists _; isplitr; swap; (iexact H69); ipureintro; exact (View.read_writes_eq_canon _ _ _ (covers_S1x64 _)).trans rfl
  isplitl [H70]; · iexists _; isplitr; swap; (iexact H70); ipureintro; exact (View.read_writes_eq_canon _ _ _ (covers_S1x1024 _)).trans rfl
  isplitl [H71]; · iexists _; isplitr; swap; (iexact H71); ipureintro; exact (View.read_writes_eq_canon _ _ _ (covers_S1x5632 _)).trans rfl
  isplitl [H72]; · iexists _; isplitr; swap; (iexact H72); ipureintro; exact (View.read_writes_eq_canon _ _ _ (covers_S1x6144 _)).trans rfl
  isplitl [H73]; · iexists _; isplitr; swap; (iexact H73); ipureintro; exact (View.read_writes_eq_canon _ _ _ (covers_S1x1024 _)).trans rfl
  isplitl [H74]; · iexists _; isplitr; swap; (iexact H74); ipureintro; exact (View.read_writes_eq_canon _ _ _ (covers_S1x512 _)).trans rfl
  isplitl [H75]; · iexists _; isplitr; swap; (iexact H75); ipureintro; exact (View.read_writes_eq_canon _ _ _ (covers_S1x256 _)).trans rfl
  isplitl [H76]; · iexists _; isplitr; swap; (iexact H76); ipureintro; exact (View.read_writes_eq_canon _ _ _ (covers_S1x64 _)).trans rfl
  isplitl [H77]; · iexists _; isplitr; swap; (iexact H77); ipureintro; exact (View.read_writes_eq_canon _ _ _ (covers_S1x32 _)).trans rfl
  isplitl [H78]; · iexists _; isplitr; swap; (iexact H78); ipureintro; exact (View.read_writes_eq_canon _ _ _ (covers_S1x64 _)).trans rfl
  isplitl [H79]; · iexists _; isplitr; swap; (iexact H79); ipureintro; exact (View.read_writes_eq_canon _ _ _ (covers_S1x32 _)).trans rfl
  isplitl [H80]; · iexists _; isplitr; swap; (iexact H80); ipureintro; exact (View.read_writes_eq_canon _ _ _ (covers_S1x64 _)).trans rfl
  isplitl [H81]; · iexists _; isplitr; swap; (iexact H81); ipureintro; exact (View.read_writes_eq_canon _ _ _ (covers_S1x64 _)).trans rfl
  isplitl [H82]; · iexists _; isplitr; swap; (iexact H82); ipureintro; exact (View.read_writes_eq_canon _ _ _ (covers_S1x1024 _)).trans rfl
  iexists _; isplitr; swap; (iexact H83); ipureintro; exact (View.read_writes_eq_canon _ _ _ (covers_S1x5632 _)).trans rfl

/-- The run's data: each input stays as it is shown, each output is what the body leaves. -/
def data (_ : Fin 1) (c : Dev nD) : Dat τ (Elt F) Unit ℕ (UR sig nD τ) ℕ cfg0 c where
  A w := start m c (Pipeline.arrRef spec0 w)
  after w t := match w with
    | ⟨0, _⟩ => shown m c 0 t
    | ⟨1, _⟩ => shown m c 1 t
    | ⟨2, _⟩ => shown m c 2 t
    | ⟨3, _⟩ => shown m c 3 t
    | ⟨4, _⟩ => shown m c 4 t
    | ⟨5, _⟩ => shown m c 5 t
    | ⟨6, _⟩ => shown m c 6 t
    | ⟨7, _⟩ => shown m c 7 t
    | ⟨8, _⟩ => shown m c 8 t
    | ⟨9, _⟩ => shown m c 9 t
    | ⟨10, _⟩ => shown m c 10 t
    | ⟨11, _⟩ => shown m c 11 t
    | ⟨12, _⟩ => shown m c 12 t
    | ⟨13, _⟩ => shown m c 13 t
    | ⟨14, _⟩ => shown m c 14 t
    | ⟨15, _⟩ => shown m c 15 t
    | ⟨16, _⟩ => shown m c 16 t
    | ⟨17, _⟩ => shown m c 17 t
    | ⟨18, _⟩ => shown m c 18 t
    | ⟨19, _⟩ => shown m c 19 t
    | ⟨20, _⟩ => shown m c 20 t
    | ⟨21, _⟩ => shown m c 21 t
    | ⟨22, _⟩ => shown m c 22 t
    | ⟨23, _⟩ => shown m c 23 t
    | ⟨24, _⟩ => shown m c 24 t
    | ⟨25, _⟩ => shown m c 25 t
    | ⟨26, _⟩ => shown m c 26 t
    | ⟨27, _⟩ => shown m c 27 t
    | ⟨28, _⟩ => shown m c 28 t
    | ⟨29, _⟩ => shown m c 29 t
    | ⟨30, _⟩ => shown m c 30 t
    | ⟨31, _⟩ => shown m c 31 t
    | ⟨32, _⟩ => shown m c 32 t
    | ⟨33, _⟩ => shown m c 33 t
    | ⟨34, _⟩ => shown m c 34 t
    | ⟨35, _⟩ => shown m c 35 t
    | ⟨36, _⟩ => shown m c 36 t
    | ⟨37, _⟩ => shown m c 37 t
    | ⟨38, _⟩ => shown m c 38 t
    | ⟨39, _⟩ => shown m c 39 t
    | ⟨40, _⟩ => shown m c 40 t
    | ⟨41, _⟩ => shown m c 41 t
    | ⟨42, _⟩ => shown m c 42 t
    | ⟨43, _⟩ => shown m c 43 t
    | ⟨44, _⟩ => shown m c 44 t
    | ⟨45, _⟩ => shown m c 45 t
    | ⟨46, _⟩ => shown m c 46 t
    | ⟨47, _⟩ => shown m c 47 t
    | ⟨48, _⟩ => left48 (shown m c 0 t) (shown m c 12 t) (shown m c 24 t) (shown m c 36 t)
    | ⟨49, _⟩ => left49 (shown m c 1 t) (shown m c 13 t) (shown m c 25 t) (shown m c 37 t)
    | ⟨50, _⟩ => left50 (shown m c 2 t) (shown m c 14 t) (shown m c 26 t) (shown m c 38 t)
    | ⟨51, _⟩ => left51 (shown m c 3 t) (shown m c 15 t) (shown m c 27 t) (shown m c 39 t)
    | ⟨52, _⟩ => left52 (shown m c 4 t) (shown m c 16 t) (shown m c 28 t) (shown m c 40 t)
    | ⟨53, _⟩ => left53 (shown m c 5 t) (shown m c 17 t) (shown m c 29 t) (shown m c 41 t)
    | ⟨54, _⟩ => left54 (shown m c 6 t) (shown m c 18 t) (shown m c 30 t) (shown m c 42 t)
    | ⟨55, _⟩ => left55 (shown m c 7 t) (shown m c 19 t) (shown m c 31 t) (shown m c 43 t)
    | ⟨56, _⟩ => left56 (shown m c 8 t) (shown m c 20 t) (shown m c 32 t) (shown m c 44 t)
    | ⟨57, _⟩ => left57 (shown m c 9 t) (shown m c 21 t) (shown m c 33 t) (shown m c 45 t)
    | ⟨58, _⟩ => left58 (shown m c 10 t) (shown m c 22 t) (shown m c 34 t) (shown m c 46 t)
    | ⟨59, _⟩ => left59 (shown m c 11 t) (shown m c 23 t) (shown m c 35 t) (shown m c 47 t)
    | ⟨60, _⟩ => left60 (shown m c 12 t) (shown m c 24 t)
    | ⟨61, _⟩ => left61 (shown m c 13 t) (shown m c 25 t)
    | ⟨62, _⟩ => left62 (shown m c 14 t) (shown m c 26 t)
    | ⟨63, _⟩ => left63 (shown m c 15 t) (shown m c 27 t)
    | ⟨64, _⟩ => left64 (shown m c 16 t) (shown m c 28 t)
    | ⟨65, _⟩ => left65 (shown m c 17 t) (shown m c 29 t)
    | ⟨66, _⟩ => left66 (shown m c 18 t) (shown m c 30 t)
    | ⟨67, _⟩ => left67 (shown m c 19 t) (shown m c 31 t)
    | ⟨68, _⟩ => left68 (shown m c 20 t) (shown m c 32 t)
    | ⟨69, _⟩ => left69 (shown m c 21 t) (shown m c 33 t)
    | ⟨70, _⟩ => left70 (shown m c 22 t) (shown m c 34 t)
    | ⟨71, _⟩ => left71 (shown m c 23 t) (shown m c 35 t)
    | ⟨72, _⟩ => left72 (shown m c 12 t) (shown m c 36 t)
    | ⟨73, _⟩ => left73 (shown m c 13 t) (shown m c 37 t)
    | ⟨74, _⟩ => left74 (shown m c 14 t) (shown m c 38 t)
    | ⟨75, _⟩ => left75 (shown m c 15 t) (shown m c 39 t)
    | ⟨76, _⟩ => left76 (shown m c 16 t) (shown m c 40 t)
    | ⟨77, _⟩ => left77 (shown m c 17 t) (shown m c 41 t)
    | ⟨78, _⟩ => left78 (shown m c 18 t) (shown m c 42 t)
    | ⟨79, _⟩ => left79 (shown m c 19 t) (shown m c 43 t)
    | ⟨80, _⟩ => left80 (shown m c 20 t) (shown m c 44 t)
    | ⟨81, _⟩ => left81 (shown m c 21 t) (shown m c 45 t)
    | ⟨82, _⟩ => left82 (shown m c 22 t) (shown m c 46 t)
    | ⟨83, _⟩ => left83 (shown m c 23 t) (shown m c 47 t)
    | ⟨_ + 84, h⟩ => absurd h (Nat.not_lt.2 (Nat.le_add_left _ _))
  Φ _ := Pipeline.ΦA spec0 c
  q _ := fullShare
  owed _ := 0

theorem data_start (c : Dev nD) (w : Fin cfg0.W) : (data m 0 c).A w = start m c (Pipeline.arrRef spec0 w) := by
  dsimp only [data]

/-! What each window's buffer holds after the body. -/

theorem after0 (c : Dev nD) (t : Fin cfg0.N) : (data m 0 c).after 0 t = shown m c 0 t := by dsimp only [data]
theorem after1 (c : Dev nD) (t : Fin cfg0.N) : (data m 0 c).after 1 t = shown m c 1 t := by dsimp only [data]
theorem after2 (c : Dev nD) (t : Fin cfg0.N) : (data m 0 c).after 2 t = shown m c 2 t := by dsimp only [data]
theorem after3 (c : Dev nD) (t : Fin cfg0.N) : (data m 0 c).after 3 t = shown m c 3 t := by dsimp only [data]
theorem after4 (c : Dev nD) (t : Fin cfg0.N) : (data m 0 c).after 4 t = shown m c 4 t := by dsimp only [data]
theorem after5 (c : Dev nD) (t : Fin cfg0.N) : (data m 0 c).after 5 t = shown m c 5 t := by dsimp only [data]
theorem after6 (c : Dev nD) (t : Fin cfg0.N) : (data m 0 c).after 6 t = shown m c 6 t := by dsimp only [data]
theorem after7 (c : Dev nD) (t : Fin cfg0.N) : (data m 0 c).after 7 t = shown m c 7 t := by dsimp only [data]
theorem after8 (c : Dev nD) (t : Fin cfg0.N) : (data m 0 c).after 8 t = shown m c 8 t := by dsimp only [data]
theorem after9 (c : Dev nD) (t : Fin cfg0.N) : (data m 0 c).after 9 t = shown m c 9 t := by dsimp only [data]
theorem after10 (c : Dev nD) (t : Fin cfg0.N) : (data m 0 c).after 10 t = shown m c 10 t := by dsimp only [data]
theorem after11 (c : Dev nD) (t : Fin cfg0.N) : (data m 0 c).after 11 t = shown m c 11 t := by dsimp only [data]
theorem after12 (c : Dev nD) (t : Fin cfg0.N) : (data m 0 c).after 12 t = shown m c 12 t := by dsimp only [data]
theorem after13 (c : Dev nD) (t : Fin cfg0.N) : (data m 0 c).after 13 t = shown m c 13 t := by dsimp only [data]
theorem after14 (c : Dev nD) (t : Fin cfg0.N) : (data m 0 c).after 14 t = shown m c 14 t := by dsimp only [data]
theorem after15 (c : Dev nD) (t : Fin cfg0.N) : (data m 0 c).after 15 t = shown m c 15 t := by dsimp only [data]
theorem after16 (c : Dev nD) (t : Fin cfg0.N) : (data m 0 c).after 16 t = shown m c 16 t := by dsimp only [data]
theorem after17 (c : Dev nD) (t : Fin cfg0.N) : (data m 0 c).after 17 t = shown m c 17 t := by dsimp only [data]
theorem after18 (c : Dev nD) (t : Fin cfg0.N) : (data m 0 c).after 18 t = shown m c 18 t := by dsimp only [data]
theorem after19 (c : Dev nD) (t : Fin cfg0.N) : (data m 0 c).after 19 t = shown m c 19 t := by dsimp only [data]
theorem after20 (c : Dev nD) (t : Fin cfg0.N) : (data m 0 c).after 20 t = shown m c 20 t := by dsimp only [data]
theorem after21 (c : Dev nD) (t : Fin cfg0.N) : (data m 0 c).after 21 t = shown m c 21 t := by dsimp only [data]
theorem after22 (c : Dev nD) (t : Fin cfg0.N) : (data m 0 c).after 22 t = shown m c 22 t := by dsimp only [data]
theorem after23 (c : Dev nD) (t : Fin cfg0.N) : (data m 0 c).after 23 t = shown m c 23 t := by dsimp only [data]
theorem after24 (c : Dev nD) (t : Fin cfg0.N) : (data m 0 c).after 24 t = shown m c 24 t := by dsimp only [data]
theorem after25 (c : Dev nD) (t : Fin cfg0.N) : (data m 0 c).after 25 t = shown m c 25 t := by dsimp only [data]
theorem after26 (c : Dev nD) (t : Fin cfg0.N) : (data m 0 c).after 26 t = shown m c 26 t := by dsimp only [data]
theorem after27 (c : Dev nD) (t : Fin cfg0.N) : (data m 0 c).after 27 t = shown m c 27 t := by dsimp only [data]
theorem after28 (c : Dev nD) (t : Fin cfg0.N) : (data m 0 c).after 28 t = shown m c 28 t := by dsimp only [data]
theorem after29 (c : Dev nD) (t : Fin cfg0.N) : (data m 0 c).after 29 t = shown m c 29 t := by dsimp only [data]
theorem after30 (c : Dev nD) (t : Fin cfg0.N) : (data m 0 c).after 30 t = shown m c 30 t := by dsimp only [data]
theorem after31 (c : Dev nD) (t : Fin cfg0.N) : (data m 0 c).after 31 t = shown m c 31 t := by dsimp only [data]
theorem after32 (c : Dev nD) (t : Fin cfg0.N) : (data m 0 c).after 32 t = shown m c 32 t := by dsimp only [data]
theorem after33 (c : Dev nD) (t : Fin cfg0.N) : (data m 0 c).after 33 t = shown m c 33 t := by dsimp only [data]
theorem after34 (c : Dev nD) (t : Fin cfg0.N) : (data m 0 c).after 34 t = shown m c 34 t := by dsimp only [data]
theorem after35 (c : Dev nD) (t : Fin cfg0.N) : (data m 0 c).after 35 t = shown m c 35 t := by dsimp only [data]
theorem after36 (c : Dev nD) (t : Fin cfg0.N) : (data m 0 c).after 36 t = shown m c 36 t := by dsimp only [data]
theorem after37 (c : Dev nD) (t : Fin cfg0.N) : (data m 0 c).after 37 t = shown m c 37 t := by dsimp only [data]
theorem after38 (c : Dev nD) (t : Fin cfg0.N) : (data m 0 c).after 38 t = shown m c 38 t := by dsimp only [data]
theorem after39 (c : Dev nD) (t : Fin cfg0.N) : (data m 0 c).after 39 t = shown m c 39 t := by dsimp only [data]
theorem after40 (c : Dev nD) (t : Fin cfg0.N) : (data m 0 c).after 40 t = shown m c 40 t := by dsimp only [data]
theorem after41 (c : Dev nD) (t : Fin cfg0.N) : (data m 0 c).after 41 t = shown m c 41 t := by dsimp only [data]
theorem after42 (c : Dev nD) (t : Fin cfg0.N) : (data m 0 c).after 42 t = shown m c 42 t := by dsimp only [data]
theorem after43 (c : Dev nD) (t : Fin cfg0.N) : (data m 0 c).after 43 t = shown m c 43 t := by dsimp only [data]
theorem after44 (c : Dev nD) (t : Fin cfg0.N) : (data m 0 c).after 44 t = shown m c 44 t := by dsimp only [data]
theorem after45 (c : Dev nD) (t : Fin cfg0.N) : (data m 0 c).after 45 t = shown m c 45 t := by dsimp only [data]
theorem after46 (c : Dev nD) (t : Fin cfg0.N) : (data m 0 c).after 46 t = shown m c 46 t := by dsimp only [data]
theorem after47 (c : Dev nD) (t : Fin cfg0.N) : (data m 0 c).after 47 t = shown m c 47 t := by dsimp only [data]
theorem after48 (c : Dev nD) (t : Fin cfg0.N) : (data m 0 c).after 48 t = left48 (shown m c 0 t) (shown m c 12 t) (shown m c 24 t) (shown m c 36 t) := by dsimp only [data]
theorem after49 (c : Dev nD) (t : Fin cfg0.N) : (data m 0 c).after 49 t = left49 (shown m c 1 t) (shown m c 13 t) (shown m c 25 t) (shown m c 37 t) := by dsimp only [data]
theorem after50 (c : Dev nD) (t : Fin cfg0.N) : (data m 0 c).after 50 t = left50 (shown m c 2 t) (shown m c 14 t) (shown m c 26 t) (shown m c 38 t) := by dsimp only [data]
theorem after51 (c : Dev nD) (t : Fin cfg0.N) : (data m 0 c).after 51 t = left51 (shown m c 3 t) (shown m c 15 t) (shown m c 27 t) (shown m c 39 t) := by dsimp only [data]
theorem after52 (c : Dev nD) (t : Fin cfg0.N) : (data m 0 c).after 52 t = left52 (shown m c 4 t) (shown m c 16 t) (shown m c 28 t) (shown m c 40 t) := by dsimp only [data]
theorem after53 (c : Dev nD) (t : Fin cfg0.N) : (data m 0 c).after 53 t = left53 (shown m c 5 t) (shown m c 17 t) (shown m c 29 t) (shown m c 41 t) := by dsimp only [data]
theorem after54 (c : Dev nD) (t : Fin cfg0.N) : (data m 0 c).after 54 t = left54 (shown m c 6 t) (shown m c 18 t) (shown m c 30 t) (shown m c 42 t) := by dsimp only [data]
theorem after55 (c : Dev nD) (t : Fin cfg0.N) : (data m 0 c).after 55 t = left55 (shown m c 7 t) (shown m c 19 t) (shown m c 31 t) (shown m c 43 t) := by dsimp only [data]
theorem after56 (c : Dev nD) (t : Fin cfg0.N) : (data m 0 c).after 56 t = left56 (shown m c 8 t) (shown m c 20 t) (shown m c 32 t) (shown m c 44 t) := by dsimp only [data]
theorem after57 (c : Dev nD) (t : Fin cfg0.N) : (data m 0 c).after 57 t = left57 (shown m c 9 t) (shown m c 21 t) (shown m c 33 t) (shown m c 45 t) := by dsimp only [data]
theorem after58 (c : Dev nD) (t : Fin cfg0.N) : (data m 0 c).after 58 t = left58 (shown m c 10 t) (shown m c 22 t) (shown m c 34 t) (shown m c 46 t) := by dsimp only [data]
theorem after59 (c : Dev nD) (t : Fin cfg0.N) : (data m 0 c).after 59 t = left59 (shown m c 11 t) (shown m c 23 t) (shown m c 35 t) (shown m c 47 t) := by dsimp only [data]
theorem after60 (c : Dev nD) (t : Fin cfg0.N) : (data m 0 c).after 60 t = left60 (shown m c 12 t) (shown m c 24 t) := by dsimp only [data]
theorem after61 (c : Dev nD) (t : Fin cfg0.N) : (data m 0 c).after 61 t = left61 (shown m c 13 t) (shown m c 25 t) := by dsimp only [data]
theorem after62 (c : Dev nD) (t : Fin cfg0.N) : (data m 0 c).after 62 t = left62 (shown m c 14 t) (shown m c 26 t) := by dsimp only [data]
theorem after63 (c : Dev nD) (t : Fin cfg0.N) : (data m 0 c).after 63 t = left63 (shown m c 15 t) (shown m c 27 t) := by dsimp only [data]
theorem after64 (c : Dev nD) (t : Fin cfg0.N) : (data m 0 c).after 64 t = left64 (shown m c 16 t) (shown m c 28 t) := by dsimp only [data]
theorem after65 (c : Dev nD) (t : Fin cfg0.N) : (data m 0 c).after 65 t = left65 (shown m c 17 t) (shown m c 29 t) := by dsimp only [data]
theorem after66 (c : Dev nD) (t : Fin cfg0.N) : (data m 0 c).after 66 t = left66 (shown m c 18 t) (shown m c 30 t) := by dsimp only [data]
theorem after67 (c : Dev nD) (t : Fin cfg0.N) : (data m 0 c).after 67 t = left67 (shown m c 19 t) (shown m c 31 t) := by dsimp only [data]
theorem after68 (c : Dev nD) (t : Fin cfg0.N) : (data m 0 c).after 68 t = left68 (shown m c 20 t) (shown m c 32 t) := by dsimp only [data]
theorem after69 (c : Dev nD) (t : Fin cfg0.N) : (data m 0 c).after 69 t = left69 (shown m c 21 t) (shown m c 33 t) := by dsimp only [data]
theorem after70 (c : Dev nD) (t : Fin cfg0.N) : (data m 0 c).after 70 t = left70 (shown m c 22 t) (shown m c 34 t) := by dsimp only [data]
theorem after71 (c : Dev nD) (t : Fin cfg0.N) : (data m 0 c).after 71 t = left71 (shown m c 23 t) (shown m c 35 t) := by dsimp only [data]
theorem after72 (c : Dev nD) (t : Fin cfg0.N) : (data m 0 c).after 72 t = left72 (shown m c 12 t) (shown m c 36 t) := by dsimp only [data]
theorem after73 (c : Dev nD) (t : Fin cfg0.N) : (data m 0 c).after 73 t = left73 (shown m c 13 t) (shown m c 37 t) := by dsimp only [data]
theorem after74 (c : Dev nD) (t : Fin cfg0.N) : (data m 0 c).after 74 t = left74 (shown m c 14 t) (shown m c 38 t) := by dsimp only [data]
theorem after75 (c : Dev nD) (t : Fin cfg0.N) : (data m 0 c).after 75 t = left75 (shown m c 15 t) (shown m c 39 t) := by dsimp only [data]
theorem after76 (c : Dev nD) (t : Fin cfg0.N) : (data m 0 c).after 76 t = left76 (shown m c 16 t) (shown m c 40 t) := by dsimp only [data]
theorem after77 (c : Dev nD) (t : Fin cfg0.N) : (data m 0 c).after 77 t = left77 (shown m c 17 t) (shown m c 41 t) := by dsimp only [data]
theorem after78 (c : Dev nD) (t : Fin cfg0.N) : (data m 0 c).after 78 t = left78 (shown m c 18 t) (shown m c 42 t) := by dsimp only [data]
theorem after79 (c : Dev nD) (t : Fin cfg0.N) : (data m 0 c).after 79 t = left79 (shown m c 19 t) (shown m c 43 t) := by dsimp only [data]
theorem after80 (c : Dev nD) (t : Fin cfg0.N) : (data m 0 c).after 80 t = left80 (shown m c 20 t) (shown m c 44 t) := by dsimp only [data]
theorem after81 (c : Dev nD) (t : Fin cfg0.N) : (data m 0 c).after 81 t = left81 (shown m c 21 t) (shown m c 45 t) := by dsimp only [data]
theorem after82 (c : Dev nD) (t : Fin cfg0.N) : (data m 0 c).after 82 t = left82 (shown m c 22 t) (shown m c 46 t) := by dsimp only [data]
theorem after83 (c : Dev nD) (t : Fin cfg0.N) : (data m 0 c).after 83 t = left83 (shown m c 23 t) (shown m c 47 t) := by dsimp only [data]

/-! What each input's buffer holds before it. -/

theorem before0 (c : Dev nD) (t : Fin cfg0.N) (d) : (data m 0 c).before 0 t d = shown m c 0 t :=
  ((data m 0 c).before_in_eq_fetched 0 rfl (fun _ => rfl) (fun _ _ _ => rfl) (fun t => by rw [after0]; unfold Dat.blockOf shown; rw [data_start]) t d).trans
    (by unfold Dat.fetched Dat.blockOf shown; rw [data_start]; rfl)
theorem before1 (c : Dev nD) (t : Fin cfg0.N) (d) : (data m 0 c).before 1 t d = shown m c 1 t :=
  ((data m 0 c).before_in_eq_fetched 1 rfl (fun _ => rfl) (fun _ _ _ => rfl) (fun t => by rw [after1]; unfold Dat.blockOf shown; rw [data_start]) t d).trans
    (by unfold Dat.fetched Dat.blockOf shown; rw [data_start]; rfl)
theorem before2 (c : Dev nD) (t : Fin cfg0.N) (d) : (data m 0 c).before 2 t d = shown m c 2 t :=
  ((data m 0 c).before_in_eq_fetched 2 rfl (fun _ => rfl) (fun _ _ _ => rfl) (fun t => by rw [after2]; unfold Dat.blockOf shown; rw [data_start]) t d).trans
    (by unfold Dat.fetched Dat.blockOf shown; rw [data_start]; rfl)
theorem before3 (c : Dev nD) (t : Fin cfg0.N) (d) : (data m 0 c).before 3 t d = shown m c 3 t :=
  ((data m 0 c).before_in_eq_fetched 3 rfl (fun _ => rfl) (fun _ _ _ => rfl) (fun t => by rw [after3]; unfold Dat.blockOf shown; rw [data_start]) t d).trans
    (by unfold Dat.fetched Dat.blockOf shown; rw [data_start]; rfl)
theorem before4 (c : Dev nD) (t : Fin cfg0.N) (d) : (data m 0 c).before 4 t d = shown m c 4 t :=
  ((data m 0 c).before_in_eq_fetched 4 rfl (fun _ => rfl) (fun _ _ _ => rfl) (fun t => by rw [after4]; unfold Dat.blockOf shown; rw [data_start]) t d).trans
    (by unfold Dat.fetched Dat.blockOf shown; rw [data_start]; rfl)
theorem before5 (c : Dev nD) (t : Fin cfg0.N) (d) : (data m 0 c).before 5 t d = shown m c 5 t :=
  ((data m 0 c).before_in_eq_fetched 5 rfl (fun _ => rfl) (fun _ _ _ => rfl) (fun t => by rw [after5]; unfold Dat.blockOf shown; rw [data_start]) t d).trans
    (by unfold Dat.fetched Dat.blockOf shown; rw [data_start]; rfl)
theorem before6 (c : Dev nD) (t : Fin cfg0.N) (d) : (data m 0 c).before 6 t d = shown m c 6 t :=
  ((data m 0 c).before_in_eq_fetched 6 rfl (fun _ => rfl) (fun _ _ _ => rfl) (fun t => by rw [after6]; unfold Dat.blockOf shown; rw [data_start]) t d).trans
    (by unfold Dat.fetched Dat.blockOf shown; rw [data_start]; rfl)
theorem before7 (c : Dev nD) (t : Fin cfg0.N) (d) : (data m 0 c).before 7 t d = shown m c 7 t :=
  ((data m 0 c).before_in_eq_fetched 7 rfl (fun _ => rfl) (fun _ _ _ => rfl) (fun t => by rw [after7]; unfold Dat.blockOf shown; rw [data_start]) t d).trans
    (by unfold Dat.fetched Dat.blockOf shown; rw [data_start]; rfl)
theorem before8 (c : Dev nD) (t : Fin cfg0.N) (d) : (data m 0 c).before 8 t d = shown m c 8 t :=
  ((data m 0 c).before_in_eq_fetched 8 rfl (fun _ => rfl) (fun _ _ _ => rfl) (fun t => by rw [after8]; unfold Dat.blockOf shown; rw [data_start]) t d).trans
    (by unfold Dat.fetched Dat.blockOf shown; rw [data_start]; rfl)
theorem before9 (c : Dev nD) (t : Fin cfg0.N) (d) : (data m 0 c).before 9 t d = shown m c 9 t :=
  ((data m 0 c).before_in_eq_fetched 9 rfl (fun _ => rfl) (fun _ _ _ => rfl) (fun t => by rw [after9]; unfold Dat.blockOf shown; rw [data_start]) t d).trans
    (by unfold Dat.fetched Dat.blockOf shown; rw [data_start]; rfl)
theorem before10 (c : Dev nD) (t : Fin cfg0.N) (d) : (data m 0 c).before 10 t d = shown m c 10 t :=
  ((data m 0 c).before_in_eq_fetched 10 rfl (fun _ => rfl) (fun _ _ _ => rfl) (fun t => by rw [after10]; unfold Dat.blockOf shown; rw [data_start]) t d).trans
    (by unfold Dat.fetched Dat.blockOf shown; rw [data_start]; rfl)
theorem before11 (c : Dev nD) (t : Fin cfg0.N) (d) : (data m 0 c).before 11 t d = shown m c 11 t :=
  ((data m 0 c).before_in_eq_fetched 11 rfl (fun _ => rfl) (fun _ _ _ => rfl) (fun t => by rw [after11]; unfold Dat.blockOf shown; rw [data_start]) t d).trans
    (by unfold Dat.fetched Dat.blockOf shown; rw [data_start]; rfl)
theorem before12 (c : Dev nD) (t : Fin cfg0.N) (d) : (data m 0 c).before 12 t d = shown m c 12 t :=
  ((data m 0 c).before_in_eq_fetched 12 rfl (fun _ => rfl) (fun _ _ _ => rfl) (fun t => by rw [after12]; unfold Dat.blockOf shown; rw [data_start]) t d).trans
    (by unfold Dat.fetched Dat.blockOf shown; rw [data_start]; rfl)
theorem before13 (c : Dev nD) (t : Fin cfg0.N) (d) : (data m 0 c).before 13 t d = shown m c 13 t :=
  ((data m 0 c).before_in_eq_fetched 13 rfl (fun _ => rfl) (fun _ _ _ => rfl) (fun t => by rw [after13]; unfold Dat.blockOf shown; rw [data_start]) t d).trans
    (by unfold Dat.fetched Dat.blockOf shown; rw [data_start]; rfl)
theorem before14 (c : Dev nD) (t : Fin cfg0.N) (d) : (data m 0 c).before 14 t d = shown m c 14 t :=
  ((data m 0 c).before_in_eq_fetched 14 rfl (fun _ => rfl) (fun _ _ _ => rfl) (fun t => by rw [after14]; unfold Dat.blockOf shown; rw [data_start]) t d).trans
    (by unfold Dat.fetched Dat.blockOf shown; rw [data_start]; rfl)
theorem before15 (c : Dev nD) (t : Fin cfg0.N) (d) : (data m 0 c).before 15 t d = shown m c 15 t :=
  ((data m 0 c).before_in_eq_fetched 15 rfl (fun _ => rfl) (fun _ _ _ => rfl) (fun t => by rw [after15]; unfold Dat.blockOf shown; rw [data_start]) t d).trans
    (by unfold Dat.fetched Dat.blockOf shown; rw [data_start]; rfl)
theorem before16 (c : Dev nD) (t : Fin cfg0.N) (d) : (data m 0 c).before 16 t d = shown m c 16 t :=
  ((data m 0 c).before_in_eq_fetched 16 rfl (fun _ => rfl) (fun _ _ _ => rfl) (fun t => by rw [after16]; unfold Dat.blockOf shown; rw [data_start]) t d).trans
    (by unfold Dat.fetched Dat.blockOf shown; rw [data_start]; rfl)
theorem before17 (c : Dev nD) (t : Fin cfg0.N) (d) : (data m 0 c).before 17 t d = shown m c 17 t :=
  ((data m 0 c).before_in_eq_fetched 17 rfl (fun _ => rfl) (fun _ _ _ => rfl) (fun t => by rw [after17]; unfold Dat.blockOf shown; rw [data_start]) t d).trans
    (by unfold Dat.fetched Dat.blockOf shown; rw [data_start]; rfl)
theorem before18 (c : Dev nD) (t : Fin cfg0.N) (d) : (data m 0 c).before 18 t d = shown m c 18 t :=
  ((data m 0 c).before_in_eq_fetched 18 rfl (fun _ => rfl) (fun _ _ _ => rfl) (fun t => by rw [after18]; unfold Dat.blockOf shown; rw [data_start]) t d).trans
    (by unfold Dat.fetched Dat.blockOf shown; rw [data_start]; rfl)
theorem before19 (c : Dev nD) (t : Fin cfg0.N) (d) : (data m 0 c).before 19 t d = shown m c 19 t :=
  ((data m 0 c).before_in_eq_fetched 19 rfl (fun _ => rfl) (fun _ _ _ => rfl) (fun t => by rw [after19]; unfold Dat.blockOf shown; rw [data_start]) t d).trans
    (by unfold Dat.fetched Dat.blockOf shown; rw [data_start]; rfl)
theorem before20 (c : Dev nD) (t : Fin cfg0.N) (d) : (data m 0 c).before 20 t d = shown m c 20 t :=
  ((data m 0 c).before_in_eq_fetched 20 rfl (fun _ => rfl) (fun _ _ _ => rfl) (fun t => by rw [after20]; unfold Dat.blockOf shown; rw [data_start]) t d).trans
    (by unfold Dat.fetched Dat.blockOf shown; rw [data_start]; rfl)
theorem before21 (c : Dev nD) (t : Fin cfg0.N) (d) : (data m 0 c).before 21 t d = shown m c 21 t :=
  ((data m 0 c).before_in_eq_fetched 21 rfl (fun _ => rfl) (fun _ _ _ => rfl) (fun t => by rw [after21]; unfold Dat.blockOf shown; rw [data_start]) t d).trans
    (by unfold Dat.fetched Dat.blockOf shown; rw [data_start]; rfl)
theorem before22 (c : Dev nD) (t : Fin cfg0.N) (d) : (data m 0 c).before 22 t d = shown m c 22 t :=
  ((data m 0 c).before_in_eq_fetched 22 rfl (fun _ => rfl) (fun _ _ _ => rfl) (fun t => by rw [after22]; unfold Dat.blockOf shown; rw [data_start]) t d).trans
    (by unfold Dat.fetched Dat.blockOf shown; rw [data_start]; rfl)
theorem before23 (c : Dev nD) (t : Fin cfg0.N) (d) : (data m 0 c).before 23 t d = shown m c 23 t :=
  ((data m 0 c).before_in_eq_fetched 23 rfl (fun _ => rfl) (fun _ _ _ => rfl) (fun t => by rw [after23]; unfold Dat.blockOf shown; rw [data_start]) t d).trans
    (by unfold Dat.fetched Dat.blockOf shown; rw [data_start]; rfl)
theorem before24 (c : Dev nD) (t : Fin cfg0.N) (d) : (data m 0 c).before 24 t d = shown m c 24 t :=
  ((data m 0 c).before_in_eq_fetched 24 rfl (fun _ => rfl) (fun _ _ _ => rfl) (fun t => by rw [after24]; unfold Dat.blockOf shown; rw [data_start]) t d).trans
    (by unfold Dat.fetched Dat.blockOf shown; rw [data_start]; rfl)
theorem before25 (c : Dev nD) (t : Fin cfg0.N) (d) : (data m 0 c).before 25 t d = shown m c 25 t :=
  ((data m 0 c).before_in_eq_fetched 25 rfl (fun _ => rfl) (fun _ _ _ => rfl) (fun t => by rw [after25]; unfold Dat.blockOf shown; rw [data_start]) t d).trans
    (by unfold Dat.fetched Dat.blockOf shown; rw [data_start]; rfl)
theorem before26 (c : Dev nD) (t : Fin cfg0.N) (d) : (data m 0 c).before 26 t d = shown m c 26 t :=
  ((data m 0 c).before_in_eq_fetched 26 rfl (fun _ => rfl) (fun _ _ _ => rfl) (fun t => by rw [after26]; unfold Dat.blockOf shown; rw [data_start]) t d).trans
    (by unfold Dat.fetched Dat.blockOf shown; rw [data_start]; rfl)
theorem before27 (c : Dev nD) (t : Fin cfg0.N) (d) : (data m 0 c).before 27 t d = shown m c 27 t :=
  ((data m 0 c).before_in_eq_fetched 27 rfl (fun _ => rfl) (fun _ _ _ => rfl) (fun t => by rw [after27]; unfold Dat.blockOf shown; rw [data_start]) t d).trans
    (by unfold Dat.fetched Dat.blockOf shown; rw [data_start]; rfl)
theorem before28 (c : Dev nD) (t : Fin cfg0.N) (d) : (data m 0 c).before 28 t d = shown m c 28 t :=
  ((data m 0 c).before_in_eq_fetched 28 rfl (fun _ => rfl) (fun _ _ _ => rfl) (fun t => by rw [after28]; unfold Dat.blockOf shown; rw [data_start]) t d).trans
    (by unfold Dat.fetched Dat.blockOf shown; rw [data_start]; rfl)
theorem before29 (c : Dev nD) (t : Fin cfg0.N) (d) : (data m 0 c).before 29 t d = shown m c 29 t :=
  ((data m 0 c).before_in_eq_fetched 29 rfl (fun _ => rfl) (fun _ _ _ => rfl) (fun t => by rw [after29]; unfold Dat.blockOf shown; rw [data_start]) t d).trans
    (by unfold Dat.fetched Dat.blockOf shown; rw [data_start]; rfl)
theorem before30 (c : Dev nD) (t : Fin cfg0.N) (d) : (data m 0 c).before 30 t d = shown m c 30 t :=
  ((data m 0 c).before_in_eq_fetched 30 rfl (fun _ => rfl) (fun _ _ _ => rfl) (fun t => by rw [after30]; unfold Dat.blockOf shown; rw [data_start]) t d).trans
    (by unfold Dat.fetched Dat.blockOf shown; rw [data_start]; rfl)
theorem before31 (c : Dev nD) (t : Fin cfg0.N) (d) : (data m 0 c).before 31 t d = shown m c 31 t :=
  ((data m 0 c).before_in_eq_fetched 31 rfl (fun _ => rfl) (fun _ _ _ => rfl) (fun t => by rw [after31]; unfold Dat.blockOf shown; rw [data_start]) t d).trans
    (by unfold Dat.fetched Dat.blockOf shown; rw [data_start]; rfl)
theorem before32 (c : Dev nD) (t : Fin cfg0.N) (d) : (data m 0 c).before 32 t d = shown m c 32 t :=
  ((data m 0 c).before_in_eq_fetched 32 rfl (fun _ => rfl) (fun _ _ _ => rfl) (fun t => by rw [after32]; unfold Dat.blockOf shown; rw [data_start]) t d).trans
    (by unfold Dat.fetched Dat.blockOf shown; rw [data_start]; rfl)
theorem before33 (c : Dev nD) (t : Fin cfg0.N) (d) : (data m 0 c).before 33 t d = shown m c 33 t :=
  ((data m 0 c).before_in_eq_fetched 33 rfl (fun _ => rfl) (fun _ _ _ => rfl) (fun t => by rw [after33]; unfold Dat.blockOf shown; rw [data_start]) t d).trans
    (by unfold Dat.fetched Dat.blockOf shown; rw [data_start]; rfl)
theorem before34 (c : Dev nD) (t : Fin cfg0.N) (d) : (data m 0 c).before 34 t d = shown m c 34 t :=
  ((data m 0 c).before_in_eq_fetched 34 rfl (fun _ => rfl) (fun _ _ _ => rfl) (fun t => by rw [after34]; unfold Dat.blockOf shown; rw [data_start]) t d).trans
    (by unfold Dat.fetched Dat.blockOf shown; rw [data_start]; rfl)
theorem before35 (c : Dev nD) (t : Fin cfg0.N) (d) : (data m 0 c).before 35 t d = shown m c 35 t :=
  ((data m 0 c).before_in_eq_fetched 35 rfl (fun _ => rfl) (fun _ _ _ => rfl) (fun t => by rw [after35]; unfold Dat.blockOf shown; rw [data_start]) t d).trans
    (by unfold Dat.fetched Dat.blockOf shown; rw [data_start]; rfl)
theorem before36 (c : Dev nD) (t : Fin cfg0.N) (d) : (data m 0 c).before 36 t d = shown m c 36 t :=
  ((data m 0 c).before_in_eq_fetched 36 rfl (fun _ => rfl) (fun _ _ _ => rfl) (fun t => by rw [after36]; unfold Dat.blockOf shown; rw [data_start]) t d).trans
    (by unfold Dat.fetched Dat.blockOf shown; rw [data_start]; rfl)
theorem before37 (c : Dev nD) (t : Fin cfg0.N) (d) : (data m 0 c).before 37 t d = shown m c 37 t :=
  ((data m 0 c).before_in_eq_fetched 37 rfl (fun _ => rfl) (fun _ _ _ => rfl) (fun t => by rw [after37]; unfold Dat.blockOf shown; rw [data_start]) t d).trans
    (by unfold Dat.fetched Dat.blockOf shown; rw [data_start]; rfl)
theorem before38 (c : Dev nD) (t : Fin cfg0.N) (d) : (data m 0 c).before 38 t d = shown m c 38 t :=
  ((data m 0 c).before_in_eq_fetched 38 rfl (fun _ => rfl) (fun _ _ _ => rfl) (fun t => by rw [after38]; unfold Dat.blockOf shown; rw [data_start]) t d).trans
    (by unfold Dat.fetched Dat.blockOf shown; rw [data_start]; rfl)
theorem before39 (c : Dev nD) (t : Fin cfg0.N) (d) : (data m 0 c).before 39 t d = shown m c 39 t :=
  ((data m 0 c).before_in_eq_fetched 39 rfl (fun _ => rfl) (fun _ _ _ => rfl) (fun t => by rw [after39]; unfold Dat.blockOf shown; rw [data_start]) t d).trans
    (by unfold Dat.fetched Dat.blockOf shown; rw [data_start]; rfl)
theorem before40 (c : Dev nD) (t : Fin cfg0.N) (d) : (data m 0 c).before 40 t d = shown m c 40 t :=
  ((data m 0 c).before_in_eq_fetched 40 rfl (fun _ => rfl) (fun _ _ _ => rfl) (fun t => by rw [after40]; unfold Dat.blockOf shown; rw [data_start]) t d).trans
    (by unfold Dat.fetched Dat.blockOf shown; rw [data_start]; rfl)
theorem before41 (c : Dev nD) (t : Fin cfg0.N) (d) : (data m 0 c).before 41 t d = shown m c 41 t :=
  ((data m 0 c).before_in_eq_fetched 41 rfl (fun _ => rfl) (fun _ _ _ => rfl) (fun t => by rw [after41]; unfold Dat.blockOf shown; rw [data_start]) t d).trans
    (by unfold Dat.fetched Dat.blockOf shown; rw [data_start]; rfl)
theorem before42 (c : Dev nD) (t : Fin cfg0.N) (d) : (data m 0 c).before 42 t d = shown m c 42 t :=
  ((data m 0 c).before_in_eq_fetched 42 rfl (fun _ => rfl) (fun _ _ _ => rfl) (fun t => by rw [after42]; unfold Dat.blockOf shown; rw [data_start]) t d).trans
    (by unfold Dat.fetched Dat.blockOf shown; rw [data_start]; rfl)
theorem before43 (c : Dev nD) (t : Fin cfg0.N) (d) : (data m 0 c).before 43 t d = shown m c 43 t :=
  ((data m 0 c).before_in_eq_fetched 43 rfl (fun _ => rfl) (fun _ _ _ => rfl) (fun t => by rw [after43]; unfold Dat.blockOf shown; rw [data_start]) t d).trans
    (by unfold Dat.fetched Dat.blockOf shown; rw [data_start]; rfl)
theorem before44 (c : Dev nD) (t : Fin cfg0.N) (d) : (data m 0 c).before 44 t d = shown m c 44 t :=
  ((data m 0 c).before_in_eq_fetched 44 rfl (fun _ => rfl) (fun _ _ _ => rfl) (fun t => by rw [after44]; unfold Dat.blockOf shown; rw [data_start]) t d).trans
    (by unfold Dat.fetched Dat.blockOf shown; rw [data_start]; rfl)
theorem before45 (c : Dev nD) (t : Fin cfg0.N) (d) : (data m 0 c).before 45 t d = shown m c 45 t :=
  ((data m 0 c).before_in_eq_fetched 45 rfl (fun _ => rfl) (fun _ _ _ => rfl) (fun t => by rw [after45]; unfold Dat.blockOf shown; rw [data_start]) t d).trans
    (by unfold Dat.fetched Dat.blockOf shown; rw [data_start]; rfl)
theorem before46 (c : Dev nD) (t : Fin cfg0.N) (d) : (data m 0 c).before 46 t d = shown m c 46 t :=
  ((data m 0 c).before_in_eq_fetched 46 rfl (fun _ => rfl) (fun _ _ _ => rfl) (fun t => by rw [after46]; unfold Dat.blockOf shown; rw [data_start]) t d).trans
    (by unfold Dat.fetched Dat.blockOf shown; rw [data_start]; rfl)
theorem before47 (c : Dev nD) (t : Fin cfg0.N) (d) : (data m 0 c).before 47 t d = shown m c 47 t :=
  ((data m 0 c).before_in_eq_fetched 47 rfl (fun _ => rfl) (fun _ _ _ => rfl) (fun t => by rw [after47]; unfold Dat.blockOf shown; rw [data_start]) t d).trans
    (by unfold Dat.fetched Dat.blockOf shown; rw [data_start]; rfl)

/-- What the body is given at a point of the grid, -/
def given (c : Dev nD) (t : Fin cfg0.N) : sProp (World F) :=
  iprop((data m 0 c).Φ t.castSucc ∗ (data m 0 c).owesAt () t.castSucc
    ∗ (∃ d, owns (c : Thread nD τ) (st0_0 t) fullShare ((data m 0 c).before 0 t d)) ∗ (∃ d, owns (c : Thread nD τ) (st0_1 t) fullShare ((data m 0 c).before 1 t d)) ∗ (∃ d, owns (c : Thread nD τ) (st0_2 t) fullShare ((data m 0 c).before 2 t d)) ∗ (∃ d, owns (c : Thread nD τ) (st0_3 t) fullShare ((data m 0 c).before 3 t d)) ∗ (∃ d, owns (c : Thread nD τ) (st0_4 t) fullShare ((data m 0 c).before 4 t d)) ∗ (∃ d, owns (c : Thread nD τ) (st0_5 t) fullShare ((data m 0 c).before 5 t d)) ∗ (∃ d, owns (c : Thread nD τ) (st0_6 t) fullShare ((data m 0 c).before 6 t d)) ∗ (∃ d, owns (c : Thread nD τ) (st0_7 t) fullShare ((data m 0 c).before 7 t d)) ∗ (∃ d, owns (c : Thread nD τ) (st0_8 t) fullShare ((data m 0 c).before 8 t d)) ∗ (∃ d, owns (c : Thread nD τ) (st0_9 t) fullShare ((data m 0 c).before 9 t d)) ∗ (∃ d, owns (c : Thread nD τ) (st0_10 t) fullShare ((data m 0 c).before 10 t d)) ∗ (∃ d, owns (c : Thread nD τ) (st0_11 t) fullShare ((data m 0 c).before 11 t d)) ∗ (∃ d, owns (c : Thread nD τ) (st0_12 t) fullShare ((data m 0 c).before 12 t d)) ∗ (∃ d, owns (c : Thread nD τ) (st0_13 t) fullShare ((data m 0 c).before 13 t d)) ∗ (∃ d, owns (c : Thread nD τ) (st0_14 t) fullShare ((data m 0 c).before 14 t d)) ∗ (∃ d, owns (c : Thread nD τ) (st0_15 t) fullShare ((data m 0 c).before 15 t d)) ∗ (∃ d, owns (c : Thread nD τ) (st0_16 t) fullShare ((data m 0 c).before 16 t d)) ∗ (∃ d, owns (c : Thread nD τ) (st0_17 t) fullShare ((data m 0 c).before 17 t d)) ∗ (∃ d, owns (c : Thread nD τ) (st0_18 t) fullShare ((data m 0 c).before 18 t d)) ∗ (∃ d, owns (c : Thread nD τ) (st0_19 t) fullShare ((data m 0 c).before 19 t d)) ∗ (∃ d, owns (c : Thread nD τ) (st0_20 t) fullShare ((data m 0 c).before 20 t d)) ∗ (∃ d, owns (c : Thread nD τ) (st0_21 t) fullShare ((data m 0 c).before 21 t d)) ∗ (∃ d, owns (c : Thread nD τ) (st0_22 t) fullShare ((data m 0 c).before 22 t d)) ∗ (∃ d, owns (c : Thread nD τ) (st0_23 t) fullShare ((data m 0 c).before 23 t d)) ∗ (∃ d, owns (c : Thread nD τ) (st0_24 t) fullShare ((data m 0 c).before 24 t d)) ∗ (∃ d, owns (c : Thread nD τ) (st0_25 t) fullShare ((data m 0 c).before 25 t d)) ∗ (∃ d, owns (c : Thread nD τ) (st0_26 t) fullShare ((data m 0 c).before 26 t d)) ∗ (∃ d, owns (c : Thread nD τ) (st0_27 t) fullShare ((data m 0 c).before 27 t d)) ∗ (∃ d, owns (c : Thread nD τ) (st0_28 t) fullShare ((data m 0 c).before 28 t d)) ∗ (∃ d, owns (c : Thread nD τ) (st0_29 t) fullShare ((data m 0 c).before 29 t d)) ∗ (∃ d, owns (c : Thread nD τ) (st0_30 t) fullShare ((data m 0 c).before 30 t d)) ∗ (∃ d, owns (c : Thread nD τ) (st0_31 t) fullShare ((data m 0 c).before 31 t d)) ∗ (∃ d, owns (c : Thread nD τ) (st0_32 t) fullShare ((data m 0 c).before 32 t d)) ∗ (∃ d, owns (c : Thread nD τ) (st0_33 t) fullShare ((data m 0 c).before 33 t d)) ∗ (∃ d, owns (c : Thread nD τ) (st0_34 t) fullShare ((data m 0 c).before 34 t d)) ∗ (∃ d, owns (c : Thread nD τ) (st0_35 t) fullShare ((data m 0 c).before 35 t d)) ∗ (∃ d, owns (c : Thread nD τ) (st0_36 t) fullShare ((data m 0 c).before 36 t d)) ∗ (∃ d, owns (c : Thread nD τ) (st0_37 t) fullShare ((data m 0 c).before 37 t d)) ∗ (∃ d, owns (c : Thread nD τ) (st0_38 t) fullShare ((data m 0 c).before 38 t d)) ∗ (∃ d, owns (c : Thread nD τ) (st0_39 t) fullShare ((data m 0 c).before 39 t d)) ∗ (∃ d, owns (c : Thread nD τ) (st0_40 t) fullShare ((data m 0 c).before 40 t d)) ∗ (∃ d, owns (c : Thread nD τ) (st0_41 t) fullShare ((data m 0 c).before 41 t d)) ∗ (∃ d, owns (c : Thread nD τ) (st0_42 t) fullShare ((data m 0 c).before 42 t d)) ∗ (∃ d, owns (c : Thread nD τ) (st0_43 t) fullShare ((data m 0 c).before 43 t d)) ∗ (∃ d, owns (c : Thread nD τ) (st0_44 t) fullShare ((data m 0 c).before 44 t d)) ∗ (∃ d, owns (c : Thread nD τ) (st0_45 t) fullShare ((data m 0 c).before 45 t d)) ∗ (∃ d, owns (c : Thread nD τ) (st0_46 t) fullShare ((data m 0 c).before 46 t d)) ∗ (∃ d, owns (c : Thread nD τ) (st0_47 t) fullShare ((data m 0 c).before 47 t d)) ∗ (∃ d, owns (c : Thread nD τ) (st0_48 t) fullShare ((data m 0 c).before 48 t d)) ∗ (∃ d, owns (c : Thread nD τ) (st0_49 t) fullShare ((data m 0 c).before 49 t d)) ∗ (∃ d, owns (c : Thread nD τ) (st0_50 t) fullShare ((data m 0 c).before 50 t d)) ∗ (∃ d, owns (c : Thread nD τ) (st0_51 t) fullShare ((data m 0 c).before 51 t d)) ∗ (∃ d, owns (c : Thread nD τ) (st0_52 t) fullShare ((data m 0 c).before 52 t d)) ∗ (∃ d, owns (c : Thread nD τ) (st0_53 t) fullShare ((data m 0 c).before 53 t d)) ∗ (∃ d, owns (c : Thread nD τ) (st0_54 t) fullShare ((data m 0 c).before 54 t d)) ∗ (∃ d, owns (c : Thread nD τ) (st0_55 t) fullShare ((data m 0 c).before 55 t d)) ∗ (∃ d, owns (c : Thread nD τ) (st0_56 t) fullShare ((data m 0 c).before 56 t d)) ∗ (∃ d, owns (c : Thread nD τ) (st0_57 t) fullShare ((data m 0 c).before 57 t d)) ∗ (∃ d, owns (c : Thread nD τ) (st0_58 t) fullShare ((data m 0 c).before 58 t d)) ∗ (∃ d, owns (c : Thread nD τ) (st0_59 t) fullShare ((data m 0 c).before 59 t d)) ∗ (∃ d, owns (c : Thread nD τ) (st0_60 t) fullShare ((data m 0 c).before 60 t d)) ∗ (∃ d, owns (c : Thread nD τ) (st0_61 t) fullShare ((data m 0 c).before 61 t d)) ∗ (∃ d, owns (c : Thread nD τ) (st0_62 t) fullShare ((data m 0 c).before 62 t d)) ∗ (∃ d, owns (c : Thread nD τ) (st0_63 t) fullShare ((data m 0 c).before 63 t d)) ∗ (∃ d, owns (c : Thread nD τ) (st0_64 t) fullShare ((data m 0 c).before 64 t d)) ∗ (∃ d, owns (c : Thread nD τ) (st0_65 t) fullShare ((data m 0 c).before 65 t d)) ∗ (∃ d, owns (c : Thread nD τ) (st0_66 t) fullShare ((data m 0 c).before 66 t d)) ∗ (∃ d, owns (c : Thread nD τ) (st0_67 t) fullShare ((data m 0 c).before 67 t d)) ∗ (∃ d, owns (c : Thread nD τ) (st0_68 t) fullShare ((data m 0 c).before 68 t d)) ∗ (∃ d, owns (c : Thread nD τ) (st0_69 t) fullShare ((data m 0 c).before 69 t d)) ∗ (∃ d, owns (c : Thread nD τ) (st0_70 t) fullShare ((data m 0 c).before 70 t d)) ∗ (∃ d, owns (c : Thread nD τ) (st0_71 t) fullShare ((data m 0 c).before 71 t d)) ∗ (∃ d, owns (c : Thread nD τ) (st0_72 t) fullShare ((data m 0 c).before 72 t d)) ∗ (∃ d, owns (c : Thread nD τ) (st0_73 t) fullShare ((data m 0 c).before 73 t d)) ∗ (∃ d, owns (c : Thread nD τ) (st0_74 t) fullShare ((data m 0 c).before 74 t d)) ∗ (∃ d, owns (c : Thread nD τ) (st0_75 t) fullShare ((data m 0 c).before 75 t d)) ∗ (∃ d, owns (c : Thread nD τ) (st0_76 t) fullShare ((data m 0 c).before 76 t d)) ∗ (∃ d, owns (c : Thread nD τ) (st0_77 t) fullShare ((data m 0 c).before 77 t d)) ∗ (∃ d, owns (c : Thread nD τ) (st0_78 t) fullShare ((data m 0 c).before 78 t d)) ∗ (∃ d, owns (c : Thread nD τ) (st0_79 t) fullShare ((data m 0 c).before 79 t d)) ∗ (∃ d, owns (c : Thread nD τ) (st0_80 t) fullShare ((data m 0 c).before 80 t d)) ∗ (∃ d, owns (c : Thread nD τ) (st0_81 t) fullShare ((data m 0 c).before 81 t d)) ∗ (∃ d, owns (c : Thread nD τ) (st0_82 t) fullShare ((data m 0 c).before 82 t d)) ∗ (∃ d, owns (c : Thread nD τ) (st0_83 t) fullShare ((data m 0 c).before 83 t d)))

/-- and what it gives back. -/
def returned (c : Dev nD) (t : Fin cfg0.N) : sProp (World F) :=
  iprop((data m 0 c).Φ t.succ ∗ (data m 0 c).owesAt () t.succ
    ∗ owns (c : Thread nD τ) (st0_0 t) fullShare ((data m 0 c).after 0 t) ∗ owns (c : Thread nD τ) (st0_1 t) fullShare ((data m 0 c).after 1 t) ∗ owns (c : Thread nD τ) (st0_2 t) fullShare ((data m 0 c).after 2 t) ∗ owns (c : Thread nD τ) (st0_3 t) fullShare ((data m 0 c).after 3 t) ∗ owns (c : Thread nD τ) (st0_4 t) fullShare ((data m 0 c).after 4 t) ∗ owns (c : Thread nD τ) (st0_5 t) fullShare ((data m 0 c).after 5 t) ∗ owns (c : Thread nD τ) (st0_6 t) fullShare ((data m 0 c).after 6 t) ∗ owns (c : Thread nD τ) (st0_7 t) fullShare ((data m 0 c).after 7 t) ∗ owns (c : Thread nD τ) (st0_8 t) fullShare ((data m 0 c).after 8 t) ∗ owns (c : Thread nD τ) (st0_9 t) fullShare ((data m 0 c).after 9 t) ∗ owns (c : Thread nD τ) (st0_10 t) fullShare ((data m 0 c).after 10 t) ∗ owns (c : Thread nD τ) (st0_11 t) fullShare ((data m 0 c).after 11 t) ∗ owns (c : Thread nD τ) (st0_12 t) fullShare ((data m 0 c).after 12 t) ∗ owns (c : Thread nD τ) (st0_13 t) fullShare ((data m 0 c).after 13 t) ∗ owns (c : Thread nD τ) (st0_14 t) fullShare ((data m 0 c).after 14 t) ∗ owns (c : Thread nD τ) (st0_15 t) fullShare ((data m 0 c).after 15 t) ∗ owns (c : Thread nD τ) (st0_16 t) fullShare ((data m 0 c).after 16 t) ∗ owns (c : Thread nD τ) (st0_17 t) fullShare ((data m 0 c).after 17 t) ∗ owns (c : Thread nD τ) (st0_18 t) fullShare ((data m 0 c).after 18 t) ∗ owns (c : Thread nD τ) (st0_19 t) fullShare ((data m 0 c).after 19 t) ∗ owns (c : Thread nD τ) (st0_20 t) fullShare ((data m 0 c).after 20 t) ∗ owns (c : Thread nD τ) (st0_21 t) fullShare ((data m 0 c).after 21 t) ∗ owns (c : Thread nD τ) (st0_22 t) fullShare ((data m 0 c).after 22 t) ∗ owns (c : Thread nD τ) (st0_23 t) fullShare ((data m 0 c).after 23 t) ∗ owns (c : Thread nD τ) (st0_24 t) fullShare ((data m 0 c).after 24 t) ∗ owns (c : Thread nD τ) (st0_25 t) fullShare ((data m 0 c).after 25 t) ∗ owns (c : Thread nD τ) (st0_26 t) fullShare ((data m 0 c).after 26 t) ∗ owns (c : Thread nD τ) (st0_27 t) fullShare ((data m 0 c).after 27 t) ∗ owns (c : Thread nD τ) (st0_28 t) fullShare ((data m 0 c).after 28 t) ∗ owns (c : Thread nD τ) (st0_29 t) fullShare ((data m 0 c).after 29 t) ∗ owns (c : Thread nD τ) (st0_30 t) fullShare ((data m 0 c).after 30 t) ∗ owns (c : Thread nD τ) (st0_31 t) fullShare ((data m 0 c).after 31 t) ∗ owns (c : Thread nD τ) (st0_32 t) fullShare ((data m 0 c).after 32 t) ∗ owns (c : Thread nD τ) (st0_33 t) fullShare ((data m 0 c).after 33 t) ∗ owns (c : Thread nD τ) (st0_34 t) fullShare ((data m 0 c).after 34 t) ∗ owns (c : Thread nD τ) (st0_35 t) fullShare ((data m 0 c).after 35 t) ∗ owns (c : Thread nD τ) (st0_36 t) fullShare ((data m 0 c).after 36 t) ∗ owns (c : Thread nD τ) (st0_37 t) fullShare ((data m 0 c).after 37 t) ∗ owns (c : Thread nD τ) (st0_38 t) fullShare ((data m 0 c).after 38 t) ∗ owns (c : Thread nD τ) (st0_39 t) fullShare ((data m 0 c).after 39 t) ∗ owns (c : Thread nD τ) (st0_40 t) fullShare ((data m 0 c).after 40 t) ∗ owns (c : Thread nD τ) (st0_41 t) fullShare ((data m 0 c).after 41 t) ∗ owns (c : Thread nD τ) (st0_42 t) fullShare ((data m 0 c).after 42 t) ∗ owns (c : Thread nD τ) (st0_43 t) fullShare ((data m 0 c).after 43 t) ∗ owns (c : Thread nD τ) (st0_44 t) fullShare ((data m 0 c).after 44 t) ∗ owns (c : Thread nD τ) (st0_45 t) fullShare ((data m 0 c).after 45 t) ∗ owns (c : Thread nD τ) (st0_46 t) fullShare ((data m 0 c).after 46 t) ∗ owns (c : Thread nD τ) (st0_47 t) fullShare ((data m 0 c).after 47 t) ∗ owns (c : Thread nD τ) (st0_48 t) fullShare ((data m 0 c).after 48 t) ∗ owns (c : Thread nD τ) (st0_49 t) fullShare ((data m 0 c).after 49 t) ∗ owns (c : Thread nD τ) (st0_50 t) fullShare ((data m 0 c).after 50 t) ∗ owns (c : Thread nD τ) (st0_51 t) fullShare ((data m 0 c).after 51 t) ∗ owns (c : Thread nD τ) (st0_52 t) fullShare ((data m 0 c).after 52 t) ∗ owns (c : Thread nD τ) (st0_53 t) fullShare ((data m 0 c).after 53 t) ∗ owns (c : Thread nD τ) (st0_54 t) fullShare ((data m 0 c).after 54 t) ∗ owns (c : Thread nD τ) (st0_55 t) fullShare ((data m 0 c).after 55 t) ∗ owns (c : Thread nD τ) (st0_56 t) fullShare ((data m 0 c).after 56 t) ∗ owns (c : Thread nD τ) (st0_57 t) fullShare ((data m 0 c).after 57 t) ∗ owns (c : Thread nD τ) (st0_58 t) fullShare ((data m 0 c).after 58 t) ∗ owns (c : Thread nD τ) (st0_59 t) fullShare ((data m 0 c).after 59 t) ∗ owns (c : Thread nD τ) (st0_60 t) fullShare ((data m 0 c).after 60 t) ∗ owns (c : Thread nD τ) (st0_61 t) fullShare ((data m 0 c).after 61 t) ∗ owns (c : Thread nD τ) (st0_62 t) fullShare ((data m 0 c).after 62 t) ∗ owns (c : Thread nD τ) (st0_63 t) fullShare ((data m 0 c).after 63 t) ∗ owns (c : Thread nD τ) (st0_64 t) fullShare ((data m 0 c).after 64 t) ∗ owns (c : Thread nD τ) (st0_65 t) fullShare ((data m 0 c).after 65 t) ∗ owns (c : Thread nD τ) (st0_66 t) fullShare ((data m 0 c).after 66 t) ∗ owns (c : Thread nD τ) (st0_67 t) fullShare ((data m 0 c).after 67 t) ∗ owns (c : Thread nD τ) (st0_68 t) fullShare ((data m 0 c).after 68 t) ∗ owns (c : Thread nD τ) (st0_69 t) fullShare ((data m 0 c).after 69 t) ∗ owns (c : Thread nD τ) (st0_70 t) fullShare ((data m 0 c).after 70 t) ∗ owns (c : Thread nD τ) (st0_71 t) fullShare ((data m 0 c).after 71 t) ∗ owns (c : Thread nD τ) (st0_72 t) fullShare ((data m 0 c).after 72 t) ∗ owns (c : Thread nD τ) (st0_73 t) fullShare ((data m 0 c).after 73 t) ∗ owns (c : Thread nD τ) (st0_74 t) fullShare ((data m 0 c).after 74 t) ∗ owns (c : Thread nD τ) (st0_75 t) fullShare ((data m 0 c).after 75 t) ∗ owns (c : Thread nD τ) (st0_76 t) fullShare ((data m 0 c).after 76 t) ∗ owns (c : Thread nD τ) (st0_77 t) fullShare ((data m 0 c).after 77 t) ∗ owns (c : Thread nD τ) (st0_78 t) fullShare ((data m 0 c).after 78 t) ∗ owns (c : Thread nD τ) (st0_79 t) fullShare ((data m 0 c).after 79 t) ∗ owns (c : Thread nD τ) (st0_80 t) fullShare ((data m 0 c).after 80 t) ∗ owns (c : Thread nD τ) (st0_81 t) fullShare ((data m 0 c).after 81 t) ∗ owns (c : Thread nD τ) (st0_82 t) fullShare ((data m 0 c).after 82 t) ∗ owns (c : Thread nD τ) (st0_83 t) fullShare ((data m 0 c).after 83 t))

set_option maxHeartbeats 8000000 in
/-- The body at a point of the grid. -/
theorem point_sound (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4, before5, before6, before7, before8, before9, before10, before11, before12, before13, before14, before15, before16, before17, before18, before19, before20, before21, before22, before23, before24, before25, before26, before27, before28, before29, before30, before31, before32, before33, before34, before35, before36, before37, before38, before39, before40, before41, before42, before43, before44, before45, before46, before47]
  rw [show (data m 0 c).Φ t.succ = (data m 0 c).Φ t.castSucc from rfl,
    show (data m 0 c).owesAt () t.succ = (data m 0 c).owesAt () t.castSucc from rfl]
  simp only [after0, after1, after2, after3, after4, after5, after6, after7, after8, after9, after10, after11, after12, after13, after14, after15, after16, after17, after18, after19, after20, after21, after22, after23, after24, after25, after26, after27, after28, after29, after30, after31, after32, after33, after34, after35, after36, after37, after38, after39, after40, after41, after42, after43, after44, after45, after46, after47, after48, after49, after50, after51, after52, after53, after54, after55, after56, after57, after58, after59, after60, after61, after62, after63, after64, after65, after66, after67, after68, after69, after70, after71, after72, after73, after74, after75, after76, after77, after78, after79, after80, after81, after82, after83]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩, ⟨%d80, H80⟩, ⟨%d81, H81⟩, ⟨%d82, H82⟩, ⟨%d83, H83⟩⟩
  iapply (body_sound c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (shown m c 0 t) (shown m c 1 t) (shown m c 2 t) (shown m c 3 t) (shown m c 4 t) (shown m c 5 t) (shown m c 6 t) (shown m c 7 t) (shown m c 8 t) (shown m c 9 t) (shown m c 10 t) (shown m c 11 t) (shown m c 12 t) (shown m c 13 t) (shown m c 14 t) (shown m c 15 t) (shown m c 16 t) (shown m c 17 t) (shown m c 18 t) (shown m c 19 t) (shown m c 20 t) (shown m c 21 t) (shown m c 22 t) (shown m c 23 t) (shown m c 24 t) (shown m c 25 t) (shown m c 26 t) (shown m c 27 t) (shown m c 28 t) (shown m c 29 t) (shown m c 30 t) (shown m c 31 t) (shown m c 32 t) (shown m c 33 t) (shown m c 34 t) (shown m c 35 t) (shown m c 36 t) (shown m c 37 t) (shown m c 38 t) (shown m c 39 t) (shown m c 40 t) (shown m c 41 t) (shown m c 42 t) (shown m c 43 t) (shown m c 44 t) (shown m c 45 t) (shown m c 46 t) (shown m c 47 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  isplitl [H80]; · iexists _; iexact H80
  isplitl [H81]; · iexists _; iexact H81
  isplitl [H82]; · iexists _; iexact H82
  isplitl [H83]; · iexists _; iexact H83
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  iexact H83

theorem body_row (t : Fin cfg0.N) : defs₀ (F := F) .tc cfg0.body (cfg0.bodyArgs t (cfg0.slots t)) = bodyAt0 t := by
  unfold defs₀; rw [Defs.onTc_tc]

set_option maxHeartbeats 8000000 in
theorem obligation (c : Dev nD) : BodyObligation (data (F := F) m 0 c) (defs₀ (F := F)) Variants.none () Set.univ := fun t => by
  rw [bigSep_W0, bigSep_W0, body_row]
  exact triple_restated (point_sound m c t) rfl .rfl fun _ => .rfl

set_option backward.isDefEq.respectTransparency.types false in
set_option maxHeartbeats 800000 in
/-- The launch: every array at what the data say, every counter at zero. -/
theorem run_all : θ_run defs (onTc (τ := τ) (main (F := F))) (s₀ m ρ) (fun r => (Pipeline.FramePost cfgs (data m) 0 (start m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := start m) (hmain := alone m Variants.none) (hA := data_start m) (hΦ := fun _ _ => rfl)

/-- An input's array stays. -/
theorem kept (w : Fin cfg0.W) (hw : (cfg0.win w).isOut = false) (r) (h : Pipeline.FramePost cfgs (data m) 0 (start m) r) (c : Dev nD) :
    r.2.mem ((c.tc : Thread nD τ).loc (Pipeline.arrRef spec0 w)) = m ((c.tc : Thread nD τ).loc (Pipeline.arrRef spec0 w)) :=
  ((h c).1 w).trans (((data m 0 c).arrAt_in w hw _).trans (data_start m c w))

end Cert.VectorsRunIdeal

end
-- ==== Proof.VectorsEnd.lean ====
/- The optimiser step of the twelve vectors: what a run leaves in the arguments and in the results. -/
module

public import proofs.«01_k».proof.Defs
public import proofs.«01_k».proof.Proof.Gen.Kernel38
public import proofs.«01_k».proof.Proof.Gen.Kernel38Ideal
public import proofs.«01_k».proof.Proof.VectorsRun
public import proofs.«01_k».proof.Proof.VectorsRunIdeal

@[expose] public section

set_option maxRecDepth 16384

noncomputable section

namespace Cert.VectorsEnd

open Idealize.ShloMosaic Idealize.ShloMosaic.TcCoe Idealize.SL.Sem

set_option maxHeartbeats 8000000 in
/-- The arguments stay and every counter ends at zero. -/
theorem frame : Cert.quiescent_Kernel38 (hKernel38 := Cert.Kernel38.Gen.facts) := by
  intro m ρ _
  refine (θ_run Cert.Kernel38.defs _ _).mono (fun r h => ⟨fun c => ?_, h.2⟩) (Cert.VectorsRun.run_all m ρ)
  exact ⟨Cert.VectorsRun.kept m 0 rfl r h.1 c, Cert.VectorsRun.kept m 1 rfl r h.1 c, Cert.VectorsRun.kept m 2 rfl r h.1 c, Cert.VectorsRun.kept m 3 rfl r h.1 c, Cert.VectorsRun.kept m 4 rfl r h.1 c, Cert.VectorsRun.kept m 5 rfl r h.1 c, Cert.VectorsRun.kept m 6 rfl r h.1 c, Cert.VectorsRun.kept m 7 rfl r h.1 c, Cert.VectorsRun.kept m 8 rfl r h.1 c, Cert.VectorsRun.kept m 9 rfl r h.1 c, Cert.VectorsRun.kept m 10 rfl r h.1 c, Cert.VectorsRun.kept m 11 rfl r h.1 c, Cert.VectorsRun.kept m 12 rfl r h.1 c, Cert.VectorsRun.kept m 13 rfl r h.1 c, Cert.VectorsRun.kept m 14 rfl r h.1 c, Cert.VectorsRun.kept m 15 rfl r h.1 c, Cert.VectorsRun.kept m 16 rfl r h.1 c, Cert.VectorsRun.kept m 17 rfl r h.1 c, Cert.VectorsRun.kept m 18 rfl r h.1 c, Cert.VectorsRun.kept m 19 rfl r h.1 c, Cert.VectorsRun.kept m 20 rfl r h.1 c, Cert.VectorsRun.kept m 21 rfl r h.1 c, Cert.VectorsRun.kept m 22 rfl r h.1 c, Cert.VectorsRun.kept m 23 rfl r h.1 c, Cert.VectorsRun.kept m 24 rfl r h.1 c, Cert.VectorsRun.kept m 25 rfl r h.1 c, Cert.VectorsRun.kept m 26 rfl r h.1 c, Cert.VectorsRun.kept m 27 rfl r h.1 c, Cert.VectorsRun.kept m 28 rfl r h.1 c, Cert.VectorsRun.kept m 29 rfl r h.1 c, Cert.VectorsRun.kept m 30 rfl r h.1 c, Cert.VectorsRun.kept m 31 rfl r h.1 c, Cert.VectorsRun.kept m 32 rfl r h.1 c, Cert.VectorsRun.kept m 33 rfl r h.1 c, Cert.VectorsRun.kept m 34 rfl r h.1 c, Cert.VectorsRun.kept m 35 rfl r h.1 c, Cert.VectorsRun.kept m 36 rfl r h.1 c, Cert.VectorsRun.kept m 37 rfl r h.1 c, Cert.VectorsRun.kept m 38 rfl r h.1 c, Cert.VectorsRun.kept m 39 rfl r h.1 c, Cert.VectorsRun.kept m 40 rfl r h.1 c, Cert.VectorsRun.kept m 41 rfl r h.1 c, Cert.VectorsRun.kept m 42 rfl r h.1 c, Cert.VectorsRun.kept m 43 rfl r h.1 c, Cert.VectorsRun.kept m 44 rfl r h.1 c, Cert.VectorsRun.kept m 45 rfl r h.1 c, Cert.VectorsRun.kept m 46 rfl r h.1 c, Cert.VectorsRun.kept m 47 rfl r h.1 c⟩

set_option maxHeartbeats 8000000 in
/-- The arguments stay and every counter ends at zero. -/
theorem frameIdeal : Cert.quiescent_Kernel38Ideal (hKernel38Ideal := Cert.Kernel38Ideal.Gen.facts) := by
  intro m ρ _
  refine (θ_run Cert.Kernel38Ideal.defs _ _).mono (fun r h => ⟨fun c => ?_, h.2⟩) (Cert.VectorsRunIdeal.run_all m ρ)
  exact ⟨Cert.VectorsRunIdeal.kept m 0 rfl r h.1 c, Cert.VectorsRunIdeal.kept m 1 rfl r h.1 c, Cert.VectorsRunIdeal.kept m 2 rfl r h.1 c, Cert.VectorsRunIdeal.kept m 3 rfl r h.1 c, Cert.VectorsRunIdeal.kept m 4 rfl r h.1 c, Cert.VectorsRunIdeal.kept m 5 rfl r h.1 c, Cert.VectorsRunIdeal.kept m 6 rfl r h.1 c, Cert.VectorsRunIdeal.kept m 7 rfl r h.1 c, Cert.VectorsRunIdeal.kept m 8 rfl r h.1 c, Cert.VectorsRunIdeal.kept m 9 rfl r h.1 c, Cert.VectorsRunIdeal.kept m 10 rfl r h.1 c, Cert.VectorsRunIdeal.kept m 11 rfl r h.1 c, Cert.VectorsRunIdeal.kept m 12 rfl r h.1 c, Cert.VectorsRunIdeal.kept m 13 rfl r h.1 c, Cert.VectorsRunIdeal.kept m 14 rfl r h.1 c, Cert.VectorsRunIdeal.kept m 15 rfl r h.1 c, Cert.VectorsRunIdeal.kept m 16 rfl r h.1 c, Cert.VectorsRunIdeal.kept m 17 rfl r h.1 c, Cert.VectorsRunIdeal.kept m 18 rfl r h.1 c, Cert.VectorsRunIdeal.kept m 19 rfl r h.1 c, Cert.VectorsRunIdeal.kept m 20 rfl r h.1 c, Cert.VectorsRunIdeal.kept m 21 rfl r h.1 c, Cert.VectorsRunIdeal.kept m 22 rfl r h.1 c, Cert.VectorsRunIdeal.kept m 23 rfl r h.1 c, Cert.VectorsRunIdeal.kept m 24 rfl r h.1 c, Cert.VectorsRunIdeal.kept m 25 rfl r h.1 c, Cert.VectorsRunIdeal.kept m 26 rfl r h.1 c, Cert.VectorsRunIdeal.kept m 27 rfl r h.1 c, Cert.VectorsRunIdeal.kept m 28 rfl r h.1 c, Cert.VectorsRunIdeal.kept m 29 rfl r h.1 c, Cert.VectorsRunIdeal.kept m 30 rfl r h.1 c, Cert.VectorsRunIdeal.kept m 31 rfl r h.1 c, Cert.VectorsRunIdeal.kept m 32 rfl r h.1 c, Cert.VectorsRunIdeal.kept m 33 rfl r h.1 c, Cert.VectorsRunIdeal.kept m 34 rfl r h.1 c, Cert.VectorsRunIdeal.kept m 35 rfl r h.1 c, Cert.VectorsRunIdeal.kept m 36 rfl r h.1 c, Cert.VectorsRunIdeal.kept m 37 rfl r h.1 c, Cert.VectorsRunIdeal.kept m 38 rfl r h.1 c, Cert.VectorsRunIdeal.kept m 39 rfl r h.1 c, Cert.VectorsRunIdeal.kept m 40 rfl r h.1 c, Cert.VectorsRunIdeal.kept m 41 rfl r h.1 c, Cert.VectorsRunIdeal.kept m 42 rfl r h.1 c, Cert.VectorsRunIdeal.kept m 43 rfl r h.1 c, Cert.VectorsRunIdeal.kept m 44 rfl r h.1 c, Cert.VectorsRunIdeal.kept m 45 rfl r h.1 c, Cert.VectorsRunIdeal.kept m 46 rfl r h.1 c, Cert.VectorsRunIdeal.kept m 47 rfl r h.1 c⟩

section
open Cert.Kernel38Ideal Cert.Kernel38Ideal.Gen Cert.VectorsRunIdeal

set_option maxHeartbeats 8000000 in
/-- The results hold the arrays of the run's data, and the arguments stay. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = (data m 0 c).arrAt 48 cfg0.N
      ∧ r.2.mem ((c.tc : Thread nD τ).loc main_v0_1) = (data m 0 c).arrAt 49 cfg0.N
      ∧ r.2.mem ((c.tc : Thread nD τ).loc main_v0_2) = (data m 0 c).arrAt 50 cfg0.N
      ∧ r.2.mem ((c.tc : Thread nD τ).loc main_v0_3) = (data m 0 c).arrAt 51 cfg0.N
      ∧ r.2.mem ((c.tc : Thread nD τ).loc main_v0_4) = (data m 0 c).arrAt 52 cfg0.N
      ∧ r.2.mem ((c.tc : Thread nD τ).loc main_v0_5) = (data m 0 c).arrAt 53 cfg0.N
      ∧ r.2.mem ((c.tc : Thread nD τ).loc main_v0_6) = (data m 0 c).arrAt 54 cfg0.N
      ∧ r.2.mem ((c.tc : Thread nD τ).loc main_v0_7) = (data m 0 c).arrAt 55 cfg0.N
      ∧ r.2.mem ((c.tc : Thread nD τ).loc main_v0_8) = (data m 0 c).arrAt 56 cfg0.N
      ∧ r.2.mem ((c.tc : Thread nD τ).loc main_v0_9) = (data m 0 c).arrAt 57 cfg0.N
      ∧ r.2.mem ((c.tc : Thread nD τ).loc main_v0_10) = (data m 0 c).arrAt 58 cfg0.N
      ∧ r.2.mem ((c.tc : Thread nD τ).loc main_v0_11) = (data m 0 c).arrAt 59 cfg0.N
      ∧ r.2.mem ((c.tc : Thread nD τ).loc main_v0_12) = (data m 0 c).arrAt 60 cfg0.N
      ∧ r.2.mem ((c.tc : Thread nD τ).loc main_v0_13) = (data m 0 c).arrAt 61 cfg0.N
      ∧ r.2.mem ((c.tc : Thread nD τ).loc main_v0_14) = (data m 0 c).arrAt 62 cfg0.N
      ∧ r.2.mem ((c.tc : Thread nD τ).loc main_v0_15) = (data m 0 c).arrAt 63 cfg0.N
      ∧ r.2.mem ((c.tc : Thread nD τ).loc main_v0_16) = (data m 0 c).arrAt 64 cfg0.N
      ∧ r.2.mem ((c.tc : Thread nD τ).loc main_v0_17) = (data m 0 c).arrAt 65 cfg0.N
      ∧ r.2.mem ((c.tc : Thread nD τ).loc main_v0_18) = (data m 0 c).arrAt 66 cfg0.N
      ∧ r.2.mem ((c.tc : Thread nD τ).loc main_v0_19) = (data m 0 c).arrAt 67 cfg0.N
      ∧ r.2.mem ((c.tc : Thread nD τ).loc main_v0_20) = (data m 0 c).arrAt 68 cfg0.N
      ∧ r.2.mem ((c.tc : Thread nD τ).loc main_v0_21) = (data m 0 c).arrAt 69 cfg0.N
      ∧ r.2.mem ((c.tc : Thread nD τ).loc main_v0_22) = (data m 0 c).arrAt 70 cfg0.N
      ∧ r.2.mem ((c.tc : Thread nD τ).loc main_v0_23) = (data m 0 c).arrAt 71 cfg0.N
      ∧ r.2.mem ((c.tc : Thread nD τ).loc main_v0_24) = (data m 0 c).arrAt 72 cfg0.N
      ∧ r.2.mem ((c.tc : Thread nD τ).loc main_v0_25) = (data m 0 c).arrAt 73 cfg0.N
      ∧ r.2.mem ((c.tc : Thread nD τ).loc main_v0_26) = (data m 0 c).arrAt 74 cfg0.N
      ∧ r.2.mem ((c.tc : Thread nD τ).loc main_v0_27) = (data m 0 c).arrAt 75 cfg0.N
      ∧ r.2.mem ((c.tc : Thread nD τ).loc main_v0_28) = (data m 0 c).arrAt 76 cfg0.N
      ∧ r.2.mem ((c.tc : Thread nD τ).loc main_v0_29) = (data m 0 c).arrAt 77 cfg0.N
      ∧ r.2.mem ((c.tc : Thread nD τ).loc main_v0_30) = (data m 0 c).arrAt 78 cfg0.N
      ∧ r.2.mem ((c.tc : Thread nD τ).loc main_v0_31) = (data m 0 c).arrAt 79 cfg0.N
      ∧ r.2.mem ((c.tc : Thread nD τ).loc main_v0_32) = (data m 0 c).arrAt 80 cfg0.N
      ∧ r.2.mem ((c.tc : Thread nD τ).loc main_v0_33) = (data m 0 c).arrAt 81 cfg0.N
      ∧ r.2.mem ((c.tc : Thread nD τ).loc main_v0_34) = (data m 0 c).arrAt 82 cfg0.N
      ∧ r.2.mem ((c.tc : Thread nD τ).loc main_v0_35) = (data m 0 c).arrAt 83 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)) := by
  refine (θ_run defs _ _).mono (fun r h c => ?_) (run_all m ρ)
  exact ⟨(h.1 c).1 48, (h.1 c).1 49, (h.1 c).1 50, (h.1 c).1 51, (h.1 c).1 52, (h.1 c).1 53, (h.1 c).1 54, (h.1 c).1 55, (h.1 c).1 56, (h.1 c).1 57, (h.1 c).1 58, (h.1 c).1 59, (h.1 c).1 60, (h.1 c).1 61, (h.1 c).1 62, (h.1 c).1 63, (h.1 c).1 64, (h.1 c).1 65, (h.1 c).1 66, (h.1 c).1 67, (h.1 c).1 68, (h.1 c).1 69, (h.1 c).1 70, (h.1 c).1 71, (h.1 c).1 72, (h.1 c).1 73, (h.1 c).1 74, (h.1 c).1 75, (h.1 c).1 76, (h.1 c).1 77, (h.1 c).1 78, (h.1 c).1 79, (h.1 c).1 80, (h.1 c).1 81, (h.1 c).1 82, (h.1 c).1 83, kept m 0 rfl r h.1 c, kept m 1 rfl r h.1 c, kept m 2 rfl r h.1 c, kept m 3 rfl r h.1 c, kept m 4 rfl r h.1 c, kept m 5 rfl r h.1 c, kept m 6 rfl r h.1 c, kept m 7 rfl r h.1 c, kept m 8 rfl r h.1 c, kept m 9 rfl r h.1 c, kept m 10 rfl r h.1 c, kept m 11 rfl r h.1 c, kept m 12 rfl r h.1 c, kept m 13 rfl r h.1 c, kept m 14 rfl r h.1 c, kept m 15 rfl r h.1 c, kept m 16 rfl r h.1 c, kept m 17 rfl r h.1 c, kept m 18 rfl r h.1 c, kept m 19 rfl r h.1 c, kept m 20 rfl r h.1 c, kept m 21 rfl r h.1 c, kept m 22 rfl r h.1 c, kept m 23 rfl r h.1 c, kept m 24 rfl r h.1 c, kept m 25 rfl r h.1 c, kept m 26 rfl r h.1 c, kept m 27 rfl r h.1 c, kept m 28 rfl r h.1 c, kept m 29 rfl r h.1 c, kept m 30 rfl r h.1 c, kept m 31 rfl r h.1 c, kept m 32 rfl r h.1 c, kept m 33 rfl r h.1 c, kept m 34 rfl r h.1 c, kept m 35 rfl r h.1 c, kept m 36 rfl r h.1 c, kept m 37 rfl r h.1 c, kept m 38 rfl r h.1 c, kept m 39 rfl r h.1 c, kept m 40 rfl r h.1 c, kept m 41 rfl r h.1 c, kept m 42 rfl r h.1 c, kept m 43 rfl r h.1 c, kept m 44 rfl r h.1 c, kept m 45 rfl r h.1 c, kept m 46 rfl r h.1 c, kept m 47 rfl r h.1 c⟩

end

end Cert.VectorsEnd

end
-- ==== Proof.AdamVectors.lean ====
/- The optimiser step of the twelve vectors. -/
module

public import proofs.«01_k».proof.Proof.VectorsRunIdeal
public import proofs.«01_k».proof.Proof.Gen.Reference38Ideal.Read
public import Idealize.ShloMosaic.Lib.Pipeline.ReadBack
public import Idealize.ShloMosaic.Lib.Pipeline.ValueKit
public import Idealize.ShloMosaic.Lib.Pointwise
public import proofs.«01_k».proof.Proof.Adam

@[expose] public section

set_option maxRecDepth 16384

noncomputable section

namespace Cert.AdamVectors

open Cert.Kernel38Ideal Cert.Kernel38Ideal.Gen Cert.Reference38Ideal.Read Idealize.ShloMosaic Idealize.ShloMosaic.TcCoe Idealize.SL.Sem
open Idealize.ShloMosaic.Pipeline (Dat)
open Cert.Adam Cert.VectorsRunIdeal

variable (m : (ℓ : Loc nD τ sig) → Buf (Elt Ideal) ℓ) (c : Dev nD)

/-- An argument's array. -/
abbrev arg (b : Ref sig .tc) : Buf (Elt Ideal) ((c.tc : Thread nD τ).loc b) := m ((c.tc : Thread nD τ).loc b)

/-! `b_ada` -/

theorem at0 : ∀ t : Fin cfg0.N, win0_0.index t = ![0, 0] := by decide +kernel
theorem see0 (t : Fin cfg0.N) : shown m c 0 t = (arg m c main_arg0 : Vec Ideal S1x6144 .f32) := by
  funext y
  blk_simp [shown]
  exact congrArg (arg m c main_arg0) ((eq_ix2 _).trans ((congrArg₂ ix2 (Fin.ext (by blk_simp [at0])) (Fin.ext (by blk_simp [at0]))).trans (eq_ix2 _).symm))

theorem at12 : ∀ t : Fin cfg0.N, win0_12.index t = ![0, 0] := by decide +kernel
theorem see12 (t : Fin cfg0.N) : shown m c 12 t = (arg m c main_arg12 : Vec Ideal S1x6144 .f32) := by
  funext y
  blk_simp [shown]
  exact congrArg (arg m c main_arg12) ((eq_ix2 _).trans ((congrArg₂ ix2 (Fin.ext (by blk_simp [at12])) (Fin.ext (by blk_simp [at12]))).trans (eq_ix2 _).symm))

theorem at24 : ∀ t : Fin cfg0.N, win0_24.index t = ![0, 0] := by decide +kernel
theorem see24 (t : Fin cfg0.N) : shown m c 24 t = (arg m c main_arg24 : Vec Ideal S1x6144 .f32) := by
  funext y
  blk_simp [shown]
  exact congrArg (arg m c main_arg24) ((eq_ix2 _).trans ((congrArg₂ ix2 (Fin.ext (by blk_simp [at24])) (Fin.ext (by blk_simp [at24]))).trans (eq_ix2 _).symm))

theorem at36 : ∀ t : Fin cfg0.N, win0_36.index t = ![0, 0] := by decide +kernel
theorem see36 (t : Fin cfg0.N) : shown m c 36 t = (arg m c main_arg36 : Vec Ideal S1x6144 .f32) := by
  funext y
  blk_simp [shown]
  exact congrArg (arg m c main_arg36) ((eq_ix2 _).trans ((congrArg₂ ix2 (Fin.ext (by blk_simp [at36])) (Fin.ext (by blk_simp [at36]))).trans (eq_ix2 _).symm))

theorem at48 : ∀ t : Fin cfg0.N, win0_48.index t = ![0, 0] := by decide +kernel
theorem at60 : ∀ t : Fin cfg0.N, win0_60.index t = ![0, 0] := by decide +kernel
theorem at72 : ∀ t : Fin cfg0.N, win0_72.index t = ![0, 0] := by decide +kernel
theorem block48 (x0 x12 x24 x36 : Vec Ideal S1x6144 .f32) (p : Fin 1) (q : Fin 6144) : left48 x0 x12 x24 x36 (ix2 p q) = change (x0 (ix2 p q)) (x12 (ix2 p q)) (x24 (ix2 p q)) (x36 (ix2 p q)) := by
  unfold left48
  frame_out
  rfl

theorem ref48 (x0 x12 x24 x36 : Vec Ideal S1x6144 .f32) (y : S1x6144.Idx) : val_main_v23 (F := Ideal) x0 x12 x24 x36 y = change (x0 y) (x12 y) (x24 y) (x36 y) := rfl

theorem array48 : (data m 0 c).arrAt 48 cfg0.N = val_main_v23 (F := Ideal) (arg m c main_arg0) (arg m c main_arg12) (arg m c main_arg24) (arg m c main_arg36) := by
  refine (data m 0 c).arrAt_eq_of_covers 48 _ (by decide +kernel) fun t hf y => ?_
  blk_simp [at48]
  rw [after48, see0, see12, see24, see36]
  refine (congrArg _ (eq_ix2 y)).trans ((block48 _ _ _ _ (y 0) (y 1)).trans ?_)
  refine Eq.trans ?_ (ref48 _ _ _ _ _).symm
  exact congrArg (fun j : S1x6144.Idx => change (arg m c main_arg0 j) (arg m c main_arg12 j) (arg m c main_arg24 j) (arg m c main_arg36 j)) ((congrArg₂ ix2 (Fin.ext (by blk_simp [at48])) (Fin.ext (by blk_simp [at48]))).trans (eq_ix2 _).symm)

theorem block60 (x12 x24 : Vec Ideal S1x6144 .f32) (p : Fin 1) (q : Fin 6144) : left60 x12 x24 (ix2 p q) = first (x12 (ix2 p q)) (x24 (ix2 p q)) := by
  unfold left60
  frame_out
  rfl

theorem ref60 (x12 x24 : Vec Ideal S1x6144 .f32) (y : S1x6144.Idx) : val_main_v4 (F := Ideal) x12 x24 y = first (x12 y) (x24 y) := rfl

theorem array60 : (data m 0 c).arrAt 60 cfg0.N = val_main_v4 (F := Ideal) (arg m c main_arg12) (arg m c main_arg24) := by
  refine (data m 0 c).arrAt_eq_of_covers 60 _ (by decide +kernel) fun t hf y => ?_
  blk_simp [at60]
  rw [after60, see12, see24]
  refine (congrArg _ (eq_ix2 y)).trans ((block60 _ _ (y 0) (y 1)).trans ?_)
  refine Eq.trans ?_ (ref60 _ _ _).symm
  exact congrArg (fun j : S1x6144.Idx => first (arg m c main_arg12 j) (arg m c main_arg24 j)) ((congrArg₂ ix2 (Fin.ext (by blk_simp [at60])) (Fin.ext (by blk_simp [at60]))).trans (eq_ix2 _).symm)

theorem block72 (x12 x36 : Vec Ideal S1x6144 .f32) (p : Fin 1) (q : Fin 6144) : left72 x12 x36 (ix2 p q) = second (x12 (ix2 p q)) (x36 (ix2 p q)) := by
  unfold left72
  frame_out
  rfl

theorem ref72 (x12 x36 : Vec Ideal S1x6144 .f32) (y : S1x6144.Idx) : val_main_v10 (F := Ideal) x12 x36 y = second (x12 y) (x36 y) := rfl

theorem array72 : (data m 0 c).arrAt 72 cfg0.N = val_main_v10 (F := Ideal) (arg m c main_arg12) (arg m c main_arg36) := by
  refine (data m 0 c).arrAt_eq_of_covers 72 _ (by decide +kernel) fun t hf y => ?_
  blk_simp [at72]
  rw [after72, see12, see36]
  refine (congrArg _ (eq_ix2 y)).trans ((block72 _ _ (y 0) (y 1)).trans ?_)
  refine Eq.trans ?_ (ref72 _ _ _).symm
  exact congrArg (fun j : S1x6144.Idx => second (arg m c main_arg12 j) (arg m c main_arg36 j)) ((congrArg₂ ix2 (Fin.ext (by blk_simp [at72])) (Fin.ext (by blk_simp [at72]))).trans (eq_ix2 _).symm)

/-! `g_mix_norm` -/

theorem at1 : ∀ t : Fin cfg0.N, win0_1.index t = ![0, 0] := by decide +kernel
theorem see1 (t : Fin cfg0.N) : shown m c 1 t = (arg m c main_arg1 : Vec Ideal S1x1024 .f32) := by
  funext y
  blk_simp [shown]
  exact congrArg (arg m c main_arg1) ((eq_ix2 _).trans ((congrArg₂ ix2 (Fin.ext (by blk_simp [at1])) (Fin.ext (by blk_simp [at1]))).trans (eq_ix2 _).symm))

theorem at13 : ∀ t : Fin cfg0.N, win0_13.index t = ![0, 0] := by decide +kernel
theorem see13 (t : Fin cfg0.N) : shown m c 13 t = (arg m c main_arg13 : Vec Ideal S1x1024 .f32) := by
  funext y
  blk_simp [shown]
  exact congrArg (arg m c main_arg13) ((eq_ix2 _).trans ((congrArg₂ ix2 (Fin.ext (by blk_simp [at13])) (Fin.ext (by blk_simp [at13]))).trans (eq_ix2 _).symm))

theorem at25 : ∀ t : Fin cfg0.N, win0_25.index t = ![0, 0] := by decide +kernel
theorem see25 (t : Fin cfg0.N) : shown m c 25 t = (arg m c main_arg25 : Vec Ideal S1x1024 .f32) := by
  funext y
  blk_simp [shown]
  exact congrArg (arg m c main_arg25) ((eq_ix2 _).trans ((congrArg₂ ix2 (Fin.ext (by blk_simp [at25])) (Fin.ext (by blk_simp [at25]))).trans (eq_ix2 _).symm))

theorem at37 : ∀ t : Fin cfg0.N, win0_37.index t = ![0, 0] := by decide +kernel
theorem see37 (t : Fin cfg0.N) : shown m c 37 t = (arg m c main_arg37 : Vec Ideal S1x1024 .f32) := by
  funext y
  blk_simp [shown]
  exact congrArg (arg m c main_arg37) ((eq_ix2 _).trans ((congrArg₂ ix2 (Fin.ext (by blk_simp [at37])) (Fin.ext (by blk_simp [at37]))).trans (eq_ix2 _).symm))

theorem at49 : ∀ t : Fin cfg0.N, win0_49.index t = ![0, 0] := by decide +kernel
theorem at61 : ∀ t : Fin cfg0.N, win0_61.index t = ![0, 0] := by decide +kernel
theorem at73 : ∀ t : Fin cfg0.N, win0_73.index t = ![0, 0] := by decide +kernel
theorem block49 (x1 x13 x25 x37 : Vec Ideal S1x1024 .f32) (p : Fin 1) (q : Fin 1024) : left49 x1 x13 x25 x37 (ix2 p q) = change (x1 (ix2 p q)) (x13 (ix2 p q)) (x25 (ix2 p q)) (x37 (ix2 p q)) := by
  unfold left49
  frame_out
  rfl

theorem ref49 (x1 x13 x25 x37 : Vec Ideal S1x1024 .f32) (y : S1x1024.Idx) : val_main_v47 (F := Ideal) x1 x13 x25 x37 y = change (x1 y) (x13 y) (x25 y) (x37 y) := rfl

theorem array49 : (data m 0 c).arrAt 49 cfg0.N = val_main_v47 (F := Ideal) (arg m c main_arg1) (arg m c main_arg13) (arg m c main_arg25) (arg m c main_arg37) := by
  refine (data m 0 c).arrAt_eq_of_covers 49 _ (by decide +kernel) fun t hf y => ?_
  blk_simp [at49]
  rw [after49, see1, see13, see25, see37]
  refine (congrArg _ (eq_ix2 y)).trans ((block49 _ _ _ _ (y 0) (y 1)).trans ?_)
  refine Eq.trans ?_ (ref49 _ _ _ _ _).symm
  exact congrArg (fun j : S1x1024.Idx => change (arg m c main_arg1 j) (arg m c main_arg13 j) (arg m c main_arg25 j) (arg m c main_arg37 j)) ((congrArg₂ ix2 (Fin.ext (by blk_simp [at49])) (Fin.ext (by blk_simp [at49]))).trans (eq_ix2 _).symm)

theorem block61 (x13 x25 : Vec Ideal S1x1024 .f32) (p : Fin 1) (q : Fin 1024) : left61 x13 x25 (ix2 p q) = first (x13 (ix2 p q)) (x25 (ix2 p q)) := by
  unfold left61
  frame_out
  rfl

theorem ref61 (x13 x25 : Vec Ideal S1x1024 .f32) (y : S1x1024.Idx) : val_main_v28 (F := Ideal) x13 x25 y = first (x13 y) (x25 y) := rfl

theorem array61 : (data m 0 c).arrAt 61 cfg0.N = val_main_v28 (F := Ideal) (arg m c main_arg13) (arg m c main_arg25) := by
  refine (data m 0 c).arrAt_eq_of_covers 61 _ (by decide +kernel) fun t hf y => ?_
  blk_simp [at61]
  rw [after61, see13, see25]
  refine (congrArg _ (eq_ix2 y)).trans ((block61 _ _ (y 0) (y 1)).trans ?_)
  refine Eq.trans ?_ (ref61 _ _ _).symm
  exact congrArg (fun j : S1x1024.Idx => first (arg m c main_arg13 j) (arg m c main_arg25 j)) ((congrArg₂ ix2 (Fin.ext (by blk_simp [at61])) (Fin.ext (by blk_simp [at61]))).trans (eq_ix2 _).symm)

theorem block73 (x13 x37 : Vec Ideal S1x1024 .f32) (p : Fin 1) (q : Fin 1024) : left73 x13 x37 (ix2 p q) = second (x13 (ix2 p q)) (x37 (ix2 p q)) := by
  unfold left73
  frame_out
  rfl

theorem ref73 (x13 x37 : Vec Ideal S1x1024 .f32) (y : S1x1024.Idx) : val_main_v34 (F := Ideal) x13 x37 y = second (x13 y) (x37 y) := rfl

theorem array73 : (data m 0 c).arrAt 73 cfg0.N = val_main_v34 (F := Ideal) (arg m c main_arg13) (arg m c main_arg37) := by
  refine (data m 0 c).arrAt_eq_of_covers 73 _ (by decide +kernel) fun t hf y => ?_
  blk_simp [at73]
  rw [after73, see13, see37]
  refine (congrArg _ (eq_ix2 y)).trans ((block73 _ _ (y 0) (y 1)).trans ?_)
  refine Eq.trans ?_ (ref73 _ _ _).symm
  exact congrArg (fun j : S1x1024.Idx => second (arg m c main_arg13 j) (arg m c main_arg37 j)) ((congrArg₂ ix2 (Fin.ext (by blk_simp [at73])) (Fin.ext (by blk_simp [at73]))).trans (eq_ix2 _).symm)

/-! `g_q_lat` -/

theorem at2 : ∀ t : Fin cfg0.N, win0_2.index t = ![0, 0] := by decide +kernel
theorem see2 (t : Fin cfg0.N) : shown m c 2 t = (arg m c main_arg2 : Vec Ideal S1x512 .f32) := by
  funext y
  blk_simp [shown]
  exact congrArg (arg m c main_arg2) ((eq_ix2 _).trans ((congrArg₂ ix2 (Fin.ext (by blk_simp [at2])) (Fin.ext (by blk_simp [at2]))).trans (eq_ix2 _).symm))

theorem at14 : ∀ t : Fin cfg0.N, win0_14.index t = ![0, 0] := by decide +kernel
theorem see14 (t : Fin cfg0.N) : shown m c 14 t = (arg m c main_arg14 : Vec Ideal S1x512 .f32) := by
  funext y
  blk_simp [shown]
  exact congrArg (arg m c main_arg14) ((eq_ix2 _).trans ((congrArg₂ ix2 (Fin.ext (by blk_simp [at14])) (Fin.ext (by blk_simp [at14]))).trans (eq_ix2 _).symm))

theorem at26 : ∀ t : Fin cfg0.N, win0_26.index t = ![0, 0] := by decide +kernel
theorem see26 (t : Fin cfg0.N) : shown m c 26 t = (arg m c main_arg26 : Vec Ideal S1x512 .f32) := by
  funext y
  blk_simp [shown]
  exact congrArg (arg m c main_arg26) ((eq_ix2 _).trans ((congrArg₂ ix2 (Fin.ext (by blk_simp [at26])) (Fin.ext (by blk_simp [at26]))).trans (eq_ix2 _).symm))

theorem at38 : ∀ t : Fin cfg0.N, win0_38.index t = ![0, 0] := by decide +kernel
theorem see38 (t : Fin cfg0.N) : shown m c 38 t = (arg m c main_arg38 : Vec Ideal S1x512 .f32) := by
  funext y
  blk_simp [shown]
  exact congrArg (arg m c main_arg38) ((eq_ix2 _).trans ((congrArg₂ ix2 (Fin.ext (by blk_simp [at38])) (Fin.ext (by blk_simp [at38]))).trans (eq_ix2 _).symm))

theorem at50 : ∀ t : Fin cfg0.N, win0_50.index t = ![0, 0] := by decide +kernel
theorem at62 : ∀ t : Fin cfg0.N, win0_62.index t = ![0, 0] := by decide +kernel
theorem at74 : ∀ t : Fin cfg0.N, win0_74.index t = ![0, 0] := by decide +kernel
theorem block50 (x2 x14 x26 x38 : Vec Ideal S1x512 .f32) (p : Fin 1) (q : Fin 512) : left50 x2 x14 x26 x38 (ix2 p q) = change (x2 (ix2 p q)) (x14 (ix2 p q)) (x26 (ix2 p q)) (x38 (ix2 p q)) := by
  unfold left50
  frame_out
  rfl

theorem ref50 (x2 x14 x26 x38 : Vec Ideal S1x512 .f32) (y : S1x512.Idx) : val_main_v71 (F := Ideal) x2 x14 x26 x38 y = change (x2 y) (x14 y) (x26 y) (x38 y) := rfl

theorem array50 : (data m 0 c).arrAt 50 cfg0.N = val_main_v71 (F := Ideal) (arg m c main_arg2) (arg m c main_arg14) (arg m c main_arg26) (arg m c main_arg38) := by
  refine (data m 0 c).arrAt_eq_of_covers 50 _ (by decide +kernel) fun t hf y => ?_
  blk_simp [at50]
  rw [after50, see2, see14, see26, see38]
  refine (congrArg _ (eq_ix2 y)).trans ((block50 _ _ _ _ (y 0) (y 1)).trans ?_)
  refine Eq.trans ?_ (ref50 _ _ _ _ _).symm
  exact congrArg (fun j : S1x512.Idx => change (arg m c main_arg2 j) (arg m c main_arg14 j) (arg m c main_arg26 j) (arg m c main_arg38 j)) ((congrArg₂ ix2 (Fin.ext (by blk_simp [at50])) (Fin.ext (by blk_simp [at50]))).trans (eq_ix2 _).symm)

theorem block62 (x14 x26 : Vec Ideal S1x512 .f32) (p : Fin 1) (q : Fin 512) : left62 x14 x26 (ix2 p q) = first (x14 (ix2 p q)) (x26 (ix2 p q)) := by
  unfold left62
  frame_out
  rfl

theorem ref62 (x14 x26 : Vec Ideal S1x512 .f32) (y : S1x512.Idx) : val_main_v52 (F := Ideal) x14 x26 y = first (x14 y) (x26 y) := rfl

theorem array62 : (data m 0 c).arrAt 62 cfg0.N = val_main_v52 (F := Ideal) (arg m c main_arg14) (arg m c main_arg26) := by
  refine (data m 0 c).arrAt_eq_of_covers 62 _ (by decide +kernel) fun t hf y => ?_
  blk_simp [at62]
  rw [after62, see14, see26]
  refine (congrArg _ (eq_ix2 y)).trans ((block62 _ _ (y 0) (y 1)).trans ?_)
  refine Eq.trans ?_ (ref62 _ _ _).symm
  exact congrArg (fun j : S1x512.Idx => first (arg m c main_arg14 j) (arg m c main_arg26 j)) ((congrArg₂ ix2 (Fin.ext (by blk_simp [at62])) (Fin.ext (by blk_simp [at62]))).trans (eq_ix2 _).symm)

theorem block74 (x14 x38 : Vec Ideal S1x512 .f32) (p : Fin 1) (q : Fin 512) : left74 x14 x38 (ix2 p q) = second (x14 (ix2 p q)) (x38 (ix2 p q)) := by
  unfold left74
  frame_out
  rfl

theorem ref74 (x14 x38 : Vec Ideal S1x512 .f32) (y : S1x512.Idx) : val_main_v58 (F := Ideal) x14 x38 y = second (x14 y) (x38 y) := rfl

theorem array74 : (data m 0 c).arrAt 74 cfg0.N = val_main_v58 (F := Ideal) (arg m c main_arg14) (arg m c main_arg38) := by
  refine (data m 0 c).arrAt_eq_of_covers 74 _ (by decide +kernel) fun t hf y => ?_
  blk_simp [at74]
  rw [after74, see14, see38]
  refine (congrArg _ (eq_ix2 y)).trans ((block74 _ _ (y 0) (y 1)).trans ?_)
  refine Eq.trans ?_ (ref74 _ _ _).symm
  exact congrArg (fun j : S1x512.Idx => second (arg m c main_arg14 j) (arg m c main_arg38 j)) ((congrArg₂ ix2 (Fin.ext (by blk_simp [at74])) (Fin.ext (by blk_simp [at74]))).trans (eq_ix2 _).symm)

/-! `g_kv_lat` -/

theorem at3 : ∀ t : Fin cfg0.N, win0_3.index t = ![0, 0] := by decide +kernel
theorem see3 (t : Fin cfg0.N) : shown m c 3 t = (arg m c main_arg3 : Vec Ideal S1x256 .f32) := by
  funext y
  blk_simp [shown]
  exact congrArg (arg m c main_arg3) ((eq_ix2 _).trans ((congrArg₂ ix2 (Fin.ext (by blk_simp [at3])) (Fin.ext (by blk_simp [at3]))).trans (eq_ix2 _).symm))

theorem at15 : ∀ t : Fin cfg0.N, win0_15.index t = ![0, 0] := by decide +kernel
theorem see15 (t : Fin cfg0.N) : shown m c 15 t = (arg m c main_arg15 : Vec Ideal S1x256 .f32) := by
  funext y
  blk_simp [shown]
  exact congrArg (arg m c main_arg15) ((eq_ix2 _).trans ((congrArg₂ ix2 (Fin.ext (by blk_simp [at15])) (Fin.ext (by blk_simp [at15]))).trans (eq_ix2 _).symm))

theorem at27 : ∀ t : Fin cfg0.N, win0_27.index t = ![0, 0] := by decide +kernel
theorem see27 (t : Fin cfg0.N) : shown m c 27 t = (arg m c main_arg27 : Vec Ideal S1x256 .f32) := by
  funext y
  blk_simp [shown]
  exact congrArg (arg m c main_arg27) ((eq_ix2 _).trans ((congrArg₂ ix2 (Fin.ext (by blk_simp [at27])) (Fin.ext (by blk_simp [at27]))).trans (eq_ix2 _).symm))

theorem at39 : ∀ t : Fin cfg0.N, win0_39.index t = ![0, 0] := by decide +kernel
theorem see39 (t : Fin cfg0.N) : shown m c 39 t = (arg m c main_arg39 : Vec Ideal S1x256 .f32) := by
  funext y
  blk_simp [shown]
  exact congrArg (arg m c main_arg39) ((eq_ix2 _).trans ((congrArg₂ ix2 (Fin.ext (by blk_simp [at39])) (Fin.ext (by blk_simp [at39]))).trans (eq_ix2 _).symm))

theorem at51 : ∀ t : Fin cfg0.N, win0_51.index t = ![0, 0] := by decide +kernel
theorem at63 : ∀ t : Fin cfg0.N, win0_63.index t = ![0, 0] := by decide +kernel
theorem at75 : ∀ t : Fin cfg0.N, win0_75.index t = ![0, 0] := by decide +kernel
theorem block51 (x3 x15 x27 x39 : Vec Ideal S1x256 .f32) (p : Fin 1) (q : Fin 256) : left51 x3 x15 x27 x39 (ix2 p q) = change (x3 (ix2 p q)) (x15 (ix2 p q)) (x27 (ix2 p q)) (x39 (ix2 p q)) := by
  unfold left51
  frame_out
  rfl

theorem ref51 (x3 x15 x27 x39 : Vec Ideal S1x256 .f32) (y : S1x256.Idx) : val_main_v95 (F := Ideal) x3 x15 x27 x39 y = change (x3 y) (x15 y) (x27 y) (x39 y) := rfl

theorem array51 : (data m 0 c).arrAt 51 cfg0.N = val_main_v95 (F := Ideal) (arg m c main_arg3) (arg m c main_arg15) (arg m c main_arg27) (arg m c main_arg39) := by
  refine (data m 0 c).arrAt_eq_of_covers 51 _ (by decide +kernel) fun t hf y => ?_
  blk_simp [at51]
  rw [after51, see3, see15, see27, see39]
  refine (congrArg _ (eq_ix2 y)).trans ((block51 _ _ _ _ (y 0) (y 1)).trans ?_)
  refine Eq.trans ?_ (ref51 _ _ _ _ _).symm
  exact congrArg (fun j : S1x256.Idx => change (arg m c main_arg3 j) (arg m c main_arg15 j) (arg m c main_arg27 j) (arg m c main_arg39 j)) ((congrArg₂ ix2 (Fin.ext (by blk_simp [at51])) (Fin.ext (by blk_simp [at51]))).trans (eq_ix2 _).symm)

theorem block63 (x15 x27 : Vec Ideal S1x256 .f32) (p : Fin 1) (q : Fin 256) : left63 x15 x27 (ix2 p q) = first (x15 (ix2 p q)) (x27 (ix2 p q)) := by
  unfold left63
  frame_out
  rfl

theorem ref63 (x15 x27 : Vec Ideal S1x256 .f32) (y : S1x256.Idx) : val_main_v76 (F := Ideal) x15 x27 y = first (x15 y) (x27 y) := rfl

theorem array63 : (data m 0 c).arrAt 63 cfg0.N = val_main_v76 (F := Ideal) (arg m c main_arg15) (arg m c main_arg27) := by
  refine (data m 0 c).arrAt_eq_of_covers 63 _ (by decide +kernel) fun t hf y => ?_
  blk_simp [at63]
  rw [after63, see15, see27]
  refine (congrArg _ (eq_ix2 y)).trans ((block63 _ _ (y 0) (y 1)).trans ?_)
  refine Eq.trans ?_ (ref63 _ _ _).symm
  exact congrArg (fun j : S1x256.Idx => first (arg m c main_arg15 j) (arg m c main_arg27 j)) ((congrArg₂ ix2 (Fin.ext (by blk_simp [at63])) (Fin.ext (by blk_simp [at63]))).trans (eq_ix2 _).symm)

theorem block75 (x15 x39 : Vec Ideal S1x256 .f32) (p : Fin 1) (q : Fin 256) : left75 x15 x39 (ix2 p q) = second (x15 (ix2 p q)) (x39 (ix2 p q)) := by
  unfold left75
  frame_out
  rfl

theorem ref75 (x15 x39 : Vec Ideal S1x256 .f32) (y : S1x256.Idx) : val_main_v82 (F := Ideal) x15 x39 y = second (x15 y) (x39 y) := rfl

theorem array75 : (data m 0 c).arrAt 75 cfg0.N = val_main_v82 (F := Ideal) (arg m c main_arg15) (arg m c main_arg39) := by
  refine (data m 0 c).arrAt_eq_of_covers 75 _ (by decide +kernel) fun t hf y => ?_
  blk_simp [at75]
  rw [after75, see15, see39]
  refine (congrArg _ (eq_ix2 y)).trans ((block75 _ _ (y 0) (y 1)).trans ?_)
  refine Eq.trans ?_ (ref75 _ _ _).symm
  exact congrArg (fun j : S1x256.Idx => second (arg m c main_arg15 j) (arg m c main_arg39 j)) ((congrArg₂ ix2 (Fin.ext (by blk_simp [at75])) (Fin.ext (by blk_simp [at75]))).trans (eq_ix2 _).symm)

/-! `g_mla_q_nope` -/

theorem at4 : ∀ t : Fin cfg0.N, win0_4.index t = ![0, 0] := by decide +kernel
theorem see4 (t : Fin cfg0.N) : shown m c 4 t = (arg m c main_arg4 : Vec Ideal S1x64 .f32) := by
  funext y
  blk_simp [shown]
  exact congrArg (arg m c main_arg4) ((eq_ix2 _).trans ((congrArg₂ ix2 (Fin.ext (by blk_simp [at4])) (Fin.ext (by blk_simp [at4]))).trans (eq_ix2 _).symm))

theorem at16 : ∀ t : Fin cfg0.N, win0_16.index t = ![0, 0] := by decide +kernel
theorem see16 (t : Fin cfg0.N) : shown m c 16 t = (arg m c main_arg16 : Vec Ideal S1x64 .f32) := by
  funext y
  blk_simp [shown]
  exact congrArg (arg m c main_arg16) ((eq_ix2 _).trans ((congrArg₂ ix2 (Fin.ext (by blk_simp [at16])) (Fin.ext (by blk_simp [at16]))).trans (eq_ix2 _).symm))

theorem at28 : ∀ t : Fin cfg0.N, win0_28.index t = ![0, 0] := by decide +kernel
theorem see28 (t : Fin cfg0.N) : shown m c 28 t = (arg m c main_arg28 : Vec Ideal S1x64 .f32) := by
  funext y
  blk_simp [shown]
  exact congrArg (arg m c main_arg28) ((eq_ix2 _).trans ((congrArg₂ ix2 (Fin.ext (by blk_simp [at28])) (Fin.ext (by blk_simp [at28]))).trans (eq_ix2 _).symm))

theorem at40 : ∀ t : Fin cfg0.N, win0_40.index t = ![0, 0] := by decide +kernel
theorem see40 (t : Fin cfg0.N) : shown m c 40 t = (arg m c main_arg40 : Vec Ideal S1x64 .f32) := by
  funext y
  blk_simp [shown]
  exact congrArg (arg m c main_arg40) ((eq_ix2 _).trans ((congrArg₂ ix2 (Fin.ext (by blk_simp [at40])) (Fin.ext (by blk_simp [at40]))).trans (eq_ix2 _).symm))

theorem at52 : ∀ t : Fin cfg0.N, win0_52.index t = ![0, 0] := by decide +kernel
theorem at64 : ∀ t : Fin cfg0.N, win0_64.index t = ![0, 0] := by decide +kernel
theorem at76 : ∀ t : Fin cfg0.N, win0_76.index t = ![0, 0] := by decide +kernel
theorem block52 (x4 x16 x28 x40 : Vec Ideal S1x64 .f32) (p : Fin 1) (q : Fin 64) : left52 x4 x16 x28 x40 (ix2 p q) = change (x4 (ix2 p q)) (x16 (ix2 p q)) (x28 (ix2 p q)) (x40 (ix2 p q)) := by
  unfold left52
  frame_out
  rfl

theorem ref52 (x4 x16 x28 x40 : Vec Ideal S1x64 .f32) (y : S1x64.Idx) : val_main_v119 (F := Ideal) x4 x16 x28 x40 y = change (x4 y) (x16 y) (x28 y) (x40 y) := rfl

theorem array52 : (data m 0 c).arrAt 52 cfg0.N = val_main_v119 (F := Ideal) (arg m c main_arg4) (arg m c main_arg16) (arg m c main_arg28) (arg m c main_arg40) := by
  refine (data m 0 c).arrAt_eq_of_covers 52 _ (by decide +kernel) fun t hf y => ?_
  blk_simp [at52]
  rw [after52, see4, see16, see28, see40]
  refine (congrArg _ (eq_ix2 y)).trans ((block52 _ _ _ _ (y 0) (y 1)).trans ?_)
  refine Eq.trans ?_ (ref52 _ _ _ _ _).symm
  exact congrArg (fun j : S1x64.Idx => change (arg m c main_arg4 j) (arg m c main_arg16 j) (arg m c main_arg28 j) (arg m c main_arg40 j)) ((congrArg₂ ix2 (Fin.ext (by blk_simp [at52])) (Fin.ext (by blk_simp [at52]))).trans (eq_ix2 _).symm)

theorem block64 (x16 x28 : Vec Ideal S1x64 .f32) (p : Fin 1) (q : Fin 64) : left64 x16 x28 (ix2 p q) = first (x16 (ix2 p q)) (x28 (ix2 p q)) := by
  unfold left64
  frame_out
  rfl

theorem ref64 (x16 x28 : Vec Ideal S1x64 .f32) (y : S1x64.Idx) : val_main_v100 (F := Ideal) x16 x28 y = first (x16 y) (x28 y) := rfl

theorem array64 : (data m 0 c).arrAt 64 cfg0.N = val_main_v100 (F := Ideal) (arg m c main_arg16) (arg m c main_arg28) := by
  refine (data m 0 c).arrAt_eq_of_covers 64 _ (by decide +kernel) fun t hf y => ?_
  blk_simp [at64]
  rw [after64, see16, see28]
  refine (congrArg _ (eq_ix2 y)).trans ((block64 _ _ (y 0) (y 1)).trans ?_)
  refine Eq.trans ?_ (ref64 _ _ _).symm
  exact congrArg (fun j : S1x64.Idx => first (arg m c main_arg16 j) (arg m c main_arg28 j)) ((congrArg₂ ix2 (Fin.ext (by blk_simp [at64])) (Fin.ext (by blk_simp [at64]))).trans (eq_ix2 _).symm)

theorem block76 (x16 x40 : Vec Ideal S1x64 .f32) (p : Fin 1) (q : Fin 64) : left76 x16 x40 (ix2 p q) = second (x16 (ix2 p q)) (x40 (ix2 p q)) := by
  unfold left76
  frame_out
  rfl

theorem ref76 (x16 x40 : Vec Ideal S1x64 .f32) (y : S1x64.Idx) : val_main_v106 (F := Ideal) x16 x40 y = second (x16 y) (x40 y) := rfl

theorem array76 : (data m 0 c).arrAt 76 cfg0.N = val_main_v106 (F := Ideal) (arg m c main_arg16) (arg m c main_arg40) := by
  refine (data m 0 c).arrAt_eq_of_covers 76 _ (by decide +kernel) fun t hf y => ?_
  blk_simp [at76]
  rw [after76, see16, see40]
  refine (congrArg _ (eq_ix2 y)).trans ((block76 _ _ (y 0) (y 1)).trans ?_)
  refine Eq.trans ?_ (ref76 _ _ _).symm
  exact congrArg (fun j : S1x64.Idx => second (arg m c main_arg16 j) (arg m c main_arg40 j)) ((congrArg₂ ix2 (Fin.ext (by blk_simp [at76])) (Fin.ext (by blk_simp [at76]))).trans (eq_ix2 _).symm)

/-! `g_mla_q_pe` -/

theorem at5 : ∀ t : Fin cfg0.N, win0_5.index t = ![0, 0] := by decide +kernel
theorem see5 (t : Fin cfg0.N) : shown m c 5 t = (arg m c main_arg5 : Vec Ideal S1x32 .f32) := by
  funext y
  blk_simp [shown]
  exact congrArg (arg m c main_arg5) ((eq_ix2 _).trans ((congrArg₂ ix2 (Fin.ext (by blk_simp [at5])) (Fin.ext (by blk_simp [at5]))).trans (eq_ix2 _).symm))

theorem at17 : ∀ t : Fin cfg0.N, win0_17.index t = ![0, 0] := by decide +kernel
theorem see17 (t : Fin cfg0.N) : shown m c 17 t = (arg m c main_arg17 : Vec Ideal S1x32 .f32) := by
  funext y
  blk_simp [shown]
  exact congrArg (arg m c main_arg17) ((eq_ix2 _).trans ((congrArg₂ ix2 (Fin.ext (by blk_simp [at17])) (Fin.ext (by blk_simp [at17]))).trans (eq_ix2 _).symm))

theorem at29 : ∀ t : Fin cfg0.N, win0_29.index t = ![0, 0] := by decide +kernel
theorem see29 (t : Fin cfg0.N) : shown m c 29 t = (arg m c main_arg29 : Vec Ideal S1x32 .f32) := by
  funext y
  blk_simp [shown]
  exact congrArg (arg m c main_arg29) ((eq_ix2 _).trans ((congrArg₂ ix2 (Fin.ext (by blk_simp [at29])) (Fin.ext (by blk_simp [at29]))).trans (eq_ix2 _).symm))

theorem at41 : ∀ t : Fin cfg0.N, win0_41.index t = ![0, 0] := by decide +kernel
theorem see41 (t : Fin cfg0.N) : shown m c 41 t = (arg m c main_arg41 : Vec Ideal S1x32 .f32) := by
  funext y
  blk_simp [shown]
  exact congrArg (arg m c main_arg41) ((eq_ix2 _).trans ((congrArg₂ ix2 (Fin.ext (by blk_simp [at41])) (Fin.ext (by blk_simp [at41]))).trans (eq_ix2 _).symm))

theorem at53 : ∀ t : Fin cfg0.N, win0_53.index t = ![0, 0] := by decide +kernel
theorem at65 : ∀ t : Fin cfg0.N, win0_65.index t = ![0, 0] := by decide +kernel
theorem at77 : ∀ t : Fin cfg0.N, win0_77.index t = ![0, 0] := by decide +kernel
theorem block53 (x5 x17 x29 x41 : Vec Ideal S1x32 .f32) (p : Fin 1) (q : Fin 32) : left53 x5 x17 x29 x41 (ix2 p q) = change (x5 (ix2 p q)) (x17 (ix2 p q)) (x29 (ix2 p q)) (x41 (ix2 p q)) := by
  unfold left53
  frame_out
  rfl

theorem ref53 (x5 x17 x29 x41 : Vec Ideal S1x32 .f32) (y : S1x32.Idx) : val_main_v143 (F := Ideal) x5 x17 x29 x41 y = change (x5 y) (x17 y) (x29 y) (x41 y) := rfl

theorem array53 : (data m 0 c).arrAt 53 cfg0.N = val_main_v143 (F := Ideal) (arg m c main_arg5) (arg m c main_arg17) (arg m c main_arg29) (arg m c main_arg41) := by
  refine (data m 0 c).arrAt_eq_of_covers 53 _ (by decide +kernel) fun t hf y => ?_
  blk_simp [at53]
  rw [after53, see5, see17, see29, see41]
  refine (congrArg _ (eq_ix2 y)).trans ((block53 _ _ _ _ (y 0) (y 1)).trans ?_)
  refine Eq.trans ?_ (ref53 _ _ _ _ _).symm
  exact congrArg (fun j : S1x32.Idx => change (arg m c main_arg5 j) (arg m c main_arg17 j) (arg m c main_arg29 j) (arg m c main_arg41 j)) ((congrArg₂ ix2 (Fin.ext (by blk_simp [at53])) (Fin.ext (by blk_simp [at53]))).trans (eq_ix2 _).symm)

theorem block65 (x17 x29 : Vec Ideal S1x32 .f32) (p : Fin 1) (q : Fin 32) : left65 x17 x29 (ix2 p q) = first (x17 (ix2 p q)) (x29 (ix2 p q)) := by
  unfold left65
  frame_out
  rfl

theorem ref65 (x17 x29 : Vec Ideal S1x32 .f32) (y : S1x32.Idx) : val_main_v124 (F := Ideal) x17 x29 y = first (x17 y) (x29 y) := rfl

theorem array65 : (data m 0 c).arrAt 65 cfg0.N = val_main_v124 (F := Ideal) (arg m c main_arg17) (arg m c main_arg29) := by
  refine (data m 0 c).arrAt_eq_of_covers 65 _ (by decide +kernel) fun t hf y => ?_
  blk_simp [at65]
  rw [after65, see17, see29]
  refine (congrArg _ (eq_ix2 y)).trans ((block65 _ _ (y 0) (y 1)).trans ?_)
  refine Eq.trans ?_ (ref65 _ _ _).symm
  exact congrArg (fun j : S1x32.Idx => first (arg m c main_arg17 j) (arg m c main_arg29 j)) ((congrArg₂ ix2 (Fin.ext (by blk_simp [at65])) (Fin.ext (by blk_simp [at65]))).trans (eq_ix2 _).symm)

theorem block77 (x17 x41 : Vec Ideal S1x32 .f32) (p : Fin 1) (q : Fin 32) : left77 x17 x41 (ix2 p q) = second (x17 (ix2 p q)) (x41 (ix2 p q)) := by
  unfold left77
  frame_out
  rfl

theorem ref77 (x17 x41 : Vec Ideal S1x32 .f32) (y : S1x32.Idx) : val_main_v130 (F := Ideal) x17 x41 y = second (x17 y) (x41 y) := rfl

theorem array77 : (data m 0 c).arrAt 77 cfg0.N = val_main_v130 (F := Ideal) (arg m c main_arg17) (arg m c main_arg41) := by
  refine (data m 0 c).arrAt_eq_of_covers 77 _ (by decide +kernel) fun t hf y => ?_
  blk_simp [at77]
  rw [after77, see17, see41]
  refine (congrArg _ (eq_ix2 y)).trans ((block77 _ _ (y 0) (y 1)).trans ?_)
  refine Eq.trans ?_ (ref77 _ _ _).symm
  exact congrArg (fun j : S1x32.Idx => second (arg m c main_arg17 j) (arg m c main_arg41 j)) ((congrArg₂ ix2 (Fin.ext (by blk_simp [at77])) (Fin.ext (by blk_simp [at77]))).trans (eq_ix2 _).symm)

/-! `g_mla_k_nope` -/

theorem at6 : ∀ t : Fin cfg0.N, win0_6.index t = ![0, 0] := by decide +kernel
theorem see6 (t : Fin cfg0.N) : shown m c 6 t = (arg m c main_arg6 : Vec Ideal S1x64 .f32) := by
  funext y
  blk_simp [shown]
  exact congrArg (arg m c main_arg6) ((eq_ix2 _).trans ((congrArg₂ ix2 (Fin.ext (by blk_simp [at6])) (Fin.ext (by blk_simp [at6]))).trans (eq_ix2 _).symm))

theorem at18 : ∀ t : Fin cfg0.N, win0_18.index t = ![0, 0] := by decide +kernel
theorem see18 (t : Fin cfg0.N) : shown m c 18 t = (arg m c main_arg18 : Vec Ideal S1x64 .f32) := by
  funext y
  blk_simp [shown]
  exact congrArg (arg m c main_arg18) ((eq_ix2 _).trans ((congrArg₂ ix2 (Fin.ext (by blk_simp [at18])) (Fin.ext (by blk_simp [at18]))).trans (eq_ix2 _).symm))

theorem at30 : ∀ t : Fin cfg0.N, win0_30.index t = ![0, 0] := by decide +kernel
theorem see30 (t : Fin cfg0.N) : shown m c 30 t = (arg m c main_arg30 : Vec Ideal S1x64 .f32) := by
  funext y
  blk_simp [shown]
  exact congrArg (arg m c main_arg30) ((eq_ix2 _).trans ((congrArg₂ ix2 (Fin.ext (by blk_simp [at30])) (Fin.ext (by blk_simp [at30]))).trans (eq_ix2 _).symm))

theorem at42 : ∀ t : Fin cfg0.N, win0_42.index t = ![0, 0] := by decide +kernel
theorem see42 (t : Fin cfg0.N) : shown m c 42 t = (arg m c main_arg42 : Vec Ideal S1x64 .f32) := by
  funext y
  blk_simp [shown]
  exact congrArg (arg m c main_arg42) ((eq_ix2 _).trans ((congrArg₂ ix2 (Fin.ext (by blk_simp [at42])) (Fin.ext (by blk_simp [at42]))).trans (eq_ix2 _).symm))

theorem at54 : ∀ t : Fin cfg0.N, win0_54.index t = ![0, 0] := by decide +kernel
theorem at66 : ∀ t : Fin cfg0.N, win0_66.index t = ![0, 0] := by decide +kernel
theorem at78 : ∀ t : Fin cfg0.N, win0_78.index t = ![0, 0] := by decide +kernel
theorem block54 (x6 x18 x30 x42 : Vec Ideal S1x64 .f32) (p : Fin 1) (q : Fin 64) : left54 x6 x18 x30 x42 (ix2 p q) = change (x6 (ix2 p q)) (x18 (ix2 p q)) (x30 (ix2 p q)) (x42 (ix2 p q)) := by
  unfold left54
  frame_out
  rfl

theorem ref54 (x6 x18 x30 x42 : Vec Ideal S1x64 .f32) (y : S1x64.Idx) : val_main_v167 (F := Ideal) x6 x18 x30 x42 y = change (x6 y) (x18 y) (x30 y) (x42 y) := rfl

theorem array54 : (data m 0 c).arrAt 54 cfg0.N = val_main_v167 (F := Ideal) (arg m c main_arg6) (arg m c main_arg18) (arg m c main_arg30) (arg m c main_arg42) := by
  refine (data m 0 c).arrAt_eq_of_covers 54 _ (by decide +kernel) fun t hf y => ?_
  blk_simp [at54]
  rw [after54, see6, see18, see30, see42]
  refine (congrArg _ (eq_ix2 y)).trans ((block54 _ _ _ _ (y 0) (y 1)).trans ?_)
  refine Eq.trans ?_ (ref54 _ _ _ _ _).symm
  exact congrArg (fun j : S1x64.Idx => change (arg m c main_arg6 j) (arg m c main_arg18 j) (arg m c main_arg30 j) (arg m c main_arg42 j)) ((congrArg₂ ix2 (Fin.ext (by blk_simp [at54])) (Fin.ext (by blk_simp [at54]))).trans (eq_ix2 _).symm)

theorem block66 (x18 x30 : Vec Ideal S1x64 .f32) (p : Fin 1) (q : Fin 64) : left66 x18 x30 (ix2 p q) = first (x18 (ix2 p q)) (x30 (ix2 p q)) := by
  unfold left66
  frame_out
  rfl

theorem ref66 (x18 x30 : Vec Ideal S1x64 .f32) (y : S1x64.Idx) : val_main_v148 (F := Ideal) x18 x30 y = first (x18 y) (x30 y) := rfl

theorem array66 : (data m 0 c).arrAt 66 cfg0.N = val_main_v148 (F := Ideal) (arg m c main_arg18) (arg m c main_arg30) := by
  refine (data m 0 c).arrAt_eq_of_covers 66 _ (by decide +kernel) fun t hf y => ?_
  blk_simp [at66]
  rw [after66, see18, see30]
  refine (congrArg _ (eq_ix2 y)).trans ((block66 _ _ (y 0) (y 1)).trans ?_)
  refine Eq.trans ?_ (ref66 _ _ _).symm
  exact congrArg (fun j : S1x64.Idx => first (arg m c main_arg18 j) (arg m c main_arg30 j)) ((congrArg₂ ix2 (Fin.ext (by blk_simp [at66])) (Fin.ext (by blk_simp [at66]))).trans (eq_ix2 _).symm)

theorem block78 (x18 x42 : Vec Ideal S1x64 .f32) (p : Fin 1) (q : Fin 64) : left78 x18 x42 (ix2 p q) = second (x18 (ix2 p q)) (x42 (ix2 p q)) := by
  unfold left78
  frame_out
  rfl

theorem ref78 (x18 x42 : Vec Ideal S1x64 .f32) (y : S1x64.Idx) : val_main_v154 (F := Ideal) x18 x42 y = second (x18 y) (x42 y) := rfl

theorem array78 : (data m 0 c).arrAt 78 cfg0.N = val_main_v154 (F := Ideal) (arg m c main_arg18) (arg m c main_arg42) := by
  refine (data m 0 c).arrAt_eq_of_covers 78 _ (by decide +kernel) fun t hf y => ?_
  blk_simp [at78]
  rw [after78, see18, see42]
  refine (congrArg _ (eq_ix2 y)).trans ((block78 _ _ (y 0) (y 1)).trans ?_)
  refine Eq.trans ?_ (ref78 _ _ _).symm
  exact congrArg (fun j : S1x64.Idx => second (arg m c main_arg18 j) (arg m c main_arg42 j)) ((congrArg₂ ix2 (Fin.ext (by blk_simp [at78])) (Fin.ext (by blk_simp [at78]))).trans (eq_ix2 _).symm)

/-! `g_mla_k_pe` -/

theorem at7 : ∀ t : Fin cfg0.N, win0_7.index t = ![0, 0] := by decide +kernel
theorem see7 (t : Fin cfg0.N) : shown m c 7 t = (arg m c main_arg7 : Vec Ideal S1x32 .f32) := by
  funext y
  blk_simp [shown]
  exact congrArg (arg m c main_arg7) ((eq_ix2 _).trans ((congrArg₂ ix2 (Fin.ext (by blk_simp [at7])) (Fin.ext (by blk_simp [at7]))).trans (eq_ix2 _).symm))

theorem at19 : ∀ t : Fin cfg0.N, win0_19.index t = ![0, 0] := by decide +kernel
theorem see19 (t : Fin cfg0.N) : shown m c 19 t = (arg m c main_arg19 : Vec Ideal S1x32 .f32) := by
  funext y
  blk_simp [shown]
  exact congrArg (arg m c main_arg19) ((eq_ix2 _).trans ((congrArg₂ ix2 (Fin.ext (by blk_simp [at19])) (Fin.ext (by blk_simp [at19]))).trans (eq_ix2 _).symm))

theorem at31 : ∀ t : Fin cfg0.N, win0_31.index t = ![0, 0] := by decide +kernel
theorem see31 (t : Fin cfg0.N) : shown m c 31 t = (arg m c main_arg31 : Vec Ideal S1x32 .f32) := by
  funext y
  blk_simp [shown]
  exact congrArg (arg m c main_arg31) ((eq_ix2 _).trans ((congrArg₂ ix2 (Fin.ext (by blk_simp [at31])) (Fin.ext (by blk_simp [at31]))).trans (eq_ix2 _).symm))

theorem at43 : ∀ t : Fin cfg0.N, win0_43.index t = ![0, 0] := by decide +kernel
theorem see43 (t : Fin cfg0.N) : shown m c 43 t = (arg m c main_arg43 : Vec Ideal S1x32 .f32) := by
  funext y
  blk_simp [shown]
  exact congrArg (arg m c main_arg43) ((eq_ix2 _).trans ((congrArg₂ ix2 (Fin.ext (by blk_simp [at43])) (Fin.ext (by blk_simp [at43]))).trans (eq_ix2 _).symm))

theorem at55 : ∀ t : Fin cfg0.N, win0_55.index t = ![0, 0] := by decide +kernel
theorem at67 : ∀ t : Fin cfg0.N, win0_67.index t = ![0, 0] := by decide +kernel
theorem at79 : ∀ t : Fin cfg0.N, win0_79.index t = ![0, 0] := by decide +kernel
theorem block55 (x7 x19 x31 x43 : Vec Ideal S1x32 .f32) (p : Fin 1) (q : Fin 32) : left55 x7 x19 x31 x43 (ix2 p q) = change (x7 (ix2 p q)) (x19 (ix2 p q)) (x31 (ix2 p q)) (x43 (ix2 p q)) := by
  unfold left55
  frame_out
  rfl

theorem ref55 (x7 x19 x31 x43 : Vec Ideal S1x32 .f32) (y : S1x32.Idx) : val_main_v191 (F := Ideal) x7 x19 x31 x43 y = change (x7 y) (x19 y) (x31 y) (x43 y) := rfl

theorem array55 : (data m 0 c).arrAt 55 cfg0.N = val_main_v191 (F := Ideal) (arg m c main_arg7) (arg m c main_arg19) (arg m c main_arg31) (arg m c main_arg43) := by
  refine (data m 0 c).arrAt_eq_of_covers 55 _ (by decide +kernel) fun t hf y => ?_
  blk_simp [at55]
  rw [after55, see7, see19, see31, see43]
  refine (congrArg _ (eq_ix2 y)).trans ((block55 _ _ _ _ (y 0) (y 1)).trans ?_)
  refine Eq.trans ?_ (ref55 _ _ _ _ _).symm
  exact congrArg (fun j : S1x32.Idx => change (arg m c main_arg7 j) (arg m c main_arg19 j) (arg m c main_arg31 j) (arg m c main_arg43 j)) ((congrArg₂ ix2 (Fin.ext (by blk_simp [at55])) (Fin.ext (by blk_simp [at55]))).trans (eq_ix2 _).symm)

theorem block67 (x19 x31 : Vec Ideal S1x32 .f32) (p : Fin 1) (q : Fin 32) : left67 x19 x31 (ix2 p q) = first (x19 (ix2 p q)) (x31 (ix2 p q)) := by
  unfold left67
  frame_out
  rfl

theorem ref67 (x19 x31 : Vec Ideal S1x32 .f32) (y : S1x32.Idx) : val_main_v172 (F := Ideal) x19 x31 y = first (x19 y) (x31 y) := rfl

theorem array67 : (data m 0 c).arrAt 67 cfg0.N = val_main_v172 (F := Ideal) (arg m c main_arg19) (arg m c main_arg31) := by
  refine (data m 0 c).arrAt_eq_of_covers 67 _ (by decide +kernel) fun t hf y => ?_
  blk_simp [at67]
  rw [after67, see19, see31]
  refine (congrArg _ (eq_ix2 y)).trans ((block67 _ _ (y 0) (y 1)).trans ?_)
  refine Eq.trans ?_ (ref67 _ _ _).symm
  exact congrArg (fun j : S1x32.Idx => first (arg m c main_arg19 j) (arg m c main_arg31 j)) ((congrArg₂ ix2 (Fin.ext (by blk_simp [at67])) (Fin.ext (by blk_simp [at67]))).trans (eq_ix2 _).symm)

theorem block79 (x19 x43 : Vec Ideal S1x32 .f32) (p : Fin 1) (q : Fin 32) : left79 x19 x43 (ix2 p q) = second (x19 (ix2 p q)) (x43 (ix2 p q)) := by
  unfold left79
  frame_out
  rfl

theorem ref79 (x19 x43 : Vec Ideal S1x32 .f32) (y : S1x32.Idx) : val_main_v178 (F := Ideal) x19 x43 y = second (x19 y) (x43 y) := rfl

theorem array79 : (data m 0 c).arrAt 79 cfg0.N = val_main_v178 (F := Ideal) (arg m c main_arg19) (arg m c main_arg43) := by
  refine (data m 0 c).arrAt_eq_of_covers 79 _ (by decide +kernel) fun t hf y => ?_
  blk_simp [at79]
  rw [after79, see19, see43]
  refine (congrArg _ (eq_ix2 y)).trans ((block79 _ _ (y 0) (y 1)).trans ?_)
  refine Eq.trans ?_ (ref79 _ _ _).symm
  exact congrArg (fun j : S1x32.Idx => second (arg m c main_arg19 j) (arg m c main_arg43 j)) ((congrArg₂ ix2 (Fin.ext (by blk_simp [at79])) (Fin.ext (by blk_simp [at79]))).trans (eq_ix2 _).symm)

/-! `g_dil_q` -/

theorem at8 : ∀ t : Fin cfg0.N, win0_8.index t = ![0, 0] := by decide +kernel
theorem see8 (t : Fin cfg0.N) : shown m c 8 t = (arg m c main_arg8 : Vec Ideal S1x64 .f32) := by
  funext y
  blk_simp [shown]
  exact congrArg (arg m c main_arg8) ((eq_ix2 _).trans ((congrArg₂ ix2 (Fin.ext (by blk_simp [at8])) (Fin.ext (by blk_simp [at8]))).trans (eq_ix2 _).symm))

theorem at20 : ∀ t : Fin cfg0.N, win0_20.index t = ![0, 0] := by decide +kernel
theorem see20 (t : Fin cfg0.N) : shown m c 20 t = (arg m c main_arg20 : Vec Ideal S1x64 .f32) := by
  funext y
  blk_simp [shown]
  exact congrArg (arg m c main_arg20) ((eq_ix2 _).trans ((congrArg₂ ix2 (Fin.ext (by blk_simp [at20])) (Fin.ext (by blk_simp [at20]))).trans (eq_ix2 _).symm))

theorem at32 : ∀ t : Fin cfg0.N, win0_32.index t = ![0, 0] := by decide +kernel
theorem see32 (t : Fin cfg0.N) : shown m c 32 t = (arg m c main_arg32 : Vec Ideal S1x64 .f32) := by
  funext y
  blk_simp [shown]
  exact congrArg (arg m c main_arg32) ((eq_ix2 _).trans ((congrArg₂ ix2 (Fin.ext (by blk_simp [at32])) (Fin.ext (by blk_simp [at32]))).trans (eq_ix2 _).symm))

theorem at44 : ∀ t : Fin cfg0.N, win0_44.index t = ![0, 0] := by decide +kernel
theorem see44 (t : Fin cfg0.N) : shown m c 44 t = (arg m c main_arg44 : Vec Ideal S1x64 .f32) := by
  funext y
  blk_simp [shown]
  exact congrArg (arg m c main_arg44) ((eq_ix2 _).trans ((congrArg₂ ix2 (Fin.ext (by blk_simp [at44])) (Fin.ext (by blk_simp [at44]))).trans (eq_ix2 _).symm))

theorem at56 : ∀ t : Fin cfg0.N, win0_56.index t = ![0, 0] := by decide +kernel
theorem at68 : ∀ t : Fin cfg0.N, win0_68.index t = ![0, 0] := by decide +kernel
theorem at80 : ∀ t : Fin cfg0.N, win0_80.index t = ![0, 0] := by decide +kernel
theorem block56 (x8 x20 x32 x44 : Vec Ideal S1x64 .f32) (p : Fin 1) (q : Fin 64) : left56 x8 x20 x32 x44 (ix2 p q) = change (x8 (ix2 p q)) (x20 (ix2 p q)) (x32 (ix2 p q)) (x44 (ix2 p q)) := by
  unfold left56
  frame_out
  rfl

theorem ref56 (x8 x20 x32 x44 : Vec Ideal S1x64 .f32) (y : S1x64.Idx) : val_main_v215 (F := Ideal) x8 x20 x32 x44 y = change (x8 y) (x20 y) (x32 y) (x44 y) := rfl

theorem array56 : (data m 0 c).arrAt 56 cfg0.N = val_main_v215 (F := Ideal) (arg m c main_arg8) (arg m c main_arg20) (arg m c main_arg32) (arg m c main_arg44) := by
  refine (data m 0 c).arrAt_eq_of_covers 56 _ (by decide +kernel) fun t hf y => ?_
  blk_simp [at56]
  rw [after56, see8, see20, see32, see44]
  refine (congrArg _ (eq_ix2 y)).trans ((block56 _ _ _ _ (y 0) (y 1)).trans ?_)
  refine Eq.trans ?_ (ref56 _ _ _ _ _).symm
  exact congrArg (fun j : S1x64.Idx => change (arg m c main_arg8 j) (arg m c main_arg20 j) (arg m c main_arg32 j) (arg m c main_arg44 j)) ((congrArg₂ ix2 (Fin.ext (by blk_simp [at56])) (Fin.ext (by blk_simp [at56]))).trans (eq_ix2 _).symm)

theorem block68 (x20 x32 : Vec Ideal S1x64 .f32) (p : Fin 1) (q : Fin 64) : left68 x20 x32 (ix2 p q) = first (x20 (ix2 p q)) (x32 (ix2 p q)) := by
  unfold left68
  frame_out
  rfl

theorem ref68 (x20 x32 : Vec Ideal S1x64 .f32) (y : S1x64.Idx) : val_main_v196 (F := Ideal) x20 x32 y = first (x20 y) (x32 y) := rfl

theorem array68 : (data m 0 c).arrAt 68 cfg0.N = val_main_v196 (F := Ideal) (arg m c main_arg20) (arg m c main_arg32) := by
  refine (data m 0 c).arrAt_eq_of_covers 68 _ (by decide +kernel) fun t hf y => ?_
  blk_simp [at68]
  rw [after68, see20, see32]
  refine (congrArg _ (eq_ix2 y)).trans ((block68 _ _ (y 0) (y 1)).trans ?_)
  refine Eq.trans ?_ (ref68 _ _ _).symm
  exact congrArg (fun j : S1x64.Idx => first (arg m c main_arg20 j) (arg m c main_arg32 j)) ((congrArg₂ ix2 (Fin.ext (by blk_simp [at68])) (Fin.ext (by blk_simp [at68]))).trans (eq_ix2 _).symm)

theorem block80 (x20 x44 : Vec Ideal S1x64 .f32) (p : Fin 1) (q : Fin 64) : left80 x20 x44 (ix2 p q) = second (x20 (ix2 p q)) (x44 (ix2 p q)) := by
  unfold left80
  frame_out
  rfl

theorem ref80 (x20 x44 : Vec Ideal S1x64 .f32) (y : S1x64.Idx) : val_main_v202 (F := Ideal) x20 x44 y = second (x20 y) (x44 y) := rfl

theorem array80 : (data m 0 c).arrAt 80 cfg0.N = val_main_v202 (F := Ideal) (arg m c main_arg20) (arg m c main_arg44) := by
  refine (data m 0 c).arrAt_eq_of_covers 80 _ (by decide +kernel) fun t hf y => ?_
  blk_simp [at80]
  rw [after80, see20, see44]
  refine (congrArg _ (eq_ix2 y)).trans ((block80 _ _ (y 0) (y 1)).trans ?_)
  refine Eq.trans ?_ (ref80 _ _ _).symm
  exact congrArg (fun j : S1x64.Idx => second (arg m c main_arg20 j) (arg m c main_arg44 j)) ((congrArg₂ ix2 (Fin.ext (by blk_simp [at80])) (Fin.ext (by blk_simp [at80]))).trans (eq_ix2 _).symm)

/-! `g_dil_k` -/

theorem at9 : ∀ t : Fin cfg0.N, win0_9.index t = ![0, 0] := by decide +kernel
theorem see9 (t : Fin cfg0.N) : shown m c 9 t = (arg m c main_arg9 : Vec Ideal S1x64 .f32) := by
  funext y
  blk_simp [shown]
  exact congrArg (arg m c main_arg9) ((eq_ix2 _).trans ((congrArg₂ ix2 (Fin.ext (by blk_simp [at9])) (Fin.ext (by blk_simp [at9]))).trans (eq_ix2 _).symm))

theorem at21 : ∀ t : Fin cfg0.N, win0_21.index t = ![0, 0] := by decide +kernel
theorem see21 (t : Fin cfg0.N) : shown m c 21 t = (arg m c main_arg21 : Vec Ideal S1x64 .f32) := by
  funext y
  blk_simp [shown]
  exact congrArg (arg m c main_arg21) ((eq_ix2 _).trans ((congrArg₂ ix2 (Fin.ext (by blk_simp [at21])) (Fin.ext (by blk_simp [at21]))).trans (eq_ix2 _).symm))

theorem at33 : ∀ t : Fin cfg0.N, win0_33.index t = ![0, 0] := by decide +kernel
theorem see33 (t : Fin cfg0.N) : shown m c 33 t = (arg m c main_arg33 : Vec Ideal S1x64 .f32) := by
  funext y
  blk_simp [shown]
  exact congrArg (arg m c main_arg33) ((eq_ix2 _).trans ((congrArg₂ ix2 (Fin.ext (by blk_simp [at33])) (Fin.ext (by blk_simp [at33]))).trans (eq_ix2 _).symm))

theorem at45 : ∀ t : Fin cfg0.N, win0_45.index t = ![0, 0] := by decide +kernel
theorem see45 (t : Fin cfg0.N) : shown m c 45 t = (arg m c main_arg45 : Vec Ideal S1x64 .f32) := by
  funext y
  blk_simp [shown]
  exact congrArg (arg m c main_arg45) ((eq_ix2 _).trans ((congrArg₂ ix2 (Fin.ext (by blk_simp [at45])) (Fin.ext (by blk_simp [at45]))).trans (eq_ix2 _).symm))

theorem at57 : ∀ t : Fin cfg0.N, win0_57.index t = ![0, 0] := by decide +kernel
theorem at69 : ∀ t : Fin cfg0.N, win0_69.index t = ![0, 0] := by decide +kernel
theorem at81 : ∀ t : Fin cfg0.N, win0_81.index t = ![0, 0] := by decide +kernel
theorem block57 (x9 x21 x33 x45 : Vec Ideal S1x64 .f32) (p : Fin 1) (q : Fin 64) : left57 x9 x21 x33 x45 (ix2 p q) = change (x9 (ix2 p q)) (x21 (ix2 p q)) (x33 (ix2 p q)) (x45 (ix2 p q)) := by
  unfold left57
  frame_out
  rfl

theorem ref57 (x9 x21 x33 x45 : Vec Ideal S1x64 .f32) (y : S1x64.Idx) : val_main_v239 (F := Ideal) x9 x21 x33 x45 y = change (x9 y) (x21 y) (x33 y) (x45 y) := rfl

theorem array57 : (data m 0 c).arrAt 57 cfg0.N = val_main_v239 (F := Ideal) (arg m c main_arg9) (arg m c main_arg21) (arg m c main_arg33) (arg m c main_arg45) := by
  refine (data m 0 c).arrAt_eq_of_covers 57 _ (by decide +kernel) fun t hf y => ?_
  blk_simp [at57]
  rw [after57, see9, see21, see33, see45]
  refine (congrArg _ (eq_ix2 y)).trans ((block57 _ _ _ _ (y 0) (y 1)).trans ?_)
  refine Eq.trans ?_ (ref57 _ _ _ _ _).symm
  exact congrArg (fun j : S1x64.Idx => change (arg m c main_arg9 j) (arg m c main_arg21 j) (arg m c main_arg33 j) (arg m c main_arg45 j)) ((congrArg₂ ix2 (Fin.ext (by blk_simp [at57])) (Fin.ext (by blk_simp [at57]))).trans (eq_ix2 _).symm)

theorem block69 (x21 x33 : Vec Ideal S1x64 .f32) (p : Fin 1) (q : Fin 64) : left69 x21 x33 (ix2 p q) = first (x21 (ix2 p q)) (x33 (ix2 p q)) := by
  unfold left69
  frame_out
  rfl

theorem ref69 (x21 x33 : Vec Ideal S1x64 .f32) (y : S1x64.Idx) : val_main_v220 (F := Ideal) x21 x33 y = first (x21 y) (x33 y) := rfl

theorem array69 : (data m 0 c).arrAt 69 cfg0.N = val_main_v220 (F := Ideal) (arg m c main_arg21) (arg m c main_arg33) := by
  refine (data m 0 c).arrAt_eq_of_covers 69 _ (by decide +kernel) fun t hf y => ?_
  blk_simp [at69]
  rw [after69, see21, see33]
  refine (congrArg _ (eq_ix2 y)).trans ((block69 _ _ (y 0) (y 1)).trans ?_)
  refine Eq.trans ?_ (ref69 _ _ _).symm
  exact congrArg (fun j : S1x64.Idx => first (arg m c main_arg21 j) (arg m c main_arg33 j)) ((congrArg₂ ix2 (Fin.ext (by blk_simp [at69])) (Fin.ext (by blk_simp [at69]))).trans (eq_ix2 _).symm)

theorem block81 (x21 x45 : Vec Ideal S1x64 .f32) (p : Fin 1) (q : Fin 64) : left81 x21 x45 (ix2 p q) = second (x21 (ix2 p q)) (x45 (ix2 p q)) := by
  unfold left81
  frame_out
  rfl

theorem ref81 (x21 x45 : Vec Ideal S1x64 .f32) (y : S1x64.Idx) : val_main_v226 (F := Ideal) x21 x45 y = second (x21 y) (x45 y) := rfl

theorem array81 : (data m 0 c).arrAt 81 cfg0.N = val_main_v226 (F := Ideal) (arg m c main_arg21) (arg m c main_arg45) := by
  refine (data m 0 c).arrAt_eq_of_covers 81 _ (by decide +kernel) fun t hf y => ?_
  blk_simp [at81]
  rw [after81, see21, see45]
  refine (congrArg _ (eq_ix2 y)).trans ((block81 _ _ (y 0) (y 1)).trans ?_)
  refine Eq.trans ?_ (ref81 _ _ _).symm
  exact congrArg (fun j : S1x64.Idx => second (arg m c main_arg21 j) (arg m c main_arg45 j)) ((congrArg₂ ix2 (Fin.ext (by blk_simp [at81])) (Fin.ext (by blk_simp [at81]))).trans (eq_ix2 _).symm)

/-! `g_ffn_norm` -/

theorem at10 : ∀ t : Fin cfg0.N, win0_10.index t = ![0, 0] := by decide +kernel
theorem see10 (t : Fin cfg0.N) : shown m c 10 t = (arg m c main_arg10 : Vec Ideal S1x1024 .f32) := by
  funext y
  blk_simp [shown]
  exact congrArg (arg m c main_arg10) ((eq_ix2 _).trans ((congrArg₂ ix2 (Fin.ext (by blk_simp [at10])) (Fin.ext (by blk_simp [at10]))).trans (eq_ix2 _).symm))

theorem at22 : ∀ t : Fin cfg0.N, win0_22.index t = ![0, 0] := by decide +kernel
theorem see22 (t : Fin cfg0.N) : shown m c 22 t = (arg m c main_arg22 : Vec Ideal S1x1024 .f32) := by
  funext y
  blk_simp [shown]
  exact congrArg (arg m c main_arg22) ((eq_ix2 _).trans ((congrArg₂ ix2 (Fin.ext (by blk_simp [at22])) (Fin.ext (by blk_simp [at22]))).trans (eq_ix2 _).symm))

theorem at34 : ∀ t : Fin cfg0.N, win0_34.index t = ![0, 0] := by decide +kernel
theorem see34 (t : Fin cfg0.N) : shown m c 34 t = (arg m c main_arg34 : Vec Ideal S1x1024 .f32) := by
  funext y
  blk_simp [shown]
  exact congrArg (arg m c main_arg34) ((eq_ix2 _).trans ((congrArg₂ ix2 (Fin.ext (by blk_simp [at34])) (Fin.ext (by blk_simp [at34]))).trans (eq_ix2 _).symm))

theorem at46 : ∀ t : Fin cfg0.N, win0_46.index t = ![0, 0] := by decide +kernel
theorem see46 (t : Fin cfg0.N) : shown m c 46 t = (arg m c main_arg46 : Vec Ideal S1x1024 .f32) := by
  funext y
  blk_simp [shown]
  exact congrArg (arg m c main_arg46) ((eq_ix2 _).trans ((congrArg₂ ix2 (Fin.ext (by blk_simp [at46])) (Fin.ext (by blk_simp [at46]))).trans (eq_ix2 _).symm))

theorem at58 : ∀ t : Fin cfg0.N, win0_58.index t = ![0, 0] := by decide +kernel
theorem at70 : ∀ t : Fin cfg0.N, win0_70.index t = ![0, 0] := by decide +kernel
theorem at82 : ∀ t : Fin cfg0.N, win0_82.index t = ![0, 0] := by decide +kernel
theorem block58 (x10 x22 x34 x46 : Vec Ideal S1x1024 .f32) (p : Fin 1) (q : Fin 1024) : left58 x10 x22 x34 x46 (ix2 p q) = change (x10 (ix2 p q)) (x22 (ix2 p q)) (x34 (ix2 p q)) (x46 (ix2 p q)) := by
  unfold left58
  frame_out
  rfl

theorem ref58 (x10 x22 x34 x46 : Vec Ideal S1x1024 .f32) (y : S1x1024.Idx) : val_main_v263 (F := Ideal) x10 x22 x34 x46 y = change (x10 y) (x22 y) (x34 y) (x46 y) := rfl

theorem array58 : (data m 0 c).arrAt 58 cfg0.N = val_main_v263 (F := Ideal) (arg m c main_arg10) (arg m c main_arg22) (arg m c main_arg34) (arg m c main_arg46) := by
  refine (data m 0 c).arrAt_eq_of_covers 58 _ (by decide +kernel) fun t hf y => ?_
  blk_simp [at58]
  rw [after58, see10, see22, see34, see46]
  refine (congrArg _ (eq_ix2 y)).trans ((block58 _ _ _ _ (y 0) (y 1)).trans ?_)
  refine Eq.trans ?_ (ref58 _ _ _ _ _).symm
  exact congrArg (fun j : S1x1024.Idx => change (arg m c main_arg10 j) (arg m c main_arg22 j) (arg m c main_arg34 j) (arg m c main_arg46 j)) ((congrArg₂ ix2 (Fin.ext (by blk_simp [at58])) (Fin.ext (by blk_simp [at58]))).trans (eq_ix2 _).symm)

theorem block70 (x22 x34 : Vec Ideal S1x1024 .f32) (p : Fin 1) (q : Fin 1024) : left70 x22 x34 (ix2 p q) = first (x22 (ix2 p q)) (x34 (ix2 p q)) := by
  unfold left70
  frame_out
  rfl

theorem ref70 (x22 x34 : Vec Ideal S1x1024 .f32) (y : S1x1024.Idx) : val_main_v244 (F := Ideal) x22 x34 y = first (x22 y) (x34 y) := rfl

theorem array70 : (data m 0 c).arrAt 70 cfg0.N = val_main_v244 (F := Ideal) (arg m c main_arg22) (arg m c main_arg34) := by
  refine (data m 0 c).arrAt_eq_of_covers 70 _ (by decide +kernel) fun t hf y => ?_
  blk_simp [at70]
  rw [after70, see22, see34]
  refine (congrArg _ (eq_ix2 y)).trans ((block70 _ _ (y 0) (y 1)).trans ?_)
  refine Eq.trans ?_ (ref70 _ _ _).symm
  exact congrArg (fun j : S1x1024.Idx => first (arg m c main_arg22 j) (arg m c main_arg34 j)) ((congrArg₂ ix2 (Fin.ext (by blk_simp [at70])) (Fin.ext (by blk_simp [at70]))).trans (eq_ix2 _).symm)

theorem block82 (x22 x46 : Vec Ideal S1x1024 .f32) (p : Fin 1) (q : Fin 1024) : left82 x22 x46 (ix2 p q) = second (x22 (ix2 p q)) (x46 (ix2 p q)) := by
  unfold left82
  frame_out
  rfl

theorem ref82 (x22 x46 : Vec Ideal S1x1024 .f32) (y : S1x1024.Idx) : val_main_v250 (F := Ideal) x22 x46 y = second (x22 y) (x46 y) := rfl

theorem array82 : (data m 0 c).arrAt 82 cfg0.N = val_main_v250 (F := Ideal) (arg m c main_arg22) (arg m c main_arg46) := by
  refine (data m 0 c).arrAt_eq_of_covers 82 _ (by decide +kernel) fun t hf y => ?_
  blk_simp [at82]
  rw [after82, see22, see46]
  refine (congrArg _ (eq_ix2 y)).trans ((block82 _ _ (y 0) (y 1)).trans ?_)
  refine Eq.trans ?_ (ref82 _ _ _).symm
  exact congrArg (fun j : S1x1024.Idx => second (arg m c main_arg22 j) (arg m c main_arg46 j)) ((congrArg₂ ix2 (Fin.ext (by blk_simp [at82])) (Fin.ext (by blk_simp [at82]))).trans (eq_ix2 _).symm)

/-! `b_conv` -/

theorem at11 : ∀ t : Fin cfg0.N, win0_11.index t = ![0, 0] := by decide +kernel
theorem see11 (t : Fin cfg0.N) : shown m c 11 t = (arg m c main_arg11 : Vec Ideal S1x5632 .f32) := by
  funext y
  blk_simp [shown]
  exact congrArg (arg m c main_arg11) ((eq_ix2 _).trans ((congrArg₂ ix2 (Fin.ext (by blk_simp [at11])) (Fin.ext (by blk_simp [at11]))).trans (eq_ix2 _).symm))

theorem at23 : ∀ t : Fin cfg0.N, win0_23.index t = ![0, 0] := by decide +kernel
theorem see23 (t : Fin cfg0.N) : shown m c 23 t = (arg m c main_arg23 : Vec Ideal S1x5632 .f32) := by
  funext y
  blk_simp [shown]
  exact congrArg (arg m c main_arg23) ((eq_ix2 _).trans ((congrArg₂ ix2 (Fin.ext (by blk_simp [at23])) (Fin.ext (by blk_simp [at23]))).trans (eq_ix2 _).symm))

theorem at35 : ∀ t : Fin cfg0.N, win0_35.index t = ![0, 0] := by decide +kernel
theorem see35 (t : Fin cfg0.N) : shown m c 35 t = (arg m c main_arg35 : Vec Ideal S1x5632 .f32) := by
  funext y
  blk_simp [shown]
  exact congrArg (arg m c main_arg35) ((eq_ix2 _).trans ((congrArg₂ ix2 (Fin.ext (by blk_simp [at35])) (Fin.ext (by blk_simp [at35]))).trans (eq_ix2 _).symm))

theorem at47 : ∀ t : Fin cfg0.N, win0_47.index t = ![0, 0] := by decide +kernel
theorem see47 (t : Fin cfg0.N) : shown m c 47 t = (arg m c main_arg47 : Vec Ideal S1x5632 .f32) := by
  funext y
  blk_simp [shown]
  exact congrArg (arg m c main_arg47) ((eq_ix2 _).trans ((congrArg₂ ix2 (Fin.ext (by blk_simp [at47])) (Fin.ext (by blk_simp [at47]))).trans (eq_ix2 _).symm))

theorem at59 : ∀ t : Fin cfg0.N, win0_59.index t = ![0, 0] := by decide +kernel
theorem at71 : ∀ t : Fin cfg0.N, win0_71.index t = ![0, 0] := by decide +kernel
theorem at83 : ∀ t : Fin cfg0.N, win0_83.index t = ![0, 0] := by decide +kernel
theorem block59 (x11 x23 x35 x47 : Vec Ideal S1x5632 .f32) (p : Fin 1) (q : Fin 5632) : left59 x11 x23 x35 x47 (ix2 p q) = change (x11 (ix2 p q)) (x23 (ix2 p q)) (x35 (ix2 p q)) (x47 (ix2 p q)) := by
  unfold left59
  frame_out
  rfl

theorem ref59 (x11 x23 x35 x47 : Vec Ideal S1x5632 .f32) (y : S1x5632.Idx) : val_main_v287 (F := Ideal) x11 x23 x35 x47 y = change (x11 y) (x23 y) (x35 y) (x47 y) := rfl

theorem array59 : (data m 0 c).arrAt 59 cfg0.N = val_main_v287 (F := Ideal) (arg m c main_arg11) (arg m c main_arg23) (arg m c main_arg35) (arg m c main_arg47) := by
  refine (data m 0 c).arrAt_eq_of_covers 59 _ (by decide +kernel) fun t hf y => ?_
  blk_simp [at59]
  rw [after59, see11, see23, see35, see47]
  refine (congrArg _ (eq_ix2 y)).trans ((block59 _ _ _ _ (y 0) (y 1)).trans ?_)
  refine Eq.trans ?_ (ref59 _ _ _ _ _).symm
  exact congrArg (fun j : S1x5632.Idx => change (arg m c main_arg11 j) (arg m c main_arg23 j) (arg m c main_arg35 j) (arg m c main_arg47 j)) ((congrArg₂ ix2 (Fin.ext (by blk_simp [at59])) (Fin.ext (by blk_simp [at59]))).trans (eq_ix2 _).symm)

theorem block71 (x23 x35 : Vec Ideal S1x5632 .f32) (p : Fin 1) (q : Fin 5632) : left71 x23 x35 (ix2 p q) = first (x23 (ix2 p q)) (x35 (ix2 p q)) := by
  unfold left71
  frame_out
  rfl

theorem ref71 (x23 x35 : Vec Ideal S1x5632 .f32) (y : S1x5632.Idx) : val_main_v268 (F := Ideal) x23 x35 y = first (x23 y) (x35 y) := rfl

theorem array71 : (data m 0 c).arrAt 71 cfg0.N = val_main_v268 (F := Ideal) (arg m c main_arg23) (arg m c main_arg35) := by
  refine (data m 0 c).arrAt_eq_of_covers 71 _ (by decide +kernel) fun t hf y => ?_
  blk_simp [at71]
  rw [after71, see23, see35]
  refine (congrArg _ (eq_ix2 y)).trans ((block71 _ _ (y 0) (y 1)).trans ?_)
  refine Eq.trans ?_ (ref71 _ _ _).symm
  exact congrArg (fun j : S1x5632.Idx => first (arg m c main_arg23 j) (arg m c main_arg35 j)) ((congrArg₂ ix2 (Fin.ext (by blk_simp [at71])) (Fin.ext (by blk_simp [at71]))).trans (eq_ix2 _).symm)

theorem block83 (x23 x47 : Vec Ideal S1x5632 .f32) (p : Fin 1) (q : Fin 5632) : left83 x23 x47 (ix2 p q) = second (x23 (ix2 p q)) (x47 (ix2 p q)) := by
  unfold left83
  frame_out
  rfl

theorem ref83 (x23 x47 : Vec Ideal S1x5632 .f32) (y : S1x5632.Idx) : val_main_v274 (F := Ideal) x23 x47 y = second (x23 y) (x47 y) := rfl

theorem array83 : (data m 0 c).arrAt 83 cfg0.N = val_main_v274 (F := Ideal) (arg m c main_arg23) (arg m c main_arg47) := by
  refine (data m 0 c).arrAt_eq_of_covers 83 _ (by decide +kernel) fun t hf y => ?_
  blk_simp [at83]
  rw [after83, see23, see47]
  refine (congrArg _ (eq_ix2 y)).trans ((block83 _ _ (y 0) (y 1)).trans ?_)
  refine Eq.trans ?_ (ref83 _ _ _).symm
  exact congrArg (fun j : S1x5632.Idx => second (arg m c main_arg23 j) (arg m c main_arg47 j)) ((congrArg₂ ix2 (Fin.ext (by blk_simp [at83])) (Fin.ext (by blk_simp [at83]))).trans (eq_ix2 _).symm)

end Cert.AdamVectors

end
-- ==== Proof.SumSmall.lean ====
/- The sum over the devices of the loss and of the small gradients. -/
module

public import proofs.«01_k».proof.Proof.Gen.Kernel39Ideal.Value
public import proofs.«01_k».proof.Proof.Gen.Reference39Ideal.Read
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

namespace Cert.SumSmall

open Cert.Kernel39Ideal Cert.Kernel39Ideal.Gen Cert.Reference39Ideal.Read Idealize.ShloMosaic Idealize.ShloMosaic.TcCoe Idealize.SL.Sem
open Idealize.ShloMosaic.Pipeline (Dat)

variable (m : (ℓ : Loc nD τ sig) → Buf (Elt Ideal) ℓ) (c : Dev nD)

/-- An argument's array. -/
abbrev arg (b : Ref sig .tc) : Buf (Elt Ideal) ((c.tc : Thread nD τ).loc b) := m ((c.tc : Thread nD τ).loc b)

/-! The packed array the host lays out: each vector on columns of its own, zeros up to the next multiple of 128. -/

def packedL (x0 : Vec Ideal S8x1x6144 .f32) (x1 : Vec Ideal S8x1x1024 .f32) (x2 : Vec Ideal S8x1x512 .f32) (x3 : Vec Ideal S8x1x256 .f32) (x4 : Vec Ideal S8x1x64 .f32) (x5 : Vec Ideal S8x1x32 .f32) (x6 : Vec Ideal S8x1x64 .f32) (x7 : Vec Ideal S8x1x32 .f32) (x8 : Vec Ideal S8x1x64 .f32) (x9 : Vec Ideal S8x1x64 .f32) : Vec Ideal S8x1x8704 .f32 :=
  concatenate S8x1x8704 2 [⟨S8x1x6144, x0⟩,
    ⟨S8x1x1024, x1⟩,
    ⟨S8x1x512, x2⟩,
    ⟨S8x1x256, x3⟩,
    ⟨S8x1x64, x4⟩,
    ⟨S8x1x64, broadcastInDim S8x1x64 ![] bcast_S_S8x1x64 (constant (F := Ideal) S_ .f32 0x00000000#32 : Vec Ideal S_ .f32)⟩,
    ⟨S8x1x32, x5⟩,
    ⟨S8x1x96, broadcastInDim S8x1x96 ![] bcast_S_S8x1x96 (constant (F := Ideal) S_ .f32 0x00000000#32 : Vec Ideal S_ .f32)⟩,
    ⟨S8x1x64, x6⟩,
    ⟨S8x1x64, broadcastInDim S8x1x64 ![] bcast_S_S8x1x64 (constant (F := Ideal) S_ .f32 0x00000000#32 : Vec Ideal S_ .f32)⟩,
    ⟨S8x1x32, x7⟩,
    ⟨S8x1x96, broadcastInDim S8x1x96 ![] bcast_S_S8x1x96 (constant (F := Ideal) S_ .f32 0x00000000#32 : Vec Ideal S_ .f32)⟩,
    ⟨S8x1x64, x8⟩,
    ⟨S8x1x64, broadcastInDim S8x1x64 ![] bcast_S_S8x1x64 (constant (F := Ideal) S_ .f32 0x00000000#32 : Vec Ideal S_ .f32)⟩,
    ⟨S8x1x64, x9⟩,
    ⟨S8x1x64, broadcastInDim S8x1x64 ![] bcast_S_S8x1x64 (constant (F := Ideal) S_ .f32 0x00000000#32 : Vec Ideal S_ .f32)⟩]
    concatenates_S8x1x6144_S8x1x1024_S8x1x512_S8x1x256_S8x1x64_S8x1x64_S8x1x32_S8x1x96_S8x1x64_S8x1x64_S8x1x32_S8x1x96_S8x1x64_S8x1x64_S8x1x64_S8x1x64_S8x1x8704_d2

def packedR (x10 : Vec Ideal S8x1x1024 .f32) (x11 : Vec Ideal S8x1x5632 .f32) (x12 : Vec Ideal S8x3x5632 .f32) (x13 : Vec Ideal S8x1x1 .f32) : Vec Ideal S8x1x23680 .f32 :=
  concatenate S8x1x23680 2 [⟨S8x1x1024, x10⟩,
    ⟨S8x1x5632, x11⟩,
    ⟨S8x1x5632, extractStridedSlice S8x1x5632 ![0, 0, 0] x12 slices_S8x3x5632_S8x1x5632_0_0_0⟩,
    ⟨S8x1x5632, extractStridedSlice S8x1x5632 ![0, 1, 0] x12 slices_S8x3x5632_S8x1x5632_0_1_0⟩,
    ⟨S8x1x5632, extractStridedSlice S8x1x5632 ![0, 2, 0] x12 slices_S8x3x5632_S8x1x5632_0_2_0⟩,
    ⟨S8x1x1, x13⟩,
    ⟨S8x1x127, broadcastInDim S8x1x127 ![] bcast_S_S8x1x127 (constant (F := Ideal) S_ .f32 0x00000000#32 : Vec Ideal S_ .f32)⟩]
    concatenates_S8x1x1024_S8x1x5632_S8x1x5632_S8x1x5632_S8x1x5632_S8x1x1_S8x1x127_S8x1x23680_d2

def packed (l : Vec Ideal S8x1x8704 .f32) (r : Vec Ideal S8x1x23680 .f32) : Vec Ideal S8x1x32384 .f32 :=
  concatenate S8x1x32384 2 [⟨S8x1x8704, l⟩, ⟨S8x1x23680, r⟩] concatenates_S8x1x8704_S8x1x23680_S8x1x32384_d2

/-- The left and the right part of the packed array, of the call's arguments. -/
abbrev argL : Vec Ideal S8x1x8704 .f32 := packedL (arg m c main_arg0) (arg m c main_arg1) (arg m c main_arg2) (arg m c main_arg3) (arg m c main_arg4) (arg m c main_arg5) (arg m c main_arg6) (arg m c main_arg7) (arg m c main_arg8) (arg m c main_arg9)
abbrev argR : Vec Ideal S8x1x23680 .f32 := packedR (arg m c main_arg10) (arg m c main_arg11) (arg m c main_arg12) (arg m c main_arg13)

theorem V12 : (V m c main_v12 : S8x1x32384.Idx → EReal) = packed (argL m c) (argR m c) := by
  unfold V
  after_reads_simp
  rfl

theorem packed_left (l : Vec Ideal S8x1x8704 .f32) (r : Vec Ideal S8x1x23680 .f32) (d : Fin 8) (j : ℕ) (h : j < 8704) (h' : j < 32384) :
    packed l r (ix3 d 0 ⟨j, h'⟩) = l (ix3 d 0 ⟨j, h⟩) := by
  pointwise [packed]
  repeat' split
  all_goals first | omega | rfl

theorem packed_right (l : Vec Ideal S8x1x8704 .f32) (r : Vec Ideal S8x1x23680 .f32) (d : Fin 8) (i j : ℕ) (h' : j < 32384) (h : i < 23680)
    (e : j = 8704 + i) : packed l r (ix3 d 0 ⟨j, h'⟩) = r (ix3 d 0 ⟨i, h⟩) := by
  subst e
  pointwise [packed]
  repeat' split
  all_goals first | omega | exact congrArg r (congrArg (ix3 d 0) (Fin.ext (by first | omega | (dsimp only <;> omega))))

section

variable (x0 : Vec Ideal S8x1x6144 .f32) (x1 : Vec Ideal S8x1x1024 .f32) (x2 : Vec Ideal S8x1x512 .f32) (x3 : Vec Ideal S8x1x256 .f32) (x4 : Vec Ideal S8x1x64 .f32) (x5 : Vec Ideal S8x1x32 .f32) (x6 : Vec Ideal S8x1x64 .f32) (x7 : Vec Ideal S8x1x32 .f32) (x8 : Vec Ideal S8x1x64 .f32) (x9 : Vec Ideal S8x1x64 .f32)
  (x10 : Vec Ideal S8x1x1024 .f32) (x11 : Vec Ideal S8x1x5632 .f32) (x12 : Vec Ideal S8x3x5632 .f32) (x13 : Vec Ideal S8x1x1 .f32)

theorem part0 (d : Fin 8) (q : Fin 6144) (h : 0 + q.val < 8704) :
    packedL x0 x1 x2 x3 x4 x5 x6 x7 x8 x9 (ix3 d 0 ⟨0 + q.val, h⟩) = x0 (ix3 d 0 q) := by
  have h0 := q.isLt
  pointwise [packedL]
  repeat' split
  all_goals first
    | omega
    | exact congrArg x0 (congrArg (ix3 d _) (Fin.ext (by first | omega | (dsimp only <;> omega))))

theorem part1 (d : Fin 8) (q : Fin 1024) (h : 6144 + q.val < 8704) :
    packedL x0 x1 x2 x3 x4 x5 x6 x7 x8 x9 (ix3 d 0 ⟨6144 + q.val, h⟩) = x1 (ix3 d 0 q) := by
  have h0 := q.isLt
  pointwise [packedL]
  repeat' split
  all_goals first
    | omega
    | exact congrArg x1 (congrArg (ix3 d _) (Fin.ext (by first | omega | (dsimp only <;> omega))))

theorem part2 (d : Fin 8) (q : Fin 512) (h : 7168 + q.val < 8704) :
    packedL x0 x1 x2 x3 x4 x5 x6 x7 x8 x9 (ix3 d 0 ⟨7168 + q.val, h⟩) = x2 (ix3 d 0 q) := by
  have h0 := q.isLt
  pointwise [packedL]
  rw [dif_neg (show ¬ 7168 + q.val < 6144 by omega),
    dif_neg (show ¬ 7168 + q.val - 6144 < 1024 by omega),
    dif_pos (show 7168 + q.val - 6144 - 1024 < 512 by omega)]
  exact congrArg x2 (congrArg (ix3 d _) (Fin.ext (by first | omega | (dsimp only <;> omega))))

theorem part3 (d : Fin 8) (q : Fin 256) (h : 7680 + q.val < 8704) :
    packedL x0 x1 x2 x3 x4 x5 x6 x7 x8 x9 (ix3 d 0 ⟨7680 + q.val, h⟩) = x3 (ix3 d 0 q) := by
  have h0 := q.isLt
  pointwise [packedL]
  rw [dif_neg (show ¬ 7680 + q.val < 6144 by omega),
    dif_neg (show ¬ 7680 + q.val - 6144 < 1024 by omega),
    dif_neg (show ¬ 7680 + q.val - 6144 - 1024 < 512 by omega),
    dif_pos (show 7680 + q.val - 6144 - 1024 - 512 < 256 by omega)]
  exact congrArg x3 (congrArg (ix3 d _) (Fin.ext (by first | omega | (dsimp only <;> omega))))

theorem part4 (d : Fin 8) (q : Fin 64) (h : 7936 + q.val < 8704) :
    packedL x0 x1 x2 x3 x4 x5 x6 x7 x8 x9 (ix3 d 0 ⟨7936 + q.val, h⟩) = x4 (ix3 d 0 q) := by
  have h0 := q.isLt
  pointwise [packedL]
  rw [dif_neg (show ¬ 7936 + q.val < 6144 by omega),
    dif_neg (show ¬ 7936 + q.val - 6144 < 1024 by omega),
    dif_neg (show ¬ 7936 + q.val - 6144 - 1024 < 512 by omega),
    dif_neg (show ¬ 7936 + q.val - 6144 - 1024 - 512 < 256 by omega),
    dif_pos (show 7936 + q.val - 6144 - 1024 - 512 - 256 < 64 by omega)]
  exact congrArg x4 (congrArg (ix3 d _) (Fin.ext (by first | omega | (dsimp only <;> omega))))

theorem part5 (d : Fin 8) (q : Fin 32) (h : 8064 + q.val < 8704) :
    packedL x0 x1 x2 x3 x4 x5 x6 x7 x8 x9 (ix3 d 0 ⟨8064 + q.val, h⟩) = x5 (ix3 d 0 q) := by
  have h0 := q.isLt
  pointwise [packedL]
  rw [dif_neg (show ¬ 8064 + q.val < 6144 by omega),
    dif_neg (show ¬ 8064 + q.val - 6144 < 1024 by omega),
    dif_neg (show ¬ 8064 + q.val - 6144 - 1024 < 512 by omega),
    dif_neg (show ¬ 8064 + q.val - 6144 - 1024 - 512 < 256 by omega),
    dif_neg (show ¬ 8064 + q.val - 6144 - 1024 - 512 - 256 < 64 by omega),
    dif_neg (show ¬ 8064 + q.val - 6144 - 1024 - 512 - 256 - 64 < 64 by omega),
    dif_pos (show 8064 + q.val - 6144 - 1024 - 512 - 256 - 64 - 64 < 32 by omega)]
  exact congrArg x5 (congrArg (ix3 d _) (Fin.ext (by first | omega | (dsimp only <;> omega))))

theorem part6 (d : Fin 8) (q : Fin 64) (h : 8192 + q.val < 8704) :
    packedL x0 x1 x2 x3 x4 x5 x6 x7 x8 x9 (ix3 d 0 ⟨8192 + q.val, h⟩) = x6 (ix3 d 0 q) := by
  have h0 := q.isLt
  pointwise [packedL]
  rw [dif_neg (show ¬ 8192 + q.val < 6144 by omega),
    dif_neg (show ¬ 8192 + q.val - 6144 < 1024 by omega),
    dif_neg (show ¬ 8192 + q.val - 6144 - 1024 < 512 by omega),
    dif_neg (show ¬ 8192 + q.val - 6144 - 1024 - 512 < 256 by omega),
    dif_neg (show ¬ 8192 + q.val - 6144 - 1024 - 512 - 256 < 64 by omega),
    dif_neg (show ¬ 8192 + q.val - 6144 - 1024 - 512 - 256 - 64 < 64 by omega),
    dif_neg (show ¬ 8192 + q.val - 6144 - 1024 - 512 - 256 - 64 - 64 < 32 by omega),
    dif_neg (show ¬ 8192 + q.val - 6144 - 1024 - 512 - 256 - 64 - 64 - 32 < 96 by omega),
    dif_pos (show 8192 + q.val - 6144 - 1024 - 512 - 256 - 64 - 64 - 32 - 96 < 64 by omega)]
  exact congrArg x6 (congrArg (ix3 d _) (Fin.ext (by first | omega | (dsimp only <;> omega))))

theorem part7 (d : Fin 8) (q : Fin 32) (h : 8320 + q.val < 8704) :
    packedL x0 x1 x2 x3 x4 x5 x6 x7 x8 x9 (ix3 d 0 ⟨8320 + q.val, h⟩) = x7 (ix3 d 0 q) := by
  have h0 := q.isLt
  pointwise [packedL]
  rw [dif_neg (show ¬ 8320 + q.val < 6144 by omega),
    dif_neg (show ¬ 8320 + q.val - 6144 < 1024 by omega),
    dif_neg (show ¬ 8320 + q.val - 6144 - 1024 < 512 by omega),
    dif_neg (show ¬ 8320 + q.val - 6144 - 1024 - 512 < 256 by omega),
    dif_neg (show ¬ 8320 + q.val - 6144 - 1024 - 512 - 256 < 64 by omega),
    dif_neg (show ¬ 8320 + q.val - 6144 - 1024 - 512 - 256 - 64 < 64 by omega),
    dif_neg (show ¬ 8320 + q.val - 6144 - 1024 - 512 - 256 - 64 - 64 < 32 by omega),
    dif_neg (show ¬ 8320 + q.val - 6144 - 1024 - 512 - 256 - 64 - 64 - 32 < 96 by omega),
    dif_neg (show ¬ 8320 + q.val - 6144 - 1024 - 512 - 256 - 64 - 64 - 32 - 96 < 64 by omega),
    dif_neg (show ¬ 8320 + q.val - 6144 - 1024 - 512 - 256 - 64 - 64 - 32 - 96 - 64 < 64 by omega),
    dif_pos (show 8320 + q.val - 6144 - 1024 - 512 - 256 - 64 - 64 - 32 - 96 - 64 - 64 < 32 by omega)]
  exact congrArg x7 (congrArg (ix3 d _) (Fin.ext (by first | omega | (dsimp only <;> omega))))

theorem part8 (d : Fin 8) (q : Fin 64) (h : 8448 + q.val < 8704) :
    packedL x0 x1 x2 x3 x4 x5 x6 x7 x8 x9 (ix3 d 0 ⟨8448 + q.val, h⟩) = x8 (ix3 d 0 q) := by
  have h0 := q.isLt
  pointwise [packedL]
  rw [dif_neg (show ¬ 8448 + q.val < 6144 by omega),
    dif_neg (show ¬ 8448 + q.val - 6144 < 1024 by omega),
    dif_neg (show ¬ 8448 + q.val - 6144 - 1024 < 512 by omega),
    dif_neg (show ¬ 8448 + q.val - 6144 - 1024 - 512 < 256 by omega),
    dif_neg (show ¬ 8448 + q.val - 6144 - 1024 - 512 - 256 < 64 by omega),
    dif_neg (show ¬ 8448 + q.val - 6144 - 1024 - 512 - 256 - 64 < 64 by omega),
    dif_neg (show ¬ 8448 + q.val - 6144 - 1024 - 512 - 256 - 64 - 64 < 32 by omega),
    dif_neg (show ¬ 8448 + q.val - 6144 - 1024 - 512 - 256 - 64 - 64 - 32 < 96 by omega),
    dif_neg (show ¬ 8448 + q.val - 6144 - 1024 - 512 - 256 - 64 - 64 - 32 - 96 < 64 by omega),
    dif_neg (show ¬ 8448 + q.val - 6144 - 1024 - 512 - 256 - 64 - 64 - 32 - 96 - 64 < 64 by omega),
    dif_neg (show ¬ 8448 + q.val - 6144 - 1024 - 512 - 256 - 64 - 64 - 32 - 96 - 64 - 64 < 32 by omega),
    dif_neg (show ¬ 8448 + q.val - 6144 - 1024 - 512 - 256 - 64 - 64 - 32 - 96 - 64 - 64 - 32 < 96 by omega),
    dif_pos (show 8448 + q.val - 6144 - 1024 - 512 - 256 - 64 - 64 - 32 - 96 - 64 - 64 - 32 - 96 < 64 by omega)]
  exact congrArg x8 (congrArg (ix3 d _) (Fin.ext (by first | omega | (dsimp only <;> omega))))

theorem part9 (d : Fin 8) (q : Fin 64) (h : 8576 + q.val < 8704) :
    packedL x0 x1 x2 x3 x4 x5 x6 x7 x8 x9 (ix3 d 0 ⟨8576 + q.val, h⟩) = x9 (ix3 d 0 q) := by
  have h0 := q.isLt
  pointwise [packedL]
  rw [dif_neg (show ¬ 8576 + q.val < 6144 by omega),
    dif_neg (show ¬ 8576 + q.val - 6144 < 1024 by omega),
    dif_neg (show ¬ 8576 + q.val - 6144 - 1024 < 512 by omega),
    dif_neg (show ¬ 8576 + q.val - 6144 - 1024 - 512 < 256 by omega),
    dif_neg (show ¬ 8576 + q.val - 6144 - 1024 - 512 - 256 < 64 by omega),
    dif_neg (show ¬ 8576 + q.val - 6144 - 1024 - 512 - 256 - 64 < 64 by omega),
    dif_neg (show ¬ 8576 + q.val - 6144 - 1024 - 512 - 256 - 64 - 64 < 32 by omega),
    dif_neg (show ¬ 8576 + q.val - 6144 - 1024 - 512 - 256 - 64 - 64 - 32 < 96 by omega),
    dif_neg (show ¬ 8576 + q.val - 6144 - 1024 - 512 - 256 - 64 - 64 - 32 - 96 < 64 by omega),
    dif_neg (show ¬ 8576 + q.val - 6144 - 1024 - 512 - 256 - 64 - 64 - 32 - 96 - 64 < 64 by omega),
    dif_neg (show ¬ 8576 + q.val - 6144 - 1024 - 512 - 256 - 64 - 64 - 32 - 96 - 64 - 64 < 32 by omega),
    dif_neg (show ¬ 8576 + q.val - 6144 - 1024 - 512 - 256 - 64 - 64 - 32 - 96 - 64 - 64 - 32 < 96 by omega),
    dif_neg (show ¬ 8576 + q.val - 6144 - 1024 - 512 - 256 - 64 - 64 - 32 - 96 - 64 - 64 - 32 - 96 < 64 by omega),
    dif_neg (show ¬ 8576 + q.val - 6144 - 1024 - 512 - 256 - 64 - 64 - 32 - 96 - 64 - 64 - 32 - 96 - 64 < 64 by omega),
    dif_pos (show 8576 + q.val - 6144 - 1024 - 512 - 256 - 64 - 64 - 32 - 96 - 64 - 64 - 32 - 96 - 64 - 64 < 64 by omega)]
  exact congrArg x9 (congrArg (ix3 d _) (Fin.ext (by first | omega | (dsimp only <;> omega))))

theorem part10 (d : Fin 8) (q : Fin 1024) (h : 0 + q.val < 23680) :
    packedR x10 x11 x12 x13 (ix3 d 0 ⟨0 + q.val, h⟩) = x10 (ix3 d 0 q) := by
  have h0 := q.isLt
  pointwise [packedR]
  repeat' split
  all_goals first
    | omega
    | exact congrArg x10 (congrArg (ix3 d _) (Fin.ext (by first | omega | (dsimp only <;> omega))))

theorem part11 (d : Fin 8) (q : Fin 5632) (h : 1024 + q.val < 23680) :
    packedR x10 x11 x12 x13 (ix3 d 0 ⟨1024 + q.val, h⟩) = x11 (ix3 d 0 q) := by
  have h0 := q.isLt
  pointwise [packedR]
  repeat' split
  all_goals first
    | omega
    | exact congrArg x11 (congrArg (ix3 d _) (Fin.ext (by first | omega | (dsimp only <;> omega))))

theorem part12_0 (d : Fin 8) (q : Fin 5632) (h : 6656 + q.val < 23680) :
    packedR x10 x11 x12 x13 (ix3 d 0 ⟨6656 + q.val, h⟩) = x12 (ix3 d 0 q) := by
  have h0 := q.isLt
  pointwise [packedR]
  repeat' split
  all_goals first
    | omega
    | exact congrArg x12 (congrArg (ix3 d _) (Fin.ext (by first | omega | (dsimp only <;> omega))))

theorem part12_1 (d : Fin 8) (q : Fin 5632) (h : 12288 + q.val < 23680) :
    packedR x10 x11 x12 x13 (ix3 d 0 ⟨12288 + q.val, h⟩) = x12 (ix3 d 1 q) := by
  have h0 := q.isLt
  pointwise [packedR]
  repeat' split
  all_goals first
    | omega
    | exact congrArg x12 (congrArg (ix3 d _) (Fin.ext (by first | omega | (dsimp only <;> omega))))

theorem part12_2 (d : Fin 8) (q : Fin 5632) (h : 17920 + q.val < 23680) :
    packedR x10 x11 x12 x13 (ix3 d 0 ⟨17920 + q.val, h⟩) = x12 (ix3 d 2 q) := by
  have h0 := q.isLt
  pointwise [packedR]
  repeat' split
  all_goals first
    | omega
    | exact congrArg x12 (congrArg (ix3 d _) (Fin.ext (by first | omega | (dsimp only <;> omega))))

theorem part13 (d : Fin 8) (q : Fin 1) (h : 23552 + q.val < 23680) :
    packedR x10 x11 x12 x13 (ix3 d 0 ⟨23552 + q.val, h⟩) = x13 (ix3 d 0 q) := by
  have h0 := q.isLt
  pointwise [packedR]
  repeat' split
  all_goals first
    | omega
    | exact congrArg x13 (congrArg (ix3 d _) (Fin.ext (by first | omega | (dsimp only <;> omega))))

end

/-! The scratch: the sum of the eight devices' packed rows. -/

theorem at0 : ∀ t : Fin cfg0.N, win0_0.index t = ![0, 0, 0] := by decide +kernel

theorem block0 (t : Fin cfg0.N) (d : Fin 8) (q : Fin 32384) : iblk m c 0 t (ix3 d 0 q) = packed (argL m c) (argR m c) (ix3 d 0 q) := by
  blk_simp [iblk]
  refine Eq.trans ?_ (congrFun (V12 m c) (ix3 d 0 q))
  refine congrArg (V m c main_v12) (?_ : (_ : S8x1x32384.Idx) = _)
  refine (eq_ix3 _).trans ?_
  congr 1 <;> refine Fin.ext ?_ <;> blk_simp [at0]

theorem sub_read {sp : Space} (v : View sig .tc sp S1x32384 .f32) (w : Vec Ideal S1x32384 .f32) (o n : ℕ) {off : Fin 2 → ℕ} (h0 : ∀ a, off a = 0)
    (inb : ∀ a, off a + S1x32384.size a ≤ S1x32384.size a) (inb' : ∀ a, (![0, o] : Fin 2 → ℕ) a + (![1, n] : Fin 2 → ℕ) a ≤ S1x32384.size a)
    (p : Fin 1) (q : Fin n) (h : o + q.val < 32384) :
    v.readCov [(⟨Rect.unit off S1x32384.size inb, w⟩ : View.Piece (Elt Ideal) S1x32384 .f32)] (Rect.unit (s := S1x32384) ![0, o] ![1, n] inb').toLoadRect (ix2 p q)
      = w (ix2 p ⟨o + q.val, h⟩) := by
  obtain rfl := View.eq_zero_of_forall h0
  rw [View.readCov_eq_canon_ld _ _ _ (fun y => ⟨_, List.mem_cons_self, by
    show y ∈ (Rect.whole S1x32384).set; rw [Rect.set_whole]; exact Finset.mem_univ y⟩), View.canon_cons_unit_zero rfl]
  refine View.ld_unit_apply_of _ _ _ _ _ (ix2 p ⟨o + q.val, h⟩) ?_
  intro a
  fin_cases a <;> simp [ix2]

/-- A stored row: what the three rows hold afterwards. -/
theorem canon_row (a : ℕ) (inb : ∀ x, (![a, 0] : Fin 2 → ℕ) x + S1x5632.size x ≤ S3x5632.size x)
    (w : Vec Ideal S1x5632 .f32) (L : List (View.Piece (Elt Ideal) S3x5632 .f32)) (p : Fin 3) (q : Fin 5632) :
    View.canon ((⟨Rect.unit (s := S3x5632) ![a, 0] S1x5632.size inb, w⟩ : View.Piece (Elt Ideal) S3x5632 .f32) :: L) (ix2 p q)
      = if p.val = a then w (ix2 0 q) else View.canon L (ix2 p q) := by
  split
  · rename_i h
    have he : (Rect.unit (s := S3x5632) ![a, 0] S1x5632.size inb).emb (ix2 0 q) = ix2 p q := by
      funext x; apply Fin.ext
      fin_cases x
      · show a + 1 * 0 = p.val; omega
      · show 0 + 1 * q.val = q.val; omega
    rw [← he]
    exact View.canon_cons_emb (Rect.unit (s := S3x5632) ![a, 0] S1x5632.size inb) w L (ix2 0 q)
  · rename_i h
    refine View.canon_cons_of_not_mem _ L ?_
    intro hm
    obtain ⟨i, hi, he⟩ := (LoadRect.mem_set _).mp hm (0 : Fin 2)
    have hi1 : i < 1 := hi
    have he' : p.val = a + 1 * i := he
    omega

theorem total (x : Vec Ideal S8x1x32384 .f32) (p : Fin 1) (q : Fin 32384) :
    k0_pay1 (F := Ideal) (View.ld x (Rect.unit (s := S8x1x32384) ![0, 0, 0] S1x1x32384.size inb_S8x1x32384_S1x1x32384_0_0_0)) (View.ld x (Rect.unit (s := S8x1x32384) ![1, 0, 0] S1x1x32384.size inb_S8x1x32384_S1x1x32384_1_0_0)) (View.ld x (Rect.unit (s := S8x1x32384) ![2, 0, 0] S1x1x32384.size inb_S8x1x32384_S1x1x32384_2_0_0)) (View.ld x (Rect.unit (s := S8x1x32384) ![3, 0, 0] S1x1x32384.size inb_S8x1x32384_S1x1x32384_3_0_0)) (View.ld x (Rect.unit (s := S8x1x32384) ![4, 0, 0] S1x1x32384.size inb_S8x1x32384_S1x1x32384_4_0_0)) (View.ld x (Rect.unit (s := S8x1x32384) ![5, 0, 0] S1x1x32384.size inb_S8x1x32384_S1x1x32384_5_0_0)) (View.ld x (Rect.unit (s := S8x1x32384) ![6, 0, 0] S1x1x32384.size inb_S8x1x32384_S1x1x32384_6_0_0)) (View.ld x (Rect.unit (s := S8x1x32384) ![7, 0, 0] S1x1x32384.size inb_S8x1x32384_S1x1x32384_7_0_0)) (ix2 p q) = ∑ d : Fin 8, x (ix3 d 0 q) := by
  pointwise [k0_pay1]
  rw [Fin.sum_univ_eight]

/-! `b_ada` -/

theorem at1 : ∀ t : Fin cfg0.N, win0_1.index t = ![0, 0] := by decide +kernel

/-- The sum over the devices of the part. -/
def sum1 (x : Vec Ideal S8x1x6144 .f32) (y : S1x6144.Idx) : EReal := ∑ d : Fin 8, x (ix3 d (y 0) (y 1))

theorem out1 (t : Fin cfg0.N) (p : Fin 1) (q : Fin 6144) : (outsAt0 m c t).1 (ix2 p q) = sum1 (arg m c main_arg0) (ix2 p q) := by
  have h0 := q.isLt
  unfold outsAt0
  dsimp only
  frame_out
  obtain rfl : p = 0 := Subsingleton.elim _ _
  refine (sub_read _ _ 0 6144 (by decide) inb_S1x32384_S1x32384_0_0 inb_S1x32384_S1x6144_0_0 _ q (by omega)).trans ((total _ _ _).trans ?_)
  refine Finset.sum_congr rfl fun d _ => ?_
  rw [read_unread_whole]
  exact (block0 m c t d _).trans ((packed_left _ _ d _ (by omega) _).trans (part0 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref1 (x : Vec Ideal S8x1x6144 .f32) (y : S1x6144.Idx) : val_main_v0 (F := Ideal) x y = sum1 x y := by
  have z : ∀ i, val_main_cst (F := Ideal) i = (0 : EReal) := fun _ => Idealize.ShloMosaic.Ideal.ofBits_zero .f32
  rw [val_main_v0_apply, z, zero_add]
  refine Finset.sum_congr rfl fun d _ => congrArg x ?_
  exact (eq_ix3 _).trans rfl

theorem array1 : (dats m 0 c).arrAt 1 cfg0.N = val_main_v0 (F := Ideal) (arg m c main_arg0) := by
  refine (dats m 0 c).arrAt_eq_of_covers 1 _ (by decide +kernel) fun t hf y => ?_
  blk_simp [at1]
  rw [after0_1]
  refine (congrArg _ (eq_ix2 y)).trans ((out1 m c t (y 0) (y 1)).trans ?_)
  refine Eq.trans ?_ (ref1 _ _).symm
  exact congrArg (sum1 (arg m c main_arg0)) ((congrArg₂ ix2 (Fin.ext (by blk_simp [at1])) (Fin.ext (by blk_simp [at1]))).trans (eq_ix2 _).symm)

/-! `g_mix_norm` -/

theorem at2 : ∀ t : Fin cfg0.N, win0_2.index t = ![0, 0] := by decide +kernel

/-- The sum over the devices of the part. -/
def sum2 (x : Vec Ideal S8x1x1024 .f32) (y : S1x1024.Idx) : EReal := ∑ d : Fin 8, x (ix3 d (y 0) (y 1))

theorem out2 (t : Fin cfg0.N) (p : Fin 1) (q : Fin 1024) : (outsAt0 m c t).2.1 (ix2 p q) = sum2 (arg m c main_arg1) (ix2 p q) := by
  have h0 := q.isLt
  unfold outsAt0
  dsimp only
  frame_out
  obtain rfl : p = 0 := Subsingleton.elim _ _
  refine (sub_read _ _ 6144 1024 (by decide) inb_S1x32384_S1x32384_0_0 inb_S1x32384_S1x1024_0_6144 _ q (by omega)).trans ((total _ _ _).trans ?_)
  refine Finset.sum_congr rfl fun d _ => ?_
  rw [read_unread_whole]
  exact (block0 m c t d _).trans ((packed_left _ _ d _ (by omega) _).trans (part1 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref2 (x : Vec Ideal S8x1x1024 .f32) (y : S1x1024.Idx) : val_main_v1 (F := Ideal) x y = sum2 x y := by
  have z : ∀ i, val_main_cst_0 (F := Ideal) i = (0 : EReal) := fun _ => Idealize.ShloMosaic.Ideal.ofBits_zero .f32
  rw [val_main_v1_apply, z, zero_add]
  refine Finset.sum_congr rfl fun d _ => congrArg x ?_
  exact (eq_ix3 _).trans rfl

theorem array2 : (dats m 0 c).arrAt 2 cfg0.N = val_main_v1 (F := Ideal) (arg m c main_arg1) := by
  refine (dats m 0 c).arrAt_eq_of_covers 2 _ (by decide +kernel) fun t hf y => ?_
  blk_simp [at2]
  rw [after0_2]
  refine (congrArg _ (eq_ix2 y)).trans ((out2 m c t (y 0) (y 1)).trans ?_)
  refine Eq.trans ?_ (ref2 _ _).symm
  exact congrArg (sum2 (arg m c main_arg1)) ((congrArg₂ ix2 (Fin.ext (by blk_simp [at2])) (Fin.ext (by blk_simp [at2]))).trans (eq_ix2 _).symm)

/-! `g_q_lat` -/

theorem at3 : ∀ t : Fin cfg0.N, win0_3.index t = ![0, 0] := by decide +kernel

/-- The sum over the devices of the part. -/
def sum3 (x : Vec Ideal S8x1x512 .f32) (y : S1x512.Idx) : EReal := ∑ d : Fin 8, x (ix3 d (y 0) (y 1))

theorem out3 (t : Fin cfg0.N) (p : Fin 1) (q : Fin 512) : (outsAt0 m c t).2.2.1 (ix2 p q) = sum3 (arg m c main_arg2) (ix2 p q) := by
  have h0 := q.isLt
  unfold outsAt0
  dsimp only
  frame_out
  obtain rfl : p = 0 := Subsingleton.elim _ _
  refine (sub_read _ _ 7168 512 (by decide) inb_S1x32384_S1x32384_0_0 inb_S1x32384_S1x512_0_7168 _ q (by omega)).trans ((total _ _ _).trans ?_)
  refine Finset.sum_congr rfl fun d _ => ?_
  rw [read_unread_whole]
  exact (block0 m c t d _).trans ((packed_left _ _ d _ (by omega) _).trans (part2 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref3 (x : Vec Ideal S8x1x512 .f32) (y : S1x512.Idx) : val_main_v2 (F := Ideal) x y = sum3 x y := by
  have z : ∀ i, val_main_cst_1 (F := Ideal) i = (0 : EReal) := fun _ => Idealize.ShloMosaic.Ideal.ofBits_zero .f32
  rw [val_main_v2_apply, z, zero_add]
  refine Finset.sum_congr rfl fun d _ => congrArg x ?_
  exact (eq_ix3 _).trans rfl

theorem array3 : (dats m 0 c).arrAt 3 cfg0.N = val_main_v2 (F := Ideal) (arg m c main_arg2) := by
  refine (dats m 0 c).arrAt_eq_of_covers 3 _ (by decide +kernel) fun t hf y => ?_
  blk_simp [at3]
  rw [after0_3]
  refine (congrArg _ (eq_ix2 y)).trans ((out3 m c t (y 0) (y 1)).trans ?_)
  refine Eq.trans ?_ (ref3 _ _).symm
  exact congrArg (sum3 (arg m c main_arg2)) ((congrArg₂ ix2 (Fin.ext (by blk_simp [at3])) (Fin.ext (by blk_simp [at3]))).trans (eq_ix2 _).symm)

/-! `g_kv_lat` -/

theorem at4 : ∀ t : Fin cfg0.N, win0_4.index t = ![0, 0] := by decide +kernel

/-- The sum over the devices of the part. -/
def sum4 (x : Vec Ideal S8x1x256 .f32) (y : S1x256.Idx) : EReal := ∑ d : Fin 8, x (ix3 d (y 0) (y 1))

theorem out4 (t : Fin cfg0.N) (p : Fin 1) (q : Fin 256) : (outsAt0 m c t).2.2.2.1 (ix2 p q) = sum4 (arg m c main_arg3) (ix2 p q) := by
  have h0 := q.isLt
  unfold outsAt0
  dsimp only
  frame_out
  obtain rfl : p = 0 := Subsingleton.elim _ _
  refine (sub_read _ _ 7680 256 (by decide) inb_S1x32384_S1x32384_0_0 inb_S1x32384_S1x256_0_7680 _ q (by omega)).trans ((total _ _ _).trans ?_)
  refine Finset.sum_congr rfl fun d _ => ?_
  rw [read_unread_whole]
  exact (block0 m c t d _).trans ((packed_left _ _ d _ (by omega) _).trans (part3 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref4 (x : Vec Ideal S8x1x256 .f32) (y : S1x256.Idx) : val_main_v3 (F := Ideal) x y = sum4 x y := by
  have z : ∀ i, val_main_cst_2 (F := Ideal) i = (0 : EReal) := fun _ => Idealize.ShloMosaic.Ideal.ofBits_zero .f32
  rw [val_main_v3_apply, z, zero_add]
  refine Finset.sum_congr rfl fun d _ => congrArg x ?_
  exact (eq_ix3 _).trans rfl

theorem array4 : (dats m 0 c).arrAt 4 cfg0.N = val_main_v3 (F := Ideal) (arg m c main_arg3) := by
  refine (dats m 0 c).arrAt_eq_of_covers 4 _ (by decide +kernel) fun t hf y => ?_
  blk_simp [at4]
  rw [after0_4]
  refine (congrArg _ (eq_ix2 y)).trans ((out4 m c t (y 0) (y 1)).trans ?_)
  refine Eq.trans ?_ (ref4 _ _).symm
  exact congrArg (sum4 (arg m c main_arg3)) ((congrArg₂ ix2 (Fin.ext (by blk_simp [at4])) (Fin.ext (by blk_simp [at4]))).trans (eq_ix2 _).symm)

/-! `g_mla_q_nope` -/

theorem at5 : ∀ t : Fin cfg0.N, win0_5.index t = ![0, 0] := by decide +kernel

/-- The sum over the devices of the part. -/
def sum5 (x : Vec Ideal S8x1x64 .f32) (y : S1x64.Idx) : EReal := ∑ d : Fin 8, x (ix3 d (y 0) (y 1))

theorem out5 (t : Fin cfg0.N) (p : Fin 1) (q : Fin 64) : (outsAt0 m c t).2.2.2.2.1 (ix2 p q) = sum5 (arg m c main_arg4) (ix2 p q) := by
  have h0 := q.isLt
  unfold outsAt0
  dsimp only
  frame_out
  obtain rfl : p = 0 := Subsingleton.elim _ _
  refine (sub_read _ _ 7936 64 (by decide) inb_S1x32384_S1x32384_0_0 inb_S1x32384_S1x64_0_7936 _ q (by omega)).trans ((total _ _ _).trans ?_)
  refine Finset.sum_congr rfl fun d _ => ?_
  rw [read_unread_whole]
  exact (block0 m c t d _).trans ((packed_left _ _ d _ (by omega) _).trans (part4 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref5 (x : Vec Ideal S8x1x64 .f32) (y : S1x64.Idx) : val_main_v4 (F := Ideal) x y = sum5 x y := by
  have z : ∀ i, val_main_cst_3 (F := Ideal) i = (0 : EReal) := fun _ => Idealize.ShloMosaic.Ideal.ofBits_zero .f32
  rw [val_main_v4_apply, z, zero_add]
  refine Finset.sum_congr rfl fun d _ => congrArg x ?_
  exact (eq_ix3 _).trans rfl

theorem array5 : (dats m 0 c).arrAt 5 cfg0.N = val_main_v4 (F := Ideal) (arg m c main_arg4) := by
  refine (dats m 0 c).arrAt_eq_of_covers 5 _ (by decide +kernel) fun t hf y => ?_
  blk_simp [at5]
  rw [after0_5]
  refine (congrArg _ (eq_ix2 y)).trans ((out5 m c t (y 0) (y 1)).trans ?_)
  refine Eq.trans ?_ (ref5 _ _).symm
  exact congrArg (sum5 (arg m c main_arg4)) ((congrArg₂ ix2 (Fin.ext (by blk_simp [at5])) (Fin.ext (by blk_simp [at5]))).trans (eq_ix2 _).symm)

/-! `g_mla_q_pe` -/

theorem at6 : ∀ t : Fin cfg0.N, win0_6.index t = ![0, 0] := by decide +kernel

/-- The sum over the devices of the part. -/
def sum6 (x : Vec Ideal S8x1x32 .f32) (y : S1x32.Idx) : EReal := ∑ d : Fin 8, x (ix3 d (y 0) (y 1))

theorem out6 (t : Fin cfg0.N) (p : Fin 1) (q : Fin 32) : (outsAt0 m c t).2.2.2.2.2.1 (ix2 p q) = sum6 (arg m c main_arg5) (ix2 p q) := by
  have h0 := q.isLt
  unfold outsAt0
  dsimp only
  frame_out
  obtain rfl : p = 0 := Subsingleton.elim _ _
  refine (sub_read _ _ 8064 32 (by decide) inb_S1x32384_S1x32384_0_0 inb_S1x32384_S1x32_0_8064 _ q (by omega)).trans ((total _ _ _).trans ?_)
  refine Finset.sum_congr rfl fun d _ => ?_
  rw [read_unread_whole]
  exact (block0 m c t d _).trans ((packed_left _ _ d _ (by omega) _).trans (part5 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref6 (x : Vec Ideal S8x1x32 .f32) (y : S1x32.Idx) : val_main_v5 (F := Ideal) x y = sum6 x y := by
  have z : ∀ i, val_main_cst_4 (F := Ideal) i = (0 : EReal) := fun _ => Idealize.ShloMosaic.Ideal.ofBits_zero .f32
  rw [val_main_v5_apply, z, zero_add]
  refine Finset.sum_congr rfl fun d _ => congrArg x ?_
  exact (eq_ix3 _).trans rfl

theorem array6 : (dats m 0 c).arrAt 6 cfg0.N = val_main_v5 (F := Ideal) (arg m c main_arg5) := by
  refine (dats m 0 c).arrAt_eq_of_covers 6 _ (by decide +kernel) fun t hf y => ?_
  blk_simp [at6]
  rw [after0_6]
  refine (congrArg _ (eq_ix2 y)).trans ((out6 m c t (y 0) (y 1)).trans ?_)
  refine Eq.trans ?_ (ref6 _ _).symm
  exact congrArg (sum6 (arg m c main_arg5)) ((congrArg₂ ix2 (Fin.ext (by blk_simp [at6])) (Fin.ext (by blk_simp [at6]))).trans (eq_ix2 _).symm)

/-! `g_mla_k_nope` -/

theorem at7 : ∀ t : Fin cfg0.N, win0_7.index t = ![0, 0] := by decide +kernel

/-- The sum over the devices of the part. -/
def sum7 (x : Vec Ideal S8x1x64 .f32) (y : S1x64.Idx) : EReal := ∑ d : Fin 8, x (ix3 d (y 0) (y 1))

theorem out7 (t : Fin cfg0.N) (p : Fin 1) (q : Fin 64) : (outsAt0 m c t).2.2.2.2.2.2.1 (ix2 p q) = sum7 (arg m c main_arg6) (ix2 p q) := by
  have h0 := q.isLt
  unfold outsAt0
  dsimp only
  frame_out
  obtain rfl : p = 0 := Subsingleton.elim _ _
  refine (sub_read _ _ 8192 64 (by decide) inb_S1x32384_S1x32384_0_0 inb_S1x32384_S1x64_0_8192 _ q (by omega)).trans ((total _ _ _).trans ?_)
  refine Finset.sum_congr rfl fun d _ => ?_
  rw [read_unread_whole]
  exact (block0 m c t d _).trans ((packed_left _ _ d _ (by omega) _).trans (part6 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref7 (x : Vec Ideal S8x1x64 .f32) (y : S1x64.Idx) : val_main_v6 (F := Ideal) x y = sum7 x y := by
  have z : ∀ i, val_main_cst_5 (F := Ideal) i = (0 : EReal) := fun _ => Idealize.ShloMosaic.Ideal.ofBits_zero .f32
  rw [val_main_v6_apply, z, zero_add]
  refine Finset.sum_congr rfl fun d _ => congrArg x ?_
  exact (eq_ix3 _).trans rfl

theorem array7 : (dats m 0 c).arrAt 7 cfg0.N = val_main_v6 (F := Ideal) (arg m c main_arg6) := by
  refine (dats m 0 c).arrAt_eq_of_covers 7 _ (by decide +kernel) fun t hf y => ?_
  blk_simp [at7]
  rw [after0_7]
  refine (congrArg _ (eq_ix2 y)).trans ((out7 m c t (y 0) (y 1)).trans ?_)
  refine Eq.trans ?_ (ref7 _ _).symm
  exact congrArg (sum7 (arg m c main_arg6)) ((congrArg₂ ix2 (Fin.ext (by blk_simp [at7])) (Fin.ext (by blk_simp [at7]))).trans (eq_ix2 _).symm)

/-! `g_mla_k_pe` -/

theorem at8 : ∀ t : Fin cfg0.N, win0_8.index t = ![0, 0] := by decide +kernel

/-- The sum over the devices of the part. -/
def sum8 (x : Vec Ideal S8x1x32 .f32) (y : S1x32.Idx) : EReal := ∑ d : Fin 8, x (ix3 d (y 0) (y 1))

theorem out8 (t : Fin cfg0.N) (p : Fin 1) (q : Fin 32) : (outsAt0 m c t).2.2.2.2.2.2.2.1 (ix2 p q) = sum8 (arg m c main_arg7) (ix2 p q) := by
  have h0 := q.isLt
  unfold outsAt0
  dsimp only
  frame_out
  obtain rfl : p = 0 := Subsingleton.elim _ _
  refine (sub_read _ _ 8320 32 (by decide) inb_S1x32384_S1x32384_0_0 inb_S1x32384_S1x32_0_8320 _ q (by omega)).trans ((total _ _ _).trans ?_)
  refine Finset.sum_congr rfl fun d _ => ?_
  rw [read_unread_whole]
  exact (block0 m c t d _).trans ((packed_left _ _ d _ (by omega) _).trans (part7 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref8 (x : Vec Ideal S8x1x32 .f32) (y : S1x32.Idx) : val_main_v7 (F := Ideal) x y = sum8 x y := by
  have z : ∀ i, val_main_cst_6 (F := Ideal) i = (0 : EReal) := fun _ => Idealize.ShloMosaic.Ideal.ofBits_zero .f32
  rw [val_main_v7_apply, z, zero_add]
  refine Finset.sum_congr rfl fun d _ => congrArg x ?_
  exact (eq_ix3 _).trans rfl

theorem array8 : (dats m 0 c).arrAt 8 cfg0.N = val_main_v7 (F := Ideal) (arg m c main_arg7) := by
  refine (dats m 0 c).arrAt_eq_of_covers 8 _ (by decide +kernel) fun t hf y => ?_
  blk_simp [at8]
  rw [after0_8]
  refine (congrArg _ (eq_ix2 y)).trans ((out8 m c t (y 0) (y 1)).trans ?_)
  refine Eq.trans ?_ (ref8 _ _).symm
  exact congrArg (sum8 (arg m c main_arg7)) ((congrArg₂ ix2 (Fin.ext (by blk_simp [at8])) (Fin.ext (by blk_simp [at8]))).trans (eq_ix2 _).symm)

/-! `g_dil_q` -/

theorem at9 : ∀ t : Fin cfg0.N, win0_9.index t = ![0, 0] := by decide +kernel

/-- The sum over the devices of the part. -/
def sum9 (x : Vec Ideal S8x1x64 .f32) (y : S1x64.Idx) : EReal := ∑ d : Fin 8, x (ix3 d (y 0) (y 1))

theorem out9 (t : Fin cfg0.N) (p : Fin 1) (q : Fin 64) : (outsAt0 m c t).2.2.2.2.2.2.2.2.1 (ix2 p q) = sum9 (arg m c main_arg8) (ix2 p q) := by
  have h0 := q.isLt
  unfold outsAt0
  dsimp only
  frame_out
  obtain rfl : p = 0 := Subsingleton.elim _ _
  refine (sub_read _ _ 8448 64 (by decide) inb_S1x32384_S1x32384_0_0 inb_S1x32384_S1x64_0_8448 _ q (by omega)).trans ((total _ _ _).trans ?_)
  refine Finset.sum_congr rfl fun d _ => ?_
  rw [read_unread_whole]
  exact (block0 m c t d _).trans ((packed_left _ _ d _ (by omega) _).trans (part8 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref9 (x : Vec Ideal S8x1x64 .f32) (y : S1x64.Idx) : val_main_v8 (F := Ideal) x y = sum9 x y := by
  have z : ∀ i, val_main_cst_7 (F := Ideal) i = (0 : EReal) := fun _ => Idealize.ShloMosaic.Ideal.ofBits_zero .f32
  rw [val_main_v8_apply, z, zero_add]
  refine Finset.sum_congr rfl fun d _ => congrArg x ?_
  exact (eq_ix3 _).trans rfl

theorem array9 : (dats m 0 c).arrAt 9 cfg0.N = val_main_v8 (F := Ideal) (arg m c main_arg8) := by
  refine (dats m 0 c).arrAt_eq_of_covers 9 _ (by decide +kernel) fun t hf y => ?_
  blk_simp [at9]
  rw [after0_9]
  refine (congrArg _ (eq_ix2 y)).trans ((out9 m c t (y 0) (y 1)).trans ?_)
  refine Eq.trans ?_ (ref9 _ _).symm
  exact congrArg (sum9 (arg m c main_arg8)) ((congrArg₂ ix2 (Fin.ext (by blk_simp [at9])) (Fin.ext (by blk_simp [at9]))).trans (eq_ix2 _).symm)

/-! `g_dil_k` -/

theorem at10 : ∀ t : Fin cfg0.N, win0_10.index t = ![0, 0] := by decide +kernel

/-- The sum over the devices of the part. -/
def sum10 (x : Vec Ideal S8x1x64 .f32) (y : S1x64.Idx) : EReal := ∑ d : Fin 8, x (ix3 d (y 0) (y 1))

theorem out10 (t : Fin cfg0.N) (p : Fin 1) (q : Fin 64) : (outsAt0 m c t).2.2.2.2.2.2.2.2.2.1 (ix2 p q) = sum10 (arg m c main_arg9) (ix2 p q) := by
  have h0 := q.isLt
  unfold outsAt0
  dsimp only
  frame_out
  obtain rfl : p = 0 := Subsingleton.elim _ _
  refine (sub_read _ _ 8576 64 (by decide) inb_S1x32384_S1x32384_0_0 inb_S1x32384_S1x64_0_8576 _ q (by omega)).trans ((total _ _ _).trans ?_)
  refine Finset.sum_congr rfl fun d _ => ?_
  rw [read_unread_whole]
  exact (block0 m c t d _).trans ((packed_left _ _ d _ (by omega) _).trans (part9 (arg m c main_arg0) (arg m c main_arg1) (arg m c main_arg2) (arg m c main_arg3) (arg m c main_arg4) (arg m c main_arg5) (arg m c main_arg6) (arg m c main_arg7) (arg m c main_arg8) (arg m c main_arg9) d q (by omega)))

theorem ref10 (x : Vec Ideal S8x1x64 .f32) (y : S1x64.Idx) : val_main_v9 (F := Ideal) x y = sum10 x y := by
  have z : ∀ i, val_main_cst_8 (F := Ideal) i = (0 : EReal) := fun _ => Idealize.ShloMosaic.Ideal.ofBits_zero .f32
  rw [val_main_v9_apply, z, zero_add]
  refine Finset.sum_congr rfl fun d _ => congrArg x ?_
  exact (eq_ix3 _).trans rfl

theorem array10 : (dats m 0 c).arrAt 10 cfg0.N = val_main_v9 (F := Ideal) (arg m c main_arg9) := by
  refine (dats m 0 c).arrAt_eq_of_covers 10 _ (by decide +kernel) fun t hf y => ?_
  blk_simp [at10]
  rw [after0_10]
  refine (congrArg _ (eq_ix2 y)).trans ((out10 m c t (y 0) (y 1)).trans ?_)
  refine Eq.trans ?_ (ref10 _ _).symm
  exact congrArg (sum10 (arg m c main_arg9)) ((congrArg₂ ix2 (Fin.ext (by blk_simp [at10])) (Fin.ext (by blk_simp [at10]))).trans (eq_ix2 _).symm)

/-! `g_ffn_norm` -/

theorem at11 : ∀ t : Fin cfg0.N, win0_11.index t = ![0, 0] := by decide +kernel

/-- The sum over the devices of the part. -/
def sum11 (x : Vec Ideal S8x1x1024 .f32) (y : S1x1024.Idx) : EReal := ∑ d : Fin 8, x (ix3 d (y 0) (y 1))

theorem out11 (t : Fin cfg0.N) (p : Fin 1) (q : Fin 1024) : (outsAt0 m c t).2.2.2.2.2.2.2.2.2.2.1 (ix2 p q) = sum11 (arg m c main_arg10) (ix2 p q) := by
  have h0 := q.isLt
  unfold outsAt0
  dsimp only
  frame_out
  obtain rfl : p = 0 := Subsingleton.elim _ _
  refine (sub_read _ _ 8704 1024 (by decide) inb_S1x32384_S1x32384_0_0 inb_S1x32384_S1x1024_0_8704 _ q (by omega)).trans ((total _ _ _).trans ?_)
  refine Finset.sum_congr rfl fun d _ => ?_
  rw [read_unread_whole]
  exact (block0 m c t d _).trans ((packed_right _ _ d (0 + q.val) _ _ (by omega) (by omega)).trans (part10 (arg m c main_arg10) (arg m c main_arg11) (arg m c main_arg12) (arg m c main_arg13) d q (by omega)))

theorem ref11 (x : Vec Ideal S8x1x1024 .f32) (y : S1x1024.Idx) : val_main_v10 (F := Ideal) x y = sum11 x y := by
  have z : ∀ i, val_main_cst_9 (F := Ideal) i = (0 : EReal) := fun _ => Idealize.ShloMosaic.Ideal.ofBits_zero .f32
  rw [val_main_v10_apply, z, zero_add]
  refine Finset.sum_congr rfl fun d _ => congrArg x ?_
  exact (eq_ix3 _).trans rfl

theorem array11 : (dats m 0 c).arrAt 11 cfg0.N = val_main_v10 (F := Ideal) (arg m c main_arg10) := by
  refine (dats m 0 c).arrAt_eq_of_covers 11 _ (by decide +kernel) fun t hf y => ?_
  blk_simp [at11]
  rw [after0_11]
  refine (congrArg _ (eq_ix2 y)).trans ((out11 m c t (y 0) (y 1)).trans ?_)
  refine Eq.trans ?_ (ref11 _ _).symm
  exact congrArg (sum11 (arg m c main_arg10)) ((congrArg₂ ix2 (Fin.ext (by blk_simp [at11])) (Fin.ext (by blk_simp [at11]))).trans (eq_ix2 _).symm)

/-! `b_conv` -/

theorem at12 : ∀ t : Fin cfg0.N, win0_12.index t = ![0, 0] := by decide +kernel

/-- The sum over the devices of the part. -/
def sum12 (x : Vec Ideal S8x1x5632 .f32) (y : S1x5632.Idx) : EReal := ∑ d : Fin 8, x (ix3 d (y 0) (y 1))

theorem out12 (t : Fin cfg0.N) (p : Fin 1) (q : Fin 5632) : (outsAt0 m c t).2.2.2.2.2.2.2.2.2.2.2.1 (ix2 p q) = sum12 (arg m c main_arg11) (ix2 p q) := by
  have h0 := q.isLt
  unfold outsAt0
  dsimp only
  frame_out
  obtain rfl : p = 0 := Subsingleton.elim _ _
  refine (sub_read _ _ 9728 5632 (by decide) inb_S1x32384_S1x32384_0_0 inb_S1x32384_S1x5632_0_9728 _ q (by omega)).trans ((total _ _ _).trans ?_)
  refine Finset.sum_congr rfl fun d _ => ?_
  rw [read_unread_whole]
  exact (block0 m c t d _).trans ((packed_right _ _ d (1024 + q.val) _ _ (by omega) (by omega)).trans (part11 (arg m c main_arg10) (arg m c main_arg11) (arg m c main_arg12) (arg m c main_arg13) d q (by omega)))

theorem ref12 (x : Vec Ideal S8x1x5632 .f32) (y : S1x5632.Idx) : val_main_v11 (F := Ideal) x y = sum12 x y := by
  have z : ∀ i, val_main_cst_10 (F := Ideal) i = (0 : EReal) := fun _ => Idealize.ShloMosaic.Ideal.ofBits_zero .f32
  rw [val_main_v11_apply, z, zero_add]
  refine Finset.sum_congr rfl fun d _ => congrArg x ?_
  exact (eq_ix3 _).trans rfl

theorem array12 : (dats m 0 c).arrAt 12 cfg0.N = val_main_v11 (F := Ideal) (arg m c main_arg11) := by
  refine (dats m 0 c).arrAt_eq_of_covers 12 _ (by decide +kernel) fun t hf y => ?_
  blk_simp [at12]
  rw [after0_12]
  refine (congrArg _ (eq_ix2 y)).trans ((out12 m c t (y 0) (y 1)).trans ?_)
  refine Eq.trans ?_ (ref12 _ _).symm
  exact congrArg (sum12 (arg m c main_arg11)) ((congrArg₂ ix2 (Fin.ext (by blk_simp [at12])) (Fin.ext (by blk_simp [at12]))).trans (eq_ix2 _).symm)

/-! `w_conv` -/

theorem at13 : ∀ t : Fin cfg0.N, win0_13.index t = ![0, 0] := by decide +kernel

/-- The sum over the devices of the part. -/
def sum13 (x : Vec Ideal S8x3x5632 .f32) (y : S3x5632.Idx) : EReal := ∑ d : Fin 8, x (ix3 d (y 0) (y 1))

theorem out13 (t : Fin cfg0.N) (p : Fin 3) (q : Fin 5632) : (outsAt0 m c t).2.2.2.2.2.2.2.2.2.2.2.2.1 (ix2 p q) = sum13 (arg m c main_arg12) (ix2 p q) := by
  have h0 := q.isLt
  unfold outsAt0
  dsimp only
  frame_out
  rw [canon_row, canon_row, canon_row]
  fin_cases p
  · simp only [Fin.zero_eta, Fin.mk_one, Fin.reduceFinMk, Fin.val_zero, Fin.val_one, Fin.val_two, if_true, if_false, OfNat.ofNat_ne_zero, OfNat.ofNat_ne_one, one_ne_zero, zero_ne_one, OfNat.zero_ne_ofNat, OfNat.one_ne_ofNat]
    refine (sub_read _ _ 15360 5632 (by decide) inb_S1x32384_S1x32384_0_0 inb_S1x32384_S1x5632_0_15360 _ q (by omega)).trans ((total _ _ _).trans ?_)
    refine Finset.sum_congr rfl fun d _ => ?_
    rw [read_unread_whole]
    exact (block0 m c t d _).trans ((packed_right _ _ d (6656 + q.val) _ _ (by omega) (by omega)).trans (part12_0 (arg m c main_arg10) (arg m c main_arg11) (arg m c main_arg12) (arg m c main_arg13) d q (by omega)))
  · simp only [Fin.zero_eta, Fin.mk_one, Fin.reduceFinMk, Fin.val_zero, Fin.val_one, Fin.val_two, if_true, if_false, OfNat.ofNat_ne_zero, OfNat.ofNat_ne_one, one_ne_zero, zero_ne_one, OfNat.zero_ne_ofNat, OfNat.one_ne_ofNat]
    refine (sub_read _ _ 20992 5632 (by decide) inb_S1x32384_S1x32384_0_0 inb_S1x32384_S1x5632_0_20992 _ q (by omega)).trans ((total _ _ _).trans ?_)
    refine Finset.sum_congr rfl fun d _ => ?_
    rw [read_unread_whole]
    exact (block0 m c t d _).trans ((packed_right _ _ d (12288 + q.val) _ _ (by omega) (by omega)).trans (part12_1 (arg m c main_arg10) (arg m c main_arg11) (arg m c main_arg12) (arg m c main_arg13) d q (by omega)))
  · simp only [Fin.zero_eta, Fin.mk_one, Fin.reduceFinMk, Fin.val_zero, Fin.val_one, Fin.val_two, if_true, if_false, OfNat.ofNat_ne_zero, OfNat.ofNat_ne_one, one_ne_zero, zero_ne_one, OfNat.zero_ne_ofNat, OfNat.one_ne_ofNat]
    refine (sub_read _ _ 26624 5632 (by decide) inb_S1x32384_S1x32384_0_0 inb_S1x32384_S1x5632_0_26624 _ q (by omega)).trans ((total _ _ _).trans ?_)
    refine Finset.sum_congr rfl fun d _ => ?_
    rw [read_unread_whole]
    exact (block0 m c t d _).trans ((packed_right _ _ d (17920 + q.val) _ _ (by omega) (by omega)).trans (part12_2 (arg m c main_arg10) (arg m c main_arg11) (arg m c main_arg12) (arg m c main_arg13) d q (by omega)))

theorem ref13 (x : Vec Ideal S8x3x5632 .f32) (y : S3x5632.Idx) : val_main_v12 (F := Ideal) x y = sum13 x y := by
  have z : ∀ i, val_main_cst_11 (F := Ideal) i = (0 : EReal) := fun _ => Idealize.ShloMosaic.Ideal.ofBits_zero .f32
  rw [val_main_v12_apply, z, zero_add]
  refine Finset.sum_congr rfl fun d _ => congrArg x ?_
  exact (eq_ix3 _).trans rfl

theorem array13 : (dats m 0 c).arrAt 13 cfg0.N = val_main_v12 (F := Ideal) (arg m c main_arg12) := by
  refine (dats m 0 c).arrAt_eq_of_covers 13 _ (by decide +kernel) fun t hf y => ?_
  blk_simp [at13]
  rw [after0_13]
  refine (congrArg _ (eq_ix2 y)).trans ((out13 m c t (y 0) (y 1)).trans ?_)
  refine Eq.trans ?_ (ref13 _ _).symm
  exact congrArg (sum13 (arg m c main_arg12)) ((congrArg₂ ix2 (Fin.ext (by blk_simp [at13])) (Fin.ext (by blk_simp [at13]))).trans (eq_ix2 _).symm)

/-! `the loss` -/

theorem at14 : ∀ t : Fin cfg0.N, win0_14.index t = ![0, 0] := by decide +kernel

/-- The sum over the devices of the part. -/
def sum14 (x : Vec Ideal S8x1x1 .f32) (y : S1x1.Idx) : EReal := ∑ d : Fin 8, x (ix3 d (y 0) (y 1))

theorem out14 (t : Fin cfg0.N) (p : Fin 1) (q : Fin 1) : (outsAt0 m c t).2.2.2.2.2.2.2.2.2.2.2.2.2 (ix2 p q) = sum14 (arg m c main_arg13) (ix2 p q) := by
  have h0 := q.isLt
  unfold outsAt0
  dsimp only
  frame_out
  obtain rfl : p = 0 := Subsingleton.elim _ _
  refine (sub_read _ _ 32256 1 (by decide) inb_S1x32384_S1x32384_0_0 inb_S1x32384_S1x1_0_32256 _ q (by omega)).trans ((total _ _ _).trans ?_)
  refine Finset.sum_congr rfl fun d _ => ?_
  rw [read_unread_whole]
  exact (block0 m c t d _).trans ((packed_right _ _ d (23552 + q.val) _ _ (by omega) (by omega)).trans (part13 (arg m c main_arg10) (arg m c main_arg11) (arg m c main_arg12) (arg m c main_arg13) d q (by omega)))

theorem ref14 (x : Vec Ideal S8x1x1 .f32) (y : S1x1.Idx) : val_main_v13 (F := Ideal) x y = sum14 x y := by
  have z : ∀ i, val_main_cst_12 (F := Ideal) i = (0 : EReal) := fun _ => Idealize.ShloMosaic.Ideal.ofBits_zero .f32
  rw [val_main_v13_apply, z, zero_add]
  refine Finset.sum_congr rfl fun d _ => congrArg x ?_
  exact (eq_ix3 _).trans rfl

theorem array14 : (dats m 0 c).arrAt 14 cfg0.N = val_main_v13 (F := Ideal) (arg m c main_arg13) := by
  refine (dats m 0 c).arrAt_eq_of_covers 14 _ (by decide +kernel) fun t hf y => ?_
  blk_simp [at14]
  rw [after0_14]
  refine (congrArg _ (eq_ix2 y)).trans ((out14 m c t (y 0) (y 1)).trans ?_)
  refine Eq.trans ?_ (ref14 _ _).symm
  exact congrArg (sum14 (arg m c main_arg13)) ((congrArg₂ ix2 (Fin.ext (by blk_simp [at14])) (Fin.ext (by blk_simp [at14]))).trans (eq_ix2 _).symm)

end Cert.SumSmall
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.GatePair
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.MulUpDw
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.MulUp
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.MulDownDx
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MulInDw
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.MulODw
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.MulDownDw
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.DownFinal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.InProj
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.OResid
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.ConvGate
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.MixNorm
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.FfnNorm
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.LatNorm
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.AdaBwd
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.MulQb
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.MulKvb
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.MulQbDx
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.MulKvbDx
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.MulQbDw
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.MulKvbDw
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.AdamWAda
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.AdamWIn
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.AdamWQB
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.AdamWKvB
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.AdamWO
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.AdamWUp
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.AdamWConv
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.AdamWDown
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Reference38Ideal
public import proofs.«01_k».proof.Proof.Gen.Reference38Ideal.Run
public import proofs.«01_k».proof.Proof.Gen.Reference38Ideal.Read
public import proofs.«01_k».proof.Proof.VectorsRun
public import proofs.«01_k».proof.Proof.VectorsRunIdeal
public import proofs.«01_k».proof.Proof.VectorsEnd
public import proofs.«01_k».proof.Proof.AdamVectors
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.SumSmall
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The gate's gradient: kernel and reference end with the same six arrays. -/
theorem gate : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, _, _, _, _, _, Cert.KernelIdeal.Value.run_blocks m g,
    (θ_run Cert.ReferenceIdeal.defs _ _).mono (fun r h c => ?_) (Cert.ReferenceIdeal.Value.run m' g')⟩
  obtain ⟨h0, h1, h2, h3⟩ := Cert.GateValue.real_of_pre _ _ _ _ (hpre c)
  obtain ⟨a0, a1, a2, a3⟩ := hagree c
  obtain ⟨e0, e1, e2, e3, e4, e5, k⟩ := h c
  refine ⟨e0.trans ?_, e1.trans ?_, e2.trans ?_, e3.trans ?_, e4.trans ?_, e5.trans ?_, k⟩
  · rw [Cert.ReferenceIdeal.Read.val_main_v77_eq, a0, a1, a2, a3]
    exact Cert.GateValue.pair77 m c h0 h1 h2 h3
  · rw [Cert.ReferenceIdeal.Read.val_main_v78_eq, a0, a1, a2, a3]
    exact Cert.GateValue.pair78 m c h0 h1 h2 h3
  · rw [Cert.ReferenceIdeal.Read.val_main_v79_eq, a0, a1, a2, a3]
    exact Cert.GateValue.pair79 m c h0 h1 h2 h3
  · rw [Cert.ReferenceIdeal.Read.val_main_v80_eq, a0, a1, a2, a3]
    exact Cert.GateValue.pair80 m c h0 h1 h2 h3
  · rw [Cert.ReferenceIdeal.Read.val_main_v81_eq, a0, a1, a2, a3]
    exact Cert.GateValue.pair81 m c h0 h1 h2 h3
  · rw [Cert.ReferenceIdeal.Read.val_main_v82_eq, a0, a1, a2, a3]
    exact Cert.GateValue.pair82 m c h0 h1 h2 h3

/-- The reference keeps its arguments; it has no semaphores. -/
theorem referenceFrame : Cert.quiescent_ReferenceIdeal (hReferenceIdeal := Cert.ReferenceIdeal.Gen.facts) := by
  intro m g _
  exact (θ_run Cert.ReferenceIdeal.defs _ _).mono
    (fun r h => ⟨fun c => (h c).2.2.2.2.2.2, sem_eq_zero_of_no_sems rfl r.2⟩) (Cert.ReferenceIdeal.Value.run m g)

/-- The reference keeps its arguments; it has no semaphores. -/
theorem referenceFrame2 : Cert.quiescent_Reference2Ideal (hReference2Ideal := Cert.Reference2Ideal.Gen.facts) := by
  intro m g _
  exact (θ_run Cert.Reference2Ideal.defs _ _).mono
    (fun r h => ⟨fun c => (h c).2, sem_eq_zero_of_no_sems rfl r.2⟩) (Cert.Reference2Ideal.Value.run m g)

/-- The gradient of the up product's weight. -/
theorem value2 : Cert.algebraic_Kernel2Ideal_Reference2Ideal (hKernel2Ideal := Cert.Kernel2Ideal.Gen.facts) (hReference2Ideal := Cert.Reference2Ideal.Gen.facts) := by
  intro m g m' g' _ hagree
  refine ⟨_,  Cert.Kernel2Ideal.Value.run_blocks m g,
    (θ_run Cert.Reference2Ideal.defs _ _).mono (fun r h c => ?_) (Cert.Reference2Ideal.Value.run m' g')⟩
  obtain ⟨a0, a1⟩ := hagree c
  obtain ⟨e0, k⟩ := h c
  refine ⟨e0.trans ?_, k⟩
  · rw [Cert.Reference2Ideal.Read.val_main_v7_eq, a0, a1]
    exact (Cert.MulUpDw.array m c).symm

/-- The reference keeps its arguments; it has no semaphores. -/
theorem referenceFrame3 : Cert.quiescent_Reference3Ideal (hReference3Ideal := Cert.Reference3Ideal.Gen.facts) := by
  intro m g _
  exact (θ_run Cert.Reference3Ideal.defs _ _).mono
    (fun r h => ⟨fun c => (h c).2, sem_eq_zero_of_no_sems rfl r.2⟩) (Cert.Reference3Ideal.Value.run m g)

/-- The up product. -/
theorem value3 : Cert.algebraic_Kernel3Ideal_Reference3Ideal (hKernel3Ideal := Cert.Kernel3Ideal.Gen.facts) (hReference3Ideal := Cert.Reference3Ideal.Gen.facts) := by
  intro m g m' g' _ hagree
  refine ⟨_,  Cert.Kernel3Ideal.Value.run_blocks m g,
    (θ_run Cert.Reference3Ideal.defs _ _).mono (fun r h c => ?_) (Cert.Reference3Ideal.Value.run m' g')⟩
  obtain ⟨a0, a1⟩ := hagree c
  obtain ⟨e0, k⟩ := h c
  refine ⟨e0.trans ?_, k⟩
  · rw [Cert.Reference3Ideal.Read.val_main_v1_eq, a0, a1]
    exact (Cert.MulUp.array m c).symm

/-- The reference keeps its arguments; it has no semaphores. -/
theorem referenceFrame4 : Cert.quiescent_Reference4Ideal (hReference4Ideal := Cert.Reference4Ideal.Gen.facts) := by
  intro m g _
  exact (θ_run Cert.Reference4Ideal.defs _ _).mono
    (fun r h => ⟨fun c => (h c).2, sem_eq_zero_of_no_sems rfl r.2⟩) (Cert.Reference4Ideal.Value.run m g)

/-- The gradient of the down product's left operand. -/
theorem value4 : Cert.algebraic_Kernel4Ideal_Reference4Ideal (hKernel4Ideal := Cert.Kernel4Ideal.Gen.facts) (hReference4Ideal := Cert.Reference4Ideal.Gen.facts) := by
  intro m g m' g' _ hagree
  refine ⟨_,  Cert.Kernel4Ideal.Value.run_blocks m g,
    (θ_run Cert.Reference4Ideal.defs _ _).mono (fun r h c => ?_) (Cert.Reference4Ideal.Value.run m' g')⟩
  obtain ⟨a0, a1⟩ := hagree c
  obtain ⟨e0, k⟩ := h c
  refine ⟨e0.trans ?_, k⟩
  · rw [Cert.Reference4Ideal.Read.val_main_v3_eq, a0, a1]
    exact (Cert.MulDownDx.array m c).symm

/-- The reference keeps its arguments; it has no semaphores. -/
theorem referenceFrame5 : Cert.quiescent_Reference5Ideal (hReference5Ideal := Cert.Reference5Ideal.Gen.facts) := by
  intro m g _
  exact (θ_run Cert.Reference5Ideal.defs _ _).mono
    (fun r h => ⟨fun c => (h c).2, sem_eq_zero_of_no_sems rfl r.2⟩) (Cert.Reference5Ideal.Value.run m g)

/-- The gradient of the input projection's weight. -/
theorem value5 : Cert.algebraic_Kernel5Ideal_Reference5Ideal (hKernel5Ideal := Cert.Kernel5Ideal.Gen.facts) (hReference5Ideal := Cert.Reference5Ideal.Gen.facts) := by
  intro m g m' g' _ hagree
  refine ⟨_,  Cert.Kernel5Ideal.Value.run_blocks m g,
    (θ_run Cert.Reference5Ideal.defs _ _).mono (fun r h c => ?_) (Cert.Reference5Ideal.Value.run m' g')⟩
  obtain ⟨a0, a1⟩ := hagree c
  obtain ⟨e0, k⟩ := h c
  refine ⟨e0.trans ?_, k⟩
  · rw [Cert.Reference5Ideal.Read.val_main_v5_eq, a0, a1]
    exact (Cert.MulInDw.array m c).symm

/-- The reference keeps its arguments; it has no semaphores. -/
theorem referenceFrame6 : Cert.quiescent_Reference6Ideal (hReference6Ideal := Cert.Reference6Ideal.Gen.facts) := by
  intro m g _
  exact (θ_run Cert.Reference6Ideal.defs _ _).mono
    (fun r h => ⟨fun c => (h c).2, sem_eq_zero_of_no_sems rfl r.2⟩) (Cert.Reference6Ideal.Value.run m g)

/-- The gradient of the output projection's weight. -/
theorem value6 : Cert.algebraic_Kernel6Ideal_Reference6Ideal (hKernel6Ideal := Cert.Kernel6Ideal.Gen.facts) (hReference6Ideal := Cert.Reference6Ideal.Gen.facts) := by
  intro m g m' g' _ hagree
  refine ⟨_,  Cert.Kernel6Ideal.Value.run_blocks m g,
    (θ_run Cert.Reference6Ideal.defs _ _).mono (fun r h c => ?_) (Cert.Reference6Ideal.Value.run m' g')⟩
  obtain ⟨a0, a1⟩ := hagree c
  obtain ⟨e0, k⟩ := h c
  refine ⟨e0.trans ?_, k⟩
  · rw [Cert.Reference6Ideal.Read.val_main_v5_eq, a0, a1]
    exact (Cert.MulODw.array m c).symm

/-- The reference keeps its arguments; it has no semaphores. -/
theorem referenceFrame7 : Cert.quiescent_Reference7Ideal (hReference7Ideal := Cert.Reference7Ideal.Gen.facts) := by
  intro m g _
  exact (θ_run Cert.Reference7Ideal.defs _ _).mono
    (fun r h => ⟨fun c => (h c).2, sem_eq_zero_of_no_sems rfl r.2⟩) (Cert.Reference7Ideal.Value.run m g)

/-- The gradient of the down product's weight. -/
theorem value7 : Cert.algebraic_Kernel7Ideal_Reference7Ideal (hKernel7Ideal := Cert.Kernel7Ideal.Gen.facts) (hReference7Ideal := Cert.Reference7Ideal.Gen.facts) := by
  intro m g m' g' _ hagree
  refine ⟨_,  Cert.Kernel7Ideal.Value.run_blocks m g,
    (θ_run Cert.Reference7Ideal.defs _ _).mono (fun r h c => ?_) (Cert.Reference7Ideal.Value.run m' g')⟩
  obtain ⟨a0, a1⟩ := hagree c
  obtain ⟨e0, k⟩ := h c
  refine ⟨e0.trans ?_, k⟩
  · rw [Cert.Reference7Ideal.Read.val_main_v5_eq, a0, a1]
    exact (Cert.MulDownDw.array m c).symm

/-- The reference keeps its arguments; it has no semaphores. -/
theorem referenceFrame8 : Cert.quiescent_Reference8Ideal (hReference8Ideal := Cert.Reference8Ideal.Gen.facts) := by
  intro m g _
  exact (θ_run Cert.Reference8Ideal.defs _ _).mono
    (fun r h => ⟨fun c => (h c).2.2.2.2, sem_eq_zero_of_no_sems rfl r.2⟩) (Cert.Reference8Ideal.Value.run m g)

/-- The down product, the loss and the gradients that begin the backward pass. -/
theorem value8 : Cert.algebraic_Kernel8Ideal_Reference8Ideal (hKernel8Ideal := Cert.Kernel8Ideal.Gen.facts) (hReference8Ideal := Cert.Reference8Ideal.Gen.facts) := by
  intro m g m' g' _ hagree
  refine ⟨_, _, _, _,  Cert.Kernel8Ideal.Value.run_blocks m g,
    (θ_run Cert.Reference8Ideal.defs _ _).mono (fun r h c => ?_) (Cert.Reference8Ideal.Value.run m' g')⟩
  obtain ⟨a0, a1, a2, a3, a4⟩ := hagree c
  obtain ⟨e0, e1, e2, e3, k⟩ := h c
  refine ⟨e0.trans ?_, e1.trans ?_, e2.trans ?_, e3.trans ?_, k⟩
  · rw [Cert.Reference8Ideal.Read.val_main_v19_eq, a0, a1, a2, a3, a4]
    exact (Cert.DownFinal.array5 m c).symm
  · rw [Cert.Reference8Ideal.Read.val_main_v25_eq, a0, a1, a2, a3, a4]
    exact (Cert.DownFinal.array6 m c).symm
  · rw [Cert.Reference8Ideal.Read.val_main_v24_eq, a0, a1, a2, a3, a4]
    exact (Cert.DownFinal.array7 m c).symm
  · rw [Cert.Reference8Ideal.Read.val_main_v26_eq, a0, a1, a2, a3, a4]
    exact (Cert.DownFinal.array8 m c).symm

/-- The reference keeps its arguments; it has no semaphores. -/
theorem referenceFrame9 : Cert.quiescent_Reference9Ideal (hReference9Ideal := Cert.Reference9Ideal.Gen.facts) := by
  intro m g _
  exact (θ_run Cert.Reference9Ideal.defs _ _).mono
    (fun r h => ⟨fun c => (h c).2.2.2.2, sem_eq_zero_of_no_sems rfl r.2⟩) (Cert.Reference9Ideal.Value.run m g)

/-- The modulated norm, the input projection and the norms of the two latents. -/
theorem value9 : Cert.algebraic_Kernel9Ideal_Reference9Ideal (hKernel9Ideal := Cert.Kernel9Ideal.Gen.facts) (hReference9Ideal := Cert.Reference9Ideal.Gen.facts) := by
  intro m g m' g' _ hagree
  refine ⟨_, _, _, _,  Cert.Kernel9Ideal.Value.run_blocks m g,
    (θ_run Cert.Reference9Ideal.defs _ _).mono (fun r h c => ?_) (Cert.Reference9Ideal.Value.run m' g')⟩
  obtain ⟨a0, a1, a2, a3, a4, a5, a6⟩ := hagree c
  obtain ⟨e0, e1, e2, e3, k⟩ := h c
  refine ⟨e0.trans ?_, e1.trans ?_, e2.trans ?_, e3.trans ?_, k⟩
  · rw [Cert.Reference9Ideal.Read.val_main_v26_eq, a0, a1, a2, a3]
    exact (Cert.InProj.array7 m c).symm
  · rw [Cert.Reference9Ideal.Read.val_main_v25_eq, a0, a1, a2, a3, a4]
    exact (Cert.InProj.array8 m c).symm
  · rw [Cert.Reference9Ideal.Read.val_main_v39_eq, a0, a1, a2, a3, a4, a5]
    exact (Cert.InProj.array9 m c).symm
  · rw [Cert.Reference9Ideal.Read.val_main_v52_eq, a0, a1, a2, a3, a4, a6]
    exact (Cert.InProj.array10 m c).symm

/-- The reference keeps its arguments; it has no semaphores. -/
theorem referenceFrame10 : Cert.quiescent_Reference10Ideal (hReference10Ideal := Cert.Reference10Ideal.Gen.facts) := by
  intro m g _
  exact (θ_run Cert.Reference10Ideal.defs _ _).mono
    (fun r h => ⟨fun c => (h c).2.2.2, sem_eq_zero_of_no_sems rfl r.2⟩) (Cert.Reference10Ideal.Value.run m g)

/-- The output projection, the residual and the second modulated norm. -/
theorem value10 : Cert.algebraic_Kernel10Ideal_Reference10Ideal (hKernel10Ideal := Cert.Kernel10Ideal.Gen.facts) (hReference10Ideal := Cert.Reference10Ideal.Gen.facts) := by
  intro m g m' g' _ hagree
  refine ⟨_, _, _,  Cert.Kernel10Ideal.Value.run_blocks m g,
    (θ_run Cert.Reference10Ideal.defs _ _).mono (fun r h c => ?_) (Cert.Reference10Ideal.Value.run m' g')⟩
  obtain ⟨a0, a1, a2, a3, a4, a5, a6⟩ := hagree c
  obtain ⟨e0, e1, e2, k⟩ := h c
  refine ⟨e0.trans ?_, e1.trans ?_, e2.trans ?_, k⟩
  · rw [Cert.Reference10Ideal.Read.val_main_v1_eq, a0, a1]
    exact (Cert.OResid.array7 m c).symm
  · rw [Cert.Reference10Ideal.Read.val_main_v4_eq, a0, a1, a2, a3]
    exact (Cert.OResid.array8 m c).symm
  · rw [Cert.Reference10Ideal.Read.val_main_v23_eq, a0, a1, a2, a3, a4, a5, a6]
    exact (Cert.OResid.array9 m c).symm

/-- The reference keeps its arguments; it has no semaphores. -/
theorem referenceFrame11 : Cert.quiescent_Reference11Ideal (hReference11Ideal := Cert.Reference11Ideal.Gen.facts) := by
  intro m g _
  exact (θ_run Cert.Reference11Ideal.defs _ _).mono
    (fun r h => ⟨fun c => (h c).2, sem_eq_zero_of_no_sems rfl r.2⟩) (Cert.Reference11Ideal.Value.run m g)

/-- The causal convolution and the gate. -/
theorem value11 : Cert.algebraic_Kernel11Ideal_Reference11Ideal (hKernel11Ideal := Cert.Kernel11Ideal.Gen.facts) (hReference11Ideal := Cert.Reference11Ideal.Gen.facts) := by
  intro m g m' g' _ hagree
  refine ⟨_,  Cert.Kernel11Ideal.Value.run_blocks m g,
    (θ_run Cert.Reference11Ideal.defs _ _).mono (fun r h c => ?_) (Cert.Reference11Ideal.Value.run m' g')⟩
  obtain ⟨a0, a1, a2⟩ := hagree c
  obtain ⟨e0, k⟩ := h c
  refine ⟨e0.trans ?_, k⟩
  · rw [Cert.Reference11Ideal.Read.val_main_v32_eq, a0, a1, a2]
    exact (Cert.ConvGate.array m c).symm

/-- The reference keeps its arguments; it has no semaphores. -/
theorem referenceFrame12 : Cert.quiescent_Reference12Ideal (hReference12Ideal := Cert.Reference12Ideal.Gen.facts) := by
  intro m g _
  exact (θ_run Cert.Reference12Ideal.defs _ _).mono
    (fun r h => ⟨fun c => (h c).2.2, sem_eq_zero_of_no_sems rfl r.2⟩) (Cert.Reference12Ideal.Value.run m g)

/-- The gradient of the first modulated norm, which ends in the gradient of the layer's input. -/
theorem value12 : Cert.algebraic_Kernel12Ideal_Reference12Ideal (hKernel12Ideal := Cert.Kernel12Ideal.Gen.facts) (hReference12Ideal := Cert.Reference12Ideal.Gen.facts) := by
  intro m g m' g' _ hagree
  refine ⟨_, _,  Cert.Kernel12Ideal.Value.run_blocks m g,
    (θ_run Cert.Reference12Ideal.defs _ _).mono (fun r h c => ?_) (Cert.Reference12Ideal.Value.run m' g')⟩
  obtain ⟨a0, a1, a2, a3, a4⟩ := hagree c
  obtain ⟨e0, e1, k⟩ := h c
  refine ⟨e0.trans ?_, e1.trans ?_, k⟩
  · rw [Cert.Reference12Ideal.Read.val_main_v49_eq, a0, a1, a2, a3, a4]
    exact (Cert.MixNorm.array5 m c).symm
  · refine (Cert.Reference12Ideal.Read.val_main_v51_eq _ _ _ _).trans ?_
    rw [a0, a1, a3, a4]
    exact (Cert.MixNorm.array6 m c).symm

/-- The reference keeps its arguments; it has no semaphores. -/
theorem referenceFrame13 : Cert.quiescent_Reference13Ideal (hReference13Ideal := Cert.Reference13Ideal.Gen.facts) := by
  intro m g _
  exact (θ_run Cert.Reference13Ideal.defs _ _).mono
    (fun r h => ⟨fun c => (h c).2.2.2, sem_eq_zero_of_no_sems rfl r.2⟩) (Cert.Reference13Ideal.Value.run m g)

/-- The gradient of the second modulated norm and of the gated residual. -/
theorem value13 : Cert.algebraic_Kernel13Ideal_Reference13Ideal (hKernel13Ideal := Cert.Kernel13Ideal.Gen.facts) (hReference13Ideal := Cert.Reference13Ideal.Gen.facts) := by
  intro m g m' g' _ hagree
  refine ⟨_, _, _,  Cert.Kernel13Ideal.Value.run_blocks m g,
    (θ_run Cert.Reference13Ideal.defs _ _).mono (fun r h c => ?_) (Cert.Reference13Ideal.Value.run m' g')⟩
  obtain ⟨a0, a1, a2, a3, a4, a5, a6⟩ := hagree c
  obtain ⟨e0, e1, e2, k⟩ := h c
  refine ⟨e0.trans ?_, e1.trans ?_, e2.trans ?_, k⟩
  · rw [Cert.Reference13Ideal.Read.val_main_v49_eq, a0, a1, a2, a4, a5]
    exact (Cert.FfnNorm.array7 m c).symm
  · rw [Cert.Reference13Ideal.Read.val_main_v59_eq, a0, a1, a2, a4, a5, a6]
    exact (Cert.FfnNorm.array8 m c).symm
  · rw [Cert.Reference13Ideal.Read.val_main_v58_eq, a0, a1, a2, a3, a4, a5]
    exact (Cert.FfnNorm.array9 m c).symm

/-- The reference keeps its arguments; it has no semaphores. -/
theorem referenceFrame14 : Cert.quiescent_Reference14Ideal (hReference14Ideal := Cert.Reference14Ideal.Gen.facts) := by
  intro m g _
  exact (θ_run Cert.Reference14Ideal.defs _ _).mono
    (fun r h => ⟨fun c => (h c).2.2.2, sem_eq_zero_of_no_sems rfl r.2⟩) (Cert.Reference14Ideal.Value.run m g)

/-- The gradient of the norms of the two latents. -/
theorem value14 : Cert.algebraic_Kernel14Ideal_Reference14Ideal (hKernel14Ideal := Cert.Kernel14Ideal.Gen.facts) (hReference14Ideal := Cert.Reference14Ideal.Gen.facts) := by
  intro m g m' g' _ hagree
  refine ⟨_, _, _,  Cert.Kernel14Ideal.Value.run_blocks m g,
    (θ_run Cert.Reference14Ideal.defs _ _).mono (fun r h c => ?_) (Cert.Reference14Ideal.Value.run m' g')⟩
  obtain ⟨a0, a1, a2, a3, a4⟩ := hagree c
  obtain ⟨e0, e1, e2, k⟩ := h c
  refine ⟨e0.trans ?_, e1.trans ?_, e2.trans ?_, k⟩
  · rw [Cert.Reference14Ideal.Read.val_main_v74_eq, a0, a2, a3]
    exact (Cert.LatNorm.array6 m c).symm
  · rw [Cert.Reference14Ideal.Read.val_main_v75_eq, a1, a2, a4]
    exact (Cert.LatNorm.array7 m c).symm
  · refine (Cert.Reference14Ideal.Read.val_main_v73_eq _ _ _).trans ?_
    rw [a0, a1, a2]
    exact (Cert.LatNorm.array8 m c).symm

/-- The reference keeps its arguments; it has no semaphores. -/
theorem referenceFrame15 : Cert.quiescent_Reference15Ideal (hReference15Ideal := Cert.Reference15Ideal.Gen.facts) := by
  intro m g _
  exact (θ_run Cert.Reference15Ideal.defs _ _).mono
    (fun r h => ⟨fun c => (h c).2, sem_eq_zero_of_no_sems rfl r.2⟩) (Cert.Reference15Ideal.Value.run m g)

/-- The gradient of the conditioning product's weight. -/
theorem value15 : Cert.algebraic_Kernel15Ideal_Reference15Ideal (hKernel15Ideal := Cert.Kernel15Ideal.Gen.facts) (hReference15Ideal := Cert.Reference15Ideal.Gen.facts) := by
  intro m g m' g' _ hagree
  refine ⟨_,  Cert.Kernel15Ideal.Value.run_blocks m g,
    (θ_run Cert.Reference15Ideal.defs _ _).mono (fun r h c => ?_) (Cert.Reference15Ideal.Value.run m' g')⟩
  obtain ⟨a0, a1⟩ := hagree c
  obtain ⟨e0, k⟩ := h c
  refine ⟨e0.trans ?_, k⟩
  · rw [Cert.Reference15Ideal.Read.val_main_v4_eq, a0, a1]
    exact (Cert.AdaBwd.array m c).symm

/-- The reference keeps its arguments; it has no semaphores. -/
theorem referenceFrame16 : Cert.quiescent_Reference16Ideal (hReference16Ideal := Cert.Reference16Ideal.Gen.facts) := by
  intro m g _
  exact (θ_run Cert.Reference16Ideal.defs _ _).mono
    (fun r h => ⟨fun c => (h c).2, sem_eq_zero_of_no_sems rfl r.2⟩) (Cert.Reference16Ideal.Value.run m g)

/-- The up projection of the query latent. -/
theorem value16 : Cert.algebraic_Kernel16Ideal_Reference16Ideal (hKernel16Ideal := Cert.Kernel16Ideal.Gen.facts) (hReference16Ideal := Cert.Reference16Ideal.Gen.facts) := by
  intro m g m' g' _ hagree
  refine ⟨_,  Cert.Kernel16Ideal.Value.run_blocks m g,
    (θ_run Cert.Reference16Ideal.defs _ _).mono (fun r h c => ?_) (Cert.Reference16Ideal.Value.run m' g')⟩
  obtain ⟨a0, a1⟩ := hagree c
  obtain ⟨e0, k⟩ := h c
  refine ⟨e0.trans ?_, k⟩
  · rw [Cert.Reference16Ideal.Read.val_main_v5_eq, a0, a1]
    exact (Cert.MulQb.array m c).symm

/-- The reference keeps its arguments; it has no semaphores. -/
theorem referenceFrame17 : Cert.quiescent_Reference17Ideal (hReference17Ideal := Cert.Reference17Ideal.Gen.facts) := by
  intro m g _
  exact (θ_run Cert.Reference17Ideal.defs _ _).mono
    (fun r h => ⟨fun c => (h c).2, sem_eq_zero_of_no_sems rfl r.2⟩) (Cert.Reference17Ideal.Value.run m g)

/-- The up projection of the key and value latent. -/
theorem value17 : Cert.algebraic_Kernel17Ideal_Reference17Ideal (hKernel17Ideal := Cert.Kernel17Ideal.Gen.facts) (hReference17Ideal := Cert.Reference17Ideal.Gen.facts) := by
  intro m g m' g' _ hagree
  refine ⟨_,  Cert.Kernel17Ideal.Value.run_blocks m g,
    (θ_run Cert.Reference17Ideal.defs _ _).mono (fun r h c => ?_) (Cert.Reference17Ideal.Value.run m' g')⟩
  obtain ⟨a0, a1⟩ := hagree c
  obtain ⟨e0, k⟩ := h c
  refine ⟨e0.trans ?_, k⟩
  · rw [Cert.Reference17Ideal.Read.val_main_v9_eq, a0, a1]
    exact (Cert.MulKvb.array m c).symm

/-- The reference keeps its arguments; it has no semaphores. -/
theorem referenceFrame18 : Cert.quiescent_Reference18Ideal (hReference18Ideal := Cert.Reference18Ideal.Gen.facts) := by
  intro m g _
  exact (θ_run Cert.Reference18Ideal.defs _ _).mono
    (fun r h => ⟨fun c => (h c).2, sem_eq_zero_of_no_sems rfl r.2⟩) (Cert.Reference18Ideal.Value.run m g)

/-- The gradient of the query latent. -/
theorem value18 : Cert.algebraic_Kernel18Ideal_Reference18Ideal (hKernel18Ideal := Cert.Kernel18Ideal.Gen.facts) (hReference18Ideal := Cert.Reference18Ideal.Gen.facts) := by
  intro m g m' g' _ hagree
  refine ⟨_,  Cert.Kernel18Ideal.Value.run_blocks m g,
    (θ_run Cert.Reference18Ideal.defs _ _).mono (fun r h c => ?_) (Cert.Reference18Ideal.Value.run m' g')⟩
  obtain ⟨a0, a1⟩ := hagree c
  obtain ⟨e0, k⟩ := h c
  refine ⟨e0.trans ?_, k⟩
  · rw [Cert.Reference18Ideal.Read.val_main_v12_eq, a0, a1]
    exact (Cert.MulQbDx.array m c).symm

/-- The reference keeps its arguments; it has no semaphores. -/
theorem referenceFrame19 : Cert.quiescent_Reference19Ideal (hReference19Ideal := Cert.Reference19Ideal.Gen.facts) := by
  intro m g _
  exact (θ_run Cert.Reference19Ideal.defs _ _).mono
    (fun r h => ⟨fun c => (h c).2, sem_eq_zero_of_no_sems rfl r.2⟩) (Cert.Reference19Ideal.Value.run m g)

/-- The gradient of the key and value latent. -/
theorem value19 : Cert.algebraic_Kernel19Ideal_Reference19Ideal (hKernel19Ideal := Cert.Kernel19Ideal.Gen.facts) (hReference19Ideal := Cert.Reference19Ideal.Gen.facts) := by
  intro m g m' g' _ hagree
  refine ⟨_,  Cert.Kernel19Ideal.Value.run_blocks m g,
    (θ_run Cert.Reference19Ideal.defs _ _).mono (fun r h c => ?_) (Cert.Reference19Ideal.Value.run m' g')⟩
  obtain ⟨a0, a1⟩ := hagree c
  obtain ⟨e0, k⟩ := h c
  refine ⟨e0.trans ?_, k⟩
  · rw [Cert.Reference19Ideal.Read.val_main_v20_eq, a0, a1]
    exact (Cert.MulKvbDx.array m c).symm

/-- The reference keeps its arguments; it has no semaphores. -/
theorem referenceFrame20 : Cert.quiescent_Reference20Ideal (hReference20Ideal := Cert.Reference20Ideal.Gen.facts) := by
  intro m g _
  exact (θ_run Cert.Reference20Ideal.defs _ _).mono
    (fun r h => ⟨fun c => (h c).2, sem_eq_zero_of_no_sems rfl r.2⟩) (Cert.Reference20Ideal.Value.run m g)

/-- The gradient of the query projection's weight. -/
theorem value20 : Cert.algebraic_Kernel20Ideal_Reference20Ideal (hKernel20Ideal := Cert.Kernel20Ideal.Gen.facts) (hReference20Ideal := Cert.Reference20Ideal.Gen.facts) := by
  intro m g m' g' _ hagree
  refine ⟨_,  Cert.Kernel20Ideal.Value.run_blocks m g,
    (θ_run Cert.Reference20Ideal.defs _ _).mono (fun r h c => ?_) (Cert.Reference20Ideal.Value.run m' g')⟩
  obtain ⟨a0, a1⟩ := hagree c
  obtain ⟨e0, k⟩ := h c
  refine ⟨e0.trans ?_, k⟩
  · rw [Cert.Reference20Ideal.Read.val_main_v5_eq, a0, a1]
    exact (Cert.MulQbDw.array m c).symm

/-- The reference keeps its arguments; it has no semaphores. -/
theorem referenceFrame21 : Cert.quiescent_Reference21Ideal (hReference21Ideal := Cert.Reference21Ideal.Gen.facts) := by
  intro m g _
  exact (θ_run Cert.Reference21Ideal.defs _ _).mono
    (fun r h => ⟨fun c => (h c).2, sem_eq_zero_of_no_sems rfl r.2⟩) (Cert.Reference21Ideal.Value.run m g)

/-- The gradient of the key and value projection's weight. -/
theorem value21 : Cert.algebraic_Kernel21Ideal_Reference21Ideal (hKernel21Ideal := Cert.Kernel21Ideal.Gen.facts) (hReference21Ideal := Cert.Reference21Ideal.Gen.facts) := by
  intro m g m' g' _ hagree
  refine ⟨_,  Cert.Kernel21Ideal.Value.run_blocks m g,
    (θ_run Cert.Reference21Ideal.defs _ _).mono (fun r h c => ?_) (Cert.Reference21Ideal.Value.run m' g')⟩
  obtain ⟨a0, a1⟩ := hagree c
  obtain ⟨e0, k⟩ := h c
  refine ⟨e0.trans ?_, k⟩
  · rw [Cert.Reference21Ideal.Read.val_main_v5_eq, a0, a1]
    exact (Cert.MulKvbDw.array m c).symm

/-- The reference keeps its arguments; it has no semaphores. -/
theorem referenceFrame30 : Cert.quiescent_Reference30Ideal (hReference30Ideal := Cert.Reference30Ideal.Gen.facts) := by
  intro m g _
  exact (θ_run Cert.Reference30Ideal.defs _ _).mono
    (fun r h => ⟨fun c => (h c).2.2.2, sem_eq_zero_of_no_sems rfl r.2⟩) (Cert.Reference30Ideal.Value.run m g)

/-- The optimiser step of `w_ada`. -/
theorem value30 : Cert.algebraic_Kernel30Ideal_Reference30Ideal (hKernel30Ideal := Cert.Kernel30Ideal.Gen.facts) (hReference30Ideal := Cert.Reference30Ideal.Gen.facts) := by
  intro m g m' g' _ hagree
  refine ⟨_, _, _,  Cert.Kernel30Ideal.Value.run_blocks m g,
    (θ_run Cert.Reference30Ideal.defs _ _).mono (fun r h c => ?_) (Cert.Reference30Ideal.Value.run m' g')⟩
  obtain ⟨a0, a1, a2, a3⟩ := hagree c
  obtain ⟨e0, e1, e2, k⟩ := h c
  refine ⟨e0.trans ?_, e1.trans ?_, e2.trans ?_, k⟩
  · rw [Cert.Reference30Ideal.Read.val_main_v23_eq, a0, a1, a2, a3]
    exact (Cert.AdamWAda.array4 m c).symm
  · rw [Cert.Reference30Ideal.Read.val_main_v4_eq, a1, a2]
    exact (Cert.AdamWAda.array5 m c).symm
  · rw [Cert.Reference30Ideal.Read.val_main_v10_eq, a1, a3]
    exact (Cert.AdamWAda.array6 m c).symm

/-- The reference keeps its arguments; it has no semaphores. -/
theorem referenceFrame31 : Cert.quiescent_Reference31Ideal (hReference31Ideal := Cert.Reference31Ideal.Gen.facts) := by
  intro m g _
  exact (θ_run Cert.Reference31Ideal.defs _ _).mono
    (fun r h => ⟨fun c => (h c).2.2.2, sem_eq_zero_of_no_sems rfl r.2⟩) (Cert.Reference31Ideal.Value.run m g)

/-- The optimiser step of `w_in`. -/
theorem value31 : Cert.algebraic_Kernel31Ideal_Reference31Ideal (hKernel31Ideal := Cert.Kernel31Ideal.Gen.facts) (hReference31Ideal := Cert.Reference31Ideal.Gen.facts) := by
  intro m g m' g' _ hagree
  refine ⟨_, _, _,  Cert.Kernel31Ideal.Value.run_blocks m g,
    (θ_run Cert.Reference31Ideal.defs _ _).mono (fun r h c => ?_) (Cert.Reference31Ideal.Value.run m' g')⟩
  obtain ⟨a0, a1, a2, a3⟩ := hagree c
  obtain ⟨e0, e1, e2, k⟩ := h c
  refine ⟨e0.trans ?_, e1.trans ?_, e2.trans ?_, k⟩
  · rw [Cert.Reference31Ideal.Read.val_main_v23_eq, a0, a1, a2, a3]
    exact (Cert.AdamWIn.array4 m c).symm
  · rw [Cert.Reference31Ideal.Read.val_main_v4_eq, a1, a2]
    exact (Cert.AdamWIn.array5 m c).symm
  · rw [Cert.Reference31Ideal.Read.val_main_v10_eq, a1, a3]
    exact (Cert.AdamWIn.array6 m c).symm

/-- The reference keeps its arguments; it has no semaphores. -/
theorem referenceFrame32 : Cert.quiescent_Reference32Ideal (hReference32Ideal := Cert.Reference32Ideal.Gen.facts) := by
  intro m g _
  exact (θ_run Cert.Reference32Ideal.defs _ _).mono
    (fun r h => ⟨fun c => (h c).2.2.2, sem_eq_zero_of_no_sems rfl r.2⟩) (Cert.Reference32Ideal.Value.run m g)

/-- The optimiser step of `w_q_b`. -/
theorem value32 : Cert.algebraic_Kernel32Ideal_Reference32Ideal (hKernel32Ideal := Cert.Kernel32Ideal.Gen.facts) (hReference32Ideal := Cert.Reference32Ideal.Gen.facts) := by
  intro m g m' g' _ hagree
  refine ⟨_, _, _,  Cert.Kernel32Ideal.Value.run_blocks m g,
    (θ_run Cert.Reference32Ideal.defs _ _).mono (fun r h c => ?_) (Cert.Reference32Ideal.Value.run m' g')⟩
  obtain ⟨a0, a1, a2, a3⟩ := hagree c
  obtain ⟨e0, e1, e2, k⟩ := h c
  refine ⟨e0.trans ?_, e1.trans ?_, e2.trans ?_, k⟩
  · rw [Cert.Reference32Ideal.Read.val_main_v23_eq, a0, a1, a2, a3]
    exact (Cert.AdamWQB.array4 m c).symm
  · rw [Cert.Reference32Ideal.Read.val_main_v4_eq, a1, a2]
    exact (Cert.AdamWQB.array5 m c).symm
  · rw [Cert.Reference32Ideal.Read.val_main_v10_eq, a1, a3]
    exact (Cert.AdamWQB.array6 m c).symm

/-- The reference keeps its arguments; it has no semaphores. -/
theorem referenceFrame33 : Cert.quiescent_Reference33Ideal (hReference33Ideal := Cert.Reference33Ideal.Gen.facts) := by
  intro m g _
  exact (θ_run Cert.Reference33Ideal.defs _ _).mono
    (fun r h => ⟨fun c => (h c).2.2.2, sem_eq_zero_of_no_sems rfl r.2⟩) (Cert.Reference33Ideal.Value.run m g)

/-- The optimiser step of `w_kv_b`. -/
theorem value33 : Cert.algebraic_Kernel33Ideal_Reference33Ideal (hKernel33Ideal := Cert.Kernel33Ideal.Gen.facts) (hReference33Ideal := Cert.Reference33Ideal.Gen.facts) := by
  intro m g m' g' _ hagree
  refine ⟨_, _, _,  Cert.Kernel33Ideal.Value.run_blocks m g,
    (θ_run Cert.Reference33Ideal.defs _ _).mono (fun r h c => ?_) (Cert.Reference33Ideal.Value.run m' g')⟩
  obtain ⟨a0, a1, a2, a3⟩ := hagree c
  obtain ⟨e0, e1, e2, k⟩ := h c
  refine ⟨e0.trans ?_, e1.trans ?_, e2.trans ?_, k⟩
  · rw [Cert.Reference33Ideal.Read.val_main_v23_eq, a0, a1, a2, a3]
    exact (Cert.AdamWKvB.array4 m c).symm
  · rw [Cert.Reference33Ideal.Read.val_main_v4_eq, a1, a2]
    exact (Cert.AdamWKvB.array5 m c).symm
  · rw [Cert.Reference33Ideal.Read.val_main_v10_eq, a1, a3]
    exact (Cert.AdamWKvB.array6 m c).symm

/-- The reference keeps its arguments; it has no semaphores. -/
theorem referenceFrame34 : Cert.quiescent_Reference34Ideal (hReference34Ideal := Cert.Reference34Ideal.Gen.facts) := by
  intro m g _
  exact (θ_run Cert.Reference34Ideal.defs _ _).mono
    (fun r h => ⟨fun c => (h c).2.2.2, sem_eq_zero_of_no_sems rfl r.2⟩) (Cert.Reference34Ideal.Value.run m g)

/-- The optimiser step of `w_o`. -/
theorem value34 : Cert.algebraic_Kernel34Ideal_Reference34Ideal (hKernel34Ideal := Cert.Kernel34Ideal.Gen.facts) (hReference34Ideal := Cert.Reference34Ideal.Gen.facts) := by
  intro m g m' g' _ hagree
  refine ⟨_, _, _,  Cert.Kernel34Ideal.Value.run_blocks m g,
    (θ_run Cert.Reference34Ideal.defs _ _).mono (fun r h c => ?_) (Cert.Reference34Ideal.Value.run m' g')⟩
  obtain ⟨a0, a1, a2, a3⟩ := hagree c
  obtain ⟨e0, e1, e2, k⟩ := h c
  refine ⟨e0.trans ?_, e1.trans ?_, e2.trans ?_, k⟩
  · rw [Cert.Reference34Ideal.Read.val_main_v23_eq, a0, a1, a2, a3]
    exact (Cert.AdamWO.array4 m c).symm
  · rw [Cert.Reference34Ideal.Read.val_main_v4_eq, a1, a2]
    exact (Cert.AdamWO.array5 m c).symm
  · rw [Cert.Reference34Ideal.Read.val_main_v10_eq, a1, a3]
    exact (Cert.AdamWO.array6 m c).symm

/-- The reference keeps its arguments; it has no semaphores. -/
theorem referenceFrame35 : Cert.quiescent_Reference35Ideal (hReference35Ideal := Cert.Reference35Ideal.Gen.facts) := by
  intro m g _
  exact (θ_run Cert.Reference35Ideal.defs _ _).mono
    (fun r h => ⟨fun c => (h c).2.2.2, sem_eq_zero_of_no_sems rfl r.2⟩) (Cert.Reference35Ideal.Value.run m g)

/-- The optimiser step of `w_up`. -/
theorem value35 : Cert.algebraic_Kernel35Ideal_Reference35Ideal (hKernel35Ideal := Cert.Kernel35Ideal.Gen.facts) (hReference35Ideal := Cert.Reference35Ideal.Gen.facts) := by
  intro m g m' g' _ hagree
  refine ⟨_, _, _,  Cert.Kernel35Ideal.Value.run_blocks m g,
    (θ_run Cert.Reference35Ideal.defs _ _).mono (fun r h c => ?_) (Cert.Reference35Ideal.Value.run m' g')⟩
  obtain ⟨a0, a1, a2, a3⟩ := hagree c
  obtain ⟨e0, e1, e2, k⟩ := h c
  refine ⟨e0.trans ?_, e1.trans ?_, e2.trans ?_, k⟩
  · rw [Cert.Reference35Ideal.Read.val_main_v23_eq, a0, a1, a2, a3]
    exact (Cert.AdamWUp.array4 m c).symm
  · rw [Cert.Reference35Ideal.Read.val_main_v4_eq, a1, a2]
    exact (Cert.AdamWUp.array5 m c).symm
  · rw [Cert.Reference35Ideal.Read.val_main_v10_eq, a1, a3]
    exact (Cert.AdamWUp.array6 m c).symm

/-- The reference keeps its arguments; it has no semaphores. -/
theorem referenceFrame36 : Cert.quiescent_Reference36Ideal (hReference36Ideal := Cert.Reference36Ideal.Gen.facts) := by
  intro m g _
  exact (θ_run Cert.Reference36Ideal.defs _ _).mono
    (fun r h => ⟨fun c => (h c).2.2.2, sem_eq_zero_of_no_sems rfl r.2⟩) (Cert.Reference36Ideal.Value.run m g)

/-- The optimiser step of `w_conv`. -/
theorem value36 : Cert.algebraic_Kernel36Ideal_Reference36Ideal (hKernel36Ideal := Cert.Kernel36Ideal.Gen.facts) (hReference36Ideal := Cert.Reference36Ideal.Gen.facts) := by
  intro m g m' g' _ hagree
  refine ⟨_, _, _,  Cert.Kernel36Ideal.Value.run_blocks m g,
    (θ_run Cert.Reference36Ideal.defs _ _).mono (fun r h c => ?_) (Cert.Reference36Ideal.Value.run m' g')⟩
  obtain ⟨a0, a1, a2, a3⟩ := hagree c
  obtain ⟨e0, e1, e2, k⟩ := h c
  refine ⟨e0.trans ?_, e1.trans ?_, e2.trans ?_, k⟩
  · rw [Cert.Reference36Ideal.Read.val_main_v23_eq, a0, a1, a2, a3]
    exact (Cert.AdamWConv.array4 m c).symm
  · rw [Cert.Reference36Ideal.Read.val_main_v4_eq, a1, a2]
    exact (Cert.AdamWConv.array5 m c).symm
  · rw [Cert.Reference36Ideal.Read.val_main_v10_eq, a1, a3]
    exact (Cert.AdamWConv.array6 m c).symm

/-- The reference keeps its arguments; it has no semaphores. -/
theorem referenceFrame37 : Cert.quiescent_Reference37Ideal (hReference37Ideal := Cert.Reference37Ideal.Gen.facts) := by
  intro m g _
  exact (θ_run Cert.Reference37Ideal.defs _ _).mono
    (fun r h => ⟨fun c => (h c).2.2.2, sem_eq_zero_of_no_sems rfl r.2⟩) (Cert.Reference37Ideal.Value.run m g)

/-- The optimiser step of `w_down`. -/
theorem value37 : Cert.algebraic_Kernel37Ideal_Reference37Ideal (hKernel37Ideal := Cert.Kernel37Ideal.Gen.facts) (hReference37Ideal := Cert.Reference37Ideal.Gen.facts) := by
  intro m g m' g' _ hagree
  refine ⟨_, _, _,  Cert.Kernel37Ideal.Value.run_blocks m g,
    (θ_run Cert.Reference37Ideal.defs _ _).mono (fun r h c => ?_) (Cert.Reference37Ideal.Value.run m' g')⟩
  obtain ⟨a0, a1, a2, a3⟩ := hagree c
  obtain ⟨e0, e1, e2, k⟩ := h c
  refine ⟨e0.trans ?_, e1.trans ?_, e2.trans ?_, k⟩
  · rw [Cert.Reference37Ideal.Read.val_main_v23_eq, a0, a1, a2, a3]
    exact (Cert.AdamWDown.array4 m c).symm
  · rw [Cert.Reference37Ideal.Read.val_main_v4_eq, a1, a2]
    exact (Cert.AdamWDown.array5 m c).symm
  · rw [Cert.Reference37Ideal.Read.val_main_v10_eq, a1, a3]
    exact (Cert.AdamWDown.array6 m c).symm

/-- The reference keeps its arguments; it has no semaphores. -/
theorem referenceFrame38 : Cert.quiescent_Reference38Ideal (hReference38Ideal := Cert.Reference38Ideal.Gen.facts) := by
  intro m g _
  exact (θ_run Cert.Reference38Ideal.defs _ _).mono
    (fun r h => ⟨fun c => (h c).2.2.2.2.2.2.2.2.2.2.2.2.2.2.2.2.2.2.2.2.2.2.2.2.2.2.2.2.2.2.2.2.2.2.2.2, sem_eq_zero_of_no_sems rfl r.2⟩) (Cert.Reference38Ideal.Value.run m g)

set_option maxHeartbeats 8000000 in
/-- The optimiser step of the twelve vectors. -/
theorem value38 : Cert.algebraic_Kernel38Ideal_Reference38Ideal (hKernel38Ideal := Cert.Kernel38Ideal.Gen.facts) (hReference38Ideal := Cert.Reference38Ideal.Gen.facts) := by
  intro m g m' g' _ hagree
  refine ⟨_, _, _, _, _, _, _, _, _, _, _, _, _, _, _, _, _, _, _, _, _, _, _, _, _, _, _, _, _, _, _, _, _, _, _, _,  Cert.VectorsEnd.ends m g,
    (θ_run Cert.Reference38Ideal.defs _ _).mono (fun r h c => ?_) (Cert.Reference38Ideal.Value.run m' g')⟩
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47⟩ := hagree c
  obtain ⟨e0, e1, e2, e3, e4, e5, e6, e7, e8, e9, e10, e11, e12, e13, e14, e15, e16, e17, e18, e19, e20, e21, e22, e23, e24, e25, e26, e27, e28, e29, e30, e31, e32, e33, e34, e35, k⟩ := h c
  refine ⟨e0.trans ?_, e1.trans ?_, e2.trans ?_, e3.trans ?_, e4.trans ?_, e5.trans ?_, e6.trans ?_, e7.trans ?_, e8.trans ?_, e9.trans ?_, e10.trans ?_, e11.trans ?_, e12.trans ?_, e13.trans ?_, e14.trans ?_, e15.trans ?_, e16.trans ?_, e17.trans ?_, e18.trans ?_, e19.trans ?_, e20.trans ?_, e21.trans ?_, e22.trans ?_, e23.trans ?_, e24.trans ?_, e25.trans ?_, e26.trans ?_, e27.trans ?_, e28.trans ?_, e29.trans ?_, e30.trans ?_, e31.trans ?_, e32.trans ?_, e33.trans ?_, e34.trans ?_, e35.trans ?_, k⟩
  · refine (Cert.Reference38Ideal.Read.val_main_v23_eq (StableHlo.launchContents m' c)).trans ?_
    show Cert.Reference38Ideal.Read.val_main_v23 (F := Ideal) (m' ((c.tc : Thread Cert.Reference38Ideal.nD Cert.Reference38Ideal.τ).loc Cert.Reference38Ideal.main_arg0)) (m' ((c.tc : Thread Cert.Reference38Ideal.nD Cert.Reference38Ideal.τ).loc Cert.Reference38Ideal.main_arg12)) (m' ((c.tc : Thread Cert.Reference38Ideal.nD Cert.Reference38Ideal.τ).loc Cert.Reference38Ideal.main_arg24)) (m' ((c.tc : Thread Cert.Reference38Ideal.nD Cert.Reference38Ideal.τ).loc Cert.Reference38Ideal.main_arg36)) = _
    rw [a0, a12, a24, a36]
    exact (Cert.AdamVectors.array48 m c).symm
  · refine (Cert.Reference38Ideal.Read.val_main_v47_eq (StableHlo.launchContents m' c)).trans ?_
    show Cert.Reference38Ideal.Read.val_main_v47 (F := Ideal) (m' ((c.tc : Thread Cert.Reference38Ideal.nD Cert.Reference38Ideal.τ).loc Cert.Reference38Ideal.main_arg1)) (m' ((c.tc : Thread Cert.Reference38Ideal.nD Cert.Reference38Ideal.τ).loc Cert.Reference38Ideal.main_arg13)) (m' ((c.tc : Thread Cert.Reference38Ideal.nD Cert.Reference38Ideal.τ).loc Cert.Reference38Ideal.main_arg25)) (m' ((c.tc : Thread Cert.Reference38Ideal.nD Cert.Reference38Ideal.τ).loc Cert.Reference38Ideal.main_arg37)) = _
    rw [a1, a13, a25, a37]
    exact (Cert.AdamVectors.array49 m c).symm
  · refine (Cert.Reference38Ideal.Read.val_main_v71_eq (StableHlo.launchContents m' c)).trans ?_
    show Cert.Reference38Ideal.Read.val_main_v71 (F := Ideal) (m' ((c.tc : Thread Cert.Reference38Ideal.nD Cert.Reference38Ideal.τ).loc Cert.Reference38Ideal.main_arg2)) (m' ((c.tc : Thread Cert.Reference38Ideal.nD Cert.Reference38Ideal.τ).loc Cert.Reference38Ideal.main_arg14)) (m' ((c.tc : Thread Cert.Reference38Ideal.nD Cert.Reference38Ideal.τ).loc Cert.Reference38Ideal.main_arg26)) (m' ((c.tc : Thread Cert.Reference38Ideal.nD Cert.Reference38Ideal.τ).loc Cert.Reference38Ideal.main_arg38)) = _
    rw [a2, a14, a26, a38]
    exact (Cert.AdamVectors.array50 m c).symm
  · refine (Cert.Reference38Ideal.Read.val_main_v95_eq (StableHlo.launchContents m' c)).trans ?_
    show Cert.Reference38Ideal.Read.val_main_v95 (F := Ideal) (m' ((c.tc : Thread Cert.Reference38Ideal.nD Cert.Reference38Ideal.τ).loc Cert.Reference38Ideal.main_arg3)) (m' ((c.tc : Thread Cert.Reference38Ideal.nD Cert.Reference38Ideal.τ).loc Cert.Reference38Ideal.main_arg15)) (m' ((c.tc : Thread Cert.Reference38Ideal.nD Cert.Reference38Ideal.τ).loc Cert.Reference38Ideal.main_arg27)) (m' ((c.tc : Thread Cert.Reference38Ideal.nD Cert.Reference38Ideal.τ).loc Cert.Reference38Ideal.main_arg39)) = _
    rw [a3, a15, a27, a39]
    exact (Cert.AdamVectors.array51 m c).symm
  · refine (Cert.Reference38Ideal.Read.val_main_v119_eq (StableHlo.launchContents m' c)).trans ?_
    show Cert.Reference38Ideal.Read.val_main_v119 (F := Ideal) (m' ((c.tc : Thread Cert.Reference38Ideal.nD Cert.Reference38Ideal.τ).loc Cert.Reference38Ideal.main_arg4)) (m' ((c.tc : Thread Cert.Reference38Ideal.nD Cert.Reference38Ideal.τ).loc Cert.Reference38Ideal.main_arg16)) (m' ((c.tc : Thread Cert.Reference38Ideal.nD Cert.Reference38Ideal.τ).loc Cert.Reference38Ideal.main_arg28)) (m' ((c.tc : Thread Cert.Reference38Ideal.nD Cert.Reference38Ideal.τ).loc Cert.Reference38Ideal.main_arg40)) = _
    rw [a4, a16, a28, a40]
    exact (Cert.AdamVectors.array52 m c).symm
  · refine (Cert.Reference38Ideal.Read.val_main_v143_eq (StableHlo.launchContents m' c)).trans ?_
    show Cert.Reference38Ideal.Read.val_main_v143 (F := Ideal) (m' ((c.tc : Thread Cert.Reference38Ideal.nD Cert.Reference38Ideal.τ).loc Cert.Reference38Ideal.main_arg5)) (m' ((c.tc : Thread Cert.Reference38Ideal.nD Cert.Reference38Ideal.τ).loc Cert.Reference38Ideal.main_arg17)) (m' ((c.tc : Thread Cert.Reference38Ideal.nD Cert.Reference38Ideal.τ).loc Cert.Reference38Ideal.main_arg29)) (m' ((c.tc : Thread Cert.Reference38Ideal.nD Cert.Reference38Ideal.τ).loc Cert.Reference38Ideal.main_arg41)) = _
    rw [a5, a17, a29, a41]
    exact (Cert.AdamVectors.array53 m c).symm
  · refine (Cert.Reference38Ideal.Read.val_main_v167_eq (StableHlo.launchContents m' c)).trans ?_
    show Cert.Reference38Ideal.Read.val_main_v167 (F := Ideal) (m' ((c.tc : Thread Cert.Reference38Ideal.nD Cert.Reference38Ideal.τ).loc Cert.Reference38Ideal.main_arg6)) (m' ((c.tc : Thread Cert.Reference38Ideal.nD Cert.Reference38Ideal.τ).loc Cert.Reference38Ideal.main_arg18)) (m' ((c.tc : Thread Cert.Reference38Ideal.nD Cert.Reference38Ideal.τ).loc Cert.Reference38Ideal.main_arg30)) (m' ((c.tc : Thread Cert.Reference38Ideal.nD Cert.Reference38Ideal.τ).loc Cert.Reference38Ideal.main_arg42)) = _
    rw [a6, a18, a30, a42]
    exact (Cert.AdamVectors.array54 m c).symm
  · refine (Cert.Reference38Ideal.Read.val_main_v191_eq (StableHlo.launchContents m' c)).trans ?_
    show Cert.Reference38Ideal.Read.val_main_v191 (F := Ideal) (m' ((c.tc : Thread Cert.Reference38Ideal.nD Cert.Reference38Ideal.τ).loc Cert.Reference38Ideal.main_arg7)) (m' ((c.tc : Thread Cert.Reference38Ideal.nD Cert.Reference38Ideal.τ).loc Cert.Reference38Ideal.main_arg19)) (m' ((c.tc : Thread Cert.Reference38Ideal.nD Cert.Reference38Ideal.τ).loc Cert.Reference38Ideal.main_arg31)) (m' ((c.tc : Thread Cert.Reference38Ideal.nD Cert.Reference38Ideal.τ).loc Cert.Reference38Ideal.main_arg43)) = _
    rw [a7, a19, a31, a43]
    exact (Cert.AdamVectors.array55 m c).symm
  · refine (Cert.Reference38Ideal.Read.val_main_v215_eq (StableHlo.launchContents m' c)).trans ?_
    show Cert.Reference38Ideal.Read.val_main_v215 (F := Ideal) (m' ((c.tc : Thread Cert.Reference38Ideal.nD Cert.Reference38Ideal.τ).loc Cert.Reference38Ideal.main_arg8)) (m' ((c.tc : Thread Cert.Reference38Ideal.nD Cert.Reference38Ideal.τ).loc Cert.Reference38Ideal.main_arg20)) (m' ((c.tc : Thread Cert.Reference38Ideal.nD Cert.Reference38Ideal.τ).loc Cert.Reference38Ideal.main_arg32)) (m' ((c.tc : Thread Cert.Reference38Ideal.nD Cert.Reference38Ideal.τ).loc Cert.Reference38Ideal.main_arg44)) = _
    rw [a8, a20, a32, a44]
    exact (Cert.AdamVectors.array56 m c).symm
  · refine (Cert.Reference38Ideal.Read.val_main_v239_eq (StableHlo.launchContents m' c)).trans ?_
    show Cert.Reference38Ideal.Read.val_main_v239 (F := Ideal) (m' ((c.tc : Thread Cert.Reference38Ideal.nD Cert.Reference38Ideal.τ).loc Cert.Reference38Ideal.main_arg9)) (m' ((c.tc : Thread Cert.Reference38Ideal.nD Cert.Reference38Ideal.τ).loc Cert.Reference38Ideal.main_arg21)) (m' ((c.tc : Thread Cert.Reference38Ideal.nD Cert.Reference38Ideal.τ).loc Cert.Reference38Ideal.main_arg33)) (m' ((c.tc : Thread Cert.Reference38Ideal.nD Cert.Reference38Ideal.τ).loc Cert.Reference38Ideal.main_arg45)) = _
    rw [a9, a21, a33, a45]
    exact (Cert.AdamVectors.array57 m c).symm
  · refine (Cert.Reference38Ideal.Read.val_main_v263_eq (StableHlo.launchContents m' c)).trans ?_
    show Cert.Reference38Ideal.Read.val_main_v263 (F := Ideal) (m' ((c.tc : Thread Cert.Reference38Ideal.nD Cert.Reference38Ideal.τ).loc Cert.Reference38Ideal.main_arg10)) (m' ((c.tc : Thread Cert.Reference38Ideal.nD Cert.Reference38Ideal.τ).loc Cert.Reference38Ideal.main_arg22)) (m' ((c.tc : Thread Cert.Reference38Ideal.nD Cert.Reference38Ideal.τ).loc Cert.Reference38Ideal.main_arg34)) (m' ((c.tc : Thread Cert.Reference38Ideal.nD Cert.Reference38Ideal.τ).loc Cert.Reference38Ideal.main_arg46)) = _
    rw [a10, a22, a34, a46]
    exact (Cert.AdamVectors.array58 m c).symm
  · refine (Cert.Reference38Ideal.Read.val_main_v287_eq (StableHlo.launchContents m' c)).trans ?_
    show Cert.Reference38Ideal.Read.val_main_v287 (F := Ideal) (m' ((c.tc : Thread Cert.Reference38Ideal.nD Cert.Reference38Ideal.τ).loc Cert.Reference38Ideal.main_arg11)) (m' ((c.tc : Thread Cert.Reference38Ideal.nD Cert.Reference38Ideal.τ).loc Cert.Reference38Ideal.main_arg23)) (m' ((c.tc : Thread Cert.Reference38Ideal.nD Cert.Reference38Ideal.τ).loc Cert.Reference38Ideal.main_arg35)) (m' ((c.tc : Thread Cert.Reference38Ideal.nD Cert.Reference38Ideal.τ).loc Cert.Reference38Ideal.main_arg47)) = _
    rw [a11, a23, a35, a47]
    exact (Cert.AdamVectors.array59 m c).symm
  · refine (Cert.Reference38Ideal.Read.val_main_v4_eq (StableHlo.launchContents m' c)).trans ?_
    show Cert.Reference38Ideal.Read.val_main_v4 (F := Ideal) (m' ((c.tc : Thread Cert.Reference38Ideal.nD Cert.Reference38Ideal.τ).loc Cert.Reference38Ideal.main_arg12)) (m' ((c.tc : Thread Cert.Reference38Ideal.nD Cert.Reference38Ideal.τ).loc Cert.Reference38Ideal.main_arg24)) = _
    rw [a12, a24]
    exact (Cert.AdamVectors.array60 m c).symm
  · refine (Cert.Reference38Ideal.Read.val_main_v28_eq (StableHlo.launchContents m' c)).trans ?_
    show Cert.Reference38Ideal.Read.val_main_v28 (F := Ideal) (m' ((c.tc : Thread Cert.Reference38Ideal.nD Cert.Reference38Ideal.τ).loc Cert.Reference38Ideal.main_arg13)) (m' ((c.tc : Thread Cert.Reference38Ideal.nD Cert.Reference38Ideal.τ).loc Cert.Reference38Ideal.main_arg25)) = _
    rw [a13, a25]
    exact (Cert.AdamVectors.array61 m c).symm
  · refine (Cert.Reference38Ideal.Read.val_main_v52_eq (StableHlo.launchContents m' c)).trans ?_
    show Cert.Reference38Ideal.Read.val_main_v52 (F := Ideal) (m' ((c.tc : Thread Cert.Reference38Ideal.nD Cert.Reference38Ideal.τ).loc Cert.Reference38Ideal.main_arg14)) (m' ((c.tc : Thread Cert.Reference38Ideal.nD Cert.Reference38Ideal.τ).loc Cert.Reference38Ideal.main_arg26)) = _
    rw [a14, a26]
    exact (Cert.AdamVectors.array62 m c).symm
  · refine (Cert.Reference38Ideal.Read.val_main_v76_eq (StableHlo.launchContents m' c)).trans ?_
    show Cert.Reference38Ideal.Read.val_main_v76 (F := Ideal) (m' ((c.tc : Thread Cert.Reference38Ideal.nD Cert.Reference38Ideal.τ).loc Cert.Reference38Ideal.main_arg15)) (m' ((c.tc : Thread Cert.Reference38Ideal.nD Cert.Reference38Ideal.τ).loc Cert.Reference38Ideal.main_arg27)) = _
    rw [a15, a27]
    exact (Cert.AdamVectors.array63 m c).symm
  · refine (Cert.Reference38Ideal.Read.val_main_v100_eq (StableHlo.launchContents m' c)).trans ?_
    show Cert.Reference38Ideal.Read.val_main_v100 (F := Ideal) (m' ((c.tc : Thread Cert.Reference38Ideal.nD Cert.Reference38Ideal.τ).loc Cert.Reference38Ideal.main_arg16)) (m' ((c.tc : Thread Cert.Reference38Ideal.nD Cert.Reference38Ideal.τ).loc Cert.Reference38Ideal.main_arg28)) = _
    rw [a16, a28]
    exact (Cert.AdamVectors.array64 m c).symm
  · refine (Cert.Reference38Ideal.Read.val_main_v124_eq (StableHlo.launchContents m' c)).trans ?_
    show Cert.Reference38Ideal.Read.val_main_v124 (F := Ideal) (m' ((c.tc : Thread Cert.Reference38Ideal.nD Cert.Reference38Ideal.τ).loc Cert.Reference38Ideal.main_arg17)) (m' ((c.tc : Thread Cert.Reference38Ideal.nD Cert.Reference38Ideal.τ).loc Cert.Reference38Ideal.main_arg29)) = _
    rw [a17, a29]
    exact (Cert.AdamVectors.array65 m c).symm
  · refine (Cert.Reference38Ideal.Read.val_main_v148_eq (StableHlo.launchContents m' c)).trans ?_
    show Cert.Reference38Ideal.Read.val_main_v148 (F := Ideal) (m' ((c.tc : Thread Cert.Reference38Ideal.nD Cert.Reference38Ideal.τ).loc Cert.Reference38Ideal.main_arg18)) (m' ((c.tc : Thread Cert.Reference38Ideal.nD Cert.Reference38Ideal.τ).loc Cert.Reference38Ideal.main_arg30)) = _
    rw [a18, a30]
    exact (Cert.AdamVectors.array66 m c).symm
  · refine (Cert.Reference38Ideal.Read.val_main_v172_eq (StableHlo.launchContents m' c)).trans ?_
    show Cert.Reference38Ideal.Read.val_main_v172 (F := Ideal) (m' ((c.tc : Thread Cert.Reference38Ideal.nD Cert.Reference38Ideal.τ).loc Cert.Reference38Ideal.main_arg19)) (m' ((c.tc : Thread Cert.Reference38Ideal.nD Cert.Reference38Ideal.τ).loc Cert.Reference38Ideal.main_arg31)) = _
    rw [a19, a31]
    exact (Cert.AdamVectors.array67 m c).symm
  · refine (Cert.Reference38Ideal.Read.val_main_v196_eq (StableHlo.launchContents m' c)).trans ?_
    show Cert.Reference38Ideal.Read.val_main_v196 (F := Ideal) (m' ((c.tc : Thread Cert.Reference38Ideal.nD Cert.Reference38Ideal.τ).loc Cert.Reference38Ideal.main_arg20)) (m' ((c.tc : Thread Cert.Reference38Ideal.nD Cert.Reference38Ideal.τ).loc Cert.Reference38Ideal.main_arg32)) = _
    rw [a20, a32]
    exact (Cert.AdamVectors.array68 m c).symm
  · refine (Cert.Reference38Ideal.Read.val_main_v220_eq (StableHlo.launchContents m' c)).trans ?_
    show Cert.Reference38Ideal.Read.val_main_v220 (F := Ideal) (m' ((c.tc : Thread Cert.Reference38Ideal.nD Cert.Reference38Ideal.τ).loc Cert.Reference38Ideal.main_arg21)) (m' ((c.tc : Thread Cert.Reference38Ideal.nD Cert.Reference38Ideal.τ).loc Cert.Reference38Ideal.main_arg33)) = _
    rw [a21, a33]
    exact (Cert.AdamVectors.array69 m c).symm
  · refine (Cert.Reference38Ideal.Read.val_main_v244_eq (StableHlo.launchContents m' c)).trans ?_
    show Cert.Reference38Ideal.Read.val_main_v244 (F := Ideal) (m' ((c.tc : Thread Cert.Reference38Ideal.nD Cert.Reference38Ideal.τ).loc Cert.Reference38Ideal.main_arg22)) (m' ((c.tc : Thread Cert.Reference38Ideal.nD Cert.Reference38Ideal.τ).loc Cert.Reference38Ideal.main_arg34)) = _
    rw [a22, a34]
    exact (Cert.AdamVectors.array70 m c).symm
  · refine (Cert.Reference38Ideal.Read.val_main_v268_eq (StableHlo.launchContents m' c)).trans ?_
    show Cert.Reference38Ideal.Read.val_main_v268 (F := Ideal) (m' ((c.tc : Thread Cert.Reference38Ideal.nD Cert.Reference38Ideal.τ).loc Cert.Reference38Ideal.main_arg23)) (m' ((c.tc : Thread Cert.Reference38Ideal.nD Cert.Reference38Ideal.τ).loc Cert.Reference38Ideal.main_arg35)) = _
    rw [a23, a35]
    exact (Cert.AdamVectors.array71 m c).symm
  · refine (Cert.Reference38Ideal.Read.val_main_v10_eq (StableHlo.launchContents m' c)).trans ?_
    show Cert.Reference38Ideal.Read.val_main_v10 (F := Ideal) (m' ((c.tc : Thread Cert.Reference38Ideal.nD Cert.Reference38Ideal.τ).loc Cert.Reference38Ideal.main_arg12)) (m' ((c.tc : Thread Cert.Reference38Ideal.nD Cert.Reference38Ideal.τ).loc Cert.Reference38Ideal.main_arg36)) = _
    rw [a12, a36]
    exact (Cert.AdamVectors.array72 m c).symm
  · refine (Cert.Reference38Ideal.Read.val_main_v34_eq (StableHlo.launchContents m' c)).trans ?_
    show Cert.Reference38Ideal.Read.val_main_v34 (F := Ideal) (m' ((c.tc : Thread Cert.Reference38Ideal.nD Cert.Reference38Ideal.τ).loc Cert.Reference38Ideal.main_arg13)) (m' ((c.tc : Thread Cert.Reference38Ideal.nD Cert.Reference38Ideal.τ).loc Cert.Reference38Ideal.main_arg37)) = _
    rw [a13, a37]
    exact (Cert.AdamVectors.array73 m c).symm
  · refine (Cert.Reference38Ideal.Read.val_main_v58_eq (StableHlo.launchContents m' c)).trans ?_
    show Cert.Reference38Ideal.Read.val_main_v58 (F := Ideal) (m' ((c.tc : Thread Cert.Reference38Ideal.nD Cert.Reference38Ideal.τ).loc Cert.Reference38Ideal.main_arg14)) (m' ((c.tc : Thread Cert.Reference38Ideal.nD Cert.Reference38Ideal.τ).loc Cert.Reference38Ideal.main_arg38)) = _
    rw [a14, a38]
    exact (Cert.AdamVectors.array74 m c).symm
  · refine (Cert.Reference38Ideal.Read.val_main_v82_eq (StableHlo.launchContents m' c)).trans ?_
    show Cert.Reference38Ideal.Read.val_main_v82 (F := Ideal) (m' ((c.tc : Thread Cert.Reference38Ideal.nD Cert.Reference38Ideal.τ).loc Cert.Reference38Ideal.main_arg15)) (m' ((c.tc : Thread Cert.Reference38Ideal.nD Cert.Reference38Ideal.τ).loc Cert.Reference38Ideal.main_arg39)) = _
    rw [a15, a39]
    exact (Cert.AdamVectors.array75 m c).symm
  · refine (Cert.Reference38Ideal.Read.val_main_v106_eq (StableHlo.launchContents m' c)).trans ?_
    show Cert.Reference38Ideal.Read.val_main_v106 (F := Ideal) (m' ((c.tc : Thread Cert.Reference38Ideal.nD Cert.Reference38Ideal.τ).loc Cert.Reference38Ideal.main_arg16)) (m' ((c.tc : Thread Cert.Reference38Ideal.nD Cert.Reference38Ideal.τ).loc Cert.Reference38Ideal.main_arg40)) = _
    rw [a16, a40]
    exact (Cert.AdamVectors.array76 m c).symm
  · refine (Cert.Reference38Ideal.Read.val_main_v130_eq (StableHlo.launchContents m' c)).trans ?_
    show Cert.Reference38Ideal.Read.val_main_v130 (F := Ideal) (m' ((c.tc : Thread Cert.Reference38Ideal.nD Cert.Reference38Ideal.τ).loc Cert.Reference38Ideal.main_arg17)) (m' ((c.tc : Thread Cert.Reference38Ideal.nD Cert.Reference38Ideal.τ).loc Cert.Reference38Ideal.main_arg41)) = _
    rw [a17, a41]
    exact (Cert.AdamVectors.array77 m c).symm
  · refine (Cert.Reference38Ideal.Read.val_main_v154_eq (StableHlo.launchContents m' c)).trans ?_
    show Cert.Reference38Ideal.Read.val_main_v154 (F := Ideal) (m' ((c.tc : Thread Cert.Reference38Ideal.nD Cert.Reference38Ideal.τ).loc Cert.Reference38Ideal.main_arg18)) (m' ((c.tc : Thread Cert.Reference38Ideal.nD Cert.Reference38Ideal.τ).loc Cert.Reference38Ideal.main_arg42)) = _
    rw [a18, a42]
    exact (Cert.AdamVectors.array78 m c).symm
  · refine (Cert.Reference38Ideal.Read.val_main_v178_eq (StableHlo.launchContents m' c)).trans ?_
    show Cert.Reference38Ideal.Read.val_main_v178 (F := Ideal) (m' ((c.tc : Thread Cert.Reference38Ideal.nD Cert.Reference38Ideal.τ).loc Cert.Reference38Ideal.main_arg19)) (m' ((c.tc : Thread Cert.Reference38Ideal.nD Cert.Reference38Ideal.τ).loc Cert.Reference38Ideal.main_arg43)) = _
    rw [a19, a43]
    exact (Cert.AdamVectors.array79 m c).symm
  · refine (Cert.Reference38Ideal.Read.val_main_v202_eq (StableHlo.launchContents m' c)).trans ?_
    show Cert.Reference38Ideal.Read.val_main_v202 (F := Ideal) (m' ((c.tc : Thread Cert.Reference38Ideal.nD Cert.Reference38Ideal.τ).loc Cert.Reference38Ideal.main_arg20)) (m' ((c.tc : Thread Cert.Reference38Ideal.nD Cert.Reference38Ideal.τ).loc Cert.Reference38Ideal.main_arg44)) = _
    rw [a20, a44]
    exact (Cert.AdamVectors.array80 m c).symm
  · refine (Cert.Reference38Ideal.Read.val_main_v226_eq (StableHlo.launchContents m' c)).trans ?_
    show Cert.Reference38Ideal.Read.val_main_v226 (F := Ideal) (m' ((c.tc : Thread Cert.Reference38Ideal.nD Cert.Reference38Ideal.τ).loc Cert.Reference38Ideal.main_arg21)) (m' ((c.tc : Thread Cert.Reference38Ideal.nD Cert.Reference38Ideal.τ).loc Cert.Reference38Ideal.main_arg45)) = _
    rw [a21, a45]
    exact (Cert.AdamVectors.array81 m c).symm
  · refine (Cert.Reference38Ideal.Read.val_main_v250_eq (StableHlo.launchContents m' c)).trans ?_
    show Cert.Reference38Ideal.Read.val_main_v250 (F := Ideal) (m' ((c.tc : Thread Cert.Reference38Ideal.nD Cert.Reference38Ideal.τ).loc Cert.Reference38Ideal.main_arg22)) (m' ((c.tc : Thread Cert.Reference38Ideal.nD Cert.Reference38Ideal.τ).loc Cert.Reference38Ideal.main_arg46)) = _
    rw [a22, a46]
    exact (Cert.AdamVectors.array82 m c).symm
  · refine (Cert.Reference38Ideal.Read.val_main_v274_eq (StableHlo.launchContents m' c)).trans ?_
    show Cert.Reference38Ideal.Read.val_main_v274 (F := Ideal) (m' ((c.tc : Thread Cert.Reference38Ideal.nD Cert.Reference38Ideal.τ).loc Cert.Reference38Ideal.main_arg23)) (m' ((c.tc : Thread Cert.Reference38Ideal.nD Cert.Reference38Ideal.τ).loc Cert.Reference38Ideal.main_arg47)) = _
    rw [a23, a47]
    exact (Cert.AdamVectors.array83 m c).symm

/-- The reference keeps its arguments; it has no semaphores. -/
theorem referenceFrame39 : Cert.quiescent_Reference39Ideal (hReference39Ideal := Cert.Reference39Ideal.Gen.facts) := by
  intro m g _
  exact (θ_run Cert.Reference39Ideal.defs _ _).mono
    (fun r h => ⟨fun c => (h c).2.2.2.2.2.2.2.2.2.2.2.2.2.2, sem_eq_zero_of_no_sems rfl r.2⟩) (Cert.Reference39Ideal.Value.run m g)

set_option maxHeartbeats 8000000 in
/-- The sum over the devices of the loss and of the small gradients. -/
theorem value39 : Cert.algebraic_Kernel39Ideal_Reference39Ideal (hKernel39Ideal := Cert.Kernel39Ideal.Gen.facts) (hReference39Ideal := Cert.Reference39Ideal.Gen.facts) := by
  intro m g m' g' _ hagree
  refine ⟨_, _, _, _, _, _, _, _, _, _, _, _, _, _,  Cert.Kernel39Ideal.Value.run_blocks m g,
    (θ_run Cert.Reference39Ideal.defs _ _).mono (fun r h c => ?_) (Cert.Reference39Ideal.Value.run m' g')⟩
  obtain ⟨a0, a1, a2, a3, a4, a5, a6, a7, a8, a9, a10, a11, a12, a13⟩ := hagree c
  obtain ⟨e0, e1, e2, e3, e4, e5, e6, e7, e8, e9, e10, e11, e12, e13, k⟩ := h c
  refine ⟨e0.trans ?_, e1.trans ?_, e2.trans ?_, e3.trans ?_, e4.trans ?_, e5.trans ?_, e6.trans ?_, e7.trans ?_, e8.trans ?_, e9.trans ?_, e10.trans ?_, e11.trans ?_, e12.trans ?_, e13.trans ?_, k⟩
  · rw [Cert.Reference39Ideal.Read.val_main_v0_eq, a0]
    exact (Cert.SumSmall.array1 m c).symm
  · rw [Cert.Reference39Ideal.Read.val_main_v1_eq, a1]
    exact (Cert.SumSmall.array2 m c).symm
  · rw [Cert.Reference39Ideal.Read.val_main_v2_eq, a2]
    exact (Cert.SumSmall.array3 m c).symm
  · rw [Cert.Reference39Ideal.Read.val_main_v3_eq, a3]
    exact (Cert.SumSmall.array4 m c).symm
  · rw [Cert.Reference39Ideal.Read.val_main_v4_eq, a4]
    exact (Cert.SumSmall.array5 m c).symm
  · rw [Cert.Reference39Ideal.Read.val_main_v5_eq, a5]
    exact (Cert.SumSmall.array6 m c).symm
  · rw [Cert.Reference39Ideal.Read.val_main_v6_eq, a6]
    exact (Cert.SumSmall.array7 m c).symm
  · rw [Cert.Reference39Ideal.Read.val_main_v7_eq, a7]
    exact (Cert.SumSmall.array8 m c).symm
  · rw [Cert.Reference39Ideal.Read.val_main_v8_eq, a8]
    exact (Cert.SumSmall.array9 m c).symm
  · rw [Cert.Reference39Ideal.Read.val_main_v9_eq, a9]
    exact (Cert.SumSmall.array10 m c).symm
  · rw [Cert.Reference39Ideal.Read.val_main_v10_eq, a10]
    exact (Cert.SumSmall.array11 m c).symm
  · rw [Cert.Reference39Ideal.Read.val_main_v11_eq, a11]
    exact (Cert.SumSmall.array12 m c).symm
  · rw [Cert.Reference39Ideal.Read.val_main_v12_eq, a12]
    exact (Cert.SumSmall.array13 m c).symm
  · rw [Cert.Reference39Ideal.Read.val_main_v13_eq, a13]
    exact (Cert.SumSmall.array14 m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  referenceFrame,
  fun m ρ _ => referenceFrame m ρ trivial,
  fun m ρ _ => Cert.Kernel2.Gen.frame m ρ,
  fun m ρ _ => Cert.Kernel2Ideal.Gen.frame m ρ,
  referenceFrame2,
  fun m ρ _ => Cert.Kernel3.Gen.frame m ρ,
  fun m ρ _ => Cert.Kernel3Ideal.Gen.frame m ρ,
  referenceFrame3,
  fun m ρ _ => Cert.Kernel4.Gen.frame m ρ,
  fun m ρ _ => Cert.Kernel4Ideal.Gen.frame m ρ,
  referenceFrame4,
  fun m ρ _ => Cert.Kernel5.Gen.frame m ρ,
  fun m ρ _ => Cert.Kernel5Ideal.Gen.frame m ρ,
  referenceFrame5,
  fun m ρ _ => Cert.Kernel6.Gen.frame m ρ,
  fun m ρ _ => Cert.Kernel6Ideal.Gen.frame m ρ,
  referenceFrame6,
  fun m ρ _ => Cert.Kernel7.Gen.frame m ρ,
  fun m ρ _ => Cert.Kernel7Ideal.Gen.frame m ρ,
  referenceFrame7,
  fun m ρ _ => Cert.Kernel8.Gen.frame m ρ,
  fun m ρ _ => Cert.Kernel8Ideal.Gen.frame m ρ,
  referenceFrame8,
  fun m ρ _ => Cert.Kernel9.Gen.frame m ρ,
  fun m ρ _ => Cert.Kernel9Ideal.Gen.frame m ρ,
  referenceFrame9,
  fun m ρ _ => Cert.Kernel10.Gen.frame m ρ,
  fun m ρ _ => Cert.Kernel10Ideal.Gen.frame m ρ,
  referenceFrame10,
  fun m ρ _ => Cert.Kernel11.Gen.frame m ρ,
  fun m ρ _ => Cert.Kernel11Ideal.Gen.frame m ρ,
  referenceFrame11,
  fun m ρ _ => Cert.Kernel12.Gen.frame m ρ,
  fun m ρ _ => Cert.Kernel12Ideal.Gen.frame m ρ,
  referenceFrame12,
  fun m ρ _ => Cert.Kernel13.Gen.frame m ρ,
  fun m ρ _ => Cert.Kernel13Ideal.Gen.frame m ρ,
  referenceFrame13,
  fun m ρ _ => Cert.Kernel14.Gen.frame m ρ,
  fun m ρ _ => Cert.Kernel14Ideal.Gen.frame m ρ,
  referenceFrame14,
  fun m ρ _ => Cert.Kernel15.Gen.frame m ρ,
  fun m ρ _ => Cert.Kernel15Ideal.Gen.frame m ρ,
  referenceFrame15,
  fun m ρ _ => Cert.Kernel16.Gen.frame m ρ,
  fun m ρ _ => Cert.Kernel16Ideal.Gen.frame m ρ,
  referenceFrame16,
  fun m ρ _ => Cert.Kernel17.Gen.frame m ρ,
  fun m ρ _ => Cert.Kernel17Ideal.Gen.frame m ρ,
  referenceFrame17,
  fun m ρ _ => Cert.Kernel18.Gen.frame m ρ,
  fun m ρ _ => Cert.Kernel18Ideal.Gen.frame m ρ,
  referenceFrame18,
  fun m ρ _ => Cert.Kernel19.Gen.frame m ρ,
  fun m ρ _ => Cert.Kernel19Ideal.Gen.frame m ρ,
  referenceFrame19,
  fun m ρ _ => Cert.Kernel20.Gen.frame m ρ,
  fun m ρ _ => Cert.Kernel20Ideal.Gen.frame m ρ,
  referenceFrame20,
  fun m ρ _ => Cert.Kernel21.Gen.frame m ρ,
  fun m ρ _ => Cert.Kernel21Ideal.Gen.frame m ρ,
  referenceFrame21,
  fun m ρ _ => Cert.Kernel30.Gen.frame m ρ,
  fun m ρ _ => Cert.Kernel30Ideal.Gen.frame m ρ,
  referenceFrame30,
  fun m ρ _ => Cert.Kernel31.Gen.frame m ρ,
  fun m ρ _ => Cert.Kernel31Ideal.Gen.frame m ρ,
  referenceFrame31,
  fun m ρ _ => Cert.Kernel32.Gen.frame m ρ,
  fun m ρ _ => Cert.Kernel32Ideal.Gen.frame m ρ,
  referenceFrame32,
  fun m ρ _ => Cert.Kernel33.Gen.frame m ρ,
  fun m ρ _ => Cert.Kernel33Ideal.Gen.frame m ρ,
  referenceFrame33,
  fun m ρ _ => Cert.Kernel34.Gen.frame m ρ,
  fun m ρ _ => Cert.Kernel34Ideal.Gen.frame m ρ,
  referenceFrame34,
  fun m ρ _ => Cert.Kernel35.Gen.frame m ρ,
  fun m ρ _ => Cert.Kernel35Ideal.Gen.frame m ρ,
  referenceFrame35,
  fun m ρ _ => Cert.Kernel36.Gen.frame m ρ,
  fun m ρ _ => Cert.Kernel36Ideal.Gen.frame m ρ,
  referenceFrame36,
  fun m ρ _ => Cert.Kernel37.Gen.frame m ρ,
  fun m ρ _ => Cert.Kernel37Ideal.Gen.frame m ρ,
  referenceFrame37,
  Cert.VectorsEnd.frame,
  Cert.VectorsEnd.frameIdeal,
  referenceFrame38,
  fun m ρ _ => Cert.Kernel39.Gen.frame m ρ,
  fun m ρ _ => Cert.Kernel39Ideal.Gen.frame m ρ,
  referenceFrame39,
  trivial,
  gate,
  trivial,
  value2,
  trivial,
  value3,
  trivial,
  value4,
  trivial,
  value5,
  trivial,
  value6,
  trivial,
  value7,
  trivial,
  value8,
  trivial,
  value9,
  trivial,
  value10,
  trivial,
  value11,
  trivial,
  value12,
  trivial,
  value13,
  trivial,
  value14,
  trivial,
  value15,
  trivial,
  value16,
  trivial,
  value17,
  trivial,
  value18,
  trivial,
  value19,
  trivial,
  value20,
  trivial,
  value21,
  trivial,
  value30,
  trivial,
  value31,
  trivial,
  value32,
  trivial,
  value33,
  trivial,
  value34,
  trivial,
  value35,
  trivial,
  value36,
  trivial,
  value37,
  trivial,
  value38,
  trivial,
  value39⟩

end Cert.Proof

end
